-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxIdeal_finite_down [hPre_finite_down : Cert.Pre_finite_down.Facts] (m : (ℓ : Loc Cert.DownDxIdeal.nD Cert.DownDxIdeal.τ Cert.DownDxIdeal.sig) → Buf (Elt Ideal) ℓ) : Prop :=
  ∀ c : Dev Cert.DownDxIdeal.nD,
    (Cert.Pre_finite_down.fn (F := Ideal) (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)) (m ((c.tc : Thread Cert.DownDxIdeal.nD Cert.DownDxIdeal.τ).loc Cert.DownDxIdeal.main_arg2)) (m ((c.tc : Thread Cert.DownDxIdeal.nD Cert.DownDxIdeal.τ).loc Cert.DownDxIdeal.main_arg3))) = (fun _ => 1#1)

def Pre_DownDxRefIdeal (m : (ℓ : Loc Cert.DownDxRefIdeal.nD Cert.DownDxRefIdeal.τ Cert.DownDxRefIdeal.sig) → Buf (Elt Ideal) ℓ) : Prop :=
  True

def Pre_DownDxRefIdeal_finite_down [hPre_finite_down : Cert.Pre_finite_down.Facts] (m : (ℓ : Loc Cert.DownDxRefIdeal.nD Cert.DownDxRefIdeal.τ Cert.DownDxRefIdeal.sig) → Buf (Elt Ideal) ℓ) : Prop :=
  ∀ c : Dev Cert.DownDxRefIdeal.nD,
    (Cert.Pre_finite_down.fn (F := Ideal) (m ((c.tc : Thread Cert.DownDxRefIdeal.nD Cert.DownDxRefIdeal.τ).loc Cert.DownDxRefIdeal.main_arg0)) (m ((c.tc : Thread Cert.DownDxRefIdeal.nD Cert.DownDxRefIdeal.τ).loc Cert.DownDxRefIdeal.main_arg1)) (m ((c.tc : Thread Cert.DownDxRefIdeal.nD Cert.DownDxRefIdeal.τ).loc Cert.DownDxRefIdeal.main_arg2)) (m ((c.tc : Thread Cert.DownDxRefIdeal.nD Cert.DownDxRefIdeal.τ).loc Cert.DownDxRefIdeal.main_arg3))) = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_FfnGate (m : (ℓ : Loc Cert.FfnGate.nD Cert.FfnGate.τ Cert.FfnGate.sig) → Buf (Elt Bits) ℓ) : Prop :=
  True

def Pre_FfnGateIdeal (m : (ℓ : Loc Cert.FfnGateIdeal.nD Cert.FfnGateIdeal.τ Cert.FfnGateIdeal.sig) → Buf (Elt Ideal) ℓ) : Prop :=
  True

def Pre_FfnGateRefIdeal (m : (ℓ : Loc Cert.FfnGateRefIdeal.nD Cert.FfnGateRefIdeal.τ Cert.FfnGateRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_MixInDx (m : (ℓ : Loc Cert.MixInDx.nD Cert.MixInDx.τ Cert.MixInDx.sig) → Buf (Elt Bits) ℓ) : Prop :=
  True

def Pre_MixInDxIdeal (m : (ℓ : Loc Cert.MixInDxIdeal.nD Cert.MixInDxIdeal.τ Cert.MixInDxIdeal.sig) → Buf (Elt Ideal) ℓ) : Prop :=
  True

def Pre_MixInDxRefIdeal (m : (ℓ : Loc Cert.MixInDxRefIdeal.nD Cert.MixInDxRefIdeal.τ Cert.MixInDxRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixDw0 (m : (ℓ : Loc Cert.MixDw0.nD Cert.MixDw0.τ Cert.MixDw0.sig) → Buf (Elt Bits) ℓ) : Prop :=
  True

def Pre_MixDw0Ideal (m : (ℓ : Loc Cert.MixDw0Ideal.nD Cert.MixDw0Ideal.τ Cert.MixDw0Ideal.sig) → Buf (Elt Ideal) ℓ) : Prop :=
  True

def Pre_MixDw0RefIdeal (m : (ℓ : Loc Cert.MixDw0RefIdeal.nD Cert.MixDw0RefIdeal.τ Cert.MixDw0RefIdeal.sig) → Buf (Elt Ideal) ℓ) : Prop :=
  True

def Pre_MixDw1 (m : (ℓ : Loc Cert.MixDw1.nD Cert.MixDw1.τ Cert.MixDw1.sig) → Buf (Elt Bits) ℓ) : Prop :=
  True

def Pre_MixDw1Ideal (m : (ℓ : Loc Cert.MixDw1Ideal.nD Cert.MixDw1Ideal.τ Cert.MixDw1Ideal.sig) → Buf (Elt Ideal) ℓ) : Prop :=
  True

def Pre_MixDw1RefIdeal (m : (ℓ : Loc Cert.MixDw1RefIdeal.nD Cert.MixDw1RefIdeal.τ Cert.MixDw1RefIdeal.sig) → Buf (Elt Ideal) ℓ) : Prop :=
  True

def Pre_MixDw2 (m : (ℓ : Loc Cert.MixDw2.nD Cert.MixDw2.τ Cert.MixDw2.sig) → Buf (Elt Bits) ℓ) : Prop :=
  True

def Pre_MixDw2Ideal (m : (ℓ : Loc Cert.MixDw2Ideal.nD Cert.MixDw2Ideal.τ Cert.MixDw2Ideal.sig) → Buf (Elt Ideal) ℓ) : Prop :=
  True

def Pre_MixDw2RefIdeal (m : (ℓ : Loc Cert.MixDw2RefIdeal.nD Cert.MixDw2RefIdeal.τ Cert.MixDw2RefIdeal.sig) → Buf (Elt Ideal) ℓ) : Prop :=
  True

def Pre_MixDw3 (m : (ℓ : Loc Cert.MixDw3.nD Cert.MixDw3.τ Cert.MixDw3.sig) → Buf (Elt Bits) ℓ) : Prop :=
  True

def Pre_MixDw3Ideal (m : (ℓ : Loc Cert.MixDw3Ideal.nD Cert.MixDw3Ideal.τ Cert.MixDw3Ideal.sig) → Buf (Elt Ideal) ℓ) : Prop :=
  True

def Pre_MixDw3RefIdeal (m : (ℓ : Loc Cert.MixDw3RefIdeal.nD Cert.MixDw3RefIdeal.τ Cert.MixDw3RefIdeal.sig) → Buf (Elt Ideal) ℓ) : Prop :=
  True

def Pre_MixDw4 (m : (ℓ : Loc Cert.MixDw4.nD Cert.MixDw4.τ Cert.MixDw4.sig) → Buf (Elt Bits) ℓ) : Prop :=
  True

def Pre_MixDw4Ideal (m : (ℓ : Loc Cert.MixDw4Ideal.nD Cert.MixDw4Ideal.τ Cert.MixDw4Ideal.sig) → Buf (Elt Ideal) ℓ) : Prop :=
  True

def Pre_MixDw4RefIdeal (m : (ℓ : Loc Cert.MixDw4RefIdeal.nD Cert.MixDw4RefIdeal.τ Cert.MixDw4RefIdeal.sig) → Buf (Elt Ideal) ℓ) : Prop :=
  True

def Pre_MixDw5 (m : (ℓ : Loc Cert.MixDw5.nD Cert.MixDw5.τ Cert.MixDw5.sig) → Buf (Elt Bits) ℓ) : Prop :=
  True

def Pre_MixDw5Ideal (m : (ℓ : Loc Cert.MixDw5Ideal.nD Cert.MixDw5Ideal.τ Cert.MixDw5Ideal.sig) → Buf (Elt Ideal) ℓ) : Prop :=
  True

def Pre_MixDw5RefIdeal (m : (ℓ : Loc Cert.MixDw5RefIdeal.nD Cert.MixDw5RefIdeal.τ Cert.MixDw5RefIdeal.sig) → Buf (Elt Ideal) ℓ) : Prop :=
  True

def Pre_MixDw6 (m : (ℓ : Loc Cert.MixDw6.nD Cert.MixDw6.τ Cert.MixDw6.sig) → Buf (Elt Bits) ℓ) : Prop :=
  True

def Pre_MixDw6Ideal (m : (ℓ : Loc Cert.MixDw6Ideal.nD Cert.MixDw6Ideal.τ Cert.MixDw6Ideal.sig) → Buf (Elt Ideal) ℓ) : Prop :=
  True

def Pre_MixDw6RefIdeal (m : (ℓ : Loc Cert.MixDw6RefIdeal.nD Cert.MixDw6RefIdeal.τ Cert.MixDw6RefIdeal.sig) → Buf (Elt Ideal) ℓ) : Prop :=
  True

def Pre_MlaOutDw (m : (ℓ : Loc Cert.MlaOutDw.nD Cert.MlaOutDw.τ Cert.MlaOutDw.sig) → Buf (Elt Bits) ℓ) : Prop :=
  True

def Pre_MlaOutDwIdeal (m : (ℓ : Loc Cert.MlaOutDwIdeal.nD Cert.MlaOutDwIdeal.τ Cert.MlaOutDwIdeal.sig) → Buf (Elt Ideal) ℓ) : Prop :=
  True

def Pre_MlaOutDwRefIdeal (m : (ℓ : Loc Cert.MlaOutDwRefIdeal.nD Cert.MlaOutDwRefIdeal.τ Cert.MlaOutDwRefIdeal.sig) → Buf (Elt Ideal) ℓ) : Prop :=
  True

def Pre_HgrnOutDw (m : (ℓ : Loc Cert.HgrnOutDw.nD Cert.HgrnOutDw.τ Cert.HgrnOutDw.sig) → Buf (Elt Bits) ℓ) : Prop :=
  True

def Pre_HgrnOutDwIdeal (m : (ℓ : Loc Cert.HgrnOutDwIdeal.nD Cert.HgrnOutDwIdeal.τ Cert.HgrnOutDwIdeal.sig) → Buf (Elt Ideal) ℓ) : Prop :=
  True

def Pre_HgrnOutDwRefIdeal (m : (ℓ : Loc Cert.HgrnOutDwRefIdeal.nD Cert.HgrnOutDwRefIdeal.τ Cert.HgrnOutDwRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_MlaOutDx (m : (ℓ : Loc Cert.MlaOutDx.nD Cert.MlaOutDx.τ Cert.MlaOutDx.sig) → Buf (Elt Bits) ℓ) : Prop :=
  True

def Pre_MlaOutDxIdeal (m : (ℓ : Loc Cert.MlaOutDxIdeal.nD Cert.MlaOutDxIdeal.τ Cert.MlaOutDxIdeal.sig) → Buf (Elt Ideal) ℓ) : Prop :=
  True

def Pre_MlaOutDxRefIdeal (m : (ℓ : Loc Cert.MlaOutDxRefIdeal.nD Cert.MlaOutDxRefIdeal.τ Cert.MlaOutDxRefIdeal.sig) → Buf (Elt Ideal) ℓ) : Prop :=
  True

def Pre_HgrnOutDx (m : (ℓ : Loc Cert.HgrnOutDx.nD Cert.HgrnOutDx.τ Cert.HgrnOutDx.sig) → Buf (Elt Bits) ℓ) : Prop :=
  True

def Pre_HgrnOutDxIdeal (m : (ℓ : Loc Cert.HgrnOutDxIdeal.nD Cert.HgrnOutDxIdeal.τ Cert.HgrnOutDxIdeal.sig) → Buf (Elt Ideal) ℓ) : Prop :=
  True

def Pre_HgrnOutDxRefIdeal (m : (ℓ : Loc Cert.HgrnOutDxRefIdeal.nD Cert.HgrnOutDxRefIdeal.τ Cert.HgrnOutDxRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_MlaOut (m : (ℓ : Loc Cert.MlaOut.nD Cert.MlaOut.τ Cert.MlaOut.sig) → Buf (Elt Bits) ℓ) : Prop :=
  True

def Pre_MlaOutIdeal (m : (ℓ : Loc Cert.MlaOutIdeal.nD Cert.MlaOutIdeal.τ Cert.MlaOutIdeal.sig) → Buf (Elt Ideal) ℓ) : Prop :=
  True

def Pre_MlaOutRefIdeal (m : (ℓ : Loc Cert.MlaOutRefIdeal.nD Cert.MlaOutRefIdeal.τ Cert.MlaOutRefIdeal.sig) → Buf (Elt Ideal) ℓ) : Prop :=
  True

def Pre_HgrnOut (m : (ℓ : Loc Cert.HgrnOut.nD Cert.HgrnOut.τ Cert.HgrnOut.sig) → Buf (Elt Bits) ℓ) : Prop :=
  True

def Pre_HgrnOutIdeal (m : (ℓ : Loc Cert.HgrnOutIdeal.nD Cert.HgrnOutIdeal.τ Cert.HgrnOutIdeal.sig) → Buf (Elt Ideal) ℓ) : Prop :=
  True

def Pre_HgrnOutRefIdeal (m : (ℓ : Loc Cert.HgrnOutRefIdeal.nD Cert.HgrnOutRefIdeal.τ Cert.HgrnOutRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_KvUpDx (m : (ℓ : Loc Cert.KvUpDx.nD Cert.KvUpDx.τ Cert.KvUpDx.sig) → Buf (Elt Bits) ℓ) : Prop :=
  True

def Pre_KvUpDxIdeal (m : (ℓ : Loc Cert.KvUpDxIdeal.nD Cert.KvUpDxIdeal.τ Cert.KvUpDxIdeal.sig) → Buf (Elt Ideal) ℓ) : Prop :=
  True

def Pre_KvUpDxRefIdeal (m : (ℓ : Loc Cert.KvUpDxRefIdeal.nD Cert.KvUpDxRefIdeal.τ Cert.KvUpDxRefIdeal.sig) → Buf (Elt Ideal) ℓ) : Prop :=
  True

def Pre_KvUpDw (m : (ℓ : Loc Cert.KvUpDw.nD Cert.KvUpDw.τ Cert.KvUpDw.sig) → Buf (Elt Bits) ℓ) : Prop :=
  True

def Pre_KvUpDwIdeal (m : (ℓ : Loc Cert.KvUpDwIdeal.nD Cert.KvUpDwIdeal.τ Cert.KvUpDwIdeal.sig) → Buf (Elt Ideal) ℓ) : Prop :=
  True

def Pre_KvUpDwRefIdeal (m : (ℓ : Loc Cert.KvUpDwRefIdeal.nD Cert.KvUpDwRefIdeal.τ Cert.KvUpDwRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpRefIdeal (m : (ℓ : Loc Cert.QUpRefIdeal.nD Cert.QUpRefIdeal.τ Cert.QUpRefIdeal.sig) → Buf (Elt Ideal) ℓ) : Prop :=
  True

def Pre_QUpDx (m : (ℓ : Loc Cert.QUpDx.nD Cert.QUpDx.τ Cert.QUpDx.sig) → Buf (Elt Bits) ℓ) : Prop :=
  True

def Pre_QUpDxIdeal (m : (ℓ : Loc Cert.QUpDxIdeal.nD Cert.QUpDxIdeal.τ Cert.QUpDxIdeal.sig) → Buf (Elt Ideal) ℓ) : Prop :=
  True

def Pre_QUpDxRefIdeal (m : (ℓ : Loc Cert.QUpDxRefIdeal.nD Cert.QUpDxRefIdeal.τ Cert.QUpDxRefIdeal.sig) → Buf (Elt Ideal) ℓ) : Prop :=
  True

def Pre_QUpDw (m : (ℓ : Loc Cert.QUpDw.nD Cert.QUpDw.τ Cert.QUpDw.sig) → Buf (Elt Bits) ℓ) : Prop :=
  True

def Pre_QUpDwIdeal (m : (ℓ : Loc Cert.QUpDwIdeal.nD Cert.QUpDwIdeal.τ Cert.QUpDwIdeal.sig) → Buf (Elt Ideal) ℓ) : Prop :=
  True

def Pre_QUpDwRefIdeal (m : (ℓ : Loc Cert.QUpDwRefIdeal.nD Cert.QUpDwRefIdeal.τ Cert.QUpDwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2)
      ∧ r.2.mem ((c.tc : Thread Cert.DownDx.nD Cert.DownDx.τ).loc Cert.DownDx.main_arg3) = m ((c.tc : Thread Cert.DownDx.nD Cert.DownDx.τ).loc Cert.DownDx.main_arg3))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
      ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ r.2.sem = fun _ => 0)

def quiescent_DownDxIdeal_pre_finite_down [hDownDxIdeal : Cert.DownDxIdeal.Facts] [hPre_finite_down : Cert.Pre_finite_down.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal_finite_down m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
      ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2)
      ∧ r.2.mem ((c.tc : Thread Cert.DownDxRefIdeal.nD Cert.DownDxRefIdeal.τ).loc Cert.DownDxRefIdeal.main_arg3) = m ((c.tc : Thread Cert.DownDxRefIdeal.nD Cert.DownDxRefIdeal.τ).loc Cert.DownDxRefIdeal.main_arg3))
      ∧ r.2.sem = fun _ => 0)

def quiescent_DownDxRefIdeal_pre_finite_down [hDownDxRefIdeal : Cert.DownDxRefIdeal.Facts] [hPre_finite_down : Cert.Pre_finite_down.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal_finite_down m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2)
      ∧ r.2.mem ((c.tc : Thread Cert.DownDxRefIdeal.nD Cert.DownDxRefIdeal.τ).loc Cert.DownDxRefIdeal.main_arg3) = m ((c.tc : Thread Cert.DownDxRefIdeal.nD Cert.DownDxRefIdeal.τ).loc Cert.DownDxRefIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1)
      ∧ r.2.mem ((c.tc : Thread Cert.GateDw.nD Cert.GateDw.τ).loc Cert.GateDw.main_arg2) = m ((c.tc : Thread Cert.GateDw.nD Cert.GateDw.τ).loc Cert.GateDw.main_arg2))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
      ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1)
      ∧ r.2.mem ((c.tc : Thread Cert.GateDwRefIdeal.nD Cert.GateDwRefIdeal.τ).loc Cert.GateDwRefIdeal.main_arg2) = m ((c.tc : Thread Cert.GateDwRefIdeal.nD Cert.GateDwRefIdeal.τ).loc Cert.GateDwRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_FfnGate [hFfnGate : Cert.FfnGate.Facts] : Prop :=
  ∀ (m : (ℓ : Loc Cert.FfnGate.nD Cert.FfnGate.τ Cert.FfnGate.sig) → Buf (Elt Bits) ℓ) (g : Dev Cert.FfnGate.nD → PrngReg), Pre_FfnGate m →
    θ_run (Cert.FfnGate.defs (F := Bits)) (onTc (τ := Cert.FfnGate.τ) (Cert.FfnGate.main (F := Bits))) ⟨m, fun _ => 0, g⟩ (fun r => (∀ c : Dev Cert.FfnGate.nD,
      r.2.mem ((c.tc : Thread Cert.FfnGate.nD Cert.FfnGate.τ).loc Cert.FfnGate.main_arg0) = m ((c.tc : Thread Cert.FfnGate.nD Cert.FfnGate.τ).loc Cert.FfnGate.main_arg0)
      ∧ r.2.mem ((c.tc : Thread Cert.FfnGate.nD Cert.FfnGate.τ).loc Cert.FfnGate.main_arg1) = m ((c.tc : Thread Cert.FfnGate.nD Cert.FfnGate.τ).loc Cert.FfnGate.main_arg1))
      ∧ r.2.sem = fun _ => 0)

def quiescent_FfnGateIdeal [hFfnGateIdeal : Cert.FfnGateIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1))
      ∧ r.2.sem = fun _ => 0)

def quiescent_FfnGateRefIdeal [hFfnGateRefIdeal : Cert.FfnGateRefIdeal.Facts] : Prop :=
  ∀ (m : (ℓ : Loc Cert.FfnGateRefIdeal.nD Cert.FfnGateRefIdeal.τ Cert.FfnGateRefIdeal.sig) → Buf (Elt Ideal) ℓ) (g : Dev Cert.FfnGateRefIdeal.nD → PrngReg), Pre_FfnGateRefIdeal m →
    θ_run (Cert.FfnGateRefIdeal.defs (F := Ideal)) (onTc (τ := Cert.FfnGateRefIdeal.τ) (Cert.FfnGateRefIdeal.main (F := Ideal))) ⟨m, fun _ => 0, g⟩ (fun r => (∀ c : Dev Cert.FfnGateRefIdeal.nD,
      r.2.mem ((c.tc : Thread Cert.FfnGateRefIdeal.nD Cert.FfnGateRefIdeal.τ).loc Cert.FfnGateRefIdeal.main_arg0) = m ((c.tc : Thread Cert.FfnGateRefIdeal.nD Cert.FfnGateRefIdeal.τ).loc Cert.FfnGateRefIdeal.main_arg0)
      ∧ r.2.mem ((c.tc : Thread Cert.FfnGateRefIdeal.nD Cert.FfnGateRefIdeal.τ).loc Cert.FfnGateRefIdeal.main_arg1) = m ((c.tc : Thread Cert.FfnGateRefIdeal.nD Cert.FfnGateRefIdeal.τ).loc Cert.FfnGateRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_MixInDx [hMixInDx : Cert.MixInDx.Facts] : Prop :=
  ∀ (m : (ℓ : Loc Cert.MixInDx.nD Cert.MixInDx.τ Cert.MixInDx.sig) → Buf (Elt Bits) ℓ) (g : Dev Cert.MixInDx.nD → PrngReg), Pre_MixInDx m →
    θ_run (Cert.MixInDx.defs (F := Bits)) (onTc (τ := Cert.MixInDx.τ) (Cert.MixInDx.main (F := Bits))) ⟨m, fun _ => 0, g⟩ (fun r => (∀ c : Dev Cert.MixInDx.nD,
      r.2.mem ((c.tc : Thread Cert.MixInDx.nD Cert.MixInDx.τ).loc Cert.MixInDx.main_arg0) = m ((c.tc : Thread Cert.MixInDx.nD Cert.MixInDx.τ).loc Cert.MixInDx.main_arg0)
      ∧ r.2.mem ((c.tc : Thread Cert.MixInDx.nD Cert.MixInDx.τ).loc Cert.MixInDx.main_arg1) = m ((c.tc : Thread Cert.MixInDx.nD Cert.MixInDx.τ).loc Cert.MixInDx.main_arg1)
      ∧ r.2.mem ((c.tc : Thread Cert.MixInDx.nD Cert.MixInDx.τ).loc Cert.MixInDx.main_arg2) = m ((c.tc : Thread Cert.MixInDx.nD Cert.MixInDx.τ).loc Cert.MixInDx.main_arg2)
      ∧ r.2.mem ((c.tc : Thread Cert.MixInDx.nD Cert.MixInDx.τ).loc Cert.MixInDx.main_arg3) = m ((c.tc : Thread Cert.MixInDx.nD Cert.MixInDx.τ).loc Cert.MixInDx.main_arg3)
      ∧ r.2.mem ((c.tc : Thread Cert.MixInDx.nD Cert.MixInDx.τ).loc Cert.MixInDx.main_arg4) = m ((c.tc : Thread Cert.MixInDx.nD Cert.MixInDx.τ).loc Cert.MixInDx.main_arg4)
      ∧ r.2.mem ((c.tc : Thread Cert.MixInDx.nD Cert.MixInDx.τ).loc Cert.MixInDx.main_arg5) = m ((c.tc : Thread Cert.MixInDx.nD Cert.MixInDx.τ).loc Cert.MixInDx.main_arg5)
      ∧ r.2.mem ((c.tc : Thread Cert.MixInDx.nD Cert.MixInDx.τ).loc Cert.MixInDx.main_arg6) = m ((c.tc : Thread Cert.MixInDx.nD Cert.MixInDx.τ).loc Cert.MixInDx.main_arg6)
      ∧ r.2.mem ((c.tc : Thread Cert.MixInDx.nD Cert.MixInDx.τ).loc Cert.MixInDx.main_arg7) = m ((c.tc : Thread Cert.MixInDx.nD Cert.MixInDx.τ).loc Cert.MixInDx.main_arg7)
      ∧ r.2.mem ((c.tc : Thread Cert.MixInDx.nD Cert.MixInDx.τ).loc Cert.MixInDx.main_arg8) = m ((c.tc : Thread Cert.MixInDx.nD Cert.MixInDx.τ).loc Cert.MixInDx.main_arg8))
      ∧ r.2.sem = fun _ => 0)

def quiescent_MixInDxIdeal [hMixInDxIdeal : Cert.MixInDxIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg), Pre_MixInDxIdeal m →
    θ_run (Cert.MixInDxIdeal.defs (F := Ideal)) (onTc (τ := Cert.MixInDxIdeal.τ) (Cert.MixInDxIdeal.main (F := Ideal))) ⟨m, fun _ => 0, g⟩ (fun r => (∀ c : Dev Cert.MixInDxIdeal.nD,
      r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
      ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1)
      ∧ r.2.mem ((c.tc : Thread Cert.MixInDxIdeal.nD Cert.MixInDxIdeal.τ).loc Cert.MixInDxIdeal.main_arg2) = m ((c.tc : Thread Cert.MixInDxIdeal.nD Cert.MixInDxIdeal.τ).loc Cert.MixInDxIdeal.main_arg2)
      ∧ r.2.mem ((c.tc : Thread Cert.MixInDxIdeal.nD Cert.MixInDxIdeal.τ).loc Cert.MixInDxIdeal.main_arg3) = m ((c.tc : Thread Cert.MixInDxIdeal.nD Cert.MixInDxIdeal.τ).loc Cert.MixInDxIdeal.main_arg3)
      ∧ r.2.mem ((c.tc : Thread Cert.MixInDxIdeal.nD Cert.MixInDxIdeal.τ).loc Cert.MixInDxIdeal.main_arg4) = m ((c.tc : Thread Cert.MixInDxIdeal.nD Cert.MixInDxIdeal.τ).loc Cert.MixInDxIdeal.main_arg4)
      ∧ r.2.mem ((c.tc : Thread Cert.MixInDxIdeal.nD Cert.MixInDxIdeal.τ).loc Cert.MixInDxIdeal.main_arg5) = m ((c.tc : Thread Cert.MixInDxIdeal.nD Cert.MixInDxIdeal.τ).loc Cert.MixInDxIdeal.main_arg5)
      ∧ r.2.mem ((c.tc : Thread Cert.MixInDxIdeal.nD Cert.MixInDxIdeal.τ).loc Cert.MixInDxIdeal.main_arg6) = m ((c.tc : Thread Cert.MixInDxIdeal.nD Cert.MixInDxIdeal.τ).loc Cert.MixInDxIdeal.main_arg6)
      ∧ r.2.mem ((c.tc : Thread Cert.MixInDxIdeal.nD Cert.MixInDxIdeal.τ).loc Cert.MixInDxIdeal.main_arg7) = m ((c.tc : Thread Cert.MixInDxIdeal.nD Cert.MixInDxIdeal.τ).loc Cert.MixInDxIdeal.main_arg7)
      ∧ r.2.mem ((c.tc : Thread Cert.MixInDxIdeal.nD Cert.MixInDxIdeal.τ).loc Cert.MixInDxIdeal.main_arg8) = m ((c.tc : Thread Cert.MixInDxIdeal.nD Cert.MixInDxIdeal.τ).loc Cert.MixInDxIdeal.main_arg8))
      ∧ r.2.sem = fun _ => 0)

def quiescent_MixInDxRefIdeal [hMixInDxRefIdeal : Cert.MixInDxRefIdeal.Facts] : Prop :=
  ∀ (m : (ℓ : Loc Cert.MixInDxRefIdeal.nD Cert.MixInDxRefIdeal.τ Cert.MixInDxRefIdeal.sig) → Buf (Elt Ideal) ℓ) (g : Dev Cert.MixInDxRefIdeal.nD → PrngReg), Pre_MixInDxRefIdeal m →
    θ_run (Cert.MixInDxRefIdeal.defs (F := Ideal)) (onTc (τ := Cert.MixInDxRefIdeal.τ) (Cert.MixInDxRefIdeal.main (F := Ideal))) ⟨m, fun _ => 0, g⟩ (fun r => (∀ c : Dev Cert.MixInDxRefIdeal.nD,
      r.2.mem ((c.tc : Thread Cert.MixInDxRefIdeal.nD Cert.MixInDxRefIdeal.τ).loc Cert.MixInDxRefIdeal.main_arg0) = m ((c.tc : Thread Cert.MixInDxRefIdeal.nD Cert.MixInDxRefIdeal.τ).loc Cert.MixInDxRefIdeal.main_arg0)
      ∧ r.2.mem ((c.tc : Thread Cert.MixInDxRefIdeal.nD Cert.MixInDxRefIdeal.τ).loc Cert.MixInDxRefIdeal.main_arg1) = m ((c.tc : Thread Cert.MixInDxRefIdeal.nD Cert.MixInDxRefIdeal.τ).loc Cert.MixInDxRefIdeal.main_arg1)
      ∧ r.2.mem ((c.tc : Thread Cert.MixInDxRefIdeal.nD Cert.MixInDxRefIdeal.τ).loc Cert.MixInDxRefIdeal.main_arg2) = m ((c.tc : Thread Cert.MixInDxRefIdeal.nD Cert.MixInDxRefIdeal.τ).loc Cert.MixInDxRefIdeal.main_arg2)
      ∧ r.2.mem ((c.tc : Thread Cert.MixInDxRefIdeal.nD Cert.MixInDxRefIdeal.τ).loc Cert.MixInDxRefIdeal.main_arg3) = m ((c.tc : Thread Cert.MixInDxRefIdeal.nD Cert.MixInDxRefIdeal.τ).loc Cert.MixInDxRefIdeal.main_arg3)
      ∧ r.2.mem ((c.tc : Thread Cert.MixInDxRefIdeal.nD Cert.MixInDxRefIdeal.τ).loc Cert.MixInDxRefIdeal.main_arg4) = m ((c.tc : Thread Cert.MixInDxRefIdeal.nD Cert.MixInDxRefIdeal.τ).loc Cert.MixInDxRefIdeal.main_arg4)
      ∧ r.2.mem ((c.tc : Thread Cert.MixInDxRefIdeal.nD Cert.MixInDxRefIdeal.τ).loc Cert.MixInDxRefIdeal.main_arg5) = m ((c.tc : Thread Cert.MixInDxRefIdeal.nD Cert.MixInDxRefIdeal.τ).loc Cert.MixInDxRefIdeal.main_arg5)
      ∧ r.2.mem ((c.tc : Thread Cert.MixInDxRefIdeal.nD Cert.MixInDxRefIdeal.τ).loc Cert.MixInDxRefIdeal.main_arg6) = m ((c.tc : Thread Cert.MixInDxRefIdeal.nD Cert.MixInDxRefIdeal.τ).loc Cert.MixInDxRefIdeal.main_arg6)
      ∧ r.2.mem ((c.tc : Thread Cert.MixInDxRefIdeal.nD Cert.MixInDxRefIdeal.τ).loc Cert.MixInDxRefIdeal.main_arg7) = m ((c.tc : Thread Cert.MixInDxRefIdeal.nD Cert.MixInDxRefIdeal.τ).loc Cert.MixInDxRefIdeal.main_arg7)
      ∧ r.2.mem ((c.tc : Thread Cert.MixInDxRefIdeal.nD Cert.MixInDxRefIdeal.τ).loc Cert.MixInDxRefIdeal.main_arg8) = m ((c.tc : Thread Cert.MixInDxRefIdeal.nD Cert.MixInDxRefIdeal.τ).loc Cert.MixInDxRefIdeal.main_arg8))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_MixDw0 [hMixDw0 : Cert.MixDw0.Facts] : Prop :=
  ∀ (m : (ℓ : Loc Cert.MixDw0.nD Cert.MixDw0.τ Cert.MixDw0.sig) → Buf (Elt Bits) ℓ) (g : Dev Cert.MixDw0.nD → PrngReg), Pre_MixDw0 m →
    θ_run (Cert.MixDw0.defs (F := Bits)) (onTc (τ := Cert.MixDw0.τ) (Cert.MixDw0.main (F := Bits))) ⟨m, fun _ => 0, g⟩ (fun r => (∀ c : Dev Cert.MixDw0.nD,
      r.2.mem ((c.tc : Thread Cert.MixDw0.nD Cert.MixDw0.τ).loc Cert.MixDw0.main_arg0) = m ((c.tc : Thread Cert.MixDw0.nD Cert.MixDw0.τ).loc Cert.MixDw0.main_arg0)
      ∧ r.2.mem ((c.tc : Thread Cert.MixDw0.nD Cert.MixDw0.τ).loc Cert.MixDw0.main_arg1) = m ((c.tc : Thread Cert.MixDw0.nD Cert.MixDw0.τ).loc Cert.MixDw0.main_arg1)
      ∧ r.2.mem ((c.tc : Thread Cert.MixDw0.nD Cert.MixDw0.τ).loc Cert.MixDw0.main_arg2) = m ((c.tc : Thread Cert.MixDw0.nD Cert.MixDw0.τ).loc Cert.MixDw0.main_arg2))
      ∧ r.2.sem = fun _ => 0)

def quiescent_MixDw0Ideal [hMixDw0Ideal : Cert.MixDw0Ideal.Facts] : Prop :=
  ∀ (m : (ℓ : Loc Cert.MixDw0Ideal.nD Cert.MixDw0Ideal.τ Cert.MixDw0Ideal.sig) → Buf (Elt Ideal) ℓ) (g : Dev Cert.MixDw0Ideal.nD → PrngReg), Pre_MixDw0Ideal m →
    θ_run (Cert.MixDw0Ideal.defs (F := Ideal)) (onTc (τ := Cert.MixDw0Ideal.τ) (Cert.MixDw0Ideal.main (F := Ideal))) ⟨m, fun _ => 0, g⟩ (fun r => (∀ c : Dev Cert.MixDw0Ideal.nD,
      r.2.mem ((c.tc : Thread Cert.MixDw0Ideal.nD Cert.MixDw0Ideal.τ).loc Cert.MixDw0Ideal.main_arg0) = m ((c.tc : Thread Cert.MixDw0Ideal.nD Cert.MixDw0Ideal.τ).loc Cert.MixDw0Ideal.main_arg0)
      ∧ r.2.mem ((c.tc : Thread Cert.MixDw0Ideal.nD Cert.MixDw0Ideal.τ).loc Cert.MixDw0Ideal.main_arg1) = m ((c.tc : Thread Cert.MixDw0Ideal.nD Cert.MixDw0Ideal.τ).loc Cert.MixDw0Ideal.main_arg1)
      ∧ r.2.mem ((c.tc : Thread Cert.MixDw0Ideal.nD Cert.MixDw0Ideal.τ).loc Cert.MixDw0Ideal.main_arg2) = m ((c.tc : Thread Cert.MixDw0Ideal.nD Cert.MixDw0Ideal.τ).loc Cert.MixDw0Ideal.main_arg2))
      ∧ r.2.sem = fun _ => 0)

def quiescent_MixDw0RefIdeal [hMixDw0RefIdeal : Cert.MixDw0RefIdeal.Facts] : Prop :=
  ∀ (m : (ℓ : Loc Cert.MixDw0RefIdeal.nD Cert.MixDw0RefIdeal.τ Cert.MixDw0RefIdeal.sig) → Buf (Elt Ideal) ℓ) (g : Dev Cert.MixDw0RefIdeal.nD → PrngReg), Pre_MixDw0RefIdeal m →
    θ_run (Cert.MixDw0RefIdeal.defs (F := Ideal)) (onTc (τ := Cert.MixDw0RefIdeal.τ) (Cert.MixDw0RefIdeal.main (F := Ideal))) ⟨m, fun _ => 0, g⟩ (fun r => (∀ c : Dev Cert.MixDw0RefIdeal.nD,
      r.2.mem ((c.tc : Thread Cert.MixDw0RefIdeal.nD Cert.MixDw0RefIdeal.τ).loc Cert.MixDw0RefIdeal.main_arg0) = m ((c.tc : Thread Cert.MixDw0RefIdeal.nD Cert.MixDw0RefIdeal.τ).loc Cert.MixDw0RefIdeal.main_arg0)
      ∧ r.2.mem ((c.tc : Thread Cert.MixDw0RefIdeal.nD Cert.MixDw0RefIdeal.τ).loc Cert.MixDw0RefIdeal.main_arg1) = m ((c.tc : Thread Cert.MixDw0RefIdeal.nD Cert.MixDw0RefIdeal.τ).loc Cert.MixDw0RefIdeal.main_arg1)
      ∧ r.2.mem ((c.tc : Thread Cert.MixDw0RefIdeal.nD Cert.MixDw0RefIdeal.τ).loc Cert.MixDw0RefIdeal.main_arg2) = m ((c.tc : Thread Cert.MixDw0RefIdeal.nD Cert.MixDw0RefIdeal.τ).loc Cert.MixDw0RefIdeal.main_arg2))
      ∧ r.2.sem = fun _ => 0)

def quiescent_MixDw1 [hMixDw1 : Cert.MixDw1.Facts] : Prop :=
  ∀ (m : (ℓ : Loc Cert.MixDw1.nD Cert.MixDw1.τ Cert.MixDw1.sig) → Buf (Elt Bits) ℓ) (g : Dev Cert.MixDw1.nD → PrngReg), Pre_MixDw1 m →
    θ_run (Cert.MixDw1.defs (F := Bits)) (onTc (τ := Cert.MixDw1.τ) (Cert.MixDw1.main (F := Bits))) ⟨m, fun _ => 0, g⟩ (fun r => (∀ c : Dev Cert.MixDw1.nD,
      r.2.mem ((c.tc : Thread Cert.MixDw1.nD Cert.MixDw1.τ).loc Cert.MixDw1.main_arg0) = m ((c.tc : Thread Cert.MixDw1.nD Cert.MixDw1.τ).loc Cert.MixDw1.main_arg0)
      ∧ r.2.mem ((c.tc : Thread Cert.MixDw1.nD Cert.MixDw1.τ).loc Cert.MixDw1.main_arg1) = m ((c.tc : Thread Cert.MixDw1.nD Cert.MixDw1.τ).loc Cert.MixDw1.main_arg1)
      ∧ r.2.mem ((c.tc : Thread Cert.MixDw1.nD Cert.MixDw1.τ).loc Cert.MixDw1.main_arg2) = m ((c.tc : Thread Cert.MixDw1.nD Cert.MixDw1.τ).loc Cert.MixDw1.main_arg2))
      ∧ r.2.sem = fun _ => 0)

def quiescent_MixDw1Ideal [hMixDw1Ideal : Cert.MixDw1Ideal.Facts] : Prop :=
  ∀ (m : (ℓ : Loc Cert.MixDw1Ideal.nD Cert.MixDw1Ideal.τ Cert.MixDw1Ideal.sig) → Buf (Elt Ideal) ℓ) (g : Dev Cert.MixDw1Ideal.nD → PrngReg), Pre_MixDw1Ideal m →
    θ_run (Cert.MixDw1Ideal.defs (F := Ideal)) (onTc (τ := Cert.MixDw1Ideal.τ) (Cert.MixDw1Ideal.main (F := Ideal))) ⟨m, fun _ => 0, g⟩ (fun r => (∀ c : Dev Cert.MixDw1Ideal.nD,
      r.2.mem ((c.tc : Thread Cert.MixDw1Ideal.nD Cert.MixDw1Ideal.τ).loc Cert.MixDw1Ideal.main_arg0) = m ((c.tc : Thread Cert.MixDw1Ideal.nD Cert.MixDw1Ideal.τ).loc Cert.MixDw1Ideal.main_arg0)
      ∧ r.2.mem ((c.tc : Thread Cert.MixDw1Ideal.nD Cert.MixDw1Ideal.τ).loc Cert.MixDw1Ideal.main_arg1) = m ((c.tc : Thread Cert.MixDw1Ideal.nD Cert.MixDw1Ideal.τ).loc Cert.MixDw1Ideal.main_arg1)
      ∧ r.2.mem ((c.tc : Thread Cert.MixDw1Ideal.nD Cert.MixDw1Ideal.τ).loc Cert.MixDw1Ideal.main_arg2) = m ((c.tc : Thread Cert.MixDw1Ideal.nD Cert.MixDw1Ideal.τ).loc Cert.MixDw1Ideal.main_arg2))
      ∧ r.2.sem = fun _ => 0)

def quiescent_MixDw1RefIdeal [hMixDw1RefIdeal : Cert.MixDw1RefIdeal.Facts] : Prop :=
  ∀ (m : (ℓ : Loc Cert.MixDw1RefIdeal.nD Cert.MixDw1RefIdeal.τ Cert.MixDw1RefIdeal.sig) → Buf (Elt Ideal) ℓ) (g : Dev Cert.MixDw1RefIdeal.nD → PrngReg), Pre_MixDw1RefIdeal m →
    θ_run (Cert.MixDw1RefIdeal.defs (F := Ideal)) (onTc (τ := Cert.MixDw1RefIdeal.τ) (Cert.MixDw1RefIdeal.main (F := Ideal))) ⟨m, fun _ => 0, g⟩ (fun r => (∀ c : Dev Cert.MixDw1RefIdeal.nD,
      r.2.mem ((c.tc : Thread Cert.MixDw1RefIdeal.nD Cert.MixDw1RefIdeal.τ).loc Cert.MixDw1RefIdeal.main_arg0) = m ((c.tc : Thread Cert.MixDw1RefIdeal.nD Cert.MixDw1RefIdeal.τ).loc Cert.MixDw1RefIdeal.main_arg0)
      ∧ r.2.mem ((c.tc : Thread Cert.MixDw1RefIdeal.nD Cert.MixDw1RefIdeal.τ).loc Cert.MixDw1RefIdeal.main_arg1) = m ((c.tc : Thread Cert.MixDw1RefIdeal.nD Cert.MixDw1RefIdeal.τ).loc Cert.MixDw1RefIdeal.main_arg1)
      ∧ r.2.mem ((c.tc : Thread Cert.MixDw1RefIdeal.nD Cert.MixDw1RefIdeal.τ).loc Cert.MixDw1RefIdeal.main_arg2) = m ((c.tc : Thread Cert.MixDw1RefIdeal.nD Cert.MixDw1RefIdeal.τ).loc Cert.MixDw1RefIdeal.main_arg2))
      ∧ r.2.sem = fun _ => 0)

def quiescent_MixDw2 [hMixDw2 : Cert.MixDw2.Facts] : Prop :=
  ∀ (m : (ℓ : Loc Cert.MixDw2.nD Cert.MixDw2.τ Cert.MixDw2.sig) → Buf (Elt Bits) ℓ) (g : Dev Cert.MixDw2.nD → PrngReg), Pre_MixDw2 m →
    θ_run (Cert.MixDw2.defs (F := Bits)) (onTc (τ := Cert.MixDw2.τ) (Cert.MixDw2.main (F := Bits))) ⟨m, fun _ => 0, g⟩ (fun r => (∀ c : Dev Cert.MixDw2.nD,
      r.2.mem ((c.tc : Thread Cert.MixDw2.nD Cert.MixDw2.τ).loc Cert.MixDw2.main_arg0) = m ((c.tc : Thread Cert.MixDw2.nD Cert.MixDw2.τ).loc Cert.MixDw2.main_arg0)
      ∧ r.2.mem ((c.tc : Thread Cert.MixDw2.nD Cert.MixDw2.τ).loc Cert.MixDw2.main_arg1) = m ((c.tc : Thread Cert.MixDw2.nD Cert.MixDw2.τ).loc Cert.MixDw2.main_arg1)
      ∧ r.2.mem ((c.tc : Thread Cert.MixDw2.nD Cert.MixDw2.τ).loc Cert.MixDw2.main_arg2) = m ((c.tc : Thread Cert.MixDw2.nD Cert.MixDw2.τ).loc Cert.MixDw2.main_arg2))
      ∧ r.2.sem = fun _ => 0)

def quiescent_MixDw2Ideal [hMixDw2Ideal : Cert.MixDw2Ideal.Facts] : Prop :=
  ∀ (m : (ℓ : Loc Cert.MixDw2Ideal.nD Cert.MixDw2Ideal.τ Cert.MixDw2Ideal.sig) → Buf (Elt Ideal) ℓ) (g : Dev Cert.MixDw2Ideal.nD → PrngReg), Pre_MixDw2Ideal m →
    θ_run (Cert.MixDw2Ideal.defs (F := Ideal)) (onTc (τ := Cert.MixDw2Ideal.τ) (Cert.MixDw2Ideal.main (F := Ideal))) ⟨m, fun _ => 0, g⟩ (fun r => (∀ c : Dev Cert.MixDw2Ideal.nD,
      r.2.mem ((c.tc : Thread Cert.MixDw2Ideal.nD Cert.MixDw2Ideal.τ).loc Cert.MixDw2Ideal.main_arg0) = m ((c.tc : Thread Cert.MixDw2Ideal.nD Cert.MixDw2Ideal.τ).loc Cert.MixDw2Ideal.main_arg0)
      ∧ r.2.mem ((c.tc : Thread Cert.MixDw2Ideal.nD Cert.MixDw2Ideal.τ).loc Cert.MixDw2Ideal.main_arg1) = m ((c.tc : Thread Cert.MixDw2Ideal.nD Cert.MixDw2Ideal.τ).loc Cert.MixDw2Ideal.main_arg1)
      ∧ r.2.mem ((c.tc : Thread Cert.MixDw2Ideal.nD Cert.MixDw2Ideal.τ).loc Cert.MixDw2Ideal.main_arg2) = m ((c.tc : Thread Cert.MixDw2Ideal.nD Cert.MixDw2Ideal.τ).loc Cert.MixDw2Ideal.main_arg2))
      ∧ r.2.sem = fun _ => 0)

def quiescent_MixDw2RefIdeal [hMixDw2RefIdeal : Cert.MixDw2RefIdeal.Facts] : Prop :=
  ∀ (m : (ℓ : Loc Cert.MixDw2RefIdeal.nD Cert.MixDw2RefIdeal.τ Cert.MixDw2RefIdeal.sig) → Buf (Elt Ideal) ℓ) (g : Dev Cert.MixDw2RefIdeal.nD → PrngReg), Pre_MixDw2RefIdeal m →
    θ_run (Cert.MixDw2RefIdeal.defs (F := Ideal)) (onTc (τ := Cert.MixDw2RefIdeal.τ) (Cert.MixDw2RefIdeal.main (F := Ideal))) ⟨m, fun _ => 0, g⟩ (fun r => (∀ c : Dev Cert.MixDw2RefIdeal.nD,
      r.2.mem ((c.tc : Thread Cert.MixDw2RefIdeal.nD Cert.MixDw2RefIdeal.τ).loc Cert.MixDw2RefIdeal.main_arg0) = m ((c.tc : Thread Cert.MixDw2RefIdeal.nD Cert.MixDw2RefIdeal.τ).loc Cert.MixDw2RefIdeal.main_arg0)
      ∧ r.2.mem ((c.tc : Thread Cert.MixDw2RefIdeal.nD Cert.MixDw2RefIdeal.τ).loc Cert.MixDw2RefIdeal.main_arg1) = m ((c.tc : Thread Cert.MixDw2RefIdeal.nD Cert.MixDw2RefIdeal.τ).loc Cert.MixDw2RefIdeal.main_arg1)
      ∧ r.2.mem ((c.tc : Thread Cert.MixDw2RefIdeal.nD Cert.MixDw2RefIdeal.τ).loc Cert.MixDw2RefIdeal.main_arg2) = m ((c.tc : Thread Cert.MixDw2RefIdeal.nD Cert.MixDw2RefIdeal.τ).loc Cert.MixDw2RefIdeal.main_arg2))
      ∧ r.2.sem = fun _ => 0)

def quiescent_MixDw3 [hMixDw3 : Cert.MixDw3.Facts] : Prop :=
  ∀ (m : (ℓ : Loc Cert.MixDw3.nD Cert.MixDw3.τ Cert.MixDw3.sig) → Buf (Elt Bits) ℓ) (g : Dev Cert.MixDw3.nD → PrngReg), Pre_MixDw3 m →
    θ_run (Cert.MixDw3.defs (F := Bits)) (onTc (τ := Cert.MixDw3.τ) (Cert.MixDw3.main (F := Bits))) ⟨m, fun _ => 0, g⟩ (fun r => (∀ c : Dev Cert.MixDw3.nD,
      r.2.mem ((c.tc : Thread Cert.MixDw3.nD Cert.MixDw3.τ).loc Cert.MixDw3.main_arg0) = m ((c.tc : Thread Cert.MixDw3.nD Cert.MixDw3.τ).loc Cert.MixDw3.main_arg0)
      ∧ r.2.mem ((c.tc : Thread Cert.MixDw3.nD Cert.MixDw3.τ).loc Cert.MixDw3.main_arg1) = m ((c.tc : Thread Cert.MixDw3.nD Cert.MixDw3.τ).loc Cert.MixDw3.main_arg1)
      ∧ r.2.mem ((c.tc : Thread Cert.MixDw3.nD Cert.MixDw3.τ).loc Cert.MixDw3.main_arg2) = m ((c.tc : Thread Cert.MixDw3.nD Cert.MixDw3.τ).loc Cert.MixDw3.main_arg2))
      ∧ r.2.sem = fun _ => 0)

def quiescent_MixDw3Ideal [hMixDw3Ideal : Cert.MixDw3Ideal.Facts] : Prop :=
  ∀ (m : (ℓ : Loc Cert.MixDw3Ideal.nD Cert.MixDw3Ideal.τ Cert.MixDw3Ideal.sig) → Buf (Elt Ideal) ℓ) (g : Dev Cert.MixDw3Ideal.nD → PrngReg), Pre_MixDw3Ideal m →
    θ_run (Cert.MixDw3Ideal.defs (F := Ideal)) (onTc (τ := Cert.MixDw3Ideal.τ) (Cert.MixDw3Ideal.main (F := Ideal))) ⟨m, fun _ => 0, g⟩ (fun r => (∀ c : Dev Cert.MixDw3Ideal.nD,
      r.2.mem ((c.tc : Thread Cert.MixDw3Ideal.nD Cert.MixDw3Ideal.τ).loc Cert.MixDw3Ideal.main_arg0) = m ((c.tc : Thread Cert.MixDw3Ideal.nD Cert.MixDw3Ideal.τ).loc Cert.MixDw3Ideal.main_arg0)
      ∧ r.2.mem ((c.tc : Thread Cert.MixDw3Ideal.nD Cert.MixDw3Ideal.τ).loc Cert.MixDw3Ideal.main_arg1) = m ((c.tc : Thread Cert.MixDw3Ideal.nD Cert.MixDw3Ideal.τ).loc Cert.MixDw3Ideal.main_arg1)
      ∧ r.2.mem ((c.tc : Thread Cert.MixDw3Ideal.nD Cert.MixDw3Ideal.τ).loc Cert.MixDw3Ideal.main_arg2) = m ((c.tc : Thread Cert.MixDw3Ideal.nD Cert.MixDw3Ideal.τ).loc Cert.MixDw3Ideal.main_arg2))
      ∧ r.2.sem = fun _ => 0)

def quiescent_MixDw3RefIdeal [hMixDw3RefIdeal : Cert.MixDw3RefIdeal.Facts] : Prop :=
  ∀ (m : (ℓ : Loc Cert.MixDw3RefIdeal.nD Cert.MixDw3RefIdeal.τ Cert.MixDw3RefIdeal.sig) → Buf (Elt Ideal) ℓ) (g : Dev Cert.MixDw3RefIdeal.nD → PrngReg), Pre_MixDw3RefIdeal m →
    θ_run (Cert.MixDw3RefIdeal.defs (F := Ideal)) (onTc (τ := Cert.MixDw3RefIdeal.τ) (Cert.MixDw3RefIdeal.main (F := Ideal))) ⟨m, fun _ => 0, g⟩ (fun r => (∀ c : Dev Cert.MixDw3RefIdeal.nD,
      r.2.mem ((c.tc : Thread Cert.MixDw3RefIdeal.nD Cert.MixDw3RefIdeal.τ).loc Cert.MixDw3RefIdeal.main_arg0) = m ((c.tc : Thread Cert.MixDw3RefIdeal.nD Cert.MixDw3RefIdeal.τ).loc Cert.MixDw3RefIdeal.main_arg0)
      ∧ r.2.mem ((c.tc : Thread Cert.MixDw3RefIdeal.nD Cert.MixDw3RefIdeal.τ).loc Cert.MixDw3RefIdeal.main_arg1) = m ((c.tc : Thread Cert.MixDw3RefIdeal.nD Cert.MixDw3RefIdeal.τ).loc Cert.MixDw3RefIdeal.main_arg1)
      ∧ r.2.mem ((c.tc : Thread Cert.MixDw3RefIdeal.nD Cert.MixDw3RefIdeal.τ).loc Cert.MixDw3RefIdeal.main_arg2) = m ((c.tc : Thread Cert.MixDw3RefIdeal.nD Cert.MixDw3RefIdeal.τ).loc Cert.MixDw3RefIdeal.main_arg2))
      ∧ r.2.sem = fun _ => 0)

def quiescent_MixDw4 [hMixDw4 : Cert.MixDw4.Facts] : Prop :=
  ∀ (m : (ℓ : Loc Cert.MixDw4.nD Cert.MixDw4.τ Cert.MixDw4.sig) → Buf (Elt Bits) ℓ) (g : Dev Cert.MixDw4.nD → PrngReg), Pre_MixDw4 m →
    θ_run (Cert.MixDw4.defs (F := Bits)) (onTc (τ := Cert.MixDw4.τ) (Cert.MixDw4.main (F := Bits))) ⟨m, fun _ => 0, g⟩ (fun r => (∀ c : Dev Cert.MixDw4.nD,
      r.2.mem ((c.tc : Thread Cert.MixDw4.nD Cert.MixDw4.τ).loc Cert.MixDw4.main_arg0) = m ((c.tc : Thread Cert.MixDw4.nD Cert.MixDw4.τ).loc Cert.MixDw4.main_arg0)
      ∧ r.2.mem ((c.tc : Thread Cert.MixDw4.nD Cert.MixDw4.τ).loc Cert.MixDw4.main_arg1) = m ((c.tc : Thread Cert.MixDw4.nD Cert.MixDw4.τ).loc Cert.MixDw4.main_arg1)
      ∧ r.2.mem ((c.tc : Thread Cert.MixDw4.nD Cert.MixDw4.τ).loc Cert.MixDw4.main_arg2) = m ((c.tc : Thread Cert.MixDw4.nD Cert.MixDw4.τ).loc Cert.MixDw4.main_arg2))
      ∧ r.2.sem = fun _ => 0)

def quiescent_MixDw4Ideal [hMixDw4Ideal : Cert.MixDw4Ideal.Facts] : Prop :=
  ∀ (m : (ℓ : Loc Cert.MixDw4Ideal.nD Cert.MixDw4Ideal.τ Cert.MixDw4Ideal.sig) → Buf (Elt Ideal) ℓ) (g : Dev Cert.MixDw4Ideal.nD → PrngReg), Pre_MixDw4Ideal m →
    θ_run (Cert.MixDw4Ideal.defs (F := Ideal)) (onTc (τ := Cert.MixDw4Ideal.τ) (Cert.MixDw4Ideal.main (F := Ideal))) ⟨m, fun _ => 0, g⟩ (fun r => (∀ c : Dev Cert.MixDw4Ideal.nD,
      r.2.mem ((c.tc : Thread Cert.MixDw4Ideal.nD Cert.MixDw4Ideal.τ).loc Cert.MixDw4Ideal.main_arg0) = m ((c.tc : Thread Cert.MixDw4Ideal.nD Cert.MixDw4Ideal.τ).loc Cert.MixDw4Ideal.main_arg0)
      ∧ r.2.mem ((c.tc : Thread Cert.MixDw4Ideal.nD Cert.MixDw4Ideal.τ).loc Cert.MixDw4Ideal.main_arg1) = m ((c.tc : Thread Cert.MixDw4Ideal.nD Cert.MixDw4Ideal.τ).loc Cert.MixDw4Ideal.main_arg1)
      ∧ r.2.mem ((c.tc : Thread Cert.MixDw4Ideal.nD Cert.MixDw4Ideal.τ).loc Cert.MixDw4Ideal.main_arg2) = m ((c.tc : Thread Cert.MixDw4Ideal.nD Cert.MixDw4Ideal.τ).loc Cert.MixDw4Ideal.main_arg2))
      ∧ r.2.sem = fun _ => 0)

def quiescent_MixDw4RefIdeal [hMixDw4RefIdeal : Cert.MixDw4RefIdeal.Facts] : Prop :=
  ∀ (m : (ℓ : Loc Cert.MixDw4RefIdeal.nD Cert.MixDw4RefIdeal.τ Cert.MixDw4RefIdeal.sig) → Buf (Elt Ideal) ℓ) (g : Dev Cert.MixDw4RefIdeal.nD → PrngReg), Pre_MixDw4RefIdeal m →
    θ_run (Cert.MixDw4RefIdeal.defs (F := Ideal)) (onTc (τ := Cert.MixDw4RefIdeal.τ) (Cert.MixDw4RefIdeal.main (F := Ideal))) ⟨m, fun _ => 0, g⟩ (fun r => (∀ c : Dev Cert.MixDw4RefIdeal.nD,
      r.2.mem ((c.tc : Thread Cert.MixDw4RefIdeal.nD Cert.MixDw4RefIdeal.τ).loc Cert.MixDw4RefIdeal.main_arg0) = m ((c.tc : Thread Cert.MixDw4RefIdeal.nD Cert.MixDw4RefIdeal.τ).loc Cert.MixDw4RefIdeal.main_arg0)
      ∧ r.2.mem ((c.tc : Thread Cert.MixDw4RefIdeal.nD Cert.MixDw4RefIdeal.τ).loc Cert.MixDw4RefIdeal.main_arg1) = m ((c.tc : Thread Cert.MixDw4RefIdeal.nD Cert.MixDw4RefIdeal.τ).loc Cert.MixDw4RefIdeal.main_arg1)
      ∧ r.2.mem ((c.tc : Thread Cert.MixDw4RefIdeal.nD Cert.MixDw4RefIdeal.τ).loc Cert.MixDw4RefIdeal.main_arg2) = m ((c.tc : Thread Cert.MixDw4RefIdeal.nD Cert.MixDw4RefIdeal.τ).loc Cert.MixDw4RefIdeal.main_arg2))
      ∧ r.2.sem = fun _ => 0)

def quiescent_MixDw5 [hMixDw5 : Cert.MixDw5.Facts] : Prop :=
  ∀ (m : (ℓ : Loc Cert.MixDw5.nD Cert.MixDw5.τ Cert.MixDw5.sig) → Buf (Elt Bits) ℓ) (g : Dev Cert.MixDw5.nD → PrngReg), Pre_MixDw5 m →
    θ_run (Cert.MixDw5.defs (F := Bits)) (onTc (τ := Cert.MixDw5.τ) (Cert.MixDw5.main (F := Bits))) ⟨m, fun _ => 0, g⟩ (fun r => (∀ c : Dev Cert.MixDw5.nD,
      r.2.mem ((c.tc : Thread Cert.MixDw5.nD Cert.MixDw5.τ).loc Cert.MixDw5.main_arg0) = m ((c.tc : Thread Cert.MixDw5.nD Cert.MixDw5.τ).loc Cert.MixDw5.main_arg0)
      ∧ r.2.mem ((c.tc : Thread Cert.MixDw5.nD Cert.MixDw5.τ).loc Cert.MixDw5.main_arg1) = m ((c.tc : Thread Cert.MixDw5.nD Cert.MixDw5.τ).loc Cert.MixDw5.main_arg1)
      ∧ r.2.mem ((c.tc : Thread Cert.MixDw5.nD Cert.MixDw5.τ).loc Cert.MixDw5.main_arg2) = m ((c.tc : Thread Cert.MixDw5.nD Cert.MixDw5.τ).loc Cert.MixDw5.main_arg2))
      ∧ r.2.sem = fun _ => 0)

def quiescent_MixDw5Ideal [hMixDw5Ideal : Cert.MixDw5Ideal.Facts] : Prop :=
  ∀ (m : (ℓ : Loc Cert.MixDw5Ideal.nD Cert.MixDw5Ideal.τ Cert.MixDw5Ideal.sig) → Buf (Elt Ideal) ℓ) (g : Dev Cert.MixDw5Ideal.nD → PrngReg), Pre_MixDw5Ideal m →
    θ_run (Cert.MixDw5Ideal.defs (F := Ideal)) (onTc (τ := Cert.MixDw5Ideal.τ) (Cert.MixDw5Ideal.main (F := Ideal))) ⟨m, fun _ => 0, g⟩ (fun r => (∀ c : Dev Cert.MixDw5Ideal.nD,
      r.2.mem ((c.tc : Thread Cert.MixDw5Ideal.nD Cert.MixDw5Ideal.τ).loc Cert.MixDw5Ideal.main_arg0) = m ((c.tc : Thread Cert.MixDw5Ideal.nD Cert.MixDw5Ideal.τ).loc Cert.MixDw5Ideal.main_arg0)
      ∧ r.2.mem ((c.tc : Thread Cert.MixDw5Ideal.nD Cert.MixDw5Ideal.τ).loc Cert.MixDw5Ideal.main_arg1) = m ((c.tc : Thread Cert.MixDw5Ideal.nD Cert.MixDw5Ideal.τ).loc Cert.MixDw5Ideal.main_arg1)
      ∧ r.2.mem ((c.tc : Thread Cert.MixDw5Ideal.nD Cert.MixDw5Ideal.τ).loc Cert.MixDw5Ideal.main_arg2) = m ((c.tc : Thread Cert.MixDw5Ideal.nD Cert.MixDw5Ideal.τ).loc Cert.MixDw5Ideal.main_arg2))
      ∧ r.2.sem = fun _ => 0)

def quiescent_MixDw5RefIdeal [hMixDw5RefIdeal : Cert.MixDw5RefIdeal.Facts] : Prop :=
  ∀ (m : (ℓ : Loc Cert.MixDw5RefIdeal.nD Cert.MixDw5RefIdeal.τ Cert.MixDw5RefIdeal.sig) → Buf (Elt Ideal) ℓ) (g : Dev Cert.MixDw5RefIdeal.nD → PrngReg), Pre_MixDw5RefIdeal m →
    θ_run (Cert.MixDw5RefIdeal.defs (F := Ideal)) (onTc (τ := Cert.MixDw5RefIdeal.τ) (Cert.MixDw5RefIdeal.main (F := Ideal))) ⟨m, fun _ => 0, g⟩ (fun r => (∀ c : Dev Cert.MixDw5RefIdeal.nD,
      r.2.mem ((c.tc : Thread Cert.MixDw5RefIdeal.nD Cert.MixDw5RefIdeal.τ).loc Cert.MixDw5RefIdeal.main_arg0) = m ((c.tc : Thread Cert.MixDw5RefIdeal.nD Cert.MixDw5RefIdeal.τ).loc Cert.MixDw5RefIdeal.main_arg0)
      ∧ r.2.mem ((c.tc : Thread Cert.MixDw5RefIdeal.nD Cert.MixDw5RefIdeal.τ).loc Cert.MixDw5RefIdeal.main_arg1) = m ((c.tc : Thread Cert.MixDw5RefIdeal.nD Cert.MixDw5RefIdeal.τ).loc Cert.MixDw5RefIdeal.main_arg1)
      ∧ r.2.mem ((c.tc : Thread Cert.MixDw5RefIdeal.nD Cert.MixDw5RefIdeal.τ).loc Cert.MixDw5RefIdeal.main_arg2) = m ((c.tc : Thread Cert.MixDw5RefIdeal.nD Cert.MixDw5RefIdeal.τ).loc Cert.MixDw5RefIdeal.main_arg2))
      ∧ r.2.sem = fun _ => 0)

def quiescent_MixDw6 [hMixDw6 : Cert.MixDw6.Facts] : Prop :=
  ∀ (m : (ℓ : Loc Cert.MixDw6.nD Cert.MixDw6.τ Cert.MixDw6.sig) → Buf (Elt Bits) ℓ) (g : Dev Cert.MixDw6.nD → PrngReg), Pre_MixDw6 m →
    θ_run (Cert.MixDw6.defs (F := Bits)) (onTc (τ := Cert.MixDw6.τ) (Cert.MixDw6.main (F := Bits))) ⟨m, fun _ => 0, g⟩ (fun r => (∀ c : Dev Cert.MixDw6.nD,
      r.2.mem ((c.tc : Thread Cert.MixDw6.nD Cert.MixDw6.τ).loc Cert.MixDw6.main_arg0) = m ((c.tc : Thread Cert.MixDw6.nD Cert.MixDw6.τ).loc Cert.MixDw6.main_arg0)
      ∧ r.2.mem ((c.tc : Thread Cert.MixDw6.nD Cert.MixDw6.τ).loc Cert.MixDw6.main_arg1) = m ((c.tc : Thread Cert.MixDw6.nD Cert.MixDw6.τ).loc Cert.MixDw6.main_arg1)
      ∧ r.2.mem ((c.tc : Thread Cert.MixDw6.nD Cert.MixDw6.τ).loc Cert.MixDw6.main_arg2) = m ((c.tc : Thread Cert.MixDw6.nD Cert.MixDw6.τ).loc Cert.MixDw6.main_arg2))
      ∧ r.2.sem = fun _ => 0)

def quiescent_MixDw6Ideal [hMixDw6Ideal : Cert.MixDw6Ideal.Facts] : Prop :=
  ∀ (m : (ℓ : Loc Cert.MixDw6Ideal.nD Cert.MixDw6Ideal.τ Cert.MixDw6Ideal.sig) → Buf (Elt Ideal) ℓ) (g : Dev Cert.MixDw6Ideal.nD → PrngReg), Pre_MixDw6Ideal m →
    θ_run (Cert.MixDw6Ideal.defs (F := Ideal)) (onTc (τ := Cert.MixDw6Ideal.τ) (Cert.MixDw6Ideal.main (F := Ideal))) ⟨m, fun _ => 0, g⟩ (fun r => (∀ c : Dev Cert.MixDw6Ideal.nD,
      r.2.mem ((c.tc : Thread Cert.MixDw6Ideal.nD Cert.MixDw6Ideal.τ).loc Cert.MixDw6Ideal.main_arg0) = m ((c.tc : Thread Cert.MixDw6Ideal.nD Cert.MixDw6Ideal.τ).loc Cert.MixDw6Ideal.main_arg0)
      ∧ r.2.mem ((c.tc : Thread Cert.MixDw6Ideal.nD Cert.MixDw6Ideal.τ).loc Cert.MixDw6Ideal.main_arg1) = m ((c.tc : Thread Cert.MixDw6Ideal.nD Cert.MixDw6Ideal.τ).loc Cert.MixDw6Ideal.main_arg1)
      ∧ r.2.mem ((c.tc : Thread Cert.MixDw6Ideal.nD Cert.MixDw6Ideal.τ).loc Cert.MixDw6Ideal.main_arg2) = m ((c.tc : Thread Cert.MixDw6Ideal.nD Cert.MixDw6Ideal.τ).loc Cert.MixDw6Ideal.main_arg2))
      ∧ r.2.sem = fun _ => 0)

def quiescent_MixDw6RefIdeal [hMixDw6RefIdeal : Cert.MixDw6RefIdeal.Facts] : Prop :=
  ∀ (m : (ℓ : Loc Cert.MixDw6RefIdeal.nD Cert.MixDw6RefIdeal.τ Cert.MixDw6RefIdeal.sig) → Buf (Elt Ideal) ℓ) (g : Dev Cert.MixDw6RefIdeal.nD → PrngReg), Pre_MixDw6RefIdeal m →
    θ_run (Cert.MixDw6RefIdeal.defs (F := Ideal)) (onTc (τ := Cert.MixDw6RefIdeal.τ) (Cert.MixDw6RefIdeal.main (F := Ideal))) ⟨m, fun _ => 0, g⟩ (fun r => (∀ c : Dev Cert.MixDw6RefIdeal.nD,
      r.2.mem ((c.tc : Thread Cert.MixDw6RefIdeal.nD Cert.MixDw6RefIdeal.τ).loc Cert.MixDw6RefIdeal.main_arg0) = m ((c.tc : Thread Cert.MixDw6RefIdeal.nD Cert.MixDw6RefIdeal.τ).loc Cert.MixDw6RefIdeal.main_arg0)
      ∧ r.2.mem ((c.tc : Thread Cert.MixDw6RefIdeal.nD Cert.MixDw6RefIdeal.τ).loc Cert.MixDw6RefIdeal.main_arg1) = m ((c.tc : Thread Cert.MixDw6RefIdeal.nD Cert.MixDw6RefIdeal.τ).loc Cert.MixDw6RefIdeal.main_arg1)
      ∧ r.2.mem ((c.tc : Thread Cert.MixDw6RefIdeal.nD Cert.MixDw6RefIdeal.τ).loc Cert.MixDw6RefIdeal.main_arg2) = m ((c.tc : Thread Cert.MixDw6RefIdeal.nD Cert.MixDw6RefIdeal.τ).loc Cert.MixDw6RefIdeal.main_arg2))
      ∧ r.2.sem = fun _ => 0)

def quiescent_MlaOutDw [hMlaOutDw : Cert.MlaOutDw.Facts] : Prop :=
  ∀ (m : (ℓ : Loc Cert.MlaOutDw.nD Cert.MlaOutDw.τ Cert.MlaOutDw.sig) → Buf (Elt Bits) ℓ) (g : Dev Cert.MlaOutDw.nD → PrngReg), Pre_MlaOutDw m →
    θ_run (Cert.MlaOutDw.defs (F := Bits)) (onTc (τ := Cert.MlaOutDw.τ) (Cert.MlaOutDw.main (F := Bits))) ⟨m, fun _ => 0, g⟩ (fun r => (∀ c : Dev Cert.MlaOutDw.nD,
      r.2.mem ((c.tc : Thread Cert.MlaOutDw.nD Cert.MlaOutDw.τ).loc Cert.MlaOutDw.main_arg0) = m ((c.tc : Thread Cert.MlaOutDw.nD Cert.MlaOutDw.τ).loc Cert.MlaOutDw.main_arg0)
      ∧ r.2.mem ((c.tc : Thread Cert.MlaOutDw.nD Cert.MlaOutDw.τ).loc Cert.MlaOutDw.main_arg1) = m ((c.tc : Thread Cert.MlaOutDw.nD Cert.MlaOutDw.τ).loc Cert.MlaOutDw.main_arg1)
      ∧ r.2.mem ((c.tc : Thread Cert.MlaOutDw.nD Cert.MlaOutDw.τ).loc Cert.MlaOutDw.main_arg2) = m ((c.tc : Thread Cert.MlaOutDw.nD Cert.MlaOutDw.τ).loc Cert.MlaOutDw.main_arg2))
      ∧ r.2.sem = fun _ => 0)

def quiescent_MlaOutDwIdeal [hMlaOutDwIdeal : Cert.MlaOutDwIdeal.Facts] : Prop :=
  ∀ (m : (ℓ : Loc Cert.MlaOutDwIdeal.nD Cert.MlaOutDwIdeal.τ Cert.MlaOutDwIdeal.sig) → Buf (Elt Ideal) ℓ) (g : Dev Cert.MlaOutDwIdeal.nD → PrngReg), Pre_MlaOutDwIdeal m →
    θ_run (Cert.MlaOutDwIdeal.defs (F := Ideal)) (onTc (τ := Cert.MlaOutDwIdeal.τ) (Cert.MlaOutDwIdeal.main (F := Ideal))) ⟨m, fun _ => 0, g⟩ (fun r => (∀ c : Dev Cert.MlaOutDwIdeal.nD,
      r.2.mem ((c.tc : Thread Cert.MlaOutDwIdeal.nD Cert.MlaOutDwIdeal.τ).loc Cert.MlaOutDwIdeal.main_arg0) = m ((c.tc : Thread Cert.MlaOutDwIdeal.nD Cert.MlaOutDwIdeal.τ).loc Cert.MlaOutDwIdeal.main_arg0)
      ∧ r.2.mem ((c.tc : Thread Cert.MlaOutDwIdeal.nD Cert.MlaOutDwIdeal.τ).loc Cert.MlaOutDwIdeal.main_arg1) = m ((c.tc : Thread Cert.MlaOutDwIdeal.nD Cert.MlaOutDwIdeal.τ).loc Cert.MlaOutDwIdeal.main_arg1)
      ∧ r.2.mem ((c.tc : Thread Cert.MlaOutDwIdeal.nD Cert.MlaOutDwIdeal.τ).loc Cert.MlaOutDwIdeal.main_arg2) = m ((c.tc : Thread Cert.MlaOutDwIdeal.nD Cert.MlaOutDwIdeal.τ).loc Cert.MlaOutDwIdeal.main_arg2))
      ∧ r.2.sem = fun _ => 0)

def quiescent_MlaOutDwRefIdeal [hMlaOutDwRefIdeal : Cert.MlaOutDwRefIdeal.Facts] : Prop :=
  ∀ (m : (ℓ : Loc Cert.MlaOutDwRefIdeal.nD Cert.MlaOutDwRefIdeal.τ Cert.MlaOutDwRefIdeal.sig) → Buf (Elt Ideal) ℓ) (g : Dev Cert.MlaOutDwRefIdeal.nD → PrngReg), Pre_MlaOutDwRefIdeal m →
    θ_run (Cert.MlaOutDwRefIdeal.defs (F := Ideal)) (onTc (τ := Cert.MlaOutDwRefIdeal.τ) (Cert.MlaOutDwRefIdeal.main (F := Ideal))) ⟨m, fun _ => 0, g⟩ (fun r => (∀ c : Dev Cert.MlaOutDwRefIdeal.nD,
      r.2.mem ((c.tc : Thread Cert.MlaOutDwRefIdeal.nD Cert.MlaOutDwRefIdeal.τ).loc Cert.MlaOutDwRefIdeal.main_arg0) = m ((c.tc : Thread Cert.MlaOutDwRefIdeal.nD Cert.MlaOutDwRefIdeal.τ).loc Cert.MlaOutDwRefIdeal.main_arg0)
      ∧ r.2.mem ((c.tc : Thread Cert.MlaOutDwRefIdeal.nD Cert.MlaOutDwRefIdeal.τ).loc Cert.MlaOutDwRefIdeal.main_arg1) = m ((c.tc : Thread Cert.MlaOutDwRefIdeal.nD Cert.MlaOutDwRefIdeal.τ).loc Cert.MlaOutDwRefIdeal.main_arg1)
      ∧ r.2.mem ((c.tc : Thread Cert.MlaOutDwRefIdeal.nD Cert.MlaOutDwRefIdeal.τ).loc Cert.MlaOutDwRefIdeal.main_arg2) = m ((c.tc : Thread Cert.MlaOutDwRefIdeal.nD Cert.MlaOutDwRefIdeal.τ).loc Cert.MlaOutDwRefIdeal.main_arg2))
      ∧ r.2.sem = fun _ => 0)

def quiescent_HgrnOutDw [hHgrnOutDw : Cert.HgrnOutDw.Facts] : Prop :=
  ∀ (m : (ℓ : Loc Cert.HgrnOutDw.nD Cert.HgrnOutDw.τ Cert.HgrnOutDw.sig) → Buf (Elt Bits) ℓ) (g : Dev Cert.HgrnOutDw.nD → PrngReg), Pre_HgrnOutDw m →
    θ_run (Cert.HgrnOutDw.defs (F := Bits)) (onTc (τ := Cert.HgrnOutDw.τ) (Cert.HgrnOutDw.main (F := Bits))) ⟨m, fun _ => 0, g⟩ (fun r => (∀ c : Dev Cert.HgrnOutDw.nD,
      r.2.mem ((c.tc : Thread Cert.HgrnOutDw.nD Cert.HgrnOutDw.τ).loc Cert.HgrnOutDw.main_arg0) = m ((c.tc : Thread Cert.HgrnOutDw.nD Cert.HgrnOutDw.τ).loc Cert.HgrnOutDw.main_arg0)
      ∧ r.2.mem ((c.tc : Thread Cert.HgrnOutDw.nD Cert.HgrnOutDw.τ).loc Cert.HgrnOutDw.main_arg1) = m ((c.tc : Thread Cert.HgrnOutDw.nD Cert.HgrnOutDw.τ).loc Cert.HgrnOutDw.main_arg1)
      ∧ r.2.mem ((c.tc : Thread Cert.HgrnOutDw.nD Cert.HgrnOutDw.τ).loc Cert.HgrnOutDw.main_arg2) = m ((c.tc : Thread Cert.HgrnOutDw.nD Cert.HgrnOutDw.τ).loc Cert.HgrnOutDw.main_arg2))
      ∧ r.2.sem = fun _ => 0)

def quiescent_HgrnOutDwIdeal [hHgrnOutDwIdeal : Cert.HgrnOutDwIdeal.Facts] : Prop :=
  ∀ (m : (ℓ : Loc Cert.HgrnOutDwIdeal.nD Cert.HgrnOutDwIdeal.τ Cert.HgrnOutDwIdeal.sig) → Buf (Elt Ideal) ℓ) (g : Dev Cert.HgrnOutDwIdeal.nD → PrngReg), Pre_HgrnOutDwIdeal m →
    θ_run (Cert.HgrnOutDwIdeal.defs (F := Ideal)) (onTc (τ := Cert.HgrnOutDwIdeal.τ) (Cert.HgrnOutDwIdeal.main (F := Ideal))) ⟨m, fun _ => 0, g⟩ (fun r => (∀ c : Dev Cert.HgrnOutDwIdeal.nD,
      r.2.mem ((c.tc : Thread Cert.HgrnOutDwIdeal.nD Cert.HgrnOutDwIdeal.τ).loc Cert.HgrnOutDwIdeal.main_arg0) = m ((c.tc : Thread Cert.HgrnOutDwIdeal.nD Cert.HgrnOutDwIdeal.τ).loc Cert.HgrnOutDwIdeal.main_arg0)
      ∧ r.2.mem ((c.tc : Thread Cert.HgrnOutDwIdeal.nD Cert.HgrnOutDwIdeal.τ).loc Cert.HgrnOutDwIdeal.main_arg1) = m ((c.tc : Thread Cert.HgrnOutDwIdeal.nD Cert.HgrnOutDwIdeal.τ).loc Cert.HgrnOutDwIdeal.main_arg1)
      ∧ r.2.mem ((c.tc : Thread Cert.HgrnOutDwIdeal.nD Cert.HgrnOutDwIdeal.τ).loc Cert.HgrnOutDwIdeal.main_arg2) = m ((c.tc : Thread Cert.HgrnOutDwIdeal.nD Cert.HgrnOutDwIdeal.τ).loc Cert.HgrnOutDwIdeal.main_arg2))
      ∧ r.2.sem = fun _ => 0)

def quiescent_HgrnOutDwRefIdeal [hHgrnOutDwRefIdeal : Cert.HgrnOutDwRefIdeal.Facts] : Prop :=
  ∀ (m : (ℓ : Loc Cert.HgrnOutDwRefIdeal.nD Cert.HgrnOutDwRefIdeal.τ Cert.HgrnOutDwRefIdeal.sig) → Buf (Elt Ideal) ℓ) (g : Dev Cert.HgrnOutDwRefIdeal.nD → PrngReg), Pre_HgrnOutDwRefIdeal m →
    θ_run (Cert.HgrnOutDwRefIdeal.defs (F := Ideal)) (onTc (τ := Cert.HgrnOutDwRefIdeal.τ) (Cert.HgrnOutDwRefIdeal.main (F := Ideal))) ⟨m, fun _ => 0, g⟩ (fun r => (∀ c : Dev Cert.HgrnOutDwRefIdeal.nD,
      r.2.mem ((c.tc : Thread Cert.HgrnOutDwRefIdeal.nD Cert.HgrnOutDwRefIdeal.τ).loc Cert.HgrnOutDwRefIdeal.main_arg0) = m ((c.tc : Thread Cert.HgrnOutDwRefIdeal.nD Cert.HgrnOutDwRefIdeal.τ).loc Cert.HgrnOutDwRefIdeal.main_arg0)
      ∧ r.2.mem ((c.tc : Thread Cert.HgrnOutDwRefIdeal.nD Cert.HgrnOutDwRefIdeal.τ).loc Cert.HgrnOutDwRefIdeal.main_arg1) = m ((c.tc : Thread Cert.HgrnOutDwRefIdeal.nD Cert.HgrnOutDwRefIdeal.τ).loc Cert.HgrnOutDwRefIdeal.main_arg1)
      ∧ r.2.mem ((c.tc : Thread Cert.HgrnOutDwRefIdeal.nD Cert.HgrnOutDwRefIdeal.τ).loc Cert.HgrnOutDwRefIdeal.main_arg2) = m ((c.tc : Thread Cert.HgrnOutDwRefIdeal.nD Cert.HgrnOutDwRefIdeal.τ).loc Cert.HgrnOutDwRefIdeal.main_arg2))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1)
      ∧ r.2.mem ((c.tc : Thread Cert.MixOutDw.nD Cert.MixOutDw.τ).loc Cert.MixOutDw.main_arg2) = m ((c.tc : Thread Cert.MixOutDw.nD Cert.MixOutDw.τ).loc Cert.MixOutDw.main_arg2))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1)
      ∧ r.2.mem ((c.tc : Thread Cert.MixOutDwIdeal.nD Cert.MixOutDwIdeal.τ).loc Cert.MixOutDwIdeal.main_arg2) = m ((c.tc : Thread Cert.MixOutDwIdeal.nD Cert.MixOutDwIdeal.τ).loc Cert.MixOutDwIdeal.main_arg2))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1)
      ∧ r.2.mem ((c.tc : Thread Cert.MixOutDwRefIdeal.nD Cert.MixOutDwRefIdeal.τ).loc Cert.MixOutDwRefIdeal.main_arg2) = m ((c.tc : Thread Cert.MixOutDwRefIdeal.nD Cert.MixOutDwRefIdeal.τ).loc Cert.MixOutDwRefIdeal.main_arg2))
      ∧ r.2.sem = fun _ => 0)

def quiescent_MlaOutDx [hMlaOutDx : Cert.MlaOutDx.Facts] : Prop :=
  ∀ (m : (ℓ : Loc Cert.MlaOutDx.nD Cert.MlaOutDx.τ Cert.MlaOutDx.sig) → Buf (Elt Bits) ℓ) (g : Dev Cert.MlaOutDx.nD → PrngReg), Pre_MlaOutDx m →
    θ_run (Cert.MlaOutDx.defs (F := Bits)) (onTc (τ := Cert.MlaOutDx.τ) (Cert.MlaOutDx.main (F := Bits))) ⟨m, fun _ => 0, g⟩ (fun r => (∀ c : Dev Cert.MlaOutDx.nD,
      r.2.mem ((c.tc : Thread Cert.MlaOutDx.nD Cert.MlaOutDx.τ).loc Cert.MlaOutDx.main_arg0) = m ((c.tc : Thread Cert.MlaOutDx.nD Cert.MlaOutDx.τ).loc Cert.MlaOutDx.main_arg0)
      ∧ r.2.mem ((c.tc : Thread Cert.MlaOutDx.nD Cert.MlaOutDx.τ).loc Cert.MlaOutDx.main_arg1) = m ((c.tc : Thread Cert.MlaOutDx.nD Cert.MlaOutDx.τ).loc Cert.MlaOutDx.main_arg1)
      ∧ r.2.mem ((c.tc : Thread Cert.MlaOutDx.nD Cert.MlaOutDx.τ).loc Cert.MlaOutDx.main_arg2) = m ((c.tc : Thread Cert.MlaOutDx.nD Cert.MlaOutDx.τ).loc Cert.MlaOutDx.main_arg2))
      ∧ r.2.sem = fun _ => 0)

def quiescent_MlaOutDxIdeal [hMlaOutDxIdeal : Cert.MlaOutDxIdeal.Facts] : Prop :=
  ∀ (m : (ℓ : Loc Cert.MlaOutDxIdeal.nD Cert.MlaOutDxIdeal.τ Cert.MlaOutDxIdeal.sig) → Buf (Elt Ideal) ℓ) (g : Dev Cert.MlaOutDxIdeal.nD → PrngReg), Pre_MlaOutDxIdeal m →
    θ_run (Cert.MlaOutDxIdeal.defs (F := Ideal)) (onTc (τ := Cert.MlaOutDxIdeal.τ) (Cert.MlaOutDxIdeal.main (F := Ideal))) ⟨m, fun _ => 0, g⟩ (fun r => (∀ c : Dev Cert.MlaOutDxIdeal.nD,
      r.2.mem ((c.tc : Thread Cert.MlaOutDxIdeal.nD Cert.MlaOutDxIdeal.τ).loc Cert.MlaOutDxIdeal.main_arg0) = m ((c.tc : Thread Cert.MlaOutDxIdeal.nD Cert.MlaOutDxIdeal.τ).loc Cert.MlaOutDxIdeal.main_arg0)
      ∧ r.2.mem ((c.tc : Thread Cert.MlaOutDxIdeal.nD Cert.MlaOutDxIdeal.τ).loc Cert.MlaOutDxIdeal.main_arg1) = m ((c.tc : Thread Cert.MlaOutDxIdeal.nD Cert.MlaOutDxIdeal.τ).loc Cert.MlaOutDxIdeal.main_arg1)
      ∧ r.2.mem ((c.tc : Thread Cert.MlaOutDxIdeal.nD Cert.MlaOutDxIdeal.τ).loc Cert.MlaOutDxIdeal.main_arg2) = m ((c.tc : Thread Cert.MlaOutDxIdeal.nD Cert.MlaOutDxIdeal.τ).loc Cert.MlaOutDxIdeal.main_arg2))
      ∧ r.2.sem = fun _ => 0)

def quiescent_MlaOutDxRefIdeal [hMlaOutDxRefIdeal : Cert.MlaOutDxRefIdeal.Facts] : Prop :=
  ∀ (m : (ℓ : Loc Cert.MlaOutDxRefIdeal.nD Cert.MlaOutDxRefIdeal.τ Cert.MlaOutDxRefIdeal.sig) → Buf (Elt Ideal) ℓ) (g : Dev Cert.MlaOutDxRefIdeal.nD → PrngReg), Pre_MlaOutDxRefIdeal m →
    θ_run (Cert.MlaOutDxRefIdeal.defs (F := Ideal)) (onTc (τ := Cert.MlaOutDxRefIdeal.τ) (Cert.MlaOutDxRefIdeal.main (F := Ideal))) ⟨m, fun _ => 0, g⟩ (fun r => (∀ c : Dev Cert.MlaOutDxRefIdeal.nD,
      r.2.mem ((c.tc : Thread Cert.MlaOutDxRefIdeal.nD Cert.MlaOutDxRefIdeal.τ).loc Cert.MlaOutDxRefIdeal.main_arg0) = m ((c.tc : Thread Cert.MlaOutDxRefIdeal.nD Cert.MlaOutDxRefIdeal.τ).loc Cert.MlaOutDxRefIdeal.main_arg0)
      ∧ r.2.mem ((c.tc : Thread Cert.MlaOutDxRefIdeal.nD Cert.MlaOutDxRefIdeal.τ).loc Cert.MlaOutDxRefIdeal.main_arg1) = m ((c.tc : Thread Cert.MlaOutDxRefIdeal.nD Cert.MlaOutDxRefIdeal.τ).loc Cert.MlaOutDxRefIdeal.main_arg1)
      ∧ r.2.mem ((c.tc : Thread Cert.MlaOutDxRefIdeal.nD Cert.MlaOutDxRefIdeal.τ).loc Cert.MlaOutDxRefIdeal.main_arg2) = m ((c.tc : Thread Cert.MlaOutDxRefIdeal.nD Cert.MlaOutDxRefIdeal.τ).loc Cert.MlaOutDxRefIdeal.main_arg2))
      ∧ r.2.sem = fun _ => 0)

def quiescent_HgrnOutDx [hHgrnOutDx : Cert.HgrnOutDx.Facts] : Prop :=
  ∀ (m : (ℓ : Loc Cert.HgrnOutDx.nD Cert.HgrnOutDx.τ Cert.HgrnOutDx.sig) → Buf (Elt Bits) ℓ) (g : Dev Cert.HgrnOutDx.nD → PrngReg), Pre_HgrnOutDx m →
    θ_run (Cert.HgrnOutDx.defs (F := Bits)) (onTc (τ := Cert.HgrnOutDx.τ) (Cert.HgrnOutDx.main (F := Bits))) ⟨m, fun _ => 0, g⟩ (fun r => (∀ c : Dev Cert.HgrnOutDx.nD,
      r.2.mem ((c.tc : Thread Cert.HgrnOutDx.nD Cert.HgrnOutDx.τ).loc Cert.HgrnOutDx.main_arg0) = m ((c.tc : Thread Cert.HgrnOutDx.nD Cert.HgrnOutDx.τ).loc Cert.HgrnOutDx.main_arg0)
      ∧ r.2.mem ((c.tc : Thread Cert.HgrnOutDx.nD Cert.HgrnOutDx.τ).loc Cert.HgrnOutDx.main_arg1) = m ((c.tc : Thread Cert.HgrnOutDx.nD Cert.HgrnOutDx.τ).loc Cert.HgrnOutDx.main_arg1)
      ∧ r.2.mem ((c.tc : Thread Cert.HgrnOutDx.nD Cert.HgrnOutDx.τ).loc Cert.HgrnOutDx.main_arg2) = m ((c.tc : Thread Cert.HgrnOutDx.nD Cert.HgrnOutDx.τ).loc Cert.HgrnOutDx.main_arg2))
      ∧ r.2.sem = fun _ => 0)

def quiescent_HgrnOutDxIdeal [hHgrnOutDxIdeal : Cert.HgrnOutDxIdeal.Facts] : Prop :=
  ∀ (m : (ℓ : Loc Cert.HgrnOutDxIdeal.nD Cert.HgrnOutDxIdeal.τ Cert.HgrnOutDxIdeal.sig) → Buf (Elt Ideal) ℓ) (g : Dev Cert.HgrnOutDxIdeal.nD → PrngReg), Pre_HgrnOutDxIdeal m →
    θ_run (Cert.HgrnOutDxIdeal.defs (F := Ideal)) (onTc (τ := Cert.HgrnOutDxIdeal.τ) (Cert.HgrnOutDxIdeal.main (F := Ideal))) ⟨m, fun _ => 0, g⟩ (fun r => (∀ c : Dev Cert.HgrnOutDxIdeal.nD,
      r.2.mem ((c.tc : Thread Cert.HgrnOutDxIdeal.nD Cert.HgrnOutDxIdeal.τ).loc Cert.HgrnOutDxIdeal.main_arg0) = m ((c.tc : Thread Cert.HgrnOutDxIdeal.nD Cert.HgrnOutDxIdeal.τ).loc Cert.HgrnOutDxIdeal.main_arg0)
      ∧ r.2.mem ((c.tc : Thread Cert.HgrnOutDxIdeal.nD Cert.HgrnOutDxIdeal.τ).loc Cert.HgrnOutDxIdeal.main_arg1) = m ((c.tc : Thread Cert.HgrnOutDxIdeal.nD Cert.HgrnOutDxIdeal.τ).loc Cert.HgrnOutDxIdeal.main_arg1)
      ∧ r.2.mem ((c.tc : Thread Cert.HgrnOutDxIdeal.nD Cert.HgrnOutDxIdeal.τ).loc Cert.HgrnOutDxIdeal.main_arg2) = m ((c.tc : Thread Cert.HgrnOutDxIdeal.nD Cert.HgrnOutDxIdeal.τ).loc Cert.HgrnOutDxIdeal.main_arg2))
      ∧ r.2.sem = fun _ => 0)

def quiescent_HgrnOutDxRefIdeal [hHgrnOutDxRefIdeal : Cert.HgrnOutDxRefIdeal.Facts] : Prop :=
  ∀ (m : (ℓ : Loc Cert.HgrnOutDxRefIdeal.nD Cert.HgrnOutDxRefIdeal.τ Cert.HgrnOutDxRefIdeal.sig) → Buf (Elt Ideal) ℓ) (g : Dev Cert.HgrnOutDxRefIdeal.nD → PrngReg), Pre_HgrnOutDxRefIdeal m →
    θ_run (Cert.HgrnOutDxRefIdeal.defs (F := Ideal)) (onTc (τ := Cert.HgrnOutDxRefIdeal.τ) (Cert.HgrnOutDxRefIdeal.main (F := Ideal))) ⟨m, fun _ => 0, g⟩ (fun r => (∀ c : Dev Cert.HgrnOutDxRefIdeal.nD,
      r.2.mem ((c.tc : Thread Cert.HgrnOutDxRefIdeal.nD Cert.HgrnOutDxRefIdeal.τ).loc Cert.HgrnOutDxRefIdeal.main_arg0) = m ((c.tc : Thread Cert.HgrnOutDxRefIdeal.nD Cert.HgrnOutDxRefIdeal.τ).loc Cert.HgrnOutDxRefIdeal.main_arg0)
      ∧ r.2.mem ((c.tc : Thread Cert.HgrnOutDxRefIdeal.nD Cert.HgrnOutDxRefIdeal.τ).loc Cert.HgrnOutDxRefIdeal.main_arg1) = m ((c.tc : Thread Cert.HgrnOutDxRefIdeal.nD Cert.HgrnOutDxRefIdeal.τ).loc Cert.HgrnOutDxRefIdeal.main_arg1)
      ∧ r.2.mem ((c.tc : Thread Cert.HgrnOutDxRefIdeal.nD Cert.HgrnOutDxRefIdeal.τ).loc Cert.HgrnOutDxRefIdeal.main_arg2) = m ((c.tc : Thread Cert.HgrnOutDxRefIdeal.nD Cert.HgrnOutDxRefIdeal.τ).loc Cert.HgrnOutDxRefIdeal.main_arg2))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1)
      ∧ r.2.mem ((c.tc : Thread Cert.MixOutDx.nD Cert.MixOutDx.τ).loc Cert.MixOutDx.main_arg2) = m ((c.tc : Thread Cert.MixOutDx.nD Cert.MixOutDx.τ).loc Cert.MixOutDx.main_arg2))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1)
      ∧ r.2.mem ((c.tc : Thread Cert.MixOutDxIdeal.nD Cert.MixOutDxIdeal.τ).loc Cert.MixOutDxIdeal.main_arg2) = m ((c.tc : Thread Cert.MixOutDxIdeal.nD Cert.MixOutDxIdeal.τ).loc Cert.MixOutDxIdeal.main_arg2))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1)
      ∧ r.2.mem ((c.tc : Thread Cert.MixOutDxRefIdeal.nD Cert.MixOutDxRefIdeal.τ).loc Cert.MixOutDxRefIdeal.main_arg2) = m ((c.tc : Thread Cert.MixOutDxRefIdeal.nD Cert.MixOutDxRefIdeal.τ).loc Cert.MixOutDxRefIdeal.main_arg2))
      ∧ r.2.sem = fun _ => 0)

def quiescent_MlaOut [hMlaOut : Cert.MlaOut.Facts] : Prop :=
  ∀ (m : (ℓ : Loc Cert.MlaOut.nD Cert.MlaOut.τ Cert.MlaOut.sig) → Buf (Elt Bits) ℓ) (g : Dev Cert.MlaOut.nD → PrngReg), Pre_MlaOut m →
    θ_run (Cert.MlaOut.defs (F := Bits)) (onTc (τ := Cert.MlaOut.τ) (Cert.MlaOut.main (F := Bits))) ⟨m, fun _ => 0, g⟩ (fun r => (∀ c : Dev Cert.MlaOut.nD,
      r.2.mem ((c.tc : Thread Cert.MlaOut.nD Cert.MlaOut.τ).loc Cert.MlaOut.main_arg0) = m ((c.tc : Thread Cert.MlaOut.nD Cert.MlaOut.τ).loc Cert.MlaOut.main_arg0)
      ∧ r.2.mem ((c.tc : Thread Cert.MlaOut.nD Cert.MlaOut.τ).loc Cert.MlaOut.main_arg1) = m ((c.tc : Thread Cert.MlaOut.nD Cert.MlaOut.τ).loc Cert.MlaOut.main_arg1)
      ∧ r.2.mem ((c.tc : Thread Cert.MlaOut.nD Cert.MlaOut.τ).loc Cert.MlaOut.main_arg2) = m ((c.tc : Thread Cert.MlaOut.nD Cert.MlaOut.τ).loc Cert.MlaOut.main_arg2))
      ∧ r.2.sem = fun _ => 0)

def quiescent_MlaOutIdeal [hMlaOutIdeal : Cert.MlaOutIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg), Pre_MlaOutIdeal m →
    θ_run (Cert.MlaOutIdeal.defs (F := Ideal)) (onTc (τ := Cert.MlaOutIdeal.τ) (Cert.MlaOutIdeal.main (F := Ideal))) ⟨m, fun _ => 0, g⟩ (fun r => (∀ c : Dev Cert.MlaOutIdeal.nD,
      r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
      ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
      ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2))
      ∧ r.2.sem = fun _ => 0)

def quiescent_MlaOutRefIdeal [hMlaOutRefIdeal : Cert.MlaOutRefIdeal.Facts] : Prop :=
  ∀ (m : (ℓ : Loc Cert.MlaOutRefIdeal.nD Cert.MlaOutRefIdeal.τ Cert.MlaOutRefIdeal.sig) → Buf (Elt Ideal) ℓ) (g : Dev Cert.MlaOutRefIdeal.nD → PrngReg), Pre_MlaOutRefIdeal m →
    θ_run (Cert.MlaOutRefIdeal.defs (F := Ideal)) (onTc (τ := Cert.MlaOutRefIdeal.τ) (Cert.MlaOutRefIdeal.main (F := Ideal))) ⟨m, fun _ => 0, g⟩ (fun r => (∀ c : Dev Cert.MlaOutRefIdeal.nD,
      r.2.mem ((c.tc : Thread Cert.MlaOutRefIdeal.nD Cert.MlaOutRefIdeal.τ).loc Cert.MlaOutRefIdeal.main_arg0) = m ((c.tc : Thread Cert.MlaOutRefIdeal.nD Cert.MlaOutRefIdeal.τ).loc Cert.MlaOutRefIdeal.main_arg0)
      ∧ r.2.mem ((c.tc : Thread Cert.MlaOutRefIdeal.nD Cert.MlaOutRefIdeal.τ).loc Cert.MlaOutRefIdeal.main_arg1) = m ((c.tc : Thread Cert.MlaOutRefIdeal.nD Cert.MlaOutRefIdeal.τ).loc Cert.MlaOutRefIdeal.main_arg1)
      ∧ r.2.mem ((c.tc : Thread Cert.MlaOutRefIdeal.nD Cert.MlaOutRefIdeal.τ).loc Cert.MlaOutRefIdeal.main_arg2) = m ((c.tc : Thread Cert.MlaOutRefIdeal.nD Cert.MlaOutRefIdeal.τ).loc Cert.MlaOutRefIdeal.main_arg2))
      ∧ r.2.sem = fun _ => 0)

def quiescent_HgrnOut [hHgrnOut : Cert.HgrnOut.Facts] : Prop :=
  ∀ (m : (ℓ : Loc Cert.HgrnOut.nD Cert.HgrnOut.τ Cert.HgrnOut.sig) → Buf (Elt Bits) ℓ) (g : Dev Cert.HgrnOut.nD → PrngReg), Pre_HgrnOut m →
    θ_run (Cert.HgrnOut.defs (F := Bits)) (onTc (τ := Cert.HgrnOut.τ) (Cert.HgrnOut.main (F := Bits))) ⟨m, fun _ => 0, g⟩ (fun r => (∀ c : Dev Cert.HgrnOut.nD,
      r.2.mem ((c.tc : Thread Cert.HgrnOut.nD Cert.HgrnOut.τ).loc Cert.HgrnOut.main_arg0) = m ((c.tc : Thread Cert.HgrnOut.nD Cert.HgrnOut.τ).loc Cert.HgrnOut.main_arg0)
      ∧ r.2.mem ((c.tc : Thread Cert.HgrnOut.nD Cert.HgrnOut.τ).loc Cert.HgrnOut.main_arg1) = m ((c.tc : Thread Cert.HgrnOut.nD Cert.HgrnOut.τ).loc Cert.HgrnOut.main_arg1)
      ∧ r.2.mem ((c.tc : Thread Cert.HgrnOut.nD Cert.HgrnOut.τ).loc Cert.HgrnOut.main_arg2) = m ((c.tc : Thread Cert.HgrnOut.nD Cert.HgrnOut.τ).loc Cert.HgrnOut.main_arg2))
      ∧ r.2.sem = fun _ => 0)

def quiescent_HgrnOutIdeal [hHgrnOutIdeal : Cert.HgrnOutIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
      ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2))
      ∧ r.2.sem = fun _ => 0)

def quiescent_HgrnOutRefIdeal [hHgrnOutRefIdeal : Cert.HgrnOutRefIdeal.Facts] : Prop :=
  ∀ (m : (ℓ : Loc Cert.HgrnOutRefIdeal.nD Cert.HgrnOutRefIdeal.τ Cert.HgrnOutRefIdeal.sig) → Buf (Elt Ideal) ℓ) (g : Dev Cert.HgrnOutRefIdeal.nD → PrngReg), Pre_HgrnOutRefIdeal m →
    θ_run (Cert.HgrnOutRefIdeal.defs (F := Ideal)) (onTc (τ := Cert.HgrnOutRefIdeal.τ) (Cert.HgrnOutRefIdeal.main (F := Ideal))) ⟨m, fun _ => 0, g⟩ (fun r => (∀ c : Dev Cert.HgrnOutRefIdeal.nD,
      r.2.mem ((c.tc : Thread Cert.HgrnOutRefIdeal.nD Cert.HgrnOutRefIdeal.τ).loc Cert.HgrnOutRefIdeal.main_arg0) = m ((c.tc : Thread Cert.HgrnOutRefIdeal.nD Cert.HgrnOutRefIdeal.τ).loc Cert.HgrnOutRefIdeal.main_arg0)
      ∧ r.2.mem ((c.tc : Thread Cert.HgrnOutRefIdeal.nD Cert.HgrnOutRefIdeal.τ).loc Cert.HgrnOutRefIdeal.main_arg1) = m ((c.tc : Thread Cert.HgrnOutRefIdeal.nD Cert.HgrnOutRefIdeal.τ).loc Cert.HgrnOutRefIdeal.main_arg1)
      ∧ r.2.mem ((c.tc : Thread Cert.HgrnOutRefIdeal.nD Cert.HgrnOutRefIdeal.τ).loc Cert.HgrnOutRefIdeal.main_arg2) = m ((c.tc : Thread Cert.HgrnOutRefIdeal.nD Cert.HgrnOutRefIdeal.τ).loc Cert.HgrnOutRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1)
      ∧ r.2.mem ((c.tc : Thread Cert.KvUp.nD Cert.KvUp.τ).loc Cert.KvUp.main_arg2) = m ((c.tc : Thread Cert.KvUp.nD Cert.KvUp.τ).loc Cert.KvUp.main_arg2))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
      ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1)
      ∧ r.2.mem ((c.tc : Thread Cert.KvUpRefIdeal.nD Cert.KvUpRefIdeal.τ).loc Cert.KvUpRefIdeal.main_arg2) = m ((c.tc : Thread Cert.KvUpRefIdeal.nD Cert.KvUpRefIdeal.τ).loc Cert.KvUpRefIdeal.main_arg2))
      ∧ r.2.sem = fun _ => 0)

def quiescent_KvUpDx [hKvUpDx : Cert.KvUpDx.Facts] : Prop :=
  ∀ (m : (ℓ : Loc Cert.KvUpDx.nD Cert.KvUpDx.τ Cert.KvUpDx.sig) → Buf (Elt Bits) ℓ) (g : Dev Cert.KvUpDx.nD → PrngReg), Pre_KvUpDx m →
    θ_run (Cert.KvUpDx.defs (F := Bits)) (onTc (τ := Cert.KvUpDx.τ) (Cert.KvUpDx.main (F := Bits))) ⟨m, fun _ => 0, g⟩ (fun r => (∀ c : Dev Cert.KvUpDx.nD,
      r.2.mem ((c.tc : Thread Cert.KvUpDx.nD Cert.KvUpDx.τ).loc Cert.KvUpDx.main_arg0) = m ((c.tc : Thread Cert.KvUpDx.nD Cert.KvUpDx.τ).loc Cert.KvUpDx.main_arg0)
      ∧ r.2.mem ((c.tc : Thread Cert.KvUpDx.nD Cert.KvUpDx.τ).loc Cert.KvUpDx.main_arg1) = m ((c.tc : Thread Cert.KvUpDx.nD Cert.KvUpDx.τ).loc Cert.KvUpDx.main_arg1)
      ∧ r.2.mem ((c.tc : Thread Cert.KvUpDx.nD Cert.KvUpDx.τ).loc Cert.KvUpDx.main_arg2) = m ((c.tc : Thread Cert.KvUpDx.nD Cert.KvUpDx.τ).loc Cert.KvUpDx.main_arg2))
      ∧ r.2.sem = fun _ => 0)

def quiescent_KvUpDxIdeal [hKvUpDxIdeal : Cert.KvUpDxIdeal.Facts] : Prop :=
  ∀ (m : (ℓ : Loc Cert.KvUpDxIdeal.nD Cert.KvUpDxIdeal.τ Cert.KvUpDxIdeal.sig) → Buf (Elt Ideal) ℓ) (g : Dev Cert.KvUpDxIdeal.nD → PrngReg), Pre_KvUpDxIdeal m →
    θ_run (Cert.KvUpDxIdeal.defs (F := Ideal)) (onTc (τ := Cert.KvUpDxIdeal.τ) (Cert.KvUpDxIdeal.main (F := Ideal))) ⟨m, fun _ => 0, g⟩ (fun r => (∀ c : Dev Cert.KvUpDxIdeal.nD,
      r.2.mem ((c.tc : Thread Cert.KvUpDxIdeal.nD Cert.KvUpDxIdeal.τ).loc Cert.KvUpDxIdeal.main_arg0) = m ((c.tc : Thread Cert.KvUpDxIdeal.nD Cert.KvUpDxIdeal.τ).loc Cert.KvUpDxIdeal.main_arg0)
      ∧ r.2.mem ((c.tc : Thread Cert.KvUpDxIdeal.nD Cert.KvUpDxIdeal.τ).loc Cert.KvUpDxIdeal.main_arg1) = m ((c.tc : Thread Cert.KvUpDxIdeal.nD Cert.KvUpDxIdeal.τ).loc Cert.KvUpDxIdeal.main_arg1)
      ∧ r.2.mem ((c.tc : Thread Cert.KvUpDxIdeal.nD Cert.KvUpDxIdeal.τ).loc Cert.KvUpDxIdeal.main_arg2) = m ((c.tc : Thread Cert.KvUpDxIdeal.nD Cert.KvUpDxIdeal.τ).loc Cert.KvUpDxIdeal.main_arg2))
      ∧ r.2.sem = fun _ => 0)

def quiescent_KvUpDxRefIdeal [hKvUpDxRefIdeal : Cert.KvUpDxRefIdeal.Facts] : Prop :=
  ∀ (m : (ℓ : Loc Cert.KvUpDxRefIdeal.nD Cert.KvUpDxRefIdeal.τ Cert.KvUpDxRefIdeal.sig) → Buf (Elt Ideal) ℓ) (g : Dev Cert.KvUpDxRefIdeal.nD → PrngReg), Pre_KvUpDxRefIdeal m →
    θ_run (Cert.KvUpDxRefIdeal.defs (F := Ideal)) (onTc (τ := Cert.KvUpDxRefIdeal.τ) (Cert.KvUpDxRefIdeal.main (F := Ideal))) ⟨m, fun _ => 0, g⟩ (fun r => (∀ c : Dev Cert.KvUpDxRefIdeal.nD,
      r.2.mem ((c.tc : Thread Cert.KvUpDxRefIdeal.nD Cert.KvUpDxRefIdeal.τ).loc Cert.KvUpDxRefIdeal.main_arg0) = m ((c.tc : Thread Cert.KvUpDxRefIdeal.nD Cert.KvUpDxRefIdeal.τ).loc Cert.KvUpDxRefIdeal.main_arg0)
      ∧ r.2.mem ((c.tc : Thread Cert.KvUpDxRefIdeal.nD Cert.KvUpDxRefIdeal.τ).loc Cert.KvUpDxRefIdeal.main_arg1) = m ((c.tc : Thread Cert.KvUpDxRefIdeal.nD Cert.KvUpDxRefIdeal.τ).loc Cert.KvUpDxRefIdeal.main_arg1)
      ∧ r.2.mem ((c.tc : Thread Cert.KvUpDxRefIdeal.nD Cert.KvUpDxRefIdeal.τ).loc Cert.KvUpDxRefIdeal.main_arg2) = m ((c.tc : Thread Cert.KvUpDxRefIdeal.nD Cert.KvUpDxRefIdeal.τ).loc Cert.KvUpDxRefIdeal.main_arg2))
      ∧ r.2.sem = fun _ => 0)

def quiescent_KvUpDw [hKvUpDw : Cert.KvUpDw.Facts] : Prop :=
  ∀ (m : (ℓ : Loc Cert.KvUpDw.nD Cert.KvUpDw.τ Cert.KvUpDw.sig) → Buf (Elt Bits) ℓ) (g : Dev Cert.KvUpDw.nD → PrngReg), Pre_KvUpDw m →
    θ_run (Cert.KvUpDw.defs (F := Bits)) (onTc (τ := Cert.KvUpDw.τ) (Cert.KvUpDw.main (F := Bits))) ⟨m, fun _ => 0, g⟩ (fun r => (∀ c : Dev Cert.KvUpDw.nD,
      r.2.mem ((c.tc : Thread Cert.KvUpDw.nD Cert.KvUpDw.τ).loc Cert.KvUpDw.main_arg0) = m ((c.tc : Thread Cert.KvUpDw.nD Cert.KvUpDw.τ).loc Cert.KvUpDw.main_arg0)
      ∧ r.2.mem ((c.tc : Thread Cert.KvUpDw.nD Cert.KvUpDw.τ).loc Cert.KvUpDw.main_arg1) = m ((c.tc : Thread Cert.KvUpDw.nD Cert.KvUpDw.τ).loc Cert.KvUpDw.main_arg1)
      ∧ r.2.mem ((c.tc : Thread Cert.KvUpDw.nD Cert.KvUpDw.τ).loc Cert.KvUpDw.main_arg2) = m ((c.tc : Thread Cert.KvUpDw.nD Cert.KvUpDw.τ).loc Cert.KvUpDw.main_arg2))
      ∧ r.2.sem = fun _ => 0)

def quiescent_KvUpDwIdeal [hKvUpDwIdeal : Cert.KvUpDwIdeal.Facts] : Prop :=
  ∀ (m : (ℓ : Loc Cert.KvUpDwIdeal.nD Cert.KvUpDwIdeal.τ Cert.KvUpDwIdeal.sig) → Buf (Elt Ideal) ℓ) (g : Dev Cert.KvUpDwIdeal.nD → PrngReg), Pre_KvUpDwIdeal m →
    θ_run (Cert.KvUpDwIdeal.defs (F := Ideal)) (onTc (τ := Cert.KvUpDwIdeal.τ) (Cert.KvUpDwIdeal.main (F := Ideal))) ⟨m, fun _ => 0, g⟩ (fun r => (∀ c : Dev Cert.KvUpDwIdeal.nD,
      r.2.mem ((c.tc : Thread Cert.KvUpDwIdeal.nD Cert.KvUpDwIdeal.τ).loc Cert.KvUpDwIdeal.main_arg0) = m ((c.tc : Thread Cert.KvUpDwIdeal.nD Cert.KvUpDwIdeal.τ).loc Cert.KvUpDwIdeal.main_arg0)
      ∧ r.2.mem ((c.tc : Thread Cert.KvUpDwIdeal.nD Cert.KvUpDwIdeal.τ).loc Cert.KvUpDwIdeal.main_arg1) = m ((c.tc : Thread Cert.KvUpDwIdeal.nD Cert.KvUpDwIdeal.τ).loc Cert.KvUpDwIdeal.main_arg1)
      ∧ r.2.mem ((c.tc : Thread Cert.KvUpDwIdeal.nD Cert.KvUpDwIdeal.τ).loc Cert.KvUpDwIdeal.main_arg2) = m ((c.tc : Thread Cert.KvUpDwIdeal.nD Cert.KvUpDwIdeal.τ).loc Cert.KvUpDwIdeal.main_arg2))
      ∧ r.2.sem = fun _ => 0)

def quiescent_KvUpDwRefIdeal [hKvUpDwRefIdeal : Cert.KvUpDwRefIdeal.Facts] : Prop :=
  ∀ (m : (ℓ : Loc Cert.KvUpDwRefIdeal.nD Cert.KvUpDwRefIdeal.τ Cert.KvUpDwRefIdeal.sig) → Buf (Elt Ideal) ℓ) (g : Dev Cert.KvUpDwRefIdeal.nD → PrngReg), Pre_KvUpDwRefIdeal m →
    θ_run (Cert.KvUpDwRefIdeal.defs (F := Ideal)) (onTc (τ := Cert.KvUpDwRefIdeal.τ) (Cert.KvUpDwRefIdeal.main (F := Ideal))) ⟨m, fun _ => 0, g⟩ (fun r => (∀ c : Dev Cert.KvUpDwRefIdeal.nD,
      r.2.mem ((c.tc : Thread Cert.KvUpDwRefIdeal.nD Cert.KvUpDwRefIdeal.τ).loc Cert.KvUpDwRefIdeal.main_arg0) = m ((c.tc : Thread Cert.KvUpDwRefIdeal.nD Cert.KvUpDwRefIdeal.τ).loc Cert.KvUpDwRefIdeal.main_arg0)
      ∧ r.2.mem ((c.tc : Thread Cert.KvUpDwRefIdeal.nD Cert.KvUpDwRefIdeal.τ).loc Cert.KvUpDwRefIdeal.main_arg1) = m ((c.tc : Thread Cert.KvUpDwRefIdeal.nD Cert.KvUpDwRefIdeal.τ).loc Cert.KvUpDwRefIdeal.main_arg1)
      ∧ r.2.mem ((c.tc : Thread Cert.KvUpDwRefIdeal.nD Cert.KvUpDwRefIdeal.τ).loc Cert.KvUpDwRefIdeal.main_arg2) = m ((c.tc : Thread Cert.KvUpDwRefIdeal.nD Cert.KvUpDwRefIdeal.τ).loc Cert.KvUpDwRefIdeal.main_arg2))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1)
      ∧ r.2.mem ((c.tc : Thread Cert.QUp.nD Cert.QUp.τ).loc Cert.QUp.main_arg2) = m ((c.tc : Thread Cert.QUp.nD Cert.QUp.τ).loc Cert.QUp.main_arg2))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
      ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1)
      ∧ r.2.mem ((c.tc : Thread Cert.QUpRefIdeal.nD Cert.QUpRefIdeal.τ).loc Cert.QUpRefIdeal.main_arg2) = m ((c.tc : Thread Cert.QUpRefIdeal.nD Cert.QUpRefIdeal.τ).loc Cert.QUpRefIdeal.main_arg2))
      ∧ r.2.sem = fun _ => 0)

def quiescent_QUpDx [hQUpDx : Cert.QUpDx.Facts] : Prop :=
  ∀ (m : (ℓ : Loc Cert.QUpDx.nD Cert.QUpDx.τ Cert.QUpDx.sig) → Buf (Elt Bits) ℓ) (g : Dev Cert.QUpDx.nD → PrngReg), Pre_QUpDx m →
    θ_run (Cert.QUpDx.defs (F := Bits)) (onTc (τ := Cert.QUpDx.τ) (Cert.QUpDx.main (F := Bits))) ⟨m, fun _ => 0, g⟩ (fun r => (∀ c : Dev Cert.QUpDx.nD,
      r.2.mem ((c.tc : Thread Cert.QUpDx.nD Cert.QUpDx.τ).loc Cert.QUpDx.main_arg0) = m ((c.tc : Thread Cert.QUpDx.nD Cert.QUpDx.τ).loc Cert.QUpDx.main_arg0)
      ∧ r.2.mem ((c.tc : Thread Cert.QUpDx.nD Cert.QUpDx.τ).loc Cert.QUpDx.main_arg1) = m ((c.tc : Thread Cert.QUpDx.nD Cert.QUpDx.τ).loc Cert.QUpDx.main_arg1)
      ∧ r.2.mem ((c.tc : Thread Cert.QUpDx.nD Cert.QUpDx.τ).loc Cert.QUpDx.main_arg2) = m ((c.tc : Thread Cert.QUpDx.nD Cert.QUpDx.τ).loc Cert.QUpDx.main_arg2))
      ∧ r.2.sem = fun _ => 0)

def quiescent_QUpDxIdeal [hQUpDxIdeal : Cert.QUpDxIdeal.Facts] : Prop :=
  ∀ (m : (ℓ : Loc Cert.QUpDxIdeal.nD Cert.QUpDxIdeal.τ Cert.QUpDxIdeal.sig) → Buf (Elt Ideal) ℓ) (g : Dev Cert.QUpDxIdeal.nD → PrngReg), Pre_QUpDxIdeal m →
    θ_run (Cert.QUpDxIdeal.defs (F := Ideal)) (onTc (τ := Cert.QUpDxIdeal.τ) (Cert.QUpDxIdeal.main (F := Ideal))) ⟨m, fun _ => 0, g⟩ (fun r => (∀ c : Dev Cert.QUpDxIdeal.nD,
      r.2.mem ((c.tc : Thread Cert.QUpDxIdeal.nD Cert.QUpDxIdeal.τ).loc Cert.QUpDxIdeal.main_arg0) = m ((c.tc : Thread Cert.QUpDxIdeal.nD Cert.QUpDxIdeal.τ).loc Cert.QUpDxIdeal.main_arg0)
      ∧ r.2.mem ((c.tc : Thread Cert.QUpDxIdeal.nD Cert.QUpDxIdeal.τ).loc Cert.QUpDxIdeal.main_arg1) = m ((c.tc : Thread Cert.QUpDxIdeal.nD Cert.QUpDxIdeal.τ).loc Cert.QUpDxIdeal.main_arg1)
      ∧ r.2.mem ((c.tc : Thread Cert.QUpDxIdeal.nD Cert.QUpDxIdeal.τ).loc Cert.QUpDxIdeal.main_arg2) = m ((c.tc : Thread Cert.QUpDxIdeal.nD Cert.QUpDxIdeal.τ).loc Cert.QUpDxIdeal.main_arg2))
      ∧ r.2.sem = fun _ => 0)

def quiescent_QUpDxRefIdeal [hQUpDxRefIdeal : Cert.QUpDxRefIdeal.Facts] : Prop :=
  ∀ (m : (ℓ : Loc Cert.QUpDxRefIdeal.nD Cert.QUpDxRefIdeal.τ Cert.QUpDxRefIdeal.sig) → Buf (Elt Ideal) ℓ) (g : Dev Cert.QUpDxRefIdeal.nD → PrngReg), Pre_QUpDxRefIdeal m →
    θ_run (Cert.QUpDxRefIdeal.defs (F := Ideal)) (onTc (τ := Cert.QUpDxRefIdeal.τ) (Cert.QUpDxRefIdeal.main (F := Ideal))) ⟨m, fun _ => 0, g⟩ (fun r => (∀ c : Dev Cert.QUpDxRefIdeal.nD,
      r.2.mem ((c.tc : Thread Cert.QUpDxRefIdeal.nD Cert.QUpDxRefIdeal.τ).loc Cert.QUpDxRefIdeal.main_arg0) = m ((c.tc : Thread Cert.QUpDxRefIdeal.nD Cert.QUpDxRefIdeal.τ).loc Cert.QUpDxRefIdeal.main_arg0)
      ∧ r.2.mem ((c.tc : Thread Cert.QUpDxRefIdeal.nD Cert.QUpDxRefIdeal.τ).loc Cert.QUpDxRefIdeal.main_arg1) = m ((c.tc : Thread Cert.QUpDxRefIdeal.nD Cert.QUpDxRefIdeal.τ).loc Cert.QUpDxRefIdeal.main_arg1)
      ∧ r.2.mem ((c.tc : Thread Cert.QUpDxRefIdeal.nD Cert.QUpDxRefIdeal.τ).loc Cert.QUpDxRefIdeal.main_arg2) = m ((c.tc : Thread Cert.QUpDxRefIdeal.nD Cert.QUpDxRefIdeal.τ).loc Cert.QUpDxRefIdeal.main_arg2))
      ∧ r.2.sem = fun _ => 0)

def quiescent_QUpDw [hQUpDw : Cert.QUpDw.Facts] : Prop :=
  ∀ (m : (ℓ : Loc Cert.QUpDw.nD Cert.QUpDw.τ Cert.QUpDw.sig) → Buf (Elt Bits) ℓ) (g : Dev Cert.QUpDw.nD → PrngReg), Pre_QUpDw m →
    θ_run (Cert.QUpDw.defs (F := Bits)) (onTc (τ := Cert.QUpDw.τ) (Cert.QUpDw.main (F := Bits))) ⟨m, fun _ => 0, g⟩ (fun r => (∀ c : Dev Cert.QUpDw.nD,
      r.2.mem ((c.tc : Thread Cert.QUpDw.nD Cert.QUpDw.τ).loc Cert.QUpDw.main_arg0) = m ((c.tc : Thread Cert.QUpDw.nD Cert.QUpDw.τ).loc Cert.QUpDw.main_arg0)
      ∧ r.2.mem ((c.tc : Thread Cert.QUpDw.nD Cert.QUpDw.τ).loc Cert.QUpDw.main_arg1) = m ((c.tc : Thread Cert.QUpDw.nD Cert.QUpDw.τ).loc Cert.QUpDw.main_arg1)
      ∧ r.2.mem ((c.tc : Thread Cert.QUpDw.nD Cert.QUpDw.τ).loc Cert.QUpDw.main_arg2) = m ((c.tc : Thread Cert.QUpDw.nD Cert.QUpDw.τ).loc Cert.QUpDw.main_arg2))
      ∧ r.2.sem = fun _ => 0)

def quiescent_QUpDwIdeal [hQUpDwIdeal : Cert.QUpDwIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg), Pre_QUpDwIdeal m →
    θ_run (Cert.QUpDwIdeal.defs (F := Ideal)) (onTc (τ := Cert.QUpDwIdeal.τ) (Cert.QUpDwIdeal.main (F := Ideal))) ⟨m, fun _ => 0, g⟩ (fun r => (∀ c : Dev Cert.QUpDwIdeal.nD,
      r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
      ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1)
      ∧ r.2.mem ((c.tc : Thread Cert.QUpDwIdeal.nD Cert.QUpDwIdeal.τ).loc Cert.QUpDwIdeal.main_arg2) = m ((c.tc : Thread Cert.QUpDwIdeal.nD Cert.QUpDwIdeal.τ).loc Cert.QUpDwIdeal.main_arg2))
      ∧ r.2.sem = fun _ => 0)

def quiescent_QUpDwRefIdeal [hQUpDwRefIdeal : Cert.QUpDwRefIdeal.Facts] : Prop :=
  ∀ (m : (ℓ : Loc Cert.QUpDwRefIdeal.nD Cert.QUpDwRefIdeal.τ Cert.QUpDwRefIdeal.sig) → Buf (Elt Ideal) ℓ) (g : Dev Cert.QUpDwRefIdeal.nD → PrngReg), Pre_QUpDwRefIdeal m →
    θ_run (Cert.QUpDwRefIdeal.defs (F := Ideal)) (onTc (τ := Cert.QUpDwRefIdeal.τ) (Cert.QUpDwRefIdeal.main (F := Ideal))) ⟨m, fun _ => 0, g⟩ (fun r => (∀ c : Dev Cert.QUpDwRefIdeal.nD,
      r.2.mem ((c.tc : Thread Cert.QUpDwRefIdeal.nD Cert.QUpDwRefIdeal.τ).loc Cert.QUpDwRefIdeal.main_arg0) = m ((c.tc : Thread Cert.QUpDwRefIdeal.nD Cert.QUpDwRefIdeal.τ).loc Cert.QUpDwRefIdeal.main_arg0)
      ∧ r.2.mem ((c.tc : Thread Cert.QUpDwRefIdeal.nD Cert.QUpDwRefIdeal.τ).loc Cert.QUpDwRefIdeal.main_arg1) = m ((c.tc : Thread Cert.QUpDwRefIdeal.nD Cert.QUpDwRefIdeal.τ).loc Cert.QUpDwRefIdeal.main_arg1)
      ∧ r.2.mem ((c.tc : Thread Cert.QUpDwRefIdeal.nD Cert.QUpDwRefIdeal.τ).loc Cert.QUpDwRefIdeal.main_arg2) = m ((c.tc : Thread Cert.QUpDwRefIdeal.nD Cert.QUpDwRefIdeal.τ).loc Cert.QUpDwRefIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DownDx_DownDxIdeal : Prop :=
  True

def algebraic_DownDxIdeal_DownDxRefIdeal_pre_finite_down [hDownDxIdeal : Cert.DownDxIdeal.Facts] [hDownDxRefIdeal : Cert.DownDxRefIdeal.Facts] [hPre_finite_down : Cert.Pre_finite_down.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal_finite_down m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)
      ∧ m' ((c.tc : Thread Cert.DownDxRefIdeal.nD Cert.DownDxRefIdeal.τ).loc Cert.DownDxRefIdeal.main_arg3) = m ((c.tc : Thread Cert.DownDxIdeal.nD Cert.DownDxIdeal.τ).loc Cert.DownDxIdeal.main_arg3)) →
    ∃ (v0 : (c : Dev Cert.DownDxIdeal.nD) → Buf (Elt Ideal) ((c.tc : Thread Cert.DownDxIdeal.nD Cert.DownDxIdeal.τ).loc Cert.DownDxIdeal.main_v3_0)) (v1 : (c : Dev Cert.DownDxIdeal.nD) → Buf (Elt Ideal) ((c.tc : Thread Cert.DownDxIdeal.nD Cert.DownDxIdeal.τ).loc Cert.DownDxIdeal.main_v3_1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v3_0) = v0 c
          ∧ r.2.mem ((c.tc : Thread Cert.DownDxIdeal.nD Cert.DownDxIdeal.τ).loc Cert.DownDxIdeal.main_v3_1) = v1 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
          ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v7) = v0 c
          ∧ r.2.mem ((c.tc : Thread Cert.DownDxRefIdeal.nD Cert.DownDxRefIdeal.τ).loc Cert.DownDxRefIdeal.main_v8) = v1 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2)
          ∧ r.2.mem ((c.tc : Thread Cert.DownDxRefIdeal.nD Cert.DownDxRefIdeal.τ).loc Cert.DownDxRefIdeal.main_arg3) = m' ((c.tc : Thread Cert.DownDxRefIdeal.nD Cert.DownDxRefIdeal.τ).loc Cert.DownDxRefIdeal.main_arg3))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)) →
    ∃ (v0 : (c : Dev Cert.UpDxIdeal.nD) → Buf (Elt Ideal) ((c.tc : Thread Cert.UpDxIdeal.nD Cert.UpDxIdeal.τ).loc Cert.UpDxIdeal.main_v10)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v10) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v5) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)
      ∧ m' ((c.tc : Thread Cert.GateDwRefIdeal.nD Cert.GateDwRefIdeal.τ).loc Cert.GateDwRefIdeal.main_arg2) = m ((c.tc : Thread Cert.GateDwIdeal.nD Cert.GateDwIdeal.τ).loc Cert.GateDwIdeal.main_arg2)) →
    ∃ (v0 : (c : Dev Cert.GateDwIdeal.nD) → Buf (Elt Ideal) ((c.tc : Thread Cert.GateDwIdeal.nD Cert.GateDwIdeal.τ).loc Cert.GateDwIdeal.main_v2)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v2) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
          ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v7) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1)
          ∧ r.2.mem ((c.tc : Thread Cert.GateDwRefIdeal.nD Cert.GateDwRefIdeal.τ).loc Cert.GateDwRefIdeal.main_arg2) = m' ((c.tc : Thread Cert.GateDwRefIdeal.nD Cert.GateDwRefIdeal.τ).loc Cert.GateDwRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v1) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v7) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_FfnGate_FfnGateIdeal : Prop :=
  True

def algebraic_FfnGateIdeal_FfnGateRefIdeal [hFfnGateIdeal : Cert.FfnGateIdeal.Facts] [hFfnGateRefIdeal : Cert.FfnGateRefIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg)
    (m' : (ℓ : Loc Cert.FfnGateRefIdeal.nD Cert.FfnGateRefIdeal.τ Cert.FfnGateRefIdeal.sig) → Buf (Elt Ideal) ℓ) (g' : Dev Cert.FfnGateRefIdeal.nD → PrngReg), Pre_FfnGateIdeal m →
    (∀ c : Dev Cert.FfnGateIdeal.nD,
      m' ((c.tc : Thread Cert.FfnGateRefIdeal.nD Cert.FfnGateRefIdeal.τ).loc Cert.FfnGateRefIdeal.main_arg0) = m ((c.tc : Thread Cert.FfnGateIdeal.nD Cert.FfnGateIdeal.τ).loc Cert.FfnGateIdeal.main_arg0)
      ∧ m' ((c.tc : Thread Cert.FfnGateRefIdeal.nD Cert.FfnGateRefIdeal.τ).loc Cert.FfnGateRefIdeal.main_arg1) = m ((c.tc : Thread Cert.FfnGateIdeal.nD Cert.FfnGateIdeal.τ).loc Cert.FfnGateIdeal.main_arg1)) →
    ∃ (v0 : (c : Dev Cert.FfnGateIdeal.nD) → Buf (Elt Ideal) ((c.tc : Thread Cert.FfnGateIdeal.nD Cert.FfnGateIdeal.τ).loc Cert.FfnGateIdeal.main_v5)),
      θ_run (Cert.FfnGateIdeal.defs (F := Ideal)) (onTc (τ := Cert.FfnGateIdeal.τ) (Cert.FfnGateIdeal.main (F := Ideal))) ⟨m, fun _ => 0, g⟩ (fun r => ∀ c : Dev Cert.FfnGateIdeal.nD,
          r.2.mem ((c.tc : Thread Cert.FfnGateIdeal.nD Cert.FfnGateIdeal.τ).loc Cert.FfnGateIdeal.main_v5) = v0 c
          ∧ r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
          ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1))
      ∧ θ_run (Cert.FfnGateRefIdeal.defs (F := Ideal)) (onTc (τ := Cert.FfnGateRefIdeal.τ) (Cert.FfnGateRefIdeal.main (F := Ideal))) ⟨m', fun _ => 0, g'⟩ (fun r => ∀ c : Dev Cert.FfnGateRefIdeal.nD,
          r.2.mem ((c.tc : Thread Cert.FfnGateRefIdeal.nD Cert.FfnGateRefIdeal.τ).loc Cert.FfnGateRefIdeal.main_v0) = v0 c
          ∧ r.2.mem ((c.tc : Thread Cert.FfnGateRefIdeal.nD Cert.FfnGateRefIdeal.τ).loc Cert.FfnGateRefIdeal.main_arg0) = m' ((c.tc : Thread Cert.FfnGateRefIdeal.nD Cert.FfnGateRefIdeal.τ).loc Cert.FfnGateRefIdeal.main_arg0)
          ∧ r.2.mem ((c.tc : Thread Cert.FfnGateRefIdeal.nD Cert.FfnGateRefIdeal.τ).loc Cert.FfnGateRefIdeal.main_arg1) = m' ((c.tc : Thread Cert.FfnGateRefIdeal.nD Cert.FfnGateRefIdeal.τ).loc Cert.FfnGateRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v5_0)) (v1 : (c : Dev Cert.FfnUpIdeal.nD) → Buf (Elt Ideal) ((c.tc : Thread Cert.FfnUpIdeal.nD Cert.FfnUpIdeal.τ).loc Cert.FfnUpIdeal.main_v5_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v5_0) = v0 c
          ∧ r.2.mem ((c.tc : Thread Cert.FfnUpIdeal.nD Cert.FfnUpIdeal.τ).loc Cert.FfnUpIdeal.main_v5_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v0) = v0 c
          ∧ r.2.mem ((c.tc : Thread Cert.FfnUpRefIdeal.nD Cert.FfnUpRefIdeal.τ).loc Cert.FfnUpRefIdeal.main_v3) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v4)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v4) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v0) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v31) = v0 c
          ∧ r.2.mem ((c.tc : Thread Cert.MergeBwdRefIdeal.nD Cert.MergeBwdRefIdeal.τ).loc Cert.MergeBwdRefIdeal.main_v32) = v1 c
          ∧ r.2.mem ((c.tc : Thread Cert.MergeBwdRefIdeal.nD Cert.MergeBwdRefIdeal.τ).loc Cert.MergeBwdRefIdeal.main_v33) = v2 c
          ∧ r.2.mem ((c.tc : Thread Cert.MergeBwdRefIdeal.nD Cert.MergeBwdRefIdeal.τ).loc Cert.MergeBwdRefIdeal.main_v34) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_MixInDx_MixInDxIdeal : Prop :=
  True

def algebraic_MixInDxIdeal_MixInDxRefIdeal [hMixInDxIdeal : Cert.MixInDxIdeal.Facts] [hMixInDxRefIdeal : Cert.MixInDxRefIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg)
    (m' : (ℓ : Loc Cert.MixInDxRefIdeal.nD Cert.MixInDxRefIdeal.τ Cert.MixInDxRefIdeal.sig) → Buf (Elt Ideal) ℓ) (g' : Dev Cert.MixInDxRefIdeal.nD → PrngReg), Pre_MixInDxIdeal m →
    (∀ c : Dev Cert.MixInDxIdeal.nD,
      m' ((c.tc : Thread Cert.MixInDxRefIdeal.nD Cert.MixInDxRefIdeal.τ).loc Cert.MixInDxRefIdeal.main_arg0) = m ((c.tc : Thread Cert.MixInDxIdeal.nD Cert.MixInDxIdeal.τ).loc Cert.MixInDxIdeal.main_arg0)
      ∧ m' ((c.tc : Thread Cert.MixInDxRefIdeal.nD Cert.MixInDxRefIdeal.τ).loc Cert.MixInDxRefIdeal.main_arg1) = m ((c.tc : Thread Cert.MixInDxIdeal.nD Cert.MixInDxIdeal.τ).loc Cert.MixInDxIdeal.main_arg1)
      ∧ m' ((c.tc : Thread Cert.MixInDxRefIdeal.nD Cert.MixInDxRefIdeal.τ).loc Cert.MixInDxRefIdeal.main_arg2) = m ((c.tc : Thread Cert.MixInDxIdeal.nD Cert.MixInDxIdeal.τ).loc Cert.MixInDxIdeal.main_arg2)
      ∧ m' ((c.tc : Thread Cert.MixInDxRefIdeal.nD Cert.MixInDxRefIdeal.τ).loc Cert.MixInDxRefIdeal.main_arg3) = m ((c.tc : Thread Cert.MixInDxIdeal.nD Cert.MixInDxIdeal.τ).loc Cert.MixInDxIdeal.main_arg3)
      ∧ m' ((c.tc : Thread Cert.MixInDxRefIdeal.nD Cert.MixInDxRefIdeal.τ).loc Cert.MixInDxRefIdeal.main_arg4) = m ((c.tc : Thread Cert.MixInDxIdeal.nD Cert.MixInDxIdeal.τ).loc Cert.MixInDxIdeal.main_arg4)
      ∧ m' ((c.tc : Thread Cert.MixInDxRefIdeal.nD Cert.MixInDxRefIdeal.τ).loc Cert.MixInDxRefIdeal.main_arg5) = m ((c.tc : Thread Cert.MixInDxIdeal.nD Cert.MixInDxIdeal.τ).loc Cert.MixInDxIdeal.main_arg5)
      ∧ m' ((c.tc : Thread Cert.MixInDxRefIdeal.nD Cert.MixInDxRefIdeal.τ).loc Cert.MixInDxRefIdeal.main_arg6) = m ((c.tc : Thread Cert.MixInDxIdeal.nD Cert.MixInDxIdeal.τ).loc Cert.MixInDxIdeal.main_arg6)
      ∧ m' ((c.tc : Thread Cert.MixInDxRefIdeal.nD Cert.MixInDxRefIdeal.τ).loc Cert.MixInDxRefIdeal.main_arg7) = m ((c.tc : Thread Cert.MixInDxIdeal.nD Cert.MixInDxIdeal.τ).loc Cert.MixInDxIdeal.main_arg7)
      ∧ m' ((c.tc : Thread Cert.MixInDxRefIdeal.nD Cert.MixInDxRefIdeal.τ).loc Cert.MixInDxRefIdeal.main_arg8) = m ((c.tc : Thread Cert.MixInDxIdeal.nD Cert.MixInDxIdeal.τ).loc Cert.MixInDxIdeal.main_arg8)) →
    ∃ (v0 : (c : Dev Cert.MixInDxIdeal.nD) → Buf (Elt Ideal) ((c.tc : Thread Cert.MixInDxIdeal.nD Cert.MixInDxIdeal.τ).loc Cert.MixInDxIdeal.main_v18)),
      θ_run (Cert.MixInDxIdeal.defs (F := Ideal)) (onTc (τ := Cert.MixInDxIdeal.τ) (Cert.MixInDxIdeal.main (F := Ideal))) ⟨m, fun _ => 0, g⟩ (fun r => ∀ c : Dev Cert.MixInDxIdeal.nD,
          r.2.mem ((c.tc : Thread Cert.MixInDxIdeal.nD Cert.MixInDxIdeal.τ).loc Cert.MixInDxIdeal.main_v18) = v0 c
          ∧ r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
          ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1)
          ∧ r.2.mem ((c.tc : Thread Cert.MixInDxIdeal.nD Cert.MixInDxIdeal.τ).loc Cert.MixInDxIdeal.main_arg2) = m ((c.tc : Thread Cert.MixInDxIdeal.nD Cert.MixInDxIdeal.τ).loc Cert.MixInDxIdeal.main_arg2)
          ∧ r.2.mem ((c.tc : Thread Cert.MixInDxIdeal.nD Cert.MixInDxIdeal.τ).loc Cert.MixInDxIdeal.main_arg3) = m ((c.tc : Thread Cert.MixInDxIdeal.nD Cert.MixInDxIdeal.τ).loc Cert.MixInDxIdeal.main_arg3)
          ∧ r.2.mem ((c.tc : Thread Cert.MixInDxIdeal.nD Cert.MixInDxIdeal.τ).loc Cert.MixInDxIdeal.main_arg4) = m ((c.tc : Thread Cert.MixInDxIdeal.nD Cert.MixInDxIdeal.τ).loc Cert.MixInDxIdeal.main_arg4)
          ∧ r.2.mem ((c.tc : Thread Cert.MixInDxIdeal.nD Cert.MixInDxIdeal.τ).loc Cert.MixInDxIdeal.main_arg5) = m ((c.tc : Thread Cert.MixInDxIdeal.nD Cert.MixInDxIdeal.τ).loc Cert.MixInDxIdeal.main_arg5)
          ∧ r.2.mem ((c.tc : Thread Cert.MixInDxIdeal.nD Cert.MixInDxIdeal.τ).loc Cert.MixInDxIdeal.main_arg6) = m ((c.tc : Thread Cert.MixInDxIdeal.nD Cert.MixInDxIdeal.τ).loc Cert.MixInDxIdeal.main_arg6)
          ∧ r.2.mem ((c.tc : Thread Cert.MixInDxIdeal.nD Cert.MixInDxIdeal.τ).loc Cert.MixInDxIdeal.main_arg7) = m ((c.tc : Thread Cert.MixInDxIdeal.nD Cert.MixInDxIdeal.τ).loc Cert.MixInDxIdeal.main_arg7)
          ∧ r.2.mem ((c.tc : Thread Cert.MixInDxIdeal.nD Cert.MixInDxIdeal.τ).loc Cert.MixInDxIdeal.main_arg8) = m ((c.tc : Thread Cert.MixInDxIdeal.nD Cert.MixInDxIdeal.τ).loc Cert.MixInDxIdeal.main_arg8))
      ∧ θ_run (Cert.MixInDxRefIdeal.defs (F := Ideal)) (onTc (τ := Cert.MixInDxRefIdeal.τ) (Cert.MixInDxRefIdeal.main (F := Ideal))) ⟨m', fun _ => 0, g'⟩ (fun r => ∀ c : Dev Cert.MixInDxRefIdeal.nD,
          r.2.mem ((c.tc : Thread Cert.MixInDxRefIdeal.nD Cert.MixInDxRefIdeal.τ).loc Cert.MixInDxRefIdeal.main_v3) = v0 c
          ∧ r.2.mem ((c.tc : Thread Cert.MixInDxRefIdeal.nD Cert.MixInDxRefIdeal.τ).loc Cert.MixInDxRefIdeal.main_arg0) = m' ((c.tc : Thread Cert.MixInDxRefIdeal.nD Cert.MixInDxRefIdeal.τ).loc Cert.MixInDxRefIdeal.main_arg0)
          ∧ r.2.mem ((c.tc : Thread Cert.MixInDxRefIdeal.nD Cert.MixInDxRefIdeal.τ).loc Cert.MixInDxRefIdeal.main_arg1) = m' ((c.tc : Thread Cert.MixInDxRefIdeal.nD Cert.MixInDxRefIdeal.τ).loc Cert.MixInDxRefIdeal.main_arg1)
          ∧ r.2.mem ((c.tc : Thread Cert.MixInDxRefIdeal.nD Cert.MixInDxRefIdeal.τ).loc Cert.MixInDxRefIdeal.main_arg2) = m' ((c.tc : Thread Cert.MixInDxRefIdeal.nD Cert.MixInDxRefIdeal.τ).loc Cert.MixInDxRefIdeal.main_arg2)
          ∧ r.2.mem ((c.tc : Thread Cert.MixInDxRefIdeal.nD Cert.MixInDxRefIdeal.τ).loc Cert.MixInDxRefIdeal.main_arg3) = m' ((c.tc : Thread Cert.MixInDxRefIdeal.nD Cert.MixInDxRefIdeal.τ).loc Cert.MixInDxRefIdeal.main_arg3)
          ∧ r.2.mem ((c.tc : Thread Cert.MixInDxRefIdeal.nD Cert.MixInDxRefIdeal.τ).loc Cert.MixInDxRefIdeal.main_arg4) = m' ((c.tc : Thread Cert.MixInDxRefIdeal.nD Cert.MixInDxRefIdeal.τ).loc Cert.MixInDxRefIdeal.main_arg4)
          ∧ r.2.mem ((c.tc : Thread Cert.MixInDxRefIdeal.nD Cert.MixInDxRefIdeal.τ).loc Cert.MixInDxRefIdeal.main_arg5) = m' ((c.tc : Thread Cert.MixInDxRefIdeal.nD Cert.MixInDxRefIdeal.τ).loc Cert.MixInDxRefIdeal.main_arg5)
          ∧ r.2.mem ((c.tc : Thread Cert.MixInDxRefIdeal.nD Cert.MixInDxRefIdeal.τ).loc Cert.MixInDxRefIdeal.main_arg6) = m' ((c.tc : Thread Cert.MixInDxRefIdeal.nD Cert.MixInDxRefIdeal.τ).loc Cert.MixInDxRefIdeal.main_arg6)
          ∧ r.2.mem ((c.tc : Thread Cert.MixInDxRefIdeal.nD Cert.MixInDxRefIdeal.τ).loc Cert.MixInDxRefIdeal.main_arg7) = m' ((c.tc : Thread Cert.MixInDxRefIdeal.nD Cert.MixInDxRefIdeal.τ).loc Cert.MixInDxRefIdeal.main_arg7)
          ∧ r.2.mem ((c.tc : Thread Cert.MixInDxRefIdeal.nD Cert.MixInDxRefIdeal.τ).loc Cert.MixInDxRefIdeal.main_arg8) = m' ((c.tc : Thread Cert.MixInDxRefIdeal.nD Cert.MixInDxRefIdeal.τ).loc Cert.MixInDxRefIdeal.main_arg8))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v10)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v10) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v4) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_MixDw0_MixDw0Ideal : Prop :=
  True

def algebraic_MixDw0Ideal_MixDw0RefIdeal [hMixDw0Ideal : Cert.MixDw0Ideal.Facts] [hMixDw0RefIdeal : Cert.MixDw0RefIdeal.Facts] : Prop :=
  ∀ (m : (ℓ : Loc Cert.MixDw0Ideal.nD Cert.MixDw0Ideal.τ Cert.MixDw0Ideal.sig) → Buf (Elt Ideal) ℓ) (g : Dev Cert.MixDw0Ideal.nD → PrngReg)
    (m' : (ℓ : Loc Cert.MixDw0RefIdeal.nD Cert.MixDw0RefIdeal.τ Cert.MixDw0RefIdeal.sig) → Buf (Elt Ideal) ℓ) (g' : Dev Cert.MixDw0RefIdeal.nD → PrngReg), Pre_MixDw0Ideal m →
    (∀ c : Dev Cert.MixDw0Ideal.nD,
      m' ((c.tc : Thread Cert.MixDw0RefIdeal.nD Cert.MixDw0RefIdeal.τ).loc Cert.MixDw0RefIdeal.main_arg0) = m ((c.tc : Thread Cert.MixDw0Ideal.nD Cert.MixDw0Ideal.τ).loc Cert.MixDw0Ideal.main_arg0)
      ∧ m' ((c.tc : Thread Cert.MixDw0RefIdeal.nD Cert.MixDw0RefIdeal.τ).loc Cert.MixDw0RefIdeal.main_arg1) = m ((c.tc : Thread Cert.MixDw0Ideal.nD Cert.MixDw0Ideal.τ).loc Cert.MixDw0Ideal.main_arg1)
      ∧ m' ((c.tc : Thread Cert.MixDw0RefIdeal.nD Cert.MixDw0RefIdeal.τ).loc Cert.MixDw0RefIdeal.main_arg2) = m ((c.tc : Thread Cert.MixDw0Ideal.nD Cert.MixDw0Ideal.τ).loc Cert.MixDw0Ideal.main_arg2)) →
    ∃ (v0 : (c : Dev Cert.MixDw0Ideal.nD) → Buf (Elt Ideal) ((c.tc : Thread Cert.MixDw0Ideal.nD Cert.MixDw0Ideal.τ).loc Cert.MixDw0Ideal.main_v4)),
      θ_run (Cert.MixDw0Ideal.defs (F := Ideal)) (onTc (τ := Cert.MixDw0Ideal.τ) (Cert.MixDw0Ideal.main (F := Ideal))) ⟨m, fun _ => 0, g⟩ (fun r => ∀ c : Dev Cert.MixDw0Ideal.nD,
          r.2.mem ((c.tc : Thread Cert.MixDw0Ideal.nD Cert.MixDw0Ideal.τ).loc Cert.MixDw0Ideal.main_v4) = v0 c
          ∧ r.2.mem ((c.tc : Thread Cert.MixDw0Ideal.nD Cert.MixDw0Ideal.τ).loc Cert.MixDw0Ideal.main_arg0) = m ((c.tc : Thread Cert.MixDw0Ideal.nD Cert.MixDw0Ideal.τ).loc Cert.MixDw0Ideal.main_arg0)
          ∧ r.2.mem ((c.tc : Thread Cert.MixDw0Ideal.nD Cert.MixDw0Ideal.τ).loc Cert.MixDw0Ideal.main_arg1) = m ((c.tc : Thread Cert.MixDw0Ideal.nD Cert.MixDw0Ideal.τ).loc Cert.MixDw0Ideal.main_arg1)
          ∧ r.2.mem ((c.tc : Thread Cert.MixDw0Ideal.nD Cert.MixDw0Ideal.τ).loc Cert.MixDw0Ideal.main_arg2) = m ((c.tc : Thread Cert.MixDw0Ideal.nD Cert.MixDw0Ideal.τ).loc Cert.MixDw0Ideal.main_arg2))
      ∧ θ_run (Cert.MixDw0RefIdeal.defs (F := Ideal)) (onTc (τ := Cert.MixDw0RefIdeal.τ) (Cert.MixDw0RefIdeal.main (F := Ideal))) ⟨m', fun _ => 0, g'⟩ (fun r => ∀ c : Dev Cert.MixDw0RefIdeal.nD,
          r.2.mem ((c.tc : Thread Cert.MixDw0RefIdeal.nD Cert.MixDw0RefIdeal.τ).loc Cert.MixDw0RefIdeal.main_v9) = v0 c
          ∧ r.2.mem ((c.tc : Thread Cert.MixDw0RefIdeal.nD Cert.MixDw0RefIdeal.τ).loc Cert.MixDw0RefIdeal.main_arg0) = m' ((c.tc : Thread Cert.MixDw0RefIdeal.nD Cert.MixDw0RefIdeal.τ).loc Cert.MixDw0RefIdeal.main_arg0)
          ∧ r.2.mem ((c.tc : Thread Cert.MixDw0RefIdeal.nD Cert.MixDw0RefIdeal.τ).loc Cert.MixDw0RefIdeal.main_arg1) = m' ((c.tc : Thread Cert.MixDw0RefIdeal.nD Cert.MixDw0RefIdeal.τ).loc Cert.MixDw0RefIdeal.main_arg1)
          ∧ r.2.mem ((c.tc : Thread Cert.MixDw0RefIdeal.nD Cert.MixDw0RefIdeal.τ).loc Cert.MixDw0RefIdeal.main_arg2) = m' ((c.tc : Thread Cert.MixDw0RefIdeal.nD Cert.MixDw0RefIdeal.τ).loc Cert.MixDw0RefIdeal.main_arg2))

def preserves_MixDw1_MixDw1Ideal : Prop :=
  True

def algebraic_MixDw1Ideal_MixDw1RefIdeal [hMixDw1Ideal : Cert.MixDw1Ideal.Facts] [hMixDw1RefIdeal : Cert.MixDw1RefIdeal.Facts] : Prop :=
  ∀ (m : (ℓ : Loc Cert.MixDw1Ideal.nD Cert.MixDw1Ideal.τ Cert.MixDw1Ideal.sig) → Buf (Elt Ideal) ℓ) (g : Dev Cert.MixDw1Ideal.nD → PrngReg)
    (m' : (ℓ : Loc Cert.MixDw1RefIdeal.nD Cert.MixDw1RefIdeal.τ Cert.MixDw1RefIdeal.sig) → Buf (Elt Ideal) ℓ) (g' : Dev Cert.MixDw1RefIdeal.nD → PrngReg), Pre_MixDw1Ideal m →
    (∀ c : Dev Cert.MixDw1Ideal.nD,
      m' ((c.tc : Thread Cert.MixDw1RefIdeal.nD Cert.MixDw1RefIdeal.τ).loc Cert.MixDw1RefIdeal.main_arg0) = m ((c.tc : Thread Cert.MixDw1Ideal.nD Cert.MixDw1Ideal.τ).loc Cert.MixDw1Ideal.main_arg0)
      ∧ m' ((c.tc : Thread Cert.MixDw1RefIdeal.nD Cert.MixDw1RefIdeal.τ).loc Cert.MixDw1RefIdeal.main_arg1) = m ((c.tc : Thread Cert.MixDw1Ideal.nD Cert.MixDw1Ideal.τ).loc Cert.MixDw1Ideal.main_arg1)
      ∧ m' ((c.tc : Thread Cert.MixDw1RefIdeal.nD Cert.MixDw1RefIdeal.τ).loc Cert.MixDw1RefIdeal.main_arg2) = m ((c.tc : Thread Cert.MixDw1Ideal.nD Cert.MixDw1Ideal.τ).loc Cert.MixDw1Ideal.main_arg2)) →
    ∃ (v0 : (c : Dev Cert.MixDw1Ideal.nD) → Buf (Elt Ideal) ((c.tc : Thread Cert.MixDw1Ideal.nD Cert.MixDw1Ideal.τ).loc Cert.MixDw1Ideal.main_v2)),
      θ_run (Cert.MixDw1Ideal.defs (F := Ideal)) (onTc (τ := Cert.MixDw1Ideal.τ) (Cert.MixDw1Ideal.main (F := Ideal))) ⟨m, fun _ => 0, g⟩ (fun r => ∀ c : Dev Cert.MixDw1Ideal.nD,
          r.2.mem ((c.tc : Thread Cert.MixDw1Ideal.nD Cert.MixDw1Ideal.τ).loc Cert.MixDw1Ideal.main_v2) = v0 c
          ∧ r.2.mem ((c.tc : Thread Cert.MixDw1Ideal.nD Cert.MixDw1Ideal.τ).loc Cert.MixDw1Ideal.main_arg0) = m ((c.tc : Thread Cert.MixDw1Ideal.nD Cert.MixDw1Ideal.τ).loc Cert.MixDw1Ideal.main_arg0)
          ∧ r.2.mem ((c.tc : Thread Cert.MixDw1Ideal.nD Cert.MixDw1Ideal.τ).loc Cert.MixDw1Ideal.main_arg1) = m ((c.tc : Thread Cert.MixDw1Ideal.nD Cert.MixDw1Ideal.τ).loc Cert.MixDw1Ideal.main_arg1)
          ∧ r.2.mem ((c.tc : Thread Cert.MixDw1Ideal.nD Cert.MixDw1Ideal.τ).loc Cert.MixDw1Ideal.main_arg2) = m ((c.tc : Thread Cert.MixDw1Ideal.nD Cert.MixDw1Ideal.τ).loc Cert.MixDw1Ideal.main_arg2))
      ∧ θ_run (Cert.MixDw1RefIdeal.defs (F := Ideal)) (onTc (τ := Cert.MixDw1RefIdeal.τ) (Cert.MixDw1RefIdeal.main (F := Ideal))) ⟨m', fun _ => 0, g'⟩ (fun r => ∀ c : Dev Cert.MixDw1RefIdeal.nD,
          r.2.mem ((c.tc : Thread Cert.MixDw1RefIdeal.nD Cert.MixDw1RefIdeal.τ).loc Cert.MixDw1RefIdeal.main_v8) = v0 c
          ∧ r.2.mem ((c.tc : Thread Cert.MixDw1RefIdeal.nD Cert.MixDw1RefIdeal.τ).loc Cert.MixDw1RefIdeal.main_arg0) = m' ((c.tc : Thread Cert.MixDw1RefIdeal.nD Cert.MixDw1RefIdeal.τ).loc Cert.MixDw1RefIdeal.main_arg0)
          ∧ r.2.mem ((c.tc : Thread Cert.MixDw1RefIdeal.nD Cert.MixDw1RefIdeal.τ).loc Cert.MixDw1RefIdeal.main_arg1) = m' ((c.tc : Thread Cert.MixDw1RefIdeal.nD Cert.MixDw1RefIdeal.τ).loc Cert.MixDw1RefIdeal.main_arg1)
          ∧ r.2.mem ((c.tc : Thread Cert.MixDw1RefIdeal.nD Cert.MixDw1RefIdeal.τ).loc Cert.MixDw1RefIdeal.main_arg2) = m' ((c.tc : Thread Cert.MixDw1RefIdeal.nD Cert.MixDw1RefIdeal.τ).loc Cert.MixDw1RefIdeal.main_arg2))

def preserves_MixDw2_MixDw2Ideal : Prop :=
  True

def algebraic_MixDw2Ideal_MixDw2RefIdeal [hMixDw2Ideal : Cert.MixDw2Ideal.Facts] [hMixDw2RefIdeal : Cert.MixDw2RefIdeal.Facts] : Prop :=
  ∀ (m : (ℓ : Loc Cert.MixDw2Ideal.nD Cert.MixDw2Ideal.τ Cert.MixDw2Ideal.sig) → Buf (Elt Ideal) ℓ) (g : Dev Cert.MixDw2Ideal.nD → PrngReg)
    (m' : (ℓ : Loc Cert.MixDw2RefIdeal.nD Cert.MixDw2RefIdeal.τ Cert.MixDw2RefIdeal.sig) → Buf (Elt Ideal) ℓ) (g' : Dev Cert.MixDw2RefIdeal.nD → PrngReg), Pre_MixDw2Ideal m →
    (∀ c : Dev Cert.MixDw2Ideal.nD,
      m' ((c.tc : Thread Cert.MixDw2RefIdeal.nD Cert.MixDw2RefIdeal.τ).loc Cert.MixDw2RefIdeal.main_arg0) = m ((c.tc : Thread Cert.MixDw2Ideal.nD Cert.MixDw2Ideal.τ).loc Cert.MixDw2Ideal.main_arg0)
      ∧ m' ((c.tc : Thread Cert.MixDw2RefIdeal.nD Cert.MixDw2RefIdeal.τ).loc Cert.MixDw2RefIdeal.main_arg1) = m ((c.tc : Thread Cert.MixDw2Ideal.nD Cert.MixDw2Ideal.τ).loc Cert.MixDw2Ideal.main_arg1)
      ∧ m' ((c.tc : Thread Cert.MixDw2RefIdeal.nD Cert.MixDw2RefIdeal.τ).loc Cert.MixDw2RefIdeal.main_arg2) = m ((c.tc : Thread Cert.MixDw2Ideal.nD Cert.MixDw2Ideal.τ).loc Cert.MixDw2Ideal.main_arg2)) →
    ∃ (v0 : (c : Dev Cert.MixDw2Ideal.nD) → Buf (Elt Ideal) ((c.tc : Thread Cert.MixDw2Ideal.nD Cert.MixDw2Ideal.τ).loc Cert.MixDw2Ideal.main_v2)),
      θ_run (Cert.MixDw2Ideal.defs (F := Ideal)) (onTc (τ := Cert.MixDw2Ideal.τ) (Cert.MixDw2Ideal.main (F := Ideal))) ⟨m, fun _ => 0, g⟩ (fun r => ∀ c : Dev Cert.MixDw2Ideal.nD,
          r.2.mem ((c.tc : Thread Cert.MixDw2Ideal.nD Cert.MixDw2Ideal.τ).loc Cert.MixDw2Ideal.main_v2) = v0 c
          ∧ r.2.mem ((c.tc : Thread Cert.MixDw2Ideal.nD Cert.MixDw2Ideal.τ).loc Cert.MixDw2Ideal.main_arg0) = m ((c.tc : Thread Cert.MixDw2Ideal.nD Cert.MixDw2Ideal.τ).loc Cert.MixDw2Ideal.main_arg0)
          ∧ r.2.mem ((c.tc : Thread Cert.MixDw2Ideal.nD Cert.MixDw2Ideal.τ).loc Cert.MixDw2Ideal.main_arg1) = m ((c.tc : Thread Cert.MixDw2Ideal.nD Cert.MixDw2Ideal.τ).loc Cert.MixDw2Ideal.main_arg1)
          ∧ r.2.mem ((c.tc : Thread Cert.MixDw2Ideal.nD Cert.MixDw2Ideal.τ).loc Cert.MixDw2Ideal.main_arg2) = m ((c.tc : Thread Cert.MixDw2Ideal.nD Cert.MixDw2Ideal.τ).loc Cert.MixDw2Ideal.main_arg2))
      ∧ θ_run (Cert.MixDw2RefIdeal.defs (F := Ideal)) (onTc (τ := Cert.MixDw2RefIdeal.τ) (Cert.MixDw2RefIdeal.main (F := Ideal))) ⟨m', fun _ => 0, g'⟩ (fun r => ∀ c : Dev Cert.MixDw2RefIdeal.nD,
          r.2.mem ((c.tc : Thread Cert.MixDw2RefIdeal.nD Cert.MixDw2RefIdeal.τ).loc Cert.MixDw2RefIdeal.main_v8) = v0 c
          ∧ r.2.mem ((c.tc : Thread Cert.MixDw2RefIdeal.nD Cert.MixDw2RefIdeal.τ).loc Cert.MixDw2RefIdeal.main_arg0) = m' ((c.tc : Thread Cert.MixDw2RefIdeal.nD Cert.MixDw2RefIdeal.τ).loc Cert.MixDw2RefIdeal.main_arg0)
          ∧ r.2.mem ((c.tc : Thread Cert.MixDw2RefIdeal.nD Cert.MixDw2RefIdeal.τ).loc Cert.MixDw2RefIdeal.main_arg1) = m' ((c.tc : Thread Cert.MixDw2RefIdeal.nD Cert.MixDw2RefIdeal.τ).loc Cert.MixDw2RefIdeal.main_arg1)
          ∧ r.2.mem ((c.tc : Thread Cert.MixDw2RefIdeal.nD Cert.MixDw2RefIdeal.τ).loc Cert.MixDw2RefIdeal.main_arg2) = m' ((c.tc : Thread Cert.MixDw2RefIdeal.nD Cert.MixDw2RefIdeal.τ).loc Cert.MixDw2RefIdeal.main_arg2))

def preserves_MixDw3_MixDw3Ideal : Prop :=
  True

def algebraic_MixDw3Ideal_MixDw3RefIdeal [hMixDw3Ideal : Cert.MixDw3Ideal.Facts] [hMixDw3RefIdeal : Cert.MixDw3RefIdeal.Facts] : Prop :=
  ∀ (m : (ℓ : Loc Cert.MixDw3Ideal.nD Cert.MixDw3Ideal.τ Cert.MixDw3Ideal.sig) → Buf (Elt Ideal) ℓ) (g : Dev Cert.MixDw3Ideal.nD → PrngReg)
    (m' : (ℓ : Loc Cert.MixDw3RefIdeal.nD Cert.MixDw3RefIdeal.τ Cert.MixDw3RefIdeal.sig) → Buf (Elt Ideal) ℓ) (g' : Dev Cert.MixDw3RefIdeal.nD → PrngReg), Pre_MixDw3Ideal m →
    (∀ c : Dev Cert.MixDw3Ideal.nD,
      m' ((c.tc : Thread Cert.MixDw3RefIdeal.nD Cert.MixDw3RefIdeal.τ).loc Cert.MixDw3RefIdeal.main_arg0) = m ((c.tc : Thread Cert.MixDw3Ideal.nD Cert.MixDw3Ideal.τ).loc Cert.MixDw3Ideal.main_arg0)
      ∧ m' ((c.tc : Thread Cert.MixDw3RefIdeal.nD Cert.MixDw3RefIdeal.τ).loc Cert.MixDw3RefIdeal.main_arg1) = m ((c.tc : Thread Cert.MixDw3Ideal.nD Cert.MixDw3Ideal.τ).loc Cert.MixDw3Ideal.main_arg1)
      ∧ m' ((c.tc : Thread Cert.MixDw3RefIdeal.nD Cert.MixDw3RefIdeal.τ).loc Cert.MixDw3RefIdeal.main_arg2) = m ((c.tc : Thread Cert.MixDw3Ideal.nD Cert.MixDw3Ideal.τ).loc Cert.MixDw3Ideal.main_arg2)) →
    ∃ (v0 : (c : Dev Cert.MixDw3Ideal.nD) → Buf (Elt Ideal) ((c.tc : Thread Cert.MixDw3Ideal.nD Cert.MixDw3Ideal.τ).loc Cert.MixDw3Ideal.main_v2)),
      θ_run (Cert.MixDw3Ideal.defs (F := Ideal)) (onTc (τ := Cert.MixDw3Ideal.τ) (Cert.MixDw3Ideal.main (F := Ideal))) ⟨m, fun _ => 0, g⟩ (fun r => ∀ c : Dev Cert.MixDw3Ideal.nD,
          r.2.mem ((c.tc : Thread Cert.MixDw3Ideal.nD Cert.MixDw3Ideal.τ).loc Cert.MixDw3Ideal.main_v2) = v0 c
          ∧ r.2.mem ((c.tc : Thread Cert.MixDw3Ideal.nD Cert.MixDw3Ideal.τ).loc Cert.MixDw3Ideal.main_arg0) = m ((c.tc : Thread Cert.MixDw3Ideal.nD Cert.MixDw3Ideal.τ).loc Cert.MixDw3Ideal.main_arg0)
          ∧ r.2.mem ((c.tc : Thread Cert.MixDw3Ideal.nD Cert.MixDw3Ideal.τ).loc Cert.MixDw3Ideal.main_arg1) = m ((c.tc : Thread Cert.MixDw3Ideal.nD Cert.MixDw3Ideal.τ).loc Cert.MixDw3Ideal.main_arg1)
          ∧ r.2.mem ((c.tc : Thread Cert.MixDw3Ideal.nD Cert.MixDw3Ideal.τ).loc Cert.MixDw3Ideal.main_arg2) = m ((c.tc : Thread Cert.MixDw3Ideal.nD Cert.MixDw3Ideal.τ).loc Cert.MixDw3Ideal.main_arg2))
      ∧ θ_run (Cert.MixDw3RefIdeal.defs (F := Ideal)) (onTc (τ := Cert.MixDw3RefIdeal.τ) (Cert.MixDw3RefIdeal.main (F := Ideal))) ⟨m', fun _ => 0, g'⟩ (fun r => ∀ c : Dev Cert.MixDw3RefIdeal.nD,
          r.2.mem ((c.tc : Thread Cert.MixDw3RefIdeal.nD Cert.MixDw3RefIdeal.τ).loc Cert.MixDw3RefIdeal.main_v8) = v0 c
          ∧ r.2.mem ((c.tc : Thread Cert.MixDw3RefIdeal.nD Cert.MixDw3RefIdeal.τ).loc Cert.MixDw3RefIdeal.main_arg0) = m' ((c.tc : Thread Cert.MixDw3RefIdeal.nD Cert.MixDw3RefIdeal.τ).loc Cert.MixDw3RefIdeal.main_arg0)
          ∧ r.2.mem ((c.tc : Thread Cert.MixDw3RefIdeal.nD Cert.MixDw3RefIdeal.τ).loc Cert.MixDw3RefIdeal.main_arg1) = m' ((c.tc : Thread Cert.MixDw3RefIdeal.nD Cert.MixDw3RefIdeal.τ).loc Cert.MixDw3RefIdeal.main_arg1)
          ∧ r.2.mem ((c.tc : Thread Cert.MixDw3RefIdeal.nD Cert.MixDw3RefIdeal.τ).loc Cert.MixDw3RefIdeal.main_arg2) = m' ((c.tc : Thread Cert.MixDw3RefIdeal.nD Cert.MixDw3RefIdeal.τ).loc Cert.MixDw3RefIdeal.main_arg2))

def preserves_MixDw4_MixDw4Ideal : Prop :=
  True

def algebraic_MixDw4Ideal_MixDw4RefIdeal [hMixDw4Ideal : Cert.MixDw4Ideal.Facts] [hMixDw4RefIdeal : Cert.MixDw4RefIdeal.Facts] : Prop :=
  ∀ (m : (ℓ : Loc Cert.MixDw4Ideal.nD Cert.MixDw4Ideal.τ Cert.MixDw4Ideal.sig) → Buf (Elt Ideal) ℓ) (g : Dev Cert.MixDw4Ideal.nD → PrngReg)
    (m' : (ℓ : Loc Cert.MixDw4RefIdeal.nD Cert.MixDw4RefIdeal.τ Cert.MixDw4RefIdeal.sig) → Buf (Elt Ideal) ℓ) (g' : Dev Cert.MixDw4RefIdeal.nD → PrngReg), Pre_MixDw4Ideal m →
    (∀ c : Dev Cert.MixDw4Ideal.nD,
      m' ((c.tc : Thread Cert.MixDw4RefIdeal.nD Cert.MixDw4RefIdeal.τ).loc Cert.MixDw4RefIdeal.main_arg0) = m ((c.tc : Thread Cert.MixDw4Ideal.nD Cert.MixDw4Ideal.τ).loc Cert.MixDw4Ideal.main_arg0)
      ∧ m' ((c.tc : Thread Cert.MixDw4RefIdeal.nD Cert.MixDw4RefIdeal.τ).loc Cert.MixDw4RefIdeal.main_arg1) = m ((c.tc : Thread Cert.MixDw4Ideal.nD Cert.MixDw4Ideal.τ).loc Cert.MixDw4Ideal.main_arg1)
      ∧ m' ((c.tc : Thread Cert.MixDw4RefIdeal.nD Cert.MixDw4RefIdeal.τ).loc Cert.MixDw4RefIdeal.main_arg2) = m ((c.tc : Thread Cert.MixDw4Ideal.nD Cert.MixDw4Ideal.τ).loc Cert.MixDw4Ideal.main_arg2)) →
    ∃ (v0 : (c : Dev Cert.MixDw4Ideal.nD) → Buf (Elt Ideal) ((c.tc : Thread Cert.MixDw4Ideal.nD Cert.MixDw4Ideal.τ).loc Cert.MixDw4Ideal.main_v2)),
      θ_run (Cert.MixDw4Ideal.defs (F := Ideal)) (onTc (τ := Cert.MixDw4Ideal.τ) (Cert.MixDw4Ideal.main (F := Ideal))) ⟨m, fun _ => 0, g⟩ (fun r => ∀ c : Dev Cert.MixDw4Ideal.nD,
          r.2.mem ((c.tc : Thread Cert.MixDw4Ideal.nD Cert.MixDw4Ideal.τ).loc Cert.MixDw4Ideal.main_v2) = v0 c
          ∧ r.2.mem ((c.tc : Thread Cert.MixDw4Ideal.nD Cert.MixDw4Ideal.τ).loc Cert.MixDw4Ideal.main_arg0) = m ((c.tc : Thread Cert.MixDw4Ideal.nD Cert.MixDw4Ideal.τ).loc Cert.MixDw4Ideal.main_arg0)
          ∧ r.2.mem ((c.tc : Thread Cert.MixDw4Ideal.nD Cert.MixDw4Ideal.τ).loc Cert.MixDw4Ideal.main_arg1) = m ((c.tc : Thread Cert.MixDw4Ideal.nD Cert.MixDw4Ideal.τ).loc Cert.MixDw4Ideal.main_arg1)
          ∧ r.2.mem ((c.tc : Thread Cert.MixDw4Ideal.nD Cert.MixDw4Ideal.τ).loc Cert.MixDw4Ideal.main_arg2) = m ((c.tc : Thread Cert.MixDw4Ideal.nD Cert.MixDw4Ideal.τ).loc Cert.MixDw4Ideal.main_arg2))
      ∧ θ_run (Cert.MixDw4RefIdeal.defs (F := Ideal)) (onTc (τ := Cert.MixDw4RefIdeal.τ) (Cert.MixDw4RefIdeal.main (F := Ideal))) ⟨m', fun _ => 0, g'⟩ (fun r => ∀ c : Dev Cert.MixDw4RefIdeal.nD,
          r.2.mem ((c.tc : Thread Cert.MixDw4RefIdeal.nD Cert.MixDw4RefIdeal.τ).loc Cert.MixDw4RefIdeal.main_v8) = v0 c
          ∧ r.2.mem ((c.tc : Thread Cert.MixDw4RefIdeal.nD Cert.MixDw4RefIdeal.τ).loc Cert.MixDw4RefIdeal.main_arg0) = m' ((c.tc : Thread Cert.MixDw4RefIdeal.nD Cert.MixDw4RefIdeal.τ).loc Cert.MixDw4RefIdeal.main_arg0)
          ∧ r.2.mem ((c.tc : Thread Cert.MixDw4RefIdeal.nD Cert.MixDw4RefIdeal.τ).loc Cert.MixDw4RefIdeal.main_arg1) = m' ((c.tc : Thread Cert.MixDw4RefIdeal.nD Cert.MixDw4RefIdeal.τ).loc Cert.MixDw4RefIdeal.main_arg1)
          ∧ r.2.mem ((c.tc : Thread Cert.MixDw4RefIdeal.nD Cert.MixDw4RefIdeal.τ).loc Cert.MixDw4RefIdeal.main_arg2) = m' ((c.tc : Thread Cert.MixDw4RefIdeal.nD Cert.MixDw4RefIdeal.τ).loc Cert.MixDw4RefIdeal.main_arg2))

def preserves_MixDw5_MixDw5Ideal : Prop :=
  True

def algebraic_MixDw5Ideal_MixDw5RefIdeal [hMixDw5Ideal : Cert.MixDw5Ideal.Facts] [hMixDw5RefIdeal : Cert.MixDw5RefIdeal.Facts] : Prop :=
  ∀ (m : (ℓ : Loc Cert.MixDw5Ideal.nD Cert.MixDw5Ideal.τ Cert.MixDw5Ideal.sig) → Buf (Elt Ideal) ℓ) (g : Dev Cert.MixDw5Ideal.nD → PrngReg)
    (m' : (ℓ : Loc Cert.MixDw5RefIdeal.nD Cert.MixDw5RefIdeal.τ Cert.MixDw5RefIdeal.sig) → Buf (Elt Ideal) ℓ) (g' : Dev Cert.MixDw5RefIdeal.nD → PrngReg), Pre_MixDw5Ideal m →
    (∀ c : Dev Cert.MixDw5Ideal.nD,
      m' ((c.tc : Thread Cert.MixDw5RefIdeal.nD Cert.MixDw5RefIdeal.τ).loc Cert.MixDw5RefIdeal.main_arg0) = m ((c.tc : Thread Cert.MixDw5Ideal.nD Cert.MixDw5Ideal.τ).loc Cert.MixDw5Ideal.main_arg0)
      ∧ m' ((c.tc : Thread Cert.MixDw5RefIdeal.nD Cert.MixDw5RefIdeal.τ).loc Cert.MixDw5RefIdeal.main_arg1) = m ((c.tc : Thread Cert.MixDw5Ideal.nD Cert.MixDw5Ideal.τ).loc Cert.MixDw5Ideal.main_arg1)
      ∧ m' ((c.tc : Thread Cert.MixDw5RefIdeal.nD Cert.MixDw5RefIdeal.τ).loc Cert.MixDw5RefIdeal.main_arg2) = m ((c.tc : Thread Cert.MixDw5Ideal.nD Cert.MixDw5Ideal.τ).loc Cert.MixDw5Ideal.main_arg2)) →
    ∃ (v0 : (c : Dev Cert.MixDw5Ideal.nD) → Buf (Elt Ideal) ((c.tc : Thread Cert.MixDw5Ideal.nD Cert.MixDw5Ideal.τ).loc Cert.MixDw5Ideal.main_v2)),
      θ_run (Cert.MixDw5Ideal.defs (F := Ideal)) (onTc (τ := Cert.MixDw5Ideal.τ) (Cert.MixDw5Ideal.main (F := Ideal))) ⟨m, fun _ => 0, g⟩ (fun r => ∀ c : Dev Cert.MixDw5Ideal.nD,
          r.2.mem ((c.tc : Thread Cert.MixDw5Ideal.nD Cert.MixDw5Ideal.τ).loc Cert.MixDw5Ideal.main_v2) = v0 c
          ∧ r.2.mem ((c.tc : Thread Cert.MixDw5Ideal.nD Cert.MixDw5Ideal.τ).loc Cert.MixDw5Ideal.main_arg0) = m ((c.tc : Thread Cert.MixDw5Ideal.nD Cert.MixDw5Ideal.τ).loc Cert.MixDw5Ideal.main_arg0)
          ∧ r.2.mem ((c.tc : Thread Cert.MixDw5Ideal.nD Cert.MixDw5Ideal.τ).loc Cert.MixDw5Ideal.main_arg1) = m ((c.tc : Thread Cert.MixDw5Ideal.nD Cert.MixDw5Ideal.τ).loc Cert.MixDw5Ideal.main_arg1)
          ∧ r.2.mem ((c.tc : Thread Cert.MixDw5Ideal.nD Cert.MixDw5Ideal.τ).loc Cert.MixDw5Ideal.main_arg2) = m ((c.tc : Thread Cert.MixDw5Ideal.nD Cert.MixDw5Ideal.τ).loc Cert.MixDw5Ideal.main_arg2))
      ∧ θ_run (Cert.MixDw5RefIdeal.defs (F := Ideal)) (onTc (τ := Cert.MixDw5RefIdeal.τ) (Cert.MixDw5RefIdeal.main (F := Ideal))) ⟨m', fun _ => 0, g'⟩ (fun r => ∀ c : Dev Cert.MixDw5RefIdeal.nD,
          r.2.mem ((c.tc : Thread Cert.MixDw5RefIdeal.nD Cert.MixDw5RefIdeal.τ).loc Cert.MixDw5RefIdeal.main_v8) = v0 c
          ∧ r.2.mem ((c.tc : Thread Cert.MixDw5RefIdeal.nD Cert.MixDw5RefIdeal.τ).loc Cert.MixDw5RefIdeal.main_arg0) = m' ((c.tc : Thread Cert.MixDw5RefIdeal.nD Cert.MixDw5RefIdeal.τ).loc Cert.MixDw5RefIdeal.main_arg0)
          ∧ r.2.mem ((c.tc : Thread Cert.MixDw5RefIdeal.nD Cert.MixDw5RefIdeal.τ).loc Cert.MixDw5RefIdeal.main_arg1) = m' ((c.tc : Thread Cert.MixDw5RefIdeal.nD Cert.MixDw5RefIdeal.τ).loc Cert.MixDw5RefIdeal.main_arg1)
          ∧ r.2.mem ((c.tc : Thread Cert.MixDw5RefIdeal.nD Cert.MixDw5RefIdeal.τ).loc Cert.MixDw5RefIdeal.main_arg2) = m' ((c.tc : Thread Cert.MixDw5RefIdeal.nD Cert.MixDw5RefIdeal.τ).loc Cert.MixDw5RefIdeal.main_arg2))

def preserves_MixDw6_MixDw6Ideal : Prop :=
  True

def algebraic_MixDw6Ideal_MixDw6RefIdeal [hMixDw6Ideal : Cert.MixDw6Ideal.Facts] [hMixDw6RefIdeal : Cert.MixDw6RefIdeal.Facts] : Prop :=
  ∀ (m : (ℓ : Loc Cert.MixDw6Ideal.nD Cert.MixDw6Ideal.τ Cert.MixDw6Ideal.sig) → Buf (Elt Ideal) ℓ) (g : Dev Cert.MixDw6Ideal.nD → PrngReg)
    (m' : (ℓ : Loc Cert.MixDw6RefIdeal.nD Cert.MixDw6RefIdeal.τ Cert.MixDw6RefIdeal.sig) → Buf (Elt Ideal) ℓ) (g' : Dev Cert.MixDw6RefIdeal.nD → PrngReg), Pre_MixDw6Ideal m →
    (∀ c : Dev Cert.MixDw6Ideal.nD,
      m' ((c.tc : Thread Cert.MixDw6RefIdeal.nD Cert.MixDw6RefIdeal.τ).loc Cert.MixDw6RefIdeal.main_arg0) = m ((c.tc : Thread Cert.MixDw6Ideal.nD Cert.MixDw6Ideal.τ).loc Cert.MixDw6Ideal.main_arg0)
      ∧ m' ((c.tc : Thread Cert.MixDw6RefIdeal.nD Cert.MixDw6RefIdeal.τ).loc Cert.MixDw6RefIdeal.main_arg1) = m ((c.tc : Thread Cert.MixDw6Ideal.nD Cert.MixDw6Ideal.τ).loc Cert.MixDw6Ideal.main_arg1)
      ∧ m' ((c.tc : Thread Cert.MixDw6RefIdeal.nD Cert.MixDw6RefIdeal.τ).loc Cert.MixDw6RefIdeal.main_arg2) = m ((c.tc : Thread Cert.MixDw6Ideal.nD Cert.MixDw6Ideal.τ).loc Cert.MixDw6Ideal.main_arg2)) →
    ∃ (v0 : (c : Dev Cert.MixDw6Ideal.nD) → Buf (Elt Ideal) ((c.tc : Thread Cert.MixDw6Ideal.nD Cert.MixDw6Ideal.τ).loc Cert.MixDw6Ideal.main_v2)),
      θ_run (Cert.MixDw6Ideal.defs (F := Ideal)) (onTc (τ := Cert.MixDw6Ideal.τ) (Cert.MixDw6Ideal.main (F := Ideal))) ⟨m, fun _ => 0, g⟩ (fun r => ∀ c : Dev Cert.MixDw6Ideal.nD,
          r.2.mem ((c.tc : Thread Cert.MixDw6Ideal.nD Cert.MixDw6Ideal.τ).loc Cert.MixDw6Ideal.main_v2) = v0 c
          ∧ r.2.mem ((c.tc : Thread Cert.MixDw6Ideal.nD Cert.MixDw6Ideal.τ).loc Cert.MixDw6Ideal.main_arg0) = m ((c.tc : Thread Cert.MixDw6Ideal.nD Cert.MixDw6Ideal.τ).loc Cert.MixDw6Ideal.main_arg0)
          ∧ r.2.mem ((c.tc : Thread Cert.MixDw6Ideal.nD Cert.MixDw6Ideal.τ).loc Cert.MixDw6Ideal.main_arg1) = m ((c.tc : Thread Cert.MixDw6Ideal.nD Cert.MixDw6Ideal.τ).loc Cert.MixDw6Ideal.main_arg1)
          ∧ r.2.mem ((c.tc : Thread Cert.MixDw6Ideal.nD Cert.MixDw6Ideal.τ).loc Cert.MixDw6Ideal.main_arg2) = m ((c.tc : Thread Cert.MixDw6Ideal.nD Cert.MixDw6Ideal.τ).loc Cert.MixDw6Ideal.main_arg2))
      ∧ θ_run (Cert.MixDw6RefIdeal.defs (F := Ideal)) (onTc (τ := Cert.MixDw6RefIdeal.τ) (Cert.MixDw6RefIdeal.main (F := Ideal))) ⟨m', fun _ => 0, g'⟩ (fun r => ∀ c : Dev Cert.MixDw6RefIdeal.nD,
          r.2.mem ((c.tc : Thread Cert.MixDw6RefIdeal.nD Cert.MixDw6RefIdeal.τ).loc Cert.MixDw6RefIdeal.main_v8) = v0 c
          ∧ r.2.mem ((c.tc : Thread Cert.MixDw6RefIdeal.nD Cert.MixDw6RefIdeal.τ).loc Cert.MixDw6RefIdeal.main_arg0) = m' ((c.tc : Thread Cert.MixDw6RefIdeal.nD Cert.MixDw6RefIdeal.τ).loc Cert.MixDw6RefIdeal.main_arg0)
          ∧ r.2.mem ((c.tc : Thread Cert.MixDw6RefIdeal.nD Cert.MixDw6RefIdeal.τ).loc Cert.MixDw6RefIdeal.main_arg1) = m' ((c.tc : Thread Cert.MixDw6RefIdeal.nD Cert.MixDw6RefIdeal.τ).loc Cert.MixDw6RefIdeal.main_arg1)
          ∧ r.2.mem ((c.tc : Thread Cert.MixDw6RefIdeal.nD Cert.MixDw6RefIdeal.τ).loc Cert.MixDw6RefIdeal.main_arg2) = m' ((c.tc : Thread Cert.MixDw6RefIdeal.nD Cert.MixDw6RefIdeal.τ).loc Cert.MixDw6RefIdeal.main_arg2))

def preserves_MlaOutDw_MlaOutDwIdeal : Prop :=
  True

def algebraic_MlaOutDwIdeal_MlaOutDwRefIdeal [hMlaOutDwIdeal : Cert.MlaOutDwIdeal.Facts] [hMlaOutDwRefIdeal : Cert.MlaOutDwRefIdeal.Facts] : Prop :=
  ∀ (m : (ℓ : Loc Cert.MlaOutDwIdeal.nD Cert.MlaOutDwIdeal.τ Cert.MlaOutDwIdeal.sig) → Buf (Elt Ideal) ℓ) (g : Dev Cert.MlaOutDwIdeal.nD → PrngReg)
    (m' : (ℓ : Loc Cert.MlaOutDwRefIdeal.nD Cert.MlaOutDwRefIdeal.τ Cert.MlaOutDwRefIdeal.sig) → Buf (Elt Ideal) ℓ) (g' : Dev Cert.MlaOutDwRefIdeal.nD → PrngReg), Pre_MlaOutDwIdeal m →
    (∀ c : Dev Cert.MlaOutDwIdeal.nD,
      m' ((c.tc : Thread Cert.MlaOutDwRefIdeal.nD Cert.MlaOutDwRefIdeal.τ).loc Cert.MlaOutDwRefIdeal.main_arg0) = m ((c.tc : Thread Cert.MlaOutDwIdeal.nD Cert.MlaOutDwIdeal.τ).loc Cert.MlaOutDwIdeal.main_arg0)
      ∧ m' ((c.tc : Thread Cert.MlaOutDwRefIdeal.nD Cert.MlaOutDwRefIdeal.τ).loc Cert.MlaOutDwRefIdeal.main_arg1) = m ((c.tc : Thread Cert.MlaOutDwIdeal.nD Cert.MlaOutDwIdeal.τ).loc Cert.MlaOutDwIdeal.main_arg1)
      ∧ m' ((c.tc : Thread Cert.MlaOutDwRefIdeal.nD Cert.MlaOutDwRefIdeal.τ).loc Cert.MlaOutDwRefIdeal.main_arg2) = m ((c.tc : Thread Cert.MlaOutDwIdeal.nD Cert.MlaOutDwIdeal.τ).loc Cert.MlaOutDwIdeal.main_arg2)) →
    ∃ (v0 : (c : Dev Cert.MlaOutDwIdeal.nD) → Buf (Elt Ideal) ((c.tc : Thread Cert.MlaOutDwIdeal.nD Cert.MlaOutDwIdeal.τ).loc Cert.MlaOutDwIdeal.main_v2)),
      θ_run (Cert.MlaOutDwIdeal.defs (F := Ideal)) (onTc (τ := Cert.MlaOutDwIdeal.τ) (Cert.MlaOutDwIdeal.main (F := Ideal))) ⟨m, fun _ => 0, g⟩ (fun r => ∀ c : Dev Cert.MlaOutDwIdeal.nD,
          r.2.mem ((c.tc : Thread Cert.MlaOutDwIdeal.nD Cert.MlaOutDwIdeal.τ).loc Cert.MlaOutDwIdeal.main_v2) = v0 c
          ∧ r.2.mem ((c.tc : Thread Cert.MlaOutDwIdeal.nD Cert.MlaOutDwIdeal.τ).loc Cert.MlaOutDwIdeal.main_arg0) = m ((c.tc : Thread Cert.MlaOutDwIdeal.nD Cert.MlaOutDwIdeal.τ).loc Cert.MlaOutDwIdeal.main_arg0)
          ∧ r.2.mem ((c.tc : Thread Cert.MlaOutDwIdeal.nD Cert.MlaOutDwIdeal.τ).loc Cert.MlaOutDwIdeal.main_arg1) = m ((c.tc : Thread Cert.MlaOutDwIdeal.nD Cert.MlaOutDwIdeal.τ).loc Cert.MlaOutDwIdeal.main_arg1)
          ∧ r.2.mem ((c.tc : Thread Cert.MlaOutDwIdeal.nD Cert.MlaOutDwIdeal.τ).loc Cert.MlaOutDwIdeal.main_arg2) = m ((c.tc : Thread Cert.MlaOutDwIdeal.nD Cert.MlaOutDwIdeal.τ).loc Cert.MlaOutDwIdeal.main_arg2))
      ∧ θ_run (Cert.MlaOutDwRefIdeal.defs (F := Ideal)) (onTc (τ := Cert.MlaOutDwRefIdeal.τ) (Cert.MlaOutDwRefIdeal.main (F := Ideal))) ⟨m', fun _ => 0, g'⟩ (fun r => ∀ c : Dev Cert.MlaOutDwRefIdeal.nD,
          r.2.mem ((c.tc : Thread Cert.MlaOutDwRefIdeal.nD Cert.MlaOutDwRefIdeal.τ).loc Cert.MlaOutDwRefIdeal.main_v8) = v0 c
          ∧ r.2.mem ((c.tc : Thread Cert.MlaOutDwRefIdeal.nD Cert.MlaOutDwRefIdeal.τ).loc Cert.MlaOutDwRefIdeal.main_arg0) = m' ((c.tc : Thread Cert.MlaOutDwRefIdeal.nD Cert.MlaOutDwRefIdeal.τ).loc Cert.MlaOutDwRefIdeal.main_arg0)
          ∧ r.2.mem ((c.tc : Thread Cert.MlaOutDwRefIdeal.nD Cert.MlaOutDwRefIdeal.τ).loc Cert.MlaOutDwRefIdeal.main_arg1) = m' ((c.tc : Thread Cert.MlaOutDwRefIdeal.nD Cert.MlaOutDwRefIdeal.τ).loc Cert.MlaOutDwRefIdeal.main_arg1)
          ∧ r.2.mem ((c.tc : Thread Cert.MlaOutDwRefIdeal.nD Cert.MlaOutDwRefIdeal.τ).loc Cert.MlaOutDwRefIdeal.main_arg2) = m' ((c.tc : Thread Cert.MlaOutDwRefIdeal.nD Cert.MlaOutDwRefIdeal.τ).loc Cert.MlaOutDwRefIdeal.main_arg2))

def preserves_HgrnOutDw_HgrnOutDwIdeal : Prop :=
  True

def algebraic_HgrnOutDwIdeal_HgrnOutDwRefIdeal [hHgrnOutDwIdeal : Cert.HgrnOutDwIdeal.Facts] [hHgrnOutDwRefIdeal : Cert.HgrnOutDwRefIdeal.Facts] : Prop :=
  ∀ (m : (ℓ : Loc Cert.HgrnOutDwIdeal.nD Cert.HgrnOutDwIdeal.τ Cert.HgrnOutDwIdeal.sig) → Buf (Elt Ideal) ℓ) (g : Dev Cert.HgrnOutDwIdeal.nD → PrngReg)
    (m' : (ℓ : Loc Cert.HgrnOutDwRefIdeal.nD Cert.HgrnOutDwRefIdeal.τ Cert.HgrnOutDwRefIdeal.sig) → Buf (Elt Ideal) ℓ) (g' : Dev Cert.HgrnOutDwRefIdeal.nD → PrngReg), Pre_HgrnOutDwIdeal m →
    (∀ c : Dev Cert.HgrnOutDwIdeal.nD,
      m' ((c.tc : Thread Cert.HgrnOutDwRefIdeal.nD Cert.HgrnOutDwRefIdeal.τ).loc Cert.HgrnOutDwRefIdeal.main_arg0) = m ((c.tc : Thread Cert.HgrnOutDwIdeal.nD Cert.HgrnOutDwIdeal.τ).loc Cert.HgrnOutDwIdeal.main_arg0)
      ∧ m' ((c.tc : Thread Cert.HgrnOutDwRefIdeal.nD Cert.HgrnOutDwRefIdeal.τ).loc Cert.HgrnOutDwRefIdeal.main_arg1) = m ((c.tc : Thread Cert.HgrnOutDwIdeal.nD Cert.HgrnOutDwIdeal.τ).loc Cert.HgrnOutDwIdeal.main_arg1)
      ∧ m' ((c.tc : Thread Cert.HgrnOutDwRefIdeal.nD Cert.HgrnOutDwRefIdeal.τ).loc Cert.HgrnOutDwRefIdeal.main_arg2) = m ((c.tc : Thread Cert.HgrnOutDwIdeal.nD Cert.HgrnOutDwIdeal.τ).loc Cert.HgrnOutDwIdeal.main_arg2)) →
    ∃ (v0 : (c : Dev Cert.HgrnOutDwIdeal.nD) → Buf (Elt Ideal) ((c.tc : Thread Cert.HgrnOutDwIdeal.nD Cert.HgrnOutDwIdeal.τ).loc Cert.HgrnOutDwIdeal.main_v2)),
      θ_run (Cert.HgrnOutDwIdeal.defs (F := Ideal)) (onTc (τ := Cert.HgrnOutDwIdeal.τ) (Cert.HgrnOutDwIdeal.main (F := Ideal))) ⟨m, fun _ => 0, g⟩ (fun r => ∀ c : Dev Cert.HgrnOutDwIdeal.nD,
          r.2.mem ((c.tc : Thread Cert.HgrnOutDwIdeal.nD Cert.HgrnOutDwIdeal.τ).loc Cert.HgrnOutDwIdeal.main_v2) = v0 c
          ∧ r.2.mem ((c.tc : Thread Cert.HgrnOutDwIdeal.nD Cert.HgrnOutDwIdeal.τ).loc Cert.HgrnOutDwIdeal.main_arg0) = m ((c.tc : Thread Cert.HgrnOutDwIdeal.nD Cert.HgrnOutDwIdeal.τ).loc Cert.HgrnOutDwIdeal.main_arg0)
          ∧ r.2.mem ((c.tc : Thread Cert.HgrnOutDwIdeal.nD Cert.HgrnOutDwIdeal.τ).loc Cert.HgrnOutDwIdeal.main_arg1) = m ((c.tc : Thread Cert.HgrnOutDwIdeal.nD Cert.HgrnOutDwIdeal.τ).loc Cert.HgrnOutDwIdeal.main_arg1)
          ∧ r.2.mem ((c.tc : Thread Cert.HgrnOutDwIdeal.nD Cert.HgrnOutDwIdeal.τ).loc Cert.HgrnOutDwIdeal.main_arg2) = m ((c.tc : Thread Cert.HgrnOutDwIdeal.nD Cert.HgrnOutDwIdeal.τ).loc Cert.HgrnOutDwIdeal.main_arg2))
      ∧ θ_run (Cert.HgrnOutDwRefIdeal.defs (F := Ideal)) (onTc (τ := Cert.HgrnOutDwRefIdeal.τ) (Cert.HgrnOutDwRefIdeal.main (F := Ideal))) ⟨m', fun _ => 0, g'⟩ (fun r => ∀ c : Dev Cert.HgrnOutDwRefIdeal.nD,
          r.2.mem ((c.tc : Thread Cert.HgrnOutDwRefIdeal.nD Cert.HgrnOutDwRefIdeal.τ).loc Cert.HgrnOutDwRefIdeal.main_v8) = v0 c
          ∧ r.2.mem ((c.tc : Thread Cert.HgrnOutDwRefIdeal.nD Cert.HgrnOutDwRefIdeal.τ).loc Cert.HgrnOutDwRefIdeal.main_arg0) = m' ((c.tc : Thread Cert.HgrnOutDwRefIdeal.nD Cert.HgrnOutDwRefIdeal.τ).loc Cert.HgrnOutDwRefIdeal.main_arg0)
          ∧ r.2.mem ((c.tc : Thread Cert.HgrnOutDwRefIdeal.nD Cert.HgrnOutDwRefIdeal.τ).loc Cert.HgrnOutDwRefIdeal.main_arg1) = m' ((c.tc : Thread Cert.HgrnOutDwRefIdeal.nD Cert.HgrnOutDwRefIdeal.τ).loc Cert.HgrnOutDwRefIdeal.main_arg1)
          ∧ r.2.mem ((c.tc : Thread Cert.HgrnOutDwRefIdeal.nD Cert.HgrnOutDwRefIdeal.τ).loc Cert.HgrnOutDwRefIdeal.main_arg2) = m' ((c.tc : Thread Cert.HgrnOutDwRefIdeal.nD Cert.HgrnOutDwRefIdeal.τ).loc Cert.HgrnOutDwRefIdeal.main_arg2))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)
      ∧ m' ((c.tc : Thread Cert.MixOutDwRefIdeal.nD Cert.MixOutDwRefIdeal.τ).loc Cert.MixOutDwRefIdeal.main_arg2) = m ((c.tc : Thread Cert.MixOutDwIdeal.nD Cert.MixOutDwIdeal.τ).loc Cert.MixOutDwIdeal.main_arg2)) →
    ∃ (v0 : (c : Dev Cert.MixOutDwIdeal.nD) → Buf (Elt Ideal) ((c.tc : Thread Cert.MixOutDwIdeal.nD Cert.MixOutDwIdeal.τ).loc Cert.MixOutDwIdeal.main_v1)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v1) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1)
          ∧ r.2.mem ((c.tc : Thread Cert.MixOutDwIdeal.nD Cert.MixOutDwIdeal.τ).loc Cert.MixOutDwIdeal.main_arg2) = m ((c.tc : Thread Cert.MixOutDwIdeal.nD Cert.MixOutDwIdeal.τ).loc Cert.MixOutDwIdeal.main_arg2))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v7) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1)
          ∧ r.2.mem ((c.tc : Thread Cert.MixOutDwRefIdeal.nD Cert.MixOutDwRefIdeal.τ).loc Cert.MixOutDwRefIdeal.main_arg2) = m' ((c.tc : Thread Cert.MixOutDwRefIdeal.nD Cert.MixOutDwRefIdeal.τ).loc Cert.MixOutDwRefIdeal.main_arg2))

def preserves_MlaOutDx_MlaOutDxIdeal : Prop :=
  True

def algebraic_MlaOutDxIdeal_MlaOutDxRefIdeal [hMlaOutDxIdeal : Cert.MlaOutDxIdeal.Facts] [hMlaOutDxRefIdeal : Cert.MlaOutDxRefIdeal.Facts] : Prop :=
  ∀ (m : (ℓ : Loc Cert.MlaOutDxIdeal.nD Cert.MlaOutDxIdeal.τ Cert.MlaOutDxIdeal.sig) → Buf (Elt Ideal) ℓ) (g : Dev Cert.MlaOutDxIdeal.nD → PrngReg)
    (m' : (ℓ : Loc Cert.MlaOutDxRefIdeal.nD Cert.MlaOutDxRefIdeal.τ Cert.MlaOutDxRefIdeal.sig) → Buf (Elt Ideal) ℓ) (g' : Dev Cert.MlaOutDxRefIdeal.nD → PrngReg), Pre_MlaOutDxIdeal m →
    (∀ c : Dev Cert.MlaOutDxIdeal.nD,
      m' ((c.tc : Thread Cert.MlaOutDxRefIdeal.nD Cert.MlaOutDxRefIdeal.τ).loc Cert.MlaOutDxRefIdeal.main_arg0) = m ((c.tc : Thread Cert.MlaOutDxIdeal.nD Cert.MlaOutDxIdeal.τ).loc Cert.MlaOutDxIdeal.main_arg0)
      ∧ m' ((c.tc : Thread Cert.MlaOutDxRefIdeal.nD Cert.MlaOutDxRefIdeal.τ).loc Cert.MlaOutDxRefIdeal.main_arg1) = m ((c.tc : Thread Cert.MlaOutDxIdeal.nD Cert.MlaOutDxIdeal.τ).loc Cert.MlaOutDxIdeal.main_arg1)
      ∧ m' ((c.tc : Thread Cert.MlaOutDxRefIdeal.nD Cert.MlaOutDxRefIdeal.τ).loc Cert.MlaOutDxRefIdeal.main_arg2) = m ((c.tc : Thread Cert.MlaOutDxIdeal.nD Cert.MlaOutDxIdeal.τ).loc Cert.MlaOutDxIdeal.main_arg2)) →
    ∃ (v0 : (c : Dev Cert.MlaOutDxIdeal.nD) → Buf (Elt Ideal) ((c.tc : Thread Cert.MlaOutDxIdeal.nD Cert.MlaOutDxIdeal.τ).loc Cert.MlaOutDxIdeal.main_v5)),
      θ_run (Cert.MlaOutDxIdeal.defs (F := Ideal)) (onTc (τ := Cert.MlaOutDxIdeal.τ) (Cert.MlaOutDxIdeal.main (F := Ideal))) ⟨m, fun _ => 0, g⟩ (fun r => ∀ c : Dev Cert.MlaOutDxIdeal.nD,
          r.2.mem ((c.tc : Thread Cert.MlaOutDxIdeal.nD Cert.MlaOutDxIdeal.τ).loc Cert.MlaOutDxIdeal.main_v5) = v0 c
          ∧ r.2.mem ((c.tc : Thread Cert.MlaOutDxIdeal.nD Cert.MlaOutDxIdeal.τ).loc Cert.MlaOutDxIdeal.main_arg0) = m ((c.tc : Thread Cert.MlaOutDxIdeal.nD Cert.MlaOutDxIdeal.τ).loc Cert.MlaOutDxIdeal.main_arg0)
          ∧ r.2.mem ((c.tc : Thread Cert.MlaOutDxIdeal.nD Cert.MlaOutDxIdeal.τ).loc Cert.MlaOutDxIdeal.main_arg1) = m ((c.tc : Thread Cert.MlaOutDxIdeal.nD Cert.MlaOutDxIdeal.τ).loc Cert.MlaOutDxIdeal.main_arg1)
          ∧ r.2.mem ((c.tc : Thread Cert.MlaOutDxIdeal.nD Cert.MlaOutDxIdeal.τ).loc Cert.MlaOutDxIdeal.main_arg2) = m ((c.tc : Thread Cert.MlaOutDxIdeal.nD Cert.MlaOutDxIdeal.τ).loc Cert.MlaOutDxIdeal.main_arg2))
      ∧ θ_run (Cert.MlaOutDxRefIdeal.defs (F := Ideal)) (onTc (τ := Cert.MlaOutDxRefIdeal.τ) (Cert.MlaOutDxRefIdeal.main (F := Ideal))) ⟨m', fun _ => 0, g'⟩ (fun r => ∀ c : Dev Cert.MlaOutDxRefIdeal.nD,
          r.2.mem ((c.tc : Thread Cert.MlaOutDxRefIdeal.nD Cert.MlaOutDxRefIdeal.τ).loc Cert.MlaOutDxRefIdeal.main_v3) = v0 c
          ∧ r.2.mem ((c.tc : Thread Cert.MlaOutDxRefIdeal.nD Cert.MlaOutDxRefIdeal.τ).loc Cert.MlaOutDxRefIdeal.main_arg0) = m' ((c.tc : Thread Cert.MlaOutDxRefIdeal.nD Cert.MlaOutDxRefIdeal.τ).loc Cert.MlaOutDxRefIdeal.main_arg0)
          ∧ r.2.mem ((c.tc : Thread Cert.MlaOutDxRefIdeal.nD Cert.MlaOutDxRefIdeal.τ).loc Cert.MlaOutDxRefIdeal.main_arg1) = m' ((c.tc : Thread Cert.MlaOutDxRefIdeal.nD Cert.MlaOutDxRefIdeal.τ).loc Cert.MlaOutDxRefIdeal.main_arg1)
          ∧ r.2.mem ((c.tc : Thread Cert.MlaOutDxRefIdeal.nD Cert.MlaOutDxRefIdeal.τ).loc Cert.MlaOutDxRefIdeal.main_arg2) = m' ((c.tc : Thread Cert.MlaOutDxRefIdeal.nD Cert.MlaOutDxRefIdeal.τ).loc Cert.MlaOutDxRefIdeal.main_arg2))

def preserves_HgrnOutDx_HgrnOutDxIdeal : Prop :=
  True

def algebraic_HgrnOutDxIdeal_HgrnOutDxRefIdeal [hHgrnOutDxIdeal : Cert.HgrnOutDxIdeal.Facts] [hHgrnOutDxRefIdeal : Cert.HgrnOutDxRefIdeal.Facts] : Prop :=
  ∀ (m : (ℓ : Loc Cert.HgrnOutDxIdeal.nD Cert.HgrnOutDxIdeal.τ Cert.HgrnOutDxIdeal.sig) → Buf (Elt Ideal) ℓ) (g : Dev Cert.HgrnOutDxIdeal.nD → PrngReg)
    (m' : (ℓ : Loc Cert.HgrnOutDxRefIdeal.nD Cert.HgrnOutDxRefIdeal.τ Cert.HgrnOutDxRefIdeal.sig) → Buf (Elt Ideal) ℓ) (g' : Dev Cert.HgrnOutDxRefIdeal.nD → PrngReg), Pre_HgrnOutDxIdeal m →
    (∀ c : Dev Cert.HgrnOutDxIdeal.nD,
      m' ((c.tc : Thread Cert.HgrnOutDxRefIdeal.nD Cert.HgrnOutDxRefIdeal.τ).loc Cert.HgrnOutDxRefIdeal.main_arg0) = m ((c.tc : Thread Cert.HgrnOutDxIdeal.nD Cert.HgrnOutDxIdeal.τ).loc Cert.HgrnOutDxIdeal.main_arg0)
      ∧ m' ((c.tc : Thread Cert.HgrnOutDxRefIdeal.nD Cert.HgrnOutDxRefIdeal.τ).loc Cert.HgrnOutDxRefIdeal.main_arg1) = m ((c.tc : Thread Cert.HgrnOutDxIdeal.nD Cert.HgrnOutDxIdeal.τ).loc Cert.HgrnOutDxIdeal.main_arg1)
      ∧ m' ((c.tc : Thread Cert.HgrnOutDxRefIdeal.nD Cert.HgrnOutDxRefIdeal.τ).loc Cert.HgrnOutDxRefIdeal.main_arg2) = m ((c.tc : Thread Cert.HgrnOutDxIdeal.nD Cert.HgrnOutDxIdeal.τ).loc Cert.HgrnOutDxIdeal.main_arg2)) →
    ∃ (v0 : (c : Dev Cert.HgrnOutDxIdeal.nD) → Buf (Elt Ideal) ((c.tc : Thread Cert.HgrnOutDxIdeal.nD Cert.HgrnOutDxIdeal.τ).loc Cert.HgrnOutDxIdeal.main_v5)),
      θ_run (Cert.HgrnOutDxIdeal.defs (F := Ideal)) (onTc (τ := Cert.HgrnOutDxIdeal.τ) (Cert.HgrnOutDxIdeal.main (F := Ideal))) ⟨m, fun _ => 0, g⟩ (fun r => ∀ c : Dev Cert.HgrnOutDxIdeal.nD,
          r.2.mem ((c.tc : Thread Cert.HgrnOutDxIdeal.nD Cert.HgrnOutDxIdeal.τ).loc Cert.HgrnOutDxIdeal.main_v5) = v0 c
          ∧ r.2.mem ((c.tc : Thread Cert.HgrnOutDxIdeal.nD Cert.HgrnOutDxIdeal.τ).loc Cert.HgrnOutDxIdeal.main_arg0) = m ((c.tc : Thread Cert.HgrnOutDxIdeal.nD Cert.HgrnOutDxIdeal.τ).loc Cert.HgrnOutDxIdeal.main_arg0)
          ∧ r.2.mem ((c.tc : Thread Cert.HgrnOutDxIdeal.nD Cert.HgrnOutDxIdeal.τ).loc Cert.HgrnOutDxIdeal.main_arg1) = m ((c.tc : Thread Cert.HgrnOutDxIdeal.nD Cert.HgrnOutDxIdeal.τ).loc Cert.HgrnOutDxIdeal.main_arg1)
          ∧ r.2.mem ((c.tc : Thread Cert.HgrnOutDxIdeal.nD Cert.HgrnOutDxIdeal.τ).loc Cert.HgrnOutDxIdeal.main_arg2) = m ((c.tc : Thread Cert.HgrnOutDxIdeal.nD Cert.HgrnOutDxIdeal.τ).loc Cert.HgrnOutDxIdeal.main_arg2))
      ∧ θ_run (Cert.HgrnOutDxRefIdeal.defs (F := Ideal)) (onTc (τ := Cert.HgrnOutDxRefIdeal.τ) (Cert.HgrnOutDxRefIdeal.main (F := Ideal))) ⟨m', fun _ => 0, g'⟩ (fun r => ∀ c : Dev Cert.HgrnOutDxRefIdeal.nD,
          r.2.mem ((c.tc : Thread Cert.HgrnOutDxRefIdeal.nD Cert.HgrnOutDxRefIdeal.τ).loc Cert.HgrnOutDxRefIdeal.main_v3) = v0 c
          ∧ r.2.mem ((c.tc : Thread Cert.HgrnOutDxRefIdeal.nD Cert.HgrnOutDxRefIdeal.τ).loc Cert.HgrnOutDxRefIdeal.main_arg0) = m' ((c.tc : Thread Cert.HgrnOutDxRefIdeal.nD Cert.HgrnOutDxRefIdeal.τ).loc Cert.HgrnOutDxRefIdeal.main_arg0)
          ∧ r.2.mem ((c.tc : Thread Cert.HgrnOutDxRefIdeal.nD Cert.HgrnOutDxRefIdeal.τ).loc Cert.HgrnOutDxRefIdeal.main_arg1) = m' ((c.tc : Thread Cert.HgrnOutDxRefIdeal.nD Cert.HgrnOutDxRefIdeal.τ).loc Cert.HgrnOutDxRefIdeal.main_arg1)
          ∧ r.2.mem ((c.tc : Thread Cert.HgrnOutDxRefIdeal.nD Cert.HgrnOutDxRefIdeal.τ).loc Cert.HgrnOutDxRefIdeal.main_arg2) = m' ((c.tc : Thread Cert.HgrnOutDxRefIdeal.nD Cert.HgrnOutDxRefIdeal.τ).loc Cert.HgrnOutDxRefIdeal.main_arg2))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)
      ∧ m' ((c.tc : Thread Cert.MixOutDxRefIdeal.nD Cert.MixOutDxRefIdeal.τ).loc Cert.MixOutDxRefIdeal.main_arg2) = m ((c.tc : Thread Cert.MixOutDxIdeal.nD Cert.MixOutDxIdeal.τ).loc Cert.MixOutDxIdeal.main_arg2)) →
    ∃ (v0 : (c : Dev Cert.MixOutDxIdeal.nD) → Buf (Elt Ideal) ((c.tc : Thread Cert.MixOutDxIdeal.nD Cert.MixOutDxIdeal.τ).loc Cert.MixOutDxIdeal.main_v4)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v4) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1)
          ∧ r.2.mem ((c.tc : Thread Cert.MixOutDxIdeal.nD Cert.MixOutDxIdeal.τ).loc Cert.MixOutDxIdeal.main_arg2) = m ((c.tc : Thread Cert.MixOutDxIdeal.nD Cert.MixOutDxIdeal.τ).loc Cert.MixOutDxIdeal.main_arg2))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v3) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1)
          ∧ r.2.mem ((c.tc : Thread Cert.MixOutDxRefIdeal.nD Cert.MixOutDxRefIdeal.τ).loc Cert.MixOutDxRefIdeal.main_arg2) = m' ((c.tc : Thread Cert.MixOutDxRefIdeal.nD Cert.MixOutDxRefIdeal.τ).loc Cert.MixOutDxRefIdeal.main_arg2))

def preserves_MlaOut_MlaOutIdeal : Prop :=
  True

def algebraic_MlaOutIdeal_MlaOutRefIdeal [hMlaOutIdeal : Cert.MlaOutIdeal.Facts] [hMlaOutRefIdeal : Cert.MlaOutRefIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg)
    (m' : (ℓ : Loc Cert.MlaOutRefIdeal.nD Cert.MlaOutRefIdeal.τ Cert.MlaOutRefIdeal.sig) → Buf (Elt Ideal) ℓ) (g' : Dev Cert.MlaOutRefIdeal.nD → PrngReg), Pre_MlaOutIdeal m →
    (∀ c : Dev Cert.MlaOutIdeal.nD,
      m' ((c.tc : Thread Cert.MlaOutRefIdeal.nD Cert.MlaOutRefIdeal.τ).loc Cert.MlaOutRefIdeal.main_arg0) = m ((c.tc : Thread Cert.MlaOutIdeal.nD Cert.MlaOutIdeal.τ).loc Cert.MlaOutIdeal.main_arg0)
      ∧ m' ((c.tc : Thread Cert.MlaOutRefIdeal.nD Cert.MlaOutRefIdeal.τ).loc Cert.MlaOutRefIdeal.main_arg1) = m ((c.tc : Thread Cert.MlaOutIdeal.nD Cert.MlaOutIdeal.τ).loc Cert.MlaOutIdeal.main_arg1)
      ∧ m' ((c.tc : Thread Cert.MlaOutRefIdeal.nD Cert.MlaOutRefIdeal.τ).loc Cert.MlaOutRefIdeal.main_arg2) = m ((c.tc : Thread Cert.MlaOutIdeal.nD Cert.MlaOutIdeal.τ).loc Cert.MlaOutIdeal.main_arg2)) →
    ∃ (v0 : (c : Dev Cert.MlaOutIdeal.nD) → Buf (Elt Ideal) ((c.tc : Thread Cert.MlaOutIdeal.nD Cert.MlaOutIdeal.τ).loc Cert.MlaOutIdeal.main_v5)),
      θ_run (Cert.MlaOutIdeal.defs (F := Ideal)) (onTc (τ := Cert.MlaOutIdeal.τ) (Cert.MlaOutIdeal.main (F := Ideal))) ⟨m, fun _ => 0, g⟩ (fun r => ∀ c : Dev Cert.MlaOutIdeal.nD,
          r.2.mem ((c.tc : Thread Cert.MlaOutIdeal.nD Cert.MlaOutIdeal.τ).loc Cert.MlaOutIdeal.main_v5) = v0 c
          ∧ r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
          ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
          ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2))
      ∧ θ_run (Cert.MlaOutRefIdeal.defs (F := Ideal)) (onTc (τ := Cert.MlaOutRefIdeal.τ) (Cert.MlaOutRefIdeal.main (F := Ideal))) ⟨m', fun _ => 0, g'⟩ (fun r => ∀ c : Dev Cert.MlaOutRefIdeal.nD,
          r.2.mem ((c.tc : Thread Cert.MlaOutRefIdeal.nD Cert.MlaOutRefIdeal.τ).loc Cert.MlaOutRefIdeal.main_v1) = v0 c
          ∧ r.2.mem ((c.tc : Thread Cert.MlaOutRefIdeal.nD Cert.MlaOutRefIdeal.τ).loc Cert.MlaOutRefIdeal.main_arg0) = m' ((c.tc : Thread Cert.MlaOutRefIdeal.nD Cert.MlaOutRefIdeal.τ).loc Cert.MlaOutRefIdeal.main_arg0)
          ∧ r.2.mem ((c.tc : Thread Cert.MlaOutRefIdeal.nD Cert.MlaOutRefIdeal.τ).loc Cert.MlaOutRefIdeal.main_arg1) = m' ((c.tc : Thread Cert.MlaOutRefIdeal.nD Cert.MlaOutRefIdeal.τ).loc Cert.MlaOutRefIdeal.main_arg1)
          ∧ r.2.mem ((c.tc : Thread Cert.MlaOutRefIdeal.nD Cert.MlaOutRefIdeal.τ).loc Cert.MlaOutRefIdeal.main_arg2) = m' ((c.tc : Thread Cert.MlaOutRefIdeal.nD Cert.MlaOutRefIdeal.τ).loc Cert.MlaOutRefIdeal.main_arg2))

def preserves_HgrnOut_HgrnOutIdeal : Prop :=
  True

def algebraic_HgrnOutIdeal_HgrnOutRefIdeal [hHgrnOutIdeal : Cert.HgrnOutIdeal.Facts] [hHgrnOutRefIdeal : Cert.HgrnOutRefIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg)
    (m' : (ℓ : Loc Cert.HgrnOutRefIdeal.nD Cert.HgrnOutRefIdeal.τ Cert.HgrnOutRefIdeal.sig) → Buf (Elt Ideal) ℓ) (g' : Dev Cert.HgrnOutRefIdeal.nD → PrngReg), Pre_HgrnOutIdeal m →
    (∀ c : Dev Cert.HgrnOutIdeal.nD,
      m' ((c.tc : Thread Cert.HgrnOutRefIdeal.nD Cert.HgrnOutRefIdeal.τ).loc Cert.HgrnOutRefIdeal.main_arg0) = m ((c.tc : Thread Cert.HgrnOutIdeal.nD Cert.HgrnOutIdeal.τ).loc Cert.HgrnOutIdeal.main_arg0)
      ∧ m' ((c.tc : Thread Cert.HgrnOutRefIdeal.nD Cert.HgrnOutRefIdeal.τ).loc Cert.HgrnOutRefIdeal.main_arg1) = m ((c.tc : Thread Cert.HgrnOutIdeal.nD Cert.HgrnOutIdeal.τ).loc Cert.HgrnOutIdeal.main_arg1)
      ∧ m' ((c.tc : Thread Cert.HgrnOutRefIdeal.nD Cert.HgrnOutRefIdeal.τ).loc Cert.HgrnOutRefIdeal.main_arg2) = m ((c.tc : Thread Cert.HgrnOutIdeal.nD Cert.HgrnOutIdeal.τ).loc Cert.HgrnOutIdeal.main_arg2)) →
    ∃ (v0 : (c : Dev Cert.HgrnOutIdeal.nD) → Buf (Elt Ideal) ((c.tc : Thread Cert.HgrnOutIdeal.nD Cert.HgrnOutIdeal.τ).loc Cert.HgrnOutIdeal.main_v5)),
      θ_run (Cert.HgrnOutIdeal.defs (F := Ideal)) (onTc (τ := Cert.HgrnOutIdeal.τ) (Cert.HgrnOutIdeal.main (F := Ideal))) ⟨m, fun _ => 0, g⟩ (fun r => ∀ c : Dev Cert.HgrnOutIdeal.nD,
          r.2.mem ((c.tc : Thread Cert.HgrnOutIdeal.nD Cert.HgrnOutIdeal.τ).loc Cert.HgrnOutIdeal.main_v5) = v0 c
          ∧ r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
          ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
          ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2))
      ∧ θ_run (Cert.HgrnOutRefIdeal.defs (F := Ideal)) (onTc (τ := Cert.HgrnOutRefIdeal.τ) (Cert.HgrnOutRefIdeal.main (F := Ideal))) ⟨m', fun _ => 0, g'⟩ (fun r => ∀ c : Dev Cert.HgrnOutRefIdeal.nD,
          r.2.mem ((c.tc : Thread Cert.HgrnOutRefIdeal.nD Cert.HgrnOutRefIdeal.τ).loc Cert.HgrnOutRefIdeal.main_v1) = v0 c
          ∧ r.2.mem ((c.tc : Thread Cert.HgrnOutRefIdeal.nD Cert.HgrnOutRefIdeal.τ).loc Cert.HgrnOutRefIdeal.main_arg0) = m' ((c.tc : Thread Cert.HgrnOutRefIdeal.nD Cert.HgrnOutRefIdeal.τ).loc Cert.HgrnOutRefIdeal.main_arg0)
          ∧ r.2.mem ((c.tc : Thread Cert.HgrnOutRefIdeal.nD Cert.HgrnOutRefIdeal.τ).loc Cert.HgrnOutRefIdeal.main_arg1) = m' ((c.tc : Thread Cert.HgrnOutRefIdeal.nD Cert.HgrnOutRefIdeal.τ).loc Cert.HgrnOutRefIdeal.main_arg1)
          ∧ r.2.mem ((c.tc : Thread Cert.HgrnOutRefIdeal.nD Cert.HgrnOutRefIdeal.τ).loc Cert.HgrnOutRefIdeal.main_arg2) = m' ((c.tc : Thread Cert.HgrnOutRefIdeal.nD Cert.HgrnOutRefIdeal.τ).loc Cert.HgrnOutRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v5)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v5) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v1) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)
      ∧ m' ((c.tc : Thread Cert.KvUpRefIdeal.nD Cert.KvUpRefIdeal.τ).loc Cert.KvUpRefIdeal.main_arg2) = m ((c.tc : Thread Cert.KvUpIdeal.nD Cert.KvUpIdeal.τ).loc Cert.KvUpIdeal.main_arg2)) →
    ∃ (v0 : (c : Dev Cert.KvUpIdeal.nD) → Buf (Elt Ideal) ((c.tc : Thread Cert.KvUpIdeal.nD Cert.KvUpIdeal.τ).loc Cert.KvUpIdeal.main_v6)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v6) = v0 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
          ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v1) = v0 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1)
          ∧ r.2.mem ((c.tc : Thread Cert.KvUpRefIdeal.nD Cert.KvUpRefIdeal.τ).loc Cert.KvUpRefIdeal.main_arg2) = m' ((c.tc : Thread Cert.KvUpRefIdeal.nD Cert.KvUpRefIdeal.τ).loc Cert.KvUpRefIdeal.main_arg2))

def preserves_KvUpDx_KvUpDxIdeal : Prop :=
  True

def algebraic_KvUpDxIdeal_KvUpDxRefIdeal [hKvUpDxIdeal : Cert.KvUpDxIdeal.Facts] [hKvUpDxRefIdeal : Cert.KvUpDxRefIdeal.Facts] : Prop :=
  ∀ (m : (ℓ : Loc Cert.KvUpDxIdeal.nD Cert.KvUpDxIdeal.τ Cert.KvUpDxIdeal.sig) → Buf (Elt Ideal) ℓ) (g : Dev Cert.KvUpDxIdeal.nD → PrngReg)
    (m' : (ℓ : Loc Cert.KvUpDxRefIdeal.nD Cert.KvUpDxRefIdeal.τ Cert.KvUpDxRefIdeal.sig) → Buf (Elt Ideal) ℓ) (g' : Dev Cert.KvUpDxRefIdeal.nD → PrngReg), Pre_KvUpDxIdeal m →
    (∀ c : Dev Cert.KvUpDxIdeal.nD,
      m' ((c.tc : Thread Cert.KvUpDxRefIdeal.nD Cert.KvUpDxRefIdeal.τ).loc Cert.KvUpDxRefIdeal.main_arg0) = m ((c.tc : Thread Cert.KvUpDxIdeal.nD Cert.KvUpDxIdeal.τ).loc Cert.KvUpDxIdeal.main_arg0)
      ∧ m' ((c.tc : Thread Cert.KvUpDxRefIdeal.nD Cert.KvUpDxRefIdeal.τ).loc Cert.KvUpDxRefIdeal.main_arg1) = m ((c.tc : Thread Cert.KvUpDxIdeal.nD Cert.KvUpDxIdeal.τ).loc Cert.KvUpDxIdeal.main_arg1)
      ∧ m' ((c.tc : Thread Cert.KvUpDxRefIdeal.nD Cert.KvUpDxRefIdeal.τ).loc Cert.KvUpDxRefIdeal.main_arg2) = m ((c.tc : Thread Cert.KvUpDxIdeal.nD Cert.KvUpDxIdeal.τ).loc Cert.KvUpDxIdeal.main_arg2)) →
    ∃ (v0 : (c : Dev Cert.KvUpDxIdeal.nD) → Buf (Elt Ideal) ((c.tc : Thread Cert.KvUpDxIdeal.nD Cert.KvUpDxIdeal.τ).loc Cert.KvUpDxIdeal.main_v6)),
      θ_run (Cert.KvUpDxIdeal.defs (F := Ideal)) (onTc (τ := Cert.KvUpDxIdeal.τ) (Cert.KvUpDxIdeal.main (F := Ideal))) ⟨m, fun _ => 0, g⟩ (fun r => ∀ c : Dev Cert.KvUpDxIdeal.nD,
          r.2.mem ((c.tc : Thread Cert.KvUpDxIdeal.nD Cert.KvUpDxIdeal.τ).loc Cert.KvUpDxIdeal.main_v6) = v0 c
          ∧ r.2.mem ((c.tc : Thread Cert.KvUpDxIdeal.nD Cert.KvUpDxIdeal.τ).loc Cert.KvUpDxIdeal.main_arg0) = m ((c.tc : Thread Cert.KvUpDxIdeal.nD Cert.KvUpDxIdeal.τ).loc Cert.KvUpDxIdeal.main_arg0)
          ∧ r.2.mem ((c.tc : Thread Cert.KvUpDxIdeal.nD Cert.KvUpDxIdeal.τ).loc Cert.KvUpDxIdeal.main_arg1) = m ((c.tc : Thread Cert.KvUpDxIdeal.nD Cert.KvUpDxIdeal.τ).loc Cert.KvUpDxIdeal.main_arg1)
          ∧ r.2.mem ((c.tc : Thread Cert.KvUpDxIdeal.nD Cert.KvUpDxIdeal.τ).loc Cert.KvUpDxIdeal.main_arg2) = m ((c.tc : Thread Cert.KvUpDxIdeal.nD Cert.KvUpDxIdeal.τ).loc Cert.KvUpDxIdeal.main_arg2))
      ∧ θ_run (Cert.KvUpDxRefIdeal.defs (F := Ideal)) (onTc (τ := Cert.KvUpDxRefIdeal.τ) (Cert.KvUpDxRefIdeal.main (F := Ideal))) ⟨m', fun _ => 0, g'⟩ (fun r => ∀ c : Dev Cert.KvUpDxRefIdeal.nD,
          r.2.mem ((c.tc : Thread Cert.KvUpDxRefIdeal.nD Cert.KvUpDxRefIdeal.τ).loc Cert.KvUpDxRefIdeal.main_v2) = v0 c
          ∧ r.2.mem ((c.tc : Thread Cert.KvUpDxRefIdeal.nD Cert.KvUpDxRefIdeal.τ).loc Cert.KvUpDxRefIdeal.main_arg0) = m' ((c.tc : Thread Cert.KvUpDxRefIdeal.nD Cert.KvUpDxRefIdeal.τ).loc Cert.KvUpDxRefIdeal.main_arg0)
          ∧ r.2.mem ((c.tc : Thread Cert.KvUpDxRefIdeal.nD Cert.KvUpDxRefIdeal.τ).loc Cert.KvUpDxRefIdeal.main_arg1) = m' ((c.tc : Thread Cert.KvUpDxRefIdeal.nD Cert.KvUpDxRefIdeal.τ).loc Cert.KvUpDxRefIdeal.main_arg1)
          ∧ r.2.mem ((c.tc : Thread Cert.KvUpDxRefIdeal.nD Cert.KvUpDxRefIdeal.τ).loc Cert.KvUpDxRefIdeal.main_arg2) = m' ((c.tc : Thread Cert.KvUpDxRefIdeal.nD Cert.KvUpDxRefIdeal.τ).loc Cert.KvUpDxRefIdeal.main_arg2))

def preserves_KvUpDw_KvUpDwIdeal : Prop :=
  True

def algebraic_KvUpDwIdeal_KvUpDwRefIdeal [hKvUpDwIdeal : Cert.KvUpDwIdeal.Facts] [hKvUpDwRefIdeal : Cert.KvUpDwRefIdeal.Facts] : Prop :=
  ∀ (m : (ℓ : Loc Cert.KvUpDwIdeal.nD Cert.KvUpDwIdeal.τ Cert.KvUpDwIdeal.sig) → Buf (Elt Ideal) ℓ) (g : Dev Cert.KvUpDwIdeal.nD → PrngReg)
    (m' : (ℓ : Loc Cert.KvUpDwRefIdeal.nD Cert.KvUpDwRefIdeal.τ Cert.KvUpDwRefIdeal.sig) → Buf (Elt Ideal) ℓ) (g' : Dev Cert.KvUpDwRefIdeal.nD → PrngReg), Pre_KvUpDwIdeal m →
    (∀ c : Dev Cert.KvUpDwIdeal.nD,
      m' ((c.tc : Thread Cert.KvUpDwRefIdeal.nD Cert.KvUpDwRefIdeal.τ).loc Cert.KvUpDwRefIdeal.main_arg0) = m ((c.tc : Thread Cert.KvUpDwIdeal.nD Cert.KvUpDwIdeal.τ).loc Cert.KvUpDwIdeal.main_arg0)
      ∧ m' ((c.tc : Thread Cert.KvUpDwRefIdeal.nD Cert.KvUpDwRefIdeal.τ).loc Cert.KvUpDwRefIdeal.main_arg1) = m ((c.tc : Thread Cert.KvUpDwIdeal.nD Cert.KvUpDwIdeal.τ).loc Cert.KvUpDwIdeal.main_arg1)
      ∧ m' ((c.tc : Thread Cert.KvUpDwRefIdeal.nD Cert.KvUpDwRefIdeal.τ).loc Cert.KvUpDwRefIdeal.main_arg2) = m ((c.tc : Thread Cert.KvUpDwIdeal.nD Cert.KvUpDwIdeal.τ).loc Cert.KvUpDwIdeal.main_arg2)) →
    ∃ (v0 : (c : Dev Cert.KvUpDwIdeal.nD) → Buf (Elt Ideal) ((c.tc : Thread Cert.KvUpDwIdeal.nD Cert.KvUpDwIdeal.τ).loc Cert.KvUpDwIdeal.main_v2)),
      θ_run (Cert.KvUpDwIdeal.defs (F := Ideal)) (onTc (τ := Cert.KvUpDwIdeal.τ) (Cert.KvUpDwIdeal.main (F := Ideal))) ⟨m, fun _ => 0, g⟩ (fun r => ∀ c : Dev Cert.KvUpDwIdeal.nD,
          r.2.mem ((c.tc : Thread Cert.KvUpDwIdeal.nD Cert.KvUpDwIdeal.τ).loc Cert.KvUpDwIdeal.main_v2) = v0 c
          ∧ r.2.mem ((c.tc : Thread Cert.KvUpDwIdeal.nD Cert.KvUpDwIdeal.τ).loc Cert.KvUpDwIdeal.main_arg0) = m ((c.tc : Thread Cert.KvUpDwIdeal.nD Cert.KvUpDwIdeal.τ).loc Cert.KvUpDwIdeal.main_arg0)
          ∧ r.2.mem ((c.tc : Thread Cert.KvUpDwIdeal.nD Cert.KvUpDwIdeal.τ).loc Cert.KvUpDwIdeal.main_arg1) = m ((c.tc : Thread Cert.KvUpDwIdeal.nD Cert.KvUpDwIdeal.τ).loc Cert.KvUpDwIdeal.main_arg1)
          ∧ r.2.mem ((c.tc : Thread Cert.KvUpDwIdeal.nD Cert.KvUpDwIdeal.τ).loc Cert.KvUpDwIdeal.main_arg2) = m ((c.tc : Thread Cert.KvUpDwIdeal.nD Cert.KvUpDwIdeal.τ).loc Cert.KvUpDwIdeal.main_arg2))
      ∧ θ_run (Cert.KvUpDwRefIdeal.defs (F := Ideal)) (onTc (τ := Cert.KvUpDwRefIdeal.τ) (Cert.KvUpDwRefIdeal.main (F := Ideal))) ⟨m', fun _ => 0, g'⟩ (fun r => ∀ c : Dev Cert.KvUpDwRefIdeal.nD,
          r.2.mem ((c.tc : Thread Cert.KvUpDwRefIdeal.nD Cert.KvUpDwRefIdeal.τ).loc Cert.KvUpDwRefIdeal.main_v7) = v0 c
          ∧ r.2.mem ((c.tc : Thread Cert.KvUpDwRefIdeal.nD Cert.KvUpDwRefIdeal.τ).loc Cert.KvUpDwRefIdeal.main_arg0) = m' ((c.tc : Thread Cert.KvUpDwRefIdeal.nD Cert.KvUpDwRefIdeal.τ).loc Cert.KvUpDwRefIdeal.main_arg0)
          ∧ r.2.mem ((c.tc : Thread Cert.KvUpDwRefIdeal.nD Cert.KvUpDwRefIdeal.τ).loc Cert.KvUpDwRefIdeal.main_arg1) = m' ((c.tc : Thread Cert.KvUpDwRefIdeal.nD Cert.KvUpDwRefIdeal.τ).loc Cert.KvUpDwRefIdeal.main_arg1)
          ∧ r.2.mem ((c.tc : Thread Cert.KvUpDwRefIdeal.nD Cert.KvUpDwRefIdeal.τ).loc Cert.KvUpDwRefIdeal.main_arg2) = m' ((c.tc : Thread Cert.KvUpDwRefIdeal.nD Cert.KvUpDwRefIdeal.τ).loc Cert.KvUpDwRefIdeal.main_arg2))

def preserves_QUp_QUpIdeal : Prop :=
  True

def algebraic_QUpIdeal_QUpRefIdeal [hQUpIdeal : Cert.QUpIdeal.Facts] [hQUpRefIdeal : Cert.QUpRefIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)
      ∧ m' ((c.tc : Thread Cert.QUpRefIdeal.nD Cert.QUpRefIdeal.τ).loc Cert.QUpRefIdeal.main_arg2) = m ((c.tc : Thread Cert.QUpIdeal.nD Cert.QUpIdeal.τ).loc Cert.QUpIdeal.main_arg2)) →
    ∃ (v0 : (c : Dev Cert.QUpIdeal.nD) → Buf (Elt Ideal) ((c.tc : Thread Cert.QUpIdeal.nD Cert.QUpIdeal.τ).loc Cert.QUpIdeal.main_v10)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v10) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
          ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v4) = v0 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1)
          ∧ r.2.mem ((c.tc : Thread Cert.QUpRefIdeal.nD Cert.QUpRefIdeal.τ).loc Cert.QUpRefIdeal.main_arg2) = m' ((c.tc : Thread Cert.QUpRefIdeal.nD Cert.QUpRefIdeal.τ).loc Cert.QUpRefIdeal.main_arg2))

def preserves_QUpDx_QUpDxIdeal : Prop :=
  True

def algebraic_QUpDxIdeal_QUpDxRefIdeal [hQUpDxIdeal : Cert.QUpDxIdeal.Facts] [hQUpDxRefIdeal : Cert.QUpDxRefIdeal.Facts] : Prop :=
  ∀ (m : (ℓ : Loc Cert.QUpDxIdeal.nD Cert.QUpDxIdeal.τ Cert.QUpDxIdeal.sig) → Buf (Elt Ideal) ℓ) (g : Dev Cert.QUpDxIdeal.nD → PrngReg)
    (m' : (ℓ : Loc Cert.QUpDxRefIdeal.nD Cert.QUpDxRefIdeal.τ Cert.QUpDxRefIdeal.sig) → Buf (Elt Ideal) ℓ) (g' : Dev Cert.QUpDxRefIdeal.nD → PrngReg), Pre_QUpDxIdeal m →
    (∀ c : Dev Cert.QUpDxIdeal.nD,
      m' ((c.tc : Thread Cert.QUpDxRefIdeal.nD Cert.QUpDxRefIdeal.τ).loc Cert.QUpDxRefIdeal.main_arg0) = m ((c.tc : Thread Cert.QUpDxIdeal.nD Cert.QUpDxIdeal.τ).loc Cert.QUpDxIdeal.main_arg0)
      ∧ m' ((c.tc : Thread Cert.QUpDxRefIdeal.nD Cert.QUpDxRefIdeal.τ).loc Cert.QUpDxRefIdeal.main_arg1) = m ((c.tc : Thread Cert.QUpDxIdeal.nD Cert.QUpDxIdeal.τ).loc Cert.QUpDxIdeal.main_arg1)
      ∧ m' ((c.tc : Thread Cert.QUpDxRefIdeal.nD Cert.QUpDxRefIdeal.τ).loc Cert.QUpDxRefIdeal.main_arg2) = m ((c.tc : Thread Cert.QUpDxIdeal.nD Cert.QUpDxIdeal.τ).loc Cert.QUpDxIdeal.main_arg2)) →
    ∃ (v0 : (c : Dev Cert.QUpDxIdeal.nD) → Buf (Elt Ideal) ((c.tc : Thread Cert.QUpDxIdeal.nD Cert.QUpDxIdeal.τ).loc Cert.QUpDxIdeal.main_v13)),
      θ_run (Cert.QUpDxIdeal.defs (F := Ideal)) (onTc (τ := Cert.QUpDxIdeal.τ) (Cert.QUpDxIdeal.main (F := Ideal))) ⟨m, fun _ => 0, g⟩ (fun r => ∀ c : Dev Cert.QUpDxIdeal.nD,
          r.2.mem ((c.tc : Thread Cert.QUpDxIdeal.nD Cert.QUpDxIdeal.τ).loc Cert.QUpDxIdeal.main_v13) = v0 c
          ∧ r.2.mem ((c.tc : Thread Cert.QUpDxIdeal.nD Cert.QUpDxIdeal.τ).loc Cert.QUpDxIdeal.main_arg0) = m ((c.tc : Thread Cert.QUpDxIdeal.nD Cert.QUpDxIdeal.τ).loc Cert.QUpDxIdeal.main_arg0)
          ∧ r.2.mem ((c.tc : Thread Cert.QUpDxIdeal.nD Cert.QUpDxIdeal.τ).loc Cert.QUpDxIdeal.main_arg1) = m ((c.tc : Thread Cert.QUpDxIdeal.nD Cert.QUpDxIdeal.τ).loc Cert.QUpDxIdeal.main_arg1)
          ∧ r.2.mem ((c.tc : Thread Cert.QUpDxIdeal.nD Cert.QUpDxIdeal.τ).loc Cert.QUpDxIdeal.main_arg2) = m ((c.tc : Thread Cert.QUpDxIdeal.nD Cert.QUpDxIdeal.τ).loc Cert.QUpDxIdeal.main_arg2))
      ∧ θ_run (Cert.QUpDxRefIdeal.defs (F := Ideal)) (onTc (τ := Cert.QUpDxRefIdeal.τ) (Cert.QUpDxRefIdeal.main (F := Ideal))) ⟨m', fun _ => 0, g'⟩ (fun r => ∀ c : Dev Cert.QUpDxRefIdeal.nD,
          r.2.mem ((c.tc : Thread Cert.QUpDxRefIdeal.nD Cert.QUpDxRefIdeal.τ).loc Cert.QUpDxRefIdeal.main_v4) = v0 c
          ∧ r.2.mem ((c.tc : Thread Cert.QUpDxRefIdeal.nD Cert.QUpDxRefIdeal.τ).loc Cert.QUpDxRefIdeal.main_arg0) = m' ((c.tc : Thread Cert.QUpDxRefIdeal.nD Cert.QUpDxRefIdeal.τ).loc Cert.QUpDxRefIdeal.main_arg0)
          ∧ r.2.mem ((c.tc : Thread Cert.QUpDxRefIdeal.nD Cert.QUpDxRefIdeal.τ).loc Cert.QUpDxRefIdeal.main_arg1) = m' ((c.tc : Thread Cert.QUpDxRefIdeal.nD Cert.QUpDxRefIdeal.τ).loc Cert.QUpDxRefIdeal.main_arg1)
          ∧ r.2.mem ((c.tc : Thread Cert.QUpDxRefIdeal.nD Cert.QUpDxRefIdeal.τ).loc Cert.QUpDxRefIdeal.main_arg2) = m' ((c.tc : Thread Cert.QUpDxRefIdeal.nD Cert.QUpDxRefIdeal.τ).loc Cert.QUpDxRefIdeal.main_arg2))

def preserves_QUpDw_QUpDwIdeal : Prop :=
  True

def algebraic_QUpDwIdeal_QUpDwRefIdeal [hQUpDwIdeal : Cert.QUpDwIdeal.Facts] [hQUpDwRefIdeal : Cert.QUpDwRefIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg)
    (m' : (ℓ : Loc Cert.QUpDwRefIdeal.nD Cert.QUpDwRefIdeal.τ Cert.QUpDwRefIdeal.sig) → Buf (Elt Ideal) ℓ) (g' : Dev Cert.QUpDwRefIdeal.nD → PrngReg), Pre_QUpDwIdeal m →
    (∀ c : Dev Cert.QUpDwIdeal.nD,
      m' ((c.tc : Thread Cert.QUpDwRefIdeal.nD Cert.QUpDwRefIdeal.τ).loc Cert.QUpDwRefIdeal.main_arg0) = m ((c.tc : Thread Cert.QUpDwIdeal.nD Cert.QUpDwIdeal.τ).loc Cert.QUpDwIdeal.main_arg0)
      ∧ m' ((c.tc : Thread Cert.QUpDwRefIdeal.nD Cert.QUpDwRefIdeal.τ).loc Cert.QUpDwRefIdeal.main_arg1) = m ((c.tc : Thread Cert.QUpDwIdeal.nD Cert.QUpDwIdeal.τ).loc Cert.QUpDwIdeal.main_arg1)
      ∧ m' ((c.tc : Thread Cert.QUpDwRefIdeal.nD Cert.QUpDwRefIdeal.τ).loc Cert.QUpDwRefIdeal.main_arg2) = m ((c.tc : Thread Cert.QUpDwIdeal.nD Cert.QUpDwIdeal.τ).loc Cert.QUpDwIdeal.main_arg2)) →
    ∃ (v0 : (c : Dev Cert.QUpDwIdeal.nD) → Buf (Elt Ideal) ((c.tc : Thread Cert.QUpDwIdeal.nD Cert.QUpDwIdeal.τ).loc Cert.QUpDwIdeal.main_v5)),
      θ_run (Cert.QUpDwIdeal.defs (F := Ideal)) (onTc (τ := Cert.QUpDwIdeal.τ) (Cert.QUpDwIdeal.main (F := Ideal))) ⟨m, fun _ => 0, g⟩ (fun r => ∀ c : Dev Cert.QUpDwIdeal.nD,
          r.2.mem ((c.tc : Thread Cert.QUpDwIdeal.nD Cert.QUpDwIdeal.τ).loc Cert.QUpDwIdeal.main_v5) = v0 c
          ∧ r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
          ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1)
          ∧ r.2.mem ((c.tc : Thread Cert.QUpDwIdeal.nD Cert.QUpDwIdeal.τ).loc Cert.QUpDwIdeal.main_arg2) = m ((c.tc : Thread Cert.QUpDwIdeal.nD Cert.QUpDwIdeal.τ).loc Cert.QUpDwIdeal.main_arg2))
      ∧ θ_run (Cert.QUpDwRefIdeal.defs (F := Ideal)) (onTc (τ := Cert.QUpDwRefIdeal.τ) (Cert.QUpDwRefIdeal.main (F := Ideal))) ⟨m', fun _ => 0, g'⟩ (fun r => ∀ c : Dev Cert.QUpDwRefIdeal.nD,
          r.2.mem ((c.tc : Thread Cert.QUpDwRefIdeal.nD Cert.QUpDwRefIdeal.τ).loc Cert.QUpDwRefIdeal.main_v12) = v0 c
          ∧ r.2.mem ((c.tc : Thread Cert.QUpDwRefIdeal.nD Cert.QUpDwRefIdeal.τ).loc Cert.QUpDwRefIdeal.main_arg0) = m' ((c.tc : Thread Cert.QUpDwRefIdeal.nD Cert.QUpDwRefIdeal.τ).loc Cert.QUpDwRefIdeal.main_arg0)
          ∧ r.2.mem ((c.tc : Thread Cert.QUpDwRefIdeal.nD Cert.QUpDwRefIdeal.τ).loc Cert.QUpDwRefIdeal.main_arg1) = m' ((c.tc : Thread Cert.QUpDwRefIdeal.nD Cert.QUpDwRefIdeal.τ).loc Cert.QUpDwRefIdeal.main_arg1)
          ∧ r.2.mem ((c.tc : Thread Cert.QUpDwRefIdeal.nD Cert.QUpDwRefIdeal.τ).loc Cert.QUpDwRefIdeal.main_arg2) = m' ((c.tc : Thread Cert.QUpDwRefIdeal.nD Cert.QUpDwRefIdeal.τ).loc Cert.QUpDwRefIdeal.main_arg2))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hUpDx : Cert.UpDx.Facts) (hUpDxIdeal : Cert.UpDxIdeal.Facts) (hUpDxRefIdeal : Cert.UpDxRefIdeal.Facts) (hGateDw : Cert.GateDw.Facts) (hGateDwIdeal : Cert.GateDwIdeal.Facts) (hGateDwRefIdeal : Cert.GateDwRefIdeal.Facts) (hUpDw : Cert.UpDw.Facts) (hUpDwIdeal : Cert.UpDwIdeal.Facts) (hUpDwRefIdeal : Cert.UpDwRefIdeal.Facts) (hDownDw : Cert.DownDw.Facts) (hDownDwIdeal : Cert.DownDwIdeal.Facts) (hDownDwRefIdeal : Cert.DownDwRefIdeal.Facts) (hFfnGate : Cert.FfnGate.Facts) (hFfnGateIdeal : Cert.FfnGateIdeal.Facts) (hFfnGateRefIdeal : Cert.FfnGateRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hMergeBwd : Cert.MergeBwd.Facts) (hMergeBwdIdeal : Cert.MergeBwdIdeal.Facts) (hMergeBwdRefIdeal : Cert.MergeBwdRefIdeal.Facts) (hMixInDx : Cert.MixInDx.Facts) (hMixInDxIdeal : Cert.MixInDxIdeal.Facts) (hMixInDxRefIdeal : Cert.MixInDxRefIdeal.Facts) (hMixIn : Cert.MixIn.Facts) (hMixInIdeal : Cert.MixInIdeal.Facts) (hMixInRefIdeal : Cert.MixInRefIdeal.Facts) (hMixDw0 : Cert.MixDw0.Facts) (hMixDw0Ideal : Cert.MixDw0Ideal.Facts) (hMixDw0RefIdeal : Cert.MixDw0RefIdeal.Facts) (hMixDw1 : Cert.MixDw1.Facts) (hMixDw1Ideal : Cert.MixDw1Ideal.Facts) (hMixDw1RefIdeal : Cert.MixDw1RefIdeal.Facts) (hMixDw2 : Cert.MixDw2.Facts) (hMixDw2Ideal : Cert.MixDw2Ideal.Facts) (hMixDw2RefIdeal : Cert.MixDw2RefIdeal.Facts) (hMixDw3 : Cert.MixDw3.Facts) (hMixDw3Ideal : Cert.MixDw3Ideal.Facts) (hMixDw3RefIdeal : Cert.MixDw3RefIdeal.Facts) (hMixDw4 : Cert.MixDw4.Facts) (hMixDw4Ideal : Cert.MixDw4Ideal.Facts) (hMixDw4RefIdeal : Cert.MixDw4RefIdeal.Facts) (hMixDw5 : Cert.MixDw5.Facts) (hMixDw5Ideal : Cert.MixDw5Ideal.Facts) (hMixDw5RefIdeal : Cert.MixDw5RefIdeal.Facts) (hMixDw6 : Cert.MixDw6.Facts) (hMixDw6Ideal : Cert.MixDw6Ideal.Facts) (hMixDw6RefIdeal : Cert.MixDw6RefIdeal.Facts) (hMlaOutDw : Cert.MlaOutDw.Facts) (hMlaOutDwIdeal : Cert.MlaOutDwIdeal.Facts) (hMlaOutDwRefIdeal : Cert.MlaOutDwRefIdeal.Facts) (hHgrnOutDw : Cert.HgrnOutDw.Facts) (hHgrnOutDwIdeal : Cert.HgrnOutDwIdeal.Facts) (hHgrnOutDwRefIdeal : Cert.HgrnOutDwRefIdeal.Facts) (hMixOutDw : Cert.MixOutDw.Facts) (hMixOutDwIdeal : Cert.MixOutDwIdeal.Facts) (hMixOutDwRefIdeal : Cert.MixOutDwRefIdeal.Facts) (hMlaOutDx : Cert.MlaOutDx.Facts) (hMlaOutDxIdeal : Cert.MlaOutDxIdeal.Facts) (hMlaOutDxRefIdeal : Cert.MlaOutDxRefIdeal.Facts) (hHgrnOutDx : Cert.HgrnOutDx.Facts) (hHgrnOutDxIdeal : Cert.HgrnOutDxIdeal.Facts) (hHgrnOutDxRefIdeal : Cert.HgrnOutDxRefIdeal.Facts) (hMixOutDx : Cert.MixOutDx.Facts) (hMixOutDxIdeal : Cert.MixOutDxIdeal.Facts) (hMixOutDxRefIdeal : Cert.MixOutDxRefIdeal.Facts) (hMlaOut : Cert.MlaOut.Facts) (hMlaOutIdeal : Cert.MlaOutIdeal.Facts) (hMlaOutRefIdeal : Cert.MlaOutRefIdeal.Facts) (hHgrnOut : Cert.HgrnOut.Facts) (hHgrnOutIdeal : Cert.HgrnOutIdeal.Facts) (hHgrnOutRefIdeal : Cert.HgrnOutRefIdeal.Facts) (hMixOut : Cert.MixOut.Facts) (hMixOutIdeal : Cert.MixOutIdeal.Facts) (hMixOutRefIdeal : Cert.MixOutRefIdeal.Facts) (hKvUp : Cert.KvUp.Facts) (hKvUpIdeal : Cert.KvUpIdeal.Facts) (hKvUpRefIdeal : Cert.KvUpRefIdeal.Facts) (hKvUpDx : Cert.KvUpDx.Facts) (hKvUpDxIdeal : Cert.KvUpDxIdeal.Facts) (hKvUpDxRefIdeal : Cert.KvUpDxRefIdeal.Facts) (hKvUpDw : Cert.KvUpDw.Facts) (hKvUpDwIdeal : Cert.KvUpDwIdeal.Facts) (hKvUpDwRefIdeal : Cert.KvUpDwRefIdeal.Facts) (hQUp : Cert.QUp.Facts) (hQUpIdeal : Cert.QUpIdeal.Facts) (hQUpRefIdeal : Cert.QUpRefIdeal.Facts) (hQUpDx : Cert.QUpDx.Facts) (hQUpDxIdeal : Cert.QUpDxIdeal.Facts) (hQUpDxRefIdeal : Cert.QUpDxRefIdeal.Facts) (hQUpDw : Cert.QUpDw.Facts) (hQUpDwIdeal : Cert.QUpDwIdeal.Facts) (hQUpDwRefIdeal : Cert.QUpDwRefIdeal.Facts) (hPre_finite_scores : Cert.Pre_finite_scores.Facts) (hPre_finite_down : Cert.Pre_finite_down.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_DownDx (hDownDx := hDownDx)
    ∧ quiescent_DownDxIdeal (hDownDxIdeal := hDownDxIdeal)
    ∧ quiescent_DownDxIdeal_pre_finite_down (hDownDxIdeal := hDownDxIdeal) (hPre_finite_down := hPre_finite_down)
    ∧ quiescent_DownDxRefIdeal (hDownDxRefIdeal := hDownDxRefIdeal)
    ∧ quiescent_DownDxRefIdeal_pre_finite_down (hDownDxRefIdeal := hDownDxRefIdeal) (hPre_finite_down := hPre_finite_down)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_FfnGate (hFfnGate := hFfnGate)
    ∧ quiescent_FfnGateIdeal (hFfnGateIdeal := hFfnGateIdeal)
    ∧ quiescent_FfnGateRefIdeal (hFfnGateRefIdeal := hFfnGateRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_MixInDx (hMixInDx := hMixInDx)
    ∧ quiescent_MixInDxIdeal (hMixInDxIdeal := hMixInDxIdeal)
    ∧ quiescent_MixInDxRefIdeal (hMixInDxRefIdeal := hMixInDxRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixDw0 (hMixDw0 := hMixDw0)
    ∧ quiescent_MixDw0Ideal (hMixDw0Ideal := hMixDw0Ideal)
    ∧ quiescent_MixDw0RefIdeal (hMixDw0RefIdeal := hMixDw0RefIdeal)
    ∧ quiescent_MixDw1 (hMixDw1 := hMixDw1)
    ∧ quiescent_MixDw1Ideal (hMixDw1Ideal := hMixDw1Ideal)
    ∧ quiescent_MixDw1RefIdeal (hMixDw1RefIdeal := hMixDw1RefIdeal)
    ∧ quiescent_MixDw2 (hMixDw2 := hMixDw2)
    ∧ quiescent_MixDw2Ideal (hMixDw2Ideal := hMixDw2Ideal)
    ∧ quiescent_MixDw2RefIdeal (hMixDw2RefIdeal := hMixDw2RefIdeal)
    ∧ quiescent_MixDw3 (hMixDw3 := hMixDw3)
    ∧ quiescent_MixDw3Ideal (hMixDw3Ideal := hMixDw3Ideal)
    ∧ quiescent_MixDw3RefIdeal (hMixDw3RefIdeal := hMixDw3RefIdeal)
    ∧ quiescent_MixDw4 (hMixDw4 := hMixDw4)
    ∧ quiescent_MixDw4Ideal (hMixDw4Ideal := hMixDw4Ideal)
    ∧ quiescent_MixDw4RefIdeal (hMixDw4RefIdeal := hMixDw4RefIdeal)
    ∧ quiescent_MixDw5 (hMixDw5 := hMixDw5)
    ∧ quiescent_MixDw5Ideal (hMixDw5Ideal := hMixDw5Ideal)
    ∧ quiescent_MixDw5RefIdeal (hMixDw5RefIdeal := hMixDw5RefIdeal)
    ∧ quiescent_MixDw6 (hMixDw6 := hMixDw6)
    ∧ quiescent_MixDw6Ideal (hMixDw6Ideal := hMixDw6Ideal)
    ∧ quiescent_MixDw6RefIdeal (hMixDw6RefIdeal := hMixDw6RefIdeal)
    ∧ quiescent_MlaOutDw (hMlaOutDw := hMlaOutDw)
    ∧ quiescent_MlaOutDwIdeal (hMlaOutDwIdeal := hMlaOutDwIdeal)
    ∧ quiescent_MlaOutDwRefIdeal (hMlaOutDwRefIdeal := hMlaOutDwRefIdeal)
    ∧ quiescent_HgrnOutDw (hHgrnOutDw := hHgrnOutDw)
    ∧ quiescent_HgrnOutDwIdeal (hHgrnOutDwIdeal := hHgrnOutDwIdeal)
    ∧ quiescent_HgrnOutDwRefIdeal (hHgrnOutDwRefIdeal := hHgrnOutDwRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_MlaOutDx (hMlaOutDx := hMlaOutDx)
    ∧ quiescent_MlaOutDxIdeal (hMlaOutDxIdeal := hMlaOutDxIdeal)
    ∧ quiescent_MlaOutDxRefIdeal (hMlaOutDxRefIdeal := hMlaOutDxRefIdeal)
    ∧ quiescent_HgrnOutDx (hHgrnOutDx := hHgrnOutDx)
    ∧ quiescent_HgrnOutDxIdeal (hHgrnOutDxIdeal := hHgrnOutDxIdeal)
    ∧ quiescent_HgrnOutDxRefIdeal (hHgrnOutDxRefIdeal := hHgrnOutDxRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_MlaOut (hMlaOut := hMlaOut)
    ∧ quiescent_MlaOutIdeal (hMlaOutIdeal := hMlaOutIdeal)
    ∧ quiescent_MlaOutRefIdeal (hMlaOutRefIdeal := hMlaOutRefIdeal)
    ∧ quiescent_HgrnOut (hHgrnOut := hHgrnOut)
    ∧ quiescent_HgrnOutIdeal (hHgrnOutIdeal := hHgrnOutIdeal)
    ∧ quiescent_HgrnOutRefIdeal (hHgrnOutRefIdeal := hHgrnOutRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_KvUpDx (hKvUpDx := hKvUpDx)
    ∧ quiescent_KvUpDxIdeal (hKvUpDxIdeal := hKvUpDxIdeal)
    ∧ quiescent_KvUpDxRefIdeal (hKvUpDxRefIdeal := hKvUpDxRefIdeal)
    ∧ quiescent_KvUpDw (hKvUpDw := hKvUpDw)
    ∧ quiescent_KvUpDwIdeal (hKvUpDwIdeal := hKvUpDwIdeal)
    ∧ quiescent_KvUpDwRefIdeal (hKvUpDwRefIdeal := hKvUpDwRefIdeal)
    ∧ quiescent_QUp (hQUp := hQUp)
    ∧ quiescent_QUpIdeal (hQUpIdeal := hQUpIdeal)
    ∧ quiescent_QUpRefIdeal (hQUpRefIdeal := hQUpRefIdeal)
    ∧ quiescent_QUpDx (hQUpDx := hQUpDx)
    ∧ quiescent_QUpDxIdeal (hQUpDxIdeal := hQUpDxIdeal)
    ∧ quiescent_QUpDxRefIdeal (hQUpDxRefIdeal := hQUpDxRefIdeal)
    ∧ quiescent_QUpDw (hQUpDw := hQUpDw)
    ∧ quiescent_QUpDwIdeal (hQUpDwIdeal := hQUpDwIdeal)
    ∧ quiescent_QUpDwRefIdeal (hQUpDwRefIdeal := hQUpDwRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_DownDx_DownDxIdeal
    ∧ algebraic_DownDxIdeal_DownDxRefIdeal_pre_finite_down (hDownDxIdeal := hDownDxIdeal) (hDownDxRefIdeal := hDownDxRefIdeal) (hPre_finite_down := hPre_finite_down)
    ∧ preserves_UpDx_UpDxIdeal
    ∧ algebraic_UpDxIdeal_UpDxRefIdeal (hUpDxIdeal := hUpDxIdeal) (hUpDxRefIdeal := hUpDxRefIdeal)
    ∧ preserves_GateDw_GateDwIdeal
    ∧ algebraic_GateDwIdeal_GateDwRefIdeal (hGateDwIdeal := hGateDwIdeal) (hGateDwRefIdeal := hGateDwRefIdeal)
    ∧ preserves_UpDw_UpDwIdeal
    ∧ algebraic_UpDwIdeal_UpDwRefIdeal (hUpDwIdeal := hUpDwIdeal) (hUpDwRefIdeal := hUpDwRefIdeal)
    ∧ preserves_DownDw_DownDwIdeal
    ∧ algebraic_DownDwIdeal_DownDwRefIdeal (hDownDwIdeal := hDownDwIdeal) (hDownDwRefIdeal := hDownDwRefIdeal)
    ∧ preserves_FfnGate_FfnGateIdeal
    ∧ algebraic_FfnGateIdeal_FfnGateRefIdeal (hFfnGateIdeal := hFfnGateIdeal) (hFfnGateRefIdeal := hFfnGateRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_MixInDx_MixInDxIdeal
    ∧ algebraic_MixInDxIdeal_MixInDxRefIdeal (hMixInDxIdeal := hMixInDxIdeal) (hMixInDxRefIdeal := hMixInDxRefIdeal)
    ∧ preserves_MixIn_MixInIdeal
    ∧ algebraic_MixInIdeal_MixInRefIdeal (hMixInIdeal := hMixInIdeal) (hMixInRefIdeal := hMixInRefIdeal)
    ∧ preserves_MixDw0_MixDw0Ideal
    ∧ algebraic_MixDw0Ideal_MixDw0RefIdeal (hMixDw0Ideal := hMixDw0Ideal) (hMixDw0RefIdeal := hMixDw0RefIdeal)
    ∧ preserves_MixDw1_MixDw1Ideal
    ∧ algebraic_MixDw1Ideal_MixDw1RefIdeal (hMixDw1Ideal := hMixDw1Ideal) (hMixDw1RefIdeal := hMixDw1RefIdeal)
    ∧ preserves_MixDw2_MixDw2Ideal
    ∧ algebraic_MixDw2Ideal_MixDw2RefIdeal (hMixDw2Ideal := hMixDw2Ideal) (hMixDw2RefIdeal := hMixDw2RefIdeal)
    ∧ preserves_MixDw3_MixDw3Ideal
    ∧ algebraic_MixDw3Ideal_MixDw3RefIdeal (hMixDw3Ideal := hMixDw3Ideal) (hMixDw3RefIdeal := hMixDw3RefIdeal)
    ∧ preserves_MixDw4_MixDw4Ideal
    ∧ algebraic_MixDw4Ideal_MixDw4RefIdeal (hMixDw4Ideal := hMixDw4Ideal) (hMixDw4RefIdeal := hMixDw4RefIdeal)
    ∧ preserves_MixDw5_MixDw5Ideal
    ∧ algebraic_MixDw5Ideal_MixDw5RefIdeal (hMixDw5Ideal := hMixDw5Ideal) (hMixDw5RefIdeal := hMixDw5RefIdeal)
    ∧ preserves_MixDw6_MixDw6Ideal
    ∧ algebraic_MixDw6Ideal_MixDw6RefIdeal (hMixDw6Ideal := hMixDw6Ideal) (hMixDw6RefIdeal := hMixDw6RefIdeal)
    ∧ preserves_MlaOutDw_MlaOutDwIdeal
    ∧ algebraic_MlaOutDwIdeal_MlaOutDwRefIdeal (hMlaOutDwIdeal := hMlaOutDwIdeal) (hMlaOutDwRefIdeal := hMlaOutDwRefIdeal)
    ∧ preserves_HgrnOutDw_HgrnOutDwIdeal
    ∧ algebraic_HgrnOutDwIdeal_HgrnOutDwRefIdeal (hHgrnOutDwIdeal := hHgrnOutDwIdeal) (hHgrnOutDwRefIdeal := hHgrnOutDwRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_MlaOutDx_MlaOutDxIdeal
    ∧ algebraic_MlaOutDxIdeal_MlaOutDxRefIdeal (hMlaOutDxIdeal := hMlaOutDxIdeal) (hMlaOutDxRefIdeal := hMlaOutDxRefIdeal)
    ∧ preserves_HgrnOutDx_HgrnOutDxIdeal
    ∧ algebraic_HgrnOutDxIdeal_HgrnOutDxRefIdeal (hHgrnOutDxIdeal := hHgrnOutDxIdeal) (hHgrnOutDxRefIdeal := hHgrnOutDxRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_MlaOut_MlaOutIdeal
    ∧ algebraic_MlaOutIdeal_MlaOutRefIdeal (hMlaOutIdeal := hMlaOutIdeal) (hMlaOutRefIdeal := hMlaOutRefIdeal)
    ∧ preserves_HgrnOut_HgrnOutIdeal
    ∧ algebraic_HgrnOutIdeal_HgrnOutRefIdeal (hHgrnOutIdeal := hHgrnOutIdeal) (hHgrnOutRefIdeal := hHgrnOutRefIdeal)
    ∧ preserves_MixOut_MixOutIdeal
    ∧ algebraic_MixOutIdeal_MixOutRefIdeal (hMixOutIdeal := hMixOutIdeal) (hMixOutRefIdeal := hMixOutRefIdeal)
    ∧ preserves_KvUp_KvUpIdeal
    ∧ algebraic_KvUpIdeal_KvUpRefIdeal (hKvUpIdeal := hKvUpIdeal) (hKvUpRefIdeal := hKvUpRefIdeal)
    ∧ preserves_KvUpDx_KvUpDxIdeal
    ∧ algebraic_KvUpDxIdeal_KvUpDxRefIdeal (hKvUpDxIdeal := hKvUpDxIdeal) (hKvUpDxRefIdeal := hKvUpDxRefIdeal)
    ∧ preserves_KvUpDw_KvUpDwIdeal
    ∧ algebraic_KvUpDwIdeal_KvUpDwRefIdeal (hKvUpDwIdeal := hKvUpDwIdeal) (hKvUpDwRefIdeal := hKvUpDwRefIdeal)
    ∧ preserves_QUp_QUpIdeal
    ∧ algebraic_QUpIdeal_QUpRefIdeal (hQUpIdeal := hQUpIdeal) (hQUpRefIdeal := hQUpRefIdeal)
    ∧ preserves_QUpDx_QUpDxIdeal
    ∧ algebraic_QUpDxIdeal_QUpDxRefIdeal (hQUpDxIdeal := hQUpDxIdeal) (hQUpDxRefIdeal := hQUpDxRefIdeal)
    ∧ preserves_QUpDw_QUpDwIdeal
    ∧ algebraic_QUpDwIdeal_QUpDwRefIdeal (hQUpDwIdeal := hQUpDwIdeal) (hQUpDwRefIdeal := hQUpDwRefIdeal)
-- ==== Pre_finite_down.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S2048x2048 .f32) (main_arg1 : FVec F S5632x2048 .f32) (main_arg2 : FVec F S2048x5632 .f32) (main_arg3 : FVec F S2048x5632 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S2048x5632 .f32 := Host.absf main_arg3
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  main_v13
-- ==== Pre_finite_scores.lean ====
abbrev S2048x16x128 : Shape := ⟨3, ![2048, 16, 128]⟩
abbrev S2048x16x64 : Shape := ⟨3, ![2048, 16, 64]⟩
abbrev S2048x64 : Shape := ⟨2, ![2048, 64]⟩
abbrev S2048x2048 : Shape := ⟨2, ![2048, 2048]⟩
abbrev S_ : Shape := ⟨0, ![]⟩

class Facts : Prop where
  bcast_S_S2048x16x128 : S_.BroadcastsInDim S2048x16x128 (![] : Fin 0 → Fin S2048x16x128.rank)
  reducesTo_S2048x16x128_S_d0_1_2 : S2048x16x128.ReducesTo [0, 1, 2] S_
  h_S_ : 0 < S_.numel
  bcast_S_S2048x16x64 : S_.BroadcastsInDim S2048x16x64 (![] : Fin 0 → Fin S2048x16x64.rank)
  reducesTo_S2048x16x64_S_d0_1_2 : S2048x16x64.ReducesTo [0, 1, 2] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  main_v18

def fn {F : FTy → Type} [FloatOps F] (main_arg0 : FVec F S2048x16x128 .f32) (main_arg1 : FVec F S2048x16x64 .f32) (main_arg2 : FVec F S2048x16x128 .f32) (main_arg3 : FVec F S2048x16x128 .f32) (main_arg4 : FVec F S2048x64 .f32) (main_arg5 : FVec F S2048x2048 .f32) : IVec S_ 1 :=
  let main_v0 : FVec F S2048x16x128 .f32 := Host.absf main_arg0
  let main_cst : FVec F S_ .f32 := constant S_ .f32 0x7F800000#32
  let main_v1 : FVec F S2048x16x128 .f32 := broadcastInDim S2048x16x128 ![] bcast_S_S2048x16x128 main_cst
  let main_v2 : IVec S2048x16x128 1 := cmpf .olt main_v0 main_v1
  let main_c : IVec S_ 1 := constantI S_ 1 1#1
  let main_v3 : IVec S_ 1 := (fun x v => Host.reduce IntOp.andi x v reducesTo_S2048x16x128_S_d0_1_2 h_S_) main_v2 main_c
  let main_v4 : FVec F S2048x16x64 .f32 := Host.absf main_arg1
  let main_cst_0 : FVec F S_ .f32 := constant S_ .f32 0x7F800000#32
  let main_v5 : FVec F S2048x16x64 .f32 := broadcastInDim S2048x16x64 ![] bcast_S_S2048x16x64 main_cst_0
  let main_v6 : IVec S2048x16x64 1 := cmpf .olt main_v4 main_v5
  let main_c_1 : IVec S_ 1 := constantI S_ 1 1#1
  let main_v7 : IVec S_ 1 := (fun x v => Host.reduce IntOp.andi x v reducesTo_S2048x16x64_S_d0_1_2 h_S_) main_v6 main_c_1
  let main_v8 : IVec S_ 1 := andi main_v3 main_v7
  let main_v9 : FVec F S2048x16x128 .f32 := Host.absf main_arg2
  let main_cst_2 : FVec F S_ .f32 := constant S_ .f32 0x7F800000#32
  let main_v10 : FVec F S2048x16x128 .f32 := broadcastInDim S2048x16x128 ![] bcast_S_S2048x16x128 main_cst_2
  let main_v11 : IVec S2048x16x128 1 := cmpf .olt main_v9 main_v10
  let main_c_3 : IVec S_ 1 := constantI S_ 1 1#1
  let main_v12 : IVec S_ 1 := (fun x v => Host.reduce IntOp.andi x v reducesTo_S2048x16x128_S_d0_1_2 h_S_) main_v11 main_c_3
  let main_v13 : IVec S_ 1 := andi main_v8 main_v12
  let main_v14 : FVec F S2048x64 .f32 := Host.absf main_arg4
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_v13 main_v16
-- ==== Kernel.lean ====
abbrev S2048x16x128 : Shape := ⟨3, ![2048, 16, 128]⟩
abbrev S2048x16x64 : Shape := ⟨3, ![2048, 16, 64]⟩
abbrev S2048x64 : Shape := ⟨2, ![2048, 64]⟩
abbrev S2048x2048 : Shape := ⟨2, ![2048, 2048]⟩
abbrev S_ : Shape := ⟨0, ![]⟩
abbrev S2048x16x256 : Shape := ⟨3, ![2048, 16, 256]⟩
abbrev S2048x128 : Shape := ⟨2, ![2048, 128]⟩
abbrev S2048x4096 : Shape := ⟨2, ![2048, 4096]⟩
abbrev S256x256 : Shape := ⟨2, ![256, 256]⟩
abbrev S2048x256 : Shape := ⟨2, ![2048, 256]⟩
abbrev S256x128 : Shape := ⟨2, ![256, 128]⟩
abbrev S256 : Shape := ⟨1, ![256]⟩
abbrev S256x1 : Shape := ⟨2, ![256, 1]⟩
abbrev S512x256 : Shape := ⟨2, ![512, 256]⟩
abbrev S512x128 : Shape := ⟨2, ![512, 128]⟩
abbrev S256x512 : Shape := ⟨2, ![256, 512]⟩
abbrev S768x256 : Shape := ⟨2, ![768, 256]⟩
abbrev S768x128 : Shape := ⟨2, ![768, 128]⟩
abbrev S256x768 : Shape := ⟨2, ![256, 768]⟩
abbrev S1024x256 : Shape := ⟨2, ![1024, 256]⟩
abbrev S1024x128 : Shape := ⟨2, ![1024, 128]⟩
abbrev S256x1024 : Shape := ⟨2, ![256, 1024]⟩
abbrev S1280x256 : Shape := ⟨2, ![1280, 256]⟩
abbrev S1280x128 : Shape := ⟨2, ![1280, 128]⟩
abbrev S256x1280 : Shape := ⟨2, ![256, 1280]⟩
abbrev S1536x256 : Shape := ⟨2, ![1536, 256]⟩
abbrev S1536x128 : Shape := ⟨2, ![1536, 128]⟩
abbrev S256x1536 : Shape := ⟨2, ![256, 1536]⟩
abbrev S1792x256 : Shape := ⟨2, ![1792, 256]⟩
abbrev S1792x128 : Shape := ⟨2, ![1792, 128]⟩
abbrev S256x1792 : Shape := ⟨2, ![256, 1792]⟩
abbrev S256x2048 : Shape := ⟨2, ![256, 2048]⟩

abbrev nBuf : Space → Nat
  | .hbm => 21
  | .vmem => 14
  | .smem => 0
  | _ => 0

abbrev bufTy : (tb : Table) → Fin (tcTables nBuf tb) → BufTy
  | .hbm, ⟨0, _⟩ => ⟨S2048x16x128, .f32⟩
  | .hbm, ⟨1, _⟩ => ⟨S2048x16x64, .f32⟩
  | .hbm, ⟨2, _⟩ => ⟨S2048x16x128, .f32⟩
  | .hbm, ⟨3, _⟩ => ⟨S2048x16x128, .f32⟩
  | .hbm, ⟨4, _⟩ => ⟨S2048x64, .f32⟩
  | .hbm, ⟨5, _⟩ => ⟨S2048x2048, .f32⟩
  | .hbm, ⟨6, _⟩ => ⟨S_, .f32⟩
  | .hbm, ⟨7, _⟩ => ⟨S2048x16x64, .f32⟩
  | .hbm, ⟨8, _⟩ => ⟨S2048x16x256, .f32⟩
  | .hbm, ⟨9, _⟩ => ⟨S2048x16x256, .f32⟩
  | .hbm, ⟨10, _⟩ => ⟨S_, .f32⟩
  | .hbm, ⟨11, _⟩ => ⟨S2048x64, .f32⟩
  | .hbm, ⟨12, _⟩ => ⟨S2048x128, .f32⟩
  | .hbm, ⟨13, _⟩ => ⟨S2048x4096, .f32⟩
  | .hbm, ⟨14, _⟩ => ⟨S2048x4096, .bf16⟩
  | .hbm, ⟨15, _⟩ => ⟨S2048x4096, .f32⟩
  | .hbm, ⟨16, _⟩ => ⟨S2048x4096, .bf16⟩
  | .hbm, ⟨17, _⟩ => ⟨S2048x128, .bf16⟩
  | .hbm, ⟨18, _⟩ => ⟨S2048x4096, .f32⟩
  | .hbm, ⟨19, _⟩ => ⟨S2048x4096, .f32⟩
  | .hbm, ⟨20, _⟩ => ⟨S2048x128, .f32⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S256x128, .f32⟩
  | .local _ .vmem, ⟨6, _⟩ => ⟨S256x128, .f32⟩
  | .local _ .vmem, ⟨7, _⟩ => ⟨S256x256, .f32⟩
  | .local _ .vmem, ⟨8, _⟩ => ⟨S256x256, .f32⟩
  | .local _ .vmem, ⟨9, _⟩ => ⟨S2048x256, .f32⟩
  | .local _ .vmem, ⟨10, _⟩ => ⟨S2048x256, .f32⟩
  | .local _ .vmem, ⟨11, _⟩ => ⟨S2048x128, .f32⟩
  | .local _ .vmem, ⟨12, _⟩ => ⟨S2048x256, .f32⟩
  | .local _ .vmem, ⟨13, _⟩ => ⟨S2048x128, .f32⟩
  | _, _ => ⟨S2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c0_i32_4 : BitVec 32 := 0#32
  let v8 : BitVec 1 := Scalar.cmpi .eq arg1 c0_i32_4
  let v9 : BitVec 32 := Scalar.extui v8
  let c0_i32_5 : BitVec 32 := 0#32
  let v10 : BitVec 1 := Scalar.cmpi .ne v9 c0_i32_5
  v10

def k0_cond4 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def k0_cond5 (i : grid0.Coords) : BitVec 1 :=
  let arg1 : BitVec 32 := BitVec.ofNat 32 (i 1).val
  let c2_i32 : BitVec 32 := 2#32
  let v14 : BitVec 1 := Scalar.cmpi .eq arg1 c2_i32
  let v15 : BitVec 32 := Scalar.extui v14
  let c0_i32_7 : BitVec 32 := 0#32
  let v16 : BitVec 1 := Scalar.cmpi .ne v15 c0_i32_7
  v16

def k0_cond6 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_8 : BitVec 32 := 0#32
  let v19 : BitVec 1 := Scalar.cmpi .ne v18 c0_i32_8
  v19

def k0_cond7 (i : grid0.Coords) : BitVec 1 :=
  let arg1 : BitVec 32 := BitVec.ofNat 32 (i 1).val
  let c4_i32 : BitVec 32 := 4#32
  let v20 : BitVec 1 := Scalar.cmpi .eq arg1 c4_i32
  let v21 : BitVec 32 := Scalar.extui v20
  let c0_i32_9 : BitVec 32 := 0#32
  let v22 : BitVec 1 := Scalar.cmpi .ne v21 c0_i32_9
  v22

def k0_cond8 (i : grid0.Coords) : BitVec 1 :=
  let arg1 : BitVec 32 := BitVec.ofNat 32 (i 1).val
  let c5_i32 : BitVec 32 := 5#32
  let v23 : BitVec 1 := Scalar.cmpi .eq arg1 c5_i32
  let v24 : BitVec 32 := Scalar.extui v23
  let c0_i32_10 : BitVec 32 := 0#32
  let v25 : BitVec 1 := Scalar.cmpi .ne v24 c0_i32_10
  v25

def k0_cond9 (i : grid0.Coords) : BitVec 1 :=
  let arg1 : BitVec 32 := BitVec.ofNat 32 (i 1).val
  let c6_i32 : BitVec 32 := 6#32
  let v26 : BitVec 1 := Scalar.cmpi .eq arg1 c6_i32
  let v27 : BitVec 32 := Scalar.extui v26
  let c0_i32_11 : BitVec 32 := 0#32
  let v28 : BitVec 1 := Scalar.cmpi .ne v27 c0_i32_11
  v28

def k0_cond10 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_12 : BitVec 32 := 0#32
  let v31 : BitVec 1 := Scalar.cmpi .ne v30 c0_i32_12
  v31

def k0_cond11 (i : grid0.Coords) : BitVec 1 :=
  let arg1 : BitVec 32 := BitVec.ofNat 32 (i 1).val
  let c7_i32_13 : BitVec 32 := 7#32
  let v32 : BitVec 1 := Scalar.cmpi .eq arg1 c7_i32_13
  let v33 : BitVec 32 := Scalar.extui v32
  let c0_i32_14 : BitVec 32 := 0#32
  let v34 : BitVec 1 := Scalar.cmpi .ne v33 c0_i32_14
  v34

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S2048x16x128 : Shape := ⟨3, ![2048, 16, 128]⟩
abbrev S2048x16x64 : Shape := ⟨3, ![2048, 16, 64]⟩
abbrev S2048x64 : Shape := ⟨2, ![2048, 64]⟩
abbrev S2048x2048 : Shape := ⟨2, ![2048, 2048]⟩
abbrev S2048 : Shape := ⟨1, ![2048]⟩
abbrev S16x2048x2048 : Shape := ⟨3, ![16, 2048, 2048]⟩
abbrev S2048x2048x16 : Shape := ⟨3, ![2048, 2048, 16]⟩
abbrev S_ : Shape := ⟨0, ![]⟩
abbrev S1x2048 : Shape := ⟨2, ![1, 2048]⟩
abbrev S2048x1 : Shape := ⟨2, ![2048, 1]⟩
abbrev S16x2048 : Shape := ⟨2, ![16, 2048]⟩
abbrev S16x2048x1 : Shape := ⟨3, ![16, 2048, 1]⟩
abbrev S16x128x2048 : Shape := ⟨3, ![16, 128, 2048]⟩
abbrev S16x2048x128 : Shape := ⟨3, ![16, 2048, 128]⟩
abbrev S2048x16x256 : Shape := ⟨3, ![2048, 16, 256]⟩
abbrev S2048x4096 : Shape := ⟨2, ![2048, 4096]⟩
abbrev S2048x128 : Shape := ⟨2, ![2048, 128]⟩

abbrev nBuf : Space → Nat
  | .hbm => 108
  | .vmem => 0
  | .smem => 0
  | _ => 0

abbrev bufTy : (tb : Table) → Fin (tcTables nBuf tb) → BufTy
  | .hbm, ⟨0, _⟩ => ⟨S2048x16x128, .f32⟩
  | .hbm, ⟨1, _⟩ => ⟨S2048x16x64, .f32⟩
  | .hbm, ⟨2, _⟩ => ⟨S2048x16x128, .f32⟩
  | .hbm, ⟨3, _⟩ => ⟨S2048x16x128, .f32⟩
  | .hbm, ⟨4, _⟩ => ⟨S2048x64, .f32⟩
  | .hbm, ⟨5, _⟩ => ⟨S2048x2048, .f32⟩
  | .hbm, ⟨6, _⟩ => ⟨S2048, .i32⟩
  | .hbm, ⟨7, _⟩ => ⟨S16x2048x2048, .f32⟩
  | .hbm, ⟨8, _⟩ => ⟨S2048x2048x16, .f32⟩
  | .hbm, ⟨9, _⟩ => ⟨S16x2048x2048, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S16x2048x2048, .i1⟩
  | .hbm, ⟨22, _⟩ => ⟨S16x2048x2048, .f32⟩
  | .hbm, ⟨23, _⟩ => ⟨S16x2048x2048, .f32⟩
  | .hbm, ⟨24, _⟩ => ⟨S_, .f32⟩
  | .hbm, ⟨25, _⟩ => ⟨S16x2048x2048, .f32⟩
  | .hbm, ⟨26, _⟩ => ⟨S_, .f32⟩
  | .hbm, ⟨27, _⟩ => ⟨S16x2048, .f32⟩
  | .hbm, ⟨28, _⟩ => ⟨S16x2048x1, .f32⟩
  | .hbm, ⟨29, _⟩ => ⟨S16x2048x2048, .f32⟩
  | .hbm, ⟨30, _⟩ => ⟨S16x2048x2048, .i1⟩
  | .hbm, ⟨31, _⟩ => ⟨S16x2048x2048, .f32⟩
  | .hbm, ⟨32, _⟩ => ⟨S_, .f32⟩
  | .hbm, ⟨33, _⟩ => ⟨S16x2048, .f32⟩
  | .hbm, ⟨34, _⟩ => ⟨S_, .f32⟩
  | .hbm, ⟨35, _⟩ => ⟨S16x2048, .f32⟩
  | .hbm, ⟨36, _⟩ => ⟨S16x2048, .f32⟩
  | .hbm, ⟨37, _⟩ => ⟨S_, .f32⟩
  | .hbm, ⟨38, _⟩ => ⟨S16x2048, .f32⟩
  | .hbm, ⟨39, _⟩ => ⟨S16x2048, .i1⟩
  | .hbm, ⟨40, _⟩ => ⟨S_, .f32⟩
  | .hbm, ⟨41, _⟩ => ⟨S16x2048, .f32⟩
  | .hbm, ⟨42, _⟩ => ⟨S16x2048, .i1⟩
  | .hbm, ⟨43, _⟩ => ⟨S_, .f32⟩
  | .hbm, ⟨44, _⟩ => ⟨S16x2048, .f32⟩
  | .hbm, ⟨45, _⟩ => ⟨S_, .f32⟩
  | .hbm, ⟨46, _⟩ => ⟨S16x2048, .f32⟩
  | .hbm, ⟨47, _⟩ => ⟨S_, .f32⟩
  | .hbm, ⟨48, _⟩ => ⟨S16x2048, .f32⟩
  | .hbm, ⟨49, _⟩ => ⟨S16x2048, .f32⟩
  | .hbm, ⟨50, _⟩ => ⟨S16x2048, .f32⟩
  | .hbm, ⟨51, _⟩ => ⟨S16x2048x1, .f32⟩
  | .hbm, ⟨52, _⟩ => ⟨S16x2048x2048, .f32⟩
  | .hbm, ⟨53, _⟩ => ⟨S16x2048x2048, .f32⟩
  | .hbm, ⟨54, _⟩ => ⟨S16x2048x2048, .f32⟩
  | .hbm, ⟨55, _⟩ => ⟨S_, .f32⟩
  | .hbm, ⟨56, _⟩ => ⟨S16x2048, .f32⟩
  | .hbm, ⟨57, _⟩ => ⟨S16x2048x1, .f32⟩
  | .hbm, ⟨58, _⟩ => ⟨S16x2048x2048, .f32⟩
  | .hbm, ⟨59, _⟩ => ⟨S16x2048x2048, .f32⟩
  | .hbm, ⟨60, _⟩ => ⟨S16x2048x1, .f32⟩
  | .hbm, ⟨61, _⟩ => ⟨S_, .f32⟩
  | .hbm, ⟨62, _⟩ => ⟨S16x2048x1, .f32⟩
  | .hbm, ⟨63, _⟩ => ⟨S16x2048x1, .f32⟩
  | .hbm, ⟨64, _⟩ => ⟨S16x128x2048, .f32⟩
  | .hbm, ⟨65, _⟩ => ⟨S2048x16x128, .f32⟩
  | .hbm, ⟨66, _⟩ => ⟨S2048x2048, .f32⟩
  | .hbm, ⟨67, _⟩ => ⟨S2048x16x128, .f32⟩
  | .hbm, ⟨68, _⟩ => ⟨S16x128x2048, .f32⟩
  | .hbm, ⟨69, _⟩ => ⟨S16x2048x2048, .f32⟩
  | .hbm, ⟨70, _⟩ => ⟨S16x128x2048, .f32⟩
  | .hbm, ⟨71, _⟩ => ⟨S2048x16x128, .f32⟩
  | .hbm, ⟨72, _⟩ => ⟨S16x2048x2048, .f32⟩
  | .hbm, ⟨73, _⟩ => ⟨S16x2048x2048, .f32⟩
  | .hbm, ⟨74, _⟩ => ⟨S16x2048x2048, .f32⟩
  | .hbm, ⟨75, _⟩ => ⟨S_, .f32⟩
  | .hbm, ⟨76, _⟩ => ⟨S16x2048, .f32⟩
  | .hbm, ⟨77, _⟩ => ⟨S16x2048x1, .f32⟩
  | .hbm, ⟨78, _⟩ => ⟨S16x2048x1, .f32⟩
  | .hbm, ⟨79, _⟩ => ⟨S16x2048x2048, .f32⟩
  | .hbm, ⟨80, _⟩ => ⟨S16x2048x2048, .f32⟩
  | .hbm, ⟨81, _⟩ => ⟨S_, .f32⟩
  | .hbm, ⟨82, _⟩ => ⟨S16x2048, .f32⟩
  | .hbm, ⟨83, _⟩ => ⟨S16x2048x2048, .f32⟩
  | .hbm, ⟨84, _⟩ => ⟨S16x2048x2048, .f32⟩
  | .hbm, ⟨85, _⟩ => ⟨S16x2048x2048, .f32⟩
  | .hbm, ⟨86, _⟩ => ⟨S_, .f32⟩
  | .hbm, ⟨87, _⟩ => ⟨S16x2048x2048, .f32⟩
  | .hbm, ⟨88, _⟩ => ⟨S16x2048x2048, .f32⟩
  | .hbm, ⟨89, _⟩ => ⟨S_, .f32⟩
  | .hbm, ⟨90, _⟩ => ⟨S16x2048x2048, .f32⟩
  | .hbm, ⟨91, _⟩ => ⟨S16x2048x2048, .f32⟩
  | .hbm, ⟨92, _⟩ => ⟨S2048x2048x16, .f32⟩
  | .hbm, ⟨93, _⟩ => ⟨S2048x16x64, .f32⟩
  | .hbm, ⟨94, _⟩ => ⟨S2048x64, .f32⟩
  | .hbm, ⟨95, _⟩ => ⟨S16x2048x128, .f32⟩
  | .hbm, ⟨96, _⟩ => ⟨S2048x16x128, .f32⟩
  | .hbm, ⟨97, _⟩ => ⟨S16x2048x128, .f32⟩
  | .hbm, ⟨98, _⟩ => ⟨S2048x16x128, .f32⟩
  | .hbm, ⟨99, _⟩ => ⟨S_, .f32⟩
  | .hbm, ⟨100, _⟩ => ⟨S2048x16x64, .f32⟩
  | .hbm, ⟨101, _⟩ => ⟨S2048x16x256, .f32⟩
  | .hbm, ⟨102, _⟩ => ⟨S2048x4096, .f32⟩
  | .hbm, ⟨103, _⟩ => ⟨S2048x16x256, .f32⟩
  | .hbm, ⟨104, _⟩ => ⟨S2048x4096, .f32⟩
  | .hbm, ⟨105, _⟩ => ⟨S_, .f32⟩
  | .hbm, ⟨106, _⟩ => ⟨S2048x64, .f32⟩
  | .hbm, ⟨107, _⟩ => ⟨S2048x128, .f32⟩
  | _, _ => ⟨S2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call0_v0 : Ref sig .tc := ⟨.hbm, 20, rfl⟩
abbrev main_v12_1 : Ref sig .tc := ⟨.hbm, 21, rfl⟩
abbrev main_call0_v2 : Ref sig .tc := ⟨.hbm, 22, rfl⟩
abbrev main_v12_0 : Ref sig .tc := ⟨.hbm, 23, rfl⟩
abbrev main_call0_cst : Ref sig .tc := ⟨.hbm, 24, rfl⟩
abbrev main_v12_2 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]
-- ==== DownDx.lean ====
abbrev S2048x2048 : Shape := ⟨2, ![2048, 2048]⟩
abbrev S5632x2048 : Shape := ⟨2, ![5632, 2048]⟩
abbrev S2048x5632 : Shape := ⟨2, ![2048, 5632]⟩
abbrev S5632x2x1024 : Shape := ⟨3, ![5632, 2, 1024]⟩
abbrev S2x5632x1024 : Shape := ⟨3, ![2, 5632, 1024]⟩
abbrev S512x1024 : Shape := ⟨2, ![512, 1024]⟩
abbrev S1x1408x1024 : Shape := ⟨3, ![1, 1408, 1024]⟩
abbrev S512x1408 : Shape := ⟨2, ![512, 1408]⟩
abbrev S1408x1024 : Shape := ⟨2, ![1408, 1024]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2048x5632, .f32⟩
  | .hbm, ⟨3, _⟩ => ⟨S2048x5632, .f32⟩
  | .hbm, ⟨4, _⟩ => ⟨S5632x2048, .bf16⟩
  | .hbm, ⟨5, _⟩ => ⟨S5632x2x1024, .bf16⟩
  | .hbm, ⟨6, _⟩ => ⟨S2x5632x1024, .bf16⟩
  | .hbm, ⟨7, _⟩ => ⟨S2048x5632, .bf16⟩
  | .hbm, ⟨8, _⟩ => ⟨S2048x5632, .bf16⟩
  | .local _ .vmem, ⟨0, _⟩ => ⟨S512x1024, .f32⟩
  | .local _ .vmem, ⟨1, _⟩ => ⟨S512x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![arg2.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownDxRefIdeal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x2048, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .bf16⟩
  | .hbm, ⟨27, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== UpDx.lean ====
abbrev S2048x5632 : Shape := ⟨2, ![2048, 5632]⟩
abbrev S5632x2048 : Shape := ⟨2, ![5632, 2048]⟩
abbrev S5632x2x1024 : Shape := ⟨3, ![5632, 2, 1024]⟩
abbrev S2x5632x1024 : Shape := ⟨3, ![2, 5632, 1024]⟩
abbrev S2048x2048 : Shape := ⟨2, ![2048, 2048]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 15
  | .vmem => 11
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S5632x2048, .bf16⟩
  | .hbm, ⟨6, _⟩ => ⟨S5632x2x1024, .bf16⟩
  | .hbm, ⟨7, _⟩ => ⟨S2x5632x1024, .bf16⟩
  | .hbm, ⟨8, _⟩ => ⟨S5632x2048, .f32⟩
  | .hbm, ⟨9, _⟩ => ⟨S5632x2048, .bf16⟩
  | .hbm, ⟨10, _⟩ => ⟨S5632x2x1024, .bf16⟩
  | .hbm, ⟨11, _⟩ => ⟨S2x5632x1024, .bf16⟩
  | .hbm, ⟨12, _⟩ => ⟨S2048x5632, .bf16⟩
  | .hbm, ⟨13, _⟩ => ⟨S2048x5632, .bf16⟩
  | .hbm, ⟨14, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x512, .bf16⟩
  | .local _ .vmem, ⟨5, _⟩ => ⟨S1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 11], ![false, false, false]⟩

def k0_cond2 (i : grid0.Coords) : BitVec 1 :=
  let arg2 : BitVec 32 := BitVec.ofNat 32 (i 2).val
  let c10_i32 : BitVec 32 := 10#32
  let v23 : BitVec 1 := Scalar.cmpi .eq arg2 c10_i32
  let v24 : BitVec 32 := Scalar.extui v23
  let c0_i32_19 : BitVec 32 := 0#32
  let v25 : BitVec 1 := Scalar.cmpi .ne v24 c0_i32_19
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg1.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg1.toNat, v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== UpDxRefIdeal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== GateDw.lean ====
abbrev S2x16896x1024 : Shape := ⟨3, ![2, 16896, 1024]⟩
abbrev S2048x5632 : Shape := ⟨2, ![2048, 5632]⟩
abbrev S2048x2048 : Shape := ⟨2, ![2048, 2048]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x16896x1024, .f32⟩
  | .hbm, ⟨1, _⟩ => ⟨S2048x5632, .f32⟩
  | .hbm, ⟨2, _⟩ => ⟨S2048x2048, .f32⟩
  | .hbm, ⟨3, _⟩ => ⟨S2048x5632, .bf16⟩
  | .hbm, ⟨4, _⟩ => ⟨S2048x2048, .bf16⟩
  | .hbm, ⟨5, _⟩ => ⟨S2x16896x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .f32⟩
  | .local _ .vmem, ⟨5, _⟩ => ⟨S1x1408x1024, .f32⟩
  | .local _ .vmem, ⟨6, _⟩ => ⟨S1408x1024, .f32⟩
  | _, _ => ⟨S2x16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![arg1.toNat, v0.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwRefIdeal.lean ====
abbrev S2x16896x1024 : Shape := ⟨3, ![2, 16896, 1024]⟩
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S2x1024x5632 : Shape := ⟨3, ![2, 1024, 5632]⟩
abbrev S2x5632x1024 : Shape := ⟨3, ![2, 5632, 1024]⟩
abbrev S2x11264x1024 : Shape := ⟨3, ![2, 11264, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x16896x1024, .f32⟩
  | .hbm, ⟨1, _⟩ => ⟨S2048x5632, .f32⟩
  | .hbm, ⟨2, _⟩ => ⟨S2048x2048, .f32⟩
  | .hbm, ⟨3, _⟩ => ⟨S_, .f32⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S2048x5632, .f32⟩
  | .hbm, ⟨8, _⟩ => ⟨S2x1024x5632, .f32⟩
  | .hbm, ⟨9, _⟩ => ⟨S2x5632x1024, .f32⟩
  | .hbm, ⟨10, _⟩ => ⟨S2x11264x1024, .f32⟩
  | .hbm, ⟨11, _⟩ => ⟨S2x16896x1024, .f32⟩
  | _, _ => ⟨S2x16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== UpDw.lean ====
abbrev S2x16896x1024 : Shape := ⟨3, ![2, 16896, 1024]⟩
abbrev S2048x5632 : Shape := ⟨2, ![2048, 5632]⟩
abbrev S2048x2048 : Shape := ⟨2, ![2048, 2048]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x16896x1024, .f32⟩
  | .hbm, ⟨1, _⟩ => ⟨S2048x5632, .f32⟩
  | .hbm, ⟨2, _⟩ => ⟨S2048x2048, .f32⟩
  | .hbm, ⟨3, _⟩ => ⟨S2048x5632, .bf16⟩
  | .hbm, ⟨4, _⟩ => ⟨S2048x2048, .bf16⟩
  | .hbm, ⟨5, _⟩ => ⟨S2x16896x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .f32⟩
  | .local _ .vmem, ⟨5, _⟩ => ⟨S1x1408x1024, .f32⟩
  | .local _ .vmem, ⟨6, _⟩ => ⟨S1408x1024, .f32⟩
  | _, _ => ⟨S2x16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  let c0_i32_0 : BitVec 32 := 0#32
  ![arg1.toNat, v0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2x16896x1024 : Shape := ⟨3, ![2, 16896, 1024]⟩
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S2x5632x1024 : Shape := ⟨3, ![2, 5632, 1024]⟩
abbrev S2x1024x5632 : Shape := ⟨3, ![2, 1024, 5632]⟩

abbrev nBuf : Space → Nat
  | .hbm => 13
  | .vmem => 0
  | .smem => 0
  | _ => 0

abbrev bufTy : (tb : Table) → Fin (tcTables nBuf tb) → BufTy
  | .hbm, ⟨0, _⟩ => ⟨S2x16896x1024, .f32⟩
  | .hbm, ⟨1, _⟩ => ⟨S2048x5632, .f32⟩
  | .hbm, ⟨2, _⟩ => ⟨S2048x2048, .f32⟩
  | .hbm, ⟨3, _⟩ => ⟨S_, .f32⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S2048x5632, .f32⟩
  | .hbm, ⟨8, _⟩ => ⟨S2x5632x1024, .f32⟩
  | .hbm, ⟨9, _⟩ => ⟨S2x1024x5632, .f32⟩
  | .hbm, ⟨10, _⟩ => ⟨S2x5632x1024, .f32⟩
  | .hbm, ⟨11, _⟩ => ⟨S2x5632x1024, .f32⟩
  | .hbm, ⟨12, _⟩ => ⟨S2x16896x1024, .f32⟩
  | _, _ => ⟨S2x16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DownDw.lean ====
abbrev S2x16896x1024 : Shape := ⟨3, ![2, 16896, 1024]⟩
abbrev S2048x5632 : Shape := ⟨2, ![2048, 5632]⟩
abbrev S2048x2048 : Shape := ⟨2, ![2048, 2048]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x16896x1024, .f32⟩
  | .hbm, ⟨1, _⟩ => ⟨S2048x5632, .f32⟩
  | .hbm, ⟨2, _⟩ => ⟨S2048x2048, .f32⟩
  | .hbm, ⟨3, _⟩ => ⟨S2048x5632, .bf16⟩
  | .hbm, ⟨4, _⟩ => ⟨S2x16896x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1x1408x1024, .f32⟩
  | .local _ .vmem, ⟨5, _⟩ => ⟨S1x1408x1024, .f32⟩
  | .local _ .vmem, ⟨6, _⟩ => ⟨S1408x1024, .f32⟩
  | _, _ => ⟨S2x16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg0 c8_i32
  let c0_i32 : BitVec 32 := 0#32
  let c0_i32_0 : BitVec 32 := 0#32
  ![arg1.toNat, v0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2x16896x1024 : Shape := ⟨3, ![2, 16896, 1024]⟩
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S2x11264x1024 : Shape := ⟨3, ![2, 11264, 1024]⟩
abbrev S5632x2x1024 : Shape := ⟨3, ![5632, 2, 1024]⟩
abbrev S2x5632x1024 : Shape := ⟨3, ![2, 5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x16896x1024, .f32⟩
  | .hbm, ⟨1, _⟩ => ⟨S2048x5632, .f32⟩
  | .hbm, ⟨2, _⟩ => ⟨S2048x2048, .f32⟩
  | .hbm, ⟨3, _⟩ => ⟨S_, .f32⟩
  | .hbm, ⟨4, _⟩ => ⟨S5632x2048, .f32⟩
  | .hbm, ⟨5, _⟩ => ⟨S2048x2048, .f32⟩
  | .hbm, ⟨6, _⟩ => ⟨S2048x5632, .f32⟩
  | .hbm, ⟨7, _⟩ => ⟨S5632x2048, .f32⟩
  | .hbm, ⟨8, _⟩ => ⟨S2x11264x1024, .f32⟩
  | .hbm, ⟨9, _⟩ => ⟨S5632x2x1024, .f32⟩
  | .hbm, ⟨10, _⟩ => ⟨S2x5632x1024, .f32⟩
  | .hbm, ⟨11, _⟩ => ⟨S2x16896x1024, .f32⟩
  | _, _ => ⟨S2x16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== FfnGate.lean ====
abbrev S2048x2048 : Shape := ⟨2, ![2048, 2048]⟩
abbrev S2048x5632 : Shape := ⟨2, ![2048, 5632]⟩
abbrev S5632x2048 : Shape := ⟨2, ![5632, 2048]⟩
abbrev S5632x2x1024 : Shape := ⟨3, ![5632, 2, 1024]⟩
abbrev S2x5632x1024 : Shape := ⟨3, ![2, 5632, 1024]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x2048, .bf16⟩
  | .hbm, ⟨3, _⟩ => ⟨S5632x2048, .f32⟩
  | .hbm, ⟨4, _⟩ => ⟨S5632x2048, .bf16⟩
  | .hbm, ⟨5, _⟩ => ⟨S5632x2x1024, .bf16⟩
  | .hbm, ⟨6, _⟩ => ⟨S2x5632x1024, .bf16⟩
  | .hbm, ⟨7, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![arg2.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnGateRefIdeal.lean ====
abbrev S2048x2048 : Shape := ⟨2, ![2048, 2048]⟩
abbrev S2048x5632 : Shape := ⟨2, ![2048, 5632]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnUp.lean ====
abbrev S2048x2048 : Shape := ⟨2, ![2048, 2048]⟩
abbrev S2048x5632 : Shape := ⟨2, ![2048, 5632]⟩
abbrev S5632x2048 : Shape := ⟨2, ![5632, 2048]⟩
abbrev S5632x2x1024 : Shape := ⟨3, ![5632, 2, 1024]⟩
abbrev S2x5632x1024 : Shape := ⟨3, ![2, 5632, 1024]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 10
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x2048, .bf16⟩
  | .hbm, ⟨4, _⟩ => ⟨S5632x2048, .f32⟩
  | .hbm, ⟨5, _⟩ => ⟨S5632x2048, .bf16⟩
  | .hbm, ⟨6, _⟩ => ⟨S5632x2x1024, .bf16⟩
  | .hbm, ⟨7, _⟩ => ⟨S2x5632x1024, .bf16⟩
  | .hbm, ⟨8, _⟩ => ⟨S2048x5632, .f32⟩
  | .hbm, ⟨9, _⟩ => ⟨S2048x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | .local _ .vmem, ⟨7, _⟩ => ⟨S1024x1408, .f32⟩
  | .local _ .vmem, ⟨8, _⟩ => ⟨S1024x1408, .bf16⟩
  | .local _ .vmem, ⟨9, _⟩ => ⟨S1024x1408, .bf16⟩
  | .local _ .vmem, ⟨10, _⟩ => ⟨S1024x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![arg2.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnUpRefIdeal.lean ====
abbrev S2048x2048 : Shape := ⟨2, ![2048, 2048]⟩
abbrev S2048x5632 : Shape := ⟨2, ![2048, 5632]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== FfnDown.lean ====
abbrev S2048x5632 : Shape := ⟨2, ![2048, 5632]⟩
abbrev S5632x2048 : Shape := ⟨2, ![5632, 2048]⟩
abbrev S5632x2x1024 : Shape := ⟨3, ![5632, 2, 1024]⟩
abbrev S2x5632x1024 : Shape := ⟨3, ![2, 5632, 1024]⟩
abbrev S2048x2048 : Shape := ⟨2, ![2048, 2048]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x5632, .bf16⟩
  | .hbm, ⟨3, _⟩ => ⟨S5632x2048, .bf16⟩
  | .hbm, ⟨4, _⟩ => ⟨S5632x2x1024, .bf16⟩
  | .hbm, ⟨5, _⟩ => ⟨S2x5632x1024, .bf16⟩
  | .hbm, ⟨6, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg1.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MergeBwd.lean ====
abbrev S2048x2048 : Shape := ⟨2, ![2048, 2048]⟩
abbrev S2048x14336 : Shape := ⟨2, ![2048, 14336]⟩
abbrev S256x2048 : Shape := ⟨2, ![256, 2048]⟩

abbrev nBuf : Space → Nat
  | .hbm => 8
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x14336, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg1 c5_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeBwdRefIdeal.lean ====
abbrev S2048x2048 : Shape := ⟨2, ![2048, 2048]⟩
abbrev S2048x14336 : Shape := ⟨2, ![2048, 14336]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x14336, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .bf16⟩
  | .hbm, ⟨42, _⟩ => ⟨S2048x2048, .bf16⟩
  | .hbm, ⟨43, _⟩ => ⟨S2048x2048, .bf16⟩
  | .hbm, ⟨44, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== MixInDx.lean ====
abbrev S2048x1088 : Shape := ⟨2, ![2048, 1088]⟩
abbrev S2048x2048 : Shape := ⟨2, ![2048, 2048]⟩
abbrev S2048x13376 : Shape := ⟨2, ![2048, 13376]⟩
abbrev S6144x2048 : Shape := ⟨2, ![6144, 2048]⟩
abbrev S_ : Shape := ⟨0, ![]⟩
abbrev S2048x960 : Shape := ⟨2, ![2048, 960]⟩
abbrev S13376x2048 : Shape := ⟨2, ![13376, 2048]⟩
abbrev S1088x2048 : Shape := ⟨2, ![1088, 2048]⟩
abbrev S960x2048 : Shape := ⟨2, ![960, 2048]⟩
abbrev S12288x2048 : Shape := ⟨2, ![12288, 2048]⟩
abbrev S20480x2048 : Shape := ⟨2, ![20480, 2048]⟩
abbrev S20480x2x1024 : Shape := ⟨3, ![20480, 2, 1024]⟩
abbrev S2x20480x1024 : Shape := ⟨3, ![2, 20480, 1024]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 30
  | .vmem => 31
  | .smem => 0
  | _ => 0

abbrev bufTy : (tb : Table) → Fin (tcTables nBuf tb) → BufTy
  | .hbm, ⟨0, _⟩ => ⟨S2048x1088, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x13376, .f32⟩
  | .hbm, ⟨8, _⟩ => ⟨S6144x2048, .f32⟩
  | .hbm, ⟨9, _⟩ => ⟨S_, .f32⟩
  | .hbm, ⟨10, _⟩ => ⟨S2048x960, .f32⟩
  | .hbm, ⟨11, _⟩ => ⟨S2048x2048, .f32⟩
  | .hbm, ⟨12, _⟩ => ⟨S13376x2048, .f32⟩
  | .hbm, ⟨13, _⟩ => ⟨S1088x2048, .f32⟩
  | .hbm, ⟨14, _⟩ => ⟨S_, .f32⟩
  | .hbm, ⟨15, _⟩ => ⟨S960x2048, .f32⟩
  | .hbm, ⟨16, _⟩ => ⟨S13376x2048, .f32⟩
  | .hbm, ⟨17, _⟩ => ⟨S12288x2048, .f32⟩
  | .hbm, ⟨18, _⟩ => ⟨S20480x2048, .f32⟩
  | .hbm, ⟨19, _⟩ => ⟨S20480x2048, .bf16⟩
  | .hbm, ⟨20, _⟩ => ⟨S20480x2x1024, .bf16⟩
  | .hbm, ⟨21, _⟩ => ⟨S2x20480x1024, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S2048x2048, .bf16⟩
  | .hbm, ⟨28, _⟩ => ⟨S2048x2048, .bf16⟩
  | .hbm, ⟨29, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x512, .bf16⟩
  | .local _ .vmem, ⟨5, _⟩ => ⟨S1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x512, .bf16⟩
  | .local _ .vmem, ⟨9, _⟩ => ⟨S1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1024x512, .bf16⟩
  | .local _ .vmem, ⟨13, _⟩ => ⟨S1024x512, .bf16⟩
  | .local _ .vmem, ⟨14, _⟩ => ⟨S1x512x1024, .bf16⟩
  | .local _ .vmem, ⟨15, _⟩ => ⟨S1x512x1024, .bf16⟩
  | .local _ .vmem, ⟨16, _⟩ => ⟨S1024x512, .bf16⟩
  | .local _ .vmem, ⟨17, _⟩ => ⟨S1024x512, .bf16⟩
  | .local _ .vmem, ⟨18, _⟩ => ⟨S1x512x1024, .bf16⟩
  | .local _ .vmem, ⟨19, _⟩ => ⟨S1x512x1024, .bf16⟩
  | .local _ .vmem, ⟨20, _⟩ => ⟨S1024x512, .bf16⟩
  | .local _ .vmem, ⟨21, _⟩ => ⟨S1024x512, .bf16⟩
  | .local _ .vmem, ⟨22, _⟩ => ⟨S1x512x1024, .bf16⟩
  | .local _ .vmem, ⟨23, _⟩ => ⟨S1x512x1024, .bf16⟩
  | .local _ .vmem, ⟨24, _⟩ => ⟨S1024x512, .bf16⟩
  | .local _ .vmem, ⟨25, _⟩ => ⟨S1024x512, .bf16⟩
  | .local _ .vmem, ⟨26, _⟩ => ⟨S1x512x1024, .bf16⟩
  | .local _ .vmem, ⟨27, _⟩ => ⟨S1x512x1024, .bf16⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | _, _ => ⟨S2048x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v73 : BitVec 1 := Scalar.cmpi .eq arg2 c3_i32
  let v74 : BitVec 32 := Scalar.extui v73
  let c0_i32_69 : BitVec 32 := 0#32
  let v75 : BitVec 1 := Scalar.cmpi .ne v74 c0_i32_69
  v75

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg1.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  ![arg1.toNat, v0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg2 c8_i32
  let c0_i32 : BitVec 32 := 0#32
  let c0_i32_0 : BitVec 32 := 0#32
  ![arg1.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg2 c12_i32
  let c0_i32 : BitVec 32 := 0#32
  let c0_i32_0 : BitVec 32 := 0#32
  ![arg1.toNat, v0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg2 c16_i32
  let c0_i32 : BitVec 32 := 0#32
  let c0_i32_0 : BitVec 32 := 0#32
  ![arg1.toNat, v0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi arg2 c20_i32
  let c0_i32 : BitVec 32 := 0#32
  let c0_i32_0 : BitVec 32 := 0#32
  ![arg1.toNat, v0.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi arg2 c24_i32
  let c0_i32 : BitVec 32 := 0#32
  let c0_i32_0 : BitVec 32 := 0#32
  ![arg1.toNat, v0.toNat, c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, true]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]
-- ==== MixInDxRefIdeal.lean ====
abbrev S2048x1088 : Shape := ⟨2, ![2048, 1088]⟩
abbrev S2048x2048 : Shape := ⟨2, ![2048, 2048]⟩
abbrev S2048x13376 : Shape := ⟨2, ![2048, 13376]⟩
abbrev S6144x2048 : Shape := ⟨2, ![6144, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x1088, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x13376, .f32⟩
  | .hbm, ⟨8, _⟩ => ⟨S6144x2048, .f32⟩
  | .hbm, ⟨9, _⟩ => ⟨S2048x13376, .f32⟩
  | .hbm, ⟨10, _⟩ => ⟨S_, .f32⟩
  | .hbm, ⟨11, _⟩ => ⟨S2048x2048, .f32⟩
  | .hbm, ⟨12, _⟩ => ⟨S2048x13376, .f32⟩
  | .hbm, ⟨13, _⟩ => ⟨S2048x2048, .f32⟩
  | _, _ => ⟨S2048x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== MixIn.lean ====
abbrev S2048x2048 : Shape := ⟨2, ![2048, 2048]⟩
abbrev S2048x13376 : Shape := ⟨2, ![2048, 13376]⟩
abbrev S6144x2048 : Shape := ⟨2, ![6144, 2048]⟩
abbrev S13376x2048 : Shape := ⟨2, ![13376, 2048]⟩
abbrev S1088x2048 : Shape := ⟨2, ![1088, 2048]⟩
abbrev S_ : Shape := ⟨0, ![]⟩
abbrev S960x2048 : Shape := ⟨2, ![960, 2048]⟩
abbrev S12288x2048 : Shape := ⟨2, ![12288, 2048]⟩
abbrev S20480x2048 : Shape := ⟨2, ![20480, 2048]⟩
abbrev S20480x2x1024 : Shape := ⟨3, ![20480, 2, 1024]⟩
abbrev S2x20480x1024 : Shape := ⟨3, ![2, 20480, 1024]⟩
abbrev S2048x14336 : Shape := ⟨2, ![2048, 14336]⟩
abbrev S1024x1024 : Shape := ⟨2, ![1024, 1024]⟩
abbrev S1x1024x1024 : Shape := ⟨3, ![1, 1024, 1024]⟩

abbrev nBuf : Space → Nat
  | .hbm => 15
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x13376, .f32⟩
  | .hbm, ⟨2, _⟩ => ⟨S6144x2048, .f32⟩
  | .hbm, ⟨3, _⟩ => ⟨S13376x2048, .f32⟩
  | .hbm, ⟨4, _⟩ => ⟨S1088x2048, .f32⟩
  | .hbm, ⟨5, _⟩ => ⟨S_, .f32⟩
  | .hbm, ⟨6, _⟩ => ⟨S960x2048, .f32⟩
  | .hbm, ⟨7, _⟩ => ⟨S13376x2048, .f32⟩
  | .hbm, ⟨8, _⟩ => ⟨S12288x2048, .f32⟩
  | .hbm, ⟨9, _⟩ => ⟨S20480x2048, .f32⟩
  | .hbm, ⟨10, _⟩ => ⟨S20480x2048, .bf16⟩
  | .hbm, ⟨11, _⟩ => ⟨S20480x2x1024, .bf16⟩
  | .hbm, ⟨12, _⟩ => ⟨S2x20480x1024, .bf16⟩
  | .hbm, ⟨13, _⟩ => ⟨S2048x2048, .bf16⟩
  | .hbm, ⟨14, _⟩ => ⟨S2048x14336, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 14, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![arg2.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S2048x2048 : Shape := ⟨2, ![2048, 2048]⟩
abbrev S2048x13376 : Shape := ⟨2, ![2048, 13376]⟩
abbrev S6144x2048 : Shape := ⟨2, ![6144, 2048]⟩
abbrev S2048x1088 : Shape := ⟨2, ![2048, 1088]⟩
abbrev S_ : Shape := ⟨0, ![]⟩
abbrev S2048x960 : Shape := ⟨2, ![2048, 960]⟩
abbrev S2048x12288 : Shape := ⟨2, ![2048, 12288]⟩
abbrev S2048x14336 : Shape := ⟨2, ![2048, 14336]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x13376, .f32⟩
  | .hbm, ⟨2, _⟩ => ⟨S6144x2048, .f32⟩
  | .hbm, ⟨3, _⟩ => ⟨S2048x13376, .f32⟩
  | .hbm, ⟨4, _⟩ => ⟨S2048x1088, .f32⟩
  | .hbm, ⟨5, _⟩ => ⟨S_, .f32⟩
  | .hbm, ⟨6, _⟩ => ⟨S2048x960, .f32⟩
  | .hbm, ⟨7, _⟩ => ⟨S2048x12288, .f32⟩
  | .hbm, ⟨8, _⟩ => ⟨S2048x14336, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MixDw0.lean ====
abbrev S2x20480x1024 : Shape := ⟨3, ![2, 20480, 1024]⟩
abbrev S2048x1088 : Shape := ⟨2, ![2048, 1088]⟩
abbrev S2048x2048 : Shape := ⟨2, ![2048, 2048]⟩
abbrev S_ : Shape := ⟨0, ![]⟩
abbrev S2048x960 : Shape := ⟨2, ![2048, 960]⟩
abbrev S1024x1024 : Shape := ⟨2, ![1024, 1024]⟩
abbrev S1x1024x1024 : Shape := ⟨3, ![1, 1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x1088, .f32⟩
  | .hbm, ⟨2, _⟩ => ⟨S2048x2048, .f32⟩
  | .hbm, ⟨3, _⟩ => ⟨S_, .f32⟩
  | .hbm, ⟨4, _⟩ => ⟨S2048x960, .f32⟩
  | .hbm, ⟨5, _⟩ => ⟨S2048x2048, .f32⟩
  | .hbm, ⟨6, _⟩ => ⟨S2048x2048, .bf16⟩
  | .hbm, ⟨7, _⟩ => ⟨S2048x2048, .bf16⟩
  | .hbm, ⟨8, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![arg1.toNat, v0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDw0RefIdeal.lean ====
abbrev S2x20480x1024 : Shape := ⟨3, ![2, 20480, 1024]⟩
abbrev S2048x1088 : Shape := ⟨2, ![2048, 1088]⟩
abbrev S2048x2048 : Shape := ⟨2, ![2048, 2048]⟩
abbrev S_ : Shape := ⟨0, ![]⟩
abbrev S1088x2048 : Shape := ⟨2, ![1088, 2048]⟩
abbrev S2048x960 : Shape := ⟨2, ![2048, 960]⟩
abbrev S2x1024x2048 : Shape := ⟨3, ![2, 1024, 2048]⟩
abbrev S2x2048x1024 : Shape := ⟨3, ![2, 2048, 1024]⟩
abbrev S2x18432x1024 : Shape := ⟨3, ![2, 18432, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2x20480x1024, .f32⟩
  | .hbm, ⟨1, _⟩ => ⟨S2048x1088, .f32⟩
  | .hbm, ⟨2, _⟩ => ⟨S2048x2048, .f32⟩
  | .hbm, ⟨3, _⟩ => ⟨S_, .f32⟩
  | .hbm, ⟨4, _⟩ => ⟨S2048x1088, .f32⟩
  | .hbm, ⟨5, _⟩ => ⟨S2048x1088, .f32⟩
  | .hbm, ⟨6, _⟩ => ⟨S1088x2048, .f32⟩
  | .hbm, ⟨7, _⟩ => ⟨S2048x1088, .f32⟩
  | .hbm, ⟨8, _⟩ => ⟨S_, .f32⟩
  | .hbm, ⟨9, _⟩ => ⟨S2048x960, .f32⟩
  | .hbm, ⟨10, _⟩ => ⟨S2048x2048, .f32⟩
  | .hbm, ⟨11, _⟩ => ⟨S2x1024x2048, .f32⟩
  | .hbm, ⟨12, _⟩ => ⟨S2x2048x1024, .f32⟩
  | .hbm, ⟨13, _⟩ => ⟨S2x18432x1024, .f32⟩
  | .hbm, ⟨14, _⟩ => ⟨S2x20480x1024, .f32⟩
  | _, _ => ⟨S2x20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== MixDw1.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDw1Ideal.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDw1RefIdeal.lean ====
abbrev S2x20480x1024 : Shape := ⟨3, ![2, 20480, 1024]⟩
abbrev S2048x2048 : Shape := ⟨2, ![2048, 2048]⟩
abbrev S_ : Shape := ⟨0, ![]⟩
abbrev S2x2048x1024 : Shape := ⟨3, ![2, 2048, 1024]⟩
abbrev S2x1024x2048 : Shape := ⟨3, ![2, 1024, 2048]⟩
abbrev S2x16384x1024 : Shape := ⟨3, ![2, 16384, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2x2048x1024, .f32⟩
  | .hbm, ⟨9, _⟩ => ⟨S2x1024x2048, .f32⟩
  | .hbm, ⟨10, _⟩ => ⟨S2x2048x1024, .f32⟩
  | .hbm, ⟨11, _⟩ => ⟨S2x16384x1024, .f32⟩
  | .hbm, ⟨12, _⟩ => ⟨S2x20480x1024, .f32⟩
  | _, _ => ⟨S2x20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MixDw2.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDw2Ideal.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDw2RefIdeal.lean ====
abbrev S2x20480x1024 : Shape := ⟨3, ![2, 20480, 1024]⟩
abbrev S2048x2048 : Shape := ⟨2, ![2048, 2048]⟩
abbrev S_ : Shape := ⟨0, ![]⟩
abbrev S2x4096x1024 : Shape := ⟨3, ![2, 4096, 1024]⟩
abbrev S2x1024x2048 : Shape := ⟨3, ![2, 1024, 2048]⟩
abbrev S2x2048x1024 : Shape := ⟨3, ![2, 2048, 1024]⟩
abbrev S2x14336x1024 : Shape := ⟨3, ![2, 14336, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2x4096x1024, .f32⟩
  | .hbm, ⟨9, _⟩ => ⟨S2x1024x2048, .f32⟩
  | .hbm, ⟨10, _⟩ => ⟨S2x2048x1024, .f32⟩
  | .hbm, ⟨11, _⟩ => ⟨S2x14336x1024, .f32⟩
  | .hbm, ⟨12, _⟩ => ⟨S2x20480x1024, .f32⟩
  | _, _ => ⟨S2x20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MixDw3.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg0 c6_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDw3Ideal.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg0 c6_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDw3RefIdeal.lean ====
abbrev S2x20480x1024 : Shape := ⟨3, ![2, 20480, 1024]⟩
abbrev S2048x2048 : Shape := ⟨2, ![2048, 2048]⟩
abbrev S_ : Shape := ⟨0, ![]⟩
abbrev S2x6144x1024 : Shape := ⟨3, ![2, 6144, 1024]⟩
abbrev S2x1024x2048 : Shape := ⟨3, ![2, 1024, 2048]⟩
abbrev S2x2048x1024 : Shape := ⟨3, ![2, 2048, 1024]⟩
abbrev S2x12288x1024 : Shape := ⟨3, ![2, 12288, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2x6144x1024, .f32⟩
  | .hbm, ⟨9, _⟩ => ⟨S2x1024x2048, .f32⟩
  | .hbm, ⟨10, _⟩ => ⟨S2x2048x1024, .f32⟩
  | .hbm, ⟨11, _⟩ => ⟨S2x12288x1024, .f32⟩
  | .hbm, ⟨12, _⟩ => ⟨S2x20480x1024, .f32⟩
  | _, _ => ⟨S2x20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MixDw4.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg0 c8_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDw4Ideal.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg0 c8_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDw4RefIdeal.lean ====
abbrev S2x20480x1024 : Shape := ⟨3, ![2, 20480, 1024]⟩
abbrev S2048x2048 : Shape := ⟨2, ![2048, 2048]⟩
abbrev S_ : Shape := ⟨0, ![]⟩
abbrev S2x8192x1024 : Shape := ⟨3, ![2, 8192, 1024]⟩
abbrev S2x1024x2048 : Shape := ⟨3, ![2, 1024, 2048]⟩
abbrev S2x2048x1024 : Shape := ⟨3, ![2, 2048, 1024]⟩
abbrev S2x10240x1024 : Shape := ⟨3, ![2, 10240, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2x8192x1024, .f32⟩
  | .hbm, ⟨9, _⟩ => ⟨S2x1024x2048, .f32⟩
  | .hbm, ⟨10, _⟩ => ⟨S2x2048x1024, .f32⟩
  | .hbm, ⟨11, _⟩ => ⟨S2x10240x1024, .f32⟩
  | .hbm, ⟨12, _⟩ => ⟨S2x20480x1024, .f32⟩
  | _, _ => ⟨S2x20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MixDw5.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi arg0 c10_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDw5Ideal.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi arg0 c10_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDw5RefIdeal.lean ====
abbrev S2x20480x1024 : Shape := ⟨3, ![2, 20480, 1024]⟩
abbrev S2048x2048 : Shape := ⟨2, ![2048, 2048]⟩
abbrev S_ : Shape := ⟨0, ![]⟩
abbrev S2x10240x1024 : Shape := ⟨3, ![2, 10240, 1024]⟩
abbrev S2x1024x2048 : Shape := ⟨3, ![2, 1024, 2048]⟩
abbrev S2x2048x1024 : Shape := ⟨3, ![2, 2048, 1024]⟩
abbrev S2x8192x1024 : Shape := ⟨3, ![2, 8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2x10240x1024, .f32⟩
  | .hbm, ⟨9, _⟩ => ⟨S2x1024x2048, .f32⟩
  | .hbm, ⟨10, _⟩ => ⟨S2x2048x1024, .f32⟩
  | .hbm, ⟨11, _⟩ => ⟨S2x8192x1024, .f32⟩
  | .hbm, ⟨12, _⟩ => ⟨S2x20480x1024, .f32⟩
  | _, _ => ⟨S2x20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MixDw6.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg0 c12_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDw6Ideal.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg0 c12_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDw6RefIdeal.lean ====
abbrev S2x20480x1024 : Shape := ⟨3, ![2, 20480, 1024]⟩
abbrev S2048x2048 : Shape := ⟨2, ![2048, 2048]⟩
abbrev S_ : Shape := ⟨0, ![]⟩
abbrev S2x12288x1024 : Shape := ⟨3, ![2, 12288, 1024]⟩
abbrev S2x1024x2048 : Shape := ⟨3, ![2, 1024, 2048]⟩
abbrev S2x2048x1024 : Shape := ⟨3, ![2, 2048, 1024]⟩
abbrev S2x6144x1024 : Shape := ⟨3, ![2, 6144, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2x12288x1024, .f32⟩
  | .hbm, ⟨9, _⟩ => ⟨S2x1024x2048, .f32⟩
  | .hbm, ⟨10, _⟩ => ⟨S2x2048x1024, .f32⟩
  | .hbm, ⟨11, _⟩ => ⟨S2x6144x1024, .f32⟩
  | .hbm, ⟨12, _⟩ => ⟨S2x20480x1024, .f32⟩
  | _, _ => ⟨S2x20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MlaOutDw.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi arg0 c14_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaOutDwIdeal.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi arg0 c14_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaOutDwRefIdeal.lean ====
abbrev S2x20480x1024 : Shape := ⟨3, ![2, 20480, 1024]⟩
abbrev S2048x2048 : Shape := ⟨2, ![2048, 2048]⟩
abbrev S_ : Shape := ⟨0, ![]⟩
abbrev S2x4096x1024 : Shape := ⟨3, ![2, 4096, 1024]⟩
abbrev S2x14336x1024 : Shape := ⟨3, ![2, 14336, 1024]⟩
abbrev S2048x2x1024 : Shape := ⟨3, ![2048, 2, 1024]⟩
abbrev S2x2048x1024 : Shape := ⟨3, ![2, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2x4096x1024, .f32⟩
  | .hbm, ⟨9, _⟩ => ⟨S2x14336x1024, .f32⟩
  | .hbm, ⟨10, _⟩ => ⟨S2048x2x1024, .f32⟩
  | .hbm, ⟨11, _⟩ => ⟨S2x2048x1024, .f32⟩
  | .hbm, ⟨12, _⟩ => ⟨S2x20480x1024, .f32⟩
  | _, _ => ⟨S2x20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== HgrnOutDw.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg0 c16_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnOutDwIdeal.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg0 c16_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnOutDwRefIdeal.lean ====
abbrev S2x20480x1024 : Shape := ⟨3, ![2, 20480, 1024]⟩
abbrev S2048x2048 : Shape := ⟨2, ![2048, 2048]⟩
abbrev S_ : Shape := ⟨0, ![]⟩
abbrev S2x2048x1024 : Shape := ⟨3, ![2, 2048, 1024]⟩
abbrev S2x16384x1024 : Shape := ⟨3, ![2, 16384, 1024]⟩
abbrev S2048x2x1024 : Shape := ⟨3, ![2048, 2, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2x2048x1024, .f32⟩
  | .hbm, ⟨9, _⟩ => ⟨S2x16384x1024, .f32⟩
  | .hbm, ⟨10, _⟩ => ⟨S2048x2x1024, .f32⟩
  | .hbm, ⟨11, _⟩ => ⟨S2x2048x1024, .f32⟩
  | .hbm, ⟨12, _⟩ => ⟨S2x20480x1024, .f32⟩
  | _, _ => ⟨S2x20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MixOutDw.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi arg0 c18_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwIdeal.lean ====
abbrev S2x20480x1024 : Shape := ⟨3, ![2, 20480, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2x20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi arg0 c18_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwRefIdeal.lean ====
abbrev S2x20480x1024 : Shape := ⟨3, ![2, 20480, 1024]⟩
abbrev S2048x2048 : Shape := ⟨2, ![2048, 2048]⟩
abbrev S_ : Shape := ⟨0, ![]⟩
abbrev S2x18432x1024 : Shape := ⟨3, ![2, 18432, 1024]⟩
abbrev S2048x2x1024 : Shape := ⟨3, ![2048, 2, 1024]⟩
abbrev S2x2048x1024 : Shape := ⟨3, ![2, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x20480x1024, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2x18432x1024, .f32⟩
  | .hbm, ⟨9, _⟩ => ⟨S2048x2x1024, .f32⟩
  | .hbm, ⟨10, _⟩ => ⟨S2x2048x1024, .f32⟩
  | .hbm, ⟨11, _⟩ => ⟨S2x20480x1024, .f32⟩
  | _, _ => ⟨S2x20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MlaOutDx.lean ====
abbrev S2048x2048 : Shape := ⟨2, ![2048, 2048]⟩
abbrev S14336x2048 : Shape := ⟨2, ![14336, 2048]⟩
abbrev S6144x2048 : Shape := ⟨2, ![6144, 2048]⟩
abbrev S20480x2048 : Shape := ⟨2, ![20480, 2048]⟩
abbrev S20480x2x1024 : Shape := ⟨3, ![20480, 2, 1024]⟩
abbrev S2x20480x1024 : Shape := ⟨3, ![2, 20480, 1024]⟩
abbrev S1024x1024 : Shape := ⟨2, ![1024, 1024]⟩
abbrev S1x1024x1024 : Shape := ⟨3, ![1, 1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S14336x2048, .f32⟩
  | .hbm, ⟨2, _⟩ => ⟨S6144x2048, .f32⟩
  | .hbm, ⟨3, _⟩ => ⟨S20480x2048, .f32⟩
  | .hbm, ⟨4, _⟩ => ⟨S20480x2048, .bf16⟩
  | .hbm, ⟨5, _⟩ => ⟨S20480x2x1024, .bf16⟩
  | .hbm, ⟨6, _⟩ => ⟨S2x20480x1024, .bf16⟩
  | .hbm, ⟨7, _⟩ => ⟨S2048x2048, .bf16⟩
  | .hbm, ⟨8, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi arg1 c14_i32
  let c0_i32 : BitVec 32 := 0#32
  let c0_i32_0 : BitVec 32 := 0#32
  ![arg2.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaOutDxIdeal.lean ====
  let c14_i32 : BitVec 32 := 14#32
  let v0 : BitVec 32 := Scalar.addi arg1 c14_i32
  ![arg2.toNat, v0.toNat, c0_i32.toNat]
-- ==== MlaOutDxRefIdeal.lean ====
abbrev S2048x2048 : Shape := ⟨2, ![2048, 2048]⟩
abbrev S14336x2048 : Shape := ⟨2, ![14336, 2048]⟩
abbrev S6144x2048 : Shape := ⟨2, ![6144, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S14336x2048, .f32⟩
  | .hbm, ⟨2, _⟩ => ⟨S6144x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== HgrnOutDx.lean ====
abbrev S2048x2048 : Shape := ⟨2, ![2048, 2048]⟩
abbrev S14336x2048 : Shape := ⟨2, ![14336, 2048]⟩
abbrev S6144x2048 : Shape := ⟨2, ![6144, 2048]⟩
abbrev S20480x2048 : Shape := ⟨2, ![20480, 2048]⟩
abbrev S20480x2x1024 : Shape := ⟨3, ![20480, 2, 1024]⟩
abbrev S2x20480x1024 : Shape := ⟨3, ![2, 20480, 1024]⟩
abbrev S1024x1024 : Shape := ⟨2, ![1024, 1024]⟩
abbrev S1x1024x1024 : Shape := ⟨3, ![1, 1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S14336x2048, .f32⟩
  | .hbm, ⟨2, _⟩ => ⟨S6144x2048, .f32⟩
  | .hbm, ⟨3, _⟩ => ⟨S20480x2048, .f32⟩
  | .hbm, ⟨4, _⟩ => ⟨S20480x2048, .bf16⟩
  | .hbm, ⟨5, _⟩ => ⟨S20480x2x1024, .bf16⟩
  | .hbm, ⟨6, _⟩ => ⟨S2x20480x1024, .bf16⟩
  | .hbm, ⟨7, _⟩ => ⟨S2048x2048, .bf16⟩
  | .hbm, ⟨8, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg1 c16_i32
  let c0_i32 : BitVec 32 := 0#32
  let c0_i32_0 : BitVec 32 := 0#32
  ![arg2.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnOutDxIdeal.lean ====
  let c16_i32 : BitVec 32 := 16#32
  let v0 : BitVec 32 := Scalar.addi arg1 c16_i32
  ![arg2.toNat, v0.toNat, c0_i32.toNat]
-- ==== HgrnOutDxRefIdeal.lean ====
abbrev S2048x2048 : Shape := ⟨2, ![2048, 2048]⟩
abbrev S14336x2048 : Shape := ⟨2, ![14336, 2048]⟩
abbrev S6144x2048 : Shape := ⟨2, ![6144, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S14336x2048, .f32⟩
  | .hbm, ⟨2, _⟩ => ⟨S6144x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MixOutDx.lean ====
abbrev S2048x2048 : Shape := ⟨2, ![2048, 2048]⟩
abbrev S14336x2048 : Shape := ⟨2, ![14336, 2048]⟩
abbrev S6144x2048 : Shape := ⟨2, ![6144, 2048]⟩
abbrev S20480x2048 : Shape := ⟨2, ![20480, 2048]⟩
abbrev S20480x2x1024 : Shape := ⟨3, ![20480, 2, 1024]⟩
abbrev S2x20480x1024 : Shape := ⟨3, ![2, 20480, 1024]⟩
abbrev S1024x1024 : Shape := ⟨2, ![1024, 1024]⟩
abbrev S1x1024x1024 : Shape := ⟨3, ![1, 1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S14336x2048, .f32⟩
  | .hbm, ⟨2, _⟩ => ⟨S6144x2048, .f32⟩
  | .hbm, ⟨3, _⟩ => ⟨S20480x2048, .f32⟩
  | .hbm, ⟨4, _⟩ => ⟨S20480x2048, .bf16⟩
  | .hbm, ⟨5, _⟩ => ⟨S20480x2x1024, .bf16⟩
  | .hbm, ⟨6, _⟩ => ⟨S2x20480x1024, .bf16⟩
  | .hbm, ⟨7, _⟩ => ⟨S2048x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi arg1 c18_i32
  let c0_i32 : BitVec 32 := 0#32
  let c0_i32_0 : BitVec 32 := 0#32
  ![arg2.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxIdeal.lean ====
abbrev S2048x2048 : Shape := ⟨2, ![2048, 2048]⟩
abbrev S14336x2048 : Shape := ⟨2, ![14336, 2048]⟩
abbrev S6144x2048 : Shape := ⟨2, ![6144, 2048]⟩
abbrev S20480x2048 : Shape := ⟨2, ![20480, 2048]⟩
abbrev S20480x2x1024 : Shape := ⟨3, ![20480, 2, 1024]⟩
abbrev S2x20480x1024 : Shape := ⟨3, ![2, 20480, 1024]⟩
abbrev S1024x1024 : Shape := ⟨2, ![1024, 1024]⟩
abbrev S1x1024x1024 : Shape := ⟨3, ![1, 1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S14336x2048, .f32⟩
  | .hbm, ⟨2, _⟩ => ⟨S6144x2048, .f32⟩
  | .hbm, ⟨3, _⟩ => ⟨S20480x2048, .f32⟩
  | .hbm, ⟨4, _⟩ => ⟨S20480x2048, .bf16⟩
  | .hbm, ⟨5, _⟩ => ⟨S20480x2x1024, .bf16⟩
  | .hbm, ⟨6, _⟩ => ⟨S2x20480x1024, .bf16⟩
  | .hbm, ⟨7, _⟩ => ⟨S2048x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi arg1 c18_i32
  let c0_i32 : BitVec 32 := 0#32
  let c0_i32_0 : BitVec 32 := 0#32
  ![arg2.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S2048x2048 : Shape := ⟨2, ![2048, 2048]⟩
abbrev S14336x2048 : Shape := ⟨2, ![14336, 2048]⟩
abbrev S6144x2048 : Shape := ⟨2, ![6144, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S14336x2048, .f32⟩
  | .hbm, ⟨2, _⟩ => ⟨S6144x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MlaOut.lean ====
abbrev S2048x2048 : Shape := ⟨2, ![2048, 2048]⟩
abbrev S14336x2048 : Shape := ⟨2, ![14336, 2048]⟩
abbrev S6144x2048 : Shape := ⟨2, ![6144, 2048]⟩
abbrev S20480x2048 : Shape := ⟨2, ![20480, 2048]⟩
abbrev S20480x2x1024 : Shape := ⟨3, ![20480, 2, 1024]⟩
abbrev S2x20480x1024 : Shape := ⟨3, ![2, 20480, 1024]⟩
abbrev S1024x1024 : Shape := ⟨2, ![1024, 1024]⟩
abbrev S1x1024x1024 : Shape := ⟨3, ![1, 1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S14336x2048, .f32⟩
  | .hbm, ⟨2, _⟩ => ⟨S6144x2048, .f32⟩
  | .hbm, ⟨3, _⟩ => ⟨S20480x2048, .f32⟩
  | .hbm, ⟨4, _⟩ => ⟨S20480x2048, .bf16⟩
  | .hbm, ⟨5, _⟩ => ⟨S20480x2x1024, .bf16⟩
  | .hbm, ⟨6, _⟩ => ⟨S2x20480x1024, .bf16⟩
  | .hbm, ⟨7, _⟩ => ⟨S2048x2048, .bf16⟩
  | .hbm, ⟨8, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi arg2 c14_i32
  let c0_i32 : BitVec 32 := 0#32
  let c0_i32_0 : BitVec 32 := 0#32
  ![arg1.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaOutIdeal.lean ====
  let c14_i32 : BitVec 32 := 14#32
  let v0 : BitVec 32 := Scalar.addi arg2 c14_i32
-- ==== MlaOutRefIdeal.lean ====
abbrev S2048x2048 : Shape := ⟨2, ![2048, 2048]⟩
abbrev S14336x2048 : Shape := ⟨2, ![14336, 2048]⟩
abbrev S6144x2048 : Shape := ⟨2, ![6144, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S14336x2048, .f32⟩
  | .hbm, ⟨2, _⟩ => ⟨S6144x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== HgrnOut.lean ====
abbrev S2048x2048 : Shape := ⟨2, ![2048, 2048]⟩
abbrev S14336x2048 : Shape := ⟨2, ![14336, 2048]⟩
abbrev S6144x2048 : Shape := ⟨2, ![6144, 2048]⟩
abbrev S20480x2048 : Shape := ⟨2, ![20480, 2048]⟩
abbrev S20480x2x1024 : Shape := ⟨3, ![20480, 2, 1024]⟩
abbrev S2x20480x1024 : Shape := ⟨3, ![2, 20480, 1024]⟩
abbrev S1024x1024 : Shape := ⟨2, ![1024, 1024]⟩
abbrev S1x1024x1024 : Shape := ⟨3, ![1, 1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S14336x2048, .f32⟩
  | .hbm, ⟨2, _⟩ => ⟨S6144x2048, .f32⟩
  | .hbm, ⟨3, _⟩ => ⟨S20480x2048, .f32⟩
  | .hbm, ⟨4, _⟩ => ⟨S20480x2048, .bf16⟩
  | .hbm, ⟨5, _⟩ => ⟨S20480x2x1024, .bf16⟩
  | .hbm, ⟨6, _⟩ => ⟨S2x20480x1024, .bf16⟩
  | .hbm, ⟨7, _⟩ => ⟨S2048x2048, .bf16⟩
  | .hbm, ⟨8, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg2 c16_i32
  let c0_i32 : BitVec 32 := 0#32
  let c0_i32_0 : BitVec 32 := 0#32
  ![arg1.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnOutIdeal.lean ====
  let c16_i32 : BitVec 32 := 16#32
  let v0 : BitVec 32 := Scalar.addi arg2 c16_i32
-- ==== HgrnOutRefIdeal.lean ====
abbrev S2048x2048 : Shape := ⟨2, ![2048, 2048]⟩
abbrev S14336x2048 : Shape := ⟨2, ![14336, 2048]⟩
abbrev S6144x2048 : Shape := ⟨2, ![6144, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S14336x2048, .f32⟩
  | .hbm, ⟨2, _⟩ => ⟨S6144x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MixOut.lean ====
abbrev S2048x2048 : Shape := ⟨2, ![2048, 2048]⟩
abbrev S14336x2048 : Shape := ⟨2, ![14336, 2048]⟩
abbrev S6144x2048 : Shape := ⟨2, ![6144, 2048]⟩
abbrev S20480x2048 : Shape := ⟨2, ![20480, 2048]⟩
abbrev S20480x2x1024 : Shape := ⟨3, ![20480, 2, 1024]⟩
abbrev S2x20480x1024 : Shape := ⟨3, ![2, 20480, 1024]⟩
abbrev S1024x1024 : Shape := ⟨2, ![1024, 1024]⟩
abbrev S1x1024x1024 : Shape := ⟨3, ![1, 1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S14336x2048, .f32⟩
  | .hbm, ⟨2, _⟩ => ⟨S6144x2048, .f32⟩
  | .hbm, ⟨3, _⟩ => ⟨S20480x2048, .f32⟩
  | .hbm, ⟨4, _⟩ => ⟨S20480x2048, .bf16⟩
  | .hbm, ⟨5, _⟩ => ⟨S20480x2x1024, .bf16⟩
  | .hbm, ⟨6, _⟩ => ⟨S2x20480x1024, .bf16⟩
  | .hbm, ⟨7, _⟩ => ⟨S2048x2048, .bf16⟩
  | .hbm, ⟨8, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi arg2 c18_i32
  let c0_i32 : BitVec 32 := 0#32
  let c0_i32_0 : BitVec 32 := 0#32
  ![arg1.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S2048x2048 : Shape := ⟨2, ![2048, 2048]⟩
abbrev S14336x2048 : Shape := ⟨2, ![14336, 2048]⟩
abbrev S6144x2048 : Shape := ⟨2, ![6144, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S14336x2048, .f32⟩
  | .hbm, ⟨2, _⟩ => ⟨S6144x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KvUp.lean ====
abbrev S2048x512 : Shape := ⟨2, ![2048, 512]⟩
abbrev S4096x512 : Shape := ⟨2, ![4096, 512]⟩
abbrev S512x4096 : Shape := ⟨2, ![512, 4096]⟩
abbrev S8192x512 : Shape := ⟨2, ![8192, 512]⟩
abbrev S8192x2x256 : Shape := ⟨3, ![8192, 2, 256]⟩
abbrev S2x8192x256 : Shape := ⟨3, ![2, 8192, 256]⟩
abbrev S2048x4096 : Shape := ⟨2, ![2048, 4096]⟩
abbrev S1024x256 : Shape := ⟨2, ![1024, 256]⟩
abbrev S1x1024x256 : Shape := ⟨3, ![1, 1024, 256]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S4096x512, .f32⟩
  | .hbm, ⟨2, _⟩ => ⟨S512x4096, .f32⟩
  | .hbm, ⟨3, _⟩ => ⟨S4096x512, .f32⟩
  | .hbm, ⟨4, _⟩ => ⟨S8192x512, .f32⟩
  | .hbm, ⟨5, _⟩ => ⟨S8192x512, .bf16⟩
  | .hbm, ⟨6, _⟩ => ⟨S8192x2x256, .bf16⟩
  | .hbm, ⟨7, _⟩ => ⟨S2x8192x256, .bf16⟩
  | .hbm, ⟨8, _⟩ => ⟨S2048x512, .bf16⟩
  | .hbm, ⟨9, _⟩ => ⟨S2048x4096, .bf16⟩
  | .local _ .vmem, ⟨0, _⟩ => ⟨S1024x256, .bf16⟩
  | .local _ .vmem, ⟨1, _⟩ => ⟨S1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![arg2.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpRefIdeal.lean ====
abbrev S2048x512 : Shape := ⟨2, ![2048, 512]⟩
abbrev S4096x512 : Shape := ⟨2, ![4096, 512]⟩
abbrev S512x4096 : Shape := ⟨2, ![512, 4096]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S4096x512, .f32⟩
  | .hbm, ⟨2, _⟩ => ⟨S512x4096, .f32⟩
  | .hbm, ⟨3, _⟩ => ⟨S2048x4096, .f32⟩
  | .hbm, ⟨4, _⟩ => ⟨S2048x4096, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KvUpDx.lean ====
abbrev S2048x4096 : Shape := ⟨2, ![2048, 4096]⟩
abbrev S4096x512 : Shape := ⟨2, ![4096, 512]⟩
abbrev S512x4096 : Shape := ⟨2, ![512, 4096]⟩
abbrev S8192x512 : Shape := ⟨2, ![8192, 512]⟩
abbrev S8192x2x256 : Shape := ⟨3, ![8192, 2, 256]⟩
abbrev S2x8192x256 : Shape := ⟨3, ![2, 8192, 256]⟩
abbrev S2048x512 : Shape := ⟨2, ![2048, 512]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 10
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x512, .f32⟩
  | .hbm, ⟨2, _⟩ => ⟨S512x4096, .f32⟩
  | .hbm, ⟨3, _⟩ => ⟨S4096x512, .f32⟩
  | .hbm, ⟨4, _⟩ => ⟨S8192x512, .f32⟩
  | .hbm, ⟨5, _⟩ => ⟨S8192x512, .bf16⟩
  | .hbm, ⟨6, _⟩ => ⟨S8192x2x256, .bf16⟩
  | .hbm, ⟨7, _⟩ => ⟨S2x8192x256, .bf16⟩
  | .hbm, ⟨8, _⟩ => ⟨S2048x4096, .bf16⟩
  | .hbm, ⟨9, _⟩ => ⟨S2048x512, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  ![arg1.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpDxRefIdeal.lean ====
abbrev S2048x4096 : Shape := ⟨2, ![2048, 4096]⟩
abbrev S4096x512 : Shape := ⟨2, ![4096, 512]⟩
abbrev S512x4096 : Shape := ⟨2, ![512, 4096]⟩
abbrev S_ : Shape := ⟨0, ![]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x512, .f32⟩
  | .hbm, ⟨2, _⟩ => ⟨S512x4096, .f32⟩
  | .hbm, ⟨3, _⟩ => ⟨S_, .f32⟩
  | .hbm, ⟨4, _⟩ => ⟨S2048x512, .f32⟩
  | .hbm, ⟨5, _⟩ => ⟨S2048x4096, .f32⟩
  | .hbm, ⟨6, _⟩ => ⟨S2048x512, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== KvUpDw.lean ====
abbrev S2x8192x256 : Shape := ⟨3, ![2, 8192, 256]⟩
abbrev S2048x4096 : Shape := ⟨2, ![2048, 4096]⟩
abbrev S2048x512 : Shape := ⟨2, ![2048, 512]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S2x8192x256, .f32⟩
  | .hbm, ⟨1, _⟩ => ⟨S2048x4096, .f32⟩
  | .hbm, ⟨2, _⟩ => ⟨S2048x512, .f32⟩
  | .hbm, ⟨3, _⟩ => ⟨S2048x4096, .bf16⟩
  | .hbm, ⟨4, _⟩ => ⟨S2048x512, .bf16⟩
  | .hbm, ⟨5, _⟩ => ⟨S2x8192x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1x1024x256, .f32⟩
  | .local _ .vmem, ⟨5, _⟩ => ⟨S1x1024x256, .f32⟩
  | .local _ .vmem, ⟨6, _⟩ => ⟨S1024x256, .f32⟩
  | _, _ => ⟨S2x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpDwRefIdeal.lean ====
abbrev S2x8192x256 : Shape := ⟨3, ![2, 8192, 256]⟩
abbrev S2048x4096 : Shape := ⟨2, ![2048, 4096]⟩
abbrev S2048x512 : Shape := ⟨2, ![2048, 512]⟩
abbrev S_ : Shape := ⟨0, ![]⟩
abbrev S512x4096 : Shape := ⟨2, ![512, 4096]⟩
abbrev S4096x512 : Shape := ⟨2, ![4096, 512]⟩
abbrev S2x4096x256 : Shape := ⟨3, ![2, 4096, 256]⟩
abbrev S2x256x4096 : Shape := ⟨3, ![2, 256, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x256, .f32⟩
  | .hbm, ⟨1, _⟩ => ⟨S2048x4096, .f32⟩
  | .hbm, ⟨2, _⟩ => ⟨S2048x512, .f32⟩
  | .hbm, ⟨3, _⟩ => ⟨S_, .f32⟩
  | .hbm, ⟨4, _⟩ => ⟨S512x4096, .f32⟩
  | .hbm, ⟨5, _⟩ => ⟨S2048x4096, .f32⟩
  | .hbm, ⟨6, _⟩ => ⟨S4096x512, .f32⟩
  | .hbm, ⟨7, _⟩ => ⟨S512x4096, .f32⟩
  | .hbm, ⟨8, _⟩ => ⟨S2x4096x256, .f32⟩
  | .hbm, ⟨9, _⟩ => ⟨S2x256x4096, .f32⟩
  | .hbm, ⟨10, _⟩ => ⟨S2x4096x256, .f32⟩
  | .hbm, ⟨11, _⟩ => ⟨S2x8192x256, .f32⟩
  | _, _ => ⟨S2x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== QUp.lean ====
abbrev S2048x512 : Shape := ⟨2, ![2048, 512]⟩
abbrev S512x3072 : Shape := ⟨2, ![512, 3072]⟩
abbrev S4096x512 : Shape := ⟨2, ![4096, 512]⟩
abbrev S3072x512 : Shape := ⟨2, ![3072, 512]⟩
abbrev S16x192x512 : Shape := ⟨3, ![16, 192, 512]⟩
abbrev S_ : Shape := ⟨0, ![]⟩
abbrev S16x64x512 : Shape := ⟨3, ![16, 64, 512]⟩
abbrev S16x256x512 : Shape := ⟨3, ![16, 256, 512]⟩
abbrev S8192x512 : Shape := ⟨2, ![8192, 512]⟩
abbrev S8192x2x256 : Shape := ⟨3, ![8192, 2, 256]⟩
abbrev S2x8192x256 : Shape := ⟨3, ![2, 8192, 256]⟩
abbrev S2048x4096 : Shape := ⟨2, ![2048, 4096]⟩
abbrev S1024x256 : Shape := ⟨2, ![1024, 256]⟩
abbrev S1x1024x256 : Shape := ⟨3, ![1, 1024, 256]⟩
abbrev S1024x1024 : Shape := ⟨2, ![1024, 1024]⟩

abbrev nBuf : Space → Nat
  | .hbm => 15
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S512x3072, .f32⟩
  | .hbm, ⟨2, _⟩ => ⟨S4096x512, .f32⟩
  | .hbm, ⟨3, _⟩ => ⟨S3072x512, .f32⟩
  | .hbm, ⟨4, _⟩ => ⟨S16x192x512, .f32⟩
  | .hbm, ⟨5, _⟩ => ⟨S_, .f32⟩
  | .hbm, ⟨6, _⟩ => ⟨S16x64x512, .f32⟩
  | .hbm, ⟨7, _⟩ => ⟨S16x256x512, .f32⟩
  | .hbm, ⟨8, _⟩ => ⟨S4096x512, .f32⟩
  | .hbm, ⟨9, _⟩ => ⟨S8192x512, .f32⟩
  | .hbm, ⟨10, _⟩ => ⟨S8192x512, .bf16⟩
  | .hbm, ⟨11, _⟩ => ⟨S8192x2x256, .bf16⟩
  | .hbm, ⟨12, _⟩ => ⟨S2x8192x256, .bf16⟩
  | .hbm, ⟨13, _⟩ => ⟨S2048x512, .bf16⟩
  | .hbm, ⟨14, _⟩ => ⟨S2048x4096, .f32⟩
  | .local _ .vmem, ⟨0, _⟩ => ⟨S1024x256, .bf16⟩
  | .local _ .vmem, ⟨1, _⟩ => ⟨S1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![arg2.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpRefIdeal.lean ====
abbrev S2048x512 : Shape := ⟨2, ![2048, 512]⟩
abbrev S512x3072 : Shape := ⟨2, ![512, 3072]⟩
abbrev S4096x512 : Shape := ⟨2, ![4096, 512]⟩
abbrev S2048x3072 : Shape := ⟨2, ![2048, 3072]⟩
abbrev S2048x16x192 : Shape := ⟨3, ![2048, 16, 192]⟩
abbrev S_ : Shape := ⟨0, ![]⟩
abbrev S2048x16x64 : Shape := ⟨3, ![2048, 16, 64]⟩
abbrev S2048x16x256 : Shape := ⟨3, ![2048, 16, 256]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x3072, .f32⟩
  | .hbm, ⟨2, _⟩ => ⟨S4096x512, .f32⟩
  | .hbm, ⟨3, _⟩ => ⟨S2048x3072, .f32⟩
  | .hbm, ⟨4, _⟩ => ⟨S2048x16x192, .f32⟩
  | .hbm, ⟨5, _⟩ => ⟨S_, .f32⟩
  | .hbm, ⟨6, _⟩ => ⟨S2048x16x64, .f32⟩
  | .hbm, ⟨7, _⟩ => ⟨S2048x16x256, .f32⟩
  | .hbm, ⟨8, _⟩ => ⟨S2048x4096, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== QUpDx.lean ====
abbrev S2048x16x192 : Shape := ⟨3, ![2048, 16, 192]⟩
abbrev S512x3072 : Shape := ⟨2, ![512, 3072]⟩
abbrev S4096x512 : Shape := ⟨2, ![4096, 512]⟩
abbrev S3072x512 : Shape := ⟨2, ![3072, 512]⟩
abbrev S16x192x512 : Shape := ⟨3, ![16, 192, 512]⟩
abbrev S_ : Shape := ⟨0, ![]⟩
abbrev S16x64x512 : Shape := ⟨3, ![16, 64, 512]⟩
abbrev S16x256x512 : Shape := ⟨3, ![16, 256, 512]⟩
abbrev S8192x512 : Shape := ⟨2, ![8192, 512]⟩
abbrev S8192x2x256 : Shape := ⟨3, ![8192, 2, 256]⟩
abbrev S2x8192x256 : Shape := ⟨3, ![2, 8192, 256]⟩
abbrev S2048x16x64 : Shape := ⟨3, ![2048, 16, 64]⟩
abbrev S2048x16x256 : Shape := ⟨3, ![2048, 16, 256]⟩
abbrev S2048x4096 : Shape := ⟨2, ![2048, 4096]⟩
abbrev S2048x512 : Shape := ⟨2, ![2048, 512]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 19
  | .vmem => 7
  | .smem => 0
  | _ => 0

abbrev bufTy : (tb : Table) → Fin (tcTables nBuf tb) → BufTy
  | .hbm, ⟨0, _⟩ => ⟨S2048x16x192, .f32⟩
  | .hbm, ⟨1, _⟩ => ⟨S512x3072, .f32⟩
  | .hbm, ⟨2, _⟩ => ⟨S4096x512, .f32⟩
  | .hbm, ⟨3, _⟩ => ⟨S3072x512, .f32⟩
  | .hbm, ⟨4, _⟩ => ⟨S16x192x512, .f32⟩
  | .hbm, ⟨5, _⟩ => ⟨S_, .f32⟩
  | .hbm, ⟨6, _⟩ => ⟨S16x64x512, .f32⟩
  | .hbm, ⟨7, _⟩ => ⟨S16x256x512, .f32⟩
  | .hbm, ⟨8, _⟩ => ⟨S4096x512, .f32⟩
  | .hbm, ⟨9, _⟩ => ⟨S8192x512, .f32⟩
  | .hbm, ⟨10, _⟩ => ⟨S8192x512, .bf16⟩
  | .hbm, ⟨11, _⟩ => ⟨S8192x2x256, .bf16⟩
  | .hbm, ⟨12, _⟩ => ⟨S2x8192x256, .bf16⟩
  | .hbm, ⟨13, _⟩ => ⟨S_, .f32⟩
  | .hbm, ⟨14, _⟩ => ⟨S2048x16x64, .f32⟩
  | .hbm, ⟨15, _⟩ => ⟨S2048x16x256, .f32⟩
  | .hbm, ⟨16, _⟩ => ⟨S2048x4096, .f32⟩
  | .hbm, ⟨17, _⟩ => ⟨S2048x4096, .bf16⟩
  | .hbm, ⟨18, _⟩ => ⟨S2048x512, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S2048x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg1.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpDxRefIdeal.lean ====
abbrev S2048x16x192 : Shape := ⟨3, ![2048, 16, 192]⟩
abbrev S512x3072 : Shape := ⟨2, ![512, 3072]⟩
abbrev S4096x512 : Shape := ⟨2, ![4096, 512]⟩
abbrev S_ : Shape := ⟨0, ![]⟩
abbrev S2048x512 : Shape := ⟨2, ![2048, 512]⟩
abbrev S2048x3072 : Shape := ⟨2, ![2048, 3072]⟩

abbrev nBuf : Space → Nat
  | .hbm => 9
  | .vmem => 0
  | .smem => 0
  | _ => 0

abbrev bufTy : (tb : Table) → Fin (tcTables nBuf tb) → BufTy
  | .hbm, ⟨0, _⟩ => ⟨S2048x16x192, .f32⟩
  | .hbm, ⟨1, _⟩ => ⟨S512x3072, .f32⟩
  | .hbm, ⟨2, _⟩ => ⟨S4096x512, .f32⟩
  | .hbm, ⟨3, _⟩ => ⟨S_, .f32⟩
  | .hbm, ⟨4, _⟩ => ⟨S2048x512, .f32⟩
  | .hbm, ⟨5, _⟩ => ⟨S2048x3072, .f32⟩
  | .hbm, ⟨6, _⟩ => ⟨S2048x16x192, .f32⟩
  | .hbm, ⟨7, _⟩ => ⟨S2048x3072, .f32⟩
  | .hbm, ⟨8, _⟩ => ⟨S2048x512, .f32⟩
  | _, _ => ⟨S2048x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== QUpDw.lean ====
abbrev S2x8192x256 : Shape := ⟨3, ![2, 8192, 256]⟩
abbrev S2048x16x192 : Shape := ⟨3, ![2048, 16, 192]⟩
abbrev S2048x512 : Shape := ⟨2, ![2048, 512]⟩
abbrev S_ : Shape := ⟨0, ![]⟩
abbrev S2048x16x64 : Shape := ⟨3, ![2048, 16, 64]⟩
abbrev S2048x16x256 : Shape := ⟨3, ![2048, 16, 256]⟩
abbrev S2048x4096 : Shape := ⟨2, ![2048, 4096]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 10
  | .vmem => 7
  | .smem => 0
  | _ => 0

abbrev bufTy : (tb : Table) → Fin (tcTables nBuf tb) → BufTy
  | .hbm, ⟨0, _⟩ => ⟨S2x8192x256, .f32⟩
  | .hbm, ⟨1, _⟩ => ⟨S2048x16x192, .f32⟩
  | .hbm, ⟨2, _⟩ => ⟨S2048x512, .f32⟩
  | .hbm, ⟨3, _⟩ => ⟨S_, .f32⟩
  | .hbm, ⟨4, _⟩ => ⟨S2048x16x64, .f32⟩
  | .hbm, ⟨5, _⟩ => ⟨S2048x16x256, .f32⟩
  | .hbm, ⟨6, _⟩ => ⟨S2048x4096, .f32⟩
  | .hbm, ⟨7, _⟩ => ⟨S2048x4096, .bf16⟩
  | .hbm, ⟨8, _⟩ => ⟨S2048x512, .bf16⟩
  | .hbm, ⟨9, _⟩ => ⟨S2x8192x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1x1024x256, .f32⟩
  | .local _ .vmem, ⟨5, _⟩ => ⟨S1x1024x256, .f32⟩
  | .local _ .vmem, ⟨6, _⟩ => ⟨S1024x256, .f32⟩
  | _, _ => ⟨S2x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![arg1.toNat, v0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpDwRefIdeal.lean ====
abbrev S2x8192x256 : Shape := ⟨3, ![2, 8192, 256]⟩
abbrev S2048x16x192 : Shape := ⟨3, ![2048, 16, 192]⟩
abbrev S2048x512 : Shape := ⟨2, ![2048, 512]⟩
abbrev S_ : Shape := ⟨0, ![]⟩
abbrev S512x3072 : Shape := ⟨2, ![512, 3072]⟩
abbrev S2048x3072 : Shape := ⟨2, ![2048, 3072]⟩
abbrev S3072x512 : Shape := ⟨2, ![3072, 512]⟩
abbrev S512x16x192 : Shape := ⟨3, ![512, 16, 192]⟩
abbrev S512x16x64 : Shape := ⟨3, ![512, 16, 64]⟩
abbrev S512x16x256 : Shape := ⟨3, ![512, 16, 256]⟩
abbrev S2x256x4096 : Shape := ⟨3, ![2, 256, 4096]⟩
abbrev S2x4096x256 : Shape := ⟨3, ![2, 4096, 256]⟩

abbrev nBuf : Space → Nat
  | .hbm => 18
  | .vmem => 0
  | .smem => 0
  | _ => 0

abbrev bufTy : (tb : Table) → Fin (tcTables nBuf tb) → BufTy
  | .hbm, ⟨0, _⟩ => ⟨S2x8192x256, .f32⟩
  | .hbm, ⟨1, _⟩ => ⟨S2048x16x192, .f32⟩
  | .hbm, ⟨2, _⟩ => ⟨S2048x512, .f32⟩
  | .hbm, ⟨3, _⟩ => ⟨S_, .f32⟩
  | .hbm, ⟨4, _⟩ => ⟨S512x3072, .f32⟩
  | .hbm, ⟨5, _⟩ => ⟨S2048x3072, .f32⟩
  | .hbm, ⟨6, _⟩ => ⟨S2048x16x192, .f32⟩
  | .hbm, ⟨7, _⟩ => ⟨S2048x3072, .f32⟩
  | .hbm, ⟨8, _⟩ => ⟨S3072x512, .f32⟩
  | .hbm, ⟨9, _⟩ => ⟨S512x3072, .f32⟩
  | .hbm, ⟨10, _⟩ => ⟨S512x16x192, .f32⟩
  | .hbm, ⟨11, _⟩ => ⟨S_, .f32⟩
  | .hbm, ⟨12, _⟩ => ⟨S512x16x64, .f32⟩
  | .hbm, ⟨13, _⟩ => ⟨S512x16x256, .f32⟩
  | .hbm, ⟨14, _⟩ => ⟨S2x256x4096, .f32⟩
  | .hbm, ⟨15, _⟩ => ⟨S2x4096x256, .f32⟩
  | .hbm, ⟨16, _⟩ => ⟨S2x4096x256, .f32⟩
  | .hbm, ⟨17, _⟩ => ⟨S2x8192x256, .f32⟩
  | _, _ => ⟨S2x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Row.lean ====
/- One row of the softmax gradient over the extended reals: what the row's weights are when its scores are finite,
   that the keys after the row's position may be left out, and that the two ways of writing the gradient of a
   score agree. -/
module

public import Idealize.ShloMosaic.PureOps.Ideal.Laws

@[expose] public section
noncomputable section
namespace Attn
open Idealize.ShloMosaic
open scoped BigOperators

/-- An extended real that is a number. -/
def Num (x : EReal) : Prop := ∃ r : ℝ, x = (r : EReal)

/-- The scores of a row whose keys after position `o` are masked. -/
def msk {n : ℕ} (o : ℕ) (s : Fin n → EReal) (k : Fin n) : EReal := if k.val ≤ o then s k else ⊥

/-- The largest score of a row. -/
def top {n : ℕ} (s : Fin n → EReal) : EReal := Finset.univ.fold max ⊥ s

/-- The exponential of a score less the row's largest. -/
def ex {n : ℕ} (s : Fin n → EReal) (k : Fin n) : EReal := Ideal.exp (s k - top s)

/-- The softmax weight of a key. -/
def pv {n : ℕ} (s : Fin n → EReal) (k : Fin n) : EReal := Ideal.div (ex s k) (∑ x, ex s x)

/-- The gradient of a score: the weight times what the incoming gradient exceeds its mean by, times the scale. -/
def dsv {n : ℕ} (s g : Fin n → EReal) (c : EReal) (k : Fin n) : EReal := pv s k * (g k - ∑ x, pv s x * g x) * c

theorem top_eq {n : ℕ} (s : Fin n → EReal) : top s = Finset.univ.sup s := rfl

theorem sum_castLE {M : Type} [AddCommMonoid M] {K N : ℕ} (h : K ≤ N) (f : Fin N → M) (h0 : ∀ k : Fin N, K ≤ k.val → f k = 0) :
    ∑ k, f k = ∑ k : Fin K, f (Fin.castLE h k) := by
  obtain ⟨m, rfl⟩ := Nat.exists_eq_add_of_le h
  rw [Fin.sum_univ_add]
  rw [Finset.sum_eq_zero (s := Finset.univ) (f := fun i : Fin m => f (Fin.natAdd K i)) (fun i _ => h0 _ (by simp)), add_zero]
  rfl

theorem msk_castLE {K N : ℕ} (h : K ≤ N) (o : ℕ) (s : Fin N → EReal) (k : Fin K) :
    msk o s (Fin.castLE h k) = msk o (fun x => s (Fin.castLE h x)) k := rfl

theorem top_castLE {K N : ℕ} (h : K ≤ N) (o : ℕ) (ho : o < K) (s : Fin N → EReal) :
    top (msk o s) = top (msk o fun x : Fin K => s (Fin.castLE h x)) := by
  rw [top_eq, top_eq]
  apply le_antisymm
  · refine Finset.sup_le fun k _ => ?_
    by_cases hk : k.val < K
    · exact Finset.le_sup (f := msk o fun x : Fin K => s (Fin.castLE h x)) (Finset.mem_univ ⟨k.val, hk⟩)
    · rw [msk, if_neg (by omega)]; exact bot_le
  · refine Finset.sup_le fun k _ => ?_
    rw [← msk_castLE h]
    exact Finset.le_sup (f := msk o s) (Finset.mem_univ _)

theorem exp_bot_sub (a : EReal) : Ideal.exp (⊥ - a) = 0 := by
  rw [EReal.bot_sub]; rfl

theorem ex_masked {n : ℕ} (o : ℕ) (s : Fin n → EReal) (k : Fin n) (hk : o < k.val) : ex (msk o s) k = 0 := by
  rw [ex, msk, if_neg (by omega), exp_bot_sub]

theorem ex_castLE {K N : ℕ} (h : K ≤ N) (o : ℕ) (ho : o < K) (s : Fin N → EReal) (k : Fin K) :
    ex (msk o s) (Fin.castLE h k) = ex (msk o fun x : Fin K => s (Fin.castLE h x)) k := by
  rw [ex, ex, top_castLE h o ho, msk_castLE]

theorem exsum_castLE {K N : ℕ} (h : K ≤ N) (o : ℕ) (ho : o < K) (s : Fin N → EReal) :
    ∑ x, ex (msk o s) x = ∑ x, ex (msk o fun x : Fin K => s (Fin.castLE h x)) x := by
  rw [sum_castLE h _ (fun k hk => ex_masked o s k (by omega))]
  exact Finset.sum_congr rfl fun k _ => ex_castLE h o ho s k

/-- A row may be read over its first `K` keys when its position is below `K`. -/
theorem pv_castLE {K N : ℕ} (h : K ≤ N) (o : ℕ) (ho : o < K) (s : Fin N → EReal) (k : Fin K) :
    pv (msk o fun x : Fin K => s (Fin.castLE h x)) k = pv (msk o s) (Fin.castLE h k) := by
  rw [pv, pv, ← exsum_castLE h o ho, ← ex_castLE h o ho]

/-- With finite scores the exponentials of a row are nonnegative numbers whose sum is a positive number. -/
theorem ex_num {n : ℕ} (o : ℕ) (s : Fin n → EReal) (hn : 0 < n) (hs : ∀ k, Num (s k)) :
    ∃ e : Fin n → ℝ, (∀ k, ex (msk o s) k = (e k : EReal)) ∧ (∀ k, 0 ≤ e k) ∧ (∀ k, o < k.val → e k = 0) ∧ 0 < ∑ k, e k := by
  have hM : Num (top (msk o s)) := by
    rw [top_eq]
    obtain ⟨k, _, hk⟩ := Finset.exists_mem_eq_sup (Finset.univ : Finset (Fin n)) ⟨⟨0, hn⟩, Finset.mem_univ _⟩ (msk o s)
    have h0 : msk o s ⟨0, hn⟩ ≤ Finset.univ.sup (msk o s) := Finset.le_sup (Finset.mem_univ _)
    rw [hk] at h0 ⊢
    by_cases hk' : k.val ≤ o
    · rw [msk, if_pos hk']; exact hs k
    · obtain ⟨r, hr⟩ := hs ⟨0, hn⟩
      rw [show msk o s ⟨0, hn⟩ = s ⟨0, hn⟩ from if_pos (Nat.zero_le _), hr, msk, if_neg hk'] at h0
      exact absurd (le_bot_iff.1 h0) (EReal.coe_ne_bot r)
  obtain ⟨m, hm⟩ := hM
  choose r hr using hs
  have hE : ∀ k, ex (msk o s) k = ((if k.val ≤ o then Real.exp (r k - m) else 0 : ℝ) : EReal) := by
    intro k
    by_cases hk : k.val ≤ o
    · rw [if_pos hk, ex, hm, msk, if_pos hk, hr k, ← EReal.coe_sub]; rfl
    · rw [if_neg hk, ex_masked o s k (by omega)]; rfl
  refine ⟨_, hE, fun k => ?_, fun k hk => if_neg (by omega), ?_⟩
  · split
    · exact (Real.exp_pos _).le
    · exact le_rfl
  · refine Finset.sum_pos' (fun k _ => ?_) ⟨⟨0, hn⟩, Finset.mem_univ _, ?_⟩
    · split
      · exact (Real.exp_pos _).le
      · exact le_rfl
    · rw [if_pos (Nat.zero_le _)]; exact Real.exp_pos _

theorem coe_sum {n : ℕ} (e : Fin n → ℝ) : ((∑ k, e k : ℝ) : EReal) = ∑ k, (e k : EReal) := by
  induction n with
  | zero => simp
  | succ n ih => rw [Fin.sum_univ_succ, Fin.sum_univ_succ, EReal.coe_add, ih]

theorem div_num (x : EReal) {L : ℝ} (hL : 0 < L) : Ideal.div x (L : EReal) = x * ((L⁻¹ : ℝ) : EReal) := by
  rw [Ideal.div, if_neg (by exact_mod_cast hL.ne'), EReal.coe_inv]

theorem num_mul_sum {n : ℕ} {r : ℝ} (hr : 0 ≤ r) (f : Fin n → EReal) : ∑ k, (r : EReal) * f k = (r : EReal) * ∑ k, f k := by
  induction n with
  | zero => simp
  | succ n ih =>
    rw [Fin.sum_univ_succ, Fin.sum_univ_succ, ih,
      EReal.left_distrib_of_nonneg_of_ne_top (by exact_mod_cast hr) (EReal.coe_ne_top r)]

/-- With finite scores a key after the row's position has weight zero. -/
theorem pv_masked {n : ℕ} (o : ℕ) (s : Fin n → EReal) (hn : 0 < n) (hs : ∀ k, Num (s k)) (k : Fin n) (hk : o < k.val) :
    pv (msk o s) k = 0 := by
  obtain ⟨e, he, _, h0, hL⟩ := ex_num o s hn hs
  rw [pv, Finset.sum_congr rfl fun x _ => he x, ← coe_sum, div_num _ hL, he k, h0 k hk, EReal.coe_zero, zero_mul]

theorem dsv_masked {n : ℕ} (o : ℕ) (s g : Fin n → EReal) (c : EReal) (hn : 0 < n) (hs : ∀ k, Num (s k)) (k : Fin n) (hk : o < k.val) :
    dsv (msk o s) g c k = 0 := by
  rw [dsv, pv_masked o s hn hs k hk, zero_mul, zero_mul]

/-- The gradient of a row's scores likewise read over its first `K` keys. -/
theorem dsv_castLE {K N : ℕ} (h : K ≤ N) (o : ℕ) (ho : o < K) (s g : Fin N → EReal) (c : EReal) (hs : ∀ k, Num (s k)) (k : Fin K) :
    dsv (msk o fun x : Fin K => s (Fin.castLE h x)) (fun x => g (Fin.castLE h x)) c k = dsv (msk o s) g c (Fin.castLE h k) := by
  rw [dsv, dsv, pv_castLE h o ho s k,
    sum_castLE h (fun x => pv (msk o s) x * g x) (fun x hx => by rw [pv_masked o s (by omega) hs x (by omega), zero_mul])]
  simp only [pv_castLE h o ho s]

/-- The gradient of a score as the derivative of a quotient writes it, against the weight's own form: with finite scores
    the division by the row's sum goes through the sum over the keys. -/
theorem quotient_eq {n : ℕ} (o : ℕ) (s g : Fin n → EReal) (hn : 0 < n) (hs : ∀ k, Num (s k)) (k : Fin n) :
    (Ideal.div (g k) (∑ x, ex (msk o s) x)
        + -(∑ x, g x * Ideal.div 1 ((∑ y, ex (msk o s) y) * ∑ y, ex (msk o s) y) * ex (msk o s) x)) * ex (msk o s) k
      = pv (msk o s) k * (g k - ∑ x, pv (msk o s) x * g x) := by
  obtain ⟨e, he, hp, h0, hL⟩ := ex_num o s hn hs
  simp only [pv]
  rw [Finset.sum_congr rfl fun x _ => he x, ← coe_sum]
  generalize (∑ k, e k) = L at hL
  rw [← EReal.coe_mul]
  simp only [div_num _ hL, div_num _ (mul_pos hL hL), he, one_mul]
  rw [Finset.sum_congr rfl (g := fun x => ((L⁻¹ : ℝ) : EReal) * ((e x : EReal) * ((L⁻¹ : ℝ) : EReal) * g x)) (fun x _ => by
    rw [mul_inv, EReal.coe_mul]; ac_rfl), num_mul_sum (inv_nonneg.2 hL.le)]
  generalize (∑ x, (e x : EReal) * ((L⁻¹ : ℝ) : EReal) * g x) = X
  rw [mul_comm (g k), ← mul_neg, ← EReal.left_distrib_of_nonneg_of_ne_top (by exact_mod_cast (inv_nonneg.2 hL.le)) (EReal.coe_ne_top _),
    sub_eq_add_neg]
  ac_rfl

end Attn
-- ==== Proof.Spec.lean ====
/- The gradient of the causal attention with a shared rotary key, written entry by entry over the argument arrays:
   what both programs are shown to compute. -/
module

public import proofs.«01_k».proof.Proof.Row
public import Idealize.ShloMosaic.Lib.Pointwise

@[expose] public section
noncomputable section
namespace Attn
open Idealize.ShloMosaic
open scoped BigOperators

/-- The scale of the scores, 192 to the power -1/2 in f32. -/
def scl : EReal := Ideal.ofBits .f32 0x3D93CD3A#32

/-- The arguments: the queries' and keys' position-free parts, their rotary parts, the values and the incoming gradient. -/
structure Args where
  qn : FVec Ideal ⟨3, ![2048, 16, 128]⟩ .f32
  qr : FVec Ideal ⟨3, ![2048, 16, 64]⟩ .f32
  kn : FVec Ideal ⟨3, ![2048, 16, 128]⟩ .f32
  vv : FVec Ideal ⟨3, ![2048, 16, 128]⟩ .f32
  kr : FVec Ideal ⟨2, ![2048, 64]⟩ .f32
  go : FVec Ideal ⟨2, ![2048, 2048]⟩ .f32

/-- The queries and the keys are numbers. -/
structure Args.Fin (A : Args) : Prop where
  qn : ∀ j, Num (A.qn j)
  qr : ∀ j, Num (A.qr j)
  kn : ∀ j, Num (A.kn j)
  kr : ∀ j, Num (A.kr j)

variable (A : Args)

/-- The column of head `h`'s entry `d` in an array whose rows hold 16 heads of 128. -/
def col (h : _root_.Fin 16) (d : _root_.Fin 128) : _root_.Fin 2048 := ⟨h.val * 128 + d.val, by omega⟩

/-- Head `h`'s query at position `q`: 128 position-free entries, 64 rotary ones, 64 zeros. -/
def qc (h : _root_.Fin 16) (q : _root_.Fin 2048) (c : _root_.Fin 256) : EReal :=
  if hc : c.val < 128 then A.qn (ix3 q h ⟨c.val, hc⟩) else if hc' : c.val < 192 then A.qr (ix3 q h ⟨c.val - 128, by omega⟩) else 0

/-- Head `h`'s key at position `k`: 128 position-free entries, the shared 64 rotary ones, 64 zeros. -/
def kc (h : _root_.Fin 16) (k : _root_.Fin 2048) (c : _root_.Fin 256) : EReal :=
  if hc : c.val < 128 then A.kn (ix3 k h ⟨c.val, hc⟩) else if hc' : c.val < 192 then A.kr (ix2 k ⟨c.val - 128, by omega⟩) else 0

/-- A score. -/
def sc (h : _root_.Fin 16) (q k : _root_.Fin 2048) : EReal := (∑ c, qc A h q c * kc A h k c) * scl

/-- The incoming gradient of a softmax weight. -/
def gw (h : _root_.Fin 16) (q k : _root_.Fin 2048) : EReal := ∑ d, A.go (ix2 q (col h d)) * A.vv (ix3 k h d)

/-- A softmax weight. -/
def wt (h : _root_.Fin 16) (q k : _root_.Fin 2048) : EReal := pv (msk q.val (sc A h q)) k

/-- The gradient of a score. -/
def ds (h : _root_.Fin 16) (q k : _root_.Fin 2048) : EReal := dsv (msk q.val (sc A h q)) (gw A h q) scl k

/-- The gradient of a query entry, of a key entry, of a value entry, and of a shared key entry. -/
def dq (h : _root_.Fin 16) (q : _root_.Fin 2048) (c : _root_.Fin 256) : EReal := ∑ k, ds A h q k * kc A h k c
def dk (h : _root_.Fin 16) (k : _root_.Fin 2048) (c : _root_.Fin 256) : EReal := ∑ q, ds A h q k * qc A h q c
def dv (h : _root_.Fin 16) (k : _root_.Fin 2048) (d : _root_.Fin 128) : EReal := ∑ q, wt A h q k * A.go (ix2 q (col h d))

/-- The three results. -/
def oq (q : _root_.Fin 2048) (J : _root_.Fin 4096) : EReal := dq A ⟨J.val / 256, by omega⟩ q ⟨J.val % 256, by omega⟩
def okv (k : _root_.Fin 2048) (J : _root_.Fin 4096) : EReal :=
  if h : J.val % 256 < 128 then dk A ⟨J.val / 256, by omega⟩ k ⟨J.val % 256, by omega⟩ else dv A ⟨J.val / 256, by omega⟩ k ⟨J.val % 256 - 128, by omega⟩
def okr (k : _root_.Fin 2048) (j : _root_.Fin 128) : EReal := ∑ h, dk A h k ⟨128 + j.val, by omega⟩

variable {A}

theorem Num.mul {x y : EReal} (hx : Num x) (hy : Num y) : Num (x * y) := by
  obtain ⟨a, rfl⟩ := hx; obtain ⟨b, rfl⟩ := hy; exact ⟨a * b, (EReal.coe_mul a b).symm⟩

theorem Num.zero : Num 0 := ⟨0, rfl⟩

theorem Num.sum {n : ℕ} {f : _root_.Fin n → EReal} (h : ∀ k, Num (f k)) : Num (∑ k, f k) := by
  choose r hr using h
  exact ⟨∑ k, r k, by rw [coe_sum]; exact Finset.sum_congr rfl fun k _ => hr k⟩

theorem scl_num : Num scl := by
  unfold scl Ideal.ofBits Ideal.ieee
  dsimp only
  rw [if_neg (by decide), if_neg (by decide)]
  exact ⟨_, rfl⟩

theorem Args.Fin.sc (hA : A.Fin) (h : _root_.Fin 16) (q k : _root_.Fin 2048) : Num (sc A h q k) := by
  refine Num.mul (Num.sum fun c => Num.mul ?_ ?_) scl_num
  · unfold qc; split
    · exact hA.qn _
    · split
      · exact hA.qr _
      · exact Num.zero
  · unfold kc; split
    · exact hA.kn _
    · split
      · exact hA.kr _
      · exact Num.zero

/-- A sum over a head's 256 entries whose last 64 vanish. -/
theorem sum_256 (f : _root_.Fin 256 → EReal) (h0 : ∀ c : _root_.Fin 256, 192 ≤ c.val → f c = 0) :
    ∑ c, f c = (∑ d : _root_.Fin 128, f ⟨d.val, by omega⟩) + ∑ r : _root_.Fin 64, f ⟨128 + r.val, by omega⟩ := by
  rw [sum_castLE (by decide : 192 ≤ 256) f h0]
  exact Fin.sum_univ_add (a := 128) (b := 64) fun i => f (Fin.castLE (by decide) i)

theorem qc_nope (h : _root_.Fin 16) (q : _root_.Fin 2048) (d : _root_.Fin 128) (hd : d.val < 256) :
    qc A h q ⟨d.val, hd⟩ = A.qn (ix3 q h d) := dif_pos d.isLt

theorem qc_rope (h : _root_.Fin 16) (q : _root_.Fin 2048) (r : _root_.Fin 64) (hr : 128 + r.val < 256) :
    qc A h q ⟨128 + r.val, hr⟩ = A.qr (ix3 q h r) := by
  rw [qc, dif_neg (by dsimp only; omega), dif_pos (by dsimp only; omega)]
  congr 2; exact Fin.ext (by dsimp only; omega)

theorem qc_zero (h : _root_.Fin 16) (q : _root_.Fin 2048) (c : _root_.Fin 256) (hc : 192 ≤ c.val) : qc A h q c = 0 := by
  rw [qc, dif_neg (by omega), dif_neg (by omega)]

theorem kc_nope (h : _root_.Fin 16) (q : _root_.Fin 2048) (d : _root_.Fin 128) (hd : d.val < 256) :
    kc A h q ⟨d.val, hd⟩ = A.kn (ix3 q h d) := dif_pos d.isLt

theorem kc_rope (h : _root_.Fin 16) (q : _root_.Fin 2048) (r : _root_.Fin 64) (hr : 128 + r.val < 256) :
    kc A h q ⟨128 + r.val, hr⟩ = A.kr (ix2 q r) := by
  rw [kc, dif_neg (by dsimp only; omega), dif_pos (by dsimp only; omega)]
  congr 2; exact Fin.ext (by dsimp only; omega)

theorem kc_zero (h : _root_.Fin 16) (q : _root_.Fin 2048) (c : _root_.Fin 256) (hc : 192 ≤ c.val) : kc A h q c = 0 := by
  rw [kc, dif_neg (by omega), dif_neg (by omega)]

/-- A score as the sum of its position-free and its rotary part. -/
theorem sc_eq (h : _root_.Fin 16) (q k : _root_.Fin 2048) :
    sc A h q k = ((∑ d, A.qn (ix3 q h d) * A.kn (ix3 k h d)) + ∑ r, A.kr (ix2 k r) * A.qr (ix3 q h r)) * scl := by
  rw [sc, sum_256 _ (fun c hc => by rw [qc_zero _ _ _ hc, zero_mul])]
  refine congrArg (· * scl) (congrArg₂ (· + ·) (Finset.sum_congr rfl fun d _ => ?_) (Finset.sum_congr rfl fun r _ => ?_))
  · rw [qc_nope, kc_nope]
  · rw [qc_rope, kc_rope, mul_comm]

end Attn
-- ==== Proof.Ideals.lean ====
/- Words and constants as the two programs spell them: the infinities, a signed comparison of two positions, a test
   for numbers; and sums taken in runs. -/
module

public import proofs.«01_k».proof.Proof.Row
public import Idealize.ShloMosaic.Lib.Pointwise

@[expose] public section
noncomputable section
namespace Attn
open Idealize.ShloMosaic
open scoped BigOperators

theorem ninf : Ideal.ofBits .f32 0xFF800000#32 = ⊥ := by
  unfold Ideal.ofBits Ideal.ieee
  dsimp only
  rw [if_pos (by decide), if_pos (by decide), if_pos (by decide)]

theorem sle_iff (a b : ℕ) (ha : a < 4096) (hb : b < 4096) :
    IntOp.cmpi CmpIPredicate.sle (BitVec.ofNat 32 a) (BitVec.ofNat 32 b) = if a ≤ b then 1#1 else 0#1 := by
  have h1 : (BitVec.ofNat 32 a).toInt = a := by
    rw [BitVec.toInt_eq_toNat_of_lt (by rw [BitVec.toNat_ofNat]; omega), BitVec.toNat_ofNat, Nat.mod_eq_of_lt (by omega)]
  have h2 : (BitVec.ofNat 32 b).toInt = b := by
    rw [BitVec.toInt_eq_toNat_of_lt (by rw [BitVec.toNat_ofNat]; omega), BitVec.toNat_ofNat, Nat.mod_eq_of_lt (by omega)]
  unfold IntOp.cmpi
  simp only [BitVec.sle, h1, h2, Int.ofNat_le]
  by_cases h : a ≤ b <;> simp [h]

theorem select_sle {α : Type} (a b : ℕ) (ha : a < 4096) (hb : b < 4096) (x y : α) :
    Scalar.select (IntOp.cmpi CmpIPredicate.sle (BitVec.ofNat 32 a) (BitVec.ofNat 32 b)) x y = if a ≤ b then x else y := by
  rw [sle_iff a b ha hb]
  by_cases h : a ≤ b
  · rw [if_pos h, if_pos h]; rfl
  · rw [if_neg h, if_neg h]; rfl

/-- A function of the first `n` numbers, zero beyond. -/
def ext {n : ℕ} (f : Fin n → EReal) (j : ℕ) : EReal := if h : j < n then f ⟨j, h⟩ else 0

theorem sum_ext {n : ℕ} (f : Fin n → EReal) : ∑ j ∈ Finset.range n, ext f j = ∑ j, f j := by
  rw [Finset.sum_range]
  exact Finset.sum_congr rfl fun j _ => dif_pos j.isLt

theorem sum_ext_add {n : ℕ} (f : Fin n → EReal) (o w : ℕ) (h : o + w ≤ n) :
    ∑ j ∈ Finset.range (o + w), ext f j = (∑ j ∈ Finset.range o, ext f j) + ∑ r : Fin w, f ⟨o + r.val, by omega⟩ := by
  rw [Finset.sum_range_add, Finset.sum_range (n := w)]
  exact congrArg _ (Finset.sum_congr rfl fun r _ => dif_pos _)

/-- Two matrices that agree at every row and column are equal. -/
theorem ext2 {n k : ℕ} {α : Type} {f g : (⟨2, ![n, k]⟩ : Shape).Idx → α} (h : ∀ a b, f (ix2 a b) = g (ix2 a b)) : f = g :=
  funext fun i => by rw [eq_ix2 i]; exact h _ _

/-- The word of positive infinity. -/
theorem pinf : Ideal.ofBits .f32 0x7F800000#32 = ⊤ := by
  unfold Ideal.ofBits Ideal.ieee
  dsimp only
  rw [if_pos (by decide), if_pos (by decide), if_neg (by decide)]

/-- A magnitude below positive infinity is a number's. -/
theorem num_of_lt {a : Ideal .f32} (h : FloatOps.cmpf (F := Ideal) .olt (FloatOps.absf a) (Ideal.ofBits .f32 0x7F800000#32) = 1#1) : Num a := by
  rw [pinf, Ideal.absf_def, Ideal.cmpf_def, Ideal.cmp_olt] at h
  have h' : max a (-a) < (⊤ : EReal) := by
    by_contra hn
    rw [decide_eq_false hn] at h
    exact absurd h (by decide)
  induction a using EReal.rec with
  | bot => simp at h'
  | top => simp at h'
  | coe r => exact ⟨r, rfl⟩

theorem and_one (a b : BitVec 1) (h : IntOp.andi a b = 1#1) : a = 1#1 ∧ b = 1#1 := by revert a b; decide

end Attn
-- ==== Proof.Ref.lean ====
/- The reference's three results as named arrays, and each array read at an index. -/
module

public import proofs.«01_k».proof.Proof.Spec
public import proofs.«01_k».proof.Proof.Ideals
public import proofs.«01_k».proof.Proof.Gen.ReferenceIdeal.Run

@[expose] public section
noncomputable section
namespace Attn.Ref
open Idealize.ShloMosaic Idealize.SL.Sem Cert.ReferenceIdeal Cert.ReferenceIdeal.Gen
open scoped BigOperators

def rM : IVec S16x2048x2048 1 :=
  broadcastInDim S16x2048x2048 ![1, 2] bcast_S2048x2048_S16x2048x2048_1_2 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

def rS (a0 : FVec Ideal ⟨3, ![2048, 16, 128]⟩ .f32) (a1 : FVec Ideal ⟨3, ![2048, 16, 64]⟩ .f32) (a2 : FVec Ideal ⟨3, ![2048, 16, 128]⟩ .f32) (a4 : FVec Ideal ⟨2, ![2048, 64]⟩ .f32) : FVec Ideal S16x2048x2048 .f32 :=
  select rM (mulf (addf (Host.dotGeneral dot_S2048x16x128_S2048x16x128_S16x2048x2048_2_2_0_0_1_1 none a0 a2) (transpose S16x2048x2048 [2, 1, 0] (Host.dotGeneral dot_S2048x64_S2048x16x64_S2048x2048x16_1_2_0_01_n_n none a4 a1) transposes_S2048x2048x16_S16x2048x2048_2_1_0)) (broadcastInDim S16x2048x2048 ![] bcast_S_S16x2048x2048 (constant S_ .f32 0x3D93CD3A#32))) (broadcastInDim S16x2048x2048 ![] bcast_S_S16x2048x2048 (id (constant S_ .f32 0xFF800000#32)))

def rX (s : FVec Ideal S16x2048x2048 .f32) : FVec Ideal S16x2048 .f32 :=
  Host.reduce FloatOps.maximumf s (constant S_ .f32 0xFF800000#32) reducesTo_S16x2048x2048_S16x2048_d2 h_S_

def rE (s : FVec Ideal S16x2048x2048 .f32) (mx : FVec Ideal S16x2048 .f32) : FVec Ideal S16x2048x2048 .f32 :=
  Host.exp (subf s (broadcastInDim S16x2048x2048 ![0, 1, 2] bcast_S16x2048x1_S16x2048x2048_0_1_2 (broadcastInDim S16x2048x1 ![0, 1] bcast_S16x2048_S16x2048x1_0_1 (maximumf (broadcastInDim S16x2048 ![] bcast_S_S16x2048 (constant S_ .f32 0xFF800000#32)) mx))))

def rL (e : FVec Ideal S16x2048x2048 .f32) : FVec Ideal S16x2048 .f32 :=
  Host.reduceAdd e (constant S_ .f32 0x00000000#32) reducesTo_S16x2048x2048_S16x2048_d2 h_S_

def rC (a3 : FVec Ideal ⟨3, ![2048, 16, 128]⟩ .f32) (a5 : FVec Ideal ⟨2, ![2048, 2048]⟩ .f32) : FVec Ideal S16x2048x2048 .f32 :=
  Host.dotGeneral dot_S16x128x2048_S2048x16x128_S16x2048x2048_1_2_2_0_0_1 none (transpose S16x128x2048 [1, 2, 0] (shapeCast _ a5 shapeCasts_S2048x2048_S2048x16x128) transposes_S2048x16x128_S16x128x2048_1_2_0) a3

def rP (e : FVec Ideal S16x2048x2048 .f32) (l : FVec Ideal S16x2048 .f32) : FVec Ideal S16x2048x2048 .f32 :=
  Host.divf e (broadcastInDim S16x2048x2048 ![0, 1, 2] bcast_S16x2048x1_S16x2048x2048_0_1_2 (broadcastInDim S16x2048x1 ![0, 1] bcast_S16x2048_S16x2048x1_0_1 l))

def rY (ct : FVec Ideal S16x2048x2048 .f32) (e : FVec Ideal S16x2048x2048 .f32) (l : FVec Ideal S16x2048 .f32) : FVec Ideal S16x2048 .f32 :=
  Host.reduceAdd (mulf (mulf ct (broadcastInDim S16x2048x2048 ![0, 1, 2] bcast_S16x2048x1_S16x2048x2048_0_1_2 (Host.divf (broadcastInDim S16x2048x1 ![] bcast_S_S16x2048x1 (constant S_ .f32 0x3F800000#32)) (mulf (broadcastInDim S16x2048x1 ![0, 1] bcast_S16x2048_S16x2048x1_0_1 l) (broadcastInDim S16x2048x1 ![0, 1] bcast_S16x2048_S16x2048x1_0_1 l))))) e) (constant S_ .f32 0x00000000#32) reducesTo_S16x2048x2048_S16x2048_d2 h_S_

def rD (ct : FVec Ideal S16x2048x2048 .f32) (e : FVec Ideal S16x2048x2048 .f32) (l : FVec Ideal S16x2048 .f32) (y : FVec Ideal S16x2048 .f32) : FVec Ideal S16x2048x2048 .f32 :=
  mulf (select rM (mulf (addf (Host.divf ct (broadcastInDim S16x2048x2048 ![0, 1, 2] bcast_S16x2048x1_S16x2048x2048_0_1_2 (broadcastInDim S16x2048x1 ![0, 1] bcast_S16x2048_S16x2048x1_0_1 l))) (broadcastInDim S16x2048x2048 ![0, 1] bcast_S16x2048_S16x2048x2048_0_1 (Host.reduceAdd (Host.negf (shapeCast _ y shapeCasts_S16x2048_S16x2048x1)) (constant S_ .f32 0x00000000#32) reducesTo_S16x2048x1_S16x2048_d2 h_S_))) e) (broadcastInDim S16x2048x2048 ![] bcast_S_S16x2048x2048 (constant S_ .f32 0x00000000#32))) (broadcastInDim S16x2048x2048 ![] bcast_S_S16x2048x2048 (constant S_ .f32 0x3D93CD3A#32))

def rQ (ds : FVec Ideal S16x2048x2048 .f32) (a2 : FVec Ideal ⟨3, ![2048, 16, 128]⟩ .f32) (a4 : FVec Ideal ⟨2, ![2048, 64]⟩ .f32) : FVec Ideal S2048x4096 .f32 :=
  shapeCast _ ((concatenate S2048x16x256 2 [⟨S2048x16x128, ((transpose S2048x16x128 [1, 0, 2] (Host.dotGeneral dot_S16x2048x2048_S2048x16x128_S16x2048x128_2_0_1_2_0_1 none ds a2) transposes_S16x2048x128_S2048x16x128_1_0_2))⟩, ⟨S2048x16x64, ((Host.dotGeneral dot_S2048x2048x16_S2048x64_S2048x16x64_0_0_12_1_n_n none (transpose S2048x2048x16 [2, 1, 0] ds transposes_S16x2048x2048_S2048x2048x16_2_1_0) a4))⟩, ⟨S2048x16x64, ((broadcastInDim S2048x16x64 ![] bcast_S_S2048x16x64 (constant S_ .f32 0x00000000#32)))⟩] concatenates_S2048x16x128_S2048x16x64_S2048x16x64_S2048x16x256_d2)) shapeCasts_S2048x16x256_S2048x4096

def rKV (ds : FVec Ideal S16x2048x2048 .f32) (p : FVec Ideal S16x2048x2048 .f32) (a0 : FVec Ideal ⟨3, ![2048, 16, 128]⟩ .f32) (a5 : FVec Ideal ⟨2, ![2048, 2048]⟩ .f32) : FVec Ideal S2048x4096 .f32 :=
  shapeCast _ (concatenate S2048x16x256 2 [⟨S2048x16x128, (transpose S2048x16x128 [1, 0, 2] (Host.dotGeneral dot_S16x2048x2048_S2048x16x128_S16x2048x128_1_0_2_2_0_1 none ds a0) transposes_S16x2048x128_S2048x16x128_1_0_2)⟩, ⟨S2048x16x128, (transpose S2048x16x128 [2, 0, 1] (Host.dotGeneral dot_S16x128x2048_S16x2048x2048_S16x128x2048_2_1_1_2_0_0 none (transpose S16x128x2048 [1, 2, 0] (shapeCast _ a5 shapeCasts_S2048x2048_S2048x16x128) transposes_S2048x16x128_S16x128x2048_1_2_0) p) transposes_S16x128x2048_S2048x16x128_2_0_1)⟩] concatenates_S2048x16x128_S2048x16x128_S2048x16x256_d2) shapeCasts_S2048x16x256_S2048x4096

def rKR (ds : FVec Ideal S16x2048x2048 .f32) (a1 : FVec Ideal ⟨3, ![2048, 16, 64]⟩ .f32) : FVec Ideal S2048x128 .f32 :=
  concatenate S2048x128 1 [⟨S2048x64, (Host.dotGeneral dot_S2048x2048x16_S2048x16x64_S2048x64_12_01_0_2_n_n none (transpose S2048x2048x16 [2, 1, 0] ds transposes_S16x2048x2048_S2048x2048x16_2_1_0) a1)⟩, ⟨S2048x64, (broadcastInDim S2048x64 ![] bcast_S_S2048x64 (constant S_ .f32 0x00000000#32))⟩] concatenates_S2048x64_S2048x64_S2048x128_d1

variable (A : Args)

/-- The arrays on the way, over the arguments. -/
def aS := rS A.qn A.qr A.kn A.kr
def aE := rE (aS A) (rX (aS A))
def aL := rL (aE A)
def aC := rC A.vv A.go
def aP := rP (aE A) (aL A)
def aY := rY (aC A) (aE A) (aL A)
def aD := rD (aC A) (aE A) (aL A) (aY A)

variable {A}

/-- A maximum over the last of three axes. -/
theorem max_last {a b n : ℕ} (s : FVec Ideal ⟨3, ![a, b, n]⟩ .f32) (h : Shape.ReducesTo ⟨3, ![a, b, n]⟩ [2] ⟨2, ![a, b]⟩)
    (hu : 0 < S_.numel) (i : Fin a) (j : Fin b) :
    Host.reduce FloatOps.maximumf s (constant S_ .f32 0xFF800000#32) h hu (ix2 i j) = top (fun x : Fin n => s (ix3 i j x)) := by
  unfold top
  rw [← ninf]
  pointwise

theorem rX_apply (s) (h : Fin 16) (q : Fin 2048) : rX s (ix2 h q) = top (fun x => s (ix3 h q x)) :=
  max_last s _ _ h q

theorem rE_apply (s mx) (h : Fin 16) (q k : Fin 2048) : rE s mx (ix3 h q k) = Ideal.exp (s (ix3 h q k) - mx (ix2 h q)) := by
  unfold rE
  pointwise
  rw [ninf, max_eq_right bot_le]

theorem rM_apply (h : Fin 16) (q k : Fin 2048) : rM (ix3 h q k) = IntOp.cmpi CmpIPredicate.sle (BitVec.ofNat 32 k.val) (BitVec.ofNat 32 q.val) := by
  unfold rM
  pointwise

theorem aS_apply (h : Fin 16) (q k : Fin 2048) : aS A (ix3 h q k) = msk q.val (sc A h q) k := by
  unfold aS rS
  pointwise
  rw [rM_apply, select_sle _ _ (by omega) (by omega), msk, sc_eq]
  rfl

theorem aE_apply (h : Fin 16) (q k : Fin 2048) : aE A (ix3 h q k) = ex (msk q.val (sc A h q)) k := by
  rw [aE, rE_apply, rX_apply, ex, aS_apply, funext (aS_apply (A := A) h q)]

theorem aL_apply (h : Fin 16) (q : Fin 2048) : aL A (ix2 h q) = ∑ k, ex (msk q.val (sc A h q)) k := by
  unfold aL rL
  pointwise
  exact Finset.sum_congr rfl fun k _ => aE_apply h q k

theorem aC_apply (h : Fin 16) (q k : Fin 2048) : aC A (ix3 h q k) = gw A h q k := by
  unfold aC rC
  pointwise
  rfl

theorem aP_apply (h : Fin 16) (q k : Fin 2048) : aP A (ix3 h q k) = wt A h q k := by
  unfold aP rP
  pointwise
  rw [aE_apply, aL_apply]; rfl

theorem aY_apply (h : Fin 16) (q : Fin 2048) : aY A (ix2 h q) = ∑ x, gw A h q x * Ideal.div 1
    ((∑ y, ex (msk q.val (sc A h q)) y) * ∑ y, ex (msk q.val (sc A h q)) y) * ex (msk q.val (sc A h q)) x := by
  unfold aY rY
  pointwise
  rw [aL_apply]
  exact Finset.sum_congr rfl fun k _ => by rw [aE_apply, aC_apply]

theorem aD_apply (hA : A.Fin) (h : Fin 16) (q k : Fin 2048) : aD A (ix3 h q k) = ds A h q k := by
  unfold aD rD
  pointwise
  rw [rM_apply, select_sle _ _ (by omega) (by omega)]
  by_cases hk : k.val ≤ q.val
  · rw [if_pos hk, Fin.sum_univ_one, aC_apply, aL_apply, aY_apply, aE_apply, quotient_eq q.val (sc A h q) (gw A h q) (by decide) (hA.sc h q)]
    rfl
  · rw [if_neg hk, ds, dsv_masked q.val _ _ _ (by decide) (hA.sc h q) k (by omega)]

theorem rQ_apply (hA : A.Fin) (q : Fin 2048) (J : Fin 4096) : rQ (aD A) A.kn A.kr (ix2 q J) = oq A q J := by
  unfold rQ
  pointwise
  unfold oq dq
  by_cases h1 : J.val % 256 < 128
  · rw [dif_pos h1]
    refine Finset.sum_congr rfl fun k _ => ?_
    rw [aD_apply hA, kc, dif_pos h1]
  rw [dif_neg h1]
  by_cases h2 : J.val % 256 - 128 < 64
  · rw [dif_pos h2]
    refine Finset.sum_congr rfl fun k _ => ?_
    rw [aD_apply hA, kc, dif_neg h1, dif_pos (show J.val % 256 < 192 by omega)]
  · rw [dif_neg h2]
    symm
    refine Finset.sum_eq_zero fun k _ => ?_
    rw [kc_zero _ _ _ (show 192 ≤ J.val % 256 by omega), mul_zero]

theorem rKV_apply (hA : A.Fin) (q : Fin 2048) (J : Fin 4096) : rKV (aD A) (aP A) A.qn A.go (ix2 q J) = okv A q J := by
  unfold rKV
  pointwise
  unfold okv dk dv
  by_cases h1 : J.val % 256 < 128
  · rw [dif_pos h1, dif_pos h1]
    refine Finset.sum_congr rfl fun k _ => ?_
    rw [aD_apply hA, qc, dif_pos h1]
  · rw [dif_neg h1, dif_neg h1]
    refine Finset.sum_congr rfl fun k _ => ?_
    rw [aP_apply, mul_comm]; rfl

theorem rKR_apply (hA : A.Fin) (q : Fin 2048) (J : Fin 128) : rKR (aD A) A.qr (ix2 q J) = okr A q J := by
  unfold rKR
  pointwise
  unfold okr dk
  split_ifs with h1
  · rw [Finset.sum_comm]
    refine Finset.sum_congr rfl fun h _ => Finset.sum_congr rfl fun k _ => ?_
    rw [aD_apply hA, qc_rope h k ⟨J.val, h1⟩]
  · symm
    refine Finset.sum_eq_zero fun h _ => Finset.sum_eq_zero fun k _ => ?_
    rw [qc_zero _ _ _ (show 192 ≤ 128 + J.val by omega), mul_zero]

/-- The arguments as the reference's memory holds them. -/
def args (m : (ℓ : Loc nD τ sig) → Buf (Elt Ideal) ℓ) (c : Dev nD) : Args where
  qn := m ((c.tc : Thread nD τ).loc main_arg0)
  qr := m ((c.tc : Thread nD τ).loc main_arg1)
  kn := m ((c.tc : Thread nD τ).loc main_arg2)
  vv := m ((c.tc : Thread nD τ).loc main_arg3)
  kr := m ((c.tc : Thread nD τ).loc main_arg4)
  go := m ((c.tc : Thread nD τ).loc main_arg5)

theorem res0 (m : (ℓ : Loc nD τ sig) → Buf (Elt Ideal) ℓ) (c : Dev nD) :
    Cert.ReferenceIdeal.Value.res_out0 m c = rQ (aD (args m c)) (args m c).kn (args m c).kr := rfl
theorem res1 (m : (ℓ : Loc nD τ sig) → Buf (Elt Ideal) ℓ) (c : Dev nD) :
    Cert.ReferenceIdeal.Value.res_out1 m c = rKV (aD (args m c)) (aP (args m c)) (args m c).qn (args m c).go := rfl
theorem res2 (m : (ℓ : Loc nD τ sig) → Buf (Elt Ideal) ℓ) (c : Dev nD) :
    Cert.ReferenceIdeal.Value.res_out2 m c = rKR (aD (args m c)) (args m c).qr := rfl

end Attn.Ref
-- ==== Proof.Tile.lean ====
/- One point's tile of the kernel: the payloads of the eight query blocks, which differ in how many keys they read,
   are each read at an entry and found to be one function of the blocks and of the first query's position. -/
module

public import proofs.«01_k».proof.Proof.Spec
public import proofs.«01_k».proof.Proof.Ideals
public import proofs.«01_k».proof.Proof.Gen.KernelIdeal.Skeleton

@[expose] public section
noncomputable section
namespace Attn
open Idealize.ShloMosaic Cert.KernelIdeal Cert.KernelIdeal.Gen
open scoped BigOperators

/-- The keys of a block: 128 entries beside the values, 128 of the shared array. -/
def kcb {K : ℕ} (y1 : FVec Ideal ⟨2, ![K, 256]⟩ .bf16) (y2 : FVec Ideal ⟨2, ![K, 128]⟩ .bf16) (k : Fin K) (c : Fin 256) : EReal :=
  if h : c.val < 128 then y1 (ix2 k c) else y2 (ix2 k ⟨c.val - 128, by omega⟩)

/-- The scores of a block's row. -/
def bs {K : ℕ} (x0 : FVec Ideal ⟨2, ![256, 256]⟩ .bf16) (y1 : FVec Ideal ⟨2, ![K, 256]⟩ .bf16) (y2 : FVec Ideal ⟨2, ![K, 128]⟩ .bf16)
    (r : Fin 256) (k : Fin K) : EReal := (∑ c, x0 (ix2 r c) * kcb y1 y2 k c) * scl

/-- The incoming gradients of a block's row of weights. -/
def bg {K : ℕ} (x3 : FVec Ideal ⟨2, ![256, 128]⟩ .f32) (y1 : FVec Ideal ⟨2, ![K, 256]⟩ .bf16) (r : Fin 256) (k : Fin K) : EReal :=
  ∑ d : Fin 128, x3 (ix2 r d) * y1 (ix2 k ⟨128 + d.val, by omega⟩)

/-- The weights and the gradients of the scores of a block's row, the first row's position being `o`. -/
def bp {K : ℕ} (o : ℕ) (x0 : FVec Ideal ⟨2, ![256, 256]⟩ .bf16) (y1 : FVec Ideal ⟨2, ![K, 256]⟩ .bf16) (y2 : FVec Ideal ⟨2, ![K, 128]⟩ .bf16)
    (r : Fin 256) (k : Fin K) : EReal := pv (msk (o + r.val) (bs x0 y1 y2 r)) k
def bds {K : ℕ} (o : ℕ) (x0 : FVec Ideal ⟨2, ![256, 256]⟩ .bf16) (y1 : FVec Ideal ⟨2, ![K, 256]⟩ .bf16) (y2 : FVec Ideal ⟨2, ![K, 128]⟩ .bf16)
    (x3 : FVec Ideal ⟨2, ![256, 128]⟩ .f32) (r : Fin 256) (k : Fin K) : EReal := dsv (msk (o + r.val) (bs x0 y1 y2 r)) (bg x3 y1 r) scl k

theorem word_add (a b : ℕ) : IntOp.addi (BitVec.ofNat 32 a) (BitVec.ofNat 32 b) = BitVec.ofNat 32 (a + b) := (BitVec.ofNat_add a b).symm

/-- The comparison of a key's position with the row's selects below the row's position. -/
theorem select_pos {K : ℕ} (hK : K ≤ 2048) (o : ℕ) (ho : o < 2048) (r : Fin 256) (k : Fin K) (x y : EReal) :
    Scalar.select (IntOp.cmpi CmpIPredicate.sle (BitVec.ofNat 32 k.val) (IntOp.addi (BitVec.ofNat 32 o) (BitVec.ofNat 32 r.val))) x y
      = if k.val ≤ o + r.val then x else y := by
  rw [word_add, select_sle _ _ (by omega) (by omega)]

variable (x0 : FVec Ideal ⟨2, ![256, 256]⟩ .bf16) (x3 : FVec Ideal ⟨2, ![256, 128]⟩ .f32)

/-! ## Keys below 256 -/

theorem kc_0 (y1 : FVec Ideal ⟨2, ![256, 256]⟩ .bf16) (y2 : FVec Ideal ⟨2, ![256, 128]⟩ .bf16) (k : Fin 256) (c : Fin 256) :
    k0_pay8 (F := Ideal) y1 y2 (ix2 k c) = kcb y1 y2 k c := by
  unfold k0_pay8
  pointwise [k0_pay6]
  rfl

theorem p_0 (y1 : FVec Ideal ⟨2, ![256, 256]⟩ .bf16) (y2 : FVec Ideal ⟨2, ![256, 128]⟩ .bf16) (r : Fin 256) (k : Fin 256) :
    k0_pay9 (F := Ideal) x0 y1 y2 (ix2 r k) = bp 0 x0 y1 y2 r k := by
  unfold k0_pay9
  pointwise [k0_pay5]
  simp only [kc_0, ninf, select_pos (K := 256) (by decide) 0 (by decide)]
  rfl

theorem ds_0 (y1 : FVec Ideal ⟨2, ![256, 256]⟩ .bf16) (y2 : FVec Ideal ⟨2, ![256, 128]⟩ .bf16) (r : Fin 256) (k : Fin 256) :
    k0_pay10 (F := Ideal) x0 y1 x3 y2 (ix2 r k) = bds 0 x0 y1 y2 x3 r k := by
  unfold k0_pay10
  pointwise [k0_pay6, k0_pay7]
  simp only [p_0]
  rfl

theorem dq_0 (y1 : FVec Ideal ⟨2, ![256, 256]⟩ .bf16) (y2 : FVec Ideal ⟨2, ![256, 128]⟩ .bf16) (r c : Fin 256) :
    k0_pay11 (F := Ideal) x0 y1 x3 y2 (ix2 r c) = ∑ k, bds 0 x0 y1 y2 x3 r k * kcb y1 y2 k c := by
  unfold k0_pay11
  pointwise
  simp only [ds_0, kc_0]

theorem dk_0 (y1 : FVec Ideal ⟨2, ![256, 256]⟩ .bf16) (y2 : FVec Ideal ⟨2, ![256, 128]⟩ .bf16) (a : FVec Ideal ⟨2, ![256, 256]⟩ .f32)
    (k : Fin 256) (c : Fin 256) :
    k0_pay64 (F := Ideal) (k0_pay5 x0) (k0_pay10 x0 y1 x3 y2) a (ix2 k c) = a (ix2 k c) + ∑ r, bds 0 x0 y1 y2 x3 r k * x0 (ix2 r c) := by
  unfold k0_pay64
  pointwise [k0_pay5]
  simp only [ds_0]

theorem dv_0 (y1 : FVec Ideal ⟨2, ![256, 256]⟩ .bf16) (y2 : FVec Ideal ⟨2, ![256, 128]⟩ .bf16) (a : FVec Ideal ⟨2, ![256, 128]⟩ .f32)
    (k : Fin 256) (d : Fin 128) :
    k0_pay65 (F := Ideal) (k0_pay7 x3) (k0_pay9 x0 y1 y2) a (ix2 k d) = a (ix2 k d) + ∑ r, bp 0 x0 y1 y2 r k * x3 (ix2 r d) := by
  unfold k0_pay65
  pointwise [k0_pay7]
  simp only [p_0]

/-! ## Keys below 512 -/

theorem kc_1 (y1 : FVec Ideal ⟨2, ![512, 256]⟩ .bf16) (y2 : FVec Ideal ⟨2, ![512, 128]⟩ .bf16) (k : Fin 512) (c : Fin 256) :
    k0_pay15 (F := Ideal) y1 y2 (ix2 k c) = kcb y1 y2 k c := by
  unfold k0_pay15
  pointwise [k0_pay13]
  rfl

theorem p_1 (y1 : FVec Ideal ⟨2, ![512, 256]⟩ .bf16) (y2 : FVec Ideal ⟨2, ![512, 128]⟩ .bf16) (r : Fin 256) (k : Fin 512) :
    k0_pay16 (F := Ideal) x0 y1 y2 (ix2 r k) = bp 256 x0 y1 y2 r k := by
  unfold k0_pay16
  pointwise [k0_pay12]
  simp only [kc_1, ninf, select_pos (K := 512) (by decide) 256 (by decide)]
  rfl

theorem ds_1 (y1 : FVec Ideal ⟨2, ![512, 256]⟩ .bf16) (y2 : FVec Ideal ⟨2, ![512, 128]⟩ .bf16) (r : Fin 256) (k : Fin 512) :
    k0_pay17 (F := Ideal) x0 y1 x3 y2 (ix2 r k) = bds 256 x0 y1 y2 x3 r k := by
  unfold k0_pay17
  pointwise [k0_pay13, k0_pay14]
  simp only [p_1]
  rfl

theorem dq_1 (y1 : FVec Ideal ⟨2, ![512, 256]⟩ .bf16) (y2 : FVec Ideal ⟨2, ![512, 128]⟩ .bf16) (r c : Fin 256) :
    k0_pay18 (F := Ideal) x0 y1 x3 y2 (ix2 r c) = ∑ k, bds 256 x0 y1 y2 x3 r k * kcb y1 y2 k c := by
  unfold k0_pay18
  pointwise
  simp only [ds_1, kc_1]

theorem dk_1 (y1 : FVec Ideal ⟨2, ![512, 256]⟩ .bf16) (y2 : FVec Ideal ⟨2, ![512, 128]⟩ .bf16) (a : FVec Ideal ⟨2, ![512, 256]⟩ .f32)
    (k : Fin 512) (c : Fin 256) :
    k0_pay66 (F := Ideal) (k0_pay12 x0) (k0_pay17 x0 y1 x3 y2) a (ix2 k c) = a (ix2 k c) + ∑ r, bds 256 x0 y1 y2 x3 r k * x0 (ix2 r c) := by
  unfold k0_pay66
  pointwise [k0_pay12]
  simp only [ds_1]

theorem dv_1 (y1 : FVec Ideal ⟨2, ![512, 256]⟩ .bf16) (y2 : FVec Ideal ⟨2, ![512, 128]⟩ .bf16) (a : FVec Ideal ⟨2, ![512, 128]⟩ .f32)
    (k : Fin 512) (d : Fin 128) :
    k0_pay67 (F := Ideal) (k0_pay14 x3) (k0_pay16 x0 y1 y2) a (ix2 k d) = a (ix2 k d) + ∑ r, bp 256 x0 y1 y2 r k * x3 (ix2 r d) := by
  unfold k0_pay67
  pointwise [k0_pay14]
  simp only [p_1]

/-! ## Keys below 768 -/

theorem kc_2 (y1 : FVec Ideal ⟨2, ![768, 256]⟩ .bf16) (y2 : FVec Ideal ⟨2, ![768, 128]⟩ .bf16) (k : Fin 768) (c : Fin 256) :
    k0_pay22 (F := Ideal) y1 y2 (ix2 k c) = kcb y1 y2 k c := by
  unfold k0_pay22
  pointwise [k0_pay20]
  rfl

theorem p_2 (y1 : FVec Ideal ⟨2, ![768, 256]⟩ .bf16) (y2 : FVec Ideal ⟨2, ![768, 128]⟩ .bf16) (r : Fin 256) (k : Fin 768) :
    k0_pay23 (F := Ideal) x0 y1 y2 (ix2 r k) = bp 512 x0 y1 y2 r k := by
  unfold k0_pay23
  pointwise [k0_pay19]
  simp only [kc_2, ninf, select_pos (K := 768) (by decide) 512 (by decide)]
  rfl

theorem ds_2 (y1 : FVec Ideal ⟨2, ![768, 256]⟩ .bf16) (y2 : FVec Ideal ⟨2, ![768, 128]⟩ .bf16) (r : Fin 256) (k : Fin 768) :
    k0_pay24 (F := Ideal) x0 y1 x3 y2 (ix2 r k) = bds 512 x0 y1 y2 x3 r k := by
  unfold k0_pay24
  pointwise [k0_pay20, k0_pay21]
  simp only [p_2]
  rfl

theorem dq_2 (y1 : FVec Ideal ⟨2, ![768, 256]⟩ .bf16) (y2 : FVec Ideal ⟨2, ![768, 128]⟩ .bf16) (r c : Fin 256) :
    k0_pay25 (F := Ideal) x0 y1 x3 y2 (ix2 r c) = ∑ k, bds 512 x0 y1 y2 x3 r k * kcb y1 y2 k c := by
  unfold k0_pay25
  pointwise
  simp only [ds_2, kc_2]

theorem dk_2 (y1 : FVec Ideal ⟨2, ![768, 256]⟩ .bf16) (y2 : FVec Ideal ⟨2, ![768, 128]⟩ .bf16) (a : FVec Ideal ⟨2, ![768, 256]⟩ .f32)
    (k : Fin 768) (c : Fin 256) :
    k0_pay68 (F := Ideal) (k0_pay19 x0) (k0_pay24 x0 y1 x3 y2) a (ix2 k c) = a (ix2 k c) + ∑ r, bds 512 x0 y1 y2 x3 r k * x0 (ix2 r c) := by
  unfold k0_pay68
  pointwise [k0_pay19]
  simp only [ds_2]

theorem dv_2 (y1 : FVec Ideal ⟨2, ![768, 256]⟩ .bf16) (y2 : FVec Ideal ⟨2, ![768, 128]⟩ .bf16) (a : FVec Ideal ⟨2, ![768, 128]⟩ .f32)
    (k : Fin 768) (d : Fin 128) :
    k0_pay69 (F := Ideal) (k0_pay21 x3) (k0_pay23 x0 y1 y2) a (ix2 k d) = a (ix2 k d) + ∑ r, bp 512 x0 y1 y2 r k * x3 (ix2 r d) := by
  unfold k0_pay69
  pointwise [k0_pay21]
  simp only [p_2]

/-! ## Keys below 1024 -/

theorem kc_3 (y1 : FVec Ideal ⟨2, ![1024, 256]⟩ .bf16) (y2 : FVec Ideal ⟨2, ![1024, 128]⟩ .bf16) (k : Fin 1024) (c : Fin 256) :
    k0_pay29 (F := Ideal) y1 y2 (ix2 k c) = kcb y1 y2 k c := by
  unfold k0_pay29
  pointwise [k0_pay27]
  rfl

theorem p_3 (y1 : FVec Ideal ⟨2, ![1024, 256]⟩ .bf16) (y2 : FVec Ideal ⟨2, ![1024, 128]⟩ .bf16) (r : Fin 256) (k : Fin 1024) :
    k0_pay30 (F := Ideal) x0 y1 y2 (ix2 r k) = bp 768 x0 y1 y2 r k := by
  unfold k0_pay30
  pointwise [k0_pay26]
  simp only [kc_3, ninf, select_pos (K := 1024) (by decide) 768 (by decide)]
  rfl

theorem ds_3 (y1 : FVec Ideal ⟨2, ![1024, 256]⟩ .bf16) (y2 : FVec Ideal ⟨2, ![1024, 128]⟩ .bf16) (r : Fin 256) (k : Fin 1024) :
    k0_pay31 (F := Ideal) x0 y1 x3 y2 (ix2 r k) = bds 768 x0 y1 y2 x3 r k := by
  unfold k0_pay31
  pointwise [k0_pay27, k0_pay28]
  simp only [p_3]
  rfl

theorem dq_3 (y1 : FVec Ideal ⟨2, ![1024, 256]⟩ .bf16) (y2 : FVec Ideal ⟨2, ![1024, 128]⟩ .bf16) (r c : Fin 256) :
    k0_pay32 (F := Ideal) x0 y1 x3 y2 (ix2 r c) = ∑ k, bds 768 x0 y1 y2 x3 r k * kcb y1 y2 k c := by
  unfold k0_pay32
  pointwise
  simp only [ds_3, kc_3]

theorem dk_3 (y1 : FVec Ideal ⟨2, ![1024, 256]⟩ .bf16) (y2 : FVec Ideal ⟨2, ![1024, 128]⟩ .bf16) (a : FVec Ideal ⟨2, ![1024, 256]⟩ .f32)
    (k : Fin 1024) (c : Fin 256) :
    k0_pay70 (F := Ideal) (k0_pay26 x0) (k0_pay31 x0 y1 x3 y2) a (ix2 k c) = a (ix2 k c) + ∑ r, bds 768 x0 y1 y2 x3 r k * x0 (ix2 r c) := by
  unfold k0_pay70
  pointwise [k0_pay26]
  simp only [ds_3]

theorem dv_3 (y1 : FVec Ideal ⟨2, ![1024, 256]⟩ .bf16) (y2 : FVec Ideal ⟨2, ![1024, 128]⟩ .bf16) (a : FVec Ideal ⟨2, ![1024, 128]⟩ .f32)
    (k : Fin 1024) (d : Fin 128) :
    k0_pay71 (F := Ideal) (k0_pay28 x3) (k0_pay30 x0 y1 y2) a (ix2 k d) = a (ix2 k d) + ∑ r, bp 768 x0 y1 y2 r k * x3 (ix2 r d) := by
  unfold k0_pay71
  pointwise [k0_pay28]
  simp only [p_3]

/-! ## Keys below 1280 -/

theorem kc_4 (y1 : FVec Ideal ⟨2, ![1280, 256]⟩ .bf16) (y2 : FVec Ideal ⟨2, ![1280, 128]⟩ .bf16) (k : Fin 1280) (c : Fin 256) :
    k0_pay36 (F := Ideal) y1 y2 (ix2 k c) = kcb y1 y2 k c := by
  unfold k0_pay36
  pointwise [k0_pay34]
  rfl

theorem p_4 (y1 : FVec Ideal ⟨2, ![1280, 256]⟩ .bf16) (y2 : FVec Ideal ⟨2, ![1280, 128]⟩ .bf16) (r : Fin 256) (k : Fin 1280) :
    k0_pay37 (F := Ideal) x0 y1 y2 (ix2 r k) = bp 1024 x0 y1 y2 r k := by
  unfold k0_pay37
  pointwise [k0_pay33]
  simp only [kc_4, ninf, select_pos (K := 1280) (by decide) 1024 (by decide)]
  rfl

theorem ds_4 (y1 : FVec Ideal ⟨2, ![1280, 256]⟩ .bf16) (y2 : FVec Ideal ⟨2, ![1280, 128]⟩ .bf16) (r : Fin 256) (k : Fin 1280) :
    k0_pay38 (F := Ideal) x0 y1 x3 y2 (ix2 r k) = bds 1024 x0 y1 y2 x3 r k := by
  unfold k0_pay38
  pointwise [k0_pay34, k0_pay35]
  simp only [p_4]
  rfl

theorem dq_4 (y1 : FVec Ideal ⟨2, ![1280, 256]⟩ .bf16) (y2 : FVec Ideal ⟨2, ![1280, 128]⟩ .bf16) (r c : Fin 256) :
    k0_pay39 (F := Ideal) x0 y1 x3 y2 (ix2 r c) = ∑ k, bds 1024 x0 y1 y2 x3 r k * kcb y1 y2 k c := by
  unfold k0_pay39
  pointwise
  simp only [ds_4, kc_4]

theorem dk_4 (y1 : FVec Ideal ⟨2, ![1280, 256]⟩ .bf16) (y2 : FVec Ideal ⟨2, ![1280, 128]⟩ .bf16) (a : FVec Ideal ⟨2, ![1280, 256]⟩ .f32)
    (k : Fin 1280) (c : Fin 256) :
    k0_pay72 (F := Ideal) (k0_pay33 x0) (k0_pay38 x0 y1 x3 y2) a (ix2 k c) = a (ix2 k c) + ∑ r, bds 1024 x0 y1 y2 x3 r k * x0 (ix2 r c) := by
  unfold k0_pay72
  pointwise [k0_pay33]
  simp only [ds_4]

theorem dv_4 (y1 : FVec Ideal ⟨2, ![1280, 256]⟩ .bf16) (y2 : FVec Ideal ⟨2, ![1280, 128]⟩ .bf16) (a : FVec Ideal ⟨2, ![1280, 128]⟩ .f32)
    (k : Fin 1280) (d : Fin 128) :
    k0_pay73 (F := Ideal) (k0_pay35 x3) (k0_pay37 x0 y1 y2) a (ix2 k d) = a (ix2 k d) + ∑ r, bp 1024 x0 y1 y2 r k * x3 (ix2 r d) := by
  unfold k0_pay73
  pointwise [k0_pay35]
  simp only [p_4]

/-! ## Keys below 1536 -/

theorem kc_5 (y1 : FVec Ideal ⟨2, ![1536, 256]⟩ .bf16) (y2 : FVec Ideal ⟨2, ![1536, 128]⟩ .bf16) (k : Fin 1536) (c : Fin 256) :
    k0_pay43 (F := Ideal) y1 y2 (ix2 k c) = kcb y1 y2 k c := by
  unfold k0_pay43
  pointwise [k0_pay41]
  rfl

theorem p_5 (y1 : FVec Ideal ⟨2, ![1536, 256]⟩ .bf16) (y2 : FVec Ideal ⟨2, ![1536, 128]⟩ .bf16) (r : Fin 256) (k : Fin 1536) :
    k0_pay44 (F := Ideal) x0 y1 y2 (ix2 r k) = bp 1280 x0 y1 y2 r k := by
  unfold k0_pay44
  pointwise [k0_pay40]
  simp only [kc_5, ninf, select_pos (K := 1536) (by decide) 1280 (by decide)]
  rfl

theorem ds_5 (y1 : FVec Ideal ⟨2, ![1536, 256]⟩ .bf16) (y2 : FVec Ideal ⟨2, ![1536, 128]⟩ .bf16) (r : Fin 256) (k : Fin 1536) :
    k0_pay45 (F := Ideal) x0 y1 x3 y2 (ix2 r k) = bds 1280 x0 y1 y2 x3 r k := by
  unfold k0_pay45
  pointwise [k0_pay41, k0_pay42]
  simp only [p_5]
  rfl

theorem dq_5 (y1 : FVec Ideal ⟨2, ![1536, 256]⟩ .bf16) (y2 : FVec Ideal ⟨2, ![1536, 128]⟩ .bf16) (r c : Fin 256) :
    k0_pay46 (F := Ideal) x0 y1 x3 y2 (ix2 r c) = ∑ k, bds 1280 x0 y1 y2 x3 r k * kcb y1 y2 k c := by
  unfold k0_pay46
  pointwise
  simp only [ds_5, kc_5]

theorem dk_5 (y1 : FVec Ideal ⟨2, ![1536, 256]⟩ .bf16) (y2 : FVec Ideal ⟨2, ![1536, 128]⟩ .bf16) (a : FVec Ideal ⟨2, ![1536, 256]⟩ .f32)
    (k : Fin 1536) (c : Fin 256) :
    k0_pay74 (F := Ideal) (k0_pay40 x0) (k0_pay45 x0 y1 x3 y2) a (ix2 k c) = a (ix2 k c) + ∑ r, bds 1280 x0 y1 y2 x3 r k * x0 (ix2 r c) := by
  unfold k0_pay74
  pointwise [k0_pay40]
  simp only [ds_5]

theorem dv_5 (y1 : FVec Ideal ⟨2, ![1536, 256]⟩ .bf16) (y2 : FVec Ideal ⟨2, ![1536, 128]⟩ .bf16) (a : FVec Ideal ⟨2, ![1536, 128]⟩ .f32)
    (k : Fin 1536) (d : Fin 128) :
    k0_pay75 (F := Ideal) (k0_pay42 x3) (k0_pay44 x0 y1 y2) a (ix2 k d) = a (ix2 k d) + ∑ r, bp 1280 x0 y1 y2 r k * x3 (ix2 r d) := by
  unfold k0_pay75
  pointwise [k0_pay42]
  simp only [p_5]

/-! ## Keys below 1792 -/

theorem kc_6 (y1 : FVec Ideal ⟨2, ![1792, 256]⟩ .bf16) (y2 : FVec Ideal ⟨2, ![1792, 128]⟩ .bf16) (k : Fin 1792) (c : Fin 256) :
    k0_pay50 (F := Ideal) y1 y2 (ix2 k c) = kcb y1 y2 k c := by
  unfold k0_pay50
  pointwise [k0_pay48]
  rfl

theorem p_6 (y1 : FVec Ideal ⟨2, ![1792, 256]⟩ .bf16) (y2 : FVec Ideal ⟨2, ![1792, 128]⟩ .bf16) (r : Fin 256) (k : Fin 1792) :
    k0_pay51 (F := Ideal) x0 y1 y2 (ix2 r k) = bp 1536 x0 y1 y2 r k := by
  unfold k0_pay51
  pointwise [k0_pay47]
  simp only [kc_6, ninf, select_pos (K := 1792) (by decide) 1536 (by decide)]
  rfl

theorem ds_6 (y1 : FVec Ideal ⟨2, ![1792, 256]⟩ .bf16) (y2 : FVec Ideal ⟨2, ![1792, 128]⟩ .bf16) (r : Fin 256) (k : Fin 1792) :
    k0_pay52 (F := Ideal) x0 y1 x3 y2 (ix2 r k) = bds 1536 x0 y1 y2 x3 r k := by
  unfold k0_pay52
  pointwise [k0_pay48, k0_pay49]
  simp only [p_6]
  rfl

theorem dq_6 (y1 : FVec Ideal ⟨2, ![1792, 256]⟩ .bf16) (y2 : FVec Ideal ⟨2, ![1792, 128]⟩ .bf16) (r c : Fin 256) :
    k0_pay53 (F := Ideal) x0 y1 x3 y2 (ix2 r c) = ∑ k, bds 1536 x0 y1 y2 x3 r k * kcb y1 y2 k c := by
  unfold k0_pay53
  pointwise
  simp only [ds_6, kc_6]

theorem dk_6 (y1 : FVec Ideal ⟨2, ![1792, 256]⟩ .bf16) (y2 : FVec Ideal ⟨2, ![1792, 128]⟩ .bf16) (a : FVec Ideal ⟨2, ![1792, 256]⟩ .f32)
    (k : Fin 1792) (c : Fin 256) :
    k0_pay76 (F := Ideal) (k0_pay47 x0) (k0_pay52 x0 y1 x3 y2) a (ix2 k c) = a (ix2 k c) + ∑ r, bds 1536 x0 y1 y2 x3 r k * x0 (ix2 r c) := by
  unfold k0_pay76
  pointwise [k0_pay47]
  simp only [ds_6]

theorem dv_6 (y1 : FVec Ideal ⟨2, ![1792, 256]⟩ .bf16) (y2 : FVec Ideal ⟨2, ![1792, 128]⟩ .bf16) (a : FVec Ideal ⟨2, ![1792, 128]⟩ .f32)
    (k : Fin 1792) (d : Fin 128) :
    k0_pay77 (F := Ideal) (k0_pay49 x3) (k0_pay51 x0 y1 y2) a (ix2 k d) = a (ix2 k d) + ∑ r, bp 1536 x0 y1 y2 r k * x3 (ix2 r d) := by
  unfold k0_pay77
  pointwise [k0_pay49]
  simp only [p_6]

/-! ## Keys below 2048 -/

theorem kc_7 (y1 : FVec Ideal ⟨2, ![2048, 256]⟩ .bf16) (y2 : FVec Ideal ⟨2, ![2048, 128]⟩ .bf16) (k : Fin 2048) (c : Fin 256) :
    k0_pay57 (F := Ideal) y1 y2 (ix2 k c) = kcb y1 y2 k c := by
  unfold k0_pay57
  pointwise [k0_pay55]
  rfl

theorem p_7 (y1 : FVec Ideal ⟨2, ![2048, 256]⟩ .bf16) (y2 : FVec Ideal ⟨2, ![2048, 128]⟩ .bf16) (r : Fin 256) (k : Fin 2048) :
    k0_pay58 (F := Ideal) x0 y1 y2 (ix2 r k) = bp 1792 x0 y1 y2 r k := by
  unfold k0_pay58
  pointwise [k0_pay54]
  simp only [kc_7, ninf, select_pos (K := 2048) (by decide) 1792 (by decide)]
  rfl

theorem ds_7 (y1 : FVec Ideal ⟨2, ![2048, 256]⟩ .bf16) (y2 : FVec Ideal ⟨2, ![2048, 128]⟩ .bf16) (r : Fin 256) (k : Fin 2048) :
    k0_pay59 (F := Ideal) x0 y1 x3 y2 (ix2 r k) = bds 1792 x0 y1 y2 x3 r k := by
  unfold k0_pay59
  pointwise [k0_pay55, k0_pay56]
  simp only [p_7]
  rfl

theorem dq_7 (y1 : FVec Ideal ⟨2, ![2048, 256]⟩ .bf16) (y2 : FVec Ideal ⟨2, ![2048, 128]⟩ .bf16) (r c : Fin 256) :
    k0_pay60 (F := Ideal) x0 y1 x3 y2 (ix2 r c) = ∑ k, bds 1792 x0 y1 y2 x3 r k * kcb y1 y2 k c := by
  unfold k0_pay60
  pointwise
  simp only [ds_7, kc_7]

theorem dk_7 (y1 : FVec Ideal ⟨2, ![2048, 256]⟩ .bf16) (y2 : FVec Ideal ⟨2, ![2048, 128]⟩ .bf16) (a : FVec Ideal ⟨2, ![2048, 256]⟩ .f32)
    (k : Fin 2048) (c : Fin 256) :
    k0_pay1 (F := Ideal) (k0_pay54 x0) (k0_pay59 x0 y1 x3 y2) a (ix2 k c) = a (ix2 k c) + ∑ r, bds 1792 x0 y1 y2 x3 r k * x0 (ix2 r c) := by
  unfold k0_pay1
  pointwise [k0_pay54]
  simp only [ds_7]

theorem dv_7 (y1 : FVec Ideal ⟨2, ![2048, 256]⟩ .bf16) (y2 : FVec Ideal ⟨2, ![2048, 128]⟩ .bf16) (a : FVec Ideal ⟨2, ![2048, 128]⟩ .f32)
    (k : Fin 2048) (d : Fin 128) :
    k0_pay2 (F := Ideal) (k0_pay56 x3) (k0_pay58 x0 y1 y2) a (ix2 k d) = a (ix2 k d) + ∑ r, bp 1792 x0 y1 y2 r k * x3 (ix2 r d) := by
  unfold k0_pay2
  pointwise [k0_pay56]
  simp only [p_7]

end Attn
-- ==== Proof.Cases.lean ====
/- The kernel's nine cases: what one grid point leaves in the gradient of the queries, in the two accumulators and in
   the gradient of the shared key, each as one function of the point's blocks over all 2048 keys. -/
module

public import proofs.«01_k».proof.Proof.Tile
public import proofs.«01_k».proof.Proof.Gen.KernelIdeal.Frame
public import Idealize.ShloMosaic.Lib.WritesUnit
public import Idealize.ShloMosaic.Lib.Pipeline.ValueKit

@[expose] public section
noncomputable section
namespace Attn
open Idealize.ShloMosaic Idealize.SL.Sem Cert.KernelIdeal Cert.KernelIdeal.Gen
open scoped BigOperators

/-! ## Rows of a buffer -/

theorem ld_rows {K W : ℕ} {e : EltTy} (h : K ≤ 2048) (x : Vec Ideal ⟨2, ![2048, W]⟩ e)
    (inb : ∀ a : Fin 2, ![0, 0] a + ![K, W] a ≤ (⟨2, ![2048, W]⟩ : Shape).size a) (k : Fin K) (c : Fin W) :
    View.ld (Val := Elt Ideal) (S := ⟨2, ![2048, W]⟩) (e' := e) x (Rect.unit ![0, 0] ![K, W] inb) (ix2 k c) = x (ix2 (Fin.castLE h k) c) := by
  refine View.ld_unit_apply_of x _ _ inb _ _ fun a => ?_
  fin_cases a
  · exact (Nat.zero_add _).symm
  · exact (Nat.zero_add _).symm

/-- Rows below `K` rewritten with an increment that is zero from row `K` on: the whole buffer plus the increment. -/
theorem rows_step {K W : ℕ} (h : K ≤ 2048) {κ : Kind} {sp : Space} (v : View sig κ sp ⟨2, ![2048, W]⟩ .f32) (f : v.ty.Contents (Elt Ideal))
    (L : List (View.Piece (Elt Ideal) ⟨2, ![2048, W]⟩ .f32))
    (xs : FVec Ideal ⟨2, ![2048, W]⟩ .f32) (hf : ∀ k c, v.read (Elt Ideal) (v.writes (Elt Ideal) f L) (ix2 k c) = xs (ix2 k c))
    (inb : ∀ a : Fin 2, ![0, 0] a + ![K, W] a ≤ (⟨2, ![2048, W]⟩ : Shape).size a)
    (w : FVec Ideal ⟨2, ![K, W]⟩ .f32) (T : Fin 2048 → Fin W → EReal)
    (hw : ∀ k c, w (ix2 k c) = xs (ix2 (Fin.castLE h k) c) + T (Fin.castLE h k) c) (h0 : ∀ k c, K ≤ k.val → T k c = 0)
    (k : Fin 2048) (c : Fin W) :
    v.read (Elt Ideal) (v.writes (Elt Ideal) f (⟨Rect.unit (s := ⟨2, ![2048, W]⟩) ![0, 0] ![K, W] inb, w⟩ :: L)) (ix2 k c) = xs (ix2 k c) + T k c := by
  by_cases hk : k.val < K
  · rw [View.read_writes_cons_rows_of_mem v f inb w L (ix2 k c) (ix2 ⟨k.val, hk⟩ c) rfl (Nat.zero_add _).symm rfl]
    exact hw ⟨k.val, hk⟩ c
  · rw [View.read_writes_cons_rows_of_not_mem (W := K) v f inb w L (ix2 k c) rfl rfl (.inr (by show 0 + K ≤ k.val; omega)),
      hf, h0 k c (by omega), add_zero]

/-! ## Blocks read over their first keys -/

section Rows
variable {K : ℕ} (h : K ≤ 2048) (o : ℕ) (ho : o + 256 ≤ K) (x0 : FVec Ideal ⟨2, ![256, 256]⟩ .bf16) (x1 : FVec Ideal ⟨2, ![2048, 256]⟩ .bf16)
  (x2 : FVec Ideal ⟨2, ![2048, 128]⟩ .bf16) (x3 : FVec Ideal ⟨2, ![256, 128]⟩ .f32)
  (y1 : FVec Ideal ⟨2, ![K, 256]⟩ .bf16) (y2 : FVec Ideal ⟨2, ![K, 128]⟩ .bf16)
  (h1 : ∀ k c, y1 (ix2 k c) = x1 (ix2 (Fin.castLE h k) c)) (h2 : ∀ k c, y2 (ix2 k c) = x2 (ix2 (Fin.castLE h k) c))
  (hn : ∀ r k, Num (bs x0 x1 x2 r k))
include h1 h2

theorem kcb_rows (k : Fin K) (c : Fin 256) : kcb y1 y2 k c = kcb x1 x2 (Fin.castLE h k) c := by
  unfold kcb
  by_cases hc : c.val < 128
  · rw [dif_pos hc, dif_pos hc, h1]
  · rw [dif_neg hc, dif_neg hc, h2]

theorem bs_rows (r : Fin 256) : bs x0 y1 y2 r = fun k : Fin K => bs x0 x1 x2 r (Fin.castLE h k) := by
  funext k
  simp only [bs, kcb_rows h x1 x2 y1 y2 h1 h2]

include ho

theorem bp_rows (r : Fin 256) (k : Fin K) : bp o x0 y1 y2 r k = bp o x0 x1 x2 r (Fin.castLE h k) := by
  unfold bp
  rw [bs_rows h x0 x1 x2 y1 y2 h1 h2]
  exact pv_castLE h (o + r.val) (by omega) _ k

include hn

theorem bds_rows (r : Fin 256) (k : Fin K) : bds o x0 y1 y2 x3 r k = bds o x0 x1 x2 x3 r (Fin.castLE h k) := by
  have hg : bg x3 y1 r = fun k : Fin K => bg x3 x1 r (Fin.castLE h k) := by funext k; simp only [bg, h1]
  unfold bds
  rw [bs_rows h x0 x1 x2 y1 y2 h1 h2, hg]
  exact dsv_castLE h (o + r.val) (by omega) _ _ scl (hn r) k
end Rows

theorem bp_zero (o : ℕ) (x0 : FVec Ideal ⟨2, ![256, 256]⟩ .bf16) (x1 : FVec Ideal ⟨2, ![2048, 256]⟩ .bf16) (x2 : FVec Ideal ⟨2, ![2048, 128]⟩ .bf16)
    (hn : ∀ r k, Num (bs x0 x1 x2 r k)) (r : Fin 256) (k : Fin 2048) (hk : o + 256 ≤ k.val) : bp o x0 x1 x2 r k = 0 :=
  pv_masked _ _ (by decide) (hn r) k (by omega)

theorem bds_zero (o : ℕ) (x0 : FVec Ideal ⟨2, ![256, 256]⟩ .bf16) (x1 : FVec Ideal ⟨2, ![2048, 256]⟩ .bf16) (x2 : FVec Ideal ⟨2, ![2048, 128]⟩ .bf16)
    (x3 : FVec Ideal ⟨2, ![256, 128]⟩ .f32) (hn : ∀ r k, Num (bs x0 x1 x2 r k)) (r : Fin 256) (k : Fin 2048) (hk : o + 256 ≤ k.val) :
    bds o x0 x1 x2 x3 r k = 0 :=
  dsv_masked _ _ _ _ (by decide) (hn r) k (by omega)

/-! ## What a point adds -/

section Adds
variable (o : ℕ) (x0 : FVec Ideal ⟨2, ![256, 256]⟩ .bf16) (x1 : FVec Ideal ⟨2, ![2048, 256]⟩ .bf16)
  (x2 : FVec Ideal ⟨2, ![2048, 128]⟩ .bf16) (x3 : FVec Ideal ⟨2, ![256, 128]⟩ .f32)

def dqT (r c : Fin 256) : EReal := ∑ k : Fin 2048, bds o x0 x1 x2 x3 r k * kcb x1 x2 k c
def dkT (k : Fin 2048) (c : Fin 256) : EReal := ∑ r : Fin 256, bds o x0 x1 x2 x3 r k * x0 (ix2 r c)
def dvT (k : Fin 2048) (d : Fin 128) : EReal := ∑ r : Fin 256, bp o x0 x1 x2 r k * x3 (ix2 r d)

theorem dkT_zero (hn : ∀ r k, Num (bs x0 x1 x2 r k)) (k : Fin 2048) (c : Fin 256) (hk : o + 256 ≤ k.val) : dkT o x0 x1 x2 x3 k c = 0 :=
  Finset.sum_eq_zero fun r _ => by rw [bds_zero o x0 x1 x2 x3 hn r k hk, zero_mul]

theorem dvT_zero (hn : ∀ r k, Num (bs x0 x1 x2 r k)) (k : Fin 2048) (d : Fin 128) (hk : o + 256 ≤ k.val) : dvT o x0 x1 x2 x3 k d = 0 :=
  Finset.sum_eq_zero fun r _ => by rw [bp_zero o x0 x1 x2 hn r k hk, zero_mul]

theorem dqT_rows {K : ℕ} (h : K ≤ 2048) (ho : o + 256 = K) (y1 : FVec Ideal ⟨2, ![K, 256]⟩ .bf16) (y2 : FVec Ideal ⟨2, ![K, 128]⟩ .bf16)
    (h1 : ∀ k c, y1 (ix2 k c) = x1 (ix2 (Fin.castLE h k) c)) (h2 : ∀ k c, y2 (ix2 k c) = x2 (ix2 (Fin.castLE h k) c))
    (hn : ∀ r k, Num (bs x0 x1 x2 r k)) (r c : Fin 256) :
    ∑ k, bds o x0 y1 y2 x3 r k * kcb y1 y2 k c = dqT o x0 x1 x2 x3 r c := by
  unfold dqT
  rw [sum_castLE h _ fun k hk => by rw [bds_zero o x0 x1 x2 x3 hn r k (by omega), zero_mul]]
  simp only [bds_rows h o ho.le x0 x1 x2 x3 y1 y2 h1 h2 hn, kcb_rows h x1 x2 y1 y2 h1 h2]
end Adds

theorem pay61_apply (k : Fin 2048) (c : Fin 256) : k0_pay61 (F := Ideal) (ix2 k c) = 0 := by unfold k0_pay61; pointwise
theorem pay62_apply (k : Fin 2048) (c : Fin 128) : k0_pay62 (F := Ideal) (ix2 k c) = 0 := by unfold k0_pay62; pointwise
theorem pay63_apply (k : Fin 2048) (c : Fin 128) : k0_pay63 (F := Ideal) (ix2 k c) = 0 := by unfold k0_pay63; pointwise

/-! ## Case A -/

section A
variable (dev : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S2048x128 .f32) (harg10 : arg10.IsWhole) (hc0 : cond0_0 i) (hc1 : cond0_1 i) (hc2 : cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) (hc10 : ¬cond0_10 i) (x0 : Vec Ideal S256x256 .bf16) (x1 : Vec Ideal S2048x256 .bf16) (x2 : Vec Ideal S2048x128 .bf16) (x3 : Vec Ideal S256x128 .f32)

theorem q_A (hn : ∀ r k, Num (bs x0 x1 x2 r k)) (r c : Fin 256) : out0_A_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 (ix2 r c) = dqT 0 x0 x1 x2 x3 r c := by
  have e : out0_A_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 = k0_pay11 x0 (View.ld x1 (Rect.unit ![0, 0] ![256, 256] inb_S2048x256_S256x256_0_0)) x3
    (View.ld x2 (Rect.unit ![0, 0] ![256, 128] inb_S2048x128_S256x128_0_0)) := by frame_out
  rw [e]
  refine (dq_0 x0 x3 _ _ r c).trans ?_
  exact dqT_rows 0 x0 x1 x2 x3 (K := 256) (by decide) rfl _ _ (ld_rows (by decide) x1 inb_S2048x256_S256x256_0_0) (ld_rows (by decide) x2 inb_S2048x128_S256x128_0_0) hn r c

theorem k_A (hn : ∀ r k, Num (bs x0 x1 x2 r k)) (k : Fin 2048) (c : Fin 256) : sout0_A_0 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 (ix2 k c) = dkT 0 x0 x1 x2 x3 k c := by
  have e : sout0_A_0 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 = View.canon
      [⟨Rect.unit (s := S2048x256) ![0, 0] ![256, 256] inb_S2048x256_S256x256_0_0, k0_pay64 (k0_pay5 x0) (k0_pay10 x0 (View.ld x1 (Rect.unit ![0, 0] ![256, 256] inb_S2048x256_S256x256_0_0)) x3 (View.ld x2 (Rect.unit ![0, 0] ![256, 128] inb_S2048x128_S256x128_0_0))) (arg9.view.readCov
          [⟨Rect.unit (s := S2048x256) ![0, 0] ![2048, 256] inb_S2048x256_S2048x256_0_0, k0_pay61 (F := Ideal)⟩]
          (Rect.unit (s := S2048x256) ![0, 0] ![256, 256] inb_S2048x256_S256x256_0_0).toLoadRect)⟩,
        ⟨Rect.unit (s := S2048x256) ![0, 0] ![2048, 256] inb_S2048x256_S2048x256_0_0, k0_pay61 (F := Ideal)⟩] := by frame_out
  rw [e, ← View.read_writes_junk_eq_canon arg9.view, ← zero_add (dkT 0 x0 x1 x2 x3 k c)]
  refine rows_step (K := 256) (by decide) arg9.view _ _ (fun _ => 0) (fun k c => ?_) _ _ (fun k c => dkT 0 x0 x1 x2 x3 k c) (fun k c => ?_)
    (fun k c hk => dkT_zero 0 x0 x1 x2 x3 hn k c hk) k c
  · rw [View.read_writes_junk_eq_canon, View.canon_unit_zero (by decide)]
    exact pay61_apply k c
  · rw [dk_0 x0 x3 _ _ _ k c, View.readCov_eq_canon', View.canon_unit_zero (by decide)]
    refine congrArg₂ (· + ·) (pay61_apply _ _) ?_
    simp only [dkT, bds_rows (K := 256) (by decide) 0 (by decide) x0 x1 x2 x3 _ _ (ld_rows (by decide) x1 inb_S2048x256_S256x256_0_0) (ld_rows (by decide) x2 inb_S2048x128_S256x128_0_0) hn]

theorem v_A (hn : ∀ r k, Num (bs x0 x1 x2 r k)) (k : Fin 2048) (d : Fin 128) : sout0_A_1 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 (ix2 k d) = dvT 0 x0 x1 x2 x3 k d := by
  have e : sout0_A_1 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 = View.canon
      [⟨Rect.unit (s := S2048x128) ![0, 0] ![256, 128] inb_S2048x128_S256x128_0_0, k0_pay65 (k0_pay7 x3) (k0_pay9 x0 (View.ld x1 (Rect.unit ![0, 0] ![256, 256] inb_S2048x256_S256x256_0_0)) (View.ld x2 (Rect.unit ![0, 0] ![256, 128] inb_S2048x128_S256x128_0_0))) (arg10.view.readCov
          [⟨Rect.unit (s := S2048x128) ![0, 0] ![2048, 128] inb_S2048x128_S2048x128_0_0, k0_pay62 (F := Ideal)⟩]
          (Rect.unit (s := S2048x128) ![0, 0] ![256, 128] inb_S2048x128_S256x128_0_0).toLoadRect)⟩,
        ⟨Rect.unit (s := S2048x128) ![0, 0] ![2048, 128] inb_S2048x128_S2048x128_0_0, k0_pay62 (F := Ideal)⟩] := by frame_out
  rw [e, ← View.read_writes_junk_eq_canon arg10.view, ← zero_add (dvT 0 x0 x1 x2 x3 k d)]
  refine rows_step (K := 256) (by decide) arg10.view _ _ (fun _ => 0) (fun k d => ?_) _ _ (fun k d => dvT 0 x0 x1 x2 x3 k d) (fun k d => ?_)
    (fun k d hk => dvT_zero 0 x0 x1 x2 x3 hn k d hk) k d
  · rw [View.read_writes_junk_eq_canon, View.canon_unit_zero (by decide)]
    exact pay62_apply k d
  · rw [dv_0 x0 x3 _ _ _ k d, View.readCov_eq_canon', View.canon_unit_zero (by decide)]
    refine congrArg₂ (· + ·) (pay62_apply _ _) ?_
    simp only [dvT, bp_rows (K := 256) (by decide) 0 (by decide) x0 x1 x2 _ _ (ld_rows (by decide) x1 inb_S2048x256_S256x256_0_0) (ld_rows (by decide) x2 inb_S2048x128_S256x128_0_0)]

theorem kr_A (k : Fin 2048) (j : Fin 128) : out0_A_6 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 (ix2 k j) = 0 := by
  have e : out0_A_6 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 = k0_pay63 (F := Ideal) := by frame_out
  rw [e]
  exact pay63_apply k j
end A

/-! ## Case I -/

section I
variable (dev : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S2048x128 .f32) (harg10 : arg10.IsWhole) (hc0 : cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) (hc10 : ¬cond0_10 i) (x0 : Vec Ideal S256x256 .bf16) (x1 : Vec Ideal S2048x256 .bf16) (x2 : Vec Ideal S2048x128 .bf16) (x3 : Vec Ideal S256x128 .f32)

theorem q_I (hn : ∀ r k, Num (bs x0 x1 x2 r k)) (r c : Fin 256) : out0_I_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 (ix2 r c) = dqT 0 x0 x1 x2 x3 r c := by
  have e : out0_I_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 = k0_pay11 x0 (View.ld x1 (Rect.unit ![0, 0] ![256, 256] inb_S2048x256_S256x256_0_0)) x3
    (View.ld x2 (Rect.unit ![0, 0] ![256, 128] inb_S2048x128_S256x128_0_0)) := by frame_out
  rw [e]
  refine (dq_0 x0 x3 _ _ r c).trans ?_
  exact dqT_rows 0 x0 x1 x2 x3 (K := 256) (by decide) rfl _ _ (ld_rows (by decide) x1 inb_S2048x256_S256x256_0_0) (ld_rows (by decide) x2 inb_S2048x128_S256x128_0_0) hn r c

theorem k_I (hn : ∀ r k, Num (bs x0 x1 x2 r k)) (k : Fin 2048) (c : Fin 256) : sout0_I_0 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 (ix2 k c) = dkT 0 x0 x1 x2 x3 k c := by
  have e : sout0_I_0 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 = View.canon
      [⟨Rect.unit (s := S2048x256) ![0, 0] ![256, 256] inb_S2048x256_S256x256_0_0, k0_pay64 (k0_pay5 x0) (k0_pay10 x0 (View.ld x1 (Rect.unit ![0, 0] ![256, 256] inb_S2048x256_S256x256_0_0)) x3 (View.ld x2 (Rect.unit ![0, 0] ![256, 128] inb_S2048x128_S256x128_0_0))) (arg9.view.readCov
          [⟨Rect.unit (s := S2048x256) ![0, 0] ![2048, 256] inb_S2048x256_S2048x256_0_0, k0_pay61 (F := Ideal)⟩]
          (Rect.unit (s := S2048x256) ![0, 0] ![256, 256] inb_S2048x256_S256x256_0_0).toLoadRect)⟩,
        ⟨Rect.unit (s := S2048x256) ![0, 0] ![2048, 256] inb_S2048x256_S2048x256_0_0, k0_pay61 (F := Ideal)⟩] := by frame_out
  rw [e, ← View.read_writes_junk_eq_canon arg9.view, ← zero_add (dkT 0 x0 x1 x2 x3 k c)]
  refine rows_step (K := 256) (by decide) arg9.view _ _ (fun _ => 0) (fun k c => ?_) _ _ (fun k c => dkT 0 x0 x1 x2 x3 k c) (fun k c => ?_)
    (fun k c hk => dkT_zero 0 x0 x1 x2 x3 hn k c hk) k c
  · rw [View.read_writes_junk_eq_canon, View.canon_unit_zero (by decide)]
    exact pay61_apply k c
  · rw [dk_0 x0 x3 _ _ _ k c, View.readCov_eq_canon', View.canon_unit_zero (by decide)]
    refine congrArg₂ (· + ·) (pay61_apply _ _) ?_
    simp only [dkT, bds_rows (K := 256) (by decide) 0 (by decide) x0 x1 x2 x3 _ _ (ld_rows (by decide) x1 inb_S2048x256_S256x256_0_0) (ld_rows (by decide) x2 inb_S2048x128_S256x128_0_0) hn]

theorem v_I (hn : ∀ r k, Num (bs x0 x1 x2 r k)) (k : Fin 2048) (d : Fin 128) : sout0_I_1 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 (ix2 k d) = dvT 0 x0 x1 x2 x3 k d := by
  have e : sout0_I_1 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 = View.canon
      [⟨Rect.unit (s := S2048x128) ![0, 0] ![256, 128] inb_S2048x128_S256x128_0_0, k0_pay65 (k0_pay7 x3) (k0_pay9 x0 (View.ld x1 (Rect.unit ![0, 0] ![256, 256] inb_S2048x256_S256x256_0_0)) (View.ld x2 (Rect.unit ![0, 0] ![256, 128] inb_S2048x128_S256x128_0_0))) (arg10.view.readCov
          [⟨Rect.unit (s := S2048x128) ![0, 0] ![2048, 128] inb_S2048x128_S2048x128_0_0, k0_pay62 (F := Ideal)⟩]
          (Rect.unit (s := S2048x128) ![0, 0] ![256, 128] inb_S2048x128_S256x128_0_0).toLoadRect)⟩,
        ⟨Rect.unit (s := S2048x128) ![0, 0] ![2048, 128] inb_S2048x128_S2048x128_0_0, k0_pay62 (F := Ideal)⟩] := by frame_out
  rw [e, ← View.read_writes_junk_eq_canon arg10.view, ← zero_add (dvT 0 x0 x1 x2 x3 k d)]
  refine rows_step (K := 256) (by decide) arg10.view _ _ (fun _ => 0) (fun k d => ?_) _ _ (fun k d => dvT 0 x0 x1 x2 x3 k d) (fun k d => ?_)
    (fun k d hk => dvT_zero 0 x0 x1 x2 x3 hn k d hk) k d
  · rw [View.read_writes_junk_eq_canon, View.canon_unit_zero (by decide)]
    exact pay62_apply k d
  · rw [dv_0 x0 x3 _ _ _ k d, View.readCov_eq_canon', View.canon_unit_zero (by decide)]
    refine congrArg₂ (· + ·) (pay62_apply _ _) ?_
    simp only [dvT, bp_rows (K := 256) (by decide) 0 (by decide) x0 x1 x2 _ _ (ld_rows (by decide) x1 inb_S2048x256_S256x256_0_0) (ld_rows (by decide) x2 inb_S2048x128_S256x128_0_0)]
end I

/-! ## Case B -/

section B
variable (dev : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S2048x128 .f32) (harg10 : arg10.IsWhole) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i) (hc9 : ¬cond0_9 i) (hc10 : ¬cond0_10 i) (x0 : Vec Ideal S256x256 .bf16) (x1 : Vec Ideal S2048x256 .bf16) (x2 : Vec Ideal S2048x128 .bf16) (x3 : Vec Ideal S256x128 .f32) (xs0 : Vec Ideal S2048x256 .f32) (xs1 : Vec Ideal S2048x128 .f32)

theorem q_B (hn : ∀ r k, Num (bs x0 x1 x2 r k)) (r c : Fin 256) : out0_B_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 r c) = dqT 256 x0 x1 x2 x3 r c := by
  have e : out0_B_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 = k0_pay18 x0 (View.ld x1 (Rect.unit ![0, 0] ![512, 256] inb_S2048x256_S512x256_0_0)) x3
    (View.ld x2 (Rect.unit ![0, 0] ![512, 128] inb_S2048x128_S512x128_0_0)) := by frame_out
  rw [e]
  refine (dq_1 x0 x3 _ _ r c).trans ?_
  exact dqT_rows 256 x0 x1 x2 x3 (K := 512) (by decide) rfl _ _ (ld_rows (by decide) x1 inb_S2048x256_S512x256_0_0) (ld_rows (by decide) x2 inb_S2048x128_S512x128_0_0) hn r c

theorem k_B (hn : ∀ r k, Num (bs x0 x1 x2 r k)) (k : Fin 2048) (c : Fin 256) : sout0_B_0 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 k c) = xs0 (ix2 k c) + dkT 256 x0 x1 x2 x3 k c := by
  frame_out
  refine rows_step (K := 512) (by decide) arg9.view _ [] xs0 (fun k c => congrFun (harg9.read_unread xs0) (ix2 k c)) _ _ (fun k c => dkT 256 x0 x1 x2 x3 k c) (fun k c => ?_)
    (fun k c hk => dkT_zero 256 x0 x1 x2 x3 hn k c hk) k c
  rw [dk_1 x0 x3 _ _ _ k c, ld_rows (by decide) xs0 inb_S2048x256_S512x256_0_0]
  simp only [dkT, bds_rows (K := 512) (by decide) 256 (by decide) x0 x1 x2 x3 _ _ (ld_rows (by decide) x1 inb_S2048x256_S512x256_0_0) (ld_rows (by decide) x2 inb_S2048x128_S512x128_0_0) hn]

theorem v_B (hn : ∀ r k, Num (bs x0 x1 x2 r k)) (k : Fin 2048) (d : Fin 128) : sout0_B_1 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 k d) = xs1 (ix2 k d) + dvT 256 x0 x1 x2 x3 k d := by
  frame_out
  refine rows_step (K := 512) (by decide) arg10.view _ [] xs1 (fun k c => congrFun (harg10.read_unread xs1) (ix2 k c)) _ _ (fun k d => dvT 256 x0 x1 x2 x3 k d) (fun k d => ?_)
    (fun k d hk => dvT_zero 256 x0 x1 x2 x3 hn k d hk) k d
  rw [dv_1 x0 x3 _ _ _ k d, ld_rows (by decide) xs1 inb_S2048x128_S512x128_0_0]
  simp only [dvT, bp_rows (K := 512) (by decide) 256 (by decide) x0 x1 x2 _ _ (ld_rows (by decide) x1 inb_S2048x256_S512x256_0_0) (ld_rows (by decide) x2 inb_S2048x128_S512x128_0_0)]
end B

/-! ## Case C -/

section C
variable (dev : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S2048x128 .f32) (harg10 : arg10.IsWhole) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i) (hc9 : ¬cond0_9 i) (hc10 : ¬cond0_10 i) (x0 : Vec Ideal S256x256 .bf16) (x1 : Vec Ideal S2048x256 .bf16) (x2 : Vec Ideal S2048x128 .bf16) (x3 : Vec Ideal S256x128 .f32) (xs0 : Vec Ideal S2048x256 .f32) (xs1 : Vec Ideal S2048x128 .f32)

theorem q_C (hn : ∀ r k, Num (bs x0 x1 x2 r k)) (r c : Fin 256) : out0_C_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 r c) = dqT 512 x0 x1 x2 x3 r c := by
  have e : out0_C_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 = k0_pay25 x0 (View.ld x1 (Rect.unit ![0, 0] ![768, 256] inb_S2048x256_S768x256_0_0)) x3
    (View.ld x2 (Rect.unit ![0, 0] ![768, 128] inb_S2048x128_S768x128_0_0)) := by frame_out
  rw [e]
  refine (dq_2 x0 x3 _ _ r c).trans ?_
  exact dqT_rows 512 x0 x1 x2 x3 (K := 768) (by decide) rfl _ _ (ld_rows (by decide) x1 inb_S2048x256_S768x256_0_0) (ld_rows (by decide) x2 inb_S2048x128_S768x128_0_0) hn r c

theorem k_C (hn : ∀ r k, Num (bs x0 x1 x2 r k)) (k : Fin 2048) (c : Fin 256) : sout0_C_0 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 k c) = xs0 (ix2 k c) + dkT 512 x0 x1 x2 x3 k c := by
  frame_out
  refine rows_step (K := 768) (by decide) arg9.view _ [] xs0 (fun k c => congrFun (harg9.read_unread xs0) (ix2 k c)) _ _ (fun k c => dkT 512 x0 x1 x2 x3 k c) (fun k c => ?_)
    (fun k c hk => dkT_zero 512 x0 x1 x2 x3 hn k c hk) k c
  rw [dk_2 x0 x3 _ _ _ k c, ld_rows (by decide) xs0 inb_S2048x256_S768x256_0_0]
  simp only [dkT, bds_rows (K := 768) (by decide) 512 (by decide) x0 x1 x2 x3 _ _ (ld_rows (by decide) x1 inb_S2048x256_S768x256_0_0) (ld_rows (by decide) x2 inb_S2048x128_S768x128_0_0) hn]

theorem v_C (hn : ∀ r k, Num (bs x0 x1 x2 r k)) (k : Fin 2048) (d : Fin 128) : sout0_C_1 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 k d) = xs1 (ix2 k d) + dvT 512 x0 x1 x2 x3 k d := by
  frame_out
  refine rows_step (K := 768) (by decide) arg10.view _ [] xs1 (fun k c => congrFun (harg10.read_unread xs1) (ix2 k c)) _ _ (fun k d => dvT 512 x0 x1 x2 x3 k d) (fun k d => ?_)
    (fun k d hk => dvT_zero 512 x0 x1 x2 x3 hn k d hk) k d
  rw [dv_2 x0 x3 _ _ _ k d, ld_rows (by decide) xs1 inb_S2048x128_S768x128_0_0]
  simp only [dvT, bp_rows (K := 768) (by decide) 512 (by decide) x0 x1 x2 _ _ (ld_rows (by decide) x1 inb_S2048x256_S768x256_0_0) (ld_rows (by decide) x2 inb_S2048x128_S768x128_0_0)]
end C

/-! ## Case D -/

section D
variable (dev : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S2048x128 .f32) (harg10 : arg10.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i) (hc9 : ¬cond0_9 i) (hc10 : ¬cond0_10 i) (x0 : Vec Ideal S256x256 .bf16) (x1 : Vec Ideal S2048x256 .bf16) (x2 : Vec Ideal S2048x128 .bf16) (x3 : Vec Ideal S256x128 .f32) (xs0 : Vec Ideal S2048x256 .f32) (xs1 : Vec Ideal S2048x128 .f32)

theorem q_D (hn : ∀ r k, Num (bs x0 x1 x2 r k)) (r c : Fin 256) : out0_D_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 r c) = dqT 768 x0 x1 x2 x3 r c := by
  have e : out0_D_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 = k0_pay32 x0 (View.ld x1 (Rect.unit ![0, 0] ![1024, 256] inb_S2048x256_S1024x256_0_0)) x3
    (View.ld x2 (Rect.unit ![0, 0] ![1024, 128] inb_S2048x128_S1024x128_0_0)) := by frame_out
  rw [e]
  refine (dq_3 x0 x3 _ _ r c).trans ?_
  exact dqT_rows 768 x0 x1 x2 x3 (K := 1024) (by decide) rfl _ _ (ld_rows (by decide) x1 inb_S2048x256_S1024x256_0_0) (ld_rows (by decide) x2 inb_S2048x128_S1024x128_0_0) hn r c

theorem k_D (hn : ∀ r k, Num (bs x0 x1 x2 r k)) (k : Fin 2048) (c : Fin 256) : sout0_D_0 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 k c) = xs0 (ix2 k c) + dkT 768 x0 x1 x2 x3 k c := by
  frame_out
  refine rows_step (K := 1024) (by decide) arg9.view _ [] xs0 (fun k c => congrFun (harg9.read_unread xs0) (ix2 k c)) _ _ (fun k c => dkT 768 x0 x1 x2 x3 k c) (fun k c => ?_)
    (fun k c hk => dkT_zero 768 x0 x1 x2 x3 hn k c hk) k c
  rw [dk_3 x0 x3 _ _ _ k c, ld_rows (by decide) xs0 inb_S2048x256_S1024x256_0_0]
  simp only [dkT, bds_rows (K := 1024) (by decide) 768 (by decide) x0 x1 x2 x3 _ _ (ld_rows (by decide) x1 inb_S2048x256_S1024x256_0_0) (ld_rows (by decide) x2 inb_S2048x128_S1024x128_0_0) hn]

theorem v_D (hn : ∀ r k, Num (bs x0 x1 x2 r k)) (k : Fin 2048) (d : Fin 128) : sout0_D_1 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 k d) = xs1 (ix2 k d) + dvT 768 x0 x1 x2 x3 k d := by
  frame_out
  refine rows_step (K := 1024) (by decide) arg10.view _ [] xs1 (fun k c => congrFun (harg10.read_unread xs1) (ix2 k c)) _ _ (fun k d => dvT 768 x0 x1 x2 x3 k d) (fun k d => ?_)
    (fun k d hk => dvT_zero 768 x0 x1 x2 x3 hn k d hk) k d
  rw [dv_3 x0 x3 _ _ _ k d, ld_rows (by decide) xs1 inb_S2048x128_S1024x128_0_0]
  simp only [dvT, bp_rows (K := 1024) (by decide) 768 (by decide) x0 x1 x2 _ _ (ld_rows (by decide) x1 inb_S2048x256_S1024x256_0_0) (ld_rows (by decide) x2 inb_S2048x128_S1024x128_0_0)]
end D

/-! ## Case E -/

section E
variable (dev : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S2048x128 .f32) (harg10 : arg10.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i) (hc9 : ¬cond0_9 i) (hc10 : ¬cond0_10 i) (x0 : Vec Ideal S256x256 .bf16) (x1 : Vec Ideal S2048x256 .bf16) (x2 : Vec Ideal S2048x128 .bf16) (x3 : Vec Ideal S256x128 .f32) (xs0 : Vec Ideal S2048x256 .f32) (xs1 : Vec Ideal S2048x128 .f32)

theorem q_E (hn : ∀ r k, Num (bs x0 x1 x2 r k)) (r c : Fin 256) : out0_E_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 r c) = dqT 1024 x0 x1 x2 x3 r c := by
  have e : out0_E_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 = k0_pay39 x0 (View.ld x1 (Rect.unit ![0, 0] ![1280, 256] inb_S2048x256_S1280x256_0_0)) x3
    (View.ld x2 (Rect.unit ![0, 0] ![1280, 128] inb_S2048x128_S1280x128_0_0)) := by frame_out
  rw [e]
  refine (dq_4 x0 x3 _ _ r c).trans ?_
  exact dqT_rows 1024 x0 x1 x2 x3 (K := 1280) (by decide) rfl _ _ (ld_rows (by decide) x1 inb_S2048x256_S1280x256_0_0) (ld_rows (by decide) x2 inb_S2048x128_S1280x128_0_0) hn r c

theorem k_E (hn : ∀ r k, Num (bs x0 x1 x2 r k)) (k : Fin 2048) (c : Fin 256) : sout0_E_0 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 k c) = xs0 (ix2 k c) + dkT 1024 x0 x1 x2 x3 k c := by
  frame_out
  refine rows_step (K := 1280) (by decide) arg9.view _ [] xs0 (fun k c => congrFun (harg9.read_unread xs0) (ix2 k c)) _ _ (fun k c => dkT 1024 x0 x1 x2 x3 k c) (fun k c => ?_)
    (fun k c hk => dkT_zero 1024 x0 x1 x2 x3 hn k c hk) k c
  rw [dk_4 x0 x3 _ _ _ k c, ld_rows (by decide) xs0 inb_S2048x256_S1280x256_0_0]
  simp only [dkT, bds_rows (K := 1280) (by decide) 1024 (by decide) x0 x1 x2 x3 _ _ (ld_rows (by decide) x1 inb_S2048x256_S1280x256_0_0) (ld_rows (by decide) x2 inb_S2048x128_S1280x128_0_0) hn]

theorem v_E (hn : ∀ r k, Num (bs x0 x1 x2 r k)) (k : Fin 2048) (d : Fin 128) : sout0_E_1 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 k d) = xs1 (ix2 k d) + dvT 1024 x0 x1 x2 x3 k d := by
  frame_out
  refine rows_step (K := 1280) (by decide) arg10.view _ [] xs1 (fun k c => congrFun (harg10.read_unread xs1) (ix2 k c)) _ _ (fun k d => dvT 1024 x0 x1 x2 x3 k d) (fun k d => ?_)
    (fun k d hk => dvT_zero 1024 x0 x1 x2 x3 hn k d hk) k d
  rw [dv_4 x0 x3 _ _ _ k d, ld_rows (by decide) xs1 inb_S2048x128_S1280x128_0_0]
  simp only [dvT, bp_rows (K := 1280) (by decide) 1024 (by decide) x0 x1 x2 _ _ (ld_rows (by decide) x1 inb_S2048x256_S1280x256_0_0) (ld_rows (by decide) x2 inb_S2048x128_S1280x128_0_0)]
end E

/-! ## Case F -/

section F
variable (dev : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S2048x128 .f32) (harg10 : arg10.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i) (hc9 : ¬cond0_9 i) (hc10 : ¬cond0_10 i) (x0 : Vec Ideal S256x256 .bf16) (x1 : Vec Ideal S2048x256 .bf16) (x2 : Vec Ideal S2048x128 .bf16) (x3 : Vec Ideal S256x128 .f32) (xs0 : Vec Ideal S2048x256 .f32) (xs1 : Vec Ideal S2048x128 .f32)

theorem q_F (hn : ∀ r k, Num (bs x0 x1 x2 r k)) (r c : Fin 256) : out0_F_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 r c) = dqT 1280 x0 x1 x2 x3 r c := by
  have e : out0_F_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 = k0_pay46 x0 (View.ld x1 (Rect.unit ![0, 0] ![1536, 256] inb_S2048x256_S1536x256_0_0)) x3
    (View.ld x2 (Rect.unit ![0, 0] ![1536, 128] inb_S2048x128_S1536x128_0_0)) := by frame_out
  rw [e]
  refine (dq_5 x0 x3 _ _ r c).trans ?_
  exact dqT_rows 1280 x0 x1 x2 x3 (K := 1536) (by decide) rfl _ _ (ld_rows (by decide) x1 inb_S2048x256_S1536x256_0_0) (ld_rows (by decide) x2 inb_S2048x128_S1536x128_0_0) hn r c

theorem k_F (hn : ∀ r k, Num (bs x0 x1 x2 r k)) (k : Fin 2048) (c : Fin 256) : sout0_F_0 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 k c) = xs0 (ix2 k c) + dkT 1280 x0 x1 x2 x3 k c := by
  frame_out
  refine rows_step (K := 1536) (by decide) arg9.view _ [] xs0 (fun k c => congrFun (harg9.read_unread xs0) (ix2 k c)) _ _ (fun k c => dkT 1280 x0 x1 x2 x3 k c) (fun k c => ?_)
    (fun k c hk => dkT_zero 1280 x0 x1 x2 x3 hn k c hk) k c
  rw [dk_5 x0 x3 _ _ _ k c, ld_rows (by decide) xs0 inb_S2048x256_S1536x256_0_0]
  simp only [dkT, bds_rows (K := 1536) (by decide) 1280 (by decide) x0 x1 x2 x3 _ _ (ld_rows (by decide) x1 inb_S2048x256_S1536x256_0_0) (ld_rows (by decide) x2 inb_S2048x128_S1536x128_0_0) hn]

theorem v_F (hn : ∀ r k, Num (bs x0 x1 x2 r k)) (k : Fin 2048) (d : Fin 128) : sout0_F_1 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 k d) = xs1 (ix2 k d) + dvT 1280 x0 x1 x2 x3 k d := by
  frame_out
  refine rows_step (K := 1536) (by decide) arg10.view _ [] xs1 (fun k c => congrFun (harg10.read_unread xs1) (ix2 k c)) _ _ (fun k d => dvT 1280 x0 x1 x2 x3 k d) (fun k d => ?_)
    (fun k d hk => dvT_zero 1280 x0 x1 x2 x3 hn k d hk) k d
  rw [dv_5 x0 x3 _ _ _ k d, ld_rows (by decide) xs1 inb_S2048x128_S1536x128_0_0]
  simp only [dvT, bp_rows (K := 1536) (by decide) 1280 (by decide) x0 x1 x2 _ _ (ld_rows (by decide) x1 inb_S2048x256_S1536x256_0_0) (ld_rows (by decide) x2 inb_S2048x128_S1536x128_0_0)]
end F

/-! ## Case G -/

section G
variable (dev : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S2048x128 .f32) (harg10 : arg10.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i) (hc9 : ¬cond0_9 i) (hc10 : ¬cond0_10 i) (x0 : Vec Ideal S256x256 .bf16) (x1 : Vec Ideal S2048x256 .bf16) (x2 : Vec Ideal S2048x128 .bf16) (x3 : Vec Ideal S256x128 .f32) (xs0 : Vec Ideal S2048x256 .f32) (xs1 : Vec Ideal S2048x128 .f32)

theorem q_G (hn : ∀ r k, Num (bs x0 x1 x2 r k)) (r c : Fin 256) : out0_G_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 r c) = dqT 1536 x0 x1 x2 x3 r c := by
  have e : out0_G_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 = k0_pay53 x0 (View.ld x1 (Rect.unit ![0, 0] ![1792, 256] inb_S2048x256_S1792x256_0_0)) x3
    (View.ld x2 (Rect.unit ![0, 0] ![1792, 128] inb_S2048x128_S1792x128_0_0)) := by frame_out
  rw [e]
  refine (dq_6 x0 x3 _ _ r c).trans ?_
  exact dqT_rows 1536 x0 x1 x2 x3 (K := 1792) (by decide) rfl _ _ (ld_rows (by decide) x1 inb_S2048x256_S1792x256_0_0) (ld_rows (by decide) x2 inb_S2048x128_S1792x128_0_0) hn r c

theorem k_G (hn : ∀ r k, Num (bs x0 x1 x2 r k)) (k : Fin 2048) (c : Fin 256) : sout0_G_0 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 k c) = xs0 (ix2 k c) + dkT 1536 x0 x1 x2 x3 k c := by
  frame_out
  refine rows_step (K := 1792) (by decide) arg9.view _ [] xs0 (fun k c => congrFun (harg9.read_unread xs0) (ix2 k c)) _ _ (fun k c => dkT 1536 x0 x1 x2 x3 k c) (fun k c => ?_)
    (fun k c hk => dkT_zero 1536 x0 x1 x2 x3 hn k c hk) k c
  rw [dk_6 x0 x3 _ _ _ k c, ld_rows (by decide) xs0 inb_S2048x256_S1792x256_0_0]
  simp only [dkT, bds_rows (K := 1792) (by decide) 1536 (by decide) x0 x1 x2 x3 _ _ (ld_rows (by decide) x1 inb_S2048x256_S1792x256_0_0) (ld_rows (by decide) x2 inb_S2048x128_S1792x128_0_0) hn]

theorem v_G (hn : ∀ r k, Num (bs x0 x1 x2 r k)) (k : Fin 2048) (d : Fin 128) : sout0_G_1 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xs0 xs1 (ix2 k d) = xs1 (ix2 k d) + dvT 1536 x0 x1 x2 x3 k d := by
  frame_out
  refine rows_step (K := 1792) (by decide) arg10.view _ [] xs1 (fun k c => congrFun (harg10.read_unread xs1) (ix2 k c)) _ _ (fun k d => dvT 1536 x0 x1 x2 x3 k d) (fun k d => ?_)
    (fun k d hk => dvT_zero 1536 x0 x1 x2 x3 hn k d hk) k d
  rw [dv_6 x0 x3 _ _ _ k d, ld_rows (by decide) xs1 inb_S2048x128_S1792x128_0_0]
  simp only [dvT, bp_rows (K := 1792) (by decide) 1536 (by decide) x0 x1 x2 _ _ (ld_rows (by decide) x1 inb_S2048x256_S1792x256_0_0) (ld_rows (by decide) x2 inb_S2048x128_S1792x128_0_0)]
end G

/-! ## Case H -/

section H
variable (dev : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole) (arg9 : Memref sig .tc .vmem S2048x256 .f32) (harg9 : arg9.IsWhole) (arg10 : Memref sig .tc .vmem S2048x128 .f32) (harg10 : arg10.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : cond0_9 i) (hc10 : cond0_10 i) (x0 : Vec Ideal S256x256 .bf16) (x1 : Vec Ideal S2048x256 .bf16) (x2 : Vec Ideal S2048x128 .bf16) (x3 : Vec Ideal S256x128 .f32) (xo6 : Vec Ideal S2048x128 .f32) (xs0 : Vec Ideal S2048x256 .f32) (xs1 : Vec Ideal S2048x128 .f32)

theorem q_H (hn : ∀ r k, Num (bs x0 x1 x2 r k)) (r c : Fin 256) : out0_H_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xo6 xs0 xs1 (ix2 r c) = dqT 1792 x0 x1 x2 x3 r c := by
  have e : out0_H_4 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xo6 xs0 xs1 = k0_pay60 x0 x1 x3 x2 := by frame_out
  rw [e]
  exact dq_7 x0 x3 x1 x2 r c

theorem k_H (k : Fin 2048) (c : Fin 256) : sout0_H_0 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xo6 xs0 xs1 (ix2 k c) = xs0 (ix2 k c) + dkT 1792 x0 x1 x2 x3 k c := by
  have e : sout0_H_0 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xo6 xs0 xs1 = k0_pay1 (k0_pay54 x0) (k0_pay59 x0 x1 x3 x2) xs0 := by frame_out
  rw [e]
  exact dk_7 x0 x3 x1 x2 xs0 k c

theorem v_H (k : Fin 2048) (d : Fin 128) : sout0_H_1 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xo6 xs0 xs1 (ix2 k d) = xs1 (ix2 k d) + dvT 1792 x0 x1 x2 x3 k d := by
  have e : sout0_H_1 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xo6 xs0 xs1 = k0_pay2 (k0_pay56 x3) (k0_pay58 x0 x1 x2) xs1 := by frame_out
  rw [e]
  exact dv_7 x0 x3 x1 x2 xs1 k d

theorem kv_H (k : Fin 2048) (c : Fin 256) : out0_H_5 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xo6 xs0 xs1 (ix2 k c)
    = if h : c.val < 128 then xs0 (ix2 k c) + dkT 1792 x0 x1 x2 x3 k c
      else xs1 (ix2 k ⟨c.val - 128, by omega⟩) + dvT 1792 x0 x1 x2 x3 k ⟨c.val - 128, by omega⟩ := by
  have e : out0_H_5 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xo6 xs0 xs1 = k0_pay3 (k0_pay1 (k0_pay54 x0) (k0_pay59 x0 x1 x3 x2) xs0) (k0_pay2 (k0_pay56 x3) (k0_pay58 x0 x1 x2) xs1) := by frame_out
  rw [e]
  unfold k0_pay3
  pointwise
  by_cases h : c.val < 128
  · rw [dif_pos h, dif_pos h]
    exact dk_7 x0 x3 x1 x2 xs0 k _
  · rw [dif_neg h, dif_neg h]
    exact dv_7 x0 x3 x1 x2 xs1 k _

theorem kr_H (k : Fin 2048) (j : Fin 128) : out0_H_6 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xo6 xs0 xs1 (ix2 k j)
    = xo6 (ix2 k j) + (xs0 (ix2 k ⟨128 + j.val, by omega⟩) + dkT 1792 x0 x1 x2 x3 k ⟨128 + j.val, by omega⟩) := by
  have e : out0_H_6 dev i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 xo6 xs0 xs1 = k0_pay4 (k0_pay1 (k0_pay54 x0) (k0_pay59 x0 x1 x3 x2) xs0) xo6 := by frame_out
  rw [e]
  unfold k0_pay4
  pointwise
  exact congrArg (xo6 (ix2 k j) + ·) (dk_7 x0 x3 x1 x2 xs0 k ⟨128 + j.val, by omega⟩)
end H

end Attn
-- ==== Proof.Step.lean ====
/- One grid point's step, whatever its case: the query block's gradient, the accumulators cleared at a head's first
   query block and added to, and what the last query block of a head hands to the results. -/
module

public import proofs.«01_k».proof.Proof.Cases
public import proofs.«01_k».proof.Proof.Gen.KernelIdeal.Value

@[expose] public section
noncomputable section
namespace Attn
open Idealize.ShloMosaic Idealize.SL.Sem Cert.KernelIdeal Cert.KernelIdeal.Gen Cert.KernelIdeal.Value
open scoped BigOperators

variable (m : (ℓ : Loc nD τ sig) → Buf (Elt Ideal) ℓ) (c : Dev nD) (t : Fin cfg0.N)
  (acc : Vec Ideal S256x256 .f32 × Vec Ideal S2048x256 .f32 × Vec Ideal S2048x128 .f32 × Vec Ideal S2048x256 .f32 × Vec Ideal S2048x128 .f32)

/-- The scores of a point's block are numbers. -/
def Scored : Prop := ∀ (r : Fin 256) (k : Fin 2048), Num (bs (iblk m c 0 t) (iblk m c 1 t) (iblk m c 2 t) r k)

variable (hn : Scored m c t)

include hn in
theorem step_q (r x : Fin 256) : (stAt0 m c t.val t.isLt acc).1 (ix2 r x)
    = dqT (256 * (t.val % 8)) (iblk m c 0 t) (iblk m c 1 t) (iblk m c 2 t) (iblk m c 3 t) r x := by
  have h8 : t.val % 8 < 8 := Nat.mod_lt _ (by decide)
  by_cases ha : t.val % 128 = 0
  · have e : t.val % 8 = 0 := by omega
    rw [e, stAt0_A m c t acc (by omega) (by omega) (by omega) (by omega) (by omega) (by omega) (by omega) (by omega) (by omega) (by omega) (by omega)]
    dsimp only
    exact q_A (hn := hn) (r := r) (c := x) ..
  by_cases e : t.val % 8 = 0
  · rw [e, stAt0_I m c t acc (by omega) (by omega) (by omega) (by omega) (by omega) (by omega) (by omega) (by omega) (by omega) (by omega) (by omega)]
    dsimp only
    exact q_I (hn := hn) (r := r) (c := x) ..
  by_cases e : t.val % 8 = 1
  · rw [e, stAt0_B m c t acc (by omega) (by omega) (by omega) (by omega) (by omega) (by omega) (by omega) (by omega) (by omega) (by omega) (by omega)]
    dsimp only
    exact q_B (hn := hn) (r := r) (c := x) ..
  by_cases e : t.val % 8 = 2
  · rw [e, stAt0_C m c t acc (by omega) (by omega) (by omega) (by omega) (by omega) (by omega) (by omega) (by omega) (by omega) (by omega) (by omega)]
    dsimp only
    exact q_C (hn := hn) (r := r) (c := x) ..
  by_cases e : t.val % 8 = 3
  · rw [e, stAt0_D m c t acc (by omega) (by omega) (by omega) (by omega) (by omega) (by omega) (by omega) (by omega) (by omega) (by omega) (by omega)]
    dsimp only
    exact q_D (hn := hn) (r := r) (c := x) ..
  by_cases e : t.val % 8 = 4
  · rw [e, stAt0_E m c t acc (by omega) (by omega) (by omega) (by omega) (by omega) (by omega) (by omega) (by omega) (by omega) (by omega) (by omega)]
    dsimp only
    exact q_E (hn := hn) (r := r) (c := x) ..
  by_cases e : t.val % 8 = 5
  · rw [e, stAt0_F m c t acc (by omega) (by omega) (by omega) (by omega) (by omega) (by omega) (by omega) (by omega) (by omega) (by omega) (by omega)]
    dsimp only
    exact q_F (hn := hn) (r := r) (c := x) ..
  by_cases e : t.val % 8 = 6
  · rw [e, stAt0_G m c t acc (by omega) (by omega) (by omega) (by omega) (by omega) (by omega) (by omega) (by omega) (by omega) (by omega) (by omega)]
    dsimp only
    exact q_G (hn := hn) (r := r) (c := x) ..
  · have e : t.val % 8 = 7 := by omega
    rw [e, stAt0_H m c t acc (by omega) (by omega) (by omega) (by omega) (by omega) (by omega) (by omega) (by omega) (by omega) (by omega) (by omega)]
    dsimp only
    exact q_H (hn := hn) (r := r) (c := x) ..

include hn in
theorem step_k (k : Fin 2048) (x : Fin 256) : (stAt0 m c t.val t.isLt acc).2.2.2.1 (ix2 k x)
    = (if t.val % 8 = 0 then 0 else acc.2.2.2.1 (ix2 k x))
      + dkT (256 * (t.val % 8)) (iblk m c 0 t) (iblk m c 1 t) (iblk m c 2 t) (iblk m c 3 t) k x := by
  have h8 : t.val % 8 < 8 := Nat.mod_lt _ (by decide)
  by_cases ha : t.val % 128 = 0
  · have e : t.val % 8 = 0 := by omega
    rw [if_pos e, zero_add, e, stAt0_A m c t acc (by omega) (by omega) (by omega) (by omega) (by omega) (by omega) (by omega) (by omega) (by omega) (by omega) (by omega)]
    dsimp only
    exact k_A (hn := hn) (k := k) (c := x) ..
  by_cases e : t.val % 8 = 0
  · rw [if_pos e, zero_add, e, stAt0_I m c t acc (by omega) (by omega) (by omega) (by omega) (by omega) (by omega) (by omega) (by omega) (by omega) (by omega) (by omega)]
    dsimp only
    exact k_I (hn := hn) (k := k) (c := x) ..
  by_cases e : t.val % 8 = 1
  · rw [if_neg (by omega), e, stAt0_B m c t acc (by omega) (by omega) (by omega) (by omega) (by omega) (by omega) (by omega) (by omega) (by omega) (by omega) (by omega)]
    dsimp only
    exact k_B (hn := hn) (k := k) (c := x) ..
  by_cases e : t.val % 8 = 2
  · rw [if_neg (by omega), e, stAt0_C m c t acc (by omega) (by omega) (by omega) (by omega) (by omega) (by omega) (by omega) (by omega) (by omega) (by omega) (by omega)]
    dsimp only
    exact k_C (hn := hn) (k := k) (c := x) ..
  by_cases e : t.val % 8 = 3
  · rw [if_neg (by omega), e, stAt0_D m c t acc (by omega) (by omega) (by omega) (by omega) (by omega) (by omega) (by omega) (by omega) (by omega) (by omega) (by omega)]
    dsimp only
    exact k_D (hn := hn) (k := k) (c := x) ..
  by_cases e : t.val % 8 = 4
  · rw [if_neg (by omega), e, stAt0_E m c t acc (by omega) (by omega) (by omega) (by omega) (by omega) (by omega) (by omega) (by omega) (by omega) (by omega) (by omega)]
    dsimp only
    exact k_E (hn := hn) (k := k) (c := x) ..
  by_cases e : t.val % 8 = 5
  · rw [if_neg (by omega), e, stAt0_F m c t acc (by omega) (by omega) (by omega) (by omega) (by omega) (by omega) (by omega) (by omega) (by omega) (by omega) (by omega)]
    dsimp only
    exact k_F (hn := hn) (k := k) (c := x) ..
  by_cases e : t.val % 8 = 6
  · rw [if_neg (by omega), e, stAt0_G m c t acc (by omega) (by omega) (by omega) (by omega) (by omega) (by omega) (by omega) (by omega) (by omega) (by omega) (by omega)]
    dsimp only
    exact k_G (hn := hn) (k := k) (c := x) ..
  · have e : t.val % 8 = 7 := by omega
    rw [if_neg (by omega), e, stAt0_H m c t acc (by omega) (by omega) (by omega) (by omega) (by omega) (by omega) (by omega) (by omega) (by omega) (by omega) (by omega)]
    dsimp only
    exact k_H (k := k) (c := x) ..

include hn in
theorem step_v (k : Fin 2048) (x : Fin 128) : (stAt0 m c t.val t.isLt acc).2.2.2.2 (ix2 k x)
    = (if t.val % 8 = 0 then 0 else acc.2.2.2.2 (ix2 k x))
      + dvT (256 * (t.val % 8)) (iblk m c 0 t) (iblk m c 1 t) (iblk m c 2 t) (iblk m c 3 t) k x := by
  have h8 : t.val % 8 < 8 := Nat.mod_lt _ (by decide)
  by_cases ha : t.val % 128 = 0
  · have e : t.val % 8 = 0 := by omega
    rw [if_pos e, zero_add, e, stAt0_A m c t acc (by omega) (by omega) (by omega) (by omega) (by omega) (by omega) (by omega) (by omega) (by omega) (by omega) (by omega)]
    dsimp only
    exact v_A (hn := hn) (k := k) (d := x) ..
  by_cases e : t.val % 8 = 0
  · rw [if_pos e, zero_add, e, stAt0_I m c t acc (by omega) (by omega) (by omega) (by omega) (by omega) (by omega) (by omega) (by omega) (by omega) (by omega) (by omega)]
    dsimp only
    exact v_I (hn := hn) (k := k) (d := x) ..
  by_cases e : t.val % 8 = 1
  · rw [if_neg (by omega), e, stAt0_B m c t acc (by omega) (by omega) (by omega) (by omega) (by omega) (by omega) (by omega) (by omega) (by omega) (by omega) (by omega)]
    dsimp only
    exact v_B (hn := hn) (k := k) (d := x) ..
  by_cases e : t.val % 8 = 2
  · rw [if_neg (by omega), e, stAt0_C m c t acc (by omega) (by omega) (by omega) (by omega) (by omega) (by omega) (by omega) (by omega) (by omega) (by omega) (by omega)]
    dsimp only
    exact v_C (hn := hn) (k := k) (d := x) ..
  by_cases e : t.val % 8 = 3
  · rw [if_neg (by omega), e, stAt0_D m c t acc (by omega) (by omega) (by omega) (by omega) (by omega) (by omega) (by omega) (by omega) (by omega) (by omega) (by omega)]
    dsimp only
    exact v_D (hn := hn) (k := k) (d := x) ..
  by_cases e : t.val % 8 = 4
  · rw [if_neg (by omega), e, stAt0_E m c t acc (by omega) (by omega) (by omega) (by omega) (by omega) (by omega) (by omega) (by omega) (by omega) (by omega) (by omega)]
    dsimp only
    exact v_E (hn := hn) (k := k) (d := x) ..
  by_cases e : t.val % 8 = 5
  · rw [if_neg (by omega), e, stAt0_F m c t acc (by omega) (by omega) (by omega) (by omega) (by omega) (by omega) (by omega) (by omega) (by omega) (by omega) (by omega)]
    dsimp only
    exact v_F (hn := hn) (k := k) (d := x) ..
  by_cases e : t.val % 8 = 6
  · rw [if_neg (by omega), e, stAt0_G m c t acc (by omega) (by omega) (by omega) (by omega) (by omega) (by omega) (by omega) (by omega) (by omega) (by omega) (by omega)]
    dsimp only
    exact v_G (hn := hn) (k := k) (d := x) ..
  · have e : t.val % 8 = 7 := by omega
    rw [if_neg (by omega), e, stAt0_H m c t acc (by omega) (by omega) (by omega) (by omega) (by omega) (by omega) (by omega) (by omega) (by omega) (by omega) (by omega)]
    dsimp only
    exact v_H (k := k) (d := x) ..

include hn in
theorem step_kv (e : t.val % 8 = 7) (k : Fin 2048) (x : Fin 256) : (stAt0 m c t.val t.isLt acc).2.1 (ix2 k x)
    = if h : x.val < 128 then (stAt0 m c t.val t.isLt acc).2.2.2.1 (ix2 k x)
      else (stAt0 m c t.val t.isLt acc).2.2.2.2 (ix2 k ⟨x.val - 128, by omega⟩) := by
  have h1 : (stAt0 m c t.val t.isLt acc).2.1 (ix2 k x) = if h : x.val < 128 then acc.2.2.2.1 (ix2 k x)
        + dkT 1792 (iblk m c 0 t) (iblk m c 1 t) (iblk m c 2 t) (iblk m c 3 t) k x
      else acc.2.2.2.2 (ix2 k ⟨x.val - 128, by omega⟩)
        + dvT 1792 (iblk m c 0 t) (iblk m c 1 t) (iblk m c 2 t) (iblk m c 3 t) k ⟨x.val - 128, by omega⟩ := by
    rw [stAt0_H m c t acc (by omega) (by omega) (by omega) (by omega) (by omega) (by omega) (by omega) (by omega) (by omega) (by omega) (by omega)]
    dsimp only
    exact kv_H (k := k) (c := x) ..
  rw [h1]
  by_cases h : x.val < 128
  · rw [dif_pos h, dif_pos h, step_k m c t acc hn, if_neg (by omega), e]
  · rw [dif_neg h, dif_neg h, step_v m c t acc hn, if_neg (by omega), e]

include hn in
theorem step_kr (k : Fin 2048) (j : Fin 128) : (stAt0 m c t.val t.isLt acc).2.2.1 (ix2 k j)
    = (if t.val % 128 = 0 then 0 else acc.2.2.1 (ix2 k j))
      + if t.val % 8 = 7 then (stAt0 m c t.val t.isLt acc).2.2.2.1 (ix2 k ⟨128 + j.val, by omega⟩) else 0 := by
  have h8 : t.val % 8 < 8 := Nat.mod_lt _ (by decide)
  by_cases ha : t.val % 128 = 0
  · have e : t.val % 8 = 0 := by omega
    rw [if_pos ha, if_neg (by omega), add_zero, stAt0_A m c t acc (by omega) (by omega) (by omega) (by omega) (by omega) (by omega) (by omega) (by omega) (by omega) (by omega) (by omega)]
    dsimp only
    exact kr_A (k := k) (j := j) ..
  by_cases e : t.val % 8 = 0
  · rw [if_neg ha, if_neg (by omega), add_zero, stAt0_I m c t acc (by omega) (by omega) (by omega) (by omega) (by omega) (by omega) (by omega) (by omega) (by omega) (by omega) (by omega)]
    rfl
  by_cases e : t.val % 8 = 1
  · rw [if_neg ha, if_neg (by omega), add_zero, stAt0_B m c t acc (by omega) (by omega) (by omega) (by omega) (by omega) (by omega) (by omega) (by omega) (by omega) (by omega) (by omega)]
    rfl
  by_cases e : t.val % 8 = 2
  · rw [if_neg ha, if_neg (by omega), add_zero, stAt0_C m c t acc (by omega) (by omega) (by omega) (by omega) (by omega) (by omega) (by omega) (by omega) (by omega) (by omega) (by omega)]
    rfl
  by_cases e : t.val % 8 = 3
  · rw [if_neg ha, if_neg (by omega), add_zero, stAt0_D m c t acc (by omega) (by omega) (by omega) (by omega) (by omega) (by omega) (by omega) (by omega) (by omega) (by omega) (by omega)]
    rfl
  by_cases e : t.val % 8 = 4
  · rw [if_neg ha, if_neg (by omega), add_zero, stAt0_E m c t acc (by omega) (by omega) (by omega) (by omega) (by omega) (by omega) (by omega) (by omega) (by omega) (by omega) (by omega)]
    rfl
  by_cases e : t.val % 8 = 5
  · rw [if_neg ha, if_neg (by omega), add_zero, stAt0_F m c t acc (by omega) (by omega) (by omega) (by omega) (by omega) (by omega) (by omega) (by omega) (by omega) (by omega) (by omega)]
    rfl
  by_cases e : t.val % 8 = 6
  · rw [if_neg ha, if_neg (by omega), add_zero, stAt0_G m c t acc (by omega) (by omega) (by omega) (by omega) (by omega) (by omega) (by omega) (by omega) (by omega) (by omega) (by omega)]
    rfl
  · have e : t.val % 8 = 7 := by omega
    rw [if_neg ha, if_pos e, step_k m c t acc hn, if_neg (by omega), e, stAt0_H m c t acc (by omega) (by omega) (by omega) (by omega) (by omega) (by omega) (by omega) (by omega) (by omega) (by omega) (by omega)]
    dsimp only
    exact kr_H (k := k) (j := j) ..

end Attn
-- ==== Proof.Blocks.lean ====
/- The blocks a grid point reads, as the queries, keys, values and incoming gradients of its head and query rows. -/
module

public import proofs.«01_k».proof.Proof.Cases
public import proofs.«01_k».proof.Proof.Gen.KernelIdeal.Frame
public import Idealize.ShloMosaic.Lib.Pipeline.ValueKit

@[expose] public section
noncomputable section
namespace Attn
open Idealize.ShloMosaic Idealize.SL.Sem Idealize.ShloMosaic.TcCoe Cert.KernelIdeal Cert.KernelIdeal.Gen
open scoped BigOperators

variable (m : (ℓ : Loc nD τ sig) → Buf (Elt Ideal) ℓ) (c : Dev nD) (t : Fin cfg0.N)

/-- The arguments of a device. -/
def kargs : Args where
  qn := m ((c.tc : Thread nD τ).loc main_arg0)
  qr := m ((c.tc : Thread nD τ).loc main_arg1)
  kn := m ((c.tc : Thread nD τ).loc main_arg2)
  vv := m ((c.tc : Thread nD τ).loc main_arg3)
  kr := m ((c.tc : Thread nD τ).loc main_arg4)
  go := m ((c.tc : Thread nD τ).loc main_arg5)

theorem idx0 : ∀ t : Fin cfg0.N, win0_0.index t = ![t.val % 8, t.val / 8] := (by decide +kernel : ∀ t : Fin grid0.N, _)
theorem idx1 : ∀ t : Fin cfg0.N, win0_1.index t = ![0, t.val / 8] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val % 8, t.val / 8] := (by decide +kernel : ∀ t : Fin grid0.N, _)

theorem tlt : t.val < 128 := lt_of_lt_of_eq t.isLt (show cfg0.N = 128 from N_0)

/-- The head of a point and the position of a row of its query block. -/
def hd : Fin 16 := ⟨t.val / 8, by have := tlt t; omega⟩
def qpos (r : Fin 256) : Fin 2048 := ⟨256 * (t.val % 8) + r.val, by omega⟩

/-- The arrays that the host lays out: the queries, the keys beside the values, and the shared rotary key. -/
def arrQ (A : Args) : FVec Ideal S2048x4096 .bf16 := truncf .bf16 (shapeCast S2048x4096 (concatenate S2048x16x256 2
    [⟨S2048x16x128, A.qn⟩, ⟨S2048x16x64, A.qr⟩, ⟨S2048x16x64, broadcastInDim S2048x16x64 ![] bcast_S_S2048x16x64 (constant (F := Ideal) S_ .f32 0x00000000#32)⟩]
    concatenates_S2048x16x128_S2048x16x64_S2048x16x64_S2048x16x256_d2 : FVec Ideal S2048x16x256 .f32) shapeCasts_S2048x16x256_S2048x4096) bitsLt_bf16_f32
def arrKV (A : Args) : FVec Ideal S2048x4096 .bf16 := truncf .bf16 (shapeCast S2048x4096 (concatenate S2048x16x256 2
    [⟨S2048x16x128, A.kn⟩, ⟨S2048x16x128, A.vv⟩] concatenates_S2048x16x128_S2048x16x128_S2048x16x256_d2 : FVec Ideal S2048x16x256 .f32)
    shapeCasts_S2048x16x256_S2048x4096) bitsLt_bf16_f32
def arrKR (A : Args) : FVec Ideal S2048x128 .bf16 := truncf .bf16 (concatenate S2048x128 1
    [⟨S2048x64, A.kr⟩, ⟨S2048x64, broadcastInDim S2048x64 ![] bcast_S_S2048x64 (constant (F := Ideal) S_ .f32 0x00000000#32)⟩]
    concatenates_S2048x64_S2048x64_S2048x128_d1 : FVec Ideal S2048x128 .f32) bitsLt_bf16_f32

theorem V6 : V m c main_v6 = arrQ (kargs m c) := rfl
theorem V8 : V m c main_v8 = arrKV (kargs m c) := rfl
theorem V9 : V m c main_v9 = arrKR (kargs m c) := rfl
theorem V5 : V m c main_arg5 = (kargs m c).go := rfl

theorem arrQ_apply (A : Args) (q : Fin 2048) (h : Fin 16) (x : Fin 256) (j : Fin 4096) (e : j.val = h.val * 256 + x.val) :
    arrQ A (ix2 q j) = qc A h q x := by
  have e1 : j.val / 256 = h.val := by omega
  have e2 : j.val % 256 = x.val := by omega
  unfold arrQ
  pointwise
  unfold qc
  simp only [e1, e2]
  by_cases hx : x.val < 128
  · rw [dif_pos hx, dif_pos hx]
  · rw [dif_neg hx, dif_neg hx]
    by_cases hy : x.val < 192
    · rw [dif_pos hy, dif_pos (by omega)]
    · rw [dif_neg hy, dif_neg (by omega)]

theorem arrKV_key (A : Args) (q : Fin 2048) (h : Fin 16) (x : Fin 128) (j : Fin 4096) (e : j.val = h.val * 256 + x.val) :
    arrKV A (ix2 q j) = A.kn (ix3 q h x) := by
  have e1 : j.val / 256 = h.val := by omega
  have e2 : j.val % 256 = x.val := by omega
  unfold arrKV
  pointwise
  simp only [e1, e2]
  rw [dif_pos x.isLt]

theorem arrKV_val (A : Args) (q : Fin 2048) (h : Fin 16) (x : Fin 128) (j : Fin 4096) (e : j.val = h.val * 256 + (128 + x.val)) :
    arrKV A (ix2 q j) = A.vv (ix3 q h x) := by
  have e1 : j.val / 256 = h.val := by omega
  have e2 : j.val % 256 = 128 + x.val := by omega
  unfold arrKV
  pointwise
  simp only [e1, e2]
  rw [dif_neg (by omega)]
  simp only [Nat.add_sub_cancel_left]

theorem arrKR_apply (A : Args) (q : Fin 2048) (j : Fin 128) :
    arrKR A (ix2 q j) = if h : j.val < 64 then A.kr (ix2 q ⟨j.val, h⟩) else 0 := by
  unfold arrKR
  pointwise

/-! ## The blocks -/

theorem blk0 (r x : Fin 256) : iblk m c 0 t (ix2 r x) = qc (kargs m c) (hd t) (qpos t r) x := by
  rw [← arrQ_apply (kargs m c) (qpos t r) (hd t) x ⟨t.val / 8 * 256 + x.val, by have := tlt t; omega⟩ rfl, ← V6]
  blk_ext [iblk, idx0 t, qpos]

theorem blk1_key (k : Fin 2048) (x : Fin 128) (hx : x.val < 256) : iblk m c 1 t (ix2 k ⟨x.val, hx⟩) = (kargs m c).kn (ix3 k (hd t) x) := by
  rw [← arrKV_key (kargs m c) k (hd t) x ⟨t.val / 8 * 256 + x.val, by have := tlt t; omega⟩ rfl, ← V8]
  blk_ext [iblk, idx1 t]

theorem blk1_val (k : Fin 2048) (x : Fin 128) (hx : 128 + x.val < 256) :
    iblk m c 1 t (ix2 k ⟨128 + x.val, hx⟩) = (kargs m c).vv (ix3 k (hd t) x) := by
  rw [← arrKV_val (kargs m c) k (hd t) x ⟨t.val / 8 * 256 + (128 + x.val), by have := tlt t; omega⟩ rfl, ← V8]
  blk_ext [iblk, idx1 t]

theorem blk2 (k : Fin 2048) (j : Fin 128) : iblk m c 2 t (ix2 k j) = arrKR (kargs m c) (ix2 k j) := by
  rw [← V9]
  blk_ext [iblk, idx2 t]

theorem blk3 (r : Fin 256) (d : Fin 128) : iblk m c 3 t (ix2 r d) = (kargs m c).go (ix2 (qpos t r) (col (hd t) d)) := by
  rw [← V5]
  blk_ext [iblk, idx3 t, qpos, col, hd]

theorem blk_kc (k : Fin 2048) (x : Fin 256) : kcb (iblk m c 1 t) (iblk m c 2 t) k x = kc (kargs m c) (hd t) k x := by
  unfold kcb kc
  by_cases hx : x.val < 128
  · rw [dif_pos hx, dif_pos hx]
    exact blk1_key m c t k ⟨x.val, hx⟩ x.isLt
  · rw [dif_neg hx, dif_neg hx, blk2, arrKR_apply]
    by_cases hy : x.val < 192
    · rw [dif_pos hy, dif_pos (by dsimp only; omega)]
    · rw [dif_neg hy, dif_neg (by dsimp only; omega)]

/-! ## What a point's tile holds -/

theorem bs_eq (r : Fin 256) : bs (iblk m c 0 t) (iblk m c 1 t) (iblk m c 2 t) r = sc (kargs m c) (hd t) (qpos t r) := by
  funext k
  unfold bs sc
  exact congrArg (· * scl) (Finset.sum_congr rfl fun x _ => congrArg₂ (· * ·) (blk0 m c t r x) (blk_kc m c t k x))

theorem bg_eq (r : Fin 256) : bg (iblk m c 3 t) (iblk m c 1 t) r = gw (kargs m c) (hd t) (qpos t r) := by
  funext k
  unfold bg gw
  exact Finset.sum_congr rfl fun d _ => congrArg₂ (· * ·) (blk3 m c t r d) (blk1_val m c t k d _)

theorem bp_eq (r : Fin 256) (k : Fin 2048) :
    bp (256 * (t.val % 8)) (iblk m c 0 t) (iblk m c 1 t) (iblk m c 2 t) r k = wt (kargs m c) (hd t) (qpos t r) k := by
  unfold bp wt
  rw [bs_eq]
  rfl

theorem bds_eq (r : Fin 256) (k : Fin 2048) :
    bds (256 * (t.val % 8)) (iblk m c 0 t) (iblk m c 1 t) (iblk m c 2 t) (iblk m c 3 t) r k = ds (kargs m c) (hd t) (qpos t r) k := by
  unfold bds ds
  rw [bs_eq, bg_eq]
  rfl

theorem dqT_eq (r x : Fin 256) : dqT (256 * (t.val % 8)) (iblk m c 0 t) (iblk m c 1 t) (iblk m c 2 t) (iblk m c 3 t) r x
    = dq (kargs m c) (hd t) (qpos t r) x := by
  unfold dqT dq
  exact Finset.sum_congr rfl fun k _ => congrArg₂ (· * ·) (bds_eq m c t r k) (blk_kc m c t k x)

theorem dkT_eq (k : Fin 2048) (x : Fin 256) : dkT (256 * (t.val % 8)) (iblk m c 0 t) (iblk m c 1 t) (iblk m c 2 t) (iblk m c 3 t) k x
    = ∑ r, ds (kargs m c) (hd t) (qpos t r) k * qc (kargs m c) (hd t) (qpos t r) x := by
  unfold dkT
  exact Finset.sum_congr rfl fun r _ => congrArg₂ (· * ·) (bds_eq m c t r k) (blk0 m c t r x)

theorem dvT_eq (k : Fin 2048) (d : Fin 128) : dvT (256 * (t.val % 8)) (iblk m c 0 t) (iblk m c 1 t) (iblk m c 2 t) (iblk m c 3 t) k d
    = ∑ r, wt (kargs m c) (hd t) (qpos t r) k * (kargs m c).go (ix2 (qpos t r) (col (hd t) d)) := by
  unfold dvT
  exact Finset.sum_congr rfl fun r _ => congrArg₂ (· * ·) (bp_eq m c t r k) (blk3 m c t r d)
end Attn
-- ==== Proof.Fold.lean ====
/- The fold over the grid: the accumulators hold a head's sums over the query rows met so far, the shared key's gradient
   the heads finished so far; and the three arrays after the run. -/
module

public import proofs.«01_k».proof.Proof.Step
public import proofs.«01_k».proof.Proof.Blocks

@[expose] public section
noncomputable section
namespace Attn
open Idealize.ShloMosaic Idealize.SL.Sem Idealize.ShloMosaic.TcCoe Cert.KernelIdeal Cert.KernelIdeal.Gen Cert.KernelIdeal.Value
open scoped BigOperators

variable (m : (ℓ : Loc nD τ sig) → Buf (Elt Ideal) ℓ) (c : Dev nD) (hA : (kargs m c).Fin)

/-- A query row's share of a key's and of a value's gradient. -/
def fK (A : Args) (h : Fin 16) (k : Fin 2048) (x : Fin 256) (q : Fin 2048) : EReal := ds A h q k * qc A h q x
def fV (A : Args) (h : Fin 16) (k : Fin 2048) (d : Fin 128) (q : Fin 2048) : EReal := wt A h q k * A.go (ix2 q (col h d))

/-- What a point finds: nothing at the first point, what the point before left otherwise. -/
def pre (n : ℕ) (hn : n < cfg0.N) : Vec Ideal S256x256 .f32 × Vec Ideal S2048x256 .f32 × Vec Ideal S2048x128 .f32 × Vec Ideal S2048x256 .f32 × Vec Ideal S2048x128 .f32 :=
  match n, hn with
  | 0, _ => junk0
  | n + 1, hn => outsAt0 m c n (Nat.lt_of_succ_lt hn)

theorem outs_eq (t : Fin cfg0.N) : outsAt0 m c t.val t.isLt = stAt0 m c t.val t.isLt (pre m c t.val t.isLt) := by
  obtain ⟨n, hn⟩ := t
  cases n with
  | zero => exact outsAt0_zero m c hn
  | succ n => rfl

include hA

theorem scored (t : Fin cfg0.N) : Scored m c t := fun r k => by
  rw [bs_eq]
  exact hA.sc (hd t) (qpos t r) k

/-- The keys' accumulator after a point. -/
theorem acc_k : ∀ (n : ℕ) (hn : n < cfg0.N) (k : Fin 2048) (x : Fin 256), (outsAt0 m c n hn).2.2.2.1 (ix2 k x)
    = ∑ j ∈ Finset.range (256 * (n % 8) + 256), ext (fK (kargs m c) (hd ⟨n, hn⟩) k x) j := by
  intro n
  induction n with
  | zero =>
    intro hn k x
    rw [outs_eq m c ⟨0, hn⟩, step_k m c ⟨0, hn⟩ _ (scored m c hA _), dkT_eq, if_pos (Nat.zero_mod 8), sum_ext_add _ _ _ (by decide)]
    rfl
  | succ n ih =>
    intro hn k x
    rw [outs_eq m c ⟨n + 1, hn⟩, step_k m c ⟨n + 1, hn⟩ _ (scored m c hA _), dkT_eq, sum_ext_add _ _ _ (by omega)]
    refine congrArg₂ (· + ·) ?_ rfl
    dsimp only [pre]
    by_cases e : (n + 1) % 8 = 0
    · rw [if_pos e, e]; rfl
    · have e1 : (n + 1) / 8 = n / 8 := by omega
      rw [if_neg e, ih, show 256 * ((n + 1) % 8) = 256 * (n % 8) + 256 by omega]
      simp only [hd, e1]

/-- The values' accumulator after a point. -/
theorem acc_v : ∀ (n : ℕ) (hn : n < cfg0.N) (k : Fin 2048) (x : Fin 128), (outsAt0 m c n hn).2.2.2.2 (ix2 k x)
    = ∑ j ∈ Finset.range (256 * (n % 8) + 256), ext (fV (kargs m c) (hd ⟨n, hn⟩) k x) j := by
  intro n
  induction n with
  | zero =>
    intro hn k x
    rw [outs_eq m c ⟨0, hn⟩, step_v m c ⟨0, hn⟩ _ (scored m c hA _), dvT_eq, if_pos (Nat.zero_mod 8), sum_ext_add _ _ _ (by decide)]
    rfl
  | succ n ih =>
    intro hn k x
    rw [outs_eq m c ⟨n + 1, hn⟩, step_v m c ⟨n + 1, hn⟩ _ (scored m c hA _), dvT_eq, sum_ext_add _ _ _ (by omega)]
    refine congrArg₂ (· + ·) ?_ rfl
    dsimp only [pre]
    by_cases e : (n + 1) % 8 = 0
    · rw [if_pos e, e]; rfl
    · have e1 : (n + 1) / 8 = n / 8 := by omega
      rw [if_neg e, ih, show 256 * ((n + 1) % 8) = 256 * (n % 8) + 256 by omega]
      simp only [hd, e1]

/-- At a head's last query block the accumulators hold the gradients whole. -/
theorem last_k (t : Fin cfg0.N) (e : t.val % 8 = 7) (k : Fin 2048) (x : Fin 256) :
    (outsAt0 m c t.val t.isLt).2.2.2.1 (ix2 k x) = dk (kargs m c) (hd t) k x := by
  rw [acc_k m c hA, e]
  exact sum_ext (fK (kargs m c) (hd t) k x)

theorem last_v (t : Fin cfg0.N) (e : t.val % 8 = 7) (k : Fin 2048) (d : Fin 128) :
    (outsAt0 m c t.val t.isLt).2.2.2.2 (ix2 k d) = dv (kargs m c) (hd t) k d := by
  rw [acc_v m c hA, e]
  exact sum_ext (fV (kargs m c) (hd t) k d)

/-- The shared key's gradient after a point: the heads finished so far. -/
theorem acc_kr : ∀ (n : ℕ) (hn : n < cfg0.N) (k : Fin 2048) (j : Fin 128), (outsAt0 m c n hn).2.2.1 (ix2 k j)
    = ∑ h ∈ Finset.range ((n + 1) / 8), ext (fun h : Fin 16 => dk (kargs m c) h k ⟨128 + j.val, by omega⟩) h := by
  intro n
  induction n with
  | zero =>
    intro hn k j
    rw [outs_eq m c ⟨0, hn⟩, step_kr m c ⟨0, hn⟩ _ (scored m c hA _), if_pos (Nat.zero_mod 128), if_neg (by decide : ¬ 0 % 8 = 7), add_zero]
    rfl
  | succ n ih =>
    intro hn k j
    have hN := tlt ⟨n + 1, hn⟩
    dsimp only at hN
    rw [outs_eq m c ⟨n + 1, hn⟩, step_kr m c ⟨n + 1, hn⟩ _ (scored m c hA _), ← outs_eq m c ⟨n + 1, hn⟩]
    rw [if_neg (by dsimp only; omega)]
    dsimp only [pre]
    rw [ih]
    by_cases e : (n + 1) % 8 = 7
    · rw [if_pos e, last_k m c hA ⟨n + 1, hn⟩ e, show (n + 1 + 1) / 8 = (n + 1) / 8 + 1 by omega, Finset.sum_range_succ]
      refine congrArg _ ?_
      rw [ext, dif_pos (by omega)]
      rfl
    · rw [if_neg e, add_zero, show (n + 1 + 1) / 8 = (n + 1) / 8 by omega]

/-! ## The arrays after the run -/

theorem G4_eq (q : Fin 2048) (J : Fin 4096) : G4 m c (ix2 q J) = oq (kargs m c) q J := by
  have hp : 1 * (q.val / 256 - 0) + 8 * (J.val / 256 - 0) < cfg0.N := lt_of_lt_of_eq (by omega) (show 128 = cfg0.N from N_0.symm)
  let t : Fin cfg0.N := ⟨1 * (q.val / 256 - 0) + 8 * (J.val / 256 - 0), hp⟩
  have e : G4 m c (ix2 q J) = (outsAt0 m c t.val t.isLt).1 (ix2 ⟨q.val % 256, by omega⟩ ⟨J.val % 256, by omega⟩) := by
    rw [outsAt0_sweep]
    exact (dif_pos hp).trans (congrArg _ (by funext a; fin_cases a <;> rfl))
  have e1 : t.val % 8 = q.val / 256 := by show (1 * (q.val / 256 - 0) + 8 * (J.val / 256 - 0)) % 8 = _; omega
  have e2 : t.val / 8 = J.val / 256 := by show (1 * (q.val / 256 - 0) + 8 * (J.val / 256 - 0)) / 8 = _; omega
  have h1 : qpos t ⟨q.val % 256, by omega⟩ = q := Fin.ext (by show 256 * (t.val % 8) + q.val % 256 = q.val; omega)
  have h2 : hd t = ⟨J.val / 256, by omega⟩ := Fin.ext e2
  rw [e, outs_eq, step_q m c t _ (scored m c hA _), dqT_eq, h1, h2]
  rfl

theorem G5_eq (k : Fin 2048) (J : Fin 4096) : G5 m c (ix2 k J) = okv (kargs m c) k J := by
  have hp : 8 * (16 * (k.val / 2048 - 0) + 1 * (J.val / 256 - 0)) + 7 < cfg0.N := lt_of_lt_of_eq (by omega) (show 128 = cfg0.N from N_0.symm)
  let t : Fin cfg0.N := ⟨8 * (16 * (k.val / 2048 - 0) + 1 * (J.val / 256 - 0)) + 7, hp⟩
  have e : G5 m c (ix2 k J) = (outsAt0 m c t.val t.isLt).2.1 (ix2 k ⟨J.val % 256, by omega⟩) := by
    rw [outsAt0_sweep]
    exact (dif_pos hp).trans (congrArg _ (by
      funext a
      fin_cases a
      · exact Fin.ext (Nat.mod_eq_of_lt k.isLt)
      · rfl))
  have e1 : t.val % 8 = 7 := by show (8 * (16 * (k.val / 2048 - 0) + 1 * (J.val / 256 - 0)) + 7) % 8 = _; omega
  have h2 : hd t = ⟨J.val / 256, by omega⟩ := Fin.ext (by
    show (8 * (16 * (k.val / 2048 - 0) + 1 * (J.val / 256 - 0)) + 7) / 8 = J.val / 256; omega)
  rw [e, outs_eq, step_kv m c t _ (scored m c hA _) e1, ← outs_eq]
  unfold okv
  by_cases h : J.val % 256 < 128
  · rw [dif_pos h, dif_pos h, last_k m c hA t e1, h2]
  · rw [dif_neg h, dif_neg h, last_v m c hA t e1, h2]

theorem G6_eq (k : Fin 2048) (j : Fin 128) : G6 m c (ix2 k j) = okr (kargs m c) k j := by
  have hp : 128 * (1 * (k.val / 2048 - 0) + 1 * (j.val / 128 - 0)) + 127 < cfg0.N := lt_of_lt_of_eq (by omega) (show 128 = cfg0.N from N_0.symm)
  let t : Fin cfg0.N := ⟨128 * (1 * (k.val / 2048 - 0) + 1 * (j.val / 128 - 0)) + 127, hp⟩
  have e : G6 m c (ix2 k j) = (outsAt0 m c t.val t.isLt).2.2.1 (ix2 k j) := by
    rw [outsAt0_sweep]
    exact (dif_pos hp).trans (congrArg _ (by
      funext a
      fin_cases a
      · exact Fin.ext (Nat.mod_eq_of_lt k.isLt)
      · exact Fin.ext (Nat.mod_eq_of_lt j.isLt)))
  have e1 : (t.val + 1) / 8 = 16 := by show (128 * (1 * (k.val / 2048 - 0) + 1 * (j.val / 128 - 0)) + 127 + 1) / 8 = _; omega
  rw [e, acc_kr m c hA, e1]
  exact sum_ext (fun h : Fin 16 => dk (kargs m c) h k ⟨128 + j.val, by omega⟩)
end Attn
-- ==== Proof.Pre.lean ====
/- The precondition read: the four arrays the scores are made of hold numbers. -/
module

public import proofs.«01_k».proof.Defs
public import proofs.«01_k».proof.Proof.Blocks
import Idealize.ShloMosaic.Lib.ReduceAll
import Idealize.ShloMosaic.Lib.Pointwise.ShapeOpsCore

@[expose] public section
noncomputable section
namespace Attn
open Idealize.ShloMosaic Idealize.ShloMosaic.TcCoe

/-- The shape facts the predicate states. -/
theorem preFacts : Cert.Pre_finite_scores.Facts where
  bcast_S_S2048x16x128 := by decide
  reducesTo_S2048x16x128_S_d0_1_2 := by decide
  h_S_ := by decide
  bcast_S_S2048x16x64 := by decide
  reducesTo_S2048x16x64_S_d0_1_2 := by decide
  bcast_S_S2048x64 := by decide
  reducesTo_S2048x64_S_d0_1 := by decide

instance : Subsingleton Cert.Pre_finite_scores.S_.Idx := ⟨fun a b => funext fun i => i.elim0⟩

variable (m : (ℓ : Loc Cert.KernelIdeal.nD Cert.KernelIdeal.τ Cert.KernelIdeal.sig) → Buf (Elt Ideal) ℓ) (c : Dev Cert.KernelIdeal.nD)

theorem fin_of_pre (hp : Cert.Pre_KernelIdeal_finite_scores (hPre_finite_scores := preFacts) m) : (kargs m c).Fin := by
  have e := congrFun (hp c) ix0
  unfold Cert.Pre_finite_scores.fn Cert.Pre_finite_scores.fn_part1 at e
  obtain ⟨e, e4⟩ := and_one _ _ e
  obtain ⟨e, e2⟩ := and_one _ _ e
  obtain ⟨e0, e1⟩ := and_one _ _ e
  exact ⟨fun j => num_of_lt (Host.reduce_andi_all _ _ _ _ _ e0 j), fun j => num_of_lt (Host.reduce_andi_all _ _ _ _ _ e1 j),
    fun j => num_of_lt (Host.reduce_andi_all _ _ _ _ _ e2 j), fun j => num_of_lt (Host.reduce_andi_all _ _ _ _ _ e4 j)⟩

end Attn
end
-- ==== Proof.Gate.lean ====
/- The gated product's gradients as the reference writes them, read entry by entry; the logistic function of the gate; and the
   two ways of writing the gate's derivative. -/
module

public import proofs.«01_k».proof.Proof.Ideals
public import proofs.«01_k».proof.Proof.Gen.DownDxRefIdeal.Run

@[expose] public section
noncomputable section
namespace DownDx
open Idealize.ShloMosaic Idealize.SL.Sem Idealize.ShloMosaic.TcCoe Attn
open scoped BigOperators

/-! ## The gate -/

/-- The derivative of the gated value over its gate, times a number: gathered and spread. -/
theorem gate_eq {a : EReal} (ha : Num a) (x : EReal) :
    a * (Ideal.logistic x * (1 + x * (1 - Ideal.logistic x))) = a * Ideal.logistic x + x * a * (Ideal.logistic x * (1 - Ideal.logistic x)) := by
  obtain ⟨r, rfl⟩ := ha
  induction x using EReal.rec with
  | bot => simp
  | top =>
    have h : (1 : EReal) - 1 = 0 := by rw [← EReal.coe_one, ← EReal.coe_sub, sub_self, EReal.coe_zero]
    rw [Ideal.logistic_top, h]
    simp
  | coe x =>
    rw [Ideal.logistic_coe]
    norm_cast
    ring

/-! ## The reference -/

section
open Cert.DownDxRefIdeal Cert.DownDxRefIdeal.Gen

variable (a : FVec Ideal S2048x2048 .f32) (w : FVec Ideal S5632x2048 .f32) (g u : FVec Ideal S2048x5632 .f32)

/-- The reference's logistic function of the gate and its product with the incoming gradient. -/
def sg : FVec Ideal S2048x5632 .f32 := Host.divf (broadcastInDim S2048x5632 ![] bcast_S_S2048x5632 (constant (F := Ideal) S_ .f32 0x3F800000#32)) (addf (broadcastInDim S2048x5632 ![] bcast_S_S2048x5632 (constant (F := Ideal) S_ .f32 0x3F800000#32)) (Host.exp (Host.negf g)))
def dot : FVec Ideal S2048x5632 .f32 := Host.dotGeneral dot_S2048x2048_S5632x2048_S2048x5632_1_1_0_0_n_n none a w

/-- Its two results. -/
def rg : FVec Ideal S2048x5632 .bf16 := truncf .bf16 (addf (mulf (mulf (dot a w) u) (sg g)) (mulf (mulf g (mulf (dot a w) u)) (mulf (sg g) (subf (broadcastInDim S2048x5632 ![] bcast_S_S2048x5632 (constant (F := Ideal) S_ .f32 0x3F800000#32)) (sg g))))) bitsLt_bf16_f32
def ru : FVec Ideal S2048x5632 .bf16 := truncf .bf16 (mulf (mulf g (sg g)) (dot a w)) bitsLt_bf16_f32

theorem sg_apply (i : Fin 2048) (n : Fin 5632) : sg g (ix2 i n) = Ideal.logistic (g (ix2 i n)) := by
  unfold sg
  pointwise
  simp only [Ideal.logistic]

theorem dot_apply (i : Fin 2048) (n : Fin 5632) : dot a w (ix2 i n) = ∑ x : Fin 2048, a (ix2 i x) * w (ix2 n x) := by
  unfold dot
  pointwise

theorem rg_apply (i : Fin 2048) (n : Fin 5632) : rg a w g u (ix2 i n) = dot a w (ix2 i n) * u (ix2 i n) * Ideal.logistic (g (ix2 i n))
    + g (ix2 i n) * (dot a w (ix2 i n) * u (ix2 i n)) * (Ideal.logistic (g (ix2 i n)) * (1 - Ideal.logistic (g (ix2 i n)))) := by
  rw [← sg_apply]
  unfold rg
  pointwise

theorem ru_apply (i : Fin 2048) (n : Fin 5632) : ru a w g (ix2 i n) = g (ix2 i n) * Ideal.logistic (g (ix2 i n)) * dot a w (ix2 i n) := by
  rw [← sg_apply]
  unfold ru
  pointwise
end
end DownDx
end
-- ==== Proof.DownDx.lean ====
/- The gated product's gradients: the accumulated tiles are the incoming gradient times the weight whole, and the two ways of
   writing the gate's derivative agree where what it multiplies is a number. -/
module

public import proofs.«01_k».proof.Defs
public import proofs.«01_k».proof.Proof.Gate
public import proofs.«01_k».proof.Proof.Gen.DownDxIdeal.Value
public import Idealize.ShloMosaic.Lib.Pipeline.ValueKit
import Idealize.ShloMosaic.Lib.ReduceAll

@[expose] public section
noncomputable section
namespace DownDx
open Idealize.ShloMosaic Idealize.SL.Sem Idealize.ShloMosaic.TcCoe Cert.DownDxIdeal Cert.DownDxIdeal.Gen Cert.DownDxIdeal.Value Attn
open scoped BigOperators

/-! ## One grid point -/

/-- A tile of the incoming gradient times a tile of the weight. -/
def tile (a : FVec Ideal S512x1024 .f32) (b : FVec Ideal S1x1408x1024 .bf16) (r : Fin 512) (n : Fin 1408) : EReal :=
  ∑ x : Fin 1024, a (ix2 r x) * b (ix3 0 n x)

theorem pay1_apply (r : Fin 512) (n : Fin 1408) : k0_pay1 (F := Ideal) (ix2 r n) = 0 := by unfold k0_pay1; pointwise

theorem pay2_apply (a : FVec Ideal S512x1024 .f32) (b : FVec Ideal S1x1408x1024 .bf16) (s : FVec Ideal S512x1408 .f32) (r : Fin 512) (n : Fin 1408) :
    k0_pay2 a b s (ix2 r n) = s (ix2 r n) + tile a b r n := by
  unfold k0_pay2 tile
  pointwise

theorem pay3_apply (s g u : FVec Ideal S512x1408 .f32) (r : Fin 512) (n : Fin 1408) : (k0_pay3 (F := Ideal) s g u (ix2 r n) : EReal)
    = s (ix2 r n) * u (ix2 r n) * (Ideal.logistic (g (ix2 r n)) * (1 + g (ix2 r n) * (1 - Ideal.logistic (g (ix2 r n))))) := by
  unfold k0_pay3
  pointwise
  simp only [Ideal.logistic, zero_sub]

theorem pay4_apply (s g : FVec Ideal S512x1408 .f32) (r : Fin 512) (n : Fin 1408) : (k0_pay4 (F := Ideal) s g (ix2 r n) : EReal)
    = s (ix2 r n) * (g (ix2 r n) * Ideal.logistic (g (ix2 r n))) := by
  unfold k0_pay4
  pointwise
  simp only [Ideal.logistic, zero_sub]

section Cases
variable (dev : Dev nD) (i : grid0.Coords) (arg3 : Memref sig .tc .vmem S512x1024 .f32) (harg3 : arg3.IsWhole) (arg4 : Memref sig .tc .vmem S1x1408x1024 .bf16) (harg4 : arg4.IsWhole) (arg5 : Memref sig .tc .vmem S512x1408 .f32) (harg5 : arg5.IsWhole) (arg6 : Memref sig .tc .vmem S512x1408 .f32) (harg6 : arg6.IsWhole) (arg7 : Memref sig .tc .vmem S512x1408 .bf16) (harg7 : arg7.IsWhole) (arg8 : Memref sig .tc .vmem S512x1408 .bf16) (harg8 : arg8.IsWhole) (arg9 : Memref sig .tc .vmem S512x1408 .f32) (harg9 : arg9.IsWhole)
  (x0 : Vec Ideal S512x1024 .f32) (x1 : Vec Ideal S1x1408x1024 .bf16) (x2 x3 s : Vec Ideal S512x1408 .f32)

theorem s_A (h0 : cond0_0 i) (h1 : ¬cond0_1 i) : sout0_A_0 dev i arg3 harg3 arg4 harg4 arg5 harg5 arg6 harg6 arg7 harg7 arg8 harg8 arg9 harg9 h0 h1 x0 x1 x2 x3
    = k0_pay2 x0 x1 (k0_pay1 (F := Ideal)) := by frame_out

theorem g_B (h0 : ¬cond0_0 i) (h1 : cond0_1 i) : out0_B_4 dev i arg3 harg3 arg4 harg4 arg5 harg5 arg6 harg6 arg7 harg7 arg8 harg8 arg9 harg9 h0 h1 x0 x1 x2 x3 s
    = k0_pay3 (k0_pay2 x0 x1 s) x2 x3 := by frame_out

theorem u_B (h0 : ¬cond0_0 i) (h1 : cond0_1 i) : out0_B_5 dev i arg3 harg3 arg4 harg4 arg5 harg5 arg6 harg6 arg7 harg7 arg8 harg8 arg9 harg9 h0 h1 x0 x1 x2 x3 s
    = k0_pay4 (k0_pay2 x0 x1 s) x2 := by frame_out
end Cases

/-! ## The blocks -/

variable (m : (ℓ : Loc nD τ sig) → Buf (Elt Ideal) ℓ) (c : Dev nD) (t : Fin cfg0.N)

/-- The incoming gradient, the weight, and the two factors of the gated product. -/
abbrev dy : FVec Ideal S2048x2048 .f32 := m ((c.tc : Thread nD τ).loc main_arg0)
abbrev wd : FVec Ideal S5632x2048 .f32 := m ((c.tc : Thread nD τ).loc main_arg1)
abbrev gate : FVec Ideal S2048x5632 .f32 := m ((c.tc : Thread nD τ).loc main_arg2)
abbrev up : FVec Ideal S2048x5632 .f32 := m ((c.tc : Thread nD τ).loc main_arg3)

/-- The weight as the kernel reads it: its columns in two halves. -/
def halves (w : FVec Ideal S5632x2048 .f32) : FVec Ideal S2x5632x1024 .bf16 :=
  transpose S2x5632x1024 [1, 0, 2] (shapeCast S5632x2x1024 (truncf .bf16 w bitsLt_bf16_f32) shapeCasts_S5632x2048_S5632x2x1024) transposes_S5632x2x1024_S2x5632x1024_1_0_2

theorem V2 : V m c main_v2 = halves (wd m c) := rfl

theorem halves_apply (w : FVec Ideal S5632x2048 .f32) (h : Fin 2) (f : Fin 5632) (n : Fin 1024) :
    halves w (ix3 h f n) = w (ix2 f ⟨h.val * 1024 + n.val, by omega⟩) := by
  unfold halves
  pointwise

theorem idx0 : ∀ t : Fin cfg0.N, win0_0.index t = ![t.val / 8, t.val % 2] := (by decide +kernel : ∀ t : Fin grid0.N, _)
theorem idx1 : ∀ t : Fin cfg0.N, win0_1.index t = ![t.val % 2, t.val / 2 % 4, 0] := (by decide +kernel : ∀ t : Fin grid0.N, _)
theorem idx2 : ∀ t : Fin cfg0.N, win0_2.index t = ![t.val / 8, t.val / 2 % 4] := (by decide +kernel : ∀ t : Fin grid0.N, _)
theorem idx3 : ∀ t : Fin cfg0.N, win0_3.index t = ![t.val / 8, t.val / 2 % 4] := (by decide +kernel : ∀ t : Fin grid0.N, _)

theorem tlt : t.val < 32 := lt_of_lt_of_eq t.isLt (show cfg0.N = 32 from N_0)

/-- The row, the column and the summand a point's entries stand at. -/
def row (r : Fin 512) : Fin 2048 := ⟨t.val / 8 * 512 + r.val, by have := tlt t; omega⟩
def coln (n : Fin 1408) : Fin 5632 := ⟨t.val / 2 % 4 * 1408 + n.val, by omega⟩
def mid (x : Fin 1024) : Fin 2048 := ⟨t.val % 2 * 1024 + x.val, by omega⟩

theorem blk0 (r : Fin 512) (x : Fin 1024) : iblk m c 0 t (ix2 r x) = dy m c (ix2 (row t r) (mid t x)) := by
  rw [show dy m c (ix2 (row t r) (mid t x)) = V m c main_arg0 (ix2 (row t r) (mid t x)) from rfl]
  blk_ext [iblk, idx0 t, row, mid]

theorem blk1 (n : Fin 1408) (x : Fin 1024) : iblk m c 1 t (ix3 0 n x) = wd m c (ix2 (coln t n) (mid t x)) := by
  refine Eq.trans ?_ (halves_apply (wd m c) ⟨t.val % 2, by omega⟩ (coln t n) x)
  rw [← V2]
  blk_ext [iblk, idx1 t, coln]

theorem blk2 (r : Fin 512) (n : Fin 1408) : iblk m c 2 t (ix2 r n) = gate m c (ix2 (row t r) (coln t n)) := by
  rw [show gate m c (ix2 (row t r) (coln t n)) = V m c main_arg2 (ix2 (row t r) (coln t n)) from rfl]
  blk_ext [iblk, idx2 t, row, coln]

theorem blk3 (r : Fin 512) (n : Fin 1408) : iblk m c 3 t (ix2 r n) = up m c (ix2 (row t r) (coln t n)) := by
  rw [show up m c (ix2 (row t r) (coln t n)) = V m c main_arg3 (ix2 (row t r) (coln t n)) from rfl]
  blk_ext [iblk, idx3 t, row, coln]

/-! ## The fold -/

/-- A summand of the gated product's gradient, and that gradient. -/
def f (i : Fin 2048) (n : Fin 5632) (x : Fin 2048) : EReal := dy m c (ix2 i x) * wd m c (ix2 n x)
def da (i : Fin 2048) (n : Fin 5632) : EReal := ∑ x, f m c i n x

theorem tile_eq (r : Fin 512) (n : Fin 1408) : tile (iblk m c 0 t) (iblk m c 1 t) r n = ∑ x : Fin 1024, f m c (row t r) (coln t n) (mid t x) :=
  Finset.sum_congr rfl fun x _ => congrArg₂ (· * ·) (blk0 m c t r x) (blk1 m c t n x)

/-- The accumulator after the first half of the sum. -/
theorem first (e : t.val % 2 = 0) (r : Fin 512) (n : Fin 1408) : (outsAt0 m c t.val t.isLt).2.2 (ix2 r n)
    = ∑ j ∈ Finset.range 1024, ext (f m c (row t r) (coln t n)) j := by
  rw [outsAt0_A m c t e (by omega)]
  dsimp only
  rw [s_A, pay2_apply, pay1_apply, tile_eq]
  refine Eq.trans ?_ (sum_ext_add (f m c (row t r) (coln t n)) 0 1024 (by decide)).symm
  simp only [mid, e, Nat.zero_mul]
  simp

/-- The accumulator with the second half added. -/
theorem whole (e : t.val % 2 = 1) (r : Fin 512) (n : Fin 1408) :
    k0_pay2 (iblk m c 0 t) (iblk m c 1 t) (outsAt0 m c (t.val - 1) (Nat.lt_of_le_of_lt (Nat.sub_le _ _) t.isLt)).2.2 (ix2 r n)
      = da m c (row t r) (coln t n) := by
  let t' : Fin cfg0.N := ⟨t.val - 1, Nat.lt_of_le_of_lt (Nat.sub_le _ _) t.isLt⟩
  have hr : row t' r = row t r := Fin.ext (by show (t.val - 1) / 8 * 512 + _ = _ / 8 * 512 + _; congr 2; omega)
  have hc : coln t' n = coln t n := Fin.ext (by show (t.val - 1) / 2 % 4 * 1408 + _ = _ / 2 % 4 * 1408 + _; congr 3; omega)
  have h := first m c t' (by show (t.val - 1) % 2 = 0; omega) r n
  rw [hr, hc] at h
  refine (pay2_apply _ _ _ r n).trans ((congrArg₂ (· + ·) h (tile_eq m c t r n)).trans ?_)
  rw [da, ← sum_ext (f m c (row t r) (coln t n)), sum_ext_add _ 1024 1024 (by decide)]
  simp only [mid, e, Nat.one_mul]

/-- What is written back at the end of a run: the gate's gradient and the up branch's. -/
def dgate (i : Fin 2048) (n : Fin 5632) : EReal := da m c i n * up m c (ix2 i n)
  * (Ideal.logistic (gate m c (ix2 i n)) * (1 + gate m c (ix2 i n) * (1 - Ideal.logistic (gate m c (ix2 i n)))))
def dup (i : Fin 2048) (n : Fin 5632) : EReal := da m c i n * (gate m c (ix2 i n) * Ideal.logistic (gate m c (ix2 i n)))

theorem last_g (e : t.val % 2 = 1) (r : Fin 512) (n : Fin 1408) : (outsAt0 m c t.val t.isLt).1 (ix2 r n) = dgate m c (row t r) (coln t n) := by
  rw [outsAt0_B m c t (by omega) e]
  dsimp only
  rw [g_B, pay3_apply, whole m c t e, blk2, blk3]
  rfl

theorem last_u (e : t.val % 2 = 1) (r : Fin 512) (n : Fin 1408) : (outsAt0 m c t.val t.isLt).2.1 (ix2 r n) = dup m c (row t r) (coln t n) := by
  rw [outsAt0_B m c t (by omega) e]
  dsimp only
  rw [u_B, pay4_apply, whole m c t e, blk2]
  rfl

/-- The point that writes an entry back. -/
def pt (i : Fin 2048) (n : Fin 5632) : Fin cfg0.N := ⟨2 * (4 * (i.val / 512 - 0) + 1 * (n.val / 1408 - 0)) + 1, lt_of_lt_of_eq (by omega) (show 32 = cfg0.N from N_0.symm)⟩

theorem pt_last (i : Fin 2048) (n : Fin 5632) : (pt i n).val % 2 = 1 := by
  show (2 * (4 * (i.val / 512 - 0) + 1 * (n.val / 1408 - 0)) + 1) % 2 = 1; omega
theorem pt_row (i : Fin 2048) (n : Fin 5632) : row (pt i n) ⟨i.val % 512, by omega⟩ = i := Fin.ext (by
  show (2 * (4 * (i.val / 512 - 0) + 1 * (n.val / 1408 - 0)) + 1) / 8 * 512 + i.val % 512 = i.val; omega)
theorem pt_coln (i : Fin 2048) (n : Fin 5632) : coln (pt i n) ⟨n.val % 1408, by omega⟩ = n := Fin.ext (by
  show (2 * (4 * (i.val / 512 - 0) + 1 * (n.val / 1408 - 0)) + 1) / 2 % 4 * 1408 + n.val % 1408 = n.val; omega)

theorem G4_eq (i : Fin 2048) (n : Fin 5632) : G4 m c (ix2 i n) = dgate m c i n := by
  have e : G4 m c (ix2 i n) = (outsAt0 m c (pt i n).val (pt i n).isLt).1 (ix2 ⟨i.val % 512, by omega⟩ ⟨n.val % 1408, by omega⟩) := by
    rw [outsAt0_sweep]
    exact (dif_pos (pt i n).isLt).trans (congrArg _ (by funext a; fin_cases a <;> rfl))
  rw [e, last_g m c _ (pt_last i n), pt_row, pt_coln]

theorem G5_eq (i : Fin 2048) (n : Fin 5632) : G5 m c (ix2 i n) = dup m c i n := by
  have e : G5 m c (ix2 i n) = (outsAt0 m c (pt i n).val (pt i n).isLt).2.1 (ix2 ⟨i.val % 512, by omega⟩ ⟨n.val % 1408, by omega⟩) := by
    rw [outsAt0_sweep]
    exact (dif_pos (pt i n).isLt).trans (congrArg _ (by funext a; fin_cases a <;> rfl))
  rw [e, last_u m c _ (pt_last i n), pt_row, pt_coln]

/-! ## The precondition -/

theorem num_mul {a b : EReal} : Num a → Num b → Num (a * b) := by
  rintro ⟨r, rfl⟩ ⟨s, rfl⟩
  exact ⟨r * s, (EReal.coe_mul r s).symm⟩

theorem num_sum {ι : Type} (s : Finset ι) (f : ι → EReal) (h : ∀ i, Num (f i)) : Num (∑ i ∈ s, f i) := by
  choose g hg using h
  exact ⟨∑ i ∈ s, g i, by rw [Finset.sum_congr rfl fun i _ => hg i]; exact (map_sum (⟨⟨Real.toEReal, EReal.coe_zero⟩, EReal.coe_add⟩ : ℝ →+ EReal) g s).symm⟩

/-- The shape facts the predicate states. -/
theorem preFacts : Cert.Pre_finite_down.Facts where
  bcast_S_S2048x2048 := by decide
  reducesTo_S2048x2048_S_d0_1 := by decide
  h_S_ := by decide
  bcast_S_S5632x2048 := by decide
  reducesTo_S5632x2048_S_d0_1 := by decide
  bcast_S_S2048x5632 := by decide
  reducesTo_S2048x5632_S_d0_1 := by decide

instance : Subsingleton Cert.Pre_finite_down.S_.Idx := ⟨fun a b => funext fun i => i.elim0⟩

theorem num_of_pre (hp : Cert.Pre_DownDxIdeal_finite_down (hPre_finite_down := preFacts) m) (i : Fin 2048) (n : Fin 5632) :
    Num (da m c i n * up m c (ix2 i n)) := by
  have e := congrFun (hp c) ix0
  unfold Cert.Pre_finite_down.fn at e
  obtain ⟨e, e3⟩ := and_one _ _ e
  obtain ⟨e0, e1⟩ := and_one _ _ e
  have h0 (j) : Num (dy m c j) := num_of_lt (Host.reduce_andi_all _ _ _ _ _ e0 j)
  have h1 (j) : Num (wd m c j) := num_of_lt (Host.reduce_andi_all _ _ _ _ _ e1 j)
  have h3 (j) : Num (up m c j) := num_of_lt (Host.reduce_andi_all _ _ _ _ _ e3 j)
  exact num_mul (num_sum _ _ fun x => num_mul (h0 _) (h1 _)) (h3 _)
end DownDx
end
-- ==== Proof.UpDx.lean ====
/- The feed-forward input's gradient: the accumulated tiles of the two products are the products whole. -/
module

public import proofs.«01_k».proof.Proof.Ideals
public import proofs.«01_k».proof.Proof.Gen.UpDxIdeal.Value
public import proofs.«01_k».proof.Proof.Gen.UpDxRefIdeal.Run
public import Idealize.ShloMosaic.Lib.Pipeline.ValueKit

@[expose] public section
noncomputable section
namespace UpDx
open Idealize.ShloMosaic Idealize.SL.Sem Idealize.ShloMosaic.TcCoe Cert.UpDxIdeal Cert.UpDxIdeal.Gen Cert.UpDxIdeal.Value Attn
open scoped BigOperators

/-! ## One grid point -/

/-- A tile of the first operand times a tile of the second. -/
def tile (a : FVec Ideal S1024x512 .bf16) (b : FVec Ideal S1x512x1024 .bf16) (r n : Fin 1024) : EReal :=
  ∑ x : Fin 512, a (ix2 r x) * b (ix3 0 x n)

theorem pay1_apply (r n : Fin 1024) : k0_pay1 (F := Ideal) (ix2 r n) = 0 := by unfold k0_pay1; pointwise

theorem pay2_apply (a : FVec Ideal S1024x512 .bf16) (b : FVec Ideal S1x512x1024 .bf16) (s : FVec Ideal S1024x1024 .f32) (r n : Fin 1024) :
    k0_pay2 a b s (ix2 r n) = s (ix2 r n) + tile a b r n := by
  unfold k0_pay2 tile
  pointwise

theorem pay3_apply (a : FVec Ideal S1024x512 .bf16) (b : FVec Ideal S1x512x1024 .bf16) (s : FVec Ideal S1024x1024 .f32) (r n : Fin 1024) :
    k0_pay3 a b s (ix2 r n) = s (ix2 r n) + tile a b r n := by
  unfold k0_pay3 tile
  pointwise

section Cases
variable (dev : Dev nD) (i : grid0.Coords) (arg3 : Memref sig .tc .vmem S1024x512 .bf16) (harg3 : arg3.IsWhole) (arg4 : Memref sig .tc .vmem S1x512x1024 .bf16) (harg4 : arg4.IsWhole) (arg5 : Memref sig .tc .vmem S1024x512 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1024x1024 .f32) (harg8 : arg8.IsWhole)
  (x0 : Vec Ideal S1024x512 .bf16) (x1 : Vec Ideal S1x512x1024 .bf16) (x2 : Vec Ideal S1024x512 .bf16) (x3 : Vec Ideal S1x512x1024 .bf16) (s : Vec Ideal S1024x1024 .f32)

theorem s_A (h0 : cond0_0 i) (h1 : ¬cond0_1 i) : sout0_A_0 dev i arg3 harg3 arg4 harg4 arg5 harg5 arg6 harg6 arg7 harg7 arg8 harg8 h0 h1 x0 x1 x2 x3
    = k0_pay3 x2 x3 (k0_pay2 x0 x1 (k0_pay1 (F := Ideal))) := by frame_out

theorem s_B (h0 : ¬cond0_0 i) (h1 : ¬cond0_1 i) : sout0_B_0 dev i arg3 harg3 arg4 harg4 arg5 harg5 arg6 harg6 arg7 harg7 arg8 harg8 h0 h1 x0 x1 x2 x3 s
    = k0_pay3 x2 x3 (k0_pay2 x0 x1 s) := by frame_out

theorem s_C (h0 : ¬cond0_0 i) (h1 : cond0_1 i) : sout0_C_0 dev i arg3 harg3 arg4 harg4 arg5 harg5 arg6 harg6 arg7 harg7 arg8 harg8 h0 h1 x0 x1 x2 x3 s
    = k0_pay3 x2 x3 (k0_pay2 x0 x1 s) := by frame_out

theorem o_C (h0 : ¬cond0_0 i) (h1 : cond0_1 i) : out0_C_4 dev i arg3 harg3 arg4 harg4 arg5 harg5 arg6 harg6 arg7 harg7 arg8 harg8 h0 h1 x0 x1 x2 x3 s
    = k0_pay3 x2 x3 (k0_pay2 x0 x1 s) := by frame_out
end Cases

/-! ## The blocks -/

variable (m : (ℓ : Loc nD τ sig) → Buf (Elt Ideal) ℓ) (c : Dev nD) (t : Fin cfg0.N)

/-- The two gradients coming in and the two weights. -/
abbrev g0 : FVec Ideal S2048x5632 .f32 := m ((c.tc : Thread nD τ).loc main_arg0)
abbrev g1 : FVec Ideal S2048x5632 .f32 := m ((c.tc : Thread nD τ).loc main_arg1)
abbrev w0 : FVec Ideal S2048x5632 .f32 := m ((c.tc : Thread nD τ).loc main_arg2)
abbrev w1 : FVec Ideal S2048x5632 .f32 := m ((c.tc : Thread nD τ).loc main_arg3)

/-- A weight as the kernel reads it: transposed, its columns in two halves. -/
def halves (w : FVec Ideal S2048x5632 .f32) : FVec Ideal S2x5632x1024 .bf16 :=
  transpose S2x5632x1024 [1, 0, 2] (shapeCast S5632x2x1024 (truncf .bf16 (transpose S5632x2048 [1, 0] w transposes_S2048x5632_S5632x2048_1_0) bitsLt_bf16_f32)
    shapeCasts_S5632x2048_S5632x2x1024) transposes_S5632x2x1024_S2x5632x1024_1_0_2

theorem V3 : V m c main_v3 = halves (w0 m c) := rfl
theorem V7 : V m c main_v7 = halves (w1 m c) := rfl
theorem V8 : V m c main_v8 = truncf .bf16 (g0 m c) bitsLt_bf16_f32 := rfl
theorem V9 : V m c main_v9 = truncf .bf16 (g1 m c) bitsLt_bf16_f32 := rfl

theorem halves_apply (w : FVec Ideal S2048x5632 .f32) (h : Fin 2) (f : Fin 5632) (n : Fin 1024) :
    halves w (ix3 h f n) = w (ix2 ⟨h.val * 1024 + n.val, by omega⟩ f) := by
  unfold halves
  pointwise

theorem idx0 : ∀ t : Fin cfg0.N, win0_0.index t = ![t.val / 22, t.val % 11] := (by decide +kernel : ∀ t : Fin grid0.N, _)
theorem idx1 : ∀ t : Fin cfg0.N, win0_1.index t = ![t.val / 11 % 2, t.val % 11, 0] := (by decide +kernel : ∀ t : Fin grid0.N, _)
theorem idx2 : ∀ t : Fin cfg0.N, win0_2.index t = ![t.val / 22, t.val % 11] := (by decide +kernel : ∀ t : Fin grid0.N, _)
theorem idx3 : ∀ t : Fin cfg0.N, win0_3.index t = ![t.val / 11 % 2, t.val % 11, 0] := (by decide +kernel : ∀ t : Fin grid0.N, _)

theorem tlt : t.val < 44 := lt_of_lt_of_eq t.isLt (show cfg0.N = 44 from N_0)

/-- The row, the column and the summand a point's entries stand at. -/
def row (r : Fin 1024) : Fin 2048 := ⟨t.val / 22 * 1024 + r.val, by have := tlt t; omega⟩
def coln (n : Fin 1024) : Fin 2048 := ⟨t.val / 11 % 2 * 1024 + n.val, by omega⟩
def mid (x : Fin 512) : Fin 5632 := ⟨512 * (t.val % 11) + x.val, by omega⟩

theorem blk0 (r : Fin 1024) (x : Fin 512) : iblk m c 0 t (ix2 r x) = g0 m c (ix2 (row t r) (mid t x)) := by
  rw [show g0 m c (ix2 (row t r) (mid t x)) = V m c main_v8 (ix2 (row t r) (mid t x)) from rfl]
  blk_ext [iblk, idx0 t, row, mid]

theorem blk2 (r : Fin 1024) (x : Fin 512) : iblk m c 2 t (ix2 r x) = g1 m c (ix2 (row t r) (mid t x)) := by
  rw [show g1 m c (ix2 (row t r) (mid t x)) = V m c main_v9 (ix2 (row t r) (mid t x)) from rfl]
  blk_ext [iblk, idx2 t, row, mid]

theorem blk1 (x : Fin 512) (n : Fin 1024) : iblk m c 1 t (ix3 0 x n) = w0 m c (ix2 (coln t n) (mid t x)) := by
  refine Eq.trans ?_ (halves_apply (w0 m c) ⟨t.val / 11 % 2, by omega⟩ (mid t x) n)
  rw [← V3]
  blk_ext [iblk, idx1 t, mid]

theorem blk3 (x : Fin 512) (n : Fin 1024) : iblk m c 3 t (ix3 0 x n) = w1 m c (ix2 (coln t n) (mid t x)) := by
  refine Eq.trans ?_ (halves_apply (w1 m c) ⟨t.val / 11 % 2, by omega⟩ (mid t x) n)
  rw [← V7]
  blk_ext [iblk, idx3 t, mid]

/-! ## The fold -/

/-- A summand of an entry of each product. -/
def f0 (i n : Fin 2048) (x : Fin 5632) : EReal := g0 m c (ix2 i x) * w0 m c (ix2 n x)
def f1 (i n : Fin 2048) (x : Fin 5632) : EReal := g1 m c (ix2 i x) * w1 m c (ix2 n x)

theorem tile0 (r n : Fin 1024) : tile (iblk m c 0 t) (iblk m c 1 t) r n = ∑ x : Fin 512, f0 m c (row t r) (coln t n) (mid t x) :=
  Finset.sum_congr rfl fun x _ => congrArg₂ (· * ·) (blk0 m c t r x) (blk1 m c t x n)
theorem tile1 (r n : Fin 1024) : tile (iblk m c 2 t) (iblk m c 3 t) r n = ∑ x : Fin 512, f1 m c (row t r) (coln t n) (mid t x) :=
  Finset.sum_congr rfl fun x _ => congrArg₂ (· * ·) (blk2 m c t r x) (blk3 m c t x n)

/-- What a point adds to the accumulator, over what it finds there. -/
theorem both (s : FVec Ideal S1024x1024 .f32) (r n : Fin 1024) :
    k0_pay3 (iblk m c 2 t) (iblk m c 3 t) (k0_pay2 (iblk m c 0 t) (iblk m c 1 t) s) (ix2 r n)
      = s (ix2 r n) + (∑ x : Fin 512, f0 m c (row t r) (coln t n) (mid t x)) + ∑ x : Fin 512, f1 m c (row t r) (coln t n) (mid t x) := by
  rw [pay3_apply, pay2_apply, tile0, tile1]

/-- The accumulator after a point: the summands met so far of both products. -/
theorem acc : ∀ (k : ℕ) (t : Fin cfg0.N), t.val % 11 = k → ∀ r n : Fin 1024, (outsAt0 m c t.val t.isLt).2 (ix2 r n)
    = (∑ j ∈ Finset.range (512 * k + 512), ext (f0 m c (row t r) (coln t n)) j) + ∑ j ∈ Finset.range (512 * k + 512), ext (f1 m c (row t r) (coln t n)) j := by
  intro k
  induction k with
  | zero =>
    intro t e r n
    rw [outsAt0_A m c t e (by omega)]
    dsimp only
    rw [s_A, both, pay1_apply, zero_add, sum_ext_add _ _ _ (by decide), sum_ext_add _ _ _ (by decide)]
    simp only [mid, e]
    simp
  | succ k ih =>
    intro t e r n
    have hk : k + 1 < 11 := e ▸ Nat.mod_lt _ (by decide)
    let t' : Fin cfg0.N := ⟨t.val - 1, Nat.lt_of_le_of_lt (Nat.sub_le _ _) t.isLt⟩
    have e1 : t'.val % 11 = k := by show (t.val - 1) % 11 = k; omega
    have hr : row t' r = row t r := Fin.ext (by show (t.val - 1) / 22 * 1024 + _ = _ / 22 * 1024 + _; congr 2; omega)
    have hc : coln t' n = coln t n := Fin.ext (by show (t.val - 1) / 11 % 2 * 1024 + _ = _ / 11 % 2 * 1024 + _; congr 3; omega)
    have step : (outsAt0 m c t.val t.isLt).2 (ix2 r n) = (outsAt0 m c t'.val t'.isLt).2 (ix2 r n)
        + (∑ x : Fin 512, f0 m c (row t r) (coln t n) (mid t x)) + ∑ x : Fin 512, f1 m c (row t r) (coln t n) (mid t x) := by
      by_cases h : t.val % 11 = 10
      · rw [outsAt0_C m c t (by omega) h]
        dsimp only
        rw [s_C, both]
      · rw [outsAt0_B m c t (by omega) h]
        dsimp only
        rw [s_B, both]
    rw [step, ih t' e1, hr, hc, sum_ext_add _ (512 * (k + 1)) _ (by omega), sum_ext_add _ (512 * (k + 1)) _ (by omega)]
    simp only [mid, e, Nat.mul_succ]
    abel

/-- At a run's last point the result holds both products' sums whole. -/
theorem last (t : Fin cfg0.N) (e : t.val % 11 = 10) (r n : Fin 1024) : (outsAt0 m c t.val t.isLt).1 (ix2 r n)
    = (∑ x, f0 m c (row t r) (coln t n) x) + ∑ x, f1 m c (row t r) (coln t n) x := by
  have h : (outsAt0 m c t.val t.isLt).1 = (outsAt0 m c t.val t.isLt).2 := by
    rw [outsAt0_C m c t (by omega) e]
    dsimp only
    rw [s_C, o_C]
  rw [h, acc m c 10 t e]
  exact congrArg₂ (· + ·) (sum_ext _) (sum_ext _)

theorem G4_eq (i n : Fin 2048) : G4 m c (ix2 i n) = (∑ x, f0 m c i n x) + ∑ x, f1 m c i n x := by
  have hp : 11 * (2 * (i.val / 1024 - 0) + 1 * (n.val / 1024 - 0)) + 10 < cfg0.N := lt_of_lt_of_eq (by omega) (show 44 = cfg0.N from N_0.symm)
  let t : Fin cfg0.N := ⟨11 * (2 * (i.val / 1024 - 0) + 1 * (n.val / 1024 - 0)) + 10, hp⟩
  have e : G4 m c (ix2 i n) = (outsAt0 m c t.val t.isLt).1 (ix2 ⟨i.val % 1024, by omega⟩ ⟨n.val % 1024, by omega⟩) := by
    rw [outsAt0_sweep]
    exact (dif_pos hp).trans (congrArg _ (by funext a; fin_cases a <;> rfl))
  have e1 : t.val % 11 = 10 := by show (11 * (2 * (i.val / 1024 - 0) + 1 * (n.val / 1024 - 0)) + 10) % 11 = 10; omega
  have h1 : row t ⟨i.val % 1024, by omega⟩ = i := Fin.ext (by
    show (11 * (2 * (i.val / 1024 - 0) + 1 * (n.val / 1024 - 0)) + 10) / 22 * 1024 + i.val % 1024 = i.val; omega)
  have h2 : coln t ⟨n.val % 1024, by omega⟩ = n := Fin.ext (by
    show (11 * (2 * (i.val / 1024 - 0) + 1 * (n.val / 1024 - 0)) + 10) / 11 % 2 * 1024 + n.val % 1024 = n.val; omega)
  rw [e, last m c t e1, h1, h2]

/-- The reference's two products. -/
theorem ref_apply (a b w v : FVec Ideal Cert.UpDxRefIdeal.S2048x5632 .f32) (i n : Fin 2048) :
    addf (Host.dotGeneral Cert.UpDxRefIdeal.dot_S2048x5632_S2048x5632_S2048x2048_1_1_0_0_n_n none b v)
      (Host.dotGeneral Cert.UpDxRefIdeal.dot_S2048x5632_S2048x5632_S2048x2048_1_1_0_0_n_n none a w) (ix2 i n)
    = (∑ x : Fin 5632, a (ix2 i x) * w (ix2 n x)) + ∑ x : Fin 5632, b (ix2 i x) * v (ix2 n x) := by
  pointwise
  exact add_comm _ _
end UpDx
end
-- ==== Proof.Dw.lean ====
/- A weight's gradient as the three calls leave it: a product of a transposed operand with another, written over a range of
   rows of an array that keeps its other rows; and where in it a grid point writes. -/
module

public import proofs.«01_k».proof.Proof.Ideals
public import Idealize.ShloMosaic.Lib.Pipeline.ValueKit

@[expose] public section
noncomputable section
namespace Dw
open Idealize.ShloMosaic
open scoped BigOperators

/-! ## A sum over the tokens, in two halves -/

/-- The row, the column and the summand the entries of grid point `t` stand at. -/
def row (t : ℕ) (ht : t < 16) (r : Fin 1408) : Fin 5632 := ⟨t / 4 * 1408 + r.val, by omega⟩
def coln (t : ℕ) (n : Fin 1024) : Fin 2048 := ⟨t / 2 % 2 * 1024 + n.val, by omega⟩
def mid (t : ℕ) (x : Fin 1024) : Fin 2048 := ⟨t % 2 * 1024 + x.val, by omega⟩

/-- The two halves make the sum. -/
theorem halves (F : Fin 2048 → EReal) (t : ℕ) (e : t % 2 = 1) : (∑ x, F (mid (t - 1) x)) + ∑ x, F (mid t x) = ∑ x, F x := by
  have e' : (t - 1) % 2 = 0 := by omega
  rw [← Attn.sum_ext F, Attn.sum_ext_add F 1024 1024 (by decide)]
  refine congrArg₂ (· + ·) ?_ (by simp only [mid, e, Nat.one_mul])
  refine Eq.trans ?_ (Attn.sum_ext_add F 0 1024 (by decide)).symm
  simp only [mid, e', Nat.zero_mul]
  simp

/-! ## The product, and the array it is written over -/

variable (d : FVec Ideal ⟨2, ![2048, 5632]⟩ .f32) (h : FVec Ideal ⟨2, ![2048, 2048]⟩ .f32) (g : FVec Ideal ⟨3, ![2, 16896, 1024]⟩ .f32) (q : ℕ)

def f (i : Fin 5632) (n x : Fin 2048) : EReal := d (ix2 x i) * h (ix2 x n)
def dw (i : Fin 5632) (n : Fin 2048) : EReal := ∑ x, f d h i n x

/-- A run: its two points add their products to an accumulator that the first of them has set to zero. -/
theorem total {φ ψ : FTy} (P : FVec Ideal ⟨2, ![1024, 1408]⟩ φ → FVec Ideal ⟨2, ![1024, 1024]⟩ ψ → FVec Ideal ⟨2, ![1408, 1024]⟩ .f32 → FVec Ideal ⟨2, ![1408, 1024]⟩ .f32)
    (hP : ∀ a b s r n, P a b s (ix2 r n) = s (ix2 r n) + ∑ x : Fin 1024, a (ix2 x r) * b (ix2 x n))
    (A : ∀ t : ℕ, t < 16 → FVec Ideal ⟨2, ![1024, 1408]⟩ φ) (hA : ∀ t ht x r, A t ht (ix2 x r) = d (ix2 (mid t x) (row t ht r)))
    (B : ∀ t : ℕ, t < 16 → FVec Ideal ⟨2, ![1024, 1024]⟩ ψ) (hB : ∀ t ht x n, B t ht (ix2 x n) = h (ix2 (mid t x) (coln t n)))
    (Z : FVec Ideal ⟨2, ![1408, 1024]⟩ .f32) (hZ : ∀ r n, Z (ix2 r n) = 0) (t : ℕ) (ht : t < 16) (ht' : t - 1 < 16) (e : t % 2 = 1) (r : Fin 1408) (n : Fin 1024) :
    P (A t ht) (B t ht) (P (A (t - 1) ht') (B (t - 1) ht') Z) (ix2 r n) = dw d h (row t ht r) (coln t n) := by
  have hr : row (t - 1) ht' r = row t ht r := Fin.ext (by show (t - 1) / 4 * 1408 + r.val = t / 4 * 1408 + r.val; omega)
  have hn : coln (t - 1) n = coln t n := Fin.ext (by show (t - 1) / 2 % 2 * 1024 + n.val = t / 2 % 2 * 1024 + n.val; omega)
  simp only [hP, hA, hB, hZ, hr, hn, zero_add]
  exact halves (f d h (row t ht r) (coln t n)) t e

/-- The array after the run: the product from row `1408 * q` on, its columns in two halves. -/
def G : FVec Ideal ⟨3, ![2, 16896, 1024]⟩ .f32 := fun i =>
  if b : 1408 * q ≤ (i 1).val ∧ (i 1).val < 1408 * q + 5632 then
    dw d h ⟨(i 1).val - 1408 * q, by omega⟩ ⟨(i 0).val * 1024 + (i 2).val, by
      have h0 : (i 0).val < 2 := (i 0).isLt
      have h2 : (i 2).val < 1024 := (i 2).isLt
      omega⟩
  else g i

theorem G_apply (i : (⟨3, ![2, 16896, 1024]⟩ : Shape).Idx) (r : Fin 5632) (n : Fin 2048) (hr : (i 1).val = 1408 * q + r.val)
    (hn : (i 0).val * 1024 + (i 2).val = n.val) : G d h g q i = dw d h r n :=
  (dif_pos ⟨by omega, by omega⟩).trans (congrArg₂ (dw d h) (Fin.ext (by show (i 1).val - 1408 * q = r.val; omega)) (Fin.ext hn))

/-- In the block that grid point `t` writes it is the product at the entry's row and column. -/
theorem G_at (t : ℕ) (ht : t < 16) (i : (⟨3, ![2, 16896, 1024]⟩ : Shape).Idx) (y : (⟨3, ![1, 1408, 1024]⟩ : Shape).Idx)
    (k : ∀ a : Fin 3, (i a).val = (![t / 2 % 2, t / 4 + q, 0] : Fin 3 → ℕ) a * (![1, 1408, 1024] : Fin 3 → ℕ) a + 1 * (y a).val) :
    G d h g q i = dw d h (row t ht (y 1)) (coln t (y 2)) := by
  have k0 : (i 0).val = t / 2 % 2 * 1 + 1 * (y 0).val := k 0
  have k1 : (i 1).val = (t / 4 + q) * 1408 + 1 * (y 1).val := k 1
  have k2 : (i 2).val = 0 * 1024 + 1 * (y 2).val := k 2
  have y0 : (y 0).val < 1 := (y 0).isLt
  apply G_apply
  · show _ = 1408 * q + (t / 4 * 1408 + (y 1).val)
    omega
  · show _ = t / 2 % 2 * 1024 + (y 2).val
    omega

theorem G_rest (i : (⟨3, ![2, 16896, 1024]⟩ : Shape).Idx) (b : ¬(1408 * q ≤ (i 1).val ∧ (i 1).val < 1408 * q + 5632)) : G d h g q i = g i := dif_neg b

/-- The rows that the runs' last points write are those. -/
theorem box (i : (⟨3, ![2, 16896, 1024]⟩ : Shape).Idx) :
    (∃ t : ℕ, t < 16 ∧ t % 2 = 1 ∧ ∀ a : Fin 3, (![t / 2 % 2, t / 4 + q, 0] : Fin 3 → ℕ) a * (![1, 1408, 1024] : Fin 3 → ℕ) a ≤ (i a).val
      ∧ (i a).val < (![t / 2 % 2, t / 4 + q, 0] : Fin 3 → ℕ) a * (![1, 1408, 1024] : Fin 3 → ℕ) a + (![1, 1408, 1024] : Fin 3 → ℕ) a)
    ↔ 1408 * q ≤ (i 1).val ∧ (i 1).val < 1408 * q + 5632 := by
  have h0 : (i 0).val < 2 := (i 0).isLt
  have h2 : (i 2).val < 1024 := (i 2).isLt
  constructor
  · rintro ⟨t, ht, -, b⟩
    have b1 : (t / 4 + q) * 1408 ≤ (i 1).val ∧ (i 1).val < (t / 4 + q) * 1408 + 1408 := b 1
    omega
  · intro b
    refine ⟨4 * (((i 1).val - 1408 * q) / 1408) + 2 * (i 0).val + 1, by omega, by omega, fun a => ?_⟩
    fin_cases a
    · show (4 * (((i 1).val - 1408 * q) / 1408) + 2 * (i 0).val + 1) / 2 % 2 * 1 ≤ (i 0).val
        ∧ (i 0).val < (4 * (((i 1).val - 1408 * q) / 1408) + 2 * (i 0).val + 1) / 2 % 2 * 1 + 1
      omega
    · show ((4 * (((i 1).val - 1408 * q) / 1408) + 2 * (i 0).val + 1) / 4 + q) * 1408 ≤ (i 1).val
        ∧ (i 1).val < ((4 * (((i 1).val - 1408 * q) / 1408) + 2 * (i 0).val + 1) / 4 + q) * 1408 + 1408
      omega
    · show 0 * 1024 ≤ (i 2).val ∧ (i 2).val < 0 * 1024 + 1024
      omega

theorem ext3 {A B C : ℕ} {φ : FTy} {a b : FVec Ideal ⟨3, ![A, B, C]⟩ φ} (h : ∀ i j k, a (ix3 i j k) = b (ix3 i j k)) : a = b := by
  funext x
  rw [eq_ix3 x]
  exact h _ _ _
end Dw
end
-- ==== Proof.GateDw.lean ====
/- The gate weight's gradient, over the first rows of the array of gradients. -/
module

public import proofs.«01_k».proof.Proof.Dw
public import proofs.«01_k».proof.Proof.Gen.GateDwIdeal.Value
public import proofs.«01_k».proof.Proof.Gen.GateDwRefIdeal.Run

@[expose] public section
noncomputable section
namespace GateDw
open Idealize.ShloMosaic Idealize.SL.Sem Idealize.ShloMosaic.TcCoe Cert.GateDwIdeal Cert.GateDwIdeal.Gen Cert.GateDwIdeal.Value Dw
open scoped BigOperators

/-! ## One grid point -/

theorem pay1_apply (r : Fin 1408) (n : Fin 1024) : k0_pay1 (F := Ideal) (ix2 r n) = 0 := by unfold k0_pay1; pointwise

theorem pay2_apply (a : FVec Ideal S1024x1408 .bf16) (b : FVec Ideal S1024x1024 .bf16) (s : FVec Ideal S1408x1024 .f32) (r : Fin 1408) (n : Fin 1024) :
    k0_pay2 a b s (ix2 r n) = s (ix2 r n) + ∑ x : Fin 1024, a (ix2 x r) * b (ix2 x n) := by
  unfold k0_pay2
  pointwise

theorem pay3_apply (s : FVec Ideal S1408x1024 .f32) (z : Fin 1) (r : Fin 1408) (n : Fin 1024) : k0_pay3 s (ix3 z r n) = s (ix2 r n) := by
  unfold k0_pay3
  pointwise

section Cases
variable (dev : Dev nD) (i : grid0.Coords) (arg3 : Memref sig .tc .vmem S1024x1408 .bf16) (harg3 : arg3.IsWhole) (arg4 : Memref sig .tc .vmem S1024x1024 .bf16) (harg4 : arg4.IsWhole) (arg6 : Memref sig .tc .vmem S1x1408x1024 .f32) (harg6 : arg6.IsWhole) (arg7 : Memref sig .tc .vmem S1408x1024 .f32) (harg7 : arg7.IsWhole)
  (x0 : Vec Ideal S1024x1408 .bf16) (x1 : Vec Ideal S1024x1024 .bf16) (s : Vec Ideal S1408x1024 .f32)

theorem s_A (h0 : cond0_0 i) (h1 : ¬cond0_1 i) : sout0_A_0 dev i arg3 harg3 arg4 harg4 arg6 harg6 arg7 harg7 h0 h1 x0 x1
    = k0_pay2 x0 x1 (k0_pay1 (F := Ideal)) := by frame_out

theorem o_B (h0 : ¬cond0_0 i) (h1 : cond0_1 i) : out0_B_2 dev i arg3 harg3 arg4 harg4 arg6 harg6 arg7 harg7 h0 h1 x0 x1 s
    = k0_pay3 (k0_pay2 x0 x1 s) := by frame_out
end Cases

/-! ## The blocks -/

variable (m : (ℓ : Loc nD τ sig) → Buf (Elt Ideal) ℓ) (c : Dev nD) (t : Fin cfg0.N)

/-- The array of gradients and the two operands. -/
abbrev g : FVec Ideal S2x16896x1024 .f32 := m ((c.tc : Thread nD τ).loc main_arg0)
abbrev a : FVec Ideal S2048x5632 .f32 := m ((c.tc : Thread nD τ).loc main_arg1)
abbrev b : FVec Ideal S2048x2048 .f32 := m ((c.tc : Thread nD τ).loc main_arg2)

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 2 % 2, t.val / 4 + 0, 0] := (by decide +kernel : ∀ t : Fin grid0.N, _)

theorem tlt : t.val < 16 := lt_of_lt_of_eq t.isLt (show cfg0.N = 16 from N_0)

theorem blk0 (x : Fin 1024) (r : Fin 1408) : iblk m c 0 t (ix2 x r) = a m c (ix2 (mid t.val x) (row t.val (tlt t) r)) := by
  rw [show a m c (ix2 (mid t.val x) (row t.val (tlt t) r)) = V m c main_v0 (ix2 (mid t.val x) (row t.val (tlt t) r)) from rfl]
  blk_ext [iblk, idx0 t, row, mid]

theorem blk1 (x n : Fin 1024) : iblk m c 1 t (ix2 x n) = b m c (ix2 (mid t.val x) (coln t.val n)) := by
  rw [show b m c (ix2 (mid t.val x) (coln t.val n)) = V m c main_v1 (ix2 (mid t.val x) (coln t.val n)) from rfl]
  blk_ext [iblk, idx1 t, coln, mid]

/-! ## The fold -/

/-- What is written back at the end of a run. -/
theorem last (e : t.val % 2 = 1) (z : Fin 1) (r : Fin 1408) (n : Fin 1024) :
    (outsAt0 m c t.val t.isLt).1 (ix3 z r n) = dw (a m c) (b m c) (row t.val (tlt t) r) (coln t.val n) := by
  have hN {k : ℕ} (hk : k < 16) : k < cfg0.N := lt_of_lt_of_eq hk (show 16 = cfg0.N from N_0.symm)
  have e' : (t.val - 1) % 2 = 0 := by omega
  have ht' : t.val - 1 < 16 := Nat.lt_of_le_of_lt (Nat.sub_le _ _) (tlt t)
  rw [outsAt0_B m c t (by omega) e]
  dsimp only
  rw [o_B, pay3_apply, outsAt0_A m c ⟨t.val - 1, hN ht'⟩ e' (by show ¬(t.val - 1) % 2 = 1; omega)]
  dsimp only
  rw [s_A]
  exact total (φ := .bf16) (ψ := .bf16) (a m c) (b m c) (fun a b s => k0_pay2 a b s) pay2_apply (fun k hk => iblk m c 0 ⟨k, hN hk⟩) (fun k hk => blk0 m c ⟨k, hN hk⟩)
    (fun k hk => iblk m c 1 ⟨k, hN hk⟩) (fun k hk => blk1 m c ⟨k, hN hk⟩) _ pay1_apply t.val (tlt t) ht' e r n

theorem flushed_eq (hf : (cfg0.win 2).flush t = true) :
    (dats m 0 c).flushed 2 t = ((cfg0.win 2).blk t).view.read (Elt Ideal) (G (a m c) (b m c) (g m c) 0) := by
  rw [flushed2]
  funext y
  refine (congrArg (outsAt0 m c t.val t.isLt).1 (eq_ix3 ((cfg0.win 2).xinj (grid0.coords t) y))).trans
    ((last m c t ((flush0_2 t).mp hf) _ _ _).trans (G_at _ _ _ 0 t.val (tlt t) _ y fun k => ?_).symm)
  rw [← idx2 t]
  exact rfl

theorem mem_blk (i : S2x16896x1024.Idx) : i ∈ ((cfg0.win 2).blk t).view.set ↔
    ∀ a : Fin 3, win0_2.index t a * S1x1408x1024.size a ≤ (i a).val ∧ (i a).val < win0_2.index t a * S1x1408x1024.size a + S1x1408x1024.size a := by
  show i ∈ ((View.whole main_v2).slice (win0_2.rect t)).set ↔ _
  rw [View.set_slice_whole, Rect.mem_set_unit]
  exact Iff.rfl

theorem final : (dats m 0 c).arrAt 2 cfg0.N = G (a m c) (b m c) (g m c) 0 := by
  funext i
  rw [(dats m 0 c).arrAt_eq_piecewise 2 _ (flushed_eq m c)]
  by_cases h : 1408 * 0 ≤ (i 1).val ∧ (i 1).val < 1408 * 0 + 5632
  · obtain ⟨t, ht, e, k⟩ := (box 0 i).mpr h
    exact if_pos ⟨⟨t, lt_of_lt_of_eq ht (show 16 = cfg0.N from N_0.symm)⟩, (flush0_2 _).mpr e, (mem_blk _ i).mpr (by rw [idx2]; exact k)⟩
  · refine (if_neg ?_).trans ((congrFun (A_eq m c 2) i).trans (G_rest _ _ _ _ i h).symm)
    rintro ⟨t, hf, hi⟩
    have k := (mem_blk t i).mp hi
    rw [idx2] at k
    exact h ((box 0 i).mp ⟨t.val, tlt t, (flush0_2 t).mp hf, k⟩)

/-- The reference's array. -/
theorem ref_eq (g : FVec Ideal Cert.GateDwRefIdeal.S2x16896x1024 .f32) (a : FVec Ideal Cert.GateDwRefIdeal.S2048x5632 .f32) (b : FVec Ideal Cert.GateDwRefIdeal.S2048x2048 .f32) :
    (concatenate Cert.GateDwRefIdeal.S2x16896x1024 1 [⟨Cert.GateDwRefIdeal.S2x5632x1024, (transpose Cert.GateDwRefIdeal.S2x5632x1024 [0, 2, 1] (shapeCast Cert.GateDwRefIdeal.S2x1024x5632 (transpose Cert.GateDwRefIdeal.S2048x5632 [1, 0] (Host.dotGeneral Cert.GateDwRefIdeal.dot_S2048x5632_S2048x2048_S5632x2048_0_0_1_1_n_n none a b) Cert.GateDwRefIdeal.Gen.facts.transposes_S5632x2048_S2048x5632_1_0) Cert.GateDwRefIdeal.Gen.facts.shapeCasts_S2048x5632_S2x1024x5632) Cert.GateDwRefIdeal.Gen.facts.transposes_S2x1024x5632_S2x5632x1024_0_2_1)⟩, ⟨Cert.GateDwRefIdeal.S2x11264x1024, (extractStridedSlice Cert.GateDwRefIdeal.S2x11264x1024 ![0, 5632, 0] g Cert.GateDwRefIdeal.Gen.facts.slices_S2x16896x1024_S2x11264x1024_0_5632_0)⟩] Cert.GateDwRefIdeal.Gen.facts.concatenates_S2x5632x1024_S2x11264x1024_S2x16896x1024_d1
      : FVec Ideal Cert.GateDwRefIdeal.S2x16896x1024 .f32) = G a b g 0 := ext3 fun z r n => by
  pointwise
  by_cases hr : r.val < 5632
  · rw [dif_pos hr]
    exact (G_apply a b g 0 (ix3 z r n) ⟨r.val, hr⟩ ⟨z.val * 1024 + n.val, by omega⟩ (Nat.zero_add _).symm rfl).symm
  · rw [dif_neg hr]
    refine Eq.trans ?_ (G_rest a b g 0 (ix3 z r n) fun k => hr k.2).symm
    exact congrArg (fun r => g (ix3 z r n)) (Fin.ext (Nat.add_sub_cancel' (Nat.le_of_not_lt hr)))

end GateDw
end
-- ==== Proof.UpDw.lean ====
/- The up weight's gradient, over the middle rows of the array of gradients. -/
module

public import proofs.«01_k».proof.Proof.Dw
public import proofs.«01_k».proof.Proof.Gen.UpDwIdeal.Value
public import proofs.«01_k».proof.Proof.Gen.UpDwRefIdeal.Run

@[expose] public section
noncomputable section
namespace UpDw
open Idealize.ShloMosaic Idealize.SL.Sem Idealize.ShloMosaic.TcCoe Cert.UpDwIdeal Cert.UpDwIdeal.Gen Cert.UpDwIdeal.Value Dw
open scoped BigOperators

/-! ## One grid point -/

theorem pay1_apply (r : Fin 1408) (n : Fin 1024) : k0_pay1 (F := Ideal) (ix2 r n) = 0 := by unfold k0_pay1; pointwise

theorem pay2_apply (a : FVec Ideal S1024x1408 .bf16) (b : FVec Ideal S1024x1024 .bf16) (s : FVec Ideal S1408x1024 .f32) (r : Fin 1408) (n : Fin 1024) :
    k0_pay2 a b s (ix2 r n) = s (ix2 r n) + ∑ x : Fin 1024, a (ix2 x r) * b (ix2 x n) := by
  unfold k0_pay2
  pointwise

theorem pay3_apply (s : FVec Ideal S1408x1024 .f32) (z : Fin 1) (r : Fin 1408) (n : Fin 1024) : k0_pay3 s (ix3 z r n) = s (ix2 r n) := by
  unfold k0_pay3
  pointwise

section Cases
variable (dev : Dev nD) (i : grid0.Coords) (arg3 : Memref sig .tc .vmem S1024x1408 .bf16) (harg3 : arg3.IsWhole) (arg4 : Memref sig .tc .vmem S1024x1024 .bf16) (harg4 : arg4.IsWhole) (arg6 : Memref sig .tc .vmem S1x1408x1024 .f32) (harg6 : arg6.IsWhole) (arg7 : Memref sig .tc .vmem S1408x1024 .f32) (harg7 : arg7.IsWhole)
  (x0 : Vec Ideal S1024x1408 .bf16) (x1 : Vec Ideal S1024x1024 .bf16) (s : Vec Ideal S1408x1024 .f32)

theorem s_A (h0 : cond0_0 i) (h1 : ¬cond0_1 i) : sout0_A_0 dev i arg3 harg3 arg4 harg4 arg6 harg6 arg7 harg7 h0 h1 x0 x1
    = k0_pay2 x0 x1 (k0_pay1 (F := Ideal)) := by frame_out

theorem o_B (h0 : ¬cond0_0 i) (h1 : cond0_1 i) : out0_B_2 dev i arg3 harg3 arg4 harg4 arg6 harg6 arg7 harg7 h0 h1 x0 x1 s
    = k0_pay3 (k0_pay2 x0 x1 s) := by frame_out
end Cases

/-! ## The blocks -/

variable (m : (ℓ : Loc nD τ sig) → Buf (Elt Ideal) ℓ) (c : Dev nD) (t : Fin cfg0.N)

/-- The array of gradients and the two operands. -/
abbrev g : FVec Ideal S2x16896x1024 .f32 := m ((c.tc : Thread nD τ).loc main_arg0)
abbrev a : FVec Ideal S2048x5632 .f32 := m ((c.tc : Thread nD τ).loc main_arg1)
abbrev b : FVec Ideal S2048x2048 .f32 := m ((c.tc : Thread nD τ).loc main_arg2)

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 2 % 2, t.val / 4 + 4, 0] := (by decide +kernel : ∀ t : Fin grid0.N, _)

theorem tlt : t.val < 16 := lt_of_lt_of_eq t.isLt (show cfg0.N = 16 from N_0)

theorem blk0 (x : Fin 1024) (r : Fin 1408) : iblk m c 0 t (ix2 x r) = a m c (ix2 (mid t.val x) (row t.val (tlt t) r)) := by
  rw [show a m c (ix2 (mid t.val x) (row t.val (tlt t) r)) = V m c main_v0 (ix2 (mid t.val x) (row t.val (tlt t) r)) from rfl]
  blk_ext [iblk, idx0 t, row, mid]

theorem blk1 (x n : Fin 1024) : iblk m c 1 t (ix2 x n) = b m c (ix2 (mid t.val x) (coln t.val n)) := by
  rw [show b m c (ix2 (mid t.val x) (coln t.val n)) = V m c main_v1 (ix2 (mid t.val x) (coln t.val n)) from rfl]
  blk_ext [iblk, idx1 t, coln, mid]

/-! ## The fold -/

/-- What is written back at the end of a run. -/
theorem last (e : t.val % 2 = 1) (z : Fin 1) (r : Fin 1408) (n : Fin 1024) :
    (outsAt0 m c t.val t.isLt).1 (ix3 z r n) = dw (a m c) (b m c) (row t.val (tlt t) r) (coln t.val n) := by
  have hN {k : ℕ} (hk : k < 16) : k < cfg0.N := lt_of_lt_of_eq hk (show 16 = cfg0.N from N_0.symm)
  have e' : (t.val - 1) % 2 = 0 := by omega
  have ht' : t.val - 1 < 16 := Nat.lt_of_le_of_lt (Nat.sub_le _ _) (tlt t)
  rw [outsAt0_B m c t (by omega) e]
  dsimp only
  rw [o_B, pay3_apply, outsAt0_A m c ⟨t.val - 1, hN ht'⟩ e' (by show ¬(t.val - 1) % 2 = 1; omega)]
  dsimp only
  rw [s_A]
  exact total (φ := .bf16) (ψ := .bf16) (a m c) (b m c) (fun a b s => k0_pay2 a b s) pay2_apply (fun k hk => iblk m c 0 ⟨k, hN hk⟩) (fun k hk => blk0 m c ⟨k, hN hk⟩)
    (fun k hk => iblk m c 1 ⟨k, hN hk⟩) (fun k hk => blk1 m c ⟨k, hN hk⟩) _ pay1_apply t.val (tlt t) ht' e r n

theorem flushed_eq (hf : (cfg0.win 2).flush t = true) :
    (dats m 0 c).flushed 2 t = ((cfg0.win 2).blk t).view.read (Elt Ideal) (G (a m c) (b m c) (g m c) 4) := by
  rw [flushed2]
  funext y
  refine (congrArg (outsAt0 m c t.val t.isLt).1 (eq_ix3 ((cfg0.win 2).xinj (grid0.coords t) y))).trans
    ((last m c t ((flush0_2 t).mp hf) _ _ _).trans (G_at _ _ _ 4 t.val (tlt t) _ y fun k => ?_).symm)
  rw [← idx2 t]
  exact rfl

theorem mem_blk (i : S2x16896x1024.Idx) : i ∈ ((cfg0.win 2).blk t).view.set ↔
    ∀ a : Fin 3, win0_2.index t a * S1x1408x1024.size a ≤ (i a).val ∧ (i a).val < win0_2.index t a * S1x1408x1024.size a + S1x1408x1024.size a := by
  show i ∈ ((View.whole main_v2).slice (win0_2.rect t)).set ↔ _
  rw [View.set_slice_whole, Rect.mem_set_unit]
  exact Iff.rfl

theorem final : (dats m 0 c).arrAt 2 cfg0.N = G (a m c) (b m c) (g m c) 4 := by
  funext i
  rw [(dats m 0 c).arrAt_eq_piecewise 2 _ (flushed_eq m c)]
  by_cases h : 1408 * 4 ≤ (i 1).val ∧ (i 1).val < 1408 * 4 + 5632
  · obtain ⟨t, ht, e, k⟩ := (box 4 i).mpr h
    exact if_pos ⟨⟨t, lt_of_lt_of_eq ht (show 16 = cfg0.N from N_0.symm)⟩, (flush0_2 _).mpr e, (mem_blk _ i).mpr (by rw [idx2]; exact k)⟩
  · refine (if_neg ?_).trans ((congrFun (A_eq m c 2) i).trans (G_rest _ _ _ _ i h).symm)
    rintro ⟨t, hf, hi⟩
    have k := (mem_blk t i).mp hi
    rw [idx2] at k
    exact h ((box 4 i).mp ⟨t.val, tlt t, (flush0_2 t).mp hf, k⟩)

/-- The reference's array. -/
theorem ref_eq (g : FVec Ideal Cert.UpDwRefIdeal.S2x16896x1024 .f32) (a : FVec Ideal Cert.UpDwRefIdeal.S2048x5632 .f32) (b : FVec Ideal Cert.UpDwRefIdeal.S2048x2048 .f32) :
    (concatenate Cert.UpDwRefIdeal.S2x16896x1024 1 [⟨Cert.UpDwRefIdeal.S2x5632x1024, ((extractStridedSlice Cert.UpDwRefIdeal.S2x5632x1024 ![0, 0, 0] g Cert.UpDwRefIdeal.Gen.facts.slices_S2x16896x1024_S2x5632x1024_0_0_0) : FVec Ideal Cert.UpDwRefIdeal.S2x5632x1024 .f32)⟩, ⟨Cert.UpDwRefIdeal.S2x5632x1024, ((transpose Cert.UpDwRefIdeal.S2x5632x1024 [0, 2, 1] (shapeCast Cert.UpDwRefIdeal.S2x1024x5632 (transpose Cert.UpDwRefIdeal.S2048x5632 [1, 0] (Host.dotGeneral Cert.UpDwRefIdeal.dot_S2048x5632_S2048x2048_S5632x2048_0_0_1_1_n_n none a b) Cert.UpDwRefIdeal.Gen.facts.transposes_S5632x2048_S2048x5632_1_0) Cert.UpDwRefIdeal.Gen.facts.shapeCasts_S2048x5632_S2x1024x5632) Cert.UpDwRefIdeal.Gen.facts.transposes_S2x1024x5632_S2x5632x1024_0_2_1) : FVec Ideal Cert.UpDwRefIdeal.S2x5632x1024 .f32)⟩, ⟨Cert.UpDwRefIdeal.S2x5632x1024, ((extractStridedSlice Cert.UpDwRefIdeal.S2x5632x1024 ![0, 11264, 0] g Cert.UpDwRefIdeal.Gen.facts.slices_S2x16896x1024_S2x5632x1024_0_11264_0) : FVec Ideal Cert.UpDwRefIdeal.S2x5632x1024 .f32)⟩] Cert.UpDwRefIdeal.Gen.facts.concatenates_S2x5632x1024_S2x5632x1024_S2x5632x1024_S2x16896x1024_d1
      : FVec Ideal Cert.UpDwRefIdeal.S2x16896x1024 .f32) = G a b g 4 := ext3 fun z r n => by
  pointwise
  by_cases hr : r.val < 5632
  · rw [dif_pos hr]
    exact (G_rest a b g 4 (ix3 z r n) fun k => absurd k.1 (Nat.not_le_of_lt hr)).symm
  · rw [dif_neg hr]
    by_cases hs : r.val - 5632 < 5632
    · rw [dif_pos hs]
      exact (G_apply a b g 4 (ix3 z r n) ⟨r.val - 5632, hs⟩ ⟨z.val * 1024 + n.val, by omega⟩ (Nat.add_sub_cancel' (Nat.le_of_not_lt hr)).symm rfl).symm
    · rw [dif_neg hs]
      refine Eq.trans ?_ (G_rest a b g 4 (ix3 z r n) fun k => hs (by have : r.val < 1408 * 4 + 5632 := k.2; omega)).symm
      exact congrArg (fun r => g (ix3 z r n)) (Fin.ext (by show 11264 + (r.val - 5632 - 5632) = r.val; omega))

end UpDw
end
-- ==== Proof.DownDw.lean ====
/- The down weight's gradient, over the last rows of the array of gradients. -/
module

public import proofs.«01_k».proof.Proof.Dw
public import proofs.«01_k».proof.Proof.Gen.DownDwIdeal.Value
public import proofs.«01_k».proof.Proof.Gen.DownDwRefIdeal.Run

@[expose] public section
noncomputable section
namespace DownDw
open Idealize.ShloMosaic Idealize.SL.Sem Idealize.ShloMosaic.TcCoe Cert.DownDwIdeal Cert.DownDwIdeal.Gen Cert.DownDwIdeal.Value Dw
open scoped BigOperators

/-! ## One grid point -/

theorem pay1_apply (r : Fin 1408) (n : Fin 1024) : k0_pay1 (F := Ideal) (ix2 r n) = 0 := by unfold k0_pay1; pointwise

theorem pay2_apply (a : FVec Ideal S1024x1408 .bf16) (b : FVec Ideal S1024x1024 .f32) (s : FVec Ideal S1408x1024 .f32) (r : Fin 1408) (n : Fin 1024) :
    k0_pay2 a b s (ix2 r n) = s (ix2 r n) + ∑ x : Fin 1024, a (ix2 x r) * b (ix2 x n) := by
  unfold k0_pay2
  pointwise

theorem pay3_apply (s : FVec Ideal S1408x1024 .f32) (z : Fin 1) (r : Fin 1408) (n : Fin 1024) : k0_pay3 s (ix3 z r n) = s (ix2 r n) := by
  unfold k0_pay3
  pointwise

section Cases
variable (dev : Dev nD) (i : grid0.Coords) (arg3 : Memref sig .tc .vmem S1024x1408 .bf16) (harg3 : arg3.IsWhole) (arg4 : Memref sig .tc .vmem S1024x1024 .f32) (harg4 : arg4.IsWhole) (arg6 : Memref sig .tc .vmem S1x1408x1024 .f32) (harg6 : arg6.IsWhole) (arg7 : Memref sig .tc .vmem S1408x1024 .f32) (harg7 : arg7.IsWhole)
  (x0 : Vec Ideal S1024x1408 .bf16) (x1 : Vec Ideal S1024x1024 .f32) (s : Vec Ideal S1408x1024 .f32)

theorem s_A (h0 : cond0_0 i) (h1 : ¬cond0_1 i) : sout0_A_0 dev i arg3 harg3 arg4 harg4 arg6 harg6 arg7 harg7 h0 h1 x0 x1
    = k0_pay2 x0 x1 (k0_pay1 (F := Ideal)) := by frame_out

theorem o_B (h0 : ¬cond0_0 i) (h1 : cond0_1 i) : out0_B_2 dev i arg3 harg3 arg4 harg4 arg6 harg6 arg7 harg7 h0 h1 x0 x1 s
    = k0_pay3 (k0_pay2 x0 x1 s) := by frame_out
end Cases

/-! ## The blocks -/

variable (m : (ℓ : Loc nD τ sig) → Buf (Elt Ideal) ℓ) (c : Dev nD) (t : Fin cfg0.N)

/-- The array of gradients and the two operands. -/
abbrev g : FVec Ideal S2x16896x1024 .f32 := m ((c.tc : Thread nD τ).loc main_arg0)
abbrev a : FVec Ideal S2048x5632 .f32 := m ((c.tc : Thread nD τ).loc main_arg1)
abbrev b : FVec Ideal S2048x2048 .f32 := m ((c.tc : Thread nD τ).loc main_arg2)

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 2 % 2, t.val / 4 + 8, 0] := (by decide +kernel : ∀ t : Fin grid0.N, _)

theorem tlt : t.val < 16 := lt_of_lt_of_eq t.isLt (show cfg0.N = 16 from N_0)

theorem blk0 (x : Fin 1024) (r : Fin 1408) : iblk m c 0 t (ix2 x r) = a m c (ix2 (mid t.val x) (row t.val (tlt t) r)) := by
  rw [show a m c (ix2 (mid t.val x) (row t.val (tlt t) r)) = V m c main_v0 (ix2 (mid t.val x) (row t.val (tlt t) r)) from rfl]
  blk_ext [iblk, idx0 t, row, mid]

theorem blk1 (x n : Fin 1024) : iblk m c 1 t (ix2 x n) = b m c (ix2 (mid t.val x) (coln t.val n)) := by
  rw [show b m c (ix2 (mid t.val x) (coln t.val n)) = V m c main_arg2 (ix2 (mid t.val x) (coln t.val n)) from rfl]
  blk_ext [iblk, idx1 t, coln, mid]

/-! ## The fold -/

/-- What is written back at the end of a run. -/
theorem last (e : t.val % 2 = 1) (z : Fin 1) (r : Fin 1408) (n : Fin 1024) :
    (outsAt0 m c t.val t.isLt).1 (ix3 z r n) = dw (a m c) (b m c) (row t.val (tlt t) r) (coln t.val n) := by
  have hN {k : ℕ} (hk : k < 16) : k < cfg0.N := lt_of_lt_of_eq hk (show 16 = cfg0.N from N_0.symm)
  have e' : (t.val - 1) % 2 = 0 := by omega
  have ht' : t.val - 1 < 16 := Nat.lt_of_le_of_lt (Nat.sub_le _ _) (tlt t)
  rw [outsAt0_B m c t (by omega) e]
  dsimp only
  rw [o_B, pay3_apply, outsAt0_A m c ⟨t.val - 1, hN ht'⟩ e' (by show ¬(t.val - 1) % 2 = 1; omega)]
  dsimp only
  rw [s_A]
  exact total (φ := .bf16) (ψ := .f32) (a m c) (b m c) (fun a b s => k0_pay2 a b s) pay2_apply (fun k hk => iblk m c 0 ⟨k, hN hk⟩) (fun k hk => blk0 m c ⟨k, hN hk⟩)
    (fun k hk => iblk m c 1 ⟨k, hN hk⟩) (fun k hk => blk1 m c ⟨k, hN hk⟩) _ pay1_apply t.val (tlt t) ht' e r n

theorem flushed_eq (hf : (cfg0.win 2).flush t = true) :
    (dats m 0 c).flushed 2 t = ((cfg0.win 2).blk t).view.read (Elt Ideal) (G (a m c) (b m c) (g m c) 8) := by
  rw [flushed2]
  funext y
  refine (congrArg (outsAt0 m c t.val t.isLt).1 (eq_ix3 ((cfg0.win 2).xinj (grid0.coords t) y))).trans
    ((last m c t ((flush0_2 t).mp hf) _ _ _).trans (G_at _ _ _ 8 t.val (tlt t) _ y fun k => ?_).symm)
  rw [← idx2 t]
  exact rfl

theorem mem_blk (i : S2x16896x1024.Idx) : i ∈ ((cfg0.win 2).blk t).view.set ↔
    ∀ a : Fin 3, win0_2.index t a * S1x1408x1024.size a ≤ (i a).val ∧ (i a).val < win0_2.index t a * S1x1408x1024.size a + S1x1408x1024.size a := by
  show i ∈ ((View.whole main_v1).slice (win0_2.rect t)).set ↔ _
  rw [View.set_slice_whole, Rect.mem_set_unit]
  exact Iff.rfl

theorem final : (dats m 0 c).arrAt 2 cfg0.N = G (a m c) (b m c) (g m c) 8 := by
  funext i
  rw [(dats m 0 c).arrAt_eq_piecewise 2 _ (flushed_eq m c)]
  by_cases h : 1408 * 8 ≤ (i 1).val ∧ (i 1).val < 1408 * 8 + 5632
  · obtain ⟨t, ht, e, k⟩ := (box 8 i).mpr h
    exact if_pos ⟨⟨t, lt_of_lt_of_eq ht (show 16 = cfg0.N from N_0.symm)⟩, (flush0_2 _).mpr e, (mem_blk _ i).mpr (by rw [idx2]; exact k)⟩
  · refine (if_neg ?_).trans ((congrFun (A_eq m c 2) i).trans (G_rest _ _ _ _ i h).symm)
    rintro ⟨t, hf, hi⟩
    have k := (mem_blk t i).mp hi
    rw [idx2] at k
    exact h ((box 8 i).mp ⟨t.val, tlt t, (flush0_2 t).mp hf, k⟩)

/-- The reference's array. -/
theorem ref_eq (g : FVec Ideal Cert.DownDwRefIdeal.S2x16896x1024 .f32) (a : FVec Ideal Cert.DownDwRefIdeal.S2048x5632 .f32) (b : FVec Ideal Cert.DownDwRefIdeal.S2048x2048 .f32) :
    (concatenate Cert.DownDwRefIdeal.S2x16896x1024 1 [⟨Cert.DownDwRefIdeal.S2x11264x1024, (extractStridedSlice Cert.DownDwRefIdeal.S2x11264x1024 ![0, 0, 0] g Cert.DownDwRefIdeal.Gen.facts.slices_S2x16896x1024_S2x11264x1024_0_0_0)⟩, ⟨Cert.DownDwRefIdeal.S2x5632x1024, (transpose Cert.DownDwRefIdeal.S2x5632x1024 [1, 0, 2] (shapeCast Cert.DownDwRefIdeal.S5632x2x1024 (transpose Cert.DownDwRefIdeal.S5632x2048 [1, 0] (Host.dotGeneral Cert.DownDwRefIdeal.dot_S2048x2048_S2048x5632_S2048x5632_0_0_1_1_n_n none b a) Cert.DownDwRefIdeal.Gen.facts.transposes_S2048x5632_S5632x2048_1_0) Cert.DownDwRefIdeal.Gen.facts.shapeCasts_S5632x2048_S5632x2x1024) Cert.DownDwRefIdeal.Gen.facts.transposes_S5632x2x1024_S2x5632x1024_1_0_2)⟩] Cert.DownDwRefIdeal.Gen.facts.concatenates_S2x11264x1024_S2x5632x1024_S2x16896x1024_d1
      : FVec Ideal Cert.DownDwRefIdeal.S2x16896x1024 .f32) = G a b g 8 := ext3 fun z r n => by
  pointwise
  by_cases hr : r.val < 11264
  · rw [dif_pos hr]
    exact (G_rest a b g 8 (ix3 z r n) fun k => absurd k.1 (Nat.not_le_of_lt hr)).symm
  · rw [dif_neg hr]
    refine Eq.trans (Finset.sum_congr rfl fun x _ => mul_comm _ _) (G_apply a b g 8 (ix3 z r n) ⟨r.val - 11264, by omega⟩ ⟨z.val * 1024 + n.val, by omega⟩
      (Nat.add_sub_cancel' (Nat.le_of_not_lt hr)).symm rfl).symm

end DownDw
end
-- ==== Proof.Ffn.lean ====
/- The two products into the feed-forward's width: where the entries of a grid point stand, and what the two points of a run add up to. -/
module

public import proofs.«01_k».proof.Proof.Dw

@[expose] public section
noncomputable section
namespace Ffn
open Idealize.ShloMosaic Dw
open scoped BigOperators

variable (a : FVec Ideal ⟨2, ![2048, 2048]⟩ .f32) (w : FVec Ideal ⟨2, ![2048, 5632]⟩ .f32)

/-- A summand of an entry of the product, and the entry. -/
def f (i : Fin 2048) (n : Fin 5632) (x : Fin 2048) : EReal := a (ix2 i x) * w (ix2 x n)
def prod (i : Fin 2048) (n : Fin 5632) : EReal := ∑ x, f a w i n x

/-- The row and the column the entries of grid point `t` stand at. -/
def row (t : ℕ) (ht : t < 16) (r : Fin 1024) : Fin 2048 := ⟨t / 8 * 1024 + r.val, by omega⟩
def coln (t : ℕ) (n : Fin 1408) : Fin 5632 := ⟨t / 2 % 4 * 1408 + n.val, by omega⟩

/-- A run: its two points add their products to an accumulator that the first of them has set to zero. -/
theorem total (P : FVec Ideal ⟨2, ![1024, 1024]⟩ .bf16 → FVec Ideal ⟨3, ![1, 1408, 1024]⟩ .bf16 → FVec Ideal ⟨2, ![1024, 1408]⟩ .f32 → FVec Ideal ⟨2, ![1024, 1408]⟩ .f32)
    (hP : ∀ a b s r n, P a b s (ix2 r n) = s (ix2 r n) + ∑ x : Fin 1024, a (ix2 r x) * b (ix3 0 n x))
    (A : ∀ t : ℕ, t < 16 → FVec Ideal ⟨2, ![1024, 1024]⟩ .bf16) (hA : ∀ t ht r x, A t ht (ix2 r x) = a (ix2 (row t ht r) (mid t x)))
    (B : ∀ t : ℕ, t < 16 → FVec Ideal ⟨3, ![1, 1408, 1024]⟩ .bf16) (hB : ∀ t ht n x, B t ht (ix3 0 n x) = w (ix2 (mid t x) (coln t n)))
    (Z : FVec Ideal ⟨2, ![1024, 1408]⟩ .f32) (hZ : ∀ r n, Z (ix2 r n) = 0) (t : ℕ) (ht : t < 16) (ht' : t - 1 < 16) (e : t % 2 = 1) (r : Fin 1024) (n : Fin 1408) :
    P (A t ht) (B t ht) (P (A (t - 1) ht') (B (t - 1) ht') Z) (ix2 r n) = prod a w (row t ht r) (coln t n) := by
  have hr : row (t - 1) ht' r = row t ht r := Fin.ext (by show (t - 1) / 8 * 1024 + r.val = t / 8 * 1024 + r.val; omega)
  have hn : coln (t - 1) n = coln t n := Fin.ext (by show (t - 1) / 2 % 4 * 1408 + n.val = t / 2 % 4 * 1408 + n.val; omega)
  simp only [hP, hA, hB, hZ, hr, hn, zero_add]
  exact halves (f a w (row t ht r) (coln t n)) t e

/-- The point that writes an entry back, and where in its block the entry stands. -/
def pt (i : Fin 2048) (n : Fin 5632) : ℕ := 2 * (4 * (i.val / 1024 - 0) + 1 * (n.val / 1408 - 0)) + 1
def inRow (i : Fin 2048) : Fin 1024 := ⟨i.val % 1024, by omega⟩
def inCol (n : Fin 5632) : Fin 1408 := ⟨n.val % 1408, by omega⟩

theorem pt_lt (i : Fin 2048) (n : Fin 5632) : pt i n < 16 := by unfold pt; omega
theorem pt_last (i : Fin 2048) (n : Fin 5632) : pt i n % 2 = 1 := by unfold pt; omega
theorem pt_row (i : Fin 2048) (n : Fin 5632) : row (pt i n) (pt_lt i n) (inRow i) = i := Fin.ext (by
  show (2 * (4 * (i.val / 1024 - 0) + 1 * (n.val / 1408 - 0)) + 1) / 8 * 1024 + i.val % 1024 = i.val; omega)
theorem pt_coln (i : Fin 2048) (n : Fin 5632) : coln (pt i n) (inCol n) = n := Fin.ext (by
  show (2 * (4 * (i.val / 1024 - 0) + 1 * (n.val / 1408 - 0)) + 1) / 2 % 4 * 1408 + n.val % 1408 = n.val; omega)
end Ffn
end
-- ==== Proof.FfnGate.lean ====
/- The gate's product: the accumulated tiles are the input times the weight. -/
module

public import proofs.«01_k».proof.Proof.Ffn
public import proofs.«01_k».proof.Proof.Gen.FfnGateIdeal.Value
public import proofs.«01_k».proof.Proof.Gen.FfnGateRefIdeal.Run

@[expose] public section
noncomputable section
namespace FfnGate
open Idealize.ShloMosaic Idealize.SL.Sem Idealize.ShloMosaic.TcCoe Cert.FfnGateIdeal Cert.FfnGateIdeal.Gen Cert.FfnGateIdeal.Value Ffn
open scoped BigOperators

theorem pay1_apply (r : Fin 1024) (n : Fin 1408) : k0_pay1 (F := Ideal) (ix2 r n) = 0 := by unfold k0_pay1; pointwise

theorem pay2_apply (a : FVec Ideal S1024x1024 .bf16) (b : FVec Ideal S1x1408x1024 .bf16) (s : FVec Ideal S1024x1408 .f32) (r : Fin 1024) (n : Fin 1408) :
    k0_pay2 a b s (ix2 r n) = s (ix2 r n) + ∑ x : Fin 1024, a (ix2 r x) * b (ix3 0 n x) := by
  unfold k0_pay2
  pointwise

section Cases
variable (dev : Dev nD) (i : grid0.Coords) (arg3 : Memref sig .tc .vmem S1024x1024 .bf16) (harg3 : arg3.IsWhole) (arg4 : Memref sig .tc .vmem S1x1408x1024 .bf16) (harg4 : arg4.IsWhole) (arg5 : Memref sig .tc .vmem S1024x1408 .f32) (harg5 : arg5.IsWhole) (arg6 : Memref sig .tc .vmem S1024x1408 .f32) (harg6 : arg6.IsWhole)
  (x0 : Vec Ideal S1024x1024 .bf16) (x1 : Vec Ideal S1x1408x1024 .bf16) (s : Vec Ideal S1024x1408 .f32)

theorem s_A (h0 : cond0_0 i) (h1 : ¬cond0_1 i) : sout0_A_0 dev i arg3 harg3 arg4 harg4 arg5 harg5 arg6 harg6 h0 h1 x0 x1
    = k0_pay2 x0 x1 (k0_pay1 (F := Ideal)) := by frame_out

theorem o_B (h0 : ¬cond0_0 i) (h1 : cond0_1 i) : out0_B_2 dev i arg3 harg3 arg4 harg4 arg5 harg5 arg6 harg6 h0 h1 x0 x1 s = k0_pay2 x0 x1 s := by frame_out
end Cases

variable (m : (ℓ : Loc nD τ sig) → Buf (Elt Ideal) ℓ) (c : Dev nD) (t : Fin cfg0.N)

/-- The input and the weight. -/
abbrev a : FVec Ideal S2048x2048 .f32 := m ((c.tc : Thread nD τ).loc main_arg0)
abbrev w : FVec Ideal S2048x5632 .f32 := m ((c.tc : Thread nD τ).loc main_arg1)

/-- The weight as the kernel reads it: transposed, its columns in two halves. -/
def split (w : FVec Ideal S2048x5632 .f32) : FVec Ideal S2x5632x1024 .bf16 :=
  transpose S2x5632x1024 [1, 0, 2] (shapeCast S5632x2x1024 (truncf .bf16 (transpose S5632x2048 [1, 0] w transposes_S2048x5632_S5632x2048_1_0) bitsLt_bf16_f32)
    shapeCasts_S5632x2048_S5632x2x1024) transposes_S5632x2x1024_S2x5632x1024_1_0_2

theorem split_apply (w : FVec Ideal S2048x5632 .f32) (h : Fin 2) (f : Fin 5632) (n : Fin 1024) :
    split w (ix3 h f n) = w (ix2 ⟨h.val * 1024 + n.val, by omega⟩ f) := by
  unfold split
  pointwise

theorem idx0 : ∀ t : Fin cfg0.N, win0_0.index t = ![t.val / 8, t.val % 2] := (by decide +kernel : ∀ t : Fin grid0.N, _)
theorem idx1 : ∀ t : Fin cfg0.N, win0_1.index t = ![t.val % 2, t.val / 2 % 4, 0] := (by decide +kernel : ∀ t : Fin grid0.N, _)

theorem tlt : t.val < 16 := lt_of_lt_of_eq t.isLt (show cfg0.N = 16 from N_0)

theorem blk0 (r x : Fin 1024) : iblk m c 0 t (ix2 r x) = a m c (ix2 (row t.val (tlt t) r) (Dw.mid t.val x)) := by
  rw [show a m c (ix2 (row t.val (tlt t) r) (Dw.mid t.val x)) = V m c main_v0 (ix2 (row t.val (tlt t) r) (Dw.mid t.val x)) from rfl]
  blk_ext [iblk, idx0 t, row, Dw.mid]

theorem blk1 (n : Fin 1408) (x : Fin 1024) : iblk m c 1 t (ix3 0 n x) = w m c (ix2 (Dw.mid t.val x) (coln t.val n)) := by
  refine Eq.trans ?_ (split_apply (w m c) ⟨t.val % 2, by omega⟩ (coln t.val n) x)
  rw [show split (w m c) = V m c main_v4 from rfl]
  blk_ext [iblk, idx1 t, coln]

/-- What is written back at the end of a run. -/
theorem last (e : t.val % 2 = 1) (r : Fin 1024) (n : Fin 1408) :
    (outsAt0 m c t.val t.isLt).1 (ix2 r n) = prod (a m c) (w m c) (row t.val (tlt t) r) (coln t.val n) := by
  have hN {k : ℕ} (hk : k < 16) : k < cfg0.N := lt_of_lt_of_eq hk (show 16 = cfg0.N from N_0.symm)
  have e' : (t.val - 1) % 2 = 0 := by omega
  have ht' : t.val - 1 < 16 := Nat.lt_of_le_of_lt (Nat.sub_le _ _) (tlt t)
  rw [outsAt0_B m c t (by omega) e]
  dsimp only
  rw [o_B, outsAt0_A m c ⟨t.val - 1, hN ht'⟩ e' (by show ¬(t.val - 1) % 2 = 1; omega)]
  dsimp only
  rw [s_A]
  exact total (a m c) (w m c) (fun a b s => k0_pay2 a b s) pay2_apply (fun k hk => iblk m c 0 ⟨k, hN hk⟩) (fun k hk => blk0 m c ⟨k, hN hk⟩)
    (fun k hk => iblk m c 1 ⟨k, hN hk⟩) (fun k hk => blk1 m c ⟨k, hN hk⟩) _ pay1_apply t.val (tlt t) ht' e r n

theorem G2_eq (i : Fin 2048) (n : Fin 5632) : G2 m c (ix2 i n) = prod (a m c) (w m c) i n := by
  have hp : pt i n < cfg0.N := lt_of_lt_of_eq (pt_lt i n) (show 16 = cfg0.N from N_0.symm)
  have e : G2 m c (ix2 i n) = (outsAt0 m c (pt i n) hp).1 (ix2 (inRow i) (inCol n)) := by
    rw [outsAt0_sweep]
    exact (dif_pos hp).trans (congrArg _ (by funext a; fin_cases a <;> rfl))
  rw [e, last m c ⟨pt i n, hp⟩ (pt_last i n), pt_row, pt_coln]

/-- The reference's product. -/
theorem ref_apply (a : FVec Ideal Cert.FfnGateRefIdeal.S2048x2048 .f32) (w : FVec Ideal Cert.FfnGateRefIdeal.S2048x5632 .f32) (i : Fin 2048) (n : Fin 5632) :
    Host.dotGeneral Cert.FfnGateRefIdeal.dot_S2048x2048_S2048x5632_S2048x5632_1_0_0_1_n_n none a w (ix2 i n) = prod a w i n := by
  unfold prod f
  pointwise
end FfnGate
end
-- ==== Proof.FfnUp.lean ====
/- The up branch's product, and the gated product: the accumulated tiles are the input times the weight, and the second result is
   that times the gate through its sigmoid. -/
module

public import proofs.«01_k».proof.Proof.Ffn
public import proofs.«01_k».proof.Proof.Gen.FfnUpIdeal.Value
public import proofs.«01_k».proof.Proof.Gen.FfnUpRefIdeal.Run

@[expose] public section
noncomputable section
namespace FfnUp
open Idealize.ShloMosaic Idealize.SL.Sem Idealize.ShloMosaic.TcCoe Cert.FfnUpIdeal Cert.FfnUpIdeal.Gen Cert.FfnUpIdeal.Value Ffn
open scoped BigOperators

/-! ## One grid point -/

/-- A gate through its sigmoid. -/
def silu (g : EReal) : EReal := g * Ideal.logistic g

theorem pay1_apply (r : Fin 1024) (n : Fin 1408) : k0_pay1 (F := Ideal) (ix2 r n) = 0 := by unfold k0_pay1; pointwise

theorem pay2_apply (a : FVec Ideal S1024x1024 .bf16) (b : FVec Ideal S1x1408x1024 .bf16) (s : FVec Ideal S1024x1408 .f32) (r : Fin 1024) (n : Fin 1408) :
    k0_pay2 a b s (ix2 r n) = s (ix2 r n) + ∑ x : Fin 1024, a (ix2 r x) * b (ix3 0 n x) := by
  unfold k0_pay2
  pointwise

theorem pay3_apply (s g : FVec Ideal S1024x1408 .f32) (r : Fin 1024) (n : Fin 1408) :
    (k0_pay3 (F := Ideal) s g (ix2 r n) : EReal) = silu (g (ix2 r n)) * s (ix2 r n) := by
  unfold k0_pay3 silu
  pointwise
  simp only [Ideal.logistic, zero_sub]

section Cases
variable (dev : Dev nD) (i : grid0.Coords) (arg3 : Memref sig .tc .vmem S1024x1024 .bf16) (harg3 : arg3.IsWhole) (arg4 : Memref sig .tc .vmem S1x1408x1024 .bf16) (harg4 : arg4.IsWhole) (arg5 : Memref sig .tc .vmem S1024x1408 .f32) (harg5 : arg5.IsWhole) (arg6 : Memref sig .tc .vmem S1024x1408 .f32) (harg6 : arg6.IsWhole) (arg7 : Memref sig .tc .vmem S1024x1408 .bf16) (harg7 : arg7.IsWhole) (arg8 : Memref sig .tc .vmem S1024x1408 .f32) (harg8 : arg8.IsWhole)
  (x0 : Vec Ideal S1024x1024 .bf16) (x1 : Vec Ideal S1x1408x1024 .bf16) (x2 s : Vec Ideal S1024x1408 .f32)

theorem s_A (h0 : cond0_0 i) (h1 : ¬cond0_1 i) : sout0_A_0 dev i arg3 harg3 arg4 harg4 arg5 harg5 arg6 harg6 arg7 harg7 arg8 harg8 h0 h1 x0 x1 x2
    = k0_pay2 x0 x1 (k0_pay1 (F := Ideal)) := by frame_out

theorem u_B (h0 : ¬cond0_0 i) (h1 : cond0_1 i) : out0_B_3 dev i arg3 harg3 arg4 harg4 arg5 harg5 arg6 harg6 arg7 harg7 arg8 harg8 h0 h1 x0 x1 x2 s
    = k0_pay2 x0 x1 s := by frame_out

theorem a_B (h0 : ¬cond0_0 i) (h1 : cond0_1 i) : out0_B_4 dev i arg3 harg3 arg4 harg4 arg5 harg5 arg6 harg6 arg7 harg7 arg8 harg8 h0 h1 x0 x1 x2 s
    = k0_pay3 (k0_pay2 x0 x1 s) x2 := by frame_out
end Cases

/-! ## The blocks -/

variable (m : (ℓ : Loc nD τ sig) → Buf (Elt Ideal) ℓ) (c : Dev nD) (t : Fin cfg0.N)

/-- The input, the weight and the gate. -/
abbrev a : FVec Ideal S2048x2048 .f32 := m ((c.tc : Thread nD τ).loc main_arg0)
abbrev w : FVec Ideal S2048x5632 .f32 := m ((c.tc : Thread nD τ).loc main_arg1)
abbrev gate : FVec Ideal S2048x5632 .f32 := m ((c.tc : Thread nD τ).loc main_arg2)

/-- The weight as the kernel reads it: transposed, its columns in two halves. -/
def split (w : FVec Ideal S2048x5632 .f32) : FVec Ideal S2x5632x1024 .bf16 :=
  transpose S2x5632x1024 [1, 0, 2] (shapeCast S5632x2x1024 (truncf .bf16 (transpose S5632x2048 [1, 0] w transposes_S2048x5632_S5632x2048_1_0) bitsLt_bf16_f32)
    shapeCasts_S5632x2048_S5632x2x1024) transposes_S5632x2x1024_S2x5632x1024_1_0_2

theorem split_apply (w : FVec Ideal S2048x5632 .f32) (h : Fin 2) (f : Fin 5632) (n : Fin 1024) :
    split w (ix3 h f n) = w (ix2 ⟨h.val * 1024 + n.val, by omega⟩ f) := by
  unfold split
  pointwise

theorem idx0 : ∀ t : Fin cfg0.N, win0_0.index t = ![t.val / 8, t.val % 2] := (by decide +kernel : ∀ t : Fin grid0.N, _)
theorem idx1 : ∀ t : Fin cfg0.N, win0_1.index t = ![t.val % 2, t.val / 2 % 4, 0] := (by decide +kernel : ∀ t : Fin grid0.N, _)
theorem idx2 : ∀ t : Fin cfg0.N, win0_2.index t = ![t.val / 8, t.val / 2 % 4] := (by decide +kernel : ∀ t : Fin grid0.N, _)

theorem tlt : t.val < 16 := lt_of_lt_of_eq t.isLt (show cfg0.N = 16 from N_0)

theorem blk0 (r x : Fin 1024) : iblk m c 0 t (ix2 r x) = a m c (ix2 (row t.val (tlt t) r) (Dw.mid t.val x)) := by
  rw [show a m c (ix2 (row t.val (tlt t) r) (Dw.mid t.val x)) = V m c main_v0 (ix2 (row t.val (tlt t) r) (Dw.mid t.val x)) from rfl]
  blk_ext [iblk, idx0 t, row, Dw.mid]

theorem blk1 (n : Fin 1408) (x : Fin 1024) : iblk m c 1 t (ix3 0 n x) = w m c (ix2 (Dw.mid t.val x) (coln t.val n)) := by
  refine Eq.trans ?_ (split_apply (w m c) ⟨t.val % 2, by omega⟩ (coln t.val n) x)
  rw [show split (w m c) = V m c main_v4 from rfl]
  blk_ext [iblk, idx1 t, coln]

theorem blk2 (r : Fin 1024) (n : Fin 1408) : iblk m c 2 t (ix2 r n) = gate m c (ix2 (row t.val (tlt t) r) (coln t.val n)) := by
  rw [show gate m c (ix2 (row t.val (tlt t) r) (coln t.val n)) = V m c main_arg2 (ix2 (row t.val (tlt t) r) (coln t.val n)) from rfl]
  blk_ext [iblk, idx2 t, row, coln]

/-! ## The fold -/

/-- The accumulator at the end of a run. -/
theorem whole (e : t.val % 2 = 1) (r : Fin 1024) (n : Fin 1408) :
    k0_pay2 (iblk m c 0 t) (iblk m c 1 t) (outsAt0 m c (t.val - 1) (Nat.lt_of_le_of_lt (Nat.sub_le _ _) t.isLt)).2.2 (ix2 r n)
      = prod (a m c) (w m c) (row t.val (tlt t) r) (coln t.val n) := by
  have hN {k : ℕ} (hk : k < 16) : k < cfg0.N := lt_of_lt_of_eq hk (show 16 = cfg0.N from N_0.symm)
  have e' : (t.val - 1) % 2 = 0 := by omega
  have ht' : t.val - 1 < 16 := Nat.lt_of_le_of_lt (Nat.sub_le _ _) (tlt t)
  rw [outsAt0_A m c ⟨t.val - 1, hN ht'⟩ e' (by show ¬(t.val - 1) % 2 = 1; omega)]
  dsimp only
  rw [s_A]
  exact total (a m c) (w m c) (fun a b s => k0_pay2 a b s) pay2_apply (fun k hk => iblk m c 0 ⟨k, hN hk⟩) (fun k hk => blk0 m c ⟨k, hN hk⟩)
    (fun k hk => iblk m c 1 ⟨k, hN hk⟩) (fun k hk => blk1 m c ⟨k, hN hk⟩) _ pay1_apply t.val (tlt t) ht' e r n

/-- What is written back at the end of a run. -/
theorem last_u (e : t.val % 2 = 1) (r : Fin 1024) (n : Fin 1408) :
    (outsAt0 m c t.val t.isLt).1 (ix2 r n) = prod (a m c) (w m c) (row t.val (tlt t) r) (coln t.val n) := by
  rw [outsAt0_B m c t (by omega) e]
  dsimp only
  rw [u_B, whole m c t e]

theorem last_a (e : t.val % 2 = 1) (r : Fin 1024) (n : Fin 1408) : ((outsAt0 m c t.val t.isLt).2.1 (ix2 r n) : EReal)
    = silu (gate m c (ix2 (row t.val (tlt t) r) (coln t.val n))) * prod (a m c) (w m c) (row t.val (tlt t) r) (coln t.val n) := by
  rw [outsAt0_B m c t (by omega) e]
  dsimp only
  rw [a_B, pay3_apply, whole m c t e, blk2]

theorem pt_N (i : Fin 2048) (n : Fin 5632) : pt i n < cfg0.N := lt_of_lt_of_eq (pt_lt i n) (show 16 = cfg0.N from N_0.symm)

theorem G3_eq (i : Fin 2048) (n : Fin 5632) : G3 m c (ix2 i n) = prod (a m c) (w m c) i n := by
  have e : G3 m c (ix2 i n) = (outsAt0 m c (pt i n) (pt_N i n)).1 (ix2 (inRow i) (inCol n)) := by
    rw [outsAt0_sweep]
    exact (dif_pos (pt_N i n)).trans (congrArg _ (by funext a; fin_cases a <;> rfl))
  rw [e, last_u m c ⟨pt i n, pt_N i n⟩ (pt_last i n), pt_row, pt_coln]

theorem G4_eq (i : Fin 2048) (n : Fin 5632) : (G4 m c (ix2 i n) : EReal) = silu (gate m c (ix2 i n)) * prod (a m c) (w m c) i n := by
  have e : G4 m c (ix2 i n) = (outsAt0 m c (pt i n) (pt_N i n)).2.1 (ix2 (inRow i) (inCol n)) := by
    rw [outsAt0_sweep]
    exact (dif_pos (pt_N i n)).trans (congrArg _ (by funext a; fin_cases a <;> rfl))
  rw [e, last_a m c ⟨pt i n, pt_N i n⟩ (pt_last i n), pt_row, pt_coln]

/-! ## The reference -/

section Ref
variable (a : FVec Ideal Cert.FfnUpRefIdeal.S2048x2048 .f32) (w g : FVec Ideal Cert.FfnUpRefIdeal.S2048x5632 .f32) (i : Fin 2048) (n : Fin 5632)

theorem ref_u : Host.dotGeneral Cert.FfnUpRefIdeal.dot_S2048x2048_S2048x5632_S2048x5632_1_0_0_1_n_n none a w (ix2 i n) = prod a w i n := by
  unfold prod f
  pointwise

theorem ref_a : (truncf (F := Ideal) .bf16 (mulf (mulf g (Host.divf (broadcastInDim Cert.FfnUpRefIdeal.S2048x5632 ![] Cert.FfnUpRefIdeal.Gen.facts.bcast_S_S2048x5632 (constant Cert.FfnUpRefIdeal.S_ .f32 0x3F800000#32))
      (addf (broadcastInDim Cert.FfnUpRefIdeal.S2048x5632 ![] Cert.FfnUpRefIdeal.Gen.facts.bcast_S_S2048x5632 (constant Cert.FfnUpRefIdeal.S_ .f32 0x3F800000#32)) (Host.exp (Host.negf g)))))
      (Host.dotGeneral Cert.FfnUpRefIdeal.dot_S2048x2048_S2048x5632_S2048x5632_1_0_0_1_n_n none a w)) Cert.FfnUpRefIdeal.Gen.facts.bitsLt_bf16_f32 (ix2 i n) : EReal)
    = silu (g (ix2 i n)) * prod a w i n := by
  unfold silu prod f
  pointwise
  simp only [Ideal.logistic]
end Ref
end FfnUp
end
-- ==== Proof.FfnDown.lean ====
/- The product out of the feed-forward's width: the accumulated tiles are the gated product times the weight. -/
module

public import proofs.«01_k».proof.Proof.Ideals
public import proofs.«01_k».proof.Proof.Gen.FfnDownIdeal.Value
public import proofs.«01_k».proof.Proof.Gen.FfnDownRefIdeal.Run
public import Idealize.ShloMosaic.Lib.Pipeline.ValueKit

@[expose] public section
noncomputable section
namespace FfnDown
open Idealize.ShloMosaic Idealize.SL.Sem Idealize.ShloMosaic.TcCoe Cert.FfnDownIdeal Cert.FfnDownIdeal.Gen Cert.FfnDownIdeal.Value Attn
open scoped BigOperators

/-! ## One grid point -/

theorem pay1_apply (r n : Fin 1024) : k0_pay1 (F := Ideal) (ix2 r n) = 0 := by unfold k0_pay1; pointwise

theorem pay2_apply (a : FVec Ideal S1024x512 .bf16) (b : FVec Ideal S1x512x1024 .bf16) (s : FVec Ideal S1024x1024 .f32) (r n : Fin 1024) :
    k0_pay2 a b s (ix2 r n) = s (ix2 r n) + ∑ x : Fin 512, a (ix2 r x) * b (ix3 0 x n) := by
  unfold k0_pay2
  pointwise

section Cases
variable (dev : Dev nD) (i : grid0.Coords) (arg3 : Memref sig .tc .vmem S1024x512 .bf16) (harg3 : arg3.IsWhole) (arg4 : Memref sig .tc .vmem S1x512x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x512 .bf16) (x1 : Vec Ideal S1x512x1024 .bf16) (s : Vec Ideal S1024x1024 .f32)

theorem s_A (h0 : cond0_0 i) (h1 : ¬cond0_1 i) : sout0_A_0 dev i arg3 harg3 arg4 harg4 arg5 harg5 arg6 harg6 h0 h1 x0 x1
    = k0_pay2 x0 x1 (k0_pay1 (F := Ideal)) := by frame_out

theorem s_B (h0 : ¬cond0_0 i) (h1 : ¬cond0_1 i) : sout0_B_0 dev i arg3 harg3 arg4 harg4 arg5 harg5 arg6 harg6 h0 h1 x0 x1 s = k0_pay2 x0 x1 s := by frame_out

theorem s_C (h0 : ¬cond0_0 i) (h1 : cond0_1 i) : sout0_C_0 dev i arg3 harg3 arg4 harg4 arg5 harg5 arg6 harg6 h0 h1 x0 x1 s = k0_pay2 x0 x1 s := by frame_out

theorem o_C (h0 : ¬cond0_0 i) (h1 : cond0_1 i) : out0_C_2 dev i arg3 harg3 arg4 harg4 arg5 harg5 arg6 harg6 h0 h1 x0 x1 s = k0_pay2 x0 x1 s := by frame_out
end Cases

/-! ## The blocks -/

variable (m : (ℓ : Loc nD τ sig) → Buf (Elt Ideal) ℓ) (c : Dev nD) (t : Fin cfg0.N)

/-- The gated product and the weight. -/
abbrev a : FVec Ideal S2048x5632 .f32 := m ((c.tc : Thread nD τ).loc main_arg0)
abbrev w : FVec Ideal S5632x2048 .f32 := m ((c.tc : Thread nD τ).loc main_arg1)

/-- The weight as the kernel reads it: its columns in two halves. -/
def split (w : FVec Ideal S5632x2048 .f32) : FVec Ideal S2x5632x1024 .bf16 :=
  transpose S2x5632x1024 [1, 0, 2] (shapeCast S5632x2x1024 (truncf .bf16 w bitsLt_bf16_f32) shapeCasts_S5632x2048_S5632x2x1024) transposes_S5632x2x1024_S2x5632x1024_1_0_2

theorem split_apply (w : FVec Ideal S5632x2048 .f32) (h : Fin 2) (f : Fin 5632) (n : Fin 1024) :
    split w (ix3 h f n) = w (ix2 f ⟨h.val * 1024 + n.val, by omega⟩) := by
  unfold split
  pointwise

theorem idx0 : ∀ t : Fin cfg0.N, win0_0.index t = ![t.val / 22, t.val % 11] := (by decide +kernel : ∀ t : Fin grid0.N, _)
theorem idx1 : ∀ t : Fin cfg0.N, win0_1.index t = ![t.val / 11 % 2, t.val % 11, 0] := (by decide +kernel : ∀ t : Fin grid0.N, _)

theorem tlt : t.val < 44 := lt_of_lt_of_eq t.isLt (show cfg0.N = 44 from N_0)

/-- The row, the column and the summand a point's entries stand at. -/
def row (r : Fin 1024) : Fin 2048 := ⟨t.val / 22 * 1024 + r.val, by have := tlt t; omega⟩
def coln (n : Fin 1024) : Fin 2048 := ⟨t.val / 11 % 2 * 1024 + n.val, by omega⟩
def mid (x : Fin 512) : Fin 5632 := ⟨512 * (t.val % 11) + x.val, by omega⟩

theorem blk0 (r : Fin 1024) (x : Fin 512) : iblk m c 0 t (ix2 r x) = a m c (ix2 (row t r) (mid t x)) := by
  rw [show a m c (ix2 (row t r) (mid t x)) = V m c main_v0 (ix2 (row t r) (mid t x)) from rfl]
  blk_ext [iblk, idx0 t, row, mid]

theorem blk1 (x : Fin 512) (n : Fin 1024) : iblk m c 1 t (ix3 0 x n) = w m c (ix2 (mid t x) (coln t n)) := by
  refine Eq.trans ?_ (split_apply (w m c) ⟨t.val / 11 % 2, by omega⟩ (mid t x) n)
  rw [show split (w m c) = V m c main_v3 from rfl]
  blk_ext [iblk, idx1 t, mid]

/-! ## The fold -/

/-- A summand of an entry of the product. -/
def f (i n : Fin 2048) (x : Fin 5632) : EReal := a m c (ix2 i x) * w m c (ix2 x n)

/-- What a point adds to the accumulator, over what it finds there. -/
theorem step (s : FVec Ideal S1024x1024 .f32) (r n : Fin 1024) : k0_pay2 (iblk m c 0 t) (iblk m c 1 t) s (ix2 r n)
    = s (ix2 r n) + ∑ x : Fin 512, f m c (row t r) (coln t n) (mid t x) :=
  (pay2_apply _ _ s r n).trans (congrArg _ (Finset.sum_congr rfl fun x _ => congrArg₂ (· * ·) (blk0 m c t r x) (blk1 m c t x n)))

/-- The accumulator after a point: the summands met so far. -/
theorem acc (k : ℕ) : ∀ t : Fin cfg0.N, t.val % 11 = k → ∀ r n : Fin 1024,
    (outsAt0 m c t.val t.isLt).2 (ix2 r n) = ∑ j ∈ Finset.range (512 * k + 512), ext (f m c (row t r) (coln t n)) j := by
  induction k with
  | zero =>
    intro t e r n
    rw [outsAt0_A m c t e (by omega)]
    dsimp only
    rw [s_A, step, pay1_apply, zero_add, sum_ext_add _ _ _ (by decide)]
    simp only [mid, e]
    simp
  | succ k ih =>
    intro t e r n
    have hk : k + 1 < 11 := e ▸ Nat.mod_lt _ (by decide)
    let t' : Fin cfg0.N := ⟨t.val - 1, Nat.lt_of_le_of_lt (Nat.sub_le _ _) t.isLt⟩
    have hr : row t' r = row t r := Fin.ext (by show (t.val - 1) / 22 * 1024 + r.val = t.val / 22 * 1024 + r.val; omega)
    have hc : coln t' n = coln t n := Fin.ext (by show (t.val - 1) / 11 % 2 * 1024 + n.val = t.val / 11 % 2 * 1024 + n.val; omega)
    have h : (outsAt0 m c t.val t.isLt).2 (ix2 r n) = k0_pay2 (iblk m c 0 t) (iblk m c 1 t) (outsAt0 m c t'.val t'.isLt).2 (ix2 r n) := by
      by_cases h : t.val % 11 = 10
      · rw [outsAt0_C m c t (by omega) h]
        dsimp only
        rw [s_C]
      · rw [outsAt0_B m c t (by omega) h]
        dsimp only
        rw [s_B]
    rw [h, step, ih t' (by show (t.val - 1) % 11 = k; omega), hr, hc, sum_ext_add _ (512 * (k + 1)) _ (by omega)]
    simp only [mid, e, Nat.mul_succ]

/-- At a run's last point the result holds the sum whole. -/
theorem last (t : Fin cfg0.N) (e : t.val % 11 = 10) (r n : Fin 1024) : (outsAt0 m c t.val t.isLt).1 (ix2 r n) = ∑ x, f m c (row t r) (coln t n) x := by
  have h : (outsAt0 m c t.val t.isLt).1 = (outsAt0 m c t.val t.isLt).2 := by
    rw [outsAt0_C m c t (by omega) e]
    dsimp only
    rw [s_C, o_C]
  rw [h, acc m c 10 t e]
  exact sum_ext _

theorem G2_eq (i n : Fin 2048) : G2 m c (ix2 i n) = ∑ x, f m c i n x := by
  have hp : 11 * (2 * (i.val / 1024 - 0) + 1 * (n.val / 1024 - 0)) + 10 < cfg0.N := lt_of_lt_of_eq (by omega) (show 44 = cfg0.N from N_0.symm)
  let t : Fin cfg0.N := ⟨11 * (2 * (i.val / 1024 - 0) + 1 * (n.val / 1024 - 0)) + 10, hp⟩
  have e : G2 m c (ix2 i n) = (outsAt0 m c t.val t.isLt).1 (ix2 ⟨i.val % 1024, by omega⟩ ⟨n.val % 1024, by omega⟩) := by
    rw [outsAt0_sweep]
    exact (dif_pos hp).trans (congrArg _ (by funext a; fin_cases a <;> rfl))
  have e1 : t.val % 11 = 10 := by show (11 * (2 * (i.val / 1024 - 0) + 1 * (n.val / 1024 - 0)) + 10) % 11 = 10; omega
  have h1 : row t ⟨i.val % 1024, by omega⟩ = i := Fin.ext (by
    show (11 * (2 * (i.val / 1024 - 0) + 1 * (n.val / 1024 - 0)) + 10) / 22 * 1024 + i.val % 1024 = i.val; omega)
  have h2 : coln t ⟨n.val % 1024, by omega⟩ = n := Fin.ext (by
    show (11 * (2 * (i.val / 1024 - 0) + 1 * (n.val / 1024 - 0)) + 10) / 11 % 2 * 1024 + n.val % 1024 = n.val; omega)
  rw [e, last m c t e1, h1, h2]

/-- The reference's product. -/
theorem ref_apply (a : FVec Ideal Cert.FfnDownRefIdeal.S2048x5632 .f32) (w : FVec Ideal Cert.FfnDownRefIdeal.S5632x2048 .f32) (i n : Fin 2048) :
    Host.dotGeneral Cert.FfnDownRefIdeal.dot_S2048x5632_S5632x2048_S2048x2048_1_0_0_1_n_n none a w (ix2 i n) = ∑ x : Fin 5632, a (ix2 i x) * w (ix2 x n) := by
  pointwise
end FfnDown
end
-- ==== Proof.MixInDxPoint.lean ====
/- One grid point of the gradient of the mixer's input: seven products added to an accumulator. -/
module

public import proofs.«01_k».proof.Proof.Ideals
public import proofs.«01_k».proof.Proof.Gen.MixInDxIdeal.Value
public import Idealize.ShloMosaic.Lib.Pipeline.ValueKit

@[expose] public section
noncomputable section
namespace MixInDx
open Idealize.ShloMosaic Idealize.SL.Sem Idealize.ShloMosaic.TcCoe Cert.MixInDxIdeal Cert.MixInDxIdeal.Gen Cert.MixInDxIdeal.Value Attn
open scoped BigOperators

/-! ## One grid point -/

/-- A part's tile times its weight's. -/
def tile (a : FVec Ideal S1024x512 .bf16) (b : FVec Ideal S1x512x1024 .bf16) (r n : Fin 1024) : EReal := ∑ x : Fin 512, a (ix2 r x) * b (ix3 0 x n)

theorem zero_apply (r n : Fin 1024) : k0_pay3 (F := Ideal) (ix2 r n) = 0 := by unfold k0_pay3; pointwise

section Cases
variable (dev : Dev nD) (i : grid0.Coords) (arg3 : Memref sig .tc .vmem S1024x512 .bf16) (harg3 : arg3.IsWhole) (arg4 : Memref sig .tc .vmem S1x512x1024 .bf16) (harg4 : arg4.IsWhole) (arg5 : Memref sig .tc .vmem S1024x512 .bf16) (harg5 : arg5.IsWhole) (arg6 : Memref sig .tc .vmem S1x512x1024 .bf16) (harg6 : arg6.IsWhole) (arg7 : Memref sig .tc .vmem S1024x512 .bf16) (harg7 : arg7.IsWhole) (arg8 : Memref sig .tc .vmem S1x512x1024 .bf16) (harg8 : arg8.IsWhole) (arg9 : Memref sig .tc .vmem S1024x512 .bf16) (harg9 : arg9.IsWhole) (arg10 : Memref sig .tc .vmem S1x512x1024 .bf16) (harg10 : arg10.IsWhole) (arg11 : Memref sig .tc .vmem S1024x512 .bf16) (harg11 : arg11.IsWhole) (arg12 : Memref sig .tc .vmem S1x512x1024 .bf16) (harg12 : arg12.IsWhole) (arg13 : Memref sig .tc .vmem S1024x512 .bf16) (harg13 : arg13.IsWhole) (arg14 : Memref sig .tc .vmem S1x512x1024 .bf16) (harg14 : arg14.IsWhole) (arg15 : Memref sig .tc .vmem S1024x512 .bf16) (harg15 : arg15.IsWhole) (arg16 : Memref sig .tc .vmem S1x512x1024 .bf16) (harg16 : arg16.IsWhole) (arg17 : Memref sig .tc .vmem S1024x1024 .f32) (harg17 : arg17.IsWhole) (arg18 : Memref sig .tc .vmem S1024x1024 .f32) (harg18 : arg18.IsWhole)
  (x0 x2 x4 x6 x8 x10 x12 : Vec Ideal S1024x512 .bf16) (x1 x3 x5 x7 x9 x11 x13 : Vec Ideal S1x512x1024 .bf16) (s : Vec Ideal S1024x1024 .f32)

/-- The seven products added one after the other. -/
def point : FVec Ideal S1024x1024 .f32 :=
  k0_pay2 x12 x13 (k0_pay1 (k0_pay11 x10) x11 (k0_pay10 x8 x9 (k0_pay9 x6 x7 (k0_pay8 (k0_pay6 x4) (k0_pay7 x5) (k0_pay5 x2 x3 (k0_pay4 x0 x1 s))))))

theorem point_apply (r n : Fin 1024) : point x0 x2 x4 x6 x8 x10 x12 x1 x3 x5 x7 x9 x11 x13 s (ix2 r n)
    = s (ix2 r n) + tile x0 x1 r n + tile x2 x3 r n + tile x4 x5 r n + tile x6 x7 r n + tile x8 x9 r n + tile x10 x11 r n + tile x12 x13 r n := by
  unfold point tile k0_pay2 k0_pay1 k0_pay11 k0_pay10 k0_pay9 k0_pay8 k0_pay6 k0_pay7 k0_pay5 k0_pay4
  pointwise

theorem s_A (h0 : cond0_0 i) (h1 : ¬cond0_1 i) : sout0_A_0 dev i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5 x6 x7 x8 x9 x10 x11 x12 x13
    = point x0 x2 x4 x6 x8 x10 x12 x1 x3 x5 x7 x9 x11 x13 (k0_pay3 (F := Ideal)) := by
  unfold point
  frame_out

theorem s_B (h0 : ¬cond0_0 i) (h1 : ¬cond0_1 i) : sout0_B_0 dev i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5 x6 x7 x8 x9 x10 x11 x12 x13 s
    = point x0 x2 x4 x6 x8 x10 x12 x1 x3 x5 x7 x9 x11 x13 s := by
  unfold point
  frame_out

theorem s_C (h0 : ¬cond0_0 i) (h1 : cond0_1 i) : sout0_C_0 dev i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5 x6 x7 x8 x9 x10 x11 x12 x13 s
    = point x0 x2 x4 x6 x8 x10 x12 x1 x3 x5 x7 x9 x11 x13 s := by
  unfold point
  frame_out

theorem o_C (h0 : ¬cond0_0 i) (h1 : cond0_1 i) : out0_C_14 dev i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5 x6 x7 x8 x9 x10 x11 x12 x13 s
    = point x0 x2 x4 x6 x8 x10 x12 x1 x3 x5 x7 x9 x11 x13 s := by
  unfold point
  frame_out
end Cases
end MixInDx
end
-- ==== Proof.MixInDx.lean ====
/- The gradient of the mixer's input: the accumulated tiles are the seven parts of the projection's gradient, each times its columns of the
   weight; the first part and its columns are padded with zeros. -/
module

public import proofs.«01_k».proof.Proof.MixInDxPoint
public import proofs.«01_k».proof.Proof.Gen.MixInDxRefIdeal.Run

@[expose] public section
noncomputable section
namespace MixInDx
open Idealize.ShloMosaic Idealize.SL.Sem Idealize.ShloMosaic.TcCoe Cert.MixInDxIdeal Cert.MixInDxIdeal.Gen Cert.MixInDxIdeal.Value Attn
open scoped BigOperators

/-! ## The blocks -/

variable (m : (ℓ : Loc nD τ sig) → Buf (Elt Ideal) ℓ) (c : Dev nD) (t : Fin cfg0.N)

/-- The gradient's parts, the weight, and the weights behind it. -/
abbrev lat : FVec Ideal S2048x1088 .f32 := m ((c.tc : Thread nD τ).loc main_arg0)
abbrev p1 : FVec Ideal S2048x2048 .f32 := m ((c.tc : Thread nD τ).loc main_arg1)
abbrev p2 : FVec Ideal S2048x2048 .f32 := m ((c.tc : Thread nD τ).loc main_arg2)
abbrev p3 : FVec Ideal S2048x2048 .f32 := m ((c.tc : Thread nD τ).loc main_arg3)
abbrev p4 : FVec Ideal S2048x2048 .f32 := m ((c.tc : Thread nD τ).loc main_arg4)
abbrev p5 : FVec Ideal S2048x2048 .f32 := m ((c.tc : Thread nD τ).loc main_arg5)
abbrev p6 : FVec Ideal S2048x2048 .f32 := m ((c.tc : Thread nD τ).loc main_arg6)
abbrev w : FVec Ideal S2048x13376 .f32 := m ((c.tc : Thread nD τ).loc main_arg7)
abbrev rest : FVec Ideal S6144x2048 .f32 := m ((c.tc : Thread nD τ).loc main_arg8)

/-- A latent's gradient, zero in the padding. -/
def lead (a : FVec Ideal S2048x1088 .f32) (i x : Fin 2048) : EReal := if h : x.val < 1088 then a (ix2 i ⟨x.val, h⟩) else 0

/-- Part `p` of the gradient at row `i` and its column `x`. -/
def part (p : Fin 7) (i x : Fin 2048) : EReal :=
  match p with
  | 0 => lead (lat m c) i x
  | 1 => p1 m c (ix2 i x) | 2 => p2 m c (ix2 i x) | 3 => p3 m c (ix2 i x) | 4 => p4 m c (ix2 i x) | 5 => p5 m c (ix2 i x) | 6 => p6 m c (ix2 i x)

/-- The weight's column that column `x` of part `p` meets, in row `n`. -/
def wide (w : FVec Ideal S2048x13376 .f32) (p : Fin 7) (x n : Fin 2048) : EReal :=
  if h : p.val = 0 then (if h : x.val < 1088 then w (ix2 n ⟨x.val, by omega⟩) else 0) else w (ix2 n ⟨1088 + 2048 * (p.val - 1) + x.val, by omega⟩)

theorem wide_lead (w : FVec Ideal S2048x13376 .f32) (p : Fin 7) (x n : Fin 2048) (h : p.val = 0) (hx : x.val < 1088) : wide w p x n = w (ix2 n ⟨x.val, by omega⟩) :=
  (dif_pos h).trans (dif_pos hx)
theorem wide_pad (w : FVec Ideal S2048x13376 .f32) (p : Fin 7) (x n : Fin 2048) (h : p.val = 0) (hx : ¬x.val < 1088) : wide w p x n = 0 :=
  (dif_pos h).trans (dif_neg hx)
theorem wide_pos (w : FVec Ideal S2048x13376 .f32) (p : Fin 7) (x n : Fin 2048) (h : p.val ≠ 0) :
    wide w p x n = w (ix2 n ⟨1088 + 2048 * (p.val - 1) + x.val, by omega⟩) := dif_neg h

/-- The weights as the kernel reads them: rows, their columns in two halves. -/
def split (w : FVec Ideal S2048x13376 .f32) (o : FVec Ideal S6144x2048 .f32) : FVec Ideal S2x20480x1024 .bf16 :=
  transpose S2x20480x1024 [1, 0, 2] (shapeCast S20480x2x1024 (truncf .bf16 (concatenate S20480x2048 0
    [⟨S1088x2048, (extractStridedSlice S1088x2048 ![0, 0] (transpose S13376x2048 [1, 0] w transposes_S2048x13376_S13376x2048_1_0) slices_S13376x2048_S1088x2048_0_0)⟩,
     ⟨S960x2048, (broadcastInDim S960x2048 ![] bcast_S_S960x2048 (constant (F := Ideal) S_ .f32 0x00000000#32))⟩,
     ⟨S12288x2048, (extractStridedSlice S12288x2048 ![1088, 0] (transpose S13376x2048 [1, 0] w transposes_S2048x13376_S13376x2048_1_0) slices_S13376x2048_S12288x2048_1088_0)⟩,
     ⟨S6144x2048, o⟩] concatenates_S1088x2048_S960x2048_S12288x2048_S6144x2048_S20480x2048_d0) bitsLt_bf16_f32) shapeCasts_S20480x2048_S20480x2x1024) transposes_S20480x2x1024_S2x20480x1024_1_0_2

theorem split_apply (w : FVec Ideal S2048x13376 .f32) (o : FVec Ideal S6144x2048 .f32) (p : Fin 7) (h : Fin 2) (x : Fin 2048) (n : Fin 1024) :
    split w o (ix3 h ⟨2048 * p.val + x.val, by omega⟩ n) = wide w p x ⟨h.val * 1024 + n.val, by omega⟩ := by
  unfold split
  pointwise
  by_cases hp : p.val = 0
  · by_cases hx : x.val < 1088
    · rw [wide_lead w p x _ hp hx]
      exact (dif_pos (by omega)).trans (congrArg w (congrArg (ix2 _) (Fin.ext (by show 2048 * p.val + x.val = x.val; omega))))
    · refine Eq.trans ?_ (wide_pad w p x _ hp hx).symm
      have k1 : ¬2048 * p.val + x.val < 1088 := by omega
      have k2 : 2048 * p.val + x.val - 1088 < 960 := by omega
      simp only [dif_neg k1, dif_pos k2]
  · refine Eq.trans ?_ (wide_pos w p x _ hp).symm
    have k1 : ¬2048 * p.val + x.val < 1088 := by omega
    have k2 : ¬2048 * p.val + x.val - 1088 < 960 := by omega
    have k3 : 2048 * p.val + x.val - 1088 - 960 < 12288 := by omega
    simp only [dif_neg k1, dif_neg k2, dif_pos k3]
    exact congrArg w (congrArg (ix2 _) (Fin.ext (by show 1088 + (2048 * p.val + x.val - 1088 - 960) = 1088 + 2048 * (p.val - 1) + x.val; omega)))

theorem lead_apply (a : FVec Ideal S2048x1088 .f32) (i x : Fin 2048) : (truncf (F := Ideal) .bf16 (concatenate S2048x2048 1 [⟨S2048x1088, a⟩,
    ⟨S2048x960, (broadcastInDim S2048x960 ![] bcast_S_S2048x960 (constant (F := Ideal) S_ .f32 0x00000000#32))⟩] concatenates_S2048x1088_S2048x960_S2048x2048_d1) bitsLt_bf16_f32 (ix2 i x) : EReal) = lead a i x := by
  unfold lead
  pointwise

theorem idx0 : ∀ t : Fin cfg0.N, win0_0.index t = ![t.val / 8, t.val % 4] := (by decide +kernel : ∀ t : Fin grid0.N, _)
theorem idx1 : ∀ t : Fin cfg0.N, win0_1.index t = ![t.val / 4 % 2, t.val % 4 + 0, 0] := (by decide +kernel : ∀ t : Fin grid0.N, _)
theorem idx2 : ∀ t : Fin cfg0.N, win0_2.index t = ![t.val / 8, t.val % 4] := (by decide +kernel : ∀ t : Fin grid0.N, _)
theorem idx3 : ∀ t : Fin cfg0.N, win0_3.index t = ![t.val / 4 % 2, t.val % 4 + 4, 0] := (by decide +kernel : ∀ t : Fin grid0.N, _)
theorem idx4 : ∀ t : Fin cfg0.N, win0_4.index t = ![t.val / 8, t.val % 4] := (by decide +kernel : ∀ t : Fin grid0.N, _)
theorem idx5 : ∀ t : Fin cfg0.N, win0_5.index t = ![t.val / 4 % 2, t.val % 4 + 8, 0] := (by decide +kernel : ∀ t : Fin grid0.N, _)
theorem idx6 : ∀ t : Fin cfg0.N, win0_6.index t = ![t.val / 8, t.val % 4] := (by decide +kernel : ∀ t : Fin grid0.N, _)
theorem idx7 : ∀ t : Fin cfg0.N, win0_7.index t = ![t.val / 4 % 2, t.val % 4 + 12, 0] := (by decide +kernel : ∀ t : Fin grid0.N, _)
theorem idx8 : ∀ t : Fin cfg0.N, win0_8.index t = ![t.val / 8, t.val % 4] := (by decide +kernel : ∀ t : Fin grid0.N, _)
theorem idx9 : ∀ t : Fin cfg0.N, win0_9.index t = ![t.val / 4 % 2, t.val % 4 + 16, 0] := (by decide +kernel : ∀ t : Fin grid0.N, _)
theorem idx10 : ∀ t : Fin cfg0.N, win0_10.index t = ![t.val / 8, t.val % 4] := (by decide +kernel : ∀ t : Fin grid0.N, _)
theorem idx11 : ∀ t : Fin cfg0.N, win0_11.index t = ![t.val / 4 % 2, t.val % 4 + 20, 0] := (by decide +kernel : ∀ t : Fin grid0.N, _)
theorem idx12 : ∀ t : Fin cfg0.N, win0_12.index t = ![t.val / 8, t.val % 4] := (by decide +kernel : ∀ t : Fin grid0.N, _)
theorem idx13 : ∀ t : Fin cfg0.N, win0_13.index t = ![t.val / 4 % 2, t.val % 4 + 24, 0] := (by decide +kernel : ∀ t : Fin grid0.N, _)

theorem tlt : t.val < 16 := lt_of_lt_of_eq t.isLt (show cfg0.N = 16 from N_0)

/-- The row, the column and the place in its part a point's entries stand at. -/
def row (r : Fin 1024) : Fin 2048 := ⟨t.val / 8 * 1024 + r.val, by have := tlt t; omega⟩
def coln (n : Fin 1024) : Fin 2048 := ⟨t.val / 4 % 2 * 1024 + n.val, by omega⟩
def mid (x : Fin 512) : Fin 2048 := ⟨512 * (t.val % 4) + x.val, by omega⟩

theorem part0 (r : Fin 1024) (x : Fin 512) : iblk m c 0 t (ix2 r x) = part m c 0 (row t r) (mid t x) := by
  rw [show part m c 0 (row t r) (mid t x) = V m c main_v11 (ix2 (row t r) (mid t x)) from (lead_apply _ _ _).symm]
  blk_ext [iblk, idx0 t, row, mid]
theorem wide0 (x : Fin 512) (n : Fin 1024) : iblk m c 1 t (ix3 0 x n) = wide (w m c) 0 (mid t x) (coln t n) := by
  refine Eq.trans ?_ (split_apply (w m c) (rest m c) 0 ⟨t.val / 4 % 2, by omega⟩ (mid t x) n)
  rw [show split (w m c) (rest m c) = V m c main_v10 from rfl]
  blk_ext [iblk, idx1 t, mid]
theorem part1 (r : Fin 1024) (x : Fin 512) : iblk m c 2 t (ix2 r x) = part m c 1 (row t r) (mid t x) := by
  rw [show part m c 1 (row t r) (mid t x) = V m c main_v12 (ix2 (row t r) (mid t x)) from rfl]
  blk_ext [iblk, idx2 t, row, mid]
theorem wide1 (x : Fin 512) (n : Fin 1024) : iblk m c 3 t (ix3 0 x n) = wide (w m c) 1 (mid t x) (coln t n) := by
  refine Eq.trans ?_ (split_apply (w m c) (rest m c) 1 ⟨t.val / 4 % 2, by omega⟩ (mid t x) n)
  rw [show split (w m c) (rest m c) = V m c main_v10 from rfl]
  blk_ext [iblk, idx3 t, mid]
theorem part2 (r : Fin 1024) (x : Fin 512) : iblk m c 4 t (ix2 r x) = part m c 2 (row t r) (mid t x) := by
  rw [show part m c 2 (row t r) (mid t x) = V m c main_v13 (ix2 (row t r) (mid t x)) from rfl]
  blk_ext [iblk, idx4 t, row, mid]
theorem wide2 (x : Fin 512) (n : Fin 1024) : iblk m c 5 t (ix3 0 x n) = wide (w m c) 2 (mid t x) (coln t n) := by
  refine Eq.trans ?_ (split_apply (w m c) (rest m c) 2 ⟨t.val / 4 % 2, by omega⟩ (mid t x) n)
  rw [show split (w m c) (rest m c) = V m c main_v10 from rfl]
  blk_ext [iblk, idx5 t, mid]
theorem part3 (r : Fin 1024) (x : Fin 512) : iblk m c 6 t (ix2 r x) = part m c 3 (row t r) (mid t x) := by
  rw [show part m c 3 (row t r) (mid t x) = V m c main_v14 (ix2 (row t r) (mid t x)) from rfl]
  blk_ext [iblk, idx6 t, row, mid]
theorem wide3 (x : Fin 512) (n : Fin 1024) : iblk m c 7 t (ix3 0 x n) = wide (w m c) 3 (mid t x) (coln t n) := by
  refine Eq.trans ?_ (split_apply (w m c) (rest m c) 3 ⟨t.val / 4 % 2, by omega⟩ (mid t x) n)
  rw [show split (w m c) (rest m c) = V m c main_v10 from rfl]
  blk_ext [iblk, idx7 t, mid]
theorem part4 (r : Fin 1024) (x : Fin 512) : iblk m c 8 t (ix2 r x) = part m c 4 (row t r) (mid t x) := by
  rw [show part m c 4 (row t r) (mid t x) = V m c main_v15 (ix2 (row t r) (mid t x)) from rfl]
  blk_ext [iblk, idx8 t, row, mid]
theorem wide4 (x : Fin 512) (n : Fin 1024) : iblk m c 9 t (ix3 0 x n) = wide (w m c) 4 (mid t x) (coln t n) := by
  refine Eq.trans ?_ (split_apply (w m c) (rest m c) 4 ⟨t.val / 4 % 2, by omega⟩ (mid t x) n)
  rw [show split (w m c) (rest m c) = V m c main_v10 from rfl]
  blk_ext [iblk, idx9 t, mid]
theorem part5 (r : Fin 1024) (x : Fin 512) : iblk m c 10 t (ix2 r x) = part m c 5 (row t r) (mid t x) := by
  rw [show part m c 5 (row t r) (mid t x) = V m c main_v16 (ix2 (row t r) (mid t x)) from rfl]
  blk_ext [iblk, idx10 t, row, mid]
theorem wide5 (x : Fin 512) (n : Fin 1024) : iblk m c 11 t (ix3 0 x n) = wide (w m c) 5 (mid t x) (coln t n) := by
  refine Eq.trans ?_ (split_apply (w m c) (rest m c) 5 ⟨t.val / 4 % 2, by omega⟩ (mid t x) n)
  rw [show split (w m c) (rest m c) = V m c main_v10 from rfl]
  blk_ext [iblk, idx11 t, mid]
theorem part6 (r : Fin 1024) (x : Fin 512) : iblk m c 12 t (ix2 r x) = part m c 6 (row t r) (mid t x) := by
  rw [show part m c 6 (row t r) (mid t x) = V m c main_v17 (ix2 (row t r) (mid t x)) from rfl]
  blk_ext [iblk, idx12 t, row, mid]
theorem wide6 (x : Fin 512) (n : Fin 1024) : iblk m c 13 t (ix3 0 x n) = wide (w m c) 6 (mid t x) (coln t n) := by
  refine Eq.trans ?_ (split_apply (w m c) (rest m c) 6 ⟨t.val / 4 % 2, by omega⟩ (mid t x) n)
  rw [show split (w m c) (rest m c) = V m c main_v10 from rfl]
  blk_ext [iblk, idx13 t, mid]

/-! ## The fold -/

/-- A summand of an entry: column `x` of part `p`. -/
def f (i n : Fin 2048) (p : Fin 7) (x : Fin 2048) : EReal := part m c p i x * wide (w m c) p x n

/-- What a point adds to the accumulator, over what it finds there. -/
theorem step (s : FVec Ideal S1024x1024 .f32) (r n : Fin 1024) : point (iblk m c 0 t) (iblk m c 2 t) (iblk m c 4 t) (iblk m c 6 t) (iblk m c 8 t) (iblk m c 10 t) (iblk m c 12 t) (iblk m c 1 t) (iblk m c 3 t) (iblk m c 5 t) (iblk m c 7 t) (iblk m c 9 t) (iblk m c 11 t) (iblk m c 13 t) s (ix2 r n)
    = s (ix2 r n) + ∑ p : Fin 7, ∑ x : Fin 512, f m c (row t r) (coln t n) p (mid t x) := by
  rw [point_apply, Fin.sum_univ_seven]
  simp only [tile, f, part0, wide0,part1, wide1,part2, wide2,part3, wide3,part4, wide4,part5, wide5,part6, wide6, add_assoc]

/-- The accumulator after a point: of each part the summands met so far. -/
theorem acc (k : ℕ) : ∀ t : Fin cfg0.N, t.val % 4 = k → ∀ r n : Fin 1024,
    (outsAt0 m c t.val t.isLt).2 (ix2 r n) = ∑ p : Fin 7, ∑ j ∈ Finset.range (512 * k + 512), ext (f m c (row t r) (coln t n) p) j := by
  induction k with
  | zero =>
    intro t e r n
    rw [outsAt0_A m c t e (by omega)]
    dsimp only
    rw [s_A, step, zero_apply, zero_add]
    refine Finset.sum_congr rfl fun p _ => ?_
    rw [sum_ext_add _ _ _ (by decide)]
    simp only [mid, e]
    simp
  | succ k ih =>
    intro t e r n
    have hk : k + 1 < 4 := e ▸ Nat.mod_lt _ (by decide)
    let t' : Fin cfg0.N := ⟨t.val - 1, Nat.lt_of_le_of_lt (Nat.sub_le _ _) t.isLt⟩
    have hr : row t' r = row t r := Fin.ext (by show (t.val - 1) / 8 * 1024 + r.val = t.val / 8 * 1024 + r.val; omega)
    have hc : coln t' n = coln t n := Fin.ext (by show (t.val - 1) / 4 % 2 * 1024 + n.val = t.val / 4 % 2 * 1024 + n.val; omega)
    have h : (outsAt0 m c t.val t.isLt).2 (ix2 r n) = point (iblk m c 0 t) (iblk m c 2 t) (iblk m c 4 t) (iblk m c 6 t) (iblk m c 8 t) (iblk m c 10 t) (iblk m c 12 t) (iblk m c 1 t) (iblk m c 3 t) (iblk m c 5 t) (iblk m c 7 t) (iblk m c 9 t) (iblk m c 11 t) (iblk m c 13 t) (outsAt0 m c t'.val t'.isLt).2 (ix2 r n) := by
      by_cases h : t.val % 4 = 3
      · rw [outsAt0_C m c t (by omega) h]
        dsimp only
        rw [s_C]
      · rw [outsAt0_B m c t (by omega) h]
        dsimp only
        rw [s_B]
    rw [h, step, ih t' (by show (t.val - 1) % 4 = k; omega), hr, hc, ← Finset.sum_add_distrib]
    refine Finset.sum_congr rfl fun p _ => ?_
    rw [sum_ext_add _ (512 * (k + 1)) _ (by omega)]
    simp only [mid, e, Nat.mul_succ]

/-- At a run's last point the result holds the sum whole. -/
theorem last (t : Fin cfg0.N) (e : t.val % 4 = 3) (r n : Fin 1024) :
    (outsAt0 m c t.val t.isLt).1 (ix2 r n) = ∑ p : Fin 7, ∑ x, f m c (row t r) (coln t n) p x := by
  have h : (outsAt0 m c t.val t.isLt).1 = (outsAt0 m c t.val t.isLt).2 := by
    rw [outsAt0_C m c t (by omega) e]
    dsimp only
    rw [s_C, o_C]
  rw [h, acc m c 3 t e]
  exact Finset.sum_congr rfl fun p _ => sum_ext _

theorem G14_eq (i n : Fin 2048) : G14 m c (ix2 i n) = ∑ p : Fin 7, ∑ x, f m c i n p x := by
  have hp : 4 * (2 * (i.val / 1024 - 0) + 1 * (n.val / 1024 - 0)) + 3 < cfg0.N := lt_of_lt_of_eq (by omega) (show 16 = cfg0.N from N_0.symm)
  let t : Fin cfg0.N := ⟨4 * (2 * (i.val / 1024 - 0) + 1 * (n.val / 1024 - 0)) + 3, hp⟩
  have e : G14 m c (ix2 i n) = (outsAt0 m c t.val t.isLt).1 (ix2 ⟨i.val % 1024, by omega⟩ ⟨n.val % 1024, by omega⟩) := by
    rw [outsAt0_sweep]
    exact (dif_pos hp).trans (congrArg _ (by funext a; fin_cases a <;> rfl))
  have e1 : t.val % 4 = 3 := by show (4 * (2 * (i.val / 1024 - 0) + 1 * (n.val / 1024 - 0)) + 3) % 4 = 3; omega
  have h1 : row t ⟨i.val % 1024, by omega⟩ = i := Fin.ext (by
    show (4 * (2 * (i.val / 1024 - 0) + 1 * (n.val / 1024 - 0)) + 3) / 8 * 1024 + i.val % 1024 = i.val; omega)
  have h2 : coln t ⟨n.val % 1024, by omega⟩ = n := Fin.ext (by
    show (4 * (2 * (i.val / 1024 - 0) + 1 * (n.val / 1024 - 0)) + 3) / 4 % 2 * 1024 + n.val % 1024 = n.val; omega)
  rw [e, last m c t e1, h1, h2]

/-! ## The reference -/

/-- The sum over all columns is the sum over the parts: zeros do not add. -/
theorem parts (i n : Fin 2048) (F : Fin 13376 → EReal) (h0 : ∀ x : Fin 1088, F ⟨x.val, by omega⟩ = lat m c (ix2 i x) * w m c (ix2 n ⟨x.val, by omega⟩))
    (hF : ∀ p : Fin 7, ∀ x : Fin 2048, ∀ h : p.val ≠ 0, F ⟨1088 + 2048 * (p.val - 1) + x.val, by omega⟩ = f m c i n p x) : ∑ x, F x = ∑ p : Fin 7, ∑ x, f m c i n p x := by
  have z : ∑ x, f m c i n 0 x = ∑ j ∈ Finset.range 1088, ext F j := by
    have hz (x : Fin 2048) (h : ¬x.val < 1088) : f m c i n 0 x = 0 :=
      (congrArg₂ (· * ·) (dif_neg h) (wide_pad _ _ _ _ rfl h)).trans (mul_zero (0 : EReal))
    have hs (x : Fin 1088) : f m c i n 0 ⟨x.val, by omega⟩ = F ⟨x.val, by omega⟩ :=
      (congrArg₂ (· * ·) (dif_pos x.isLt) (wide_lead _ _ _ _ rfl x.isLt)).trans (h0 x).symm
    refine (sum_ext (f m c i n 0)).symm.trans ((sum_ext_add (f m c i n 0) 1088 960 (by decide)).trans ?_)
    rw [Finset.sum_eq_zero (s := Finset.univ) (fun x _ => hz ⟨1088 + x.val, by omega⟩ (by show ¬1088 + x.val < 1088; omega)), add_zero,
      Finset.sum_range, Finset.sum_range]
    exact Finset.sum_congr rfl fun x _ => (dif_pos (show x.val < 2048 by omega)).trans ((hs x).trans (show ext F x.val = F ⟨x.val, by omega⟩ from dif_pos _).symm)
  rw [← sum_ext F, Fin.sum_univ_seven, z, sum_ext_add F 11328 2048 (by decide), sum_ext_add F 9280 2048 (by decide), sum_ext_add F 7232 2048 (by decide),
    sum_ext_add F 5184 2048 (by decide), sum_ext_add F 3136 2048 (by decide), sum_ext_add F 1088 2048 (by decide)]
  have hp (p : Fin 7) (h : p.val ≠ 0) : ∑ x, f m c i n p x = ∑ x : Fin 2048, F ⟨1088 + 2048 * (p.val - 1) + x.val, by omega⟩ :=
    Finset.sum_congr rfl fun x _ => (hF p x h).symm
  rw [hp 1 (by decide), hp 2 (by decide), hp 3 (by decide), hp 4 (by decide), hp 5 (by decide), hp 6 (by decide)]
  rfl

theorem ref_apply (i n : Fin 2048) : Host.dotGeneral Cert.MixInDxRefIdeal.dot_S2048x13376_S2048x13376_S2048x2048_1_1_0_0_n_n none
    (concatenate Cert.MixInDxRefIdeal.S2048x13376 1 [⟨Cert.MixInDxRefIdeal.S2048x1088, lat m c⟩, ⟨Cert.MixInDxRefIdeal.S2048x2048, p1 m c⟩, ⟨Cert.MixInDxRefIdeal.S2048x2048, p2 m c⟩,
      ⟨Cert.MixInDxRefIdeal.S2048x2048, p3 m c⟩, ⟨Cert.MixInDxRefIdeal.S2048x2048, p4 m c⟩, ⟨Cert.MixInDxRefIdeal.S2048x2048, p5 m c⟩, ⟨Cert.MixInDxRefIdeal.S2048x2048, p6 m c⟩]
      Cert.MixInDxRefIdeal.Gen.facts.concatenates_S2048x1088_S2048x2048_S2048x2048_S2048x2048_S2048x2048_S2048x2048_S2048x2048_S2048x13376_d1) (w m c) (ix2 i n)
    = ∑ p : Fin 7, ∑ x, f m c i n p x := by
  pointwise
  refine parts m c i n _ (fun x => ?_) (fun p x h => ?_)
  · exact congrArg₂ (· * ·) (dif_pos x.isLt) rfl
  · refine congrArg₂ (· * ·) ?_ (wide_pos _ _ _ _ h).symm
    have hj : (⟨1088 + 2048 * (p.val - 1) + x.val, by omega⟩ : Fin 13376).val = 1088 + 2048 * (p.val - 1) + x.val := rfl
    generalize (⟨1088 + 2048 * (p.val - 1) + x.val, by omega⟩ : Fin 13376) = j at hj ⊢
    match p, h, hj with
    | 0, h, _ => exact absurd rfl h
    | 1, _, hj =>
      have hj : j.val = 1088 + x.val := hj
      exact (dif_neg (by omega)).trans ((dif_pos (by omega)).trans (congrArg (p1 m c) (congrArg (ix2 i) (Fin.ext (by dsimp only; omega)))))
    | 2, _, hj =>
      have hj : j.val = 3136 + x.val := hj
      exact (dif_neg (by omega)).trans ((dif_neg (by omega)).trans ((dif_pos (by omega)).trans (congrArg (p2 m c) (congrArg (ix2 i) (Fin.ext (by dsimp only; omega))))))
    | 3, _, hj =>
      have hj : j.val = 5184 + x.val := hj
      exact (dif_neg (by omega)).trans ((dif_neg (by omega)).trans ((dif_neg (by omega)).trans ((dif_pos (by omega)).trans (congrArg (p3 m c) (congrArg (ix2 i) (Fin.ext (by dsimp only; omega)))))))
    | 4, _, hj =>
      have hj : j.val = 7232 + x.val := hj
      exact (dif_neg (by omega)).trans ((dif_neg (by omega)).trans ((dif_neg (by omega)).trans ((dif_neg (by omega)).trans ((dif_pos (by omega)).trans (congrArg (p4 m c) (congrArg (ix2 i) (Fin.ext (by dsimp only; omega))))))))
    | 5, _, hj =>
      have hj : j.val = 9280 + x.val := hj
      exact (dif_neg (by omega)).trans ((dif_neg (by omega)).trans ((dif_neg (by omega)).trans ((dif_neg (by omega)).trans ((dif_neg (by omega)).trans ((dif_pos (by omega)).trans (congrArg (p5 m c) (congrArg (ix2 i) (Fin.ext (by dsimp only; omega)))))))))
    | 6, _, hj =>
      have hj : j.val = 11328 + x.val := hj
      exact (dif_neg (by omega)).trans ((dif_neg (by omega)).trans ((dif_neg (by omega)).trans ((dif_neg (by omega)).trans ((dif_neg (by omega)).trans ((dif_neg (by omega)).trans (congrArg (p6 m c) (congrArg (ix2 i) (Fin.ext (by dsimp only; omega)))))))))

end MixInDx
end
-- ==== Proof.Rows.lean ====
/- Arrays of 2048 rows that a kernel writes 256 rows at a time. -/
module

public import proofs.«01_k».proof.Proof.Ideals
public import Idealize.ShloMosaic.Lib.Pipeline.ValueKit

@[expose] public section
noncomputable section
namespace Rows
open Idealize.ShloMosaic
open scoped BigOperators

/-- The row that row `r` of block `t` is. -/
def row (t : ℕ) (ht : t < 8) (r : Fin 256) : Fin 2048 := ⟨t * 256 + r.val, by omega⟩

/-- The array of a function of row and column. -/
def G (φ : FTy) (f : Fin 2048 → Fin 2048 → EReal) : FVec Ideal ⟨2, ![2048, 2048]⟩ φ := fun i => f (i 0) (i 1)

theorem G_apply (φ : FTy) (f : Fin 2048 → Fin 2048 → EReal) (i n : Fin 2048) : G φ f (ix2 i n) = f i n := rfl

/-- In block `t` it is the function at the entry's row and column. -/
theorem G_at (φ : FTy) (f : Fin 2048 → Fin 2048 → EReal) (t : ℕ) (ht : t < 8) (i : (⟨2, ![2048, 2048]⟩ : Shape).Idx) (y : (⟨2, ![256, 2048]⟩ : Shape).Idx)
    (k : ∀ a : Fin 2, (i a).val = (![t, 0] : Fin 2 → ℕ) a * (![256, 2048] : Fin 2 → ℕ) a + 1 * (y a).val) : G φ f i = f (row t ht (y 0)) (y 1) := by
  have k0 : (i 0).val = t * 256 + 1 * (y 0).val := k 0
  have k1 : (i 1).val = 0 * 2048 + 1 * (y 1).val := k 1
  exact congrArg₂ f (Fin.ext (by show (i 0).val = t * 256 + (y 0).val; omega)) (Fin.ext (by omega))

/-- Every entry lies in a block. -/
theorem box (i : (⟨2, ![2048, 2048]⟩ : Shape).Idx) : ∃ t : ℕ, t < 8 ∧ ∀ a : Fin 2, (![t, 0] : Fin 2 → ℕ) a * (![256, 2048] : Fin 2 → ℕ) a ≤ (i a).val
    ∧ (i a).val < (![t, 0] : Fin 2 → ℕ) a * (![256, 2048] : Fin 2 → ℕ) a + (![256, 2048] : Fin 2 → ℕ) a := by
  have h0 : (i 0).val < 2048 := (i 0).isLt
  have h1 : (i 1).val < 2048 := (i 1).isLt
  refine ⟨(i 0).val / 256, by omega, fun a => ?_⟩
  fin_cases a
  · show (i 0).val / 256 * 256 ≤ (i 0).val ∧ (i 0).val < (i 0).val / 256 * 256 + 256
    omega
  · show 0 * 2048 ≤ (i 1).val ∧ (i 1).val < 0 * 2048 + 2048
    omega

end Rows
end
-- ==== Proof.MergeBwd.lean ====
/- The merge's backward: the gradients of the two gates' logits and of the two gated branches. -/
module

public import proofs.«01_k».proof.Proof.Rows
public import proofs.«01_k».proof.Proof.Gen.MergeBwdIdeal.Value
public import proofs.«01_k».proof.Proof.Gen.MergeBwdRefIdeal.Run

@[expose] public section
noncomputable section
namespace MergeBwd
open Idealize.ShloMosaic Idealize.SL.Sem Idealize.ShloMosaic.TcCoe Cert.MergeBwdIdeal Cert.MergeBwdIdeal.Gen Cert.MergeBwdIdeal.Value Rows

/-- The gradient of a gate's logit `z`: the gate multiplies `y`, and `d` is the gradient of the product. -/
def dz (d z y : EReal) : EReal := (d * y) * (Ideal.logistic z * (1 - Ideal.logistic z))
/-- The gradient of what the gate multiplies. -/
def dy (d z : EReal) : EReal := Ideal.logistic z * d

section Bodies
variable (x0 x1 x2 x3 x4 : FVec Ideal S256x2048 .f32) (r : Fin 256) (n : Fin 2048)

theorem o5 : out0_5 (F := Ideal) x0 x1 x2 x3 x4 = k0_pay7 (F := Ideal) x0 x1 x3 := by frame_out
theorem o6 : out0_6 (F := Ideal) x0 x1 x2 x3 x4 = k0_pay8 (F := Ideal) x0 x2 x4 := by frame_out
theorem o7 : out0_7 (F := Ideal) x0 x1 x2 x3 x4 = k0_pay1 (F := Ideal) (k0_pay5 x0 x1) := by frame_out
theorem o8 : out0_8 (F := Ideal) x0 x1 x2 x3 x4 = k0_pay2 (F := Ideal) (k0_pay6 x0 x2) := by frame_out

theorem out5 : (out0_5 (F := Ideal) x0 x1 x2 x3 x4 (ix2 r n) : EReal) = dz (x0 (ix2 r n)) (x1 (ix2 r n)) (x3 (ix2 r n)) := by
  rw [o5]
  unfold k0_pay7 k0_pay3 dz
  pointwise
  simp only [Ideal.logistic, zero_sub, mul_assoc]
theorem out6 : (out0_6 (F := Ideal) x0 x1 x2 x3 x4 (ix2 r n) : EReal) = dz (x0 (ix2 r n)) (x2 (ix2 r n)) (x4 (ix2 r n)) := by
  rw [o6]
  unfold k0_pay8 k0_pay4 dz
  pointwise
  simp only [Ideal.logistic, zero_sub, mul_assoc]
theorem out7 : (out0_7 (F := Ideal) x0 x1 x2 x3 x4 (ix2 r n) : EReal) = dy (x0 (ix2 r n)) (x1 (ix2 r n)) := by
  rw [o7]
  unfold k0_pay1 k0_pay5 k0_pay3 dy
  pointwise
  simp only [Ideal.logistic, zero_sub, mul_comm]
theorem out8 : (out0_8 (F := Ideal) x0 x1 x2 x3 x4 (ix2 r n) : EReal) = dy (x0 (ix2 r n)) (x2 (ix2 r n)) := by
  rw [o8]
  unfold k0_pay2 k0_pay6 k0_pay4 dy
  pointwise
  simp only [Ideal.logistic, zero_sub, mul_comm]
end Bodies

/-! ## The blocks -/

variable (m : (ℓ : Loc nD τ sig) → Buf (Elt Ideal) ℓ) (c : Dev nD) (t : Fin cfg0.N)

/-- The merge's gradient, the array of projections, and the two branches. -/
abbrev dm : FVec Ideal S2048x2048 .f32 := m ((c.tc : Thread nD τ).loc main_arg0)
abbrev proj : FVec Ideal S2048x14336 .f32 := m ((c.tc : Thread nD τ).loc main_arg1)
abbrev ya : FVec Ideal S2048x2048 .f32 := m ((c.tc : Thread nD τ).loc main_arg2)
abbrev yb : FVec Ideal S2048x2048 .f32 := m ((c.tc : Thread nD τ).loc main_arg3)

/-- The gates' logits lie in two ranges of columns. -/
def za (i n : Fin 2048) : EReal := proj m c (ix2 i ⟨10240 + n.val, by omega⟩)
def zb (i n : Fin 2048) : EReal := proj m c (ix2 i ⟨12288 + n.val, by omega⟩)

theorem tlt : t.val < 8 := lt_of_lt_of_eq t.isLt (show cfg0.N = 8 from N_0)

theorem idx0 : ∀ t : Fin cfg0.N, win0_0.index t = ![t.val, 0] := (by decide +kernel : ∀ t : Fin grid0.N, _)
theorem idx1 : ∀ t : Fin cfg0.N, win0_1.index t = ![t.val, 5] := (by decide +kernel : ∀ t : Fin grid0.N, _)
theorem idx2 : ∀ t : Fin cfg0.N, win0_2.index t = ![t.val, 6] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

theorem blk0 (r : Fin 256) (n : Fin 2048) : iblk m c 0 t (ix2 r n) = dm m c (ix2 (row t.val (tlt t) r) n) := by
  rw [show dm m c (ix2 (row t.val (tlt t) r) n) = V m c main_arg0 (ix2 (row t.val (tlt t) r) n) from rfl]
  blk_ext [iblk, idx0 t, row]
theorem blk1 (r : Fin 256) (n : Fin 2048) : iblk m c 1 t (ix2 r n) = za m c (row t.val (tlt t) r) n := by
  rw [show za m c (row t.val (tlt t) r) n = V m c main_arg1 (ix2 (row t.val (tlt t) r) ⟨10240 + n.val, by omega⟩) from rfl]
  blk_ext [iblk, idx1 t, row]
theorem blk2 (r : Fin 256) (n : Fin 2048) : iblk m c 2 t (ix2 r n) = zb m c (row t.val (tlt t) r) n := by
  rw [show zb m c (row t.val (tlt t) r) n = V m c main_arg1 (ix2 (row t.val (tlt t) r) ⟨12288 + n.val, by omega⟩) from rfl]
  blk_ext [iblk, idx2 t, row]
theorem blk3 (r : Fin 256) (n : Fin 2048) : iblk m c 3 t (ix2 r n) = ya m c (ix2 (row t.val (tlt t) r) n) := by
  rw [show ya m c (ix2 (row t.val (tlt t) r) n) = V m c main_arg2 (ix2 (row t.val (tlt t) r) n) from rfl]
  blk_ext [iblk, idx3 t, row]
theorem blk4 (r : Fin 256) (n : Fin 2048) : iblk m c 4 t (ix2 r n) = yb m c (ix2 (row t.val (tlt t) r) n) := by
  rw [show yb m c (ix2 (row t.val (tlt t) r) n) = V m c main_arg3 (ix2 (row t.val (tlt t) r) n) from rfl]
  blk_ext [iblk, idx4 t, row]

/-! ## The arrays -/

/-- The four results, entry by entry. -/
def f5 (i n : Fin 2048) : EReal := dz (dm m c (ix2 i n)) (za m c i n) (ya m c (ix2 i n))
def f6 (i n : Fin 2048) : EReal := dz (dm m c (ix2 i n)) (zb m c i n) (yb m c (ix2 i n))
def f7 (i n : Fin 2048) : EReal := dy (dm m c (ix2 i n)) (za m c i n)
def f8 (i n : Fin 2048) : EReal := dy (dm m c (ix2 i n)) (zb m c i n)

theorem point5 (r : Fin 256) (n : Fin 2048) :
    (out0_5 (F := Ideal) (iblk m c 0 t) (iblk m c 1 t) (iblk m c 2 t) (iblk m c 3 t) (iblk m c 4 t) (ix2 r n) : EReal) = f5 m c (row t.val (tlt t) r) n := by
  rw [out5, blk0, blk1, blk3]
  rfl
theorem flushed5_eq : (dats m 0 c).flushed 5 t = ((cfg0.win 5).blk t).view.read (Elt Ideal) (G .bf16 (f5 m c)) := by
  rw [flushed5]
  funext y
  refine (congrArg (out0_5 _ _ _ _ _) (eq_ix2 ((cfg0.win 5).xinj (grid0.coords t) y))).trans
    ((point5 m c t _ _).trans (G_at .bf16 (f5 m c) t.val (tlt t) _ y fun k => ?_).symm)
  rw [← idx5 t]
  exact rfl
theorem final5 : (dats m 0 c).arrAt 5 cfg0.N = G .bf16 (f5 m c) := by
  refine (dats m 0 c).arrAt_eq_of_cover 5 _ (fun t _ => flushed5_eq m c t) fun i => ?_
  obtain ⟨t, ht, k⟩ := box i
  have tt : t < cfg0.N := lt_of_lt_of_eq ht (show 8 = cfg0.N from N_0.symm)
  refine ⟨⟨t, tt⟩, flush0_5 _, ?_⟩
  show i ∈ ((View.whole main_v0_0).slice (win0_5.rect ⟨t, tt⟩)).set
  rw [View.set_slice_whole, Rect.mem_set_unit]
  intro a
  rw [show win0_5.index ⟨t, tt⟩ = ![t, 0] from idx5 _]
  exact k a

theorem point6 (r : Fin 256) (n : Fin 2048) :
    (out0_6 (F := Ideal) (iblk m c 0 t) (iblk m c 1 t) (iblk m c 2 t) (iblk m c 3 t) (iblk m c 4 t) (ix2 r n) : EReal) = f6 m c (row t.val (tlt t) r) n := by
  rw [out6, blk0, blk2, blk4]
  rfl
theorem flushed6_eq : (dats m 0 c).flushed 6 t = ((cfg0.win 6).blk t).view.read (Elt Ideal) (G .bf16 (f6 m c)) := by
  rw [flushed6]
  funext y
  refine (congrArg (out0_6 _ _ _ _ _) (eq_ix2 ((cfg0.win 6).xinj (grid0.coords t) y))).trans
    ((point6 m c t _ _).trans (G_at .bf16 (f6 m c) t.val (tlt t) _ y fun k => ?_).symm)
  rw [← idx6 t]
  exact rfl
theorem final6 : (dats m 0 c).arrAt 6 cfg0.N = G .bf16 (f6 m c) := by
  refine (dats m 0 c).arrAt_eq_of_cover 6 _ (fun t _ => flushed6_eq m c t) fun i => ?_
  obtain ⟨t, ht, k⟩ := box i
  have tt : t < cfg0.N := lt_of_lt_of_eq ht (show 8 = cfg0.N from N_0.symm)
  refine ⟨⟨t, tt⟩, flush0_6 _, ?_⟩
  show i ∈ ((View.whole main_v0_1).slice (win0_6.rect ⟨t, tt⟩)).set
  rw [View.set_slice_whole, Rect.mem_set_unit]
  intro a
  rw [show win0_6.index ⟨t, tt⟩ = ![t, 0] from idx6 _]
  exact k a

theorem point7 (r : Fin 256) (n : Fin 2048) :
    (out0_7 (F := Ideal) (iblk m c 0 t) (iblk m c 1 t) (iblk m c 2 t) (iblk m c 3 t) (iblk m c 4 t) (ix2 r n) : EReal) = f7 m c (row t.val (tlt t) r) n := by
  rw [out7, blk0, blk1]
  rfl
theorem flushed7_eq : (dats m 0 c).flushed 7 t = ((cfg0.win 7).blk t).view.read (Elt Ideal) (G .bf16 (f7 m c)) := by
  rw [flushed7]
  funext y
  refine (congrArg (out0_7 _ _ _ _ _) (eq_ix2 ((cfg0.win 7).xinj (grid0.coords t) y))).trans
    ((point7 m c t _ _).trans (G_at .bf16 (f7 m c) t.val (tlt t) _ y fun k => ?_).symm)
  rw [← idx7 t]
  exact rfl
theorem final7 : (dats m 0 c).arrAt 7 cfg0.N = G .bf16 (f7 m c) := by
  refine (dats m 0 c).arrAt_eq_of_cover 7 _ (fun t _ => flushed7_eq m c t) fun i => ?_
  obtain ⟨t, ht, k⟩ := box i
  have tt : t < cfg0.N := lt_of_lt_of_eq ht (show 8 = cfg0.N from N_0.symm)
  refine ⟨⟨t, tt⟩, flush0_7 _, ?_⟩
  show i ∈ ((View.whole main_v0_2).slice (win0_7.rect ⟨t, tt⟩)).set
  rw [View.set_slice_whole, Rect.mem_set_unit]
  intro a
  rw [show win0_7.index ⟨t, tt⟩ = ![t, 0] from idx7 _]
  exact k a

theorem point8 (r : Fin 256) (n : Fin 2048) :
    (out0_8 (F := Ideal) (iblk m c 0 t) (iblk m c 1 t) (iblk m c 2 t) (iblk m c 3 t) (iblk m c 4 t) (ix2 r n) : EReal) = f8 m c (row t.val (tlt t) r) n := by
  rw [out8, blk0, blk2]
  rfl
theorem flushed8_eq : (dats m 0 c).flushed 8 t = ((cfg0.win 8).blk t).view.read (Elt Ideal) (G .bf16 (f8 m c)) := by
  rw [flushed8]
  funext y
  refine (congrArg (out0_8 _ _ _ _ _) (eq_ix2 ((cfg0.win 8).xinj (grid0.coords t) y))).trans
    ((point8 m c t _ _).trans (G_at .bf16 (f8 m c) t.val (tlt t) _ y fun k => ?_).symm)
  rw [← idx8 t]
  exact rfl
theorem final8 : (dats m 0 c).arrAt 8 cfg0.N = G .bf16 (f8 m c) := by
  refine (dats m 0 c).arrAt_eq_of_cover 8 _ (fun t _ => flushed8_eq m c t) fun i => ?_
  obtain ⟨t, ht, k⟩ := box i
  have tt : t < cfg0.N := lt_of_lt_of_eq ht (show 8 = cfg0.N from N_0.symm)
  refine ⟨⟨t, tt⟩, flush0_8 _, ?_⟩
  show i ∈ ((View.whole main_v0_3).slice (win0_8.rect ⟨t, tt⟩)).set
  rw [View.set_slice_whole, Rect.mem_set_unit]
  intro a
  rw [show win0_8.index ⟨t, tt⟩ = ![t, 0] from idx8 _]
  exact k a

/-! ## The references -/

/-- One, and the gate, as the references spell them. -/
abbrev ones : FVec Ideal Cert.MergeBwdRefIdeal.S2048x2048 .f32 :=
  broadcastInDim Cert.MergeBwdRefIdeal.S2048x2048 ![] Cert.MergeBwdRefIdeal.Gen.facts.bcast_S_S2048x2048 (constant (F := Ideal) Cert.MergeBwdRefIdeal.S_ .f32 0x3F800000#32)
abbrev gate (z : FVec Ideal Cert.MergeBwdRefIdeal.S2048x2048 .f32) : FVec Ideal Cert.MergeBwdRefIdeal.S2048x2048 .f32 :=
  Host.divf ones (addf ones (Host.exp (Host.negf z)))

theorem ref_z (d z y : FVec Ideal Cert.MergeBwdRefIdeal.S2048x2048 .f32) (i n : Fin 2048) :
    (truncf (F := Ideal) .bf16 (mulf (mulf (shapeCast Cert.MergeBwdRefIdeal.S2048x2048 d Cert.MergeBwdRefIdeal.Gen.facts.shapeCasts_S2048x2048_S2048x2048) y) (mulf (gate z) (subf ones (gate z))))
      Cert.MergeBwdRefIdeal.Gen.facts.bitsLt_bf16_f32 (ix2 i n) : EReal) = dz (d (ix2 i n)) (z (ix2 i n)) (y (ix2 i n)) := by
  unfold dz
  pointwise
  simp only [Ideal.logistic]
theorem ref_y (d z : FVec Ideal Cert.MergeBwdRefIdeal.S2048x2048 .f32) (i n : Fin 2048) :
    (truncf (F := Ideal) .bf16 (mulf (gate z) (shapeCast Cert.MergeBwdRefIdeal.S2048x2048 d Cert.MergeBwdRefIdeal.Gen.facts.shapeCasts_S2048x2048_S2048x2048))
      Cert.MergeBwdRefIdeal.Gen.facts.bitsLt_bf16_f32 (ix2 i n) : EReal) = dy (d (ix2 i n)) (z (ix2 i n)) := by
  unfold dy
  pointwise
  simp only [Ideal.logistic]

/-- The logits' columns as the references take them. -/
theorem slice_a (p : FVec Ideal Cert.MergeBwdRefIdeal.S2048x14336 .f32) (i n : Fin 2048) :
    extractStridedSlice Cert.MergeBwdRefIdeal.S2048x2048 ![0, 10240] p Cert.MergeBwdRefIdeal.Gen.facts.slices_S2048x14336_S2048x2048_0_10240 (ix2 i n) = p (ix2 i ⟨10240 + n.val, by omega⟩) := by pointwise
theorem slice_b (p : FVec Ideal Cert.MergeBwdRefIdeal.S2048x14336 .f32) (i n : Fin 2048) :
    extractStridedSlice Cert.MergeBwdRefIdeal.S2048x2048 ![0, 12288] p Cert.MergeBwdRefIdeal.Gen.facts.slices_S2048x14336_S2048x2048_0_12288 (ix2 i n) = p (ix2 i ⟨12288 + n.val, by omega⟩) := by pointwise

end MergeBwd
end
-- ==== Proof.MixIn.lean ====
/- The mixer's input product: the accumulated tiles are the input times the padded weight. -/
module

public import proofs.«01_k».proof.Proof.MixInDx
public import proofs.«01_k».proof.Proof.Dw
public import proofs.«01_k».proof.Proof.Gen.MixInIdeal.Value
public import proofs.«01_k».proof.Proof.Gen.MixInRefIdeal.Run

@[expose] public section
noncomputable section
namespace MixIn
open Idealize.ShloMosaic Idealize.SL.Sem Idealize.ShloMosaic.TcCoe Cert.MixInIdeal Cert.MixInIdeal.Gen Cert.MixInIdeal.Value
open scoped BigOperators

theorem pay1_apply (r n : Fin 1024) : k0_pay1 (F := Ideal) (ix2 r n) = 0 := by unfold k0_pay1; pointwise

theorem pay2_apply (a : FVec Ideal S1024x1024 .bf16) (b : FVec Ideal S1x1024x1024 .bf16) (s : FVec Ideal S1024x1024 .f32) (r n : Fin 1024) :
    k0_pay2 a b s (ix2 r n) = s (ix2 r n) + ∑ x : Fin 1024, a (ix2 r x) * b (ix3 0 n x) := by
  unfold k0_pay2
  pointwise

section Cases
variable (dev : Dev nD) (i : grid0.Coords) (arg3 : Memref sig .tc .vmem S1024x1024 .bf16) (harg3 : arg3.IsWhole) (arg4 : Memref sig .tc .vmem S1x1024x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x1024 .bf16) (x1 : Vec Ideal S1x1024x1024 .bf16) (s : Vec Ideal S1024x1024 .f32)

theorem s_A (h0 : cond0_0 i) (h1 : ¬cond0_1 i) : sout0_A_0 dev i arg3 harg3 arg4 harg4 arg5 harg5 arg6 harg6 h0 h1 x0 x1
    = k0_pay2 x0 x1 (k0_pay1 (F := Ideal)) := by frame_out

theorem o_B (h0 : ¬cond0_0 i) (h1 : cond0_1 i) : out0_B_2 dev i arg3 harg3 arg4 harg4 arg5 harg5 arg6 harg6 h0 h1 x0 x1 s = k0_pay2 x0 x1 s := by frame_out
end Cases

/-! ## The padded weight -/

/-- The weight with zero columns behind its first 1088. -/
def z (w : FVec Ideal S2048x13376 .f32) (k : Fin 2048) (n : Fin 14336) : EReal := MixInDx.wide w ⟨n.val / 2048, by omega⟩ ⟨n.val % 2048, by omega⟩ k

theorem split_at (w : FVec Ideal S2048x13376 .f32) (o : FVec Ideal S6144x2048 .f32) (h : Fin 2) (n : Fin 14336) (x : Fin 1024) :
    MixInDx.split w o (ix3 h ⟨n.val, by omega⟩ x) = z w ⟨h.val * 1024 + x.val, by omega⟩ n := by
  refine Eq.trans (congrArg (fun k => MixInDx.split w o (ix3 h k x)) (Fin.ext ?_)) (MixInDx.split_apply w o ⟨n.val / 2048, by omega⟩ h ⟨n.val % 2048, by omega⟩ x)
  show n.val = 2048 * (n.val / 2048) + n.val % 2048
  omega

variable (m : (ℓ : Loc nD τ sig) → Buf (Elt Ideal) ℓ) (c : Dev nD) (t : Fin cfg0.N)

/-- The input, the weight, and the three weights that lie behind it. -/
abbrev a : FVec Ideal S2048x2048 .f32 := m ((c.tc : Thread nD τ).loc main_arg0)
abbrev w : FVec Ideal S2048x13376 .f32 := m ((c.tc : Thread nD τ).loc main_arg1)
abbrev rest : FVec Ideal S6144x2048 .f32 := m ((c.tc : Thread nD τ).loc main_arg2)

/-- A summand of an entry of the product, and the entry. -/
def f (a : FVec Ideal S2048x2048 .f32) (w : FVec Ideal S2048x13376 .f32) (i : Fin 2048) (n : Fin 14336) (x : Fin 2048) : EReal := a (ix2 i x) * z w x n
def prod (a : FVec Ideal S2048x2048 .f32) (w : FVec Ideal S2048x13376 .f32) (i : Fin 2048) (n : Fin 14336) : EReal := ∑ x, f a w i n x

/-! ## The blocks -/

/-- The row and the column the entries of grid point `t` stand at. -/
def row (t : ℕ) (ht : t < 56) (r : Fin 1024) : Fin 2048 := ⟨t / 28 * 1024 + r.val, by omega⟩
def coln (t : ℕ) (n : Fin 1024) : Fin 14336 := ⟨t / 2 % 14 * 1024 + n.val, by omega⟩

theorem idx0 : ∀ t : Fin cfg0.N, win0_0.index t = ![t.val / 28, t.val % 2] := (by decide +kernel : ∀ t : Fin grid0.N, _)
theorem idx1 : ∀ t : Fin cfg0.N, win0_1.index t = ![t.val % 2, t.val / 2 % 14, 0] := (by decide +kernel : ∀ t : Fin grid0.N, _)

theorem tlt : t.val < 56 := lt_of_lt_of_eq t.isLt (show cfg0.N = 56 from N_0)

theorem blk0 (r x : Fin 1024) : iblk m c 0 t (ix2 r x) = a m c (ix2 (row t.val (tlt t) r) (Dw.mid t.val x)) := by
  rw [show a m c (ix2 (row t.val (tlt t) r) (Dw.mid t.val x)) = V m c main_v9 (ix2 (row t.val (tlt t) r) (Dw.mid t.val x)) from rfl]
  blk_ext [iblk, idx0 t, row, Dw.mid]

theorem blk1 (n x : Fin 1024) : iblk m c 1 t (ix3 0 n x) = z (w m c) (Dw.mid t.val x) (coln t.val n) := by
  refine Eq.trans ?_ (split_at (w m c) (rest m c) ⟨t.val % 2, by omega⟩ (coln t.val n) x)
  rw [show MixInDx.split (w m c) (rest m c) = V m c main_v8 from rfl]
  blk_ext [iblk, idx1 t, coln]

/-! ## The runs -/

/-- What is written back at the end of a run of two points. -/
theorem last (e : t.val % 2 = 1) (r n : Fin 1024) :
    (outsAt0 m c t.val t.isLt).1 (ix2 r n) = prod (a m c) (w m c) (row t.val (tlt t) r) (coln t.val n) := by
  have hN {k : ℕ} (hk : k < 56) : k < cfg0.N := lt_of_lt_of_eq hk (show 56 = cfg0.N from N_0.symm)
  have ht := tlt t
  have e' : (t.val - 1) % 2 = 0 := by omega
  have ht' : t.val - 1 < 56 := Nat.lt_of_le_of_lt (Nat.sub_le _ _) ht
  have hr : row (t.val - 1) ht' r = row t.val ht r := Fin.ext (by show (t.val - 1) / 28 * 1024 + r.val = t.val / 28 * 1024 + r.val; omega)
  have hn : coln (t.val - 1) n = coln t.val n := Fin.ext (by show (t.val - 1) / 2 % 14 * 1024 + n.val = t.val / 2 % 14 * 1024 + n.val; omega)
  rw [outsAt0_B m c t (by omega) e]
  dsimp only
  rw [o_B, outsAt0_A m c ⟨t.val - 1, hN ht'⟩ e' (by show ¬(t.val - 1) % 2 = 1; omega)]
  dsimp only
  rw [s_A, pay2_apply, pay2_apply, pay1_apply, zero_add]
  simp only [blk0, blk1, hr, hn]
  exact Dw.halves (f (a m c) (w m c) (row t.val ht r) (coln t.val n)) t.val e

/-- The point that writes an entry back, and where in its block the entry stands. -/
def pt (i : Fin 2048) (n : Fin 14336) : ℕ := 2 * (14 * (i.val / 1024 - 0) + 1 * (n.val / 1024 - 0)) + 1

theorem pt_lt (i : Fin 2048) (n : Fin 14336) : pt i n < 56 := by unfold pt; omega
theorem pt_row (i : Fin 2048) (n : Fin 14336) : row (pt i n) (pt_lt i n) ⟨i.val % 1024, by omega⟩ = i := Fin.ext (by
  show (2 * (14 * (i.val / 1024 - 0) + 1 * (n.val / 1024 - 0)) + 1) / 28 * 1024 + i.val % 1024 = i.val; omega)
theorem pt_coln (i : Fin 2048) (n : Fin 14336) : coln (pt i n) ⟨n.val % 1024, by omega⟩ = n := Fin.ext (by
  show (2 * (14 * (i.val / 1024 - 0) + 1 * (n.val / 1024 - 0)) + 1) / 2 % 14 * 1024 + n.val % 1024 = n.val; omega)

theorem G2_eq (i : Fin 2048) (n : Fin 14336) : G2 m c (ix2 i n) = prod (a m c) (w m c) i n := by
  have hp : pt i n < cfg0.N := lt_of_lt_of_eq (pt_lt i n) (show 56 = cfg0.N from N_0.symm)
  have e : G2 m c (ix2 i n) = (outsAt0 m c (pt i n) hp).1 (ix2 ⟨i.val % 1024, by omega⟩ ⟨n.val % 1024, by omega⟩) := by
    rw [outsAt0_sweep]
    exact (dif_pos hp).trans (congrArg _ (by funext a; fin_cases a <;> rfl))
  rw [e, last m c ⟨pt i n, hp⟩ (by show pt i n % 2 = 1; unfold pt; omega), pt_row, pt_coln]

/-! ## The reference -/

theorem ref_apply (a : FVec Ideal Cert.MixInRefIdeal.S2048x2048 .f32) (w : FVec Ideal Cert.MixInRefIdeal.S2048x13376 .f32) (i : Fin 2048) (n : Fin 14336) :
    (concatenate Cert.MixInRefIdeal.S2048x14336 1 [⟨Cert.MixInRefIdeal.S2048x1088, (extractStridedSlice Cert.MixInRefIdeal.S2048x1088 ![0, 0] (Host.dotGeneral Cert.MixInRefIdeal.dot_S2048x2048_S2048x13376_S2048x13376_1_0_0_1_n_n none a w) Cert.MixInRefIdeal.Gen.facts.slices_S2048x13376_S2048x1088_0_0)⟩,
      ⟨Cert.MixInRefIdeal.S2048x960, (broadcastInDim Cert.MixInRefIdeal.S2048x960 ![] Cert.MixInRefIdeal.Gen.facts.bcast_S_S2048x960 (constant (F := Ideal) Cert.MixInRefIdeal.S_ .f32 0x00000000#32))⟩,
      ⟨Cert.MixInRefIdeal.S2048x12288, (extractStridedSlice Cert.MixInRefIdeal.S2048x12288 ![0, 1088] (Host.dotGeneral Cert.MixInRefIdeal.dot_S2048x2048_S2048x13376_S2048x13376_1_0_0_1_n_n none a w) Cert.MixInRefIdeal.Gen.facts.slices_S2048x13376_S2048x12288_0_1088)⟩]
      Cert.MixInRefIdeal.Gen.facts.concatenates_S2048x1088_S2048x960_S2048x12288_S2048x14336_d1 : FVec Ideal Cert.MixInRefIdeal.S2048x14336 .f32) (ix2 i n) = prod a w i n := by
  unfold prod f z
  pointwise
  by_cases h1 : n.val < 1088
  · refine (dif_pos h1).trans (Finset.sum_congr rfl fun x _ => congrArg (a (ix2 i x) * ·) ?_)
    refine Eq.trans ?_ (MixInDx.wide_lead w _ _ _ (show n.val / 2048 = 0 by omega) (show n.val % 2048 < 1088 by omega)).symm
    exact congrArg w (congrArg (ix2 x) (Fin.ext (show n.val = n.val % 2048 by omega)))
  · refine (dif_neg h1).trans ?_
    by_cases h2 : n.val - 1088 < 960
    · have hx (x : Fin 2048) : MixInDx.wide w ⟨n.val / 2048, by omega⟩ ⟨n.val % 2048, by omega⟩ x = 0 :=
        MixInDx.wide_pad w _ _ _ (show n.val / 2048 = 0 by omega) (show ¬n.val % 2048 < 1088 by omega)
      simp only [dif_pos h2, hx, mul_zero, Finset.sum_const_zero]
    · refine (dif_neg h2).trans (Finset.sum_congr rfl fun x _ => congrArg (a (ix2 i x) * ·) ?_)
      refine Eq.trans ?_ (MixInDx.wide_pos w _ _ _ (show n.val / 2048 ≠ 0 by omega)).symm
      exact congrArg w (congrArg (ix2 x) (Fin.ext (show 1088 + (n.val - 1088 - 960) = 1088 + 2048 * (n.val / 2048 - 1) + n.val % 2048 by omega)))

end MixIn
end
-- ==== Proof.WideDw.lean ====
/- The gradient of one of the mixer's weights as a call leaves it: a product of a transposed operand with another, written over
   2048 rows of an array that keeps its other rows; and where in it a grid point writes. -/
module

public import proofs.«01_k».proof.Proof.Dw

@[expose] public section
noncomputable section
namespace WideDw
open Idealize.ShloMosaic Dw
open scoped BigOperators

variable (d h : FVec Ideal ⟨2, ![2048, 2048]⟩ .f32) (g : FVec Ideal ⟨3, ![2, 20480, 1024]⟩ .f32) (q : ℕ)

/-- A summand of an entry of the product, and the entry. -/
def f (i n x : Fin 2048) : EReal := d (ix2 x i) * h (ix2 x n)
def dw (i n : Fin 2048) : EReal := ∑ x, f d h i n x

/-- The row the entries of grid point `t` stand at. -/
def row (t : ℕ) (ht : t < 8) (r : Fin 1024) : Fin 2048 := ⟨t / 4 * 1024 + r.val, by omega⟩

/-- A run: its two points add their products to an accumulator that the first of them has set to zero. -/
theorem total {φ ψ : FTy} (P : FVec Ideal ⟨2, ![1024, 1024]⟩ φ → FVec Ideal ⟨2, ![1024, 1024]⟩ ψ → FVec Ideal ⟨2, ![1024, 1024]⟩ .f32 → FVec Ideal ⟨2, ![1024, 1024]⟩ .f32)
    (hP : ∀ a b s r n, P a b s (ix2 r n) = s (ix2 r n) + ∑ x : Fin 1024, a (ix2 x r) * b (ix2 x n))
    (A : ∀ t : ℕ, t < 8 → FVec Ideal ⟨2, ![1024, 1024]⟩ φ) (hA : ∀ t ht x r, A t ht (ix2 x r) = d (ix2 (mid t x) (row t ht r)))
    (B : ∀ t : ℕ, t < 8 → FVec Ideal ⟨2, ![1024, 1024]⟩ ψ) (hB : ∀ t ht x n, B t ht (ix2 x n) = h (ix2 (mid t x) (coln t n)))
    (Z : FVec Ideal ⟨2, ![1024, 1024]⟩ .f32) (hZ : ∀ r n, Z (ix2 r n) = 0) (t : ℕ) (ht : t < 8) (ht' : t - 1 < 8) (e : t % 2 = 1) (r n : Fin 1024) :
    P (A t ht) (B t ht) (P (A (t - 1) ht') (B (t - 1) ht') Z) (ix2 r n) = dw d h (row t ht r) (coln t n) := by
  have hr : row (t - 1) ht' r = row t ht r := Fin.ext (by show (t - 1) / 4 * 1024 + r.val = t / 4 * 1024 + r.val; omega)
  have hn : coln (t - 1) n = coln t n := Fin.ext (by show (t - 1) / 2 % 2 * 1024 + n.val = t / 2 % 2 * 1024 + n.val; omega)
  simp only [hP, hA, hB, hZ, hr, hn, zero_add]
  exact halves (f d h (row t ht r) (coln t n)) t e

/-- The array after the run: the product from row `2048 * q` on, its columns in two halves. -/
def G : FVec Ideal ⟨3, ![2, 20480, 1024]⟩ .f32 := fun i =>
  if b : 2048 * q ≤ (i 1).val ∧ (i 1).val < 2048 * q + 2048 then
    dw d h ⟨(i 1).val - 2048 * q, by omega⟩ ⟨(i 0).val * 1024 + (i 2).val, by
      have h0 : (i 0).val < 2 := (i 0).isLt
      have h2 : (i 2).val < 1024 := (i 2).isLt
      omega⟩
  else g i

theorem G_apply (i : (⟨3, ![2, 20480, 1024]⟩ : Shape).Idx) (r n : Fin 2048) (hr : (i 1).val = 2048 * q + r.val)
    (hn : (i 0).val * 1024 + (i 2).val = n.val) : G d h g q i = dw d h r n :=
  (dif_pos ⟨by omega, by omega⟩).trans (congrArg₂ (dw d h) (Fin.ext (by show (i 1).val - 2048 * q = r.val; omega)) (Fin.ext hn))

theorem G_rest (i : (⟨3, ![2, 20480, 1024]⟩ : Shape).Idx) (b : ¬(2048 * q ≤ (i 1).val ∧ (i 1).val < 2048 * q + 2048)) : G d h g q i = g i := dif_neg b

/-- In the block that grid point `t` writes it is the product at the entry's row and column. -/
theorem G_at (t : ℕ) (ht : t < 8) (i : (⟨3, ![2, 20480, 1024]⟩ : Shape).Idx) (y : (⟨3, ![1, 1024, 1024]⟩ : Shape).Idx)
    (k : ∀ a : Fin 3, (i a).val = (![t / 2 % 2, t / 4 + 2 * q, 0] : Fin 3 → ℕ) a * (![1, 1024, 1024] : Fin 3 → ℕ) a + 1 * (y a).val) :
    G d h g q i = dw d h (row t ht (y 1)) (coln t (y 2)) := by
  have k0 : (i 0).val = t / 2 % 2 * 1 + 1 * (y 0).val := k 0
  have k1 : (i 1).val = (t / 4 + 2 * q) * 1024 + 1 * (y 1).val := k 1
  have k2 : (i 2).val = 0 * 1024 + 1 * (y 2).val := k 2
  have y0 : (y 0).val < 1 := (y 0).isLt
  apply G_apply
  · show _ = 2048 * q + (t / 4 * 1024 + (y 1).val)
    omega
  · show _ = t / 2 % 2 * 1024 + (y 2).val
    omega

/-- The rows that the runs' last points write are those. -/
theorem box (i : (⟨3, ![2, 20480, 1024]⟩ : Shape).Idx) :
    (∃ t : ℕ, t < 8 ∧ t % 2 = 1 ∧ ∀ a : Fin 3, (![t / 2 % 2, t / 4 + 2 * q, 0] : Fin 3 → ℕ) a * (![1, 1024, 1024] : Fin 3 → ℕ) a ≤ (i a).val
      ∧ (i a).val < (![t / 2 % 2, t / 4 + 2 * q, 0] : Fin 3 → ℕ) a * (![1, 1024, 1024] : Fin 3 → ℕ) a + (![1, 1024, 1024] : Fin 3 → ℕ) a)
    ↔ 2048 * q ≤ (i 1).val ∧ (i 1).val < 2048 * q + 2048 := by
  have h0 : (i 0).val < 2 := (i 0).isLt
  have h2 : (i 2).val < 1024 := (i 2).isLt
  constructor
  · rintro ⟨t, ht, -, b⟩
    have b1 : (t / 4 + 2 * q) * 1024 ≤ (i 1).val ∧ (i 1).val < (t / 4 + 2 * q) * 1024 + 1024 := b 1
    omega
  · intro b
    refine ⟨4 * (((i 1).val - 2048 * q) / 1024) + 2 * (i 0).val + 1, by omega, by omega, fun a => ?_⟩
    fin_cases a
    · show (4 * (((i 1).val - 2048 * q) / 1024) + 2 * (i 0).val + 1) / 2 % 2 * 1 ≤ (i 0).val
        ∧ (i 0).val < (4 * (((i 1).val - 2048 * q) / 1024) + 2 * (i 0).val + 1) / 2 % 2 * 1 + 1
      omega
    · show ((4 * (((i 1).val - 2048 * q) / 1024) + 2 * (i 0).val + 1) / 4 + 2 * q) * 1024 ≤ (i 1).val
        ∧ (i 1).val < ((4 * (((i 1).val - 2048 * q) / 1024) + 2 * (i 0).val + 1) / 4 + 2 * q) * 1024 + 1024
      omega
    · show 0 * 1024 ≤ (i 2).val ∧ (i 2).val < 0 * 1024 + 1024
      omega

/-- An array that the runs' last points write, block by block, as `G` has it, and that keeps its other rows, is `G`. -/
theorem piece {N : ℕ} (hN : N = 8) (fl : Fin N → Bool) (hf : ∀ t, fl t = true ↔ t.val % 2 = 1) (idx : Fin N → Fin 3 → ℕ)
    (hidx : ∀ t, idx t = ![t.val / 2 % 2, t.val / 4 + 2 * q, 0]) (i : (⟨3, ![2, 20480, 1024]⟩ : Shape).Idx) (S : Fin N → Prop)
    (hS : ∀ t, S t ↔ ∀ a : Fin 3, idx t a * (![1, 1024, 1024] : Fin 3 → ℕ) a ≤ (i a).val
      ∧ (i a).val < idx t a * (![1, 1024, 1024] : Fin 3 → ℕ) a + (![1, 1024, 1024] : Fin 3 → ℕ) a)
    [Decidable (∃ t, fl t = true ∧ S t)] : (if ∃ t, fl t = true ∧ S t then G d h g q i else g i) = G d h g q i := by
  subst hN
  by_cases b : 2048 * q ≤ (i 1).val ∧ (i 1).val < 2048 * q + 2048
  · obtain ⟨t, ht, e, k⟩ := (box q i).mpr b
    exact if_pos ⟨⟨t, ht⟩, (hf _).mpr e, (hS _).mpr (by rw [hidx]; exact k)⟩
  · refine (if_neg ?_).trans (G_rest d h g q i b).symm
    rintro ⟨t, e, k⟩
    have k := (hS t).mp k
    rw [hidx] at k
    exact b ((box q i).mp ⟨t.val, t.isLt, (hf t).mp e, k⟩)

/-- An array that is the product on those rows, and unchanged above and below them. -/
theorem eq_G (r : FVec Ideal ⟨3, ![2, 20480, 1024]⟩ .f32)
    (hp : ∀ z : Fin 2, ∀ k : Fin 20480, ∀ n : Fin 1024, ∀ b : 2048 * q ≤ k.val ∧ k.val < 2048 * q + 2048,
      r (ix3 z k n) = dw d h ⟨k.val - 2048 * q, by omega⟩ ⟨z.val * 1024 + n.val, by omega⟩)
    (hg : ∀ z : Fin 2, ∀ k : Fin 20480, ∀ n : Fin 1024, ¬(2048 * q ≤ k.val ∧ k.val < 2048 * q + 2048) → r (ix3 z k n) = g (ix3 z k n)) : r = G d h g q :=
  ext3 fun z k n => by
    by_cases b : 2048 * q ≤ k.val ∧ k.val < 2048 * q + 2048
    · exact (hp z k n b).trans (G_apply d h g q (ix3 z k n) _ _ (by show k.val = 2048 * q + (k.val - 2048 * q); omega) rfl).symm
    · exact (hg z k n b).trans (G_rest d h g q (ix3 z k n) b).symm

end WideDw
end
-- ==== Proof.MixDw1.lean ====
/- The gradient of the second part of the mixer's input weight, over its rows of the array of gradients. -/
module

public import proofs.«01_k».proof.Proof.WideDw
public import proofs.«01_k».proof.Proof.Gen.MixDw1Ideal.Value
public import proofs.«01_k».proof.Proof.Gen.MixDw1RefIdeal.Run

@[expose] public section
noncomputable section
namespace MixDw1
open Idealize.ShloMosaic Idealize.SL.Sem Idealize.ShloMosaic.TcCoe Cert.MixDw1Ideal Cert.MixDw1Ideal.Gen Cert.MixDw1Ideal.Value WideDw
open Dw (mid coln ext3)
open scoped BigOperators

/-! ## One grid point, and a run of two -/

theorem pay1_apply (r n : Fin 1024) : k0_pay1 (F := Ideal) (ix2 r n) = 0 := by unfold k0_pay1; pointwise

theorem pay2_apply (a : FVec Ideal S1024x1024 .bf16) (b : FVec Ideal S1024x1024 .bf16) (s : FVec Ideal S1024x1024 .f32) (r n : Fin 1024) :
    k0_pay2 a b s (ix2 r n) = s (ix2 r n) + ∑ x : Fin 1024, a (ix2 x r) * b (ix2 x n) := by
  unfold k0_pay2
  pointwise

theorem pay3_apply (s : FVec Ideal S1024x1024 .f32) (z : Fin 1) (r n : Fin 1024) : k0_pay3 s (ix3 z r n) = s (ix2 r n) := by
  unfold k0_pay3
  pointwise

theorem both (d h : FVec Ideal ⟨2, ![2048, 2048]⟩ .f32)
    (A : ∀ t : ℕ, t < 8 → FVec Ideal ⟨2, ![1024, 1024]⟩ .bf16) (hA : ∀ t ht x r, A t ht (ix2 x r) = d (ix2 (mid t x) (row t ht r)))
    (B : ∀ t : ℕ, t < 8 → FVec Ideal ⟨2, ![1024, 1024]⟩ .bf16) (hB : ∀ t ht x n, B t ht (ix2 x n) = h (ix2 (mid t x) (coln t n)))
    (t : ℕ) (ht : t < 8) (ht' : t - 1 < 8) (e : t % 2 = 1) (z : Fin 1) (r n : Fin 1024) :
    (k0_pay3 (F := Ideal) (k0_pay2 (F := Ideal) (A t ht) (B t ht) (k0_pay2 (F := Ideal) (A (t - 1) ht') (B (t - 1) ht') (k0_pay1 (F := Ideal)))) (ix3 z r n) : EReal) = dw d h (row t ht r) (coln t n) := by
  rw [pay3_apply]
  exact total d h (fun a b s => k0_pay2 a b s) pay2_apply A hA B hB _ pay1_apply t ht ht' e r n

section Cases
variable (dev : Dev nD) (i : grid0.Coords) (arg3 : Memref sig .tc .vmem S1024x1024 .bf16) (harg3 : arg3.IsWhole) (arg4 : Memref sig .tc .vmem S1024x1024 .bf16) (harg4 : arg4.IsWhole) (arg6 : Memref sig .tc .vmem S1x1024x1024 .f32) (harg6 : arg6.IsWhole) (arg7 : Memref sig .tc .vmem S1024x1024 .f32) (harg7 : arg7.IsWhole)
  (x0 : Vec Ideal S1024x1024 .bf16) (x1 : Vec Ideal S1024x1024 .bf16) (s : Vec Ideal S1024x1024 .f32)

theorem s_A (h0 : cond0_0 i) (h1 : ¬cond0_1 i) : sout0_A_0 dev i arg3 harg3 arg4 harg4 arg6 harg6 arg7 harg7 h0 h1 x0 x1
    = k0_pay2 x0 x1 (k0_pay1 (F := Ideal)) := by frame_out

theorem o_B (h0 : ¬cond0_0 i) (h1 : cond0_1 i) : out0_B_2 dev i arg3 harg3 arg4 harg4 arg6 harg6 arg7 harg7 h0 h1 x0 x1 s
    = k0_pay3 (k0_pay2 x0 x1 s) := by frame_out
end Cases

/-! ## The blocks -/

variable (m : (ℓ : Loc nD τ sig) → Buf (Elt Ideal) ℓ) (c : Dev nD) (t : Fin cfg0.N)

/-- The array of gradients and the two operands. -/
abbrev g : FVec Ideal S2x20480x1024 .f32 := m ((c.tc : Thread nD τ).loc main_arg0)
abbrev a : FVec Ideal S2048x2048 .f32 := m ((c.tc : Thread nD τ).loc main_arg1)
abbrev b : FVec Ideal S2048x2048 .f32 := m ((c.tc : Thread nD τ).loc main_arg2)

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 2 % 2, t.val / 4 + 2 * 1, 0] := (by decide +kernel : ∀ t : Fin grid0.N, _)

theorem tlt : t.val < 8 := lt_of_lt_of_eq t.isLt (show cfg0.N = 8 from N_0)

theorem blk0 (x r : Fin 1024) : iblk m c 0 t (ix2 x r) = a m c (ix2 (mid t.val x) (row t.val (tlt t) r)) := by
  rw [show a m c (ix2 (mid t.val x) (row t.val (tlt t) r)) = V m c main_v0 (ix2 (mid t.val x) (row t.val (tlt t) r)) from rfl]
  blk_ext [iblk, idx0 t, row, mid]

theorem blk1 (x n : Fin 1024) : iblk m c 1 t (ix2 x n) = b m c (ix2 (mid t.val x) (coln t.val n)) := by
  rw [show b m c (ix2 (mid t.val x) (coln t.val n)) = V m c main_v1 (ix2 (mid t.val x) (coln t.val n)) from rfl]
  blk_ext [iblk, idx1 t, coln, mid]

/-! ## The array -/

/-- What is written back at the end of a run. -/
theorem last (e : t.val % 2 = 1) (z : Fin 1) (r n : Fin 1024) :
    (outsAt0 m c t.val t.isLt).1 (ix3 z r n) = dw (a m c) (b m c) (row t.val (tlt t) r) (coln t.val n) := by
  have hN {k : ℕ} (hk : k < 8) : k < cfg0.N := lt_of_lt_of_eq hk (show 8 = cfg0.N from N_0.symm)
  have ht' : t.val - 1 < 8 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact both (a m c) (b m c) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e z r n

theorem flushed_eq (hf : (cfg0.win 2).flush t = true) :
    (dats m 0 c).flushed 2 t = ((cfg0.win 2).blk t).view.read (Elt Ideal) (WideDw.G (a m c) (b m c) (g m c) 1) := by
  rw [flushed2]
  funext y
  refine (congrArg (outsAt0 m c t.val t.isLt).1 (eq_ix3 ((cfg0.win 2).xinj (grid0.coords t) y))).trans
    ((last m c t ((flush0_2 t).mp hf) _ _ _).trans (WideDw.G_at _ _ _ 1 t.val (tlt t) _ y fun k => ?_).symm)
  rw [← idx2 t]
  exact rfl

theorem mem_blk (i : S2x20480x1024.Idx) : i ∈ ((cfg0.win 2).blk t).view.set ↔
    ∀ a : Fin 3, win0_2.index t a * S1x1024x1024.size a ≤ (i a).val ∧ (i a).val < win0_2.index t a * S1x1024x1024.size a + S1x1024x1024.size a := by
  show i ∈ ((View.whole main_v2).slice (win0_2.rect t)).set ↔ _
  rw [View.set_slice_whole, Rect.mem_set_unit]
  exact Iff.rfl

theorem final : (dats m 0 c).arrAt 2 cfg0.N = WideDw.G (a m c) (b m c) (g m c) 1 := by
  funext i
  rw [(dats m 0 c).arrAt_eq_piecewise 2 _ (flushed_eq m c), congrFun (A_eq m c 2) i]
  exact piece (a m c) (b m c) (g m c) 1 N_0 _ flush0_2 _ idx2 i _ fun t => mem_blk t i

/-- The reference's array. -/
theorem ref_eq (g : FVec Ideal Cert.MixDw1RefIdeal.S2x20480x1024 .f32) (a b : FVec Ideal Cert.MixDw1RefIdeal.S2048x2048 .f32) :
    (concatenate Cert.MixDw1RefIdeal.S2x20480x1024 1 [⟨Cert.MixDw1RefIdeal.S2x2048x1024, (extractStridedSlice Cert.MixDw1RefIdeal.S2x2048x1024 ![0, 0, 0] g Cert.MixDw1RefIdeal.Gen.facts.slices_S2x20480x1024_S2x2048x1024_0_0_0)⟩,
      ⟨Cert.MixDw1RefIdeal.S2x2048x1024, (transpose Cert.MixDw1RefIdeal.S2x2048x1024 [0, 2, 1] (shapeCast Cert.MixDw1RefIdeal.S2x1024x2048 (transpose Cert.MixDw1RefIdeal.S2048x2048 [1, 0] (Host.dotGeneral Cert.MixDw1RefIdeal.dot_S2048x2048_S2048x2048_S2048x2048_0_0_1_1_n_n none a b) Cert.MixDw1RefIdeal.Gen.facts.transposes_S2048x2048_S2048x2048_1_0) Cert.MixDw1RefIdeal.Gen.facts.shapeCasts_S2048x2048_S2x1024x2048) Cert.MixDw1RefIdeal.Gen.facts.transposes_S2x1024x2048_S2x2048x1024_0_2_1)⟩,
      ⟨Cert.MixDw1RefIdeal.S2x16384x1024, (extractStridedSlice Cert.MixDw1RefIdeal.S2x16384x1024 ![0, 4096, 0] g Cert.MixDw1RefIdeal.Gen.facts.slices_S2x20480x1024_S2x16384x1024_0_4096_0)⟩]
      Cert.MixDw1RefIdeal.Gen.facts.concatenates_S2x2048x1024_S2x2048x1024_S2x16384x1024_S2x20480x1024_d1 : FVec Ideal Cert.MixDw1RefIdeal.S2x20480x1024 .f32) = WideDw.G a b g 1 := by
  refine eq_G a b g 1 _ (fun z k n h => ?_) (fun z k n h => ?_)
  · pointwise
    rw [dif_neg (by omega), dif_pos (by omega)]
    rfl
  · pointwise
    by_cases h' : k.val < 2048
    · rw [dif_pos h']
    · rw [dif_neg h', dif_neg (by omega)]
      exact congrArg (fun r => g (ix3 z r n)) (Fin.ext (by show 4096 + _ = k.val; omega))

end MixDw1
end
-- ==== Proof.MixDw0.lean ====
/- The gradient of the first part of the mixer's input weight, its columns padded, over the first rows of the array of gradients. -/
module

public import proofs.«01_k».proof.Proof.MixDw1
public import proofs.«01_k».proof.Proof.Gen.MixDw0Ideal.Value
public import proofs.«01_k».proof.Proof.Gen.MixDw0RefIdeal.Run

@[expose] public section
noncomputable section
namespace MixDw0
open Idealize.ShloMosaic Idealize.SL.Sem Idealize.ShloMosaic.TcCoe Cert.MixDw0Ideal Cert.MixDw0Ideal.Gen Cert.MixDw0Ideal.Value WideDw
open Dw (mid coln ext3)
open scoped BigOperators

section Cases
variable (dev : Dev nD) (i : grid0.Coords) (arg3 : Memref sig .tc .vmem S1024x1024 .bf16) (harg3 : arg3.IsWhole) (arg4 : Memref sig .tc .vmem S1024x1024 .bf16) (harg4 : arg4.IsWhole) (arg6 : Memref sig .tc .vmem S1x1024x1024 .f32) (harg6 : arg6.IsWhole) (arg7 : Memref sig .tc .vmem S1024x1024 .f32) (harg7 : arg7.IsWhole)
  (x0 : Vec Ideal S1024x1024 .bf16) (x1 : Vec Ideal S1024x1024 .bf16) (s : Vec Ideal S1024x1024 .f32)

theorem s_A (h0 : cond0_0 i) (h1 : ¬cond0_1 i) : sout0_A_0 dev i arg3 harg3 arg4 harg4 arg6 harg6 arg7 harg7 h0 h1 x0 x1
    = k0_pay2 x0 x1 (k0_pay1 (F := Ideal)) := by frame_out

theorem o_B (h0 : ¬cond0_0 i) (h1 : cond0_1 i) : out0_B_2 dev i arg3 harg3 arg4 harg4 arg6 harg6 arg7 harg7 h0 h1 x0 x1 s
    = k0_pay3 (k0_pay2 x0 x1 s) := by frame_out
end Cases

/-! ## The blocks -/

variable (m : (ℓ : Loc nD τ sig) → Buf (Elt Ideal) ℓ) (c : Dev nD) (t : Fin cfg0.N)

/-- The latents' gradient with zero columns behind. -/
def pad (l : FVec Ideal S2048x1088 .f32) : FVec Ideal S2048x2048 .f32 :=
  concatenate S2048x2048 1 [⟨S2048x1088, l⟩, ⟨S2048x960, broadcastInDim S2048x960 ![] bcast_S_S2048x960 (constant (F := Ideal) S_ .f32 0x00000000#32)⟩]
    concatenates_S2048x1088_S2048x960_S2048x2048_d1

theorem pad_lead (l : FVec Ideal S2048x1088 .f32) (x k : Fin 2048) (h : k.val < 1088) : pad l (ix2 x k) = l (ix2 x ⟨k.val, h⟩) := by
  unfold pad
  pointwise
  rw [dif_pos h]

theorem pad_behind (l : FVec Ideal S2048x1088 .f32) (x k : Fin 2048) (h : ¬k.val < 1088) : pad l (ix2 x k) = 0 := by
  unfold pad
  pointwise
  rw [dif_neg h]

/-- The array of gradients and the two operands. -/
abbrev g : FVec Ideal S2x20480x1024 .f32 := m ((c.tc : Thread nD τ).loc main_arg0)
abbrev l : FVec Ideal S2048x1088 .f32 := m ((c.tc : Thread nD τ).loc main_arg1)
abbrev a : FVec Ideal S2048x2048 .f32 := pad (l m c)
abbrev b : FVec Ideal S2048x2048 .f32 := m ((c.tc : Thread nD τ).loc main_arg2)

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 2 % 2, t.val / 4 + 2 * 0, 0] := (by decide +kernel : ∀ t : Fin grid0.N, _)

theorem tlt : t.val < 8 := lt_of_lt_of_eq t.isLt (show cfg0.N = 8 from N_0)

theorem blk0 (x r : Fin 1024) : iblk m c 0 t (ix2 x r) = a m c (ix2 (mid t.val x) (row t.val (tlt t) r)) := by
  rw [show a m c (ix2 (mid t.val x) (row t.val (tlt t) r)) = V m c main_v2 (ix2 (mid t.val x) (row t.val (tlt t) r)) from rfl]
  blk_ext [iblk, idx0 t, row, mid]

theorem blk1 (x n : Fin 1024) : iblk m c 1 t (ix2 x n) = b m c (ix2 (mid t.val x) (coln t.val n)) := by
  rw [show b m c (ix2 (mid t.val x) (coln t.val n)) = V m c main_v3 (ix2 (mid t.val x) (coln t.val n)) from rfl]
  blk_ext [iblk, idx1 t, coln, mid]

/-! ## The array -/

/-- What is written back at the end of a run. -/
theorem last (e : t.val % 2 = 1) (z : Fin 1) (r n : Fin 1024) :
    (outsAt0 m c t.val t.isLt).1 (ix3 z r n) = dw (a m c) (b m c) (row t.val (tlt t) r) (coln t.val n) := by
  have hN {k : ℕ} (hk : k < 8) : k < cfg0.N := lt_of_lt_of_eq hk (show 8 = cfg0.N from N_0.symm)
  have ht' : t.val - 1 < 8 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact MixDw1.both (a m c) (b m c) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e z r n

theorem flushed_eq (hf : (cfg0.win 2).flush t = true) :
    (dats m 0 c).flushed 2 t = ((cfg0.win 2).blk t).view.read (Elt Ideal) (WideDw.G (a m c) (b m c) (g m c) 0) := by
  rw [flushed2]
  funext y
  refine (congrArg (outsAt0 m c t.val t.isLt).1 (eq_ix3 ((cfg0.win 2).xinj (grid0.coords t) y))).trans
    ((last m c t ((flush0_2 t).mp hf) _ _ _).trans (WideDw.G_at _ _ _ 0 t.val (tlt t) _ y fun k => ?_).symm)
  rw [← idx2 t]
  exact rfl

theorem mem_blk (i : S2x20480x1024.Idx) : i ∈ ((cfg0.win 2).blk t).view.set ↔
    ∀ a : Fin 3, win0_2.index t a * S1x1024x1024.size a ≤ (i a).val ∧ (i a).val < win0_2.index t a * S1x1024x1024.size a + S1x1024x1024.size a := by
  show i ∈ ((View.whole main_v4).slice (win0_2.rect t)).set ↔ _
  rw [View.set_slice_whole, Rect.mem_set_unit]
  exact Iff.rfl

theorem final : (dats m 0 c).arrAt 2 cfg0.N = WideDw.G (a m c) (b m c) (g m c) 0 := by
  funext i
  rw [(dats m 0 c).arrAt_eq_piecewise 2 _ (flushed_eq m c), congrFun (A_eq m c 2) i]
  exact piece (a m c) (b m c) (g m c) 0 N_0 _ flush0_2 _ idx2 i _ fun t => mem_blk t i

/-- The reference's product, zero columns behind. -/
def part (l : FVec Ideal Cert.MixDw0RefIdeal.S2048x1088 .f32) (b : FVec Ideal Cert.MixDw0RefIdeal.S2048x2048 .f32) : FVec Ideal Cert.MixDw0RefIdeal.S2048x2048 .f32 :=
  concatenate Cert.MixDw0RefIdeal.S2048x2048 1 [⟨Cert.MixDw0RefIdeal.S2048x1088, (transpose Cert.MixDw0RefIdeal.S2048x1088 [1, 0] (Host.dotGeneral Cert.MixDw0RefIdeal.dot_S2048x1088_S2048x2048_S1088x2048_0_0_1_1_n_n none l b) Cert.MixDw0RefIdeal.Gen.facts.transposes_S1088x2048_S2048x1088_1_0)⟩,
    ⟨Cert.MixDw0RefIdeal.S2048x960, (broadcastInDim Cert.MixDw0RefIdeal.S2048x960 ![] Cert.MixDw0RefIdeal.Gen.facts.bcast_S_S2048x960 (constant (F := Ideal) Cert.MixDw0RefIdeal.S_ .f32 0x00000000#32))⟩] Cert.MixDw0RefIdeal.Gen.facts.concatenates_S2048x1088_S2048x960_S2048x2048_d1

theorem part_apply (l : FVec Ideal Cert.MixDw0RefIdeal.S2048x1088 .f32) (b : FVec Ideal Cert.MixDw0RefIdeal.S2048x2048 .f32) (n k : Fin 2048) : part l b (ix2 n k) = dw (pad l) b k n := by
  unfold part dw f
  pointwise
  by_cases h : k.val < 1088
  · simp only [dif_pos h, pad_lead l _ k h]
  · simp only [dif_neg h, pad_behind l _ k h, zero_mul, Finset.sum_const_zero]

/-- The array over whose first rows an array is written. -/
theorem over_first (g : FVec Ideal Cert.MixDw0RefIdeal.S2x20480x1024 .f32) (P : FVec Ideal Cert.MixDw0RefIdeal.S2048x2048 .f32) (z : Fin 2) (k : Fin 20480) (n : Fin 1024) (h : k.val < 2048) :
    (concatenate Cert.MixDw0RefIdeal.S2x20480x1024 1 [⟨Cert.MixDw0RefIdeal.S2x2048x1024, (transpose Cert.MixDw0RefIdeal.S2x2048x1024 [0, 2, 1] (shapeCast Cert.MixDw0RefIdeal.S2x1024x2048 P Cert.MixDw0RefIdeal.Gen.facts.shapeCasts_S2048x2048_S2x1024x2048) Cert.MixDw0RefIdeal.Gen.facts.transposes_S2x1024x2048_S2x2048x1024_0_2_1)⟩,
      ⟨Cert.MixDw0RefIdeal.S2x18432x1024, (extractStridedSlice Cert.MixDw0RefIdeal.S2x18432x1024 ![0, 2048, 0] g Cert.MixDw0RefIdeal.Gen.facts.slices_S2x20480x1024_S2x18432x1024_0_2048_0)⟩]
      Cert.MixDw0RefIdeal.Gen.facts.concatenates_S2x2048x1024_S2x18432x1024_S2x20480x1024_d1 : FVec Ideal Cert.MixDw0RefIdeal.S2x20480x1024 .f32) (ix3 z k n) = P (ix2 ⟨z.val * 1024 + n.val, by omega⟩ ⟨k.val, h⟩) := by
  pointwise
  rw [dif_pos h]

theorem over_rest (g : FVec Ideal Cert.MixDw0RefIdeal.S2x20480x1024 .f32) (P : FVec Ideal Cert.MixDw0RefIdeal.S2048x2048 .f32) (z : Fin 2) (k : Fin 20480) (n : Fin 1024) (h : ¬k.val < 2048) :
    (concatenate Cert.MixDw0RefIdeal.S2x20480x1024 1 [⟨Cert.MixDw0RefIdeal.S2x2048x1024, (transpose Cert.MixDw0RefIdeal.S2x2048x1024 [0, 2, 1] (shapeCast Cert.MixDw0RefIdeal.S2x1024x2048 P Cert.MixDw0RefIdeal.Gen.facts.shapeCasts_S2048x2048_S2x1024x2048) Cert.MixDw0RefIdeal.Gen.facts.transposes_S2x1024x2048_S2x2048x1024_0_2_1)⟩,
      ⟨Cert.MixDw0RefIdeal.S2x18432x1024, (extractStridedSlice Cert.MixDw0RefIdeal.S2x18432x1024 ![0, 2048, 0] g Cert.MixDw0RefIdeal.Gen.facts.slices_S2x20480x1024_S2x18432x1024_0_2048_0)⟩]
      Cert.MixDw0RefIdeal.Gen.facts.concatenates_S2x2048x1024_S2x18432x1024_S2x20480x1024_d1 : FVec Ideal Cert.MixDw0RefIdeal.S2x20480x1024 .f32) (ix3 z k n) = g (ix3 z k n) := by
  pointwise
  rw [dif_neg h]
  exact congrArg (fun r => g (ix3 z r n)) (Fin.ext (by show 2048 + _ = k.val; omega))

/-- The reference's array. -/
theorem ref_eq (g : FVec Ideal Cert.MixDw0RefIdeal.S2x20480x1024 .f32) (l : FVec Ideal Cert.MixDw0RefIdeal.S2048x1088 .f32) (b : FVec Ideal Cert.MixDw0RefIdeal.S2048x2048 .f32) :
    (concatenate Cert.MixDw0RefIdeal.S2x20480x1024 1 [⟨Cert.MixDw0RefIdeal.S2x2048x1024, (transpose Cert.MixDw0RefIdeal.S2x2048x1024 [0, 2, 1] (shapeCast Cert.MixDw0RefIdeal.S2x1024x2048 (part l b) Cert.MixDw0RefIdeal.Gen.facts.shapeCasts_S2048x2048_S2x1024x2048) Cert.MixDw0RefIdeal.Gen.facts.transposes_S2x1024x2048_S2x2048x1024_0_2_1)⟩,
      ⟨Cert.MixDw0RefIdeal.S2x18432x1024, (extractStridedSlice Cert.MixDw0RefIdeal.S2x18432x1024 ![0, 2048, 0] g Cert.MixDw0RefIdeal.Gen.facts.slices_S2x20480x1024_S2x18432x1024_0_2048_0)⟩]
      Cert.MixDw0RefIdeal.Gen.facts.concatenates_S2x2048x1024_S2x18432x1024_S2x20480x1024_d1 : FVec Ideal Cert.MixDw0RefIdeal.S2x20480x1024 .f32) = WideDw.G (pad l) b g 0 := by
  refine eq_G (pad l) b g 0 _ (fun z k n h => ?_) (fun z k n h => ?_)
  · have h' : k.val < 2048 := by omega
    exact (over_first g _ z k n h').trans ((part_apply l b _ _).trans
      (congrArg (fun i => dw (pad l) b i _) (Fin.ext (Nat.sub_zero k.val).symm)))
  · have h' : ¬k.val < 2048 := by omega
    exact over_rest g _ z k n h'

end MixDw0
end
-- ==== Proof.MixDw2.lean ====
/- The gradient of the third part of the mixer's input weight, over its rows of the array of gradients. -/
module

public import proofs.«01_k».proof.Proof.MixDw1
public import proofs.«01_k».proof.Proof.Gen.MixDw2Ideal.Value
public import proofs.«01_k».proof.Proof.Gen.MixDw2RefIdeal.Run

@[expose] public section
noncomputable section
namespace MixDw2
open Idealize.ShloMosaic Idealize.SL.Sem Idealize.ShloMosaic.TcCoe Cert.MixDw2Ideal Cert.MixDw2Ideal.Gen Cert.MixDw2Ideal.Value WideDw
open Dw (mid coln ext3)
open scoped BigOperators

section Cases
variable (dev : Dev nD) (i : grid0.Coords) (arg3 : Memref sig .tc .vmem S1024x1024 .bf16) (harg3 : arg3.IsWhole) (arg4 : Memref sig .tc .vmem S1024x1024 .bf16) (harg4 : arg4.IsWhole) (arg6 : Memref sig .tc .vmem S1x1024x1024 .f32) (harg6 : arg6.IsWhole) (arg7 : Memref sig .tc .vmem S1024x1024 .f32) (harg7 : arg7.IsWhole)
  (x0 : Vec Ideal S1024x1024 .bf16) (x1 : Vec Ideal S1024x1024 .bf16) (s : Vec Ideal S1024x1024 .f32)

theorem s_A (h0 : cond0_0 i) (h1 : ¬cond0_1 i) : sout0_A_0 dev i arg3 harg3 arg4 harg4 arg6 harg6 arg7 harg7 h0 h1 x0 x1
    = k0_pay2 x0 x1 (k0_pay1 (F := Ideal)) := by frame_out

theorem o_B (h0 : ¬cond0_0 i) (h1 : cond0_1 i) : out0_B_2 dev i arg3 harg3 arg4 harg4 arg6 harg6 arg7 harg7 h0 h1 x0 x1 s
    = k0_pay3 (k0_pay2 x0 x1 s) := by frame_out
end Cases

/-! ## The blocks -/

variable (m : (ℓ : Loc nD τ sig) → Buf (Elt Ideal) ℓ) (c : Dev nD) (t : Fin cfg0.N)

/-- The array of gradients and the two operands. -/
abbrev g : FVec Ideal S2x20480x1024 .f32 := m ((c.tc : Thread nD τ).loc main_arg0)
abbrev a : FVec Ideal S2048x2048 .f32 := m ((c.tc : Thread nD τ).loc main_arg1)
abbrev b : FVec Ideal S2048x2048 .f32 := m ((c.tc : Thread nD τ).loc main_arg2)

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 2 % 2, t.val / 4 + 2 * 2, 0] := (by decide +kernel : ∀ t : Fin grid0.N, _)

theorem tlt : t.val < 8 := lt_of_lt_of_eq t.isLt (show cfg0.N = 8 from N_0)

theorem blk0 (x r : Fin 1024) : iblk m c 0 t (ix2 x r) = a m c (ix2 (mid t.val x) (row t.val (tlt t) r)) := by
  rw [show a m c (ix2 (mid t.val x) (row t.val (tlt t) r)) = V m c main_v0 (ix2 (mid t.val x) (row t.val (tlt t) r)) from rfl]
  blk_ext [iblk, idx0 t, row, mid]

theorem blk1 (x n : Fin 1024) : iblk m c 1 t (ix2 x n) = b m c (ix2 (mid t.val x) (coln t.val n)) := by
  rw [show b m c (ix2 (mid t.val x) (coln t.val n)) = V m c main_v1 (ix2 (mid t.val x) (coln t.val n)) from rfl]
  blk_ext [iblk, idx1 t, coln, mid]

/-! ## The array -/

/-- What is written back at the end of a run. -/
theorem last (e : t.val % 2 = 1) (z : Fin 1) (r n : Fin 1024) :
    (outsAt0 m c t.val t.isLt).1 (ix3 z r n) = dw (a m c) (b m c) (row t.val (tlt t) r) (coln t.val n) := by
  have hN {k : ℕ} (hk : k < 8) : k < cfg0.N := lt_of_lt_of_eq hk (show 8 = cfg0.N from N_0.symm)
  have ht' : t.val - 1 < 8 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact MixDw1.both (a m c) (b m c) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e z r n

theorem flushed_eq (hf : (cfg0.win 2).flush t = true) :
    (dats m 0 c).flushed 2 t = ((cfg0.win 2).blk t).view.read (Elt Ideal) (WideDw.G (a m c) (b m c) (g m c) 2) := by
  rw [flushed2]
  funext y
  refine (congrArg (outsAt0 m c t.val t.isLt).1 (eq_ix3 ((cfg0.win 2).xinj (grid0.coords t) y))).trans
    ((last m c t ((flush0_2 t).mp hf) _ _ _).trans (WideDw.G_at _ _ _ 2 t.val (tlt t) _ y fun k => ?_).symm)
  rw [← idx2 t]
  exact rfl

theorem mem_blk (i : S2x20480x1024.Idx) : i ∈ ((cfg0.win 2).blk t).view.set ↔
    ∀ a : Fin 3, win0_2.index t a * S1x1024x1024.size a ≤ (i a).val ∧ (i a).val < win0_2.index t a * S1x1024x1024.size a + S1x1024x1024.size a := by
  show i ∈ ((View.whole main_v2).slice (win0_2.rect t)).set ↔ _
  rw [View.set_slice_whole, Rect.mem_set_unit]
  exact Iff.rfl

theorem final : (dats m 0 c).arrAt 2 cfg0.N = WideDw.G (a m c) (b m c) (g m c) 2 := by
  funext i
  rw [(dats m 0 c).arrAt_eq_piecewise 2 _ (flushed_eq m c), congrFun (A_eq m c 2) i]
  exact piece (a m c) (b m c) (g m c) 2 N_0 _ flush0_2 _ idx2 i _ fun t => mem_blk t i

/-- The reference's array. -/
theorem ref_eq (g : FVec Ideal Cert.MixDw2RefIdeal.S2x20480x1024 .f32) (a b : FVec Ideal Cert.MixDw2RefIdeal.S2048x2048 .f32) :
    (concatenate Cert.MixDw2RefIdeal.S2x20480x1024 1 [⟨Cert.MixDw2RefIdeal.S2x4096x1024, (extractStridedSlice Cert.MixDw2RefIdeal.S2x4096x1024 ![0, 0, 0] g Cert.MixDw2RefIdeal.Gen.facts.slices_S2x20480x1024_S2x4096x1024_0_0_0)⟩,
      ⟨Cert.MixDw2RefIdeal.S2x2048x1024, (transpose Cert.MixDw2RefIdeal.S2x2048x1024 [0, 2, 1] (shapeCast Cert.MixDw2RefIdeal.S2x1024x2048 (transpose Cert.MixDw2RefIdeal.S2048x2048 [1, 0] (Host.dotGeneral Cert.MixDw2RefIdeal.dot_S2048x2048_S2048x2048_S2048x2048_0_0_1_1_n_n none a b) Cert.MixDw2RefIdeal.Gen.facts.transposes_S2048x2048_S2048x2048_1_0) Cert.MixDw2RefIdeal.Gen.facts.shapeCasts_S2048x2048_S2x1024x2048) Cert.MixDw2RefIdeal.Gen.facts.transposes_S2x1024x2048_S2x2048x1024_0_2_1)⟩,
      ⟨Cert.MixDw2RefIdeal.S2x14336x1024, (extractStridedSlice Cert.MixDw2RefIdeal.S2x14336x1024 ![0, 6144, 0] g Cert.MixDw2RefIdeal.Gen.facts.slices_S2x20480x1024_S2x14336x1024_0_6144_0)⟩]
      Cert.MixDw2RefIdeal.Gen.facts.concatenates_S2x4096x1024_S2x2048x1024_S2x14336x1024_S2x20480x1024_d1 : FVec Ideal Cert.MixDw2RefIdeal.S2x20480x1024 .f32) = WideDw.G a b g 2 := by
  refine eq_G a b g 2 _ (fun z k n h => ?_) (fun z k n h => ?_)
  · pointwise
    rw [dif_neg (by omega), dif_pos (by omega)]
    rfl
  · pointwise
    by_cases h' : k.val < 4096
    · rw [dif_pos h']
    · rw [dif_neg h', dif_neg (by omega)]
      exact congrArg (fun r => g (ix3 z r n)) (Fin.ext (by show 6144 + _ = k.val; omega))

end MixDw2
end
-- ==== Proof.MixDw3.lean ====
/- The gradient of the fourth part of the mixer's input weight, over its rows of the array of gradients. -/
module

public import proofs.«01_k».proof.Proof.MixDw1
public import proofs.«01_k».proof.Proof.Gen.MixDw3Ideal.Value
public import proofs.«01_k».proof.Proof.Gen.MixDw3RefIdeal.Run

@[expose] public section
noncomputable section
namespace MixDw3
open Idealize.ShloMosaic Idealize.SL.Sem Idealize.ShloMosaic.TcCoe Cert.MixDw3Ideal Cert.MixDw3Ideal.Gen Cert.MixDw3Ideal.Value WideDw
open Dw (mid coln ext3)
open scoped BigOperators

section Cases
variable (dev : Dev nD) (i : grid0.Coords) (arg3 : Memref sig .tc .vmem S1024x1024 .bf16) (harg3 : arg3.IsWhole) (arg4 : Memref sig .tc .vmem S1024x1024 .bf16) (harg4 : arg4.IsWhole) (arg6 : Memref sig .tc .vmem S1x1024x1024 .f32) (harg6 : arg6.IsWhole) (arg7 : Memref sig .tc .vmem S1024x1024 .f32) (harg7 : arg7.IsWhole)
  (x0 : Vec Ideal S1024x1024 .bf16) (x1 : Vec Ideal S1024x1024 .bf16) (s : Vec Ideal S1024x1024 .f32)

theorem s_A (h0 : cond0_0 i) (h1 : ¬cond0_1 i) : sout0_A_0 dev i arg3 harg3 arg4 harg4 arg6 harg6 arg7 harg7 h0 h1 x0 x1
    = k0_pay2 x0 x1 (k0_pay1 (F := Ideal)) := by frame_out

theorem o_B (h0 : ¬cond0_0 i) (h1 : cond0_1 i) : out0_B_2 dev i arg3 harg3 arg4 harg4 arg6 harg6 arg7 harg7 h0 h1 x0 x1 s
    = k0_pay3 (k0_pay2 x0 x1 s) := by frame_out
end Cases

/-! ## The blocks -/

variable (m : (ℓ : Loc nD τ sig) → Buf (Elt Ideal) ℓ) (c : Dev nD) (t : Fin cfg0.N)

/-- The array of gradients and the two operands. -/
abbrev g : FVec Ideal S2x20480x1024 .f32 := m ((c.tc : Thread nD τ).loc main_arg0)
abbrev a : FVec Ideal S2048x2048 .f32 := m ((c.tc : Thread nD τ).loc main_arg1)
abbrev b : FVec Ideal S2048x2048 .f32 := m ((c.tc : Thread nD τ).loc main_arg2)

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 2 % 2, t.val / 4 + 2 * 3, 0] := (by decide +kernel : ∀ t : Fin grid0.N, _)

theorem tlt : t.val < 8 := lt_of_lt_of_eq t.isLt (show cfg0.N = 8 from N_0)

theorem blk0 (x r : Fin 1024) : iblk m c 0 t (ix2 x r) = a m c (ix2 (mid t.val x) (row t.val (tlt t) r)) := by
  rw [show a m c (ix2 (mid t.val x) (row t.val (tlt t) r)) = V m c main_v0 (ix2 (mid t.val x) (row t.val (tlt t) r)) from rfl]
  blk_ext [iblk, idx0 t, row, mid]

theorem blk1 (x n : Fin 1024) : iblk m c 1 t (ix2 x n) = b m c (ix2 (mid t.val x) (coln t.val n)) := by
  rw [show b m c (ix2 (mid t.val x) (coln t.val n)) = V m c main_v1 (ix2 (mid t.val x) (coln t.val n)) from rfl]
  blk_ext [iblk, idx1 t, coln, mid]

/-! ## The array -/

/-- What is written back at the end of a run. -/
theorem last (e : t.val % 2 = 1) (z : Fin 1) (r n : Fin 1024) :
    (outsAt0 m c t.val t.isLt).1 (ix3 z r n) = dw (a m c) (b m c) (row t.val (tlt t) r) (coln t.val n) := by
  have hN {k : ℕ} (hk : k < 8) : k < cfg0.N := lt_of_lt_of_eq hk (show 8 = cfg0.N from N_0.symm)
  have ht' : t.val - 1 < 8 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact MixDw1.both (a m c) (b m c) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e z r n

theorem flushed_eq (hf : (cfg0.win 2).flush t = true) :
    (dats m 0 c).flushed 2 t = ((cfg0.win 2).blk t).view.read (Elt Ideal) (WideDw.G (a m c) (b m c) (g m c) 3) := by
  rw [flushed2]
  funext y
  refine (congrArg (outsAt0 m c t.val t.isLt).1 (eq_ix3 ((cfg0.win 2).xinj (grid0.coords t) y))).trans
    ((last m c t ((flush0_2 t).mp hf) _ _ _).trans (WideDw.G_at _ _ _ 3 t.val (tlt t) _ y fun k => ?_).symm)
  rw [← idx2 t]
  exact rfl

theorem mem_blk (i : S2x20480x1024.Idx) : i ∈ ((cfg0.win 2).blk t).view.set ↔
    ∀ a : Fin 3, win0_2.index t a * S1x1024x1024.size a ≤ (i a).val ∧ (i a).val < win0_2.index t a * S1x1024x1024.size a + S1x1024x1024.size a := by
  show i ∈ ((View.whole main_v2).slice (win0_2.rect t)).set ↔ _
  rw [View.set_slice_whole, Rect.mem_set_unit]
  exact Iff.rfl

theorem final : (dats m 0 c).arrAt 2 cfg0.N = WideDw.G (a m c) (b m c) (g m c) 3 := by
  funext i
  rw [(dats m 0 c).arrAt_eq_piecewise 2 _ (flushed_eq m c), congrFun (A_eq m c 2) i]
  exact piece (a m c) (b m c) (g m c) 3 N_0 _ flush0_2 _ idx2 i _ fun t => mem_blk t i

/-- The reference's array. -/
theorem ref_eq (g : FVec Ideal Cert.MixDw3RefIdeal.S2x20480x1024 .f32) (a b : FVec Ideal Cert.MixDw3RefIdeal.S2048x2048 .f32) :
    (concatenate Cert.MixDw3RefIdeal.S2x20480x1024 1 [⟨Cert.MixDw3RefIdeal.S2x6144x1024, (extractStridedSlice Cert.MixDw3RefIdeal.S2x6144x1024 ![0, 0, 0] g Cert.MixDw3RefIdeal.Gen.facts.slices_S2x20480x1024_S2x6144x1024_0_0_0)⟩,
      ⟨Cert.MixDw3RefIdeal.S2x2048x1024, (transpose Cert.MixDw3RefIdeal.S2x2048x1024 [0, 2, 1] (shapeCast Cert.MixDw3RefIdeal.S2x1024x2048 (transpose Cert.MixDw3RefIdeal.S2048x2048 [1, 0] (Host.dotGeneral Cert.MixDw3RefIdeal.dot_S2048x2048_S2048x2048_S2048x2048_0_0_1_1_n_n none a b) Cert.MixDw3RefIdeal.Gen.facts.transposes_S2048x2048_S2048x2048_1_0) Cert.MixDw3RefIdeal.Gen.facts.shapeCasts_S2048x2048_S2x1024x2048) Cert.MixDw3RefIdeal.Gen.facts.transposes_S2x1024x2048_S2x2048x1024_0_2_1)⟩,
      ⟨Cert.MixDw3RefIdeal.S2x12288x1024, (extractStridedSlice Cert.MixDw3RefIdeal.S2x12288x1024 ![0, 8192, 0] g Cert.MixDw3RefIdeal.Gen.facts.slices_S2x20480x1024_S2x12288x1024_0_8192_0)⟩]
      Cert.MixDw3RefIdeal.Gen.facts.concatenates_S2x6144x1024_S2x2048x1024_S2x12288x1024_S2x20480x1024_d1 : FVec Ideal Cert.MixDw3RefIdeal.S2x20480x1024 .f32) = WideDw.G a b g 3 := by
  refine eq_G a b g 3 _ (fun z k n h => ?_) (fun z k n h => ?_)
  · pointwise
    rw [dif_neg (by omega), dif_pos (by omega)]
    rfl
  · pointwise
    by_cases h' : k.val < 6144
    · rw [dif_pos h']
    · rw [dif_neg h', dif_neg (by omega)]
      exact congrArg (fun r => g (ix3 z r n)) (Fin.ext (by show 8192 + _ = k.val; omega))

end MixDw3
end
-- ==== Proof.MixDw4.lean ====
/- The gradient of the fifth part of the mixer's input weight, over its rows of the array of gradients. -/
module

public import proofs.«01_k».proof.Proof.MixDw1
public import proofs.«01_k».proof.Proof.Gen.MixDw4Ideal.Value
public import proofs.«01_k».proof.Proof.Gen.MixDw4RefIdeal.Run

@[expose] public section
noncomputable section
namespace MixDw4
open Idealize.ShloMosaic Idealize.SL.Sem Idealize.ShloMosaic.TcCoe Cert.MixDw4Ideal Cert.MixDw4Ideal.Gen Cert.MixDw4Ideal.Value WideDw
open Dw (mid coln ext3)
open scoped BigOperators

section Cases
variable (dev : Dev nD) (i : grid0.Coords) (arg3 : Memref sig .tc .vmem S1024x1024 .bf16) (harg3 : arg3.IsWhole) (arg4 : Memref sig .tc .vmem S1024x1024 .bf16) (harg4 : arg4.IsWhole) (arg6 : Memref sig .tc .vmem S1x1024x1024 .f32) (harg6 : arg6.IsWhole) (arg7 : Memref sig .tc .vmem S1024x1024 .f32) (harg7 : arg7.IsWhole)
  (x0 : Vec Ideal S1024x1024 .bf16) (x1 : Vec Ideal S1024x1024 .bf16) (s : Vec Ideal S1024x1024 .f32)

theorem s_A (h0 : cond0_0 i) (h1 : ¬cond0_1 i) : sout0_A_0 dev i arg3 harg3 arg4 harg4 arg6 harg6 arg7 harg7 h0 h1 x0 x1
    = k0_pay2 x0 x1 (k0_pay1 (F := Ideal)) := by frame_out

theorem o_B (h0 : ¬cond0_0 i) (h1 : cond0_1 i) : out0_B_2 dev i arg3 harg3 arg4 harg4 arg6 harg6 arg7 harg7 h0 h1 x0 x1 s
    = k0_pay3 (k0_pay2 x0 x1 s) := by frame_out
end Cases

/-! ## The blocks -/

variable (m : (ℓ : Loc nD τ sig) → Buf (Elt Ideal) ℓ) (c : Dev nD) (t : Fin cfg0.N)

/-- The array of gradients and the two operands. -/
abbrev g : FVec Ideal S2x20480x1024 .f32 := m ((c.tc : Thread nD τ).loc main_arg0)
abbrev a : FVec Ideal S2048x2048 .f32 := m ((c.tc : Thread nD τ).loc main_arg1)
abbrev b : FVec Ideal S2048x2048 .f32 := m ((c.tc : Thread nD τ).loc main_arg2)

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 2 % 2, t.val / 4 + 2 * 4, 0] := (by decide +kernel : ∀ t : Fin grid0.N, _)

theorem tlt : t.val < 8 := lt_of_lt_of_eq t.isLt (show cfg0.N = 8 from N_0)

theorem blk0 (x r : Fin 1024) : iblk m c 0 t (ix2 x r) = a m c (ix2 (mid t.val x) (row t.val (tlt t) r)) := by
  rw [show a m c (ix2 (mid t.val x) (row t.val (tlt t) r)) = V m c main_v0 (ix2 (mid t.val x) (row t.val (tlt t) r)) from rfl]
  blk_ext [iblk, idx0 t, row, mid]

theorem blk1 (x n : Fin 1024) : iblk m c 1 t (ix2 x n) = b m c (ix2 (mid t.val x) (coln t.val n)) := by
  rw [show b m c (ix2 (mid t.val x) (coln t.val n)) = V m c main_v1 (ix2 (mid t.val x) (coln t.val n)) from rfl]
  blk_ext [iblk, idx1 t, coln, mid]

/-! ## The array -/

/-- What is written back at the end of a run. -/
theorem last (e : t.val % 2 = 1) (z : Fin 1) (r n : Fin 1024) :
    (outsAt0 m c t.val t.isLt).1 (ix3 z r n) = dw (a m c) (b m c) (row t.val (tlt t) r) (coln t.val n) := by
  have hN {k : ℕ} (hk : k < 8) : k < cfg0.N := lt_of_lt_of_eq hk (show 8 = cfg0.N from N_0.symm)
  have ht' : t.val - 1 < 8 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact MixDw1.both (a m c) (b m c) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e z r n

theorem flushed_eq (hf : (cfg0.win 2).flush t = true) :
    (dats m 0 c).flushed 2 t = ((cfg0.win 2).blk t).view.read (Elt Ideal) (WideDw.G (a m c) (b m c) (g m c) 4) := by
  rw [flushed2]
  funext y
  refine (congrArg (outsAt0 m c t.val t.isLt).1 (eq_ix3 ((cfg0.win 2).xinj (grid0.coords t) y))).trans
    ((last m c t ((flush0_2 t).mp hf) _ _ _).trans (WideDw.G_at _ _ _ 4 t.val (tlt t) _ y fun k => ?_).symm)
  rw [← idx2 t]
  exact rfl

theorem mem_blk (i : S2x20480x1024.Idx) : i ∈ ((cfg0.win 2).blk t).view.set ↔
    ∀ a : Fin 3, win0_2.index t a * S1x1024x1024.size a ≤ (i a).val ∧ (i a).val < win0_2.index t a * S1x1024x1024.size a + S1x1024x1024.size a := by
  show i ∈ ((View.whole main_v2).slice (win0_2.rect t)).set ↔ _
  rw [View.set_slice_whole, Rect.mem_set_unit]
  exact Iff.rfl

theorem final : (dats m 0 c).arrAt 2 cfg0.N = WideDw.G (a m c) (b m c) (g m c) 4 := by
  funext i
  rw [(dats m 0 c).arrAt_eq_piecewise 2 _ (flushed_eq m c), congrFun (A_eq m c 2) i]
  exact piece (a m c) (b m c) (g m c) 4 N_0 _ flush0_2 _ idx2 i _ fun t => mem_blk t i

/-- The reference's array. -/
theorem ref_eq (g : FVec Ideal Cert.MixDw4RefIdeal.S2x20480x1024 .f32) (a b : FVec Ideal Cert.MixDw4RefIdeal.S2048x2048 .f32) :
    (concatenate Cert.MixDw4RefIdeal.S2x20480x1024 1 [⟨Cert.MixDw4RefIdeal.S2x8192x1024, (extractStridedSlice Cert.MixDw4RefIdeal.S2x8192x1024 ![0, 0, 0] g Cert.MixDw4RefIdeal.Gen.facts.slices_S2x20480x1024_S2x8192x1024_0_0_0)⟩,
      ⟨Cert.MixDw4RefIdeal.S2x2048x1024, (transpose Cert.MixDw4RefIdeal.S2x2048x1024 [0, 2, 1] (shapeCast Cert.MixDw4RefIdeal.S2x1024x2048 (transpose Cert.MixDw4RefIdeal.S2048x2048 [1, 0] (Host.dotGeneral Cert.MixDw4RefIdeal.dot_S2048x2048_S2048x2048_S2048x2048_0_0_1_1_n_n none a b) Cert.MixDw4RefIdeal.Gen.facts.transposes_S2048x2048_S2048x2048_1_0) Cert.MixDw4RefIdeal.Gen.facts.shapeCasts_S2048x2048_S2x1024x2048) Cert.MixDw4RefIdeal.Gen.facts.transposes_S2x1024x2048_S2x2048x1024_0_2_1)⟩,
      ⟨Cert.MixDw4RefIdeal.S2x10240x1024, (extractStridedSlice Cert.MixDw4RefIdeal.S2x10240x1024 ![0, 10240, 0] g Cert.MixDw4RefIdeal.Gen.facts.slices_S2x20480x1024_S2x10240x1024_0_10240_0)⟩]
      Cert.MixDw4RefIdeal.Gen.facts.concatenates_S2x8192x1024_S2x2048x1024_S2x10240x1024_S2x20480x1024_d1 : FVec Ideal Cert.MixDw4RefIdeal.S2x20480x1024 .f32) = WideDw.G a b g 4 := by
  refine eq_G a b g 4 _ (fun z k n h => ?_) (fun z k n h => ?_)
  · pointwise
    rw [dif_neg (by omega), dif_pos (by omega)]
    rfl
  · pointwise
    by_cases h' : k.val < 8192
    · rw [dif_pos h']
    · rw [dif_neg h', dif_neg (by omega)]
      exact congrArg (fun r => g (ix3 z r n)) (Fin.ext (by show 10240 + _ = k.val; omega))

end MixDw4
end
-- ==== Proof.MixDw5.lean ====
/- The gradient of the sixth part of the mixer's input weight, over its rows of the array of gradients. -/
module

public import proofs.«01_k».proof.Proof.MixDw1
public import proofs.«01_k».proof.Proof.Gen.MixDw5Ideal.Value
public import proofs.«01_k».proof.Proof.Gen.MixDw5RefIdeal.Run

@[expose] public section
noncomputable section
namespace MixDw5
open Idealize.ShloMosaic Idealize.SL.Sem Idealize.ShloMosaic.TcCoe Cert.MixDw5Ideal Cert.MixDw5Ideal.Gen Cert.MixDw5Ideal.Value WideDw
open Dw (mid coln ext3)
open scoped BigOperators

section Cases
variable (dev : Dev nD) (i : grid0.Coords) (arg3 : Memref sig .tc .vmem S1024x1024 .bf16) (harg3 : arg3.IsWhole) (arg4 : Memref sig .tc .vmem S1024x1024 .bf16) (harg4 : arg4.IsWhole) (arg6 : Memref sig .tc .vmem S1x1024x1024 .f32) (harg6 : arg6.IsWhole) (arg7 : Memref sig .tc .vmem S1024x1024 .f32) (harg7 : arg7.IsWhole)
  (x0 : Vec Ideal S1024x1024 .bf16) (x1 : Vec Ideal S1024x1024 .bf16) (s : Vec Ideal S1024x1024 .f32)

theorem s_A (h0 : cond0_0 i) (h1 : ¬cond0_1 i) : sout0_A_0 dev i arg3 harg3 arg4 harg4 arg6 harg6 arg7 harg7 h0 h1 x0 x1
    = k0_pay2 x0 x1 (k0_pay1 (F := Ideal)) := by frame_out

theorem o_B (h0 : ¬cond0_0 i) (h1 : cond0_1 i) : out0_B_2 dev i arg3 harg3 arg4 harg4 arg6 harg6 arg7 harg7 h0 h1 x0 x1 s
    = k0_pay3 (k0_pay2 x0 x1 s) := by frame_out
end Cases

/-! ## The blocks -/

variable (m : (ℓ : Loc nD τ sig) → Buf (Elt Ideal) ℓ) (c : Dev nD) (t : Fin cfg0.N)

/-- The array of gradients and the two operands. -/
abbrev g : FVec Ideal S2x20480x1024 .f32 := m ((c.tc : Thread nD τ).loc main_arg0)
abbrev a : FVec Ideal S2048x2048 .f32 := m ((c.tc : Thread nD τ).loc main_arg1)
abbrev b : FVec Ideal S2048x2048 .f32 := m ((c.tc : Thread nD τ).loc main_arg2)

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 2 % 2, t.val / 4 + 2 * 5, 0] := (by decide +kernel : ∀ t : Fin grid0.N, _)

theorem tlt : t.val < 8 := lt_of_lt_of_eq t.isLt (show cfg0.N = 8 from N_0)

theorem blk0 (x r : Fin 1024) : iblk m c 0 t (ix2 x r) = a m c (ix2 (mid t.val x) (row t.val (tlt t) r)) := by
  rw [show a m c (ix2 (mid t.val x) (row t.val (tlt t) r)) = V m c main_v0 (ix2 (mid t.val x) (row t.val (tlt t) r)) from rfl]
  blk_ext [iblk, idx0 t, row, mid]

theorem blk1 (x n : Fin 1024) : iblk m c 1 t (ix2 x n) = b m c (ix2 (mid t.val x) (coln t.val n)) := by
  rw [show b m c (ix2 (mid t.val x) (coln t.val n)) = V m c main_v1 (ix2 (mid t.val x) (coln t.val n)) from rfl]
  blk_ext [iblk, idx1 t, coln, mid]

/-! ## The array -/

/-- What is written back at the end of a run. -/
theorem last (e : t.val % 2 = 1) (z : Fin 1) (r n : Fin 1024) :
    (outsAt0 m c t.val t.isLt).1 (ix3 z r n) = dw (a m c) (b m c) (row t.val (tlt t) r) (coln t.val n) := by
  have hN {k : ℕ} (hk : k < 8) : k < cfg0.N := lt_of_lt_of_eq hk (show 8 = cfg0.N from N_0.symm)
  have ht' : t.val - 1 < 8 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact MixDw1.both (a m c) (b m c) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e z r n

theorem flushed_eq (hf : (cfg0.win 2).flush t = true) :
    (dats m 0 c).flushed 2 t = ((cfg0.win 2).blk t).view.read (Elt Ideal) (WideDw.G (a m c) (b m c) (g m c) 5) := by
  rw [flushed2]
  funext y
  refine (congrArg (outsAt0 m c t.val t.isLt).1 (eq_ix3 ((cfg0.win 2).xinj (grid0.coords t) y))).trans
    ((last m c t ((flush0_2 t).mp hf) _ _ _).trans (WideDw.G_at _ _ _ 5 t.val (tlt t) _ y fun k => ?_).symm)
  rw [← idx2 t]
  exact rfl

theorem mem_blk (i : S2x20480x1024.Idx) : i ∈ ((cfg0.win 2).blk t).view.set ↔
    ∀ a : Fin 3, win0_2.index t a * S1x1024x1024.size a ≤ (i a).val ∧ (i a).val < win0_2.index t a * S1x1024x1024.size a + S1x1024x1024.size a := by
  show i ∈ ((View.whole main_v2).slice (win0_2.rect t)).set ↔ _
  rw [View.set_slice_whole, Rect.mem_set_unit]
  exact Iff.rfl

theorem final : (dats m 0 c).arrAt 2 cfg0.N = WideDw.G (a m c) (b m c) (g m c) 5 := by
  funext i
  rw [(dats m 0 c).arrAt_eq_piecewise 2 _ (flushed_eq m c), congrFun (A_eq m c 2) i]
  exact piece (a m c) (b m c) (g m c) 5 N_0 _ flush0_2 _ idx2 i _ fun t => mem_blk t i

/-- The reference's array. -/
theorem ref_eq (g : FVec Ideal Cert.MixDw5RefIdeal.S2x20480x1024 .f32) (a b : FVec Ideal Cert.MixDw5RefIdeal.S2048x2048 .f32) :
    (concatenate Cert.MixDw5RefIdeal.S2x20480x1024 1 [⟨Cert.MixDw5RefIdeal.S2x10240x1024, (extractStridedSlice Cert.MixDw5RefIdeal.S2x10240x1024 ![0, 0, 0] g Cert.MixDw5RefIdeal.Gen.facts.slices_S2x20480x1024_S2x10240x1024_0_0_0)⟩,
      ⟨Cert.MixDw5RefIdeal.S2x2048x1024, (transpose Cert.MixDw5RefIdeal.S2x2048x1024 [0, 2, 1] (shapeCast Cert.MixDw5RefIdeal.S2x1024x2048 (transpose Cert.MixDw5RefIdeal.S2048x2048 [1, 0] (Host.dotGeneral Cert.MixDw5RefIdeal.dot_S2048x2048_S2048x2048_S2048x2048_0_0_1_1_n_n none a b) Cert.MixDw5RefIdeal.Gen.facts.transposes_S2048x2048_S2048x2048_1_0) Cert.MixDw5RefIdeal.Gen.facts.shapeCasts_S2048x2048_S2x1024x2048) Cert.MixDw5RefIdeal.Gen.facts.transposes_S2x1024x2048_S2x2048x1024_0_2_1)⟩,
      ⟨Cert.MixDw5RefIdeal.S2x8192x1024, (extractStridedSlice Cert.MixDw5RefIdeal.S2x8192x1024 ![0, 12288, 0] g Cert.MixDw5RefIdeal.Gen.facts.slices_S2x20480x1024_S2x8192x1024_0_12288_0)⟩]
      Cert.MixDw5RefIdeal.Gen.facts.concatenates_S2x10240x1024_S2x2048x1024_S2x8192x1024_S2x20480x1024_d1 : FVec Ideal Cert.MixDw5RefIdeal.S2x20480x1024 .f32) = WideDw.G a b g 5 := by
  refine eq_G a b g 5 _ (fun z k n h => ?_) (fun z k n h => ?_)
  · pointwise
    rw [dif_neg (by omega), dif_pos (by omega)]
    rfl
  · pointwise
    by_cases h' : k.val < 10240
    · rw [dif_pos h']
    · rw [dif_neg h', dif_neg (by omega)]
      exact congrArg (fun r => g (ix3 z r n)) (Fin.ext (by show 12288 + _ = k.val; omega))

end MixDw5
end
-- ==== Proof.MixDw6.lean ====
/- The gradient of the seventh part of the mixer's input weight, over its rows of the array of gradients. -/
module

public import proofs.«01_k».proof.Proof.MixDw1
public import proofs.«01_k».proof.Proof.Gen.MixDw6Ideal.Value
public import proofs.«01_k».proof.Proof.Gen.MixDw6RefIdeal.Run

@[expose] public section
noncomputable section
namespace MixDw6
open Idealize.ShloMosaic Idealize.SL.Sem Idealize.ShloMosaic.TcCoe Cert.MixDw6Ideal Cert.MixDw6Ideal.Gen Cert.MixDw6Ideal.Value WideDw
open Dw (mid coln ext3)
open scoped BigOperators

section Cases
variable (dev : Dev nD) (i : grid0.Coords) (arg3 : Memref sig .tc .vmem S1024x1024 .bf16) (harg3 : arg3.IsWhole) (arg4 : Memref sig .tc .vmem S1024x1024 .bf16) (harg4 : arg4.IsWhole) (arg6 : Memref sig .tc .vmem S1x1024x1024 .f32) (harg6 : arg6.IsWhole) (arg7 : Memref sig .tc .vmem S1024x1024 .f32) (harg7 : arg7.IsWhole)
  (x0 : Vec Ideal S1024x1024 .bf16) (x1 : Vec Ideal S1024x1024 .bf16) (s : Vec Ideal S1024x1024 .f32)

theorem s_A (h0 : cond0_0 i) (h1 : ¬cond0_1 i) : sout0_A_0 dev i arg3 harg3 arg4 harg4 arg6 harg6 arg7 harg7 h0 h1 x0 x1
    = k0_pay2 x0 x1 (k0_pay1 (F := Ideal)) := by frame_out

theorem o_B (h0 : ¬cond0_0 i) (h1 : cond0_1 i) : out0_B_2 dev i arg3 harg3 arg4 harg4 arg6 harg6 arg7 harg7 h0 h1 x0 x1 s
    = k0_pay3 (k0_pay2 x0 x1 s) := by frame_out
end Cases

/-! ## The blocks -/

variable (m : (ℓ : Loc nD τ sig) → Buf (Elt Ideal) ℓ) (c : Dev nD) (t : Fin cfg0.N)

/-- The array of gradients and the two operands. -/
abbrev g : FVec Ideal S2x20480x1024 .f32 := m ((c.tc : Thread nD τ).loc main_arg0)
abbrev a : FVec Ideal S2048x2048 .f32 := m ((c.tc : Thread nD τ).loc main_arg1)
abbrev b : FVec Ideal S2048x2048 .f32 := m ((c.tc : Thread nD τ).loc main_arg2)

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 2 % 2, t.val / 4 + 2 * 6, 0] := (by decide +kernel : ∀ t : Fin grid0.N, _)

theorem tlt : t.val < 8 := lt_of_lt_of_eq t.isLt (show cfg0.N = 8 from N_0)

theorem blk0 (x r : Fin 1024) : iblk m c 0 t (ix2 x r) = a m c (ix2 (mid t.val x) (row t.val (tlt t) r)) := by
  rw [show a m c (ix2 (mid t.val x) (row t.val (tlt t) r)) = V m c main_v0 (ix2 (mid t.val x) (row t.val (tlt t) r)) from rfl]
  blk_ext [iblk, idx0 t, row, mid]

theorem blk1 (x n : Fin 1024) : iblk m c 1 t (ix2 x n) = b m c (ix2 (mid t.val x) (coln t.val n)) := by
  rw [show b m c (ix2 (mid t.val x) (coln t.val n)) = V m c main_v1 (ix2 (mid t.val x) (coln t.val n)) from rfl]
  blk_ext [iblk, idx1 t, coln, mid]

/-! ## The array -/

/-- What is written back at the end of a run. -/
theorem last (e : t.val % 2 = 1) (z : Fin 1) (r n : Fin 1024) :
    (outsAt0 m c t.val t.isLt).1 (ix3 z r n) = dw (a m c) (b m c) (row t.val (tlt t) r) (coln t.val n) := by
  have hN {k : ℕ} (hk : k < 8) : k < cfg0.N := lt_of_lt_of_eq hk (show 8 = cfg0.N from N_0.symm)
  have ht' : t.val - 1 < 8 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact MixDw1.both (a m c) (b m c) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e z r n

theorem flushed_eq (hf : (cfg0.win 2).flush t = true) :
    (dats m 0 c).flushed 2 t = ((cfg0.win 2).blk t).view.read (Elt Ideal) (WideDw.G (a m c) (b m c) (g m c) 6) := by
  rw [flushed2]
  funext y
  refine (congrArg (outsAt0 m c t.val t.isLt).1 (eq_ix3 ((cfg0.win 2).xinj (grid0.coords t) y))).trans
    ((last m c t ((flush0_2 t).mp hf) _ _ _).trans (WideDw.G_at _ _ _ 6 t.val (tlt t) _ y fun k => ?_).symm)
  rw [← idx2 t]
  exact rfl

theorem mem_blk (i : S2x20480x1024.Idx) : i ∈ ((cfg0.win 2).blk t).view.set ↔
    ∀ a : Fin 3, win0_2.index t a * S1x1024x1024.size a ≤ (i a).val ∧ (i a).val < win0_2.index t a * S1x1024x1024.size a + S1x1024x1024.size a := by
  show i ∈ ((View.whole main_v2).slice (win0_2.rect t)).set ↔ _
  rw [View.set_slice_whole, Rect.mem_set_unit]
  exact Iff.rfl

theorem final : (dats m 0 c).arrAt 2 cfg0.N = WideDw.G (a m c) (b m c) (g m c) 6 := by
  funext i
  rw [(dats m 0 c).arrAt_eq_piecewise 2 _ (flushed_eq m c), congrFun (A_eq m c 2) i]
  exact piece (a m c) (b m c) (g m c) 6 N_0 _ flush0_2 _ idx2 i _ fun t => mem_blk t i

/-- The reference's array. -/
theorem ref_eq (g : FVec Ideal Cert.MixDw6RefIdeal.S2x20480x1024 .f32) (a b : FVec Ideal Cert.MixDw6RefIdeal.S2048x2048 .f32) :
    (concatenate Cert.MixDw6RefIdeal.S2x20480x1024 1 [⟨Cert.MixDw6RefIdeal.S2x12288x1024, (extractStridedSlice Cert.MixDw6RefIdeal.S2x12288x1024 ![0, 0, 0] g Cert.MixDw6RefIdeal.Gen.facts.slices_S2x20480x1024_S2x12288x1024_0_0_0)⟩,
      ⟨Cert.MixDw6RefIdeal.S2x2048x1024, (transpose Cert.MixDw6RefIdeal.S2x2048x1024 [0, 2, 1] (shapeCast Cert.MixDw6RefIdeal.S2x1024x2048 (transpose Cert.MixDw6RefIdeal.S2048x2048 [1, 0] (Host.dotGeneral Cert.MixDw6RefIdeal.dot_S2048x2048_S2048x2048_S2048x2048_0_0_1_1_n_n none a b) Cert.MixDw6RefIdeal.Gen.facts.transposes_S2048x2048_S2048x2048_1_0) Cert.MixDw6RefIdeal.Gen.facts.shapeCasts_S2048x2048_S2x1024x2048) Cert.MixDw6RefIdeal.Gen.facts.transposes_S2x1024x2048_S2x2048x1024_0_2_1)⟩,
      ⟨Cert.MixDw6RefIdeal.S2x6144x1024, (extractStridedSlice Cert.MixDw6RefIdeal.S2x6144x1024 ![0, 14336, 0] g Cert.MixDw6RefIdeal.Gen.facts.slices_S2x20480x1024_S2x6144x1024_0_14336_0)⟩]
      Cert.MixDw6RefIdeal.Gen.facts.concatenates_S2x12288x1024_S2x2048x1024_S2x6144x1024_S2x20480x1024_d1 : FVec Ideal Cert.MixDw6RefIdeal.S2x20480x1024 .f32) = WideDw.G a b g 6 := by
  refine eq_G a b g 6 _ (fun z k n h => ?_) (fun z k n h => ?_)
  · pointwise
    rw [dif_neg (by omega), dif_pos (by omega)]
    rfl
  · pointwise
    by_cases h' : k.val < 12288
    · rw [dif_pos h']
    · rw [dif_neg h', dif_neg (by omega)]
      exact congrArg (fun r => g (ix3 z r n)) (Fin.ext (by show 14336 + _ = k.val; omega))

end MixDw6
end
-- ==== Proof.MlaOutDw.lean ====
/- The gradient of the attention's output weight, over its rows of the array of gradients. -/
module

public import proofs.«01_k».proof.Proof.MixDw1
public import proofs.«01_k».proof.Proof.Gen.MlaOutDwIdeal.Value
public import proofs.«01_k».proof.Proof.Gen.MlaOutDwRefIdeal.Run

@[expose] public section
noncomputable section
namespace MlaOutDw
open Idealize.ShloMosaic Idealize.SL.Sem Idealize.ShloMosaic.TcCoe Cert.MlaOutDwIdeal Cert.MlaOutDwIdeal.Gen Cert.MlaOutDwIdeal.Value WideDw
open Dw (mid coln ext3)
open scoped BigOperators

section Cases
variable (dev : Dev nD) (i : grid0.Coords) (arg3 : Memref sig .tc .vmem S1024x1024 .bf16) (harg3 : arg3.IsWhole) (arg4 : Memref sig .tc .vmem S1024x1024 .bf16) (harg4 : arg4.IsWhole) (arg6 : Memref sig .tc .vmem S1x1024x1024 .f32) (harg6 : arg6.IsWhole) (arg7 : Memref sig .tc .vmem S1024x1024 .f32) (harg7 : arg7.IsWhole)
  (x0 : Vec Ideal S1024x1024 .bf16) (x1 : Vec Ideal S1024x1024 .bf16) (s : Vec Ideal S1024x1024 .f32)

theorem s_A (h0 : cond0_0 i) (h1 : ¬cond0_1 i) : sout0_A_0 dev i arg3 harg3 arg4 harg4 arg6 harg6 arg7 harg7 h0 h1 x0 x1
    = k0_pay2 x0 x1 (k0_pay1 (F := Ideal)) := by frame_out

theorem o_B (h0 : ¬cond0_0 i) (h1 : cond0_1 i) : out0_B_2 dev i arg3 harg3 arg4 harg4 arg6 harg6 arg7 harg7 h0 h1 x0 x1 s
    = k0_pay3 (k0_pay2 x0 x1 s) := by frame_out
end Cases

/-! ## The blocks -/

variable (m : (ℓ : Loc nD τ sig) → Buf (Elt Ideal) ℓ) (c : Dev nD) (t : Fin cfg0.N)

/-- The array of gradients and the two operands. -/
abbrev g : FVec Ideal S2x20480x1024 .f32 := m ((c.tc : Thread nD τ).loc main_arg0)
abbrev a : FVec Ideal S2048x2048 .f32 := m ((c.tc : Thread nD τ).loc main_arg1)
abbrev b : FVec Ideal S2048x2048 .f32 := m ((c.tc : Thread nD τ).loc main_arg2)

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 2 % 2, t.val / 4 + 2 * 7, 0] := (by decide +kernel : ∀ t : Fin grid0.N, _)

theorem tlt : t.val < 8 := lt_of_lt_of_eq t.isLt (show cfg0.N = 8 from N_0)

theorem blk0 (x r : Fin 1024) : iblk m c 0 t (ix2 x r) = a m c (ix2 (mid t.val x) (row t.val (tlt t) r)) := by
  rw [show a m c (ix2 (mid t.val x) (row t.val (tlt t) r)) = V m c main_v0 (ix2 (mid t.val x) (row t.val (tlt t) r)) from rfl]
  blk_ext [iblk, idx0 t, row, mid]

theorem blk1 (x n : Fin 1024) : iblk m c 1 t (ix2 x n) = b m c (ix2 (mid t.val x) (coln t.val n)) := by
  rw [show b m c (ix2 (mid t.val x) (coln t.val n)) = V m c main_v1 (ix2 (mid t.val x) (coln t.val n)) from rfl]
  blk_ext [iblk, idx1 t, coln, mid]

/-! ## The array -/

/-- What is written back at the end of a run. -/
theorem last (e : t.val % 2 = 1) (z : Fin 1) (r n : Fin 1024) :
    (outsAt0 m c t.val t.isLt).1 (ix3 z r n) = dw (a m c) (b m c) (row t.val (tlt t) r) (coln t.val n) := by
  have hN {k : ℕ} (hk : k < 8) : k < cfg0.N := lt_of_lt_of_eq hk (show 8 = cfg0.N from N_0.symm)
  have ht' : t.val - 1 < 8 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact MixDw1.both (a m c) (b m c) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e z r n

theorem flushed_eq (hf : (cfg0.win 2).flush t = true) :
    (dats m 0 c).flushed 2 t = ((cfg0.win 2).blk t).view.read (Elt Ideal) (WideDw.G (a m c) (b m c) (g m c) 7) := by
  rw [flushed2]
  funext y
  refine (congrArg (outsAt0 m c t.val t.isLt).1 (eq_ix3 ((cfg0.win 2).xinj (grid0.coords t) y))).trans
    ((last m c t ((flush0_2 t).mp hf) _ _ _).trans (WideDw.G_at _ _ _ 7 t.val (tlt t) _ y fun k => ?_).symm)
  rw [← idx2 t]
  exact rfl

theorem mem_blk (i : S2x20480x1024.Idx) : i ∈ ((cfg0.win 2).blk t).view.set ↔
    ∀ a : Fin 3, win0_2.index t a * S1x1024x1024.size a ≤ (i a).val ∧ (i a).val < win0_2.index t a * S1x1024x1024.size a + S1x1024x1024.size a := by
  show i ∈ ((View.whole main_v2).slice (win0_2.rect t)).set ↔ _
  rw [View.set_slice_whole, Rect.mem_set_unit]
  exact Iff.rfl

theorem final : (dats m 0 c).arrAt 2 cfg0.N = WideDw.G (a m c) (b m c) (g m c) 7 := by
  funext i
  rw [(dats m 0 c).arrAt_eq_piecewise 2 _ (flushed_eq m c), congrFun (A_eq m c 2) i]
  exact piece (a m c) (b m c) (g m c) 7 N_0 _ flush0_2 _ idx2 i _ fun t => mem_blk t i

/-- The reference's array. -/
theorem ref_eq (g : FVec Ideal Cert.MlaOutDwRefIdeal.S2x20480x1024 .f32) (a b : FVec Ideal Cert.MlaOutDwRefIdeal.S2048x2048 .f32) :
    (concatenate Cert.MlaOutDwRefIdeal.S2x20480x1024 1 [⟨Cert.MlaOutDwRefIdeal.S2x14336x1024, (extractStridedSlice Cert.MlaOutDwRefIdeal.S2x14336x1024 ![0, 0, 0] g Cert.MlaOutDwRefIdeal.Gen.facts.slices_S2x20480x1024_S2x14336x1024_0_0_0)⟩,
      ⟨Cert.MlaOutDwRefIdeal.S2x2048x1024, (transpose Cert.MlaOutDwRefIdeal.S2x2048x1024 [1, 0, 2] (shapeCast Cert.MlaOutDwRefIdeal.S2048x2x1024 (transpose Cert.MlaOutDwRefIdeal.S2048x2048 [1, 0] (Host.dotGeneral Cert.MlaOutDwRefIdeal.dot_S2048x2048_S2048x2048_S2048x2048_0_0_1_1_n_n none b a) Cert.MlaOutDwRefIdeal.Gen.facts.transposes_S2048x2048_S2048x2048_1_0) Cert.MlaOutDwRefIdeal.Gen.facts.shapeCasts_S2048x2048_S2048x2x1024) Cert.MlaOutDwRefIdeal.Gen.facts.transposes_S2048x2x1024_S2x2048x1024_1_0_2)⟩,
      ⟨Cert.MlaOutDwRefIdeal.S2x4096x1024, (extractStridedSlice Cert.MlaOutDwRefIdeal.S2x4096x1024 ![0, 16384, 0] g Cert.MlaOutDwRefIdeal.Gen.facts.slices_S2x20480x1024_S2x4096x1024_0_16384_0)⟩]
      Cert.MlaOutDwRefIdeal.Gen.facts.concatenates_S2x14336x1024_S2x2048x1024_S2x4096x1024_S2x20480x1024_d1 : FVec Ideal Cert.MlaOutDwRefIdeal.S2x20480x1024 .f32) = WideDw.G a b g 7 := by
  refine eq_G a b g 7 _ (fun z k n h => ?_) (fun z k n h => ?_)
  · pointwise
    rw [dif_neg (by omega), dif_pos (by omega)]
    exact Finset.sum_congr rfl fun x _ => mul_comm _ _
  · pointwise
    by_cases h' : k.val < 14336
    · rw [dif_pos h']
    · rw [dif_neg h', dif_neg (by omega)]
      exact congrArg (fun r => g (ix3 z r n)) (Fin.ext (by show 16384 + _ = k.val; omega))

end MlaOutDw
end
-- ==== Proof.HgrnOutDw.lean ====
/- The gradient of the recurrence's output weight, over its rows of the array of gradients. -/
module

public import proofs.«01_k».proof.Proof.MixDw1
public import proofs.«01_k».proof.Proof.Gen.HgrnOutDwIdeal.Value
public import proofs.«01_k».proof.Proof.Gen.HgrnOutDwRefIdeal.Run

@[expose] public section
noncomputable section
namespace HgrnOutDw
open Idealize.ShloMosaic Idealize.SL.Sem Idealize.ShloMosaic.TcCoe Cert.HgrnOutDwIdeal Cert.HgrnOutDwIdeal.Gen Cert.HgrnOutDwIdeal.Value WideDw
open Dw (mid coln ext3)
open scoped BigOperators

section Cases
variable (dev : Dev nD) (i : grid0.Coords) (arg3 : Memref sig .tc .vmem S1024x1024 .bf16) (harg3 : arg3.IsWhole) (arg4 : Memref sig .tc .vmem S1024x1024 .bf16) (harg4 : arg4.IsWhole) (arg6 : Memref sig .tc .vmem S1x1024x1024 .f32) (harg6 : arg6.IsWhole) (arg7 : Memref sig .tc .vmem S1024x1024 .f32) (harg7 : arg7.IsWhole)
  (x0 : Vec Ideal S1024x1024 .bf16) (x1 : Vec Ideal S1024x1024 .bf16) (s : Vec Ideal S1024x1024 .f32)

theorem s_A (h0 : cond0_0 i) (h1 : ¬cond0_1 i) : sout0_A_0 dev i arg3 harg3 arg4 harg4 arg6 harg6 arg7 harg7 h0 h1 x0 x1
    = k0_pay2 x0 x1 (k0_pay1 (F := Ideal)) := by frame_out

theorem o_B (h0 : ¬cond0_0 i) (h1 : cond0_1 i) : out0_B_2 dev i arg3 harg3 arg4 harg4 arg6 harg6 arg7 harg7 h0 h1 x0 x1 s
    = k0_pay3 (k0_pay2 x0 x1 s) := by frame_out
end Cases

/-! ## The blocks -/

variable (m : (ℓ : Loc nD τ sig) → Buf (Elt Ideal) ℓ) (c : Dev nD) (t : Fin cfg0.N)

/-- The array of gradients and the two operands. -/
abbrev g : FVec Ideal S2x20480x1024 .f32 := m ((c.tc : Thread nD τ).loc main_arg0)
abbrev a : FVec Ideal S2048x2048 .f32 := m ((c.tc : Thread nD τ).loc main_arg1)
abbrev b : FVec Ideal S2048x2048 .f32 := m ((c.tc : Thread nD τ).loc main_arg2)

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 2 % 2, t.val / 4 + 2 * 8, 0] := (by decide +kernel : ∀ t : Fin grid0.N, _)

theorem tlt : t.val < 8 := lt_of_lt_of_eq t.isLt (show cfg0.N = 8 from N_0)

theorem blk0 (x r : Fin 1024) : iblk m c 0 t (ix2 x r) = a m c (ix2 (mid t.val x) (row t.val (tlt t) r)) := by
  rw [show a m c (ix2 (mid t.val x) (row t.val (tlt t) r)) = V m c main_v0 (ix2 (mid t.val x) (row t.val (tlt t) r)) from rfl]
  blk_ext [iblk, idx0 t, row, mid]

theorem blk1 (x n : Fin 1024) : iblk m c 1 t (ix2 x n) = b m c (ix2 (mid t.val x) (coln t.val n)) := by
  rw [show b m c (ix2 (mid t.val x) (coln t.val n)) = V m c main_v1 (ix2 (mid t.val x) (coln t.val n)) from rfl]
  blk_ext [iblk, idx1 t, coln, mid]

/-! ## The array -/

/-- What is written back at the end of a run. -/
theorem last (e : t.val % 2 = 1) (z : Fin 1) (r n : Fin 1024) :
    (outsAt0 m c t.val t.isLt).1 (ix3 z r n) = dw (a m c) (b m c) (row t.val (tlt t) r) (coln t.val n) := by
  have hN {k : ℕ} (hk : k < 8) : k < cfg0.N := lt_of_lt_of_eq hk (show 8 = cfg0.N from N_0.symm)
  have ht' : t.val - 1 < 8 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact MixDw1.both (a m c) (b m c) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e z r n

theorem flushed_eq (hf : (cfg0.win 2).flush t = true) :
    (dats m 0 c).flushed 2 t = ((cfg0.win 2).blk t).view.read (Elt Ideal) (WideDw.G (a m c) (b m c) (g m c) 8) := by
  rw [flushed2]
  funext y
  refine (congrArg (outsAt0 m c t.val t.isLt).1 (eq_ix3 ((cfg0.win 2).xinj (grid0.coords t) y))).trans
    ((last m c t ((flush0_2 t).mp hf) _ _ _).trans (WideDw.G_at _ _ _ 8 t.val (tlt t) _ y fun k => ?_).symm)
  rw [← idx2 t]
  exact rfl

theorem mem_blk (i : S2x20480x1024.Idx) : i ∈ ((cfg0.win 2).blk t).view.set ↔
    ∀ a : Fin 3, win0_2.index t a * S1x1024x1024.size a ≤ (i a).val ∧ (i a).val < win0_2.index t a * S1x1024x1024.size a + S1x1024x1024.size a := by
  show i ∈ ((View.whole main_v2).slice (win0_2.rect t)).set ↔ _
  rw [View.set_slice_whole, Rect.mem_set_unit]
  exact Iff.rfl

theorem final : (dats m 0 c).arrAt 2 cfg0.N = WideDw.G (a m c) (b m c) (g m c) 8 := by
  funext i
  rw [(dats m 0 c).arrAt_eq_piecewise 2 _ (flushed_eq m c), congrFun (A_eq m c 2) i]
  exact piece (a m c) (b m c) (g m c) 8 N_0 _ flush0_2 _ idx2 i _ fun t => mem_blk t i

/-- The reference's array. -/
theorem ref_eq (g : FVec Ideal Cert.HgrnOutDwRefIdeal.S2x20480x1024 .f32) (a b : FVec Ideal Cert.HgrnOutDwRefIdeal.S2048x2048 .f32) :
    (concatenate Cert.HgrnOutDwRefIdeal.S2x20480x1024 1 [⟨Cert.HgrnOutDwRefIdeal.S2x16384x1024, (extractStridedSlice Cert.HgrnOutDwRefIdeal.S2x16384x1024 ![0, 0, 0] g Cert.HgrnOutDwRefIdeal.Gen.facts.slices_S2x20480x1024_S2x16384x1024_0_0_0)⟩,
      ⟨Cert.HgrnOutDwRefIdeal.S2x2048x1024, (transpose Cert.HgrnOutDwRefIdeal.S2x2048x1024 [1, 0, 2] (shapeCast Cert.HgrnOutDwRefIdeal.S2048x2x1024 (transpose Cert.HgrnOutDwRefIdeal.S2048x2048 [1, 0] (Host.dotGeneral Cert.HgrnOutDwRefIdeal.dot_S2048x2048_S2048x2048_S2048x2048_0_0_1_1_n_n none b a) Cert.HgrnOutDwRefIdeal.Gen.facts.transposes_S2048x2048_S2048x2048_1_0) Cert.HgrnOutDwRefIdeal.Gen.facts.shapeCasts_S2048x2048_S2048x2x1024) Cert.HgrnOutDwRefIdeal.Gen.facts.transposes_S2048x2x1024_S2x2048x1024_1_0_2)⟩,
      ⟨Cert.HgrnOutDwRefIdeal.S2x2048x1024, (extractStridedSlice Cert.HgrnOutDwRefIdeal.S2x2048x1024 ![0, 18432, 0] g Cert.HgrnOutDwRefIdeal.Gen.facts.slices_S2x20480x1024_S2x2048x1024_0_18432_0)⟩]
      Cert.HgrnOutDwRefIdeal.Gen.facts.concatenates_S2x16384x1024_S2x2048x1024_S2x2048x1024_S2x20480x1024_d1 : FVec Ideal Cert.HgrnOutDwRefIdeal.S2x20480x1024 .f32) = WideDw.G a b g 8 := by
  refine eq_G a b g 8 _ (fun z k n h => ?_) (fun z k n h => ?_)
  · pointwise
    rw [dif_neg (by omega), dif_pos (by omega)]
    exact Finset.sum_congr rfl fun x _ => mul_comm _ _
  · pointwise
    by_cases h' : k.val < 16384
    · rw [dif_pos h']
    · rw [dif_neg h', dif_neg (by omega)]
      exact congrArg (fun r => g (ix3 z r n)) (Fin.ext (by show 18432 + _ = k.val; omega))

end HgrnOutDw
end
-- ==== Proof.MixOutDw.lean ====
/- The gradient of the mixer's output weight, over the last rows of the array of gradients. -/
module

public import proofs.«01_k».proof.Proof.WideDw
public import proofs.«01_k».proof.Proof.Gen.MixOutDwIdeal.Value
public import proofs.«01_k».proof.Proof.Gen.MixOutDwRefIdeal.Run

@[expose] public section
noncomputable section
namespace MixOutDw
open Idealize.ShloMosaic Idealize.SL.Sem Idealize.ShloMosaic.TcCoe Cert.MixOutDwIdeal Cert.MixOutDwIdeal.Gen Cert.MixOutDwIdeal.Value WideDw
open Dw (mid coln ext3)
open scoped BigOperators

/-! ## One grid point, and a run of two -/

theorem pay1_apply (r n : Fin 1024) : k0_pay1 (F := Ideal) (ix2 r n) = 0 := by unfold k0_pay1; pointwise

theorem pay2_apply (a : FVec Ideal S1024x1024 .bf16) (b : FVec Ideal S1024x1024 .f32) (s : FVec Ideal S1024x1024 .f32) (r n : Fin 1024) :
    k0_pay2 a b s (ix2 r n) = s (ix2 r n) + ∑ x : Fin 1024, a (ix2 x r) * b (ix2 x n) := by
  unfold k0_pay2
  pointwise

theorem pay3_apply (s : FVec Ideal S1024x1024 .f32) (z : Fin 1) (r n : Fin 1024) : k0_pay3 s (ix3 z r n) = s (ix2 r n) := by
  unfold k0_pay3
  pointwise

theorem both (d h : FVec Ideal ⟨2, ![2048, 2048]⟩ .f32)
    (A : ∀ t : ℕ, t < 8 → FVec Ideal ⟨2, ![1024, 1024]⟩ .bf16) (hA : ∀ t ht x r, A t ht (ix2 x r) = d (ix2 (mid t x) (row t ht r)))
    (B : ∀ t : ℕ, t < 8 → FVec Ideal ⟨2, ![1024, 1024]⟩ .f32) (hB : ∀ t ht x n, B t ht (ix2 x n) = h (ix2 (mid t x) (coln t n)))
    (t : ℕ) (ht : t < 8) (ht' : t - 1 < 8) (e : t % 2 = 1) (z : Fin 1) (r n : Fin 1024) :
    (k0_pay3 (F := Ideal) (k0_pay2 (F := Ideal) (A t ht) (B t ht) (k0_pay2 (F := Ideal) (A (t - 1) ht') (B (t - 1) ht') (k0_pay1 (F := Ideal)))) (ix3 z r n) : EReal) = dw d h (row t ht r) (coln t n) := by
  rw [pay3_apply]
  exact total d h (fun a b s => k0_pay2 a b s) pay2_apply A hA B hB _ pay1_apply t ht ht' e r n

section Cases
variable (dev : Dev nD) (i : grid0.Coords) (arg3 : Memref sig .tc .vmem S1024x1024 .bf16) (harg3 : arg3.IsWhole) (arg4 : Memref sig .tc .vmem S1024x1024 .f32) (harg4 : arg4.IsWhole) (arg6 : Memref sig .tc .vmem S1x1024x1024 .f32) (harg6 : arg6.IsWhole) (arg7 : Memref sig .tc .vmem S1024x1024 .f32) (harg7 : arg7.IsWhole)
  (x0 : Vec Ideal S1024x1024 .bf16) (x1 : Vec Ideal S1024x1024 .f32) (s : Vec Ideal S1024x1024 .f32)

theorem s_A (h0 : cond0_0 i) (h1 : ¬cond0_1 i) : sout0_A_0 dev i arg3 harg3 arg4 harg4 arg6 harg6 arg7 harg7 h0 h1 x0 x1
    = k0_pay2 x0 x1 (k0_pay1 (F := Ideal)) := by frame_out

theorem o_B (h0 : ¬cond0_0 i) (h1 : cond0_1 i) : out0_B_2 dev i arg3 harg3 arg4 harg4 arg6 harg6 arg7 harg7 h0 h1 x0 x1 s
    = k0_pay3 (k0_pay2 x0 x1 s) := by frame_out
end Cases

/-! ## The blocks -/

variable (m : (ℓ : Loc nD τ sig) → Buf (Elt Ideal) ℓ) (c : Dev nD) (t : Fin cfg0.N)

/-- The array of gradients and the two operands. -/
abbrev g : FVec Ideal S2x20480x1024 .f32 := m ((c.tc : Thread nD τ).loc main_arg0)
abbrev a : FVec Ideal S2048x2048 .f32 := m ((c.tc : Thread nD τ).loc main_arg1)
abbrev b : FVec Ideal S2048x2048 .f32 := m ((c.tc : Thread nD τ).loc main_arg2)

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 2 % 2, t.val / 4 + 2 * 9, 0] := (by decide +kernel : ∀ t : Fin grid0.N, _)

theorem tlt : t.val < 8 := lt_of_lt_of_eq t.isLt (show cfg0.N = 8 from N_0)

theorem blk0 (x r : Fin 1024) : iblk m c 0 t (ix2 x r) = a m c (ix2 (mid t.val x) (row t.val (tlt t) r)) := by
  rw [show a m c (ix2 (mid t.val x) (row t.val (tlt t) r)) = V m c main_v0 (ix2 (mid t.val x) (row t.val (tlt t) r)) from rfl]
  blk_ext [iblk, idx0 t, row, mid]

theorem blk1 (x n : Fin 1024) : iblk m c 1 t (ix2 x n) = b m c (ix2 (mid t.val x) (coln t.val n)) := by
  rw [show b m c (ix2 (mid t.val x) (coln t.val n)) = V m c main_arg2 (ix2 (mid t.val x) (coln t.val n)) from rfl]
  blk_ext [iblk, idx1 t, coln, mid]

/-! ## The array -/

/-- What is written back at the end of a run. -/
theorem last (e : t.val % 2 = 1) (z : Fin 1) (r n : Fin 1024) :
    (outsAt0 m c t.val t.isLt).1 (ix3 z r n) = dw (a m c) (b m c) (row t.val (tlt t) r) (coln t.val n) := by
  have hN {k : ℕ} (hk : k < 8) : k < cfg0.N := lt_of_lt_of_eq hk (show 8 = cfg0.N from N_0.symm)
  have ht' : t.val - 1 < 8 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact both (a m c) (b m c) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e z r n

theorem flushed_eq (hf : (cfg0.win 2).flush t = true) :
    (dats m 0 c).flushed 2 t = ((cfg0.win 2).blk t).view.read (Elt Ideal) (WideDw.G (a m c) (b m c) (g m c) 9) := by
  rw [flushed2]
  funext y
  refine (congrArg (outsAt0 m c t.val t.isLt).1 (eq_ix3 ((cfg0.win 2).xinj (grid0.coords t) y))).trans
    ((last m c t ((flush0_2 t).mp hf) _ _ _).trans (WideDw.G_at _ _ _ 9 t.val (tlt t) _ y fun k => ?_).symm)
  rw [← idx2 t]
  exact rfl

theorem mem_blk (i : S2x20480x1024.Idx) : i ∈ ((cfg0.win 2).blk t).view.set ↔
    ∀ a : Fin 3, win0_2.index t a * S1x1024x1024.size a ≤ (i a).val ∧ (i a).val < win0_2.index t a * S1x1024x1024.size a + S1x1024x1024.size a := by
  show i ∈ ((View.whole main_v1).slice (win0_2.rect t)).set ↔ _
  rw [View.set_slice_whole, Rect.mem_set_unit]
  exact Iff.rfl

theorem final : (dats m 0 c).arrAt 2 cfg0.N = WideDw.G (a m c) (b m c) (g m c) 9 := by
  funext i
  rw [(dats m 0 c).arrAt_eq_piecewise 2 _ (flushed_eq m c), congrFun (A_eq m c 2) i]
  exact piece (a m c) (b m c) (g m c) 9 N_0 _ flush0_2 _ idx2 i _ fun t => mem_blk t i

/-- The reference's array. -/
theorem ref_eq (g : FVec Ideal Cert.MixOutDwRefIdeal.S2x20480x1024 .f32) (a b : FVec Ideal Cert.MixOutDwRefIdeal.S2048x2048 .f32) :
    (concatenate Cert.MixOutDwRefIdeal.S2x20480x1024 1 [⟨Cert.MixOutDwRefIdeal.S2x18432x1024, (extractStridedSlice Cert.MixOutDwRefIdeal.S2x18432x1024 ![0, 0, 0] g Cert.MixOutDwRefIdeal.Gen.facts.slices_S2x20480x1024_S2x18432x1024_0_0_0)⟩,
      ⟨Cert.MixOutDwRefIdeal.S2x2048x1024, (transpose Cert.MixOutDwRefIdeal.S2x2048x1024 [1, 0, 2] (shapeCast Cert.MixOutDwRefIdeal.S2048x2x1024 (transpose Cert.MixOutDwRefIdeal.S2048x2048 [1, 0] (Host.dotGeneral Cert.MixOutDwRefIdeal.dot_S2048x2048_S2048x2048_S2048x2048_0_0_1_1_n_n none b a) Cert.MixOutDwRefIdeal.Gen.facts.transposes_S2048x2048_S2048x2048_1_0) Cert.MixOutDwRefIdeal.Gen.facts.shapeCasts_S2048x2048_S2048x2x1024) Cert.MixOutDwRefIdeal.Gen.facts.transposes_S2048x2x1024_S2x2048x1024_1_0_2)⟩]
      Cert.MixOutDwRefIdeal.Gen.facts.concatenates_S2x18432x1024_S2x2048x1024_S2x20480x1024_d1 : FVec Ideal Cert.MixOutDwRefIdeal.S2x20480x1024 .f32) = WideDw.G a b g 9 := by
  refine eq_G a b g 9 _ (fun z k n h => ?_) (fun z k n h => ?_)
  · pointwise
    rw [dif_neg (by omega)]
    exact Finset.sum_congr rfl fun x _ => mul_comm _ _
  · pointwise
    rw [dif_pos (by omega)]

end MixOutDw
end
-- ==== Proof.Outs.lean ====
/- The products with the three output weights: where the weights lie in the gathered array, and a run of two grid points. -/
module

public import proofs.«01_k».proof.Proof.WideDw
public import proofs.«01_k».proof.Proof.Gen.MlaOutIdeal

@[expose] public section
noncomputable section
namespace Outs
open Idealize.ShloMosaic Cert.MlaOutIdeal Cert.MlaOutIdeal.Gen WideDw
open Dw (mid coln)
open scoped BigOperators

/-- The gathered array: what lies in front, then the three weights, their columns in two halves. -/
def split (front : FVec Ideal S14336x2048 .f32) (o : FVec Ideal S6144x2048 .f32) : FVec Ideal S2x20480x1024 .bf16 :=
  transpose S2x20480x1024 [1, 0, 2] (shapeCast S20480x2x1024 (truncf .bf16 (concatenate S20480x2048 0 [⟨S14336x2048, front⟩, ⟨S6144x2048, o⟩]
    concatenates_S14336x2048_S6144x2048_S20480x2048_d0) bitsLt_bf16_f32) shapeCasts_S20480x2048_S20480x2x1024) transposes_S20480x2x1024_S2x20480x1024_1_0_2

/-- An entry of the weight whose rows begin at row `q` of the three. -/
def w (o : FVec Ideal S6144x2048 .f32) (q : ℕ) (hq : q ≤ 4096) (k n : Fin 2048) : EReal := o (ix2 ⟨q + k.val, by omega⟩ n)

theorem split_apply (front : FVec Ideal S14336x2048 .f32) (o : FVec Ideal S6144x2048 .f32) (q : ℕ) (hq : q ≤ 4096) (h : Fin 2) (k : Fin 2048) (x : Fin 1024) :
    split front o (ix3 h ⟨14336 + q + k.val, by omega⟩ x) = w o q hq k ⟨h.val * 1024 + x.val, by omega⟩ := by
  unfold split w
  pointwise
  have h1 : ¬14336 + q + k.val < 14336 := by omega
  simp only [dif_neg h1]
  exact congrArg o (congrArg (ix2 · _) (Fin.ext (by show 14336 + q + k.val - 14336 = q + k.val; omega)))

/-- A run: its two points add the halves of a sum to an accumulator that the first of them has set to zero. -/
theorem total (F : Fin 2048 → Fin 2048 → Fin 2048 → EReal) (step : ∀ t : ℕ, t < 8 → FVec Ideal ⟨2, ![1024, 1024]⟩ .f32 → FVec Ideal ⟨2, ![1024, 1024]⟩ .f32)
    (hs : ∀ t ht s r n, step t ht s (ix2 r n) = s (ix2 r n) + ∑ x : Fin 1024, F (row t ht r) (coln t n) (mid t x))
    (Z : FVec Ideal ⟨2, ![1024, 1024]⟩ .f32) (hZ : ∀ r n, Z (ix2 r n) = 0) (t : ℕ) (ht : t < 8) (ht' : t - 1 < 8) (e : t % 2 = 1) (r n : Fin 1024) :
    step t ht (step (t - 1) ht' Z) (ix2 r n) = ∑ x, F (row t ht r) (coln t n) x := by
  have hr : row (t - 1) ht' r = row t ht r := Fin.ext (by show (t - 1) / 4 * 1024 + r.val = t / 4 * 1024 + r.val; omega)
  have hn : coln (t - 1) n = coln t n := Fin.ext (by show (t - 1) / 2 % 2 * 1024 + n.val = t / 2 % 2 * 1024 + n.val; omega)
  rw [hs, hs, hZ, hr, hn, zero_add]
  exact Dw.halves (F (row t ht r) (coln t n)) t e

/-- The point that writes an entry back, and where in its block the entry stands. -/
def pt (i n : Fin 2048) : ℕ := 2 * (2 * (i.val / 1024 - 0) + 1 * (n.val / 1024 - 0)) + 1

theorem pt_lt (i n : Fin 2048) : pt i n < 8 := by unfold pt; omega
theorem pt_odd (i n : Fin 2048) : pt i n % 2 = 1 := by unfold pt; omega
theorem pt_row (i n : Fin 2048) : row (pt i n) (pt_lt i n) ⟨i.val % 1024, by omega⟩ = i := Fin.ext (by
  show (2 * (2 * (i.val / 1024 - 0) + 1 * (n.val / 1024 - 0)) + 1) / 4 * 1024 + i.val % 1024 = i.val; omega)
theorem pt_coln (i n : Fin 2048) : coln (pt i n) ⟨n.val % 1024, by omega⟩ = n := Fin.ext (by
  show (2 * (2 * (i.val / 1024 - 0) + 1 * (n.val / 1024 - 0)) + 1) / 2 % 2 * 1024 + n.val % 1024 = n.val; omega)

end Outs
end
-- ==== Proof.MlaOutDx.lean ====
/- The product with the transposed output weight of the attention. -/
module

public import proofs.«01_k».proof.Proof.Outs
public import proofs.«01_k».proof.Proof.Gen.MlaOutDxIdeal.Value
public import proofs.«01_k».proof.Proof.Gen.MlaOutDxRefIdeal.Run

@[expose] public section
noncomputable section
namespace MlaOutDx
open Idealize.ShloMosaic Idealize.SL.Sem Idealize.ShloMosaic.TcCoe Cert.MlaOutDxIdeal Cert.MlaOutDxIdeal.Gen Cert.MlaOutDxIdeal.Value Outs
open WideDw (row)
open Dw (mid coln)
open scoped BigOperators

/-! ## One grid point, and a run of two -/

theorem pay1_apply (r n : Fin 1024) : k0_pay1 (F := Ideal) (ix2 r n) = 0 := by unfold k0_pay1; pointwise

theorem pay2_apply (a : FVec Ideal S1024x1024 .bf16) (b : FVec Ideal S1x1024x1024 .bf16) (s : FVec Ideal S1024x1024 .f32) (r n : Fin 1024) :
    k0_pay2 a b s (ix2 r n) = s (ix2 r n) + ∑ x : Fin 1024, a (ix2 r x) * b (ix3 0 n x) := by
  unfold k0_pay2
  pointwise

theorem both (a : FVec Ideal ⟨2, ![2048, 2048]⟩ .f32) (W : Fin 2048 → Fin 2048 → EReal)
    (A : ∀ t : ℕ, t < 8 → FVec Ideal ⟨2, ![1024, 1024]⟩ .bf16) (hA : ∀ t ht r x, A t ht (ix2 r x) = a (ix2 (row t ht r) (mid t x)))
    (B : ∀ t : ℕ, t < 8 → FVec Ideal ⟨3, ![1, 1024, 1024]⟩ .bf16) (hB : ∀ t ht n x, B t ht (ix3 0 n x) = W (coln t n) (mid t x))
    (t : ℕ) (ht : t < 8) (ht' : t - 1 < 8) (e : t % 2 = 1) (r n : Fin 1024) :
    (k0_pay2 (F := Ideal) (A t ht) (B t ht) (k0_pay2 (F := Ideal) (A (t - 1) ht') (B (t - 1) ht') (k0_pay1 (F := Ideal))) (ix2 r n) : EReal)
      = ∑ x, a (ix2 (row t ht r) x) * W (coln t n) x :=
  total (fun i n x => a (ix2 i x) * W n x) (fun t ht s => k0_pay2 (A t ht) (B t ht) s)
    (fun t ht s r n => (pay2_apply _ _ s r n).trans (by simp only [hA, hB])) _ pay1_apply t ht ht' e r n

section Cases
variable (dev : Dev nD) (i : grid0.Coords) (arg3 : Memref sig .tc .vmem S1024x1024 .bf16) (harg3 : arg3.IsWhole) (arg4 : Memref sig .tc .vmem S1x1024x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x1024 .bf16) (x1 : Vec Ideal S1x1024x1024 .bf16) (s : Vec Ideal S1024x1024 .f32)

theorem s_A (h0 : cond0_0 i) (h1 : ¬cond0_1 i) : sout0_A_0 dev i arg3 harg3 arg4 harg4 arg5 harg5 arg6 harg6 h0 h1 x0 x1
    = k0_pay2 x0 x1 (k0_pay1 (F := Ideal)) := by frame_out

theorem o_B (h0 : ¬cond0_0 i) (h1 : cond0_1 i) : out0_B_2 dev i arg3 harg3 arg4 harg4 arg5 harg5 arg6 harg6 h0 h1 x0 x1 s = k0_pay2 x0 x1 s := by frame_out
end Cases

/-! ## The blocks -/

variable (m : (ℓ : Loc nD τ sig) → Buf (Elt Ideal) ℓ) (c : Dev nD) (t : Fin cfg0.N)

/-- The operand, what lies in front of the weights, and the weights. -/
abbrev a : FVec Ideal S2048x2048 .f32 := m ((c.tc : Thread nD τ).loc main_arg0)
abbrev front : FVec Ideal S14336x2048 .f32 := m ((c.tc : Thread nD τ).loc main_arg1)
abbrev o : FVec Ideal S6144x2048 .f32 := m ((c.tc : Thread nD τ).loc main_arg2)

/-- An entry of the product. -/
def prod (a : FVec Ideal S2048x2048 .f32) (o : FVec Ideal S6144x2048 .f32) (i n : Fin 2048) : EReal := ∑ x, a (ix2 i x) * w o 0 (by decide) n x

theorem idx0 : ∀ t : Fin cfg0.N, win0_0.index t = ![t.val / 4, t.val % 2] := (by decide +kernel : ∀ t : Fin grid0.N, _)
theorem idx1 : ∀ t : Fin cfg0.N, win0_1.index t = ![t.val % 2, t.val / 2 % 2 + 14, 0] := (by decide +kernel : ∀ t : Fin grid0.N, _)

theorem tlt : t.val < 8 := lt_of_lt_of_eq t.isLt (show cfg0.N = 8 from N_0)

theorem blk0 (r x : Fin 1024) : iblk m c 0 t (ix2 r x) = a m c (ix2 (row t.val (tlt t) r) (mid t.val x)) := by
  rw [show a m c (ix2 (row t.val (tlt t) r) (mid t.val x)) = V m c main_v4 (ix2 (row t.val (tlt t) r) (mid t.val x)) from rfl]
  blk_ext [iblk, idx0 t, row, mid]

theorem blk1 (n x : Fin 1024) : iblk m c 1 t (ix3 0 n x) = w (o m c) 0 (by decide) (coln t.val n) (mid t.val x) := by
  refine Eq.trans ?_ (split_apply (front m c) (o m c) 0 (by decide) ⟨t.val % 2, by omega⟩ (coln t.val n) x)
  rw [show split (front m c) (o m c) = V m c main_v3 from rfl]
  blk_ext [iblk, idx1 t, coln, mid]

/-! ## The array -/

theorem last (e : t.val % 2 = 1) (r n : Fin 1024) : (outsAt0 m c t.val t.isLt).1 (ix2 r n) = prod (a m c) (o m c) (row t.val (tlt t) r) (coln t.val n) := by
  have hN {k : ℕ} (hk : k < 8) : k < cfg0.N := lt_of_lt_of_eq hk (show 8 = cfg0.N from N_0.symm)
  have ht' : t.val - 1 < 8 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact MlaOutDx.both (a m c) (w (o m c) 0 (by decide)) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e r n

theorem G2_eq (i n : Fin 2048) : G2 m c (ix2 i n) = prod (a m c) (o m c) i n := by
  have hp : pt i n < cfg0.N := lt_of_lt_of_eq (pt_lt i n) (show 8 = cfg0.N from N_0.symm)
  have e : G2 m c (ix2 i n) = (outsAt0 m c (pt i n) hp).1 (ix2 ⟨i.val % 1024, by omega⟩ ⟨n.val % 1024, by omega⟩) := by
    rw [outsAt0_sweep]
    exact (dif_pos hp).trans (congrArg _ (by funext a; fin_cases a <;> rfl))
  rw [e, last m c ⟨pt i n, hp⟩ (pt_odd i n), pt_row, pt_coln]

theorem ref_apply (a : FVec Ideal Cert.MlaOutDxRefIdeal.S2048x2048 .f32) (o : FVec Ideal Cert.MlaOutDxRefIdeal.S6144x2048 .f32) (i n : Fin 2048) :
    (Host.dotGeneral Cert.MlaOutDxRefIdeal.dot_S2048x2048_S2048x2048_S2048x2048_1_1_0_0_n_n none a (extractStridedSlice Cert.MlaOutDxRefIdeal.S2048x2048 ![0, 0] o Cert.MlaOutDxRefIdeal.Gen.facts.slices_S6144x2048_S2048x2048_0_0)
      : FVec Ideal Cert.MlaOutDxRefIdeal.S2048x2048 .f32) (ix2 i n) = prod a o i n := by
  unfold prod w
  pointwise

end MlaOutDx
end
-- ==== Proof.HgrnOutDx.lean ====
/- The product with the transposed output weight of the recurrence. -/
module

public import proofs.«01_k».proof.Proof.MlaOutDx
public import proofs.«01_k».proof.Proof.Gen.HgrnOutDxIdeal.Value
public import proofs.«01_k».proof.Proof.Gen.HgrnOutDxRefIdeal.Run

@[expose] public section
noncomputable section
namespace HgrnOutDx
open Idealize.ShloMosaic Idealize.SL.Sem Idealize.ShloMosaic.TcCoe Cert.HgrnOutDxIdeal Cert.HgrnOutDxIdeal.Gen Cert.HgrnOutDxIdeal.Value Outs
open WideDw (row)
open Dw (mid coln)
open scoped BigOperators

section Cases
variable (dev : Dev nD) (i : grid0.Coords) (arg3 : Memref sig .tc .vmem S1024x1024 .bf16) (harg3 : arg3.IsWhole) (arg4 : Memref sig .tc .vmem S1x1024x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x1024 .bf16) (x1 : Vec Ideal S1x1024x1024 .bf16) (s : Vec Ideal S1024x1024 .f32)

theorem s_A (h0 : cond0_0 i) (h1 : ¬cond0_1 i) : sout0_A_0 dev i arg3 harg3 arg4 harg4 arg5 harg5 arg6 harg6 h0 h1 x0 x1
    = k0_pay2 x0 x1 (k0_pay1 (F := Ideal)) := by frame_out

theorem o_B (h0 : ¬cond0_0 i) (h1 : cond0_1 i) : out0_B_2 dev i arg3 harg3 arg4 harg4 arg5 harg5 arg6 harg6 h0 h1 x0 x1 s = k0_pay2 x0 x1 s := by frame_out
end Cases

/-! ## The blocks -/

variable (m : (ℓ : Loc nD τ sig) → Buf (Elt Ideal) ℓ) (c : Dev nD) (t : Fin cfg0.N)

/-- The operand, what lies in front of the weights, and the weights. -/
abbrev a : FVec Ideal S2048x2048 .f32 := m ((c.tc : Thread nD τ).loc main_arg0)
abbrev front : FVec Ideal S14336x2048 .f32 := m ((c.tc : Thread nD τ).loc main_arg1)
abbrev o : FVec Ideal S6144x2048 .f32 := m ((c.tc : Thread nD τ).loc main_arg2)

/-- An entry of the product. -/
def prod (a : FVec Ideal S2048x2048 .f32) (o : FVec Ideal S6144x2048 .f32) (i n : Fin 2048) : EReal := ∑ x, a (ix2 i x) * w o 2048 (by decide) n x

theorem idx0 : ∀ t : Fin cfg0.N, win0_0.index t = ![t.val / 4, t.val % 2] := (by decide +kernel : ∀ t : Fin grid0.N, _)
theorem idx1 : ∀ t : Fin cfg0.N, win0_1.index t = ![t.val % 2, t.val / 2 % 2 + 16, 0] := (by decide +kernel : ∀ t : Fin grid0.N, _)

theorem tlt : t.val < 8 := lt_of_lt_of_eq t.isLt (show cfg0.N = 8 from N_0)

theorem blk0 (r x : Fin 1024) : iblk m c 0 t (ix2 r x) = a m c (ix2 (row t.val (tlt t) r) (mid t.val x)) := by
  rw [show a m c (ix2 (row t.val (tlt t) r) (mid t.val x)) = V m c main_v4 (ix2 (row t.val (tlt t) r) (mid t.val x)) from rfl]
  blk_ext [iblk, idx0 t, row, mid]

theorem blk1 (n x : Fin 1024) : iblk m c 1 t (ix3 0 n x) = w (o m c) 2048 (by decide) (coln t.val n) (mid t.val x) := by
  refine Eq.trans ?_ (split_apply (front m c) (o m c) 2048 (by decide) ⟨t.val % 2, by omega⟩ (coln t.val n) x)
  rw [show split (front m c) (o m c) = V m c main_v3 from rfl]
  blk_ext [iblk, idx1 t, coln, mid]

/-! ## The array -/

theorem last (e : t.val % 2 = 1) (r n : Fin 1024) : (outsAt0 m c t.val t.isLt).1 (ix2 r n) = prod (a m c) (o m c) (row t.val (tlt t) r) (coln t.val n) := by
  have hN {k : ℕ} (hk : k < 8) : k < cfg0.N := lt_of_lt_of_eq hk (show 8 = cfg0.N from N_0.symm)
  have ht' : t.val - 1 < 8 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact MlaOutDx.both (a m c) (w (o m c) 2048 (by decide)) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e r n

theorem G2_eq (i n : Fin 2048) : G2 m c (ix2 i n) = prod (a m c) (o m c) i n := by
  have hp : pt i n < cfg0.N := lt_of_lt_of_eq (pt_lt i n) (show 8 = cfg0.N from N_0.symm)
  have e : G2 m c (ix2 i n) = (outsAt0 m c (pt i n) hp).1 (ix2 ⟨i.val % 1024, by omega⟩ ⟨n.val % 1024, by omega⟩) := by
    rw [outsAt0_sweep]
    exact (dif_pos hp).trans (congrArg _ (by funext a; fin_cases a <;> rfl))
  rw [e, last m c ⟨pt i n, hp⟩ (pt_odd i n), pt_row, pt_coln]

theorem ref_apply (a : FVec Ideal Cert.HgrnOutDxRefIdeal.S2048x2048 .f32) (o : FVec Ideal Cert.HgrnOutDxRefIdeal.S6144x2048 .f32) (i n : Fin 2048) :
    (Host.dotGeneral Cert.HgrnOutDxRefIdeal.dot_S2048x2048_S2048x2048_S2048x2048_1_1_0_0_n_n none a (extractStridedSlice Cert.HgrnOutDxRefIdeal.S2048x2048 ![2048, 0] o Cert.HgrnOutDxRefIdeal.Gen.facts.slices_S6144x2048_S2048x2048_2048_0)
      : FVec Ideal Cert.HgrnOutDxRefIdeal.S2048x2048 .f32) (ix2 i n) = prod a o i n := by
  unfold prod w
  pointwise

end HgrnOutDx
end
-- ==== Proof.MixOutDx.lean ====
/- The product with the transposed output weight of the mixer. -/
module

public import proofs.«01_k».proof.Proof.Outs
public import proofs.«01_k».proof.Proof.Gen.MixOutDxIdeal.Value
public import proofs.«01_k».proof.Proof.Gen.MixOutDxRefIdeal.Run

@[expose] public section
noncomputable section
namespace MixOutDx
open Idealize.ShloMosaic Idealize.SL.Sem Idealize.ShloMosaic.TcCoe Cert.MixOutDxIdeal Cert.MixOutDxIdeal.Gen Cert.MixOutDxIdeal.Value Outs
open WideDw (row)
open Dw (mid coln)
open scoped BigOperators

/-! ## One grid point, and a run of two -/

theorem pay1_apply (r n : Fin 1024) : k0_pay1 (F := Ideal) (ix2 r n) = 0 := by unfold k0_pay1; pointwise

theorem pay2_apply (a : FVec Ideal S1024x1024 .f32) (b : FVec Ideal S1x1024x1024 .bf16) (s : FVec Ideal S1024x1024 .f32) (r n : Fin 1024) :
    k0_pay2 a b s (ix2 r n) = s (ix2 r n) + ∑ x : Fin 1024, a (ix2 r x) * b (ix3 0 n x) := by
  unfold k0_pay2
  pointwise

theorem both (a : FVec Ideal ⟨2, ![2048, 2048]⟩ .f32) (W : Fin 2048 → Fin 2048 → EReal)
    (A : ∀ t : ℕ, t < 8 → FVec Ideal ⟨2, ![1024, 1024]⟩ .f32) (hA : ∀ t ht r x, A t ht (ix2 r x) = a (ix2 (row t ht r) (mid t x)))
    (B : ∀ t : ℕ, t < 8 → FVec Ideal ⟨3, ![1, 1024, 1024]⟩ .bf16) (hB : ∀ t ht n x, B t ht (ix3 0 n x) = W (coln t n) (mid t x))
    (t : ℕ) (ht : t < 8) (ht' : t - 1 < 8) (e : t % 2 = 1) (r n : Fin 1024) :
    (k0_pay2 (F := Ideal) (A t ht) (B t ht) (k0_pay2 (F := Ideal) (A (t - 1) ht') (B (t - 1) ht') (k0_pay1 (F := Ideal))) (ix2 r n) : EReal)
      = ∑ x, a (ix2 (row t ht r) x) * W (coln t n) x :=
  total (fun i n x => a (ix2 i x) * W n x) (fun t ht s => k0_pay2 (A t ht) (B t ht) s)
    (fun t ht s r n => (pay2_apply _ _ s r n).trans (by simp only [hA, hB])) _ pay1_apply t ht ht' e r n

section Cases
variable (dev : Dev nD) (i : grid0.Coords) (arg3 : Memref sig .tc .vmem S1024x1024 .f32) (harg3 : arg3.IsWhole) (arg4 : Memref sig .tc .vmem S1x1024x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x1024 .f32) (x1 : Vec Ideal S1x1024x1024 .bf16) (s : Vec Ideal S1024x1024 .f32)

theorem s_A (h0 : cond0_0 i) (h1 : ¬cond0_1 i) : sout0_A_0 dev i arg3 harg3 arg4 harg4 arg5 harg5 arg6 harg6 h0 h1 x0 x1
    = k0_pay2 x0 x1 (k0_pay1 (F := Ideal)) := by frame_out

theorem o_B (h0 : ¬cond0_0 i) (h1 : cond0_1 i) : out0_B_2 dev i arg3 harg3 arg4 harg4 arg5 harg5 arg6 harg6 h0 h1 x0 x1 s = k0_pay2 x0 x1 s := by frame_out
end Cases

/-! ## The blocks -/

variable (m : (ℓ : Loc nD τ sig) → Buf (Elt Ideal) ℓ) (c : Dev nD) (t : Fin cfg0.N)

/-- The operand, what lies in front of the weights, and the weights. -/
abbrev a : FVec Ideal S2048x2048 .f32 := m ((c.tc : Thread nD τ).loc main_arg0)
abbrev front : FVec Ideal S14336x2048 .f32 := m ((c.tc : Thread nD τ).loc main_arg1)
abbrev o : FVec Ideal S6144x2048 .f32 := m ((c.tc : Thread nD τ).loc main_arg2)

/-- An entry of the product. -/
def prod (a : FVec Ideal S2048x2048 .f32) (o : FVec Ideal S6144x2048 .f32) (i n : Fin 2048) : EReal := ∑ x, a (ix2 i x) * w o 4096 (by decide) n x

theorem idx0 : ∀ t : Fin cfg0.N, win0_0.index t = ![t.val / 4, t.val % 2] := (by decide +kernel : ∀ t : Fin grid0.N, _)
theorem idx1 : ∀ t : Fin cfg0.N, win0_1.index t = ![t.val % 2, t.val / 2 % 2 + 18, 0] := (by decide +kernel : ∀ t : Fin grid0.N, _)

theorem tlt : t.val < 8 := lt_of_lt_of_eq t.isLt (show cfg0.N = 8 from N_0)

theorem blk0 (r x : Fin 1024) : iblk m c 0 t (ix2 r x) = a m c (ix2 (row t.val (tlt t) r) (mid t.val x)) := by
  rw [show a m c (ix2 (row t.val (tlt t) r) (mid t.val x)) = V m c main_arg0 (ix2 (row t.val (tlt t) r) (mid t.val x)) from rfl]
  blk_ext [iblk, idx0 t, row, mid]

theorem blk1 (n x : Fin 1024) : iblk m c 1 t (ix3 0 n x) = w (o m c) 4096 (by decide) (coln t.val n) (mid t.val x) := by
  refine Eq.trans ?_ (split_apply (front m c) (o m c) 4096 (by decide) ⟨t.val % 2, by omega⟩ (coln t.val n) x)
  rw [show split (front m c) (o m c) = V m c main_v3 from rfl]
  blk_ext [iblk, idx1 t, coln, mid]

/-! ## The array -/

theorem last (e : t.val % 2 = 1) (r n : Fin 1024) : (outsAt0 m c t.val t.isLt).1 (ix2 r n) = prod (a m c) (o m c) (row t.val (tlt t) r) (coln t.val n) := by
  have hN {k : ℕ} (hk : k < 8) : k < cfg0.N := lt_of_lt_of_eq hk (show 8 = cfg0.N from N_0.symm)
  have ht' : t.val - 1 < 8 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact MixOutDx.both (a m c) (w (o m c) 4096 (by decide)) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e r n

theorem G2_eq (i n : Fin 2048) : G2 m c (ix2 i n) = prod (a m c) (o m c) i n := by
  have hp : pt i n < cfg0.N := lt_of_lt_of_eq (pt_lt i n) (show 8 = cfg0.N from N_0.symm)
  have e : G2 m c (ix2 i n) = (outsAt0 m c (pt i n) hp).1 (ix2 ⟨i.val % 1024, by omega⟩ ⟨n.val % 1024, by omega⟩) := by
    rw [outsAt0_sweep]
    exact (dif_pos hp).trans (congrArg _ (by funext a; fin_cases a <;> rfl))
  rw [e, last m c ⟨pt i n, hp⟩ (pt_odd i n), pt_row, pt_coln]

theorem ref_apply (a : FVec Ideal Cert.MixOutDxRefIdeal.S2048x2048 .f32) (o : FVec Ideal Cert.MixOutDxRefIdeal.S6144x2048 .f32) (i n : Fin 2048) :
    (Host.dotGeneral Cert.MixOutDxRefIdeal.dot_S2048x2048_S2048x2048_S2048x2048_1_1_0_0_n_n none a (extractStridedSlice Cert.MixOutDxRefIdeal.S2048x2048 ![4096, 0] o Cert.MixOutDxRefIdeal.Gen.facts.slices_S6144x2048_S2048x2048_4096_0)
      : FVec Ideal Cert.MixOutDxRefIdeal.S2048x2048 .f32) (ix2 i n) = prod a o i n := by
  unfold prod w
  pointwise

end MixOutDx
end
-- ==== Proof.MlaOut.lean ====
/- The product with the attention's output weight. -/
module

public import proofs.«01_k».proof.Proof.Outs
public import proofs.«01_k».proof.Proof.Gen.MlaOutIdeal.Value
public import proofs.«01_k».proof.Proof.Gen.MlaOutRefIdeal.Run

@[expose] public section
noncomputable section
namespace MlaOut
open Idealize.ShloMosaic Idealize.SL.Sem Idealize.ShloMosaic.TcCoe Cert.MlaOutIdeal Cert.MlaOutIdeal.Gen Cert.MlaOutIdeal.Value Outs
open WideDw (row)
open Dw (mid coln)
open scoped BigOperators

/-! ## One grid point, and a run of two -/

theorem pay1_apply (r n : Fin 1024) : k0_pay1 (F := Ideal) (ix2 r n) = 0 := by unfold k0_pay1; pointwise

theorem pay2_apply (a : FVec Ideal S1024x1024 .bf16) (b : FVec Ideal S1x1024x1024 .bf16) (s : FVec Ideal S1024x1024 .f32) (r n : Fin 1024) :
    k0_pay2 a b s (ix2 r n) = s (ix2 r n) + ∑ x : Fin 1024, a (ix2 r x) * b (ix3 0 x n) := by
  unfold k0_pay2
  pointwise

theorem both (a : FVec Ideal ⟨2, ![2048, 2048]⟩ .f32) (W : Fin 2048 → Fin 2048 → EReal)
    (A : ∀ t : ℕ, t < 8 → FVec Ideal ⟨2, ![1024, 1024]⟩ .bf16) (hA : ∀ t ht r x, A t ht (ix2 r x) = a (ix2 (row t ht r) (mid t x)))
    (B : ∀ t : ℕ, t < 8 → FVec Ideal ⟨3, ![1, 1024, 1024]⟩ .bf16) (hB : ∀ t ht n x, B t ht (ix3 0 x n) = W (mid t x) (coln t n))
    (t : ℕ) (ht : t < 8) (ht' : t - 1 < 8) (e : t % 2 = 1) (r n : Fin 1024) :
    (k0_pay2 (F := Ideal) (A t ht) (B t ht) (k0_pay2 (F := Ideal) (A (t - 1) ht') (B (t - 1) ht') (k0_pay1 (F := Ideal))) (ix2 r n) : EReal)
      = ∑ x, a (ix2 (row t ht r) x) * W x (coln t n) :=
  total (fun i n x => a (ix2 i x) * W x n) (fun t ht s => k0_pay2 (A t ht) (B t ht) s)
    (fun t ht s r n => (pay2_apply _ _ s r n).trans (by simp only [hA, hB])) _ pay1_apply t ht ht' e r n

section Cases
variable (dev : Dev nD) (i : grid0.Coords) (arg3 : Memref sig .tc .vmem S1024x1024 .bf16) (harg3 : arg3.IsWhole) (arg4 : Memref sig .tc .vmem S1x1024x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x1024 .bf16) (x1 : Vec Ideal S1x1024x1024 .bf16) (s : Vec Ideal S1024x1024 .f32)

theorem s_A (h0 : cond0_0 i) (h1 : ¬cond0_1 i) : sout0_A_0 dev i arg3 harg3 arg4 harg4 arg5 harg5 arg6 harg6 h0 h1 x0 x1
    = k0_pay2 x0 x1 (k0_pay1 (F := Ideal)) := by frame_out

theorem o_B (h0 : ¬cond0_0 i) (h1 : cond0_1 i) : out0_B_2 dev i arg3 harg3 arg4 harg4 arg5 harg5 arg6 harg6 h0 h1 x0 x1 s = k0_pay2 x0 x1 s := by frame_out
end Cases

/-! ## The blocks -/

variable (m : (ℓ : Loc nD τ sig) → Buf (Elt Ideal) ℓ) (c : Dev nD) (t : Fin cfg0.N)

/-- The operand, what lies in front of the weights, and the weights. -/
abbrev a : FVec Ideal S2048x2048 .f32 := m ((c.tc : Thread nD τ).loc main_arg0)
abbrev front : FVec Ideal S14336x2048 .f32 := m ((c.tc : Thread nD τ).loc main_arg1)
abbrev o : FVec Ideal S6144x2048 .f32 := m ((c.tc : Thread nD τ).loc main_arg2)

/-- An entry of the product. -/
def prod (a : FVec Ideal S2048x2048 .f32) (o : FVec Ideal S6144x2048 .f32) (i n : Fin 2048) : EReal := ∑ x, a (ix2 i x) * w o 0 (by decide) x n

theorem idx0 : ∀ t : Fin cfg0.N, win0_0.index t = ![t.val / 4, t.val % 2] := (by decide +kernel : ∀ t : Fin grid0.N, _)
theorem idx1 : ∀ t : Fin cfg0.N, win0_1.index t = ![t.val / 2 % 2, t.val % 2 + 14, 0] := (by decide +kernel : ∀ t : Fin grid0.N, _)

theorem tlt : t.val < 8 := lt_of_lt_of_eq t.isLt (show cfg0.N = 8 from N_0)

theorem blk0 (r x : Fin 1024) : iblk m c 0 t (ix2 r x) = a m c (ix2 (row t.val (tlt t) r) (mid t.val x)) := by
  rw [show a m c (ix2 (row t.val (tlt t) r) (mid t.val x)) = V m c main_v4 (ix2 (row t.val (tlt t) r) (mid t.val x)) from rfl]
  blk_ext [iblk, idx0 t, row, mid]

theorem blk1 (n x : Fin 1024) : iblk m c 1 t (ix3 0 x n) = w (o m c) 0 (by decide) (mid t.val x) (coln t.val n) := by
  refine Eq.trans ?_ (split_apply (front m c) (o m c) 0 (by decide) ⟨t.val / 2 % 2, by omega⟩ (mid t.val x) n)
  rw [show split (front m c) (o m c) = V m c main_v3 from rfl]
  blk_ext [iblk, idx1 t, coln, mid]

/-! ## The array -/

theorem last (e : t.val % 2 = 1) (r n : Fin 1024) : (outsAt0 m c t.val t.isLt).1 (ix2 r n) = prod (a m c) (o m c) (row t.val (tlt t) r) (coln t.val n) := by
  have hN {k : ℕ} (hk : k < 8) : k < cfg0.N := lt_of_lt_of_eq hk (show 8 = cfg0.N from N_0.symm)
  have ht' : t.val - 1 < 8 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact MlaOut.both (a m c) (w (o m c) 0 (by decide)) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e r n

theorem G2_eq (i n : Fin 2048) : G2 m c (ix2 i n) = prod (a m c) (o m c) i n := by
  have hp : pt i n < cfg0.N := lt_of_lt_of_eq (pt_lt i n) (show 8 = cfg0.N from N_0.symm)
  have e : G2 m c (ix2 i n) = (outsAt0 m c (pt i n) hp).1 (ix2 ⟨i.val % 1024, by omega⟩ ⟨n.val % 1024, by omega⟩) := by
    rw [outsAt0_sweep]
    exact (dif_pos hp).trans (congrArg _ (by funext a; fin_cases a <;> rfl))
  rw [e, last m c ⟨pt i n, hp⟩ (pt_odd i n), pt_row, pt_coln]

theorem ref_apply (a : FVec Ideal Cert.MlaOutRefIdeal.S2048x2048 .f32) (o : FVec Ideal Cert.MlaOutRefIdeal.S6144x2048 .f32) (i n : Fin 2048) :
    (Host.dotGeneral Cert.MlaOutRefIdeal.dot_S2048x2048_S2048x2048_S2048x2048_1_0_0_1_n_n none a (extractStridedSlice Cert.MlaOutRefIdeal.S2048x2048 ![0, 0] o Cert.MlaOutRefIdeal.Gen.facts.slices_S6144x2048_S2048x2048_0_0)
      : FVec Ideal Cert.MlaOutRefIdeal.S2048x2048 .f32) (ix2 i n) = prod a o i n := by
  unfold prod w
  pointwise

end MlaOut
end
-- ==== Proof.HgrnOut.lean ====
/- The product with the recurrence's output weight. -/
module

public import proofs.«01_k».proof.Proof.MlaOut
public import proofs.«01_k».proof.Proof.Gen.HgrnOutIdeal.Value
public import proofs.«01_k».proof.Proof.Gen.HgrnOutRefIdeal.Run

@[expose] public section
noncomputable section
namespace HgrnOut
open Idealize.ShloMosaic Idealize.SL.Sem Idealize.ShloMosaic.TcCoe Cert.HgrnOutIdeal Cert.HgrnOutIdeal.Gen Cert.HgrnOutIdeal.Value Outs
open WideDw (row)
open Dw (mid coln)
open scoped BigOperators

section Cases
variable (dev : Dev nD) (i : grid0.Coords) (arg3 : Memref sig .tc .vmem S1024x1024 .bf16) (harg3 : arg3.IsWhole) (arg4 : Memref sig .tc .vmem S1x1024x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x1024 .bf16) (x1 : Vec Ideal S1x1024x1024 .bf16) (s : Vec Ideal S1024x1024 .f32)

theorem s_A (h0 : cond0_0 i) (h1 : ¬cond0_1 i) : sout0_A_0 dev i arg3 harg3 arg4 harg4 arg5 harg5 arg6 harg6 h0 h1 x0 x1
    = k0_pay2 x0 x1 (k0_pay1 (F := Ideal)) := by frame_out

theorem o_B (h0 : ¬cond0_0 i) (h1 : cond0_1 i) : out0_B_2 dev i arg3 harg3 arg4 harg4 arg5 harg5 arg6 harg6 h0 h1 x0 x1 s = k0_pay2 x0 x1 s := by frame_out
end Cases

/-! ## The blocks -/

variable (m : (ℓ : Loc nD τ sig) → Buf (Elt Ideal) ℓ) (c : Dev nD) (t : Fin cfg0.N)

/-- The operand, what lies in front of the weights, and the weights. -/
abbrev a : FVec Ideal S2048x2048 .f32 := m ((c.tc : Thread nD τ).loc main_arg0)
abbrev front : FVec Ideal S14336x2048 .f32 := m ((c.tc : Thread nD τ).loc main_arg1)
abbrev o : FVec Ideal S6144x2048 .f32 := m ((c.tc : Thread nD τ).loc main_arg2)

/-- An entry of the product. -/
def prod (a : FVec Ideal S2048x2048 .f32) (o : FVec Ideal S6144x2048 .f32) (i n : Fin 2048) : EReal := ∑ x, a (ix2 i x) * w o 2048 (by decide) x n

theorem idx0 : ∀ t : Fin cfg0.N, win0_0.index t = ![t.val / 4, t.val % 2] := (by decide +kernel : ∀ t : Fin grid0.N, _)
theorem idx1 : ∀ t : Fin cfg0.N, win0_1.index t = ![t.val / 2 % 2, t.val % 2 + 16, 0] := (by decide +kernel : ∀ t : Fin grid0.N, _)

theorem tlt : t.val < 8 := lt_of_lt_of_eq t.isLt (show cfg0.N = 8 from N_0)

theorem blk0 (r x : Fin 1024) : iblk m c 0 t (ix2 r x) = a m c (ix2 (row t.val (tlt t) r) (mid t.val x)) := by
  rw [show a m c (ix2 (row t.val (tlt t) r) (mid t.val x)) = V m c main_v4 (ix2 (row t.val (tlt t) r) (mid t.val x)) from rfl]
  blk_ext [iblk, idx0 t, row, mid]

theorem blk1 (n x : Fin 1024) : iblk m c 1 t (ix3 0 x n) = w (o m c) 2048 (by decide) (mid t.val x) (coln t.val n) := by
  refine Eq.trans ?_ (split_apply (front m c) (o m c) 2048 (by decide) ⟨t.val / 2 % 2, by omega⟩ (mid t.val x) n)
  rw [show split (front m c) (o m c) = V m c main_v3 from rfl]
  blk_ext [iblk, idx1 t, coln, mid]

/-! ## The array -/

theorem last (e : t.val % 2 = 1) (r n : Fin 1024) : (outsAt0 m c t.val t.isLt).1 (ix2 r n) = prod (a m c) (o m c) (row t.val (tlt t) r) (coln t.val n) := by
  have hN {k : ℕ} (hk : k < 8) : k < cfg0.N := lt_of_lt_of_eq hk (show 8 = cfg0.N from N_0.symm)
  have ht' : t.val - 1 < 8 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact MlaOut.both (a m c) (w (o m c) 2048 (by decide)) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e r n

theorem G2_eq (i n : Fin 2048) : G2 m c (ix2 i n) = prod (a m c) (o m c) i n := by
  have hp : pt i n < cfg0.N := lt_of_lt_of_eq (pt_lt i n) (show 8 = cfg0.N from N_0.symm)
  have e : G2 m c (ix2 i n) = (outsAt0 m c (pt i n) hp).1 (ix2 ⟨i.val % 1024, by omega⟩ ⟨n.val % 1024, by omega⟩) := by
    rw [outsAt0_sweep]
    exact (dif_pos hp).trans (congrArg _ (by funext a; fin_cases a <;> rfl))
  rw [e, last m c ⟨pt i n, hp⟩ (pt_odd i n), pt_row, pt_coln]

theorem ref_apply (a : FVec Ideal Cert.HgrnOutRefIdeal.S2048x2048 .f32) (o : FVec Ideal Cert.HgrnOutRefIdeal.S6144x2048 .f32) (i n : Fin 2048) :
    (Host.dotGeneral Cert.HgrnOutRefIdeal.dot_S2048x2048_S2048x2048_S2048x2048_1_0_0_1_n_n none a (extractStridedSlice Cert.HgrnOutRefIdeal.S2048x2048 ![2048, 0] o Cert.HgrnOutRefIdeal.Gen.facts.slices_S6144x2048_S2048x2048_2048_0)
      : FVec Ideal Cert.HgrnOutRefIdeal.S2048x2048 .f32) (ix2 i n) = prod a o i n := by
  unfold prod w
  pointwise

end HgrnOut
end
-- ==== Proof.MixOut.lean ====
/- The product with the mixer's output weight. -/
module

public import proofs.«01_k».proof.Proof.MlaOut
public import proofs.«01_k».proof.Proof.Gen.MixOutIdeal.Value
public import proofs.«01_k».proof.Proof.Gen.MixOutRefIdeal.Run

@[expose] public section
noncomputable section
namespace MixOut
open Idealize.ShloMosaic Idealize.SL.Sem Idealize.ShloMosaic.TcCoe Cert.MixOutIdeal Cert.MixOutIdeal.Gen Cert.MixOutIdeal.Value Outs
open WideDw (row)
open Dw (mid coln)
open scoped BigOperators

section Cases
variable (dev : Dev nD) (i : grid0.Coords) (arg3 : Memref sig .tc .vmem S1024x1024 .bf16) (harg3 : arg3.IsWhole) (arg4 : Memref sig .tc .vmem S1x1024x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x1024 .bf16) (x1 : Vec Ideal S1x1024x1024 .bf16) (s : Vec Ideal S1024x1024 .f32)

theorem s_A (h0 : cond0_0 i) (h1 : ¬cond0_1 i) : sout0_A_0 dev i arg3 harg3 arg4 harg4 arg5 harg5 arg6 harg6 h0 h1 x0 x1
    = k0_pay2 x0 x1 (k0_pay1 (F := Ideal)) := by frame_out

theorem o_B (h0 : ¬cond0_0 i) (h1 : cond0_1 i) : out0_B_2 dev i arg3 harg3 arg4 harg4 arg5 harg5 arg6 harg6 h0 h1 x0 x1 s = k0_pay2 x0 x1 s := by frame_out
end Cases

/-! ## The blocks -/

variable (m : (ℓ : Loc nD τ sig) → Buf (Elt Ideal) ℓ) (c : Dev nD) (t : Fin cfg0.N)

/-- The operand, what lies in front of the weights, and the weights. -/
abbrev a : FVec Ideal S2048x2048 .f32 := m ((c.tc : Thread nD τ).loc main_arg0)
abbrev front : FVec Ideal S14336x2048 .f32 := m ((c.tc : Thread nD τ).loc main_arg1)
abbrev o : FVec Ideal S6144x2048 .f32 := m ((c.tc : Thread nD τ).loc main_arg2)

/-- An entry of the product. -/
def prod (a : FVec Ideal S2048x2048 .f32) (o : FVec Ideal S6144x2048 .f32) (i n : Fin 2048) : EReal := ∑ x, a (ix2 i x) * w o 4096 (by decide) x n

theorem idx0 : ∀ t : Fin cfg0.N, win0_0.index t = ![t.val / 4, t.val % 2] := (by decide +kernel : ∀ t : Fin grid0.N, _)
theorem idx1 : ∀ t : Fin cfg0.N, win0_1.index t = ![t.val / 2 % 2, t.val % 2 + 18, 0] := (by decide +kernel : ∀ t : Fin grid0.N, _)

theorem tlt : t.val < 8 := lt_of_lt_of_eq t.isLt (show cfg0.N = 8 from N_0)

theorem blk0 (r x : Fin 1024) : iblk m c 0 t (ix2 r x) = a m c (ix2 (row t.val (tlt t) r) (mid t.val x)) := by
  rw [show a m c (ix2 (row t.val (tlt t) r) (mid t.val x)) = V m c main_v4 (ix2 (row t.val (tlt t) r) (mid t.val x)) from rfl]
  blk_ext [iblk, idx0 t, row, mid]

theorem blk1 (n x : Fin 1024) : iblk m c 1 t (ix3 0 x n) = w (o m c) 4096 (by decide) (mid t.val x) (coln t.val n) := by
  refine Eq.trans ?_ (split_apply (front m c) (o m c) 4096 (by decide) ⟨t.val / 2 % 2, by omega⟩ (mid t.val x) n)
  rw [show split (front m c) (o m c) = V m c main_v3 from rfl]
  blk_ext [iblk, idx1 t, coln, mid]

/-! ## The array -/

theorem last (e : t.val % 2 = 1) (r n : Fin 1024) : (outsAt0 m c t.val t.isLt).1 (ix2 r n) = prod (a m c) (o m c) (row t.val (tlt t) r) (coln t.val n) := by
  have hN {k : ℕ} (hk : k < 8) : k < cfg0.N := lt_of_lt_of_eq hk (show 8 = cfg0.N from N_0.symm)
  have ht' : t.val - 1 < 8 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact MlaOut.both (a m c) (w (o m c) 4096 (by decide)) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e r n

theorem G2_eq (i n : Fin 2048) : G2 m c (ix2 i n) = prod (a m c) (o m c) i n := by
  have hp : pt i n < cfg0.N := lt_of_lt_of_eq (pt_lt i n) (show 8 = cfg0.N from N_0.symm)
  have e : G2 m c (ix2 i n) = (outsAt0 m c (pt i n) hp).1 (ix2 ⟨i.val % 1024, by omega⟩ ⟨n.val % 1024, by omega⟩) := by
    rw [outsAt0_sweep]
    exact (dif_pos hp).trans (congrArg _ (by funext a; fin_cases a <;> rfl))
  rw [e, last m c ⟨pt i n, hp⟩ (pt_odd i n), pt_row, pt_coln]

theorem ref_apply (a : FVec Ideal Cert.MixOutRefIdeal.S2048x2048 .f32) (o : FVec Ideal Cert.MixOutRefIdeal.S6144x2048 .f32) (i n : Fin 2048) :
    (Host.dotGeneral Cert.MixOutRefIdeal.dot_S2048x2048_S2048x2048_S2048x2048_1_0_0_1_n_n none a (extractStridedSlice Cert.MixOutRefIdeal.S2048x2048 ![4096, 0] o Cert.MixOutRefIdeal.Gen.facts.slices_S6144x2048_S2048x2048_4096_0)
      : FVec Ideal Cert.MixOutRefIdeal.S2048x2048 .f32) (ix2 i n) = prod a o i n := by
  unfold prod w
  pointwise

end MixOut
end
-- ==== Proof.Latents.lean ====
/- The gradient of one of the latents' weights as a call leaves it: a product of a transposed operand with another, written over
   4096 rows of an array that keeps its other rows; and where in it a grid point writes. -/
module

public import proofs.«01_k».proof.Proof.Dw

@[expose] public section
noncomputable section
namespace Latents
open Idealize.ShloMosaic
open Dw (mid ext3)
open scoped BigOperators

/-! ## A sum over the latent, in two halves -/

/-- The summand the entries of grid point `t` stand at. -/
def half (t : ℕ) (x : Fin 256) : Fin 512 := ⟨t % 2 * 256 + x.val, by omega⟩

/-- The two halves make the sum. -/
theorem halves (F : Fin 512 → EReal) (t : ℕ) (e : t % 2 = 1) : (∑ x, F (half (t - 1) x)) + ∑ x, F (half t x) = ∑ x, F x := by
  have e' : (t - 1) % 2 = 0 := by omega
  rw [← Attn.sum_ext F, Attn.sum_ext_add F 256 256 (by decide)]
  refine congrArg₂ (· + ·) ?_ (by simp only [half, e, Nat.one_mul])
  refine Eq.trans ?_ (Attn.sum_ext_add F 0 256 (by decide)).symm
  simp only [half, e', Nat.zero_mul]
  simp

/-! ## The product, and the array it is written over -/

variable (d : FVec Ideal ⟨2, ![2048, 4096]⟩ .f32) (h : FVec Ideal ⟨2, ![2048, 512]⟩ .f32) (g : FVec Ideal ⟨3, ![2, 8192, 256]⟩ .f32) (q : ℕ)

/-- A summand of an entry of the product, and the entry. -/
def f (i : Fin 4096) (n : Fin 512) (x : Fin 2048) : EReal := d (ix2 x i) * h (ix2 x n)
def dw (i : Fin 4096) (n : Fin 512) : EReal := ∑ x, f d h i n x

/-- The row and the column the entries of grid point `t` stand at. -/
def row (t : ℕ) (ht : t < 16) (r : Fin 1024) : Fin 4096 := ⟨t / 4 * 1024 + r.val, by omega⟩
def coln (t : ℕ) (n : Fin 256) : Fin 512 := ⟨t / 2 % 2 * 256 + n.val, by omega⟩

/-- A run: its two points add their products to an accumulator that the first of them has set to zero. -/
theorem total {φ ψ : FTy} (P : FVec Ideal ⟨2, ![1024, 1024]⟩ φ → FVec Ideal ⟨2, ![1024, 256]⟩ ψ → FVec Ideal ⟨2, ![1024, 256]⟩ .f32 → FVec Ideal ⟨2, ![1024, 256]⟩ .f32)
    (hP : ∀ a b s r n, P a b s (ix2 r n) = s (ix2 r n) + ∑ x : Fin 1024, a (ix2 x r) * b (ix2 x n))
    (A : ∀ t : ℕ, t < 16 → FVec Ideal ⟨2, ![1024, 1024]⟩ φ) (hA : ∀ t ht x r, A t ht (ix2 x r) = d (ix2 (mid t x) (row t ht r)))
    (B : ∀ t : ℕ, t < 16 → FVec Ideal ⟨2, ![1024, 256]⟩ ψ) (hB : ∀ t ht x n, B t ht (ix2 x n) = h (ix2 (mid t x) (coln t n)))
    (Z : FVec Ideal ⟨2, ![1024, 256]⟩ .f32) (hZ : ∀ r n, Z (ix2 r n) = 0) (t : ℕ) (ht : t < 16) (ht' : t - 1 < 16) (e : t % 2 = 1) (r : Fin 1024) (n : Fin 256) :
    P (A t ht) (B t ht) (P (A (t - 1) ht') (B (t - 1) ht') Z) (ix2 r n) = dw d h (row t ht r) (coln t n) := by
  have hr : row (t - 1) ht' r = row t ht r := Fin.ext (by show (t - 1) / 4 * 1024 + r.val = t / 4 * 1024 + r.val; omega)
  have hn : coln (t - 1) n = coln t n := Fin.ext (by show (t - 1) / 2 % 2 * 256 + n.val = t / 2 % 2 * 256 + n.val; omega)
  simp only [hP, hA, hB, hZ, hr, hn, zero_add]
  exact Dw.halves (f d h (row t ht r) (coln t n)) t e

/-- The array after the run: the product from row `4096 * q` on, its columns in two halves. -/
def G : FVec Ideal ⟨3, ![2, 8192, 256]⟩ .f32 := fun i =>
  if b : 4096 * q ≤ (i 1).val ∧ (i 1).val < 4096 * q + 4096 then
    dw d h ⟨(i 1).val - 4096 * q, by omega⟩ ⟨(i 0).val * 256 + (i 2).val, by
      have h0 : (i 0).val < 2 := (i 0).isLt
      have h2 : (i 2).val < 256 := (i 2).isLt
      omega⟩
  else g i

theorem G_apply (i : (⟨3, ![2, 8192, 256]⟩ : Shape).Idx) (r : Fin 4096) (n : Fin 512) (hr : (i 1).val = 4096 * q + r.val)
    (hn : (i 0).val * 256 + (i 2).val = n.val) : G d h g q i = dw d h r n :=
  (dif_pos ⟨by omega, by omega⟩).trans (congrArg₂ (dw d h) (Fin.ext (by show (i 1).val - 4096 * q = r.val; omega)) (Fin.ext hn))

theorem G_rest (i : (⟨3, ![2, 8192, 256]⟩ : Shape).Idx) (b : ¬(4096 * q ≤ (i 1).val ∧ (i 1).val < 4096 * q + 4096)) : G d h g q i = g i := dif_neg b

/-- In the block that grid point `t` writes it is the product at the entry's row and column. -/
theorem G_at (t : ℕ) (ht : t < 16) (i : (⟨3, ![2, 8192, 256]⟩ : Shape).Idx) (y : (⟨3, ![1, 1024, 256]⟩ : Shape).Idx)
    (k : ∀ a : Fin 3, (i a).val = (![t / 2 % 2, t / 4 + 4 * q, 0] : Fin 3 → ℕ) a * (![1, 1024, 256] : Fin 3 → ℕ) a + 1 * (y a).val) :
    G d h g q i = dw d h (row t ht (y 1)) (coln t (y 2)) := by
  have k0 : (i 0).val = t / 2 % 2 * 1 + 1 * (y 0).val := k 0
  have k1 : (i 1).val = (t / 4 + 4 * q) * 1024 + 1 * (y 1).val := k 1
  have k2 : (i 2).val = 0 * 256 + 1 * (y 2).val := k 2
  have y0 : (y 0).val < 1 := (y 0).isLt
  apply G_apply
  · show _ = 4096 * q + (t / 4 * 1024 + (y 1).val)
    omega
  · show _ = t / 2 % 2 * 256 + (y 2).val
    omega

/-- The rows that the runs' last points write are those. -/
theorem box (i : (⟨3, ![2, 8192, 256]⟩ : Shape).Idx) :
    (∃ t : ℕ, t < 16 ∧ t % 2 = 1 ∧ ∀ a : Fin 3, (![t / 2 % 2, t / 4 + 4 * q, 0] : Fin 3 → ℕ) a * (![1, 1024, 256] : Fin 3 → ℕ) a ≤ (i a).val
      ∧ (i a).val < (![t / 2 % 2, t / 4 + 4 * q, 0] : Fin 3 → ℕ) a * (![1, 1024, 256] : Fin 3 → ℕ) a + (![1, 1024, 256] : Fin 3 → ℕ) a)
    ↔ 4096 * q ≤ (i 1).val ∧ (i 1).val < 4096 * q + 4096 := by
  have h0 : (i 0).val < 2 := (i 0).isLt
  have h2 : (i 2).val < 256 := (i 2).isLt
  constructor
  · rintro ⟨t, ht, -, b⟩
    have b1 : (t / 4 + 4 * q) * 1024 ≤ (i 1).val ∧ (i 1).val < (t / 4 + 4 * q) * 1024 + 1024 := b 1
    omega
  · intro b
    refine ⟨4 * (((i 1).val - 4096 * q) / 1024) + 2 * (i 0).val + 1, by omega, by omega, fun a => ?_⟩
    fin_cases a
    · show (4 * (((i 1).val - 4096 * q) / 1024) + 2 * (i 0).val + 1) / 2 % 2 * 1 ≤ (i 0).val
        ∧ (i 0).val < (4 * (((i 1).val - 4096 * q) / 1024) + 2 * (i 0).val + 1) / 2 % 2 * 1 + 1
      omega
    · show ((4 * (((i 1).val - 4096 * q) / 1024) + 2 * (i 0).val + 1) / 4 + 4 * q) * 1024 ≤ (i 1).val
        ∧ (i 1).val < ((4 * (((i 1).val - 4096 * q) / 1024) + 2 * (i 0).val + 1) / 4 + 4 * q) * 1024 + 1024
      omega
    · show 0 * 256 ≤ (i 2).val ∧ (i 2).val < 0 * 256 + 256
      omega

/-- An array that the runs' last points write, block by block, as `G` has it, and that keeps its other rows, is `G`. -/
theorem piece {N : ℕ} (hN : N = 16) (fl : Fin N → Bool) (hf : ∀ t, fl t = true ↔ t.val % 2 = 1) (idx : Fin N → Fin 3 → ℕ)
    (hidx : ∀ t, idx t = ![t.val / 2 % 2, t.val / 4 + 4 * q, 0]) (i : (⟨3, ![2, 8192, 256]⟩ : Shape).Idx) (S : Fin N → Prop)
    (hS : ∀ t, S t ↔ ∀ a : Fin 3, idx t a * (![1, 1024, 256] : Fin 3 → ℕ) a ≤ (i a).val
      ∧ (i a).val < idx t a * (![1, 1024, 256] : Fin 3 → ℕ) a + (![1, 1024, 256] : Fin 3 → ℕ) a)
    [Decidable (∃ t, fl t = true ∧ S t)] : (if ∃ t, fl t = true ∧ S t then G d h g q i else g i) = G d h g q i := by
  subst hN
  by_cases b : 4096 * q ≤ (i 1).val ∧ (i 1).val < 4096 * q + 4096
  · obtain ⟨t, ht, e, k⟩ := (box q i).mpr b
    exact if_pos ⟨⟨t, ht⟩, (hf _).mpr e, (hS _).mpr (by rw [hidx]; exact k)⟩
  · refine (if_neg ?_).trans (G_rest d h g q i b).symm
    rintro ⟨t, e, k⟩
    have k := (hS t).mp k
    rw [hidx] at k
    exact b ((box q i).mp ⟨t.val, t.isLt, (hf t).mp e, k⟩)

/-- An array that is the product on those rows, and unchanged above and below them. -/
theorem eq_G (r : FVec Ideal ⟨3, ![2, 8192, 256]⟩ .f32)
    (hp : ∀ z : Fin 2, ∀ k : Fin 8192, ∀ n : Fin 256, ∀ b : 4096 * q ≤ k.val ∧ k.val < 4096 * q + 4096,
      r (ix3 z k n) = dw d h ⟨k.val - 4096 * q, by omega⟩ ⟨z.val * 256 + n.val, by omega⟩)
    (hg : ∀ z : Fin 2, ∀ k : Fin 8192, ∀ n : Fin 256, ¬(4096 * q ≤ k.val ∧ k.val < 4096 * q + 4096) → r (ix3 z k n) = g (ix3 z k n)) : r = G d h g q :=
  ext3 fun z k n => by
    by_cases b : 4096 * q ≤ k.val ∧ k.val < 4096 * q + 4096
    · exact (hp z k n b).trans (G_apply d h g q (ix3 z k n) _ _ (by show k.val = 4096 * q + (k.val - 4096 * q); omega) rfl).symm
    · exact (hg z k n b).trans (G_rest d h g q (ix3 z k n) b).symm

end Latents
end
-- ==== Proof.KvUp.lean ====
/- The latents' product into keys and values: the accumulated tiles are the latents times the weight. -/
module

public import proofs.«01_k».proof.Proof.Latents
public import proofs.«01_k».proof.Proof.Gen.KvUpIdeal.Value
public import proofs.«01_k».proof.Proof.Gen.KvUpRefIdeal.Run

@[expose] public section
noncomputable section
namespace KvUp
open Idealize.ShloMosaic Idealize.SL.Sem Idealize.ShloMosaic.TcCoe Cert.KvUpIdeal Cert.KvUpIdeal.Gen Cert.KvUpIdeal.Value
open Latents (half)
open scoped BigOperators

theorem pay1_apply (r n : Fin 1024) : k0_pay1 (F := Ideal) (ix2 r n) = 0 := by unfold k0_pay1; pointwise

theorem pay2_apply (a : FVec Ideal S1024x256 .bf16) (b : FVec Ideal S1x1024x256 .bf16) (s : FVec Ideal S1024x1024 .f32) (r n : Fin 1024) :
    k0_pay2 a b s (ix2 r n) = s (ix2 r n) + ∑ x : Fin 256, a (ix2 r x) * b (ix3 0 n x) := by
  unfold k0_pay2
  pointwise

theorem pay3_apply (s : FVec Ideal S1024x1024 .f32) (r n : Fin 1024) : (k0_pay3 (F := Ideal) s (ix2 r n) : EReal) = s (ix2 r n) := by
  unfold k0_pay3
  pointwise

section Cases
variable (dev : Dev nD) (i : grid0.Coords) (arg3 : Memref sig .tc .vmem S1024x256 .bf16) (harg3 : arg3.IsWhole) (arg4 : Memref sig .tc .vmem S1x1024x256 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x256 .bf16) (x1 : Vec Ideal S1x1024x256 .bf16) (s : Vec Ideal S1024x1024 .f32)

theorem s_A (h0 : cond0_0 i) (h1 : ¬cond0_1 i) : sout0_A_0 dev i arg3 harg3 arg4 harg4 arg5 harg5 arg6 harg6 h0 h1 x0 x1
    = k0_pay2 x0 x1 (k0_pay1 (F := Ideal)) := by frame_out

theorem o_B (h0 : ¬cond0_0 i) (h1 : cond0_1 i) : out0_B_2 dev i arg3 harg3 arg4 harg4 arg5 harg5 arg6 harg6 h0 h1 x0 x1 s = k0_pay3 (k0_pay2 x0 x1 s) := by frame_out
end Cases

/-! ## The weight -/

/-- The weight. -/
def z (w : FVec Ideal S512x4096 .f32) (k : Fin 512) (n : Fin 4096) : EReal := w (ix2 k n)

/-- The weights as the kernel reads them: the weight transposed below the rows of another, their columns in two halves. -/
def split (w : FVec Ideal S512x4096 .f32) (o : FVec Ideal S4096x512 .f32) : FVec Ideal S2x8192x256 .bf16 :=
  transpose S2x8192x256 [1, 0, 2] (shapeCast S8192x2x256 (truncf .bf16 (concatenate S8192x512 0 [⟨S4096x512, o⟩,
    ⟨S4096x512, (transpose S4096x512 [1, 0] w transposes_S512x4096_S4096x512_1_0)⟩] concatenates_S4096x512_S4096x512_S8192x512_d0) bitsLt_bf16_f32)
    shapeCasts_S8192x512_S8192x2x256) transposes_S8192x2x256_S2x8192x256_1_0_2

theorem split_at (w : FVec Ideal S512x4096 .f32) (o : FVec Ideal S4096x512 .f32) (h : Fin 2) (n : Fin 4096) (x : Fin 256) :
    split w o (ix3 h ⟨4096 + n.val, by omega⟩ x) = z w ⟨h.val * 256 + x.val, by omega⟩ n := by
  unfold split z
  pointwise

variable (m : (ℓ : Loc nD τ sig) → Buf (Elt Ideal) ℓ) (c : Dev nD) (t : Fin cfg0.N)

/-- The latents, the weight, and the rows that lie before its own. -/
abbrev a : FVec Ideal S2048x512 .f32 := m ((c.tc : Thread nD τ).loc main_arg0)
abbrev w : FVec Ideal S512x4096 .f32 := m ((c.tc : Thread nD τ).loc main_arg2)
abbrev rest : FVec Ideal S4096x512 .f32 := m ((c.tc : Thread nD τ).loc main_arg1)

/-- A summand of an entry of the product, and the entry. -/
def f (a : FVec Ideal S2048x512 .f32) (w : FVec Ideal S512x4096 .f32) (i : Fin 2048) (n : Fin 4096) (x : Fin 512) : EReal := a (ix2 i x) * z w x n
def prod (a : FVec Ideal S2048x512 .f32) (w : FVec Ideal S512x4096 .f32) (i : Fin 2048) (n : Fin 4096) : EReal := ∑ x, f a w i n x

/-! ## The blocks -/

/-- The row and the column the entries of grid point `t` stand at. -/
def row (t : ℕ) (ht : t < 16) (r : Fin 1024) : Fin 2048 := ⟨t / 8 * 1024 + r.val, by omega⟩
def coln (t : ℕ) (n : Fin 1024) : Fin 4096 := ⟨t / 2 % 4 * 1024 + n.val, by omega⟩

theorem idx0 : ∀ t : Fin cfg0.N, win0_0.index t = ![t.val / 8, t.val % 2] := (by decide +kernel : ∀ t : Fin grid0.N, _)
theorem idx1 : ∀ t : Fin cfg0.N, win0_1.index t = ![t.val % 2, t.val / 2 % 4 + 4, 0] := (by decide +kernel : ∀ t : Fin grid0.N, _)

theorem tlt : t.val < 16 := lt_of_lt_of_eq t.isLt (show cfg0.N = 16 from N_0)

theorem blk0 (r : Fin 1024) (x : Fin 256) : iblk m c 0 t (ix2 r x) = a m c (ix2 (row t.val (tlt t) r) (half t.val x)) := by
  rw [show a m c (ix2 (row t.val (tlt t) r) (half t.val x)) = V m c main_v5 (ix2 (row t.val (tlt t) r) (half t.val x)) from rfl]
  blk_ext [iblk, idx0 t, row, half]

theorem blk1 (n : Fin 1024) (x : Fin 256) : iblk m c 1 t (ix3 0 n x) = z (w m c) (half t.val x) (coln t.val n) := by
  refine Eq.trans ?_ (split_at (w m c) (rest m c) ⟨t.val % 2, by omega⟩ (coln t.val n) x)
  rw [show split (w m c) (rest m c) = V m c main_v4 from rfl]
  blk_ext [iblk, idx1 t, coln]

/-! ## The runs -/

/-- What is written back at the end of a run of two points. -/
theorem last (e : t.val % 2 = 1) (r n : Fin 1024) :
    ((outsAt0 m c t.val t.isLt).1 (ix2 r n) : EReal) = prod (a m c) (w m c) (row t.val (tlt t) r) (coln t.val n) := by
  have hN {k : ℕ} (hk : k < 16) : k < cfg0.N := lt_of_lt_of_eq hk (show 16 = cfg0.N from N_0.symm)
  have ht := tlt t
  have e' : (t.val - 1) % 2 = 0 := by omega
  have ht' : t.val - 1 < 16 := Nat.lt_of_le_of_lt (Nat.sub_le _ _) ht
  have hr : row (t.val - 1) ht' r = row t.val ht r := Fin.ext (by show (t.val - 1) / 8 * 1024 + r.val = t.val / 8 * 1024 + r.val; omega)
  have hn : coln (t.val - 1) n = coln t.val n := Fin.ext (by show (t.val - 1) / 2 % 4 * 1024 + n.val = t.val / 2 % 4 * 1024 + n.val; omega)
  rw [outsAt0_B m c t (by omega) e]
  dsimp only
  rw [o_B, outsAt0_A m c ⟨t.val - 1, hN ht'⟩ e' (by show ¬(t.val - 1) % 2 = 1; omega)]
  dsimp only
  rw [s_A, pay3_apply, pay2_apply, pay2_apply, pay1_apply, zero_add]
  simp only [blk0, blk1, hr, hn]
  exact Latents.halves (f (a m c) (w m c) (row t.val ht r) (coln t.val n)) t.val e

/-- The point that writes an entry back, and where in its block the entry stands. -/
def pt (i : Fin 2048) (n : Fin 4096) : ℕ := 2 * (4 * (i.val / 1024 - 0) + 1 * (n.val / 1024 - 0)) + 1

theorem pt_lt (i : Fin 2048) (n : Fin 4096) : pt i n < 16 := by unfold pt; omega
theorem pt_row (i : Fin 2048) (n : Fin 4096) : row (pt i n) (pt_lt i n) ⟨i.val % 1024, by omega⟩ = i := Fin.ext (by
  show (2 * (4 * (i.val / 1024 - 0) + 1 * (n.val / 1024 - 0)) + 1) / 8 * 1024 + i.val % 1024 = i.val; omega)
theorem pt_coln (i : Fin 2048) (n : Fin 4096) : coln (pt i n) ⟨n.val % 1024, by omega⟩ = n := Fin.ext (by
  show (2 * (4 * (i.val / 1024 - 0) + 1 * (n.val / 1024 - 0)) + 1) / 2 % 4 * 1024 + n.val % 1024 = n.val; omega)

theorem G2_eq (i : Fin 2048) (n : Fin 4096) : (G2 m c (ix2 i n) : EReal) = prod (a m c) (w m c) i n := by
  have hp : pt i n < cfg0.N := lt_of_lt_of_eq (pt_lt i n) (show 16 = cfg0.N from N_0.symm)
  have e : G2 m c (ix2 i n) = (outsAt0 m c (pt i n) hp).1 (ix2 ⟨i.val % 1024, by omega⟩ ⟨n.val % 1024, by omega⟩) := by
    rw [outsAt0_sweep]
    exact (dif_pos hp).trans (congrArg _ (by funext a; fin_cases a <;> rfl))
  rw [e, last m c ⟨pt i n, hp⟩ (by show pt i n % 2 = 1; unfold pt; omega), pt_row, pt_coln]

/-! ## The reference -/

theorem ref_apply (a : FVec Ideal Cert.KvUpRefIdeal.S2048x512 .f32) (w : FVec Ideal Cert.KvUpRefIdeal.S512x4096 .f32) (i : Fin 2048) (n : Fin 4096) :
    (truncf .bf16 (Host.dotGeneral Cert.KvUpRefIdeal.dot_S2048x512_S512x4096_S2048x4096_1_0_0_1_n_n none a w) Cert.KvUpRefIdeal.Gen.facts.bitsLt_bf16_f32
      : FVec Ideal Cert.KvUpRefIdeal.S2048x4096 .bf16) (ix2 i n) = prod a w i n := by
  unfold prod f z
  pointwise

end KvUp
end
-- ==== Proof.KvUpDx.lean ====
/- The gradient of the latents through keys and values: the accumulated tiles are the gradient times the weight. -/
module

public import proofs.«01_k».proof.Proof.Latents
public import proofs.«01_k».proof.Proof.Gen.KvUpDxIdeal.Value
public import proofs.«01_k».proof.Proof.Gen.KvUpDxRefIdeal.Run
public import Idealize.ShloMosaic.Lib.Pipeline.ValueKit

@[expose] public section
noncomputable section
namespace KvUpDx
open Idealize.ShloMosaic Idealize.SL.Sem Idealize.ShloMosaic.TcCoe Cert.KvUpDxIdeal Cert.KvUpDxIdeal.Gen Cert.KvUpDxIdeal.Value Attn
open scoped BigOperators

/-! ## One grid point -/

theorem pay1_apply (r : Fin 1024) (n : Fin 256) : k0_pay1 (F := Ideal) (ix2 r n) = 0 := by unfold k0_pay1; pointwise

theorem pay2_apply (a : FVec Ideal S1024x1024 .bf16) (b : FVec Ideal S1x1024x256 .bf16) (s : FVec Ideal S1024x256 .f32) (r : Fin 1024) (n : Fin 256) :
    k0_pay2 a b s (ix2 r n) = s (ix2 r n) + ∑ x : Fin 1024, a (ix2 r x) * b (ix3 0 x n) := by
  unfold k0_pay2
  pointwise

section Cases
variable (dev : Dev nD) (i : grid0.Coords) (arg3 : Memref sig .tc .vmem S1024x1024 .bf16) (harg3 : arg3.IsWhole) (arg4 : Memref sig .tc .vmem S1x1024x256 .bf16) (harg4 : arg4.IsWhole) (arg5 : Memref sig .tc .vmem S1024x256 .f32) (harg5 : arg5.IsWhole) (arg6 : Memref sig .tc .vmem S1024x256 .f32) (harg6 : arg6.IsWhole)
  (x0 : Vec Ideal S1024x1024 .bf16) (x1 : Vec Ideal S1x1024x256 .bf16) (s : Vec Ideal S1024x256 .f32)

theorem s_A (h0 : cond0_0 i) (h1 : ¬cond0_1 i) : sout0_A_0 dev i arg3 harg3 arg4 harg4 arg5 harg5 arg6 harg6 h0 h1 x0 x1
    = k0_pay2 x0 x1 (k0_pay1 (F := Ideal)) := by frame_out

theorem s_B (h0 : ¬cond0_0 i) (h1 : ¬cond0_1 i) : sout0_B_0 dev i arg3 harg3 arg4 harg4 arg5 harg5 arg6 harg6 h0 h1 x0 x1 s = k0_pay2 x0 x1 s := by frame_out

theorem s_C (h0 : ¬cond0_0 i) (h1 : cond0_1 i) : sout0_C_0 dev i arg3 harg3 arg4 harg4 arg5 harg5 arg6 harg6 h0 h1 x0 x1 s = k0_pay2 x0 x1 s := by frame_out

theorem o_C (h0 : ¬cond0_0 i) (h1 : cond0_1 i) : out0_C_2 dev i arg3 harg3 arg4 harg4 arg5 harg5 arg6 harg6 h0 h1 x0 x1 s = k0_pay2 x0 x1 s := by frame_out
end Cases

/-! ## The weight -/

/-- The weight. -/
def z (w : FVec Ideal S512x4096 .f32) (k : Fin 512) (n : Fin 4096) : EReal := w (ix2 k n)

/-- The weights as the kernel reads them: the weight transposed below the rows of another, their columns in two halves. -/
def split (w : FVec Ideal S512x4096 .f32) (o : FVec Ideal S4096x512 .f32) : FVec Ideal S2x8192x256 .bf16 :=
  transpose S2x8192x256 [1, 0, 2] (shapeCast S8192x2x256 (truncf .bf16 (concatenate S8192x512 0 [⟨S4096x512, o⟩,
    ⟨S4096x512, (transpose S4096x512 [1, 0] w transposes_S512x4096_S4096x512_1_0)⟩] concatenates_S4096x512_S4096x512_S8192x512_d0) bitsLt_bf16_f32)
    shapeCasts_S8192x512_S8192x2x256) transposes_S8192x2x256_S2x8192x256_1_0_2

theorem split_at (w : FVec Ideal S512x4096 .f32) (o : FVec Ideal S4096x512 .f32) (h : Fin 2) (n : Fin 4096) (x : Fin 256) :
    split w o (ix3 h ⟨4096 + n.val, by omega⟩ x) = z w ⟨h.val * 256 + x.val, by omega⟩ n := by
  unfold split z
  pointwise

/-- The gradient. -/
def y (a : FVec Ideal S2048x4096 .f32) (i : Fin 2048) (n : Fin 4096) : EReal := a (ix2 i n)

/-! ## The blocks -/

variable (m : (ℓ : Loc nD τ sig) → Buf (Elt Ideal) ℓ) (c : Dev nD) (t : Fin cfg0.N)

/-- The gradient, the weight, and the rows that lie before its own. -/
abbrev a : FVec Ideal S2048x4096 .f32 := m ((c.tc : Thread nD τ).loc main_arg0)
abbrev w : FVec Ideal S512x4096 .f32 := m ((c.tc : Thread nD τ).loc main_arg2)
abbrev rest : FVec Ideal S4096x512 .f32 := m ((c.tc : Thread nD τ).loc main_arg1)

theorem idx0 : ∀ t : Fin cfg0.N, win0_0.index t = ![t.val / 8, t.val % 4] := (by decide +kernel : ∀ t : Fin grid0.N, _)
theorem idx1 : ∀ t : Fin cfg0.N, win0_1.index t = ![t.val / 4 % 2, t.val % 4 + 4, 0] := (by decide +kernel : ∀ t : Fin grid0.N, _)

theorem tlt : t.val < 16 := lt_of_lt_of_eq t.isLt (show cfg0.N = 16 from N_0)

/-- The row, the column and the summand a point's entries stand at. -/
def row (r : Fin 1024) : Fin 2048 := ⟨t.val / 8 * 1024 + r.val, by have := tlt t; omega⟩
def coln (n : Fin 256) : Fin 512 := ⟨t.val / 4 % 2 * 256 + n.val, by omega⟩
def mid (x : Fin 1024) : Fin 4096 := ⟨1024 * (t.val % 4) + x.val, by omega⟩

theorem blk0 (r : Fin 1024) (x : Fin 1024) : iblk m c 0 t (ix2 r x) = y (a m c) (row t r) (mid t x) := by
  rw [show y (a m c) (row t r) (mid t x) = V m c main_v5 (ix2 (row t r) (mid t x)) from rfl]
  blk_ext [iblk, idx0 t, row, mid]

theorem blk1 (x : Fin 1024) (n : Fin 256) : iblk m c 1 t (ix3 0 x n) = z (w m c) (coln t n) (mid t x) := by
  refine Eq.trans ?_ (split_at (w m c) (rest m c) ⟨t.val / 4 % 2, by omega⟩ (mid t x) n)
  rw [show split (w m c) (rest m c) = V m c main_v4 from rfl]
  blk_ext [iblk, idx1 t, mid]

/-! ## The fold -/

/-- A summand of an entry of the product, and the entry. -/
def f (a : FVec Ideal S2048x4096 .f32) (w : FVec Ideal S512x4096 .f32) (i : Fin 2048) (n : Fin 512) (x : Fin 4096) : EReal := y a i x * z w n x
def prod (a : FVec Ideal S2048x4096 .f32) (w : FVec Ideal S512x4096 .f32) (i : Fin 2048) (n : Fin 512) : EReal := ∑ x, f a w i n x

/-- What a point adds to the accumulator, over what it finds there. -/
theorem step (s : FVec Ideal S1024x256 .f32) (r : Fin 1024) (n : Fin 256) : k0_pay2 (iblk m c 0 t) (iblk m c 1 t) s (ix2 r n)
    = s (ix2 r n) + ∑ x : Fin 1024, f (a m c) (w m c) (row t r) (coln t n) (mid t x) :=
  (pay2_apply _ _ s r n).trans (congrArg _ (Finset.sum_congr rfl fun x _ => congrArg₂ (· * ·) (blk0 m c t r x) (blk1 m c t x n)))

/-- The accumulator after a point: the summands met so far. -/
theorem acc (k : ℕ) : ∀ t : Fin cfg0.N, t.val % 4 = k → ∀ (r : Fin 1024) (n : Fin 256),
    (outsAt0 m c t.val t.isLt).2 (ix2 r n) = ∑ j ∈ Finset.range (1024 * k + 1024), ext (f (a m c) (w m c) (row t r) (coln t n)) j := by
  induction k with
  | zero =>
    intro t e r n
    rw [outsAt0_A m c t e (by omega)]
    dsimp only
    rw [s_A, step, pay1_apply, zero_add, sum_ext_add _ _ _ (by decide)]
    simp only [mid, e]
    simp
  | succ k ih =>
    intro t e r n
    have hk : k + 1 < 4 := e ▸ Nat.mod_lt _ (by decide)
    let t' : Fin cfg0.N := ⟨t.val - 1, Nat.lt_of_le_of_lt (Nat.sub_le _ _) t.isLt⟩
    have hr : row t' r = row t r := Fin.ext (by show (t.val - 1) / 8 * 1024 + r.val = t.val / 8 * 1024 + r.val; omega)
    have hc : coln t' n = coln t n := Fin.ext (by show (t.val - 1) / 4 % 2 * 256 + n.val = t.val / 4 % 2 * 256 + n.val; omega)
    have h : (outsAt0 m c t.val t.isLt).2 (ix2 r n) = k0_pay2 (iblk m c 0 t) (iblk m c 1 t) (outsAt0 m c t'.val t'.isLt).2 (ix2 r n) := by
      by_cases h : t.val % 4 = 3
      · rw [outsAt0_C m c t (by omega) h]
        dsimp only
        rw [s_C]
      · rw [outsAt0_B m c t (by omega) h]
        dsimp only
        rw [s_B]
    rw [h, step, ih t' (by show (t.val - 1) % 4 = k; omega), hr, hc, sum_ext_add _ (1024 * (k + 1)) _ (by omega)]
    simp only [mid, e, Nat.mul_succ]

/-- At a run's last point the result holds the sum whole. -/
theorem last (t : Fin cfg0.N) (e : t.val % 4 = 3) (r : Fin 1024) (n : Fin 256) : (outsAt0 m c t.val t.isLt).1 (ix2 r n) = prod (a m c) (w m c) (row t r) (coln t n) := by
  have h : (outsAt0 m c t.val t.isLt).1 = (outsAt0 m c t.val t.isLt).2 := by
    rw [outsAt0_C m c t (by omega) e]
    dsimp only
    rw [s_C, o_C]
  rw [h, acc m c 3 t e]
  exact sum_ext _

theorem G2_eq (i : Fin 2048) (n : Fin 512) : G2 m c (ix2 i n) = prod (a m c) (w m c) i n := by
  have hp : 4 * (2 * (i.val / 1024 - 0) + 1 * (n.val / 256 - 0)) + 3 < cfg0.N := lt_of_lt_of_eq (by omega) (show 16 = cfg0.N from N_0.symm)
  let t : Fin cfg0.N := ⟨4 * (2 * (i.val / 1024 - 0) + 1 * (n.val / 256 - 0)) + 3, hp⟩
  have e : G2 m c (ix2 i n) = (outsAt0 m c t.val t.isLt).1 (ix2 ⟨i.val % 1024, by omega⟩ ⟨n.val % 256, by omega⟩) := by
    rw [outsAt0_sweep]
    exact (dif_pos hp).trans (congrArg _ (by funext a; fin_cases a <;> rfl))
  have e1 : t.val % 4 = 3 := by show (4 * (2 * (i.val / 1024 - 0) + 1 * (n.val / 256 - 0)) + 3) % 4 = 3; omega
  have h1 : row t ⟨i.val % 1024, by omega⟩ = i := Fin.ext (by
    show (4 * (2 * (i.val / 1024 - 0) + 1 * (n.val / 256 - 0)) + 3) / 8 * 1024 + i.val % 1024 = i.val; omega)
  have h2 : coln t ⟨n.val % 256, by omega⟩ = n := Fin.ext (by
    show (4 * (2 * (i.val / 1024 - 0) + 1 * (n.val / 256 - 0)) + 3) / 4 % 2 * 256 + n.val % 256 = n.val; omega)
  rw [e, last m c t e1, h1, h2]

/-! ## The reference -/

theorem ref_apply (a : FVec Ideal Cert.KvUpDxRefIdeal.S2048x4096 .f32) (w : FVec Ideal Cert.KvUpDxRefIdeal.S512x4096 .f32) (i : Fin 2048) (n : Fin 512) :
    Host.dotGeneral Cert.KvUpDxRefIdeal.dot_S2048x4096_S512x4096_S2048x512_1_1_0_0_n_n none a w (ix2 i n) = prod a w i n := by
  unfold prod f y z
  pointwise

end KvUpDx
end
-- ==== Proof.KvUpDw.lean ====
/- The gradient of the latents' weight into keys and values, over its rows of the array of gradients. -/
module

public import proofs.«01_k».proof.Proof.Latents
public import proofs.«01_k».proof.Proof.Gen.KvUpDwIdeal.Value
public import proofs.«01_k».proof.Proof.Gen.KvUpDwRefIdeal.Run

@[expose] public section
noncomputable section
namespace KvUpDw
open Idealize.ShloMosaic Idealize.SL.Sem Idealize.ShloMosaic.TcCoe Cert.KvUpDwIdeal Cert.KvUpDwIdeal.Gen Cert.KvUpDwIdeal.Value Latents
open Dw (mid ext3)
open scoped BigOperators

/-! ## One grid point, and a run of two -/

theorem pay1_apply (r : Fin 1024) (n : Fin 256) : k0_pay1 (F := Ideal) (ix2 r n) = 0 := by unfold k0_pay1; pointwise

theorem pay2_apply (a : FVec Ideal S1024x1024 .bf16) (b : FVec Ideal S1024x256 .bf16) (s : FVec Ideal S1024x256 .f32) (r : Fin 1024) (n : Fin 256) :
    k0_pay2 a b s (ix2 r n) = s (ix2 r n) + ∑ x : Fin 1024, a (ix2 x r) * b (ix2 x n) := by
  unfold k0_pay2
  pointwise

theorem pay3_apply (s : FVec Ideal S1024x256 .f32) (z : Fin 1) (r : Fin 1024) (n : Fin 256) : k0_pay3 s (ix3 z r n) = s (ix2 r n) := by
  unfold k0_pay3
  pointwise

theorem both (d : FVec Ideal ⟨2, ![2048, 4096]⟩ .f32) (h : FVec Ideal ⟨2, ![2048, 512]⟩ .f32)
    (A : ∀ t : ℕ, t < 16 → FVec Ideal ⟨2, ![1024, 1024]⟩ .bf16) (hA : ∀ t ht x r, A t ht (ix2 x r) = d (ix2 (mid t x) (row t ht r)))
    (B : ∀ t : ℕ, t < 16 → FVec Ideal ⟨2, ![1024, 256]⟩ .bf16) (hB : ∀ t ht x n, B t ht (ix2 x n) = h (ix2 (mid t x) (coln t n)))
    (t : ℕ) (ht : t < 16) (ht' : t - 1 < 16) (e : t % 2 = 1) (z : Fin 1) (r : Fin 1024) (n : Fin 256) :
    (k0_pay3 (F := Ideal) (k0_pay2 (F := Ideal) (A t ht) (B t ht) (k0_pay2 (F := Ideal) (A (t - 1) ht') (B (t - 1) ht') (k0_pay1 (F := Ideal)))) (ix3 z r n) : EReal) = dw d h (row t ht r) (coln t n) := by
  rw [pay3_apply]
  exact total d h (fun a b s => k0_pay2 a b s) pay2_apply A hA B hB _ pay1_apply t ht ht' e r n

section Cases
variable (dev : Dev nD) (i : grid0.Coords) (arg3 : Memref sig .tc .vmem S1024x1024 .bf16) (harg3 : arg3.IsWhole) (arg4 : Memref sig .tc .vmem S1024x256 .bf16) (harg4 : arg4.IsWhole) (arg6 : Memref sig .tc .vmem S1x1024x256 .f32) (harg6 : arg6.IsWhole) (arg7 : Memref sig .tc .vmem S1024x256 .f32) (harg7 : arg7.IsWhole)
  (x0 : Vec Ideal S1024x1024 .bf16) (x1 : Vec Ideal S1024x256 .bf16) (s : Vec Ideal S1024x256 .f32)

theorem s_A (h0 : cond0_0 i) (h1 : ¬cond0_1 i) : sout0_A_0 dev i arg3 harg3 arg4 harg4 arg6 harg6 arg7 harg7 h0 h1 x0 x1
    = k0_pay2 x0 x1 (k0_pay1 (F := Ideal)) := by frame_out

theorem o_B (h0 : ¬cond0_0 i) (h1 : cond0_1 i) : out0_B_2 dev i arg3 harg3 arg4 harg4 arg6 harg6 arg7 harg7 h0 h1 x0 x1 s
    = k0_pay3 (k0_pay2 x0 x1 s) := by frame_out
end Cases

/-! ## The blocks -/

variable (m : (ℓ : Loc nD τ sig) → Buf (Elt Ideal) ℓ) (c : Dev nD) (t : Fin cfg0.N)

/-- The array of gradients and the two operands. -/
abbrev g : FVec Ideal S2x8192x256 .f32 := m ((c.tc : Thread nD τ).loc main_arg0)
abbrev a : FVec Ideal S2048x4096 .f32 := m ((c.tc : Thread nD τ).loc main_arg1)
abbrev b : FVec Ideal S2048x512 .f32 := m ((c.tc : Thread nD τ).loc main_arg2)

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 2 % 2, t.val / 4 + 4 * 1, 0] := (by decide +kernel : ∀ t : Fin grid0.N, _)

theorem tlt : t.val < 16 := lt_of_lt_of_eq t.isLt (show cfg0.N = 16 from N_0)

theorem blk0 (x r : Fin 1024) : iblk m c 0 t (ix2 x r) = a m c (ix2 (mid t.val x) (row t.val (tlt t) r)) := by
  rw [show a m c (ix2 (mid t.val x) (row t.val (tlt t) r)) = V m c main_v0 (ix2 (mid t.val x) (row t.val (tlt t) r)) from rfl]
  blk_ext [iblk, idx0 t, row, mid]

theorem blk1 (x : Fin 1024) (n : Fin 256) : iblk m c 1 t (ix2 x n) = b m c (ix2 (mid t.val x) (coln t.val n)) := by
  rw [show b m c (ix2 (mid t.val x) (coln t.val n)) = V m c main_v1 (ix2 (mid t.val x) (coln t.val n)) from rfl]
  blk_ext [iblk, idx1 t, coln, mid]

/-! ## The array -/

/-- What is written back at the end of a run. -/
theorem last (e : t.val % 2 = 1) (z : Fin 1) (r : Fin 1024) (n : Fin 256) :
    (outsAt0 m c t.val t.isLt).1 (ix3 z r n) = dw (a m c) (b m c) (row t.val (tlt t) r) (coln t.val n) := by
  have hN {k : ℕ} (hk : k < 16) : k < cfg0.N := lt_of_lt_of_eq hk (show 16 = cfg0.N from N_0.symm)
  have ht' : t.val - 1 < 16 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact both (a m c) (b m c) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e z r n

theorem flushed_eq (hf : (cfg0.win 2).flush t = true) :
    (dats m 0 c).flushed 2 t = ((cfg0.win 2).blk t).view.read (Elt Ideal) (Latents.G (a m c) (b m c) (g m c) 1) := by
  rw [flushed2]
  funext y
  refine (congrArg (outsAt0 m c t.val t.isLt).1 (eq_ix3 ((cfg0.win 2).xinj (grid0.coords t) y))).trans
    ((last m c t ((flush0_2 t).mp hf) _ _ _).trans (Latents.G_at _ _ _ 1 t.val (tlt t) _ y fun k => ?_).symm)
  rw [← idx2 t]
  exact rfl

theorem mem_blk (i : S2x8192x256.Idx) : i ∈ ((cfg0.win 2).blk t).view.set ↔
    ∀ a : Fin 3, win0_2.index t a * S1x1024x256.size a ≤ (i a).val ∧ (i a).val < win0_2.index t a * S1x1024x256.size a + S1x1024x256.size a := by
  show i ∈ ((View.whole main_v2).slice (win0_2.rect t)).set ↔ _
  rw [View.set_slice_whole, Rect.mem_set_unit]
  exact Iff.rfl

theorem final : (dats m 0 c).arrAt 2 cfg0.N = Latents.G (a m c) (b m c) (g m c) 1 := by
  funext i
  rw [(dats m 0 c).arrAt_eq_piecewise 2 _ (flushed_eq m c), congrFun (A_eq m c 2) i]
  exact piece (a m c) (b m c) (g m c) 1 N_0 _ flush0_2 _ idx2 i _ fun t => mem_blk t i

/-- The reference's array. -/
theorem ref_eq (g : FVec Ideal Cert.KvUpDwRefIdeal.S2x8192x256 .f32) (a : FVec Ideal Cert.KvUpDwRefIdeal.S2048x4096 .f32) (b : FVec Ideal Cert.KvUpDwRefIdeal.S2048x512 .f32) :
    (concatenate Cert.KvUpDwRefIdeal.S2x8192x256 1 [⟨Cert.KvUpDwRefIdeal.S2x4096x256, (extractStridedSlice Cert.KvUpDwRefIdeal.S2x4096x256 ![0, 0, 0] g Cert.KvUpDwRefIdeal.Gen.facts.slices_S2x8192x256_S2x4096x256_0_0_0)⟩,
      ⟨Cert.KvUpDwRefIdeal.S2x4096x256, (transpose Cert.KvUpDwRefIdeal.S2x4096x256 [0, 2, 1] (shapeCast Cert.KvUpDwRefIdeal.S2x256x4096 (transpose Cert.KvUpDwRefIdeal.S512x4096 [1, 0] (Host.dotGeneral Cert.KvUpDwRefIdeal.dot_S2048x4096_S2048x512_S4096x512_0_0_1_1_n_n none a b) Cert.KvUpDwRefIdeal.Gen.facts.transposes_S4096x512_S512x4096_1_0) Cert.KvUpDwRefIdeal.Gen.facts.shapeCasts_S512x4096_S2x256x4096) Cert.KvUpDwRefIdeal.Gen.facts.transposes_S2x256x4096_S2x4096x256_0_2_1)⟩]
      Cert.KvUpDwRefIdeal.Gen.facts.concatenates_S2x4096x256_S2x4096x256_S2x8192x256_d1 : FVec Ideal Cert.KvUpDwRefIdeal.S2x8192x256 .f32) = Latents.G a b g 1 := by
  refine eq_G a b g 1 _ (fun z k n h => ?_) (fun z k n h => ?_)
  · pointwise
    rw [dif_neg (by omega)]
    rfl
  · pointwise
    rw [dif_pos (by omega)]

end KvUpDw
end
-- ==== Proof.QUp.lean ====
/- The latents' product into queries: the accumulated tiles are the latents times the weight, a head's columns padded with zeros. -/
module

public import proofs.«01_k».proof.Proof.Latents
public import proofs.«01_k».proof.Proof.Gen.QUpIdeal.Value
public import proofs.«01_k».proof.Proof.Gen.QUpRefIdeal.Run

@[expose] public section
noncomputable section
namespace QUp
open Idealize.ShloMosaic Idealize.SL.Sem Idealize.ShloMosaic.TcCoe Cert.QUpIdeal Cert.QUpIdeal.Gen Cert.QUpIdeal.Value
open Latents (half)
open scoped BigOperators

theorem pay1_apply (r n : Fin 1024) : k0_pay1 (F := Ideal) (ix2 r n) = 0 := by unfold k0_pay1; pointwise

theorem pay2_apply (a : FVec Ideal S1024x256 .bf16) (b : FVec Ideal S1x1024x256 .bf16) (s : FVec Ideal S1024x1024 .f32) (r n : Fin 1024) :
    k0_pay2 a b s (ix2 r n) = s (ix2 r n) + ∑ x : Fin 256, a (ix2 r x) * b (ix3 0 n x) := by
  unfold k0_pay2
  pointwise

section Cases
variable (dev : Dev nD) (i : grid0.Coords) (arg3 : Memref sig .tc .vmem S1024x256 .bf16) (harg3 : arg3.IsWhole) (arg4 : Memref sig .tc .vmem S1x1024x256 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x256 .bf16) (x1 : Vec Ideal S1x1024x256 .bf16) (s : Vec Ideal S1024x1024 .f32)

theorem s_A (h0 : cond0_0 i) (h1 : ¬cond0_1 i) : sout0_A_0 dev i arg3 harg3 arg4 harg4 arg5 harg5 arg6 harg6 h0 h1 x0 x1
    = k0_pay2 x0 x1 (k0_pay1 (F := Ideal)) := by frame_out

theorem o_B (h0 : ¬cond0_0 i) (h1 : cond0_1 i) : out0_B_2 dev i arg3 harg3 arg4 harg4 arg5 harg5 arg6 harg6 h0 h1 x0 x1 s = k0_pay2 x0 x1 s := by frame_out
end Cases

/-! ## The padded weight -/

/-- The weight, with 64 zero columns behind the 192 of a head. -/
def z (w : FVec Ideal S512x3072 .f32) (k : Fin 512) (n : Fin 4096) : EReal :=
  if h : n.val % 256 < 192 then w (ix2 k ⟨n.val / 256 * 192 + n.val % 256, by omega⟩) else 0

/-- The padded weight's columns as rows, by head. -/
def heads (w : FVec Ideal S512x3072 .f32) : FVec Ideal S16x256x512 .f32 :=
  concatenate S16x256x512 1 [⟨S16x192x512, (shapeCast S16x192x512 (transpose S3072x512 [1, 0] w transposes_S512x3072_S3072x512_1_0) shapeCasts_S3072x512_S16x192x512)⟩,
    ⟨S16x64x512, (broadcastInDim S16x64x512 ![] bcast_S_S16x64x512 (constant (F := Ideal) S_ .f32 0x00000000#32))⟩] concatenates_S16x192x512_S16x64x512_S16x256x512_d1

theorem heads_apply (w : FVec Ideal S512x3072 .f32) (n : Fin 4096) (k : Fin 512) :
    heads w (ix3 ⟨n.val / 256, by omega⟩ ⟨n.val % 256, by omega⟩ k) = z w k n := by
  unfold heads z
  pointwise

/-- The weights as the kernel reads them: the padded weight transposed above the rows of another, their columns in two halves. -/
def split (w : FVec Ideal S512x3072 .f32) (o : FVec Ideal S4096x512 .f32) : FVec Ideal S2x8192x256 .bf16 :=
  transpose S2x8192x256 [1, 0, 2] (shapeCast S8192x2x256 (truncf .bf16 (concatenate S8192x512 0
    [⟨S4096x512, (shapeCast S4096x512 (heads w) shapeCasts_S16x256x512_S4096x512)⟩, ⟨S4096x512, o⟩]
    concatenates_S4096x512_S4096x512_S8192x512_d0) bitsLt_bf16_f32) shapeCasts_S8192x512_S8192x2x256) transposes_S8192x2x256_S2x8192x256_1_0_2

theorem split_at (w : FVec Ideal S512x3072 .f32) (o : FVec Ideal S4096x512 .f32) (h : Fin 2) (n : Fin 4096) (x : Fin 256) :
    split w o (ix3 h ⟨n.val, by omega⟩ x) = z w ⟨h.val * 256 + x.val, by omega⟩ n := by
  rw [← heads_apply]
  unfold split
  pointwise

variable (m : (ℓ : Loc nD τ sig) → Buf (Elt Ideal) ℓ) (c : Dev nD) (t : Fin cfg0.N)

/-- The latents, the weight, and the rows that lie behind its own. -/
abbrev a : FVec Ideal S2048x512 .f32 := m ((c.tc : Thread nD τ).loc main_arg0)
abbrev w : FVec Ideal S512x3072 .f32 := m ((c.tc : Thread nD τ).loc main_arg1)
abbrev rest : FVec Ideal S4096x512 .f32 := m ((c.tc : Thread nD τ).loc main_arg2)

/-- A summand of an entry of the product, and the entry. -/
def f (a : FVec Ideal S2048x512 .f32) (w : FVec Ideal S512x3072 .f32) (i : Fin 2048) (n : Fin 4096) (x : Fin 512) : EReal := a (ix2 i x) * z w x n
def prod (a : FVec Ideal S2048x512 .f32) (w : FVec Ideal S512x3072 .f32) (i : Fin 2048) (n : Fin 4096) : EReal := ∑ x, f a w i n x

/-! ## The blocks -/

/-- The row and the column the entries of grid point `t` stand at. -/
def row (t : ℕ) (ht : t < 16) (r : Fin 1024) : Fin 2048 := ⟨t / 8 * 1024 + r.val, by omega⟩
def coln (t : ℕ) (n : Fin 1024) : Fin 4096 := ⟨t / 2 % 4 * 1024 + n.val, by omega⟩

theorem idx0 : ∀ t : Fin cfg0.N, win0_0.index t = ![t.val / 8, t.val % 2] := (by decide +kernel : ∀ t : Fin grid0.N, _)
theorem idx1 : ∀ t : Fin cfg0.N, win0_1.index t = ![t.val % 2, t.val / 2 % 4, 0] := (by decide +kernel : ∀ t : Fin grid0.N, _)

theorem tlt : t.val < 16 := lt_of_lt_of_eq t.isLt (show cfg0.N = 16 from N_0)

theorem blk0 (r : Fin 1024) (x : Fin 256) : iblk m c 0 t (ix2 r x) = a m c (ix2 (row t.val (tlt t) r) (half t.val x)) := by
  rw [show a m c (ix2 (row t.val (tlt t) r) (half t.val x)) = V m c main_v9 (ix2 (row t.val (tlt t) r) (half t.val x)) from rfl]
  blk_ext [iblk, idx0 t, row, half]

theorem blk1 (n : Fin 1024) (x : Fin 256) : iblk m c 1 t (ix3 0 n x) = z (w m c) (half t.val x) (coln t.val n) := by
  refine Eq.trans ?_ (split_at (w m c) (rest m c) ⟨t.val % 2, by omega⟩ (coln t.val n) x)
  rw [show split (w m c) (rest m c) = V m c main_v8 from rfl]
  blk_ext [iblk, idx1 t, coln]

/-! ## The runs -/

/-- What is written back at the end of a run of two points. -/
theorem last (e : t.val % 2 = 1) (r n : Fin 1024) :
    (outsAt0 m c t.val t.isLt).1 (ix2 r n) = prod (a m c) (w m c) (row t.val (tlt t) r) (coln t.val n) := by
  have hN {k : ℕ} (hk : k < 16) : k < cfg0.N := lt_of_lt_of_eq hk (show 16 = cfg0.N from N_0.symm)
  have ht := tlt t
  have e' : (t.val - 1) % 2 = 0 := by omega
  have ht' : t.val - 1 < 16 := Nat.lt_of_le_of_lt (Nat.sub_le _ _) ht
  have hr : row (t.val - 1) ht' r = row t.val ht r := Fin.ext (by show (t.val - 1) / 8 * 1024 + r.val = t.val / 8 * 1024 + r.val; omega)
  have hn : coln (t.val - 1) n = coln t.val n := Fin.ext (by show (t.val - 1) / 2 % 4 * 1024 + n.val = t.val / 2 % 4 * 1024 + n.val; omega)
  rw [outsAt0_B m c t (by omega) e]
  dsimp only
  rw [o_B, outsAt0_A m c ⟨t.val - 1, hN ht'⟩ e' (by show ¬(t.val - 1) % 2 = 1; omega)]
  dsimp only
  rw [s_A, pay2_apply, pay2_apply, pay1_apply, zero_add]
  simp only [blk0, blk1, hr, hn]
  exact Latents.halves (f (a m c) (w m c) (row t.val ht r) (coln t.val n)) t.val e

/-- The point that writes an entry back, and where in its block the entry stands. -/
def pt (i : Fin 2048) (n : Fin 4096) : ℕ := 2 * (4 * (i.val / 1024 - 0) + 1 * (n.val / 1024 - 0)) + 1

theorem pt_lt (i : Fin 2048) (n : Fin 4096) : pt i n < 16 := by unfold pt; omega
theorem pt_row (i : Fin 2048) (n : Fin 4096) : row (pt i n) (pt_lt i n) ⟨i.val % 1024, by omega⟩ = i := Fin.ext (by
  show (2 * (4 * (i.val / 1024 - 0) + 1 * (n.val / 1024 - 0)) + 1) / 8 * 1024 + i.val % 1024 = i.val; omega)
theorem pt_coln (i : Fin 2048) (n : Fin 4096) : coln (pt i n) ⟨n.val % 1024, by omega⟩ = n := Fin.ext (by
  show (2 * (4 * (i.val / 1024 - 0) + 1 * (n.val / 1024 - 0)) + 1) / 2 % 4 * 1024 + n.val % 1024 = n.val; omega)

theorem G2_eq (i : Fin 2048) (n : Fin 4096) : G2 m c (ix2 i n) = prod (a m c) (w m c) i n := by
  have hp : pt i n < cfg0.N := lt_of_lt_of_eq (pt_lt i n) (show 16 = cfg0.N from N_0.symm)
  have e : G2 m c (ix2 i n) = (outsAt0 m c (pt i n) hp).1 (ix2 ⟨i.val % 1024, by omega⟩ ⟨n.val % 1024, by omega⟩) := by
    rw [outsAt0_sweep]
    exact (dif_pos hp).trans (congrArg _ (by funext a; fin_cases a <;> rfl))
  rw [e, last m c ⟨pt i n, hp⟩ (by show pt i n % 2 = 1; unfold pt; omega), pt_row, pt_coln]

/-! ## The reference -/

theorem ref_apply (a : FVec Ideal Cert.QUpRefIdeal.S2048x512 .f32) (w : FVec Ideal Cert.QUpRefIdeal.S512x3072 .f32) (i : Fin 2048) (n : Fin 4096) :
    (shapeCast Cert.QUpRefIdeal.S2048x4096 (concatenate Cert.QUpRefIdeal.S2048x16x256 2
      [⟨Cert.QUpRefIdeal.S2048x16x192, (shapeCast Cert.QUpRefIdeal.S2048x16x192 (Host.dotGeneral Cert.QUpRefIdeal.dot_S2048x512_S512x3072_S2048x3072_1_0_0_1_n_n none a w) Cert.QUpRefIdeal.Gen.facts.shapeCasts_S2048x3072_S2048x16x192)⟩,
       ⟨Cert.QUpRefIdeal.S2048x16x64, (broadcastInDim Cert.QUpRefIdeal.S2048x16x64 ![] Cert.QUpRefIdeal.Gen.facts.bcast_S_S2048x16x64 (constant (F := Ideal) Cert.QUpRefIdeal.S_ .f32 0x00000000#32))⟩]
      Cert.QUpRefIdeal.Gen.facts.concatenates_S2048x16x192_S2048x16x64_S2048x16x256_d2) Cert.QUpRefIdeal.Gen.facts.shapeCasts_S2048x16x256_S2048x4096
      : FVec Ideal Cert.QUpRefIdeal.S2048x4096 .f32) (ix2 i n) = prod a w i n := by
  unfold prod f z
  pointwise
  by_cases h : n.val % 256 < 192
  · simp only [dif_pos h]
  · simp only [dif_neg h, mul_zero, Finset.sum_const_zero]

end QUp
end
-- ==== Proof.QUpDx.lean ====
/- The gradient of the latents through the queries: the accumulated tiles are the gradient times the weight, a head's columns padded with zeros. -/
module

public import proofs.«01_k».proof.Proof.Latents
public import proofs.«01_k».proof.Proof.Gen.QUpDxIdeal.Value
public import proofs.«01_k».proof.Proof.Gen.QUpDxRefIdeal.Run
public import Idealize.ShloMosaic.Lib.Pipeline.ValueKit

@[expose] public section
noncomputable section
namespace QUpDx
open Idealize.ShloMosaic Idealize.SL.Sem Idealize.ShloMosaic.TcCoe Cert.QUpDxIdeal Cert.QUpDxIdeal.Gen Cert.QUpDxIdeal.Value Attn
open scoped BigOperators

/-! ## One grid point -/

theorem pay1_apply (r : Fin 1024) (n : Fin 256) : k0_pay1 (F := Ideal) (ix2 r n) = 0 := by unfold k0_pay1; pointwise

theorem pay2_apply (a : FVec Ideal S1024x1024 .bf16) (b : FVec Ideal S1x1024x256 .bf16) (s : FVec Ideal S1024x256 .f32) (r : Fin 1024) (n : Fin 256) :
    k0_pay2 a b s (ix2 r n) = s (ix2 r n) + ∑ x : Fin 1024, a (ix2 r x) * b (ix3 0 x n) := by
  unfold k0_pay2
  pointwise

section Cases
variable (dev : Dev nD) (i : grid0.Coords) (arg3 : Memref sig .tc .vmem S1024x1024 .bf16) (harg3 : arg3.IsWhole) (arg4 : Memref sig .tc .vmem S1x1024x256 .bf16) (harg4 : arg4.IsWhole) (arg5 : Memref sig .tc .vmem S1024x256 .f32) (harg5 : arg5.IsWhole) (arg6 : Memref sig .tc .vmem S1024x256 .f32) (harg6 : arg6.IsWhole)
  (x0 : Vec Ideal S1024x1024 .bf16) (x1 : Vec Ideal S1x1024x256 .bf16) (s : Vec Ideal S1024x256 .f32)

theorem s_A (h0 : cond0_0 i) (h1 : ¬cond0_1 i) : sout0_A_0 dev i arg3 harg3 arg4 harg4 arg5 harg5 arg6 harg6 h0 h1 x0 x1
    = k0_pay2 x0 x1 (k0_pay1 (F := Ideal)) := by frame_out

theorem s_B (h0 : ¬cond0_0 i) (h1 : ¬cond0_1 i) : sout0_B_0 dev i arg3 harg3 arg4 harg4 arg5 harg5 arg6 harg6 h0 h1 x0 x1 s = k0_pay2 x0 x1 s := by frame_out

theorem s_C (h0 : ¬cond0_0 i) (h1 : cond0_1 i) : sout0_C_0 dev i arg3 harg3 arg4 harg4 arg5 harg5 arg6 harg6 h0 h1 x0 x1 s = k0_pay2 x0 x1 s := by frame_out

theorem o_C (h0 : ¬cond0_0 i) (h1 : cond0_1 i) : out0_C_2 dev i arg3 harg3 arg4 harg4 arg5 harg5 arg6 harg6 h0 h1 x0 x1 s = k0_pay2 x0 x1 s := by frame_out
end Cases

/-! ## The padded weight -/

/-- The weight, with 64 zero columns behind the 192 of a head. -/
def z (w : FVec Ideal S512x3072 .f32) (k : Fin 512) (n : Fin 4096) : EReal :=
  if h : n.val % 256 < 192 then w (ix2 k ⟨n.val / 256 * 192 + n.val % 256, by omega⟩) else 0

/-- The padded weight's columns as rows, by head. -/
def heads (w : FVec Ideal S512x3072 .f32) : FVec Ideal S16x256x512 .f32 :=
  concatenate S16x256x512 1 [⟨S16x192x512, (shapeCast S16x192x512 (transpose S3072x512 [1, 0] w transposes_S512x3072_S3072x512_1_0) shapeCasts_S3072x512_S16x192x512)⟩,
    ⟨S16x64x512, (broadcastInDim S16x64x512 ![] bcast_S_S16x64x512 (constant (F := Ideal) S_ .f32 0x00000000#32))⟩] concatenates_S16x192x512_S16x64x512_S16x256x512_d1

theorem heads_apply (w : FVec Ideal S512x3072 .f32) (n : Fin 4096) (k : Fin 512) :
    heads w (ix3 ⟨n.val / 256, by omega⟩ ⟨n.val % 256, by omega⟩ k) = z w k n := by
  unfold heads z
  pointwise

/-- The weights as the kernel reads them: the padded weight transposed above the rows of another, their columns in two halves. -/
def split (w : FVec Ideal S512x3072 .f32) (o : FVec Ideal S4096x512 .f32) : FVec Ideal S2x8192x256 .bf16 :=
  transpose S2x8192x256 [1, 0, 2] (shapeCast S8192x2x256 (truncf .bf16 (concatenate S8192x512 0
    [⟨S4096x512, (shapeCast S4096x512 (heads w) shapeCasts_S16x256x512_S4096x512)⟩, ⟨S4096x512, o⟩]
    concatenates_S4096x512_S4096x512_S8192x512_d0) bitsLt_bf16_f32) shapeCasts_S8192x512_S8192x2x256) transposes_S8192x2x256_S2x8192x256_1_0_2

theorem split_at (w : FVec Ideal S512x3072 .f32) (o : FVec Ideal S4096x512 .f32) (h : Fin 2) (n : Fin 4096) (x : Fin 256) :
    split w o (ix3 h ⟨n.val, by omega⟩ x) = z w ⟨h.val * 256 + x.val, by omega⟩ n := by
  rw [← heads_apply]
  unfold split
  pointwise

/-! ## The padded gradient -/

/-- The gradient, with 64 zero columns behind the 192 of a head. -/
def y (a : FVec Ideal S2048x16x192 .f32) (i : Fin 2048) (n : Fin 4096) : EReal :=
  if h : n.val % 256 < 192 then a (ix3 i ⟨n.val / 256, by omega⟩ ⟨n.val % 256, h⟩) else 0

theorem padded_apply (a : FVec Ideal S2048x16x192 .f32) (i : Fin 2048) (n : Fin 4096) :
    (truncf (F := Ideal) .bf16 (shapeCast S2048x4096 (concatenate S2048x16x256 2 [⟨S2048x16x192, a⟩,
      ⟨S2048x16x64, (broadcastInDim S2048x16x64 ![] bcast_S_S2048x16x64 (constant (F := Ideal) S_ .f32 0x00000000#32))⟩] concatenates_S2048x16x192_S2048x16x64_S2048x16x256_d2)
      shapeCasts_S2048x16x256_S2048x4096) bitsLt_bf16_f32 (ix2 i n) : EReal) = y a i n := by
  unfold y
  pointwise

/-! ## The blocks -/

variable (m : (ℓ : Loc nD τ sig) → Buf (Elt Ideal) ℓ) (c : Dev nD) (t : Fin cfg0.N)

/-- The gradient, the weight, and the rows that lie behind its own. -/
abbrev a : FVec Ideal S2048x16x192 .f32 := m ((c.tc : Thread nD τ).loc main_arg0)
abbrev w : FVec Ideal S512x3072 .f32 := m ((c.tc : Thread nD τ).loc main_arg1)
abbrev rest : FVec Ideal S4096x512 .f32 := m ((c.tc : Thread nD τ).loc main_arg2)

theorem idx0 : ∀ t : Fin cfg0.N, win0_0.index t = ![t.val / 8, t.val % 4] := (by decide +kernel : ∀ t : Fin grid0.N, _)
theorem idx1 : ∀ t : Fin cfg0.N, win0_1.index t = ![t.val / 4 % 2, t.val % 4, 0] := (by decide +kernel : ∀ t : Fin grid0.N, _)

theorem tlt : t.val < 16 := lt_of_lt_of_eq t.isLt (show cfg0.N = 16 from N_0)

/-- The row, the column and the summand a point's entries stand at. -/
def row (r : Fin 1024) : Fin 2048 := ⟨t.val / 8 * 1024 + r.val, by have := tlt t; omega⟩
def coln (n : Fin 256) : Fin 512 := ⟨t.val / 4 % 2 * 256 + n.val, by omega⟩
def mid (x : Fin 1024) : Fin 4096 := ⟨1024 * (t.val % 4) + x.val, by omega⟩

theorem blk0 (r : Fin 1024) (x : Fin 1024) : iblk m c 0 t (ix2 r x) = y (a m c) (row t r) (mid t x) := by
  rw [show y (a m c) (row t r) (mid t x) = V m c main_v12 (ix2 (row t r) (mid t x)) from (padded_apply _ _ _).symm]
  blk_ext [iblk, idx0 t, row, mid]

theorem blk1 (x : Fin 1024) (n : Fin 256) : iblk m c 1 t (ix3 0 x n) = z (w m c) (coln t n) (mid t x) := by
  refine Eq.trans ?_ (split_at (w m c) (rest m c) ⟨t.val / 4 % 2, by omega⟩ (mid t x) n)
  rw [show split (w m c) (rest m c) = V m c main_v8 from rfl]
  blk_ext [iblk, idx1 t, mid]

/-! ## The fold -/

/-- A summand of an entry of the product, and the entry. -/
def f (a : FVec Ideal S2048x16x192 .f32) (w : FVec Ideal S512x3072 .f32) (i : Fin 2048) (n : Fin 512) (x : Fin 4096) : EReal := y a i x * z w n x
def prod (a : FVec Ideal S2048x16x192 .f32) (w : FVec Ideal S512x3072 .f32) (i : Fin 2048) (n : Fin 512) : EReal := ∑ x, f a w i n x

/-- What a point adds to the accumulator, over what it finds there. -/
theorem step (s : FVec Ideal S1024x256 .f32) (r : Fin 1024) (n : Fin 256) : k0_pay2 (iblk m c 0 t) (iblk m c 1 t) s (ix2 r n)
    = s (ix2 r n) + ∑ x : Fin 1024, f (a m c) (w m c) (row t r) (coln t n) (mid t x) :=
  (pay2_apply _ _ s r n).trans (congrArg _ (Finset.sum_congr rfl fun x _ => congrArg₂ (· * ·) (blk0 m c t r x) (blk1 m c t x n)))

/-- The accumulator after a point: the summands met so far. -/
theorem acc (k : ℕ) : ∀ t : Fin cfg0.N, t.val % 4 = k → ∀ (r : Fin 1024) (n : Fin 256),
    (outsAt0 m c t.val t.isLt).2 (ix2 r n) = ∑ j ∈ Finset.range (1024 * k + 1024), ext (f (a m c) (w m c) (row t r) (coln t n)) j := by
  induction k with
  | zero =>
    intro t e r n
    rw [outsAt0_A m c t e (by omega)]
    dsimp only
    rw [s_A, step, pay1_apply, zero_add, sum_ext_add _ _ _ (by decide)]
    simp only [mid, e]
    simp
  | succ k ih =>
    intro t e r n
    have hk : k + 1 < 4 := e ▸ Nat.mod_lt _ (by decide)
    let t' : Fin cfg0.N := ⟨t.val - 1, Nat.lt_of_le_of_lt (Nat.sub_le _ _) t.isLt⟩
    have hr : row t' r = row t r := Fin.ext (by show (t.val - 1) / 8 * 1024 + r.val = t.val / 8 * 1024 + r.val; omega)
    have hc : coln t' n = coln t n := Fin.ext (by show (t.val - 1) / 4 % 2 * 256 + n.val = t.val / 4 % 2 * 256 + n.val; omega)
    have h : (outsAt0 m c t.val t.isLt).2 (ix2 r n) = k0_pay2 (iblk m c 0 t) (iblk m c 1 t) (outsAt0 m c t'.val t'.isLt).2 (ix2 r n) := by
      by_cases h : t.val % 4 = 3
      · rw [outsAt0_C m c t (by omega) h]
        dsimp only
        rw [s_C]
      · rw [outsAt0_B m c t (by omega) h]
        dsimp only
        rw [s_B]
    rw [h, step, ih t' (by show (t.val - 1) % 4 = k; omega), hr, hc, sum_ext_add _ (1024 * (k + 1)) _ (by omega)]
    simp only [mid, e, Nat.mul_succ]

/-- At a run's last point the result holds the sum whole. -/
theorem last (t : Fin cfg0.N) (e : t.val % 4 = 3) (r : Fin 1024) (n : Fin 256) : (outsAt0 m c t.val t.isLt).1 (ix2 r n) = prod (a m c) (w m c) (row t r) (coln t n) := by
  have h : (outsAt0 m c t.val t.isLt).1 = (outsAt0 m c t.val t.isLt).2 := by
    rw [outsAt0_C m c t (by omega) e]
    dsimp only
    rw [s_C, o_C]
  rw [h, acc m c 3 t e]
  exact sum_ext _

theorem G2_eq (i : Fin 2048) (n : Fin 512) : G2 m c (ix2 i n) = prod (a m c) (w m c) i n := by
  have hp : 4 * (2 * (i.val / 1024 - 0) + 1 * (n.val / 256 - 0)) + 3 < cfg0.N := lt_of_lt_of_eq (by omega) (show 16 = cfg0.N from N_0.symm)
  let t : Fin cfg0.N := ⟨4 * (2 * (i.val / 1024 - 0) + 1 * (n.val / 256 - 0)) + 3, hp⟩
  have e : G2 m c (ix2 i n) = (outsAt0 m c t.val t.isLt).1 (ix2 ⟨i.val % 1024, by omega⟩ ⟨n.val % 256, by omega⟩) := by
    rw [outsAt0_sweep]
    exact (dif_pos hp).trans (congrArg _ (by funext a; fin_cases a <;> rfl))
  have e1 : t.val % 4 = 3 := by show (4 * (2 * (i.val / 1024 - 0) + 1 * (n.val / 256 - 0)) + 3) % 4 = 3; omega
  have h1 : row t ⟨i.val % 1024, by omega⟩ = i := Fin.ext (by
    show (4 * (2 * (i.val / 1024 - 0) + 1 * (n.val / 256 - 0)) + 3) / 8 * 1024 + i.val % 1024 = i.val; omega)
  have h2 : coln t ⟨n.val % 256, by omega⟩ = n := Fin.ext (by
    show (4 * (2 * (i.val / 1024 - 0) + 1 * (n.val / 256 - 0)) + 3) / 4 % 2 * 256 + n.val % 256 = n.val; omega)
  rw [e, last m c t e1, h1, h2]

/-! ## The reference -/

/-- The columns of the heads, and the columns with zeros between them. -/
theorem sum_heads (F : Fin 3072 → EReal) :
    (∑ n : Fin 4096, if h : n.val % 256 < 192 then F ⟨n.val / 256 * 192 + n.val % 256, by omega⟩ else 0) = ∑ x, F x := by
  have hj : Function.Injective (fun x : Fin 3072 => (⟨x.val / 192 * 256 + x.val % 192, by omega⟩ : Fin 4096)) := fun x x' h => by
    have h := congrArg Fin.val h
    dsimp only at h
    exact Fin.ext (by omega)
  refine (Finset.sum_of_injOn (fun x : Fin 3072 => (⟨x.val / 192 * 256 + x.val % 192, by omega⟩ : Fin 4096)) (hj.injOn) (fun _ _ => Finset.mem_coe.mpr (Finset.mem_univ _)) (fun n _ h => ?_) (fun x _ => ?_)).symm
  · refine dif_neg fun h' => h ⟨⟨n.val / 256 * 192 + n.val % 256, by omega⟩, Finset.mem_coe.mpr (Finset.mem_univ _), Fin.ext ?_⟩
    show (n.val / 256 * 192 + n.val % 256) / 192 * 256 + (n.val / 256 * 192 + n.val % 256) % 192 = n.val
    omega
  · refine ((dif_pos (show (x.val / 192 * 256 + x.val % 192) % 256 < 192 by omega)).trans (congrArg F (Fin.ext ?_))).symm
    show (x.val / 192 * 256 + x.val % 192) / 256 * 192 + (x.val / 192 * 256 + x.val % 192) % 256 = x.val
    omega

/-- The gradient's columns in one row. -/
def flat (a : FVec Ideal S2048x16x192 .f32) (i : Fin 2048) (x : Fin 3072) : EReal := a (ix3 i ⟨x.val / 192, by omega⟩ ⟨x.val % 192, by omega⟩)

theorem f_eq (a : FVec Ideal S2048x16x192 .f32) (w : FVec Ideal S512x3072 .f32) (i : Fin 2048) (k : Fin 512) (n : Fin 4096) :
    f a w i k n = if h : n.val % 256 < 192 then flat a i ⟨n.val / 256 * 192 + n.val % 256, by omega⟩ * w (ix2 k ⟨n.val / 256 * 192 + n.val % 256, by omega⟩) else 0 := by
  unfold f y z
  by_cases h : n.val % 256 < 192
  · rw [dif_pos h, dif_pos h, dif_pos h]
    refine congrArg (· * _) ?_
    show a _ = a _
    congr 1
    have h1 : n.val / 256 = (n.val / 256 * 192 + n.val % 256) / 192 := by omega
    have h2 : n.val % 256 = (n.val / 256 * 192 + n.val % 256) % 192 := by omega
    exact congrArg₂ (ix3 i) (Fin.ext h1) (Fin.ext h2)
  · rw [dif_neg h, dif_neg h, dif_neg h, mul_zero]

theorem ref_apply (a : FVec Ideal Cert.QUpDxRefIdeal.S2048x16x192 .f32) (w : FVec Ideal Cert.QUpDxRefIdeal.S512x3072 .f32) (i : Fin 2048) (n : Fin 512) :
    Host.dotGeneral Cert.QUpDxRefIdeal.dot_S2048x3072_S512x3072_S2048x512_1_1_0_0_n_n none (shapeCast Cert.QUpDxRefIdeal.S2048x3072 a Cert.QUpDxRefIdeal.Gen.facts.shapeCasts_S2048x16x192_S2048x3072) w (ix2 i n) = prod a w i n := by
  unfold prod
  refine Eq.trans ?_ ((Finset.sum_congr rfl fun x _ => f_eq a w i n x).trans (sum_heads (fun x => flat a i x * w (ix2 n x)))).symm
  unfold flat
  pointwise

end QUpDx
end
-- ==== Proof.QUpDw.lean ====
/- The gradient of the latents' weight into queries, over its rows of the array of gradients. -/
module

public import proofs.«01_k».proof.Proof.Latents
public import proofs.«01_k».proof.Proof.Gen.QUpDwIdeal.Value
public import proofs.«01_k».proof.Proof.Gen.QUpDwRefIdeal.Run

@[expose] public section
noncomputable section
namespace QUpDw
open Idealize.ShloMosaic Idealize.SL.Sem Idealize.ShloMosaic.TcCoe Cert.QUpDwIdeal Cert.QUpDwIdeal.Gen Cert.QUpDwIdeal.Value Latents
open Dw (mid ext3)
open scoped BigOperators

/-! ## One grid point, and a run of two -/

theorem pay1_apply (r : Fin 1024) (n : Fin 256) : k0_pay1 (F := Ideal) (ix2 r n) = 0 := by unfold k0_pay1; pointwise

theorem pay2_apply (a : FVec Ideal S1024x1024 .bf16) (b : FVec Ideal S1024x256 .bf16) (s : FVec Ideal S1024x256 .f32) (r : Fin 1024) (n : Fin 256) :
    k0_pay2 a b s (ix2 r n) = s (ix2 r n) + ∑ x : Fin 1024, a (ix2 x r) * b (ix2 x n) := by
  unfold k0_pay2
  pointwise

theorem pay3_apply (s : FVec Ideal S1024x256 .f32) (z : Fin 1) (r : Fin 1024) (n : Fin 256) : k0_pay3 s (ix3 z r n) = s (ix2 r n) := by
  unfold k0_pay3
  pointwise

theorem both (d : FVec Ideal ⟨2, ![2048, 4096]⟩ .f32) (h : FVec Ideal ⟨2, ![2048, 512]⟩ .f32)
    (A : ∀ t : ℕ, t < 16 → FVec Ideal ⟨2, ![1024, 1024]⟩ .bf16) (hA : ∀ t ht x r, A t ht (ix2 x r) = d (ix2 (mid t x) (row t ht r)))
    (B : ∀ t : ℕ, t < 16 → FVec Ideal ⟨2, ![1024, 256]⟩ .bf16) (hB : ∀ t ht x n, B t ht (ix2 x n) = h (ix2 (mid t x) (coln t n)))
    (t : ℕ) (ht : t < 16) (ht' : t - 1 < 16) (e : t % 2 = 1) (z : Fin 1) (r : Fin 1024) (n : Fin 256) :
    (k0_pay3 (F := Ideal) (k0_pay2 (F := Ideal) (A t ht) (B t ht) (k0_pay2 (F := Ideal) (A (t - 1) ht') (B (t - 1) ht') (k0_pay1 (F := Ideal)))) (ix3 z r n) : EReal) = dw d h (row t ht r) (coln t n) := by
  rw [pay3_apply]
  exact total d h (fun a b s => k0_pay2 a b s) pay2_apply A hA B hB _ pay1_apply t ht ht' e r n

section Cases
variable (dev : Dev nD) (i : grid0.Coords) (arg3 : Memref sig .tc .vmem S1024x1024 .bf16) (harg3 : arg3.IsWhole) (arg4 : Memref sig .tc .vmem S1024x256 .bf16) (harg4 : arg4.IsWhole) (arg6 : Memref sig .tc .vmem S1x1024x256 .f32) (harg6 : arg6.IsWhole) (arg7 : Memref sig .tc .vmem S1024x256 .f32) (harg7 : arg7.IsWhole)
  (x0 : Vec Ideal S1024x1024 .bf16) (x1 : Vec Ideal S1024x256 .bf16) (s : Vec Ideal S1024x256 .f32)

theorem s_A (h0 : cond0_0 i) (h1 : ¬cond0_1 i) : sout0_A_0 dev i arg3 harg3 arg4 harg4 arg6 harg6 arg7 harg7 h0 h1 x0 x1
    = k0_pay2 x0 x1 (k0_pay1 (F := Ideal)) := by frame_out

theorem o_B (h0 : ¬cond0_0 i) (h1 : cond0_1 i) : out0_B_2 dev i arg3 harg3 arg4 harg4 arg6 harg6 arg7 harg7 h0 h1 x0 x1 s
    = k0_pay3 (k0_pay2 x0 x1 s) := by frame_out
end Cases

/-! ## The padded gradient -/

/-- The gradient, with 64 zero columns behind the 192 of a head. -/
def pad (a : FVec Ideal S2048x16x192 .f32) (i : Fin 2048) (n : Fin 4096) : EReal :=
  if h : n.val % 256 < 192 then a (ix3 i ⟨n.val / 256, by omega⟩ ⟨n.val % 256, h⟩) else 0

/-- The padded gradient, a head's columns side by side. -/
def y (a : FVec Ideal S2048x16x192 .f32) : FVec Ideal S2048x4096 .f32 :=
  shapeCast S2048x4096 (concatenate S2048x16x256 2 [⟨S2048x16x192, a⟩,
    ⟨S2048x16x64, (broadcastInDim S2048x16x64 ![] bcast_S_S2048x16x64 (constant (F := Ideal) S_ .f32 0x00000000#32))⟩] concatenates_S2048x16x192_S2048x16x64_S2048x16x256_d2)
    shapeCasts_S2048x16x256_S2048x4096

theorem y_apply (a : FVec Ideal S2048x16x192 .f32) (i : Fin 2048) (n : Fin 4096) : y a (ix2 i n) = pad a i n := by
  unfold y pad
  pointwise

/-! ## The blocks -/

variable (m : (ℓ : Loc nD τ sig) → Buf (Elt Ideal) ℓ) (c : Dev nD) (t : Fin cfg0.N)

/-- The array of gradients and the two operands. -/
abbrev g : FVec Ideal S2x8192x256 .f32 := m ((c.tc : Thread nD τ).loc main_arg0)
abbrev a : FVec Ideal S2048x16x192 .f32 := m ((c.tc : Thread nD τ).loc main_arg1)
abbrev b : FVec Ideal S2048x512 .f32 := m ((c.tc : Thread nD τ).loc main_arg2)

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 2 % 2, t.val / 4 + 4 * 0, 0] := (by decide +kernel : ∀ t : Fin grid0.N, _)

theorem tlt : t.val < 16 := lt_of_lt_of_eq t.isLt (show cfg0.N = 16 from N_0)

theorem blk0 (x r : Fin 1024) : iblk m c 0 t (ix2 x r) = y (a m c) (ix2 (mid t.val x) (row t.val (tlt t) r)) := by
  rw [show y (a m c) (ix2 (mid t.val x) (row t.val (tlt t) r)) = V m c main_v3 (ix2 (mid t.val x) (row t.val (tlt t) r)) from rfl]
  blk_ext [iblk, idx0 t, row, mid]

theorem blk1 (x : Fin 1024) (n : Fin 256) : iblk m c 1 t (ix2 x n) = b m c (ix2 (mid t.val x) (coln t.val n)) := by
  rw [show b m c (ix2 (mid t.val x) (coln t.val n)) = V m c main_v4 (ix2 (mid t.val x) (coln t.val n)) from rfl]
  blk_ext [iblk, idx1 t, coln, mid]

/-! ## The array -/

/-- What is written back at the end of a run. -/
theorem last (e : t.val % 2 = 1) (z : Fin 1) (r : Fin 1024) (n : Fin 256) :
    (outsAt0 m c t.val t.isLt).1 (ix3 z r n) = dw (y (a m c)) (b m c) (row t.val (tlt t) r) (coln t.val n) := by
  have hN {k : ℕ} (hk : k < 16) : k < cfg0.N := lt_of_lt_of_eq hk (show 16 = cfg0.N from N_0.symm)
  have ht' : t.val - 1 < 16 := Nat.lt_of_le_of_lt (Nat.sub_le _ _) (tlt t)
  rw [outsAt0_B m c t (by omega) e]
  dsimp only
  rw [o_B, outsAt0_A m c ⟨t.val - 1, hN ht'⟩ (by show (t.val - 1) % 2 = 0; omega) (by show ¬(t.val - 1) % 2 = 1; omega)]
  dsimp only
  rw [s_A]
  exact both (y (a m c)) (b m c) (fun k hk => iblk m c 0 ⟨k, hN hk⟩) (fun k hk => blk0 m c ⟨k, hN hk⟩)
    (fun k hk => iblk m c 1 ⟨k, hN hk⟩) (fun k hk => blk1 m c ⟨k, hN hk⟩) t.val (tlt t) ht' e z r n

theorem flushed_eq (hf : (cfg0.win 2).flush t = true) :
    (dats m 0 c).flushed 2 t = ((cfg0.win 2).blk t).view.read (Elt Ideal) (Latents.G (y (a m c)) (b m c) (g m c) 0) := by
  rw [flushed2]
  funext y
  refine (congrArg (outsAt0 m c t.val t.isLt).1 (eq_ix3 ((cfg0.win 2).xinj (grid0.coords t) y))).trans
    ((last m c t ((flush0_2 t).mp hf) _ _ _).trans (Latents.G_at _ _ _ 0 t.val (tlt t) _ y fun k => ?_).symm)
  rw [← idx2 t]
  exact rfl

theorem mem_blk (i : S2x8192x256.Idx) : i ∈ ((cfg0.win 2).blk t).view.set ↔
    ∀ a : Fin 3, win0_2.index t a * S1x1024x256.size a ≤ (i a).val ∧ (i a).val < win0_2.index t a * S1x1024x256.size a + S1x1024x256.size a := by
  show i ∈ ((View.whole main_v5).slice (win0_2.rect t)).set ↔ _
  rw [View.set_slice_whole, Rect.mem_set_unit]
  exact Iff.rfl

theorem final : (dats m 0 c).arrAt 2 cfg0.N = Latents.G (y (a m c)) (b m c) (g m c) 0 := by
  funext i
  rw [(dats m 0 c).arrAt_eq_piecewise 2 _ (flushed_eq m c), congrFun (A_eq m c 2) i]
  exact piece (y (a m c)) (b m c) (g m c) 0 N_0 _ flush0_2 _ idx2 i _ fun t => mem_blk t i

/-! ## The reference -/

/-- The reference's product, by head. -/
def heads (a : FVec Ideal Cert.QUpDwRefIdeal.S2048x16x192 .f32) (b : FVec Ideal Cert.QUpDwRefIdeal.S2048x512 .f32) : FVec Ideal Cert.QUpDwRefIdeal.S512x16x256 .f32 :=
  concatenate Cert.QUpDwRefIdeal.S512x16x256 2 [⟨Cert.QUpDwRefIdeal.S512x16x192, (shapeCast Cert.QUpDwRefIdeal.S512x16x192 (transpose Cert.QUpDwRefIdeal.S512x3072 [1, 0] (Host.dotGeneral Cert.QUpDwRefIdeal.dot_S2048x3072_S2048x512_S3072x512_0_0_1_1_n_n none (shapeCast Cert.QUpDwRefIdeal.S2048x3072 a Cert.QUpDwRefIdeal.Gen.facts.shapeCasts_S2048x16x192_S2048x3072) b) Cert.QUpDwRefIdeal.Gen.facts.transposes_S3072x512_S512x3072_1_0) Cert.QUpDwRefIdeal.Gen.facts.shapeCasts_S512x3072_S512x16x192)⟩,
    ⟨Cert.QUpDwRefIdeal.S512x16x64, (broadcastInDim Cert.QUpDwRefIdeal.S512x16x64 ![] Cert.QUpDwRefIdeal.Gen.facts.bcast_S_S512x16x64 (constant (F := Ideal) Cert.QUpDwRefIdeal.S_ .f32 0x00000000#32))⟩] Cert.QUpDwRefIdeal.Gen.facts.concatenates_S512x16x192_S512x16x64_S512x16x256_d2

theorem heads_apply (a : FVec Ideal Cert.QUpDwRefIdeal.S2048x16x192 .f32) (b : FVec Ideal Cert.QUpDwRefIdeal.S2048x512 .f32) (i : Fin 4096) (n : Fin 512) :
    heads a b (ix3 n ⟨i.val / 256, by omega⟩ ⟨i.val % 256, by omega⟩) = dw (y a) b i n := by
  unfold heads dw f
  simp only [y_apply]
  unfold pad
  pointwise
  by_cases h : i.val % 256 < 192
  · simp only [dif_pos h]
    refine Finset.sum_congr rfl fun x _ => congrArg (· * _) (congrArg a ?_)
    have h1 : (i.val / 256 * 192 + i.val % 256) / 192 = i.val / 256 := by omega
    have h2 : (i.val / 256 * 192 + i.val % 256) % 192 = i.val % 256 := by omega
    exact congrArg₂ (ix3 x) (Fin.ext h1) (Fin.ext h2)
  · simp only [dif_neg h, zero_mul, Finset.sum_const_zero]

/-- The reference's array. -/
theorem ref_eq (g : FVec Ideal Cert.QUpDwRefIdeal.S2x8192x256 .f32) (a : FVec Ideal Cert.QUpDwRefIdeal.S2048x16x192 .f32) (b : FVec Ideal Cert.QUpDwRefIdeal.S2048x512 .f32) :
    (concatenate Cert.QUpDwRefIdeal.S2x8192x256 1 [⟨Cert.QUpDwRefIdeal.S2x4096x256, (transpose Cert.QUpDwRefIdeal.S2x4096x256 [0, 2, 1] (shapeCast Cert.QUpDwRefIdeal.S2x256x4096 (heads a b) Cert.QUpDwRefIdeal.Gen.facts.shapeCasts_S512x16x256_S2x256x4096) Cert.QUpDwRefIdeal.Gen.facts.transposes_S2x256x4096_S2x4096x256_0_2_1)⟩,
      ⟨Cert.QUpDwRefIdeal.S2x4096x256, (extractStridedSlice Cert.QUpDwRefIdeal.S2x4096x256 ![0, 4096, 0] g Cert.QUpDwRefIdeal.Gen.facts.slices_S2x8192x256_S2x4096x256_0_4096_0)⟩]
      Cert.QUpDwRefIdeal.Gen.facts.concatenates_S2x4096x256_S2x4096x256_S2x8192x256_d1 : FVec Ideal Cert.QUpDwRefIdeal.S2x8192x256 .f32) = Latents.G (y a) b g 0 := by
  refine eq_G (y a) b g 0 _ (fun z k n h => ?_) (fun z k n h => ?_)
  · rw [← heads_apply]
    pointwise
    rw [dif_pos (by omega)]
  · pointwise
    rw [dif_neg (by omega)]
    exact congrArg (fun r => g (ix3 z r n)) (Fin.ext (by show 4096 + _ = k.val; omega))

end QUpDw
end
-- ==== Proof.lean ====
/- The certificate: the frames of the kernels and of their ideal programs and references, the idealizations, and the equality of
   the arrays at the extended reals. Of the attention, Row, Spec and Ideals hold the mathematics; Ref reads the reference; Tile, Cases
   and Step the kernel's body; Blocks and Fold its results; Pre the precondition. Of the feed-forward networks, Gate, DownDx and UpDx
   hold the gradients of the inputs, Dw and the three modules of its name's ending those of the weights, Ffn and its three the products.
   Of the mixer, MergeBwd and Rows hold the merge's gradient, MixIn and MixInDx the input product and its gradient, WideDw and the MixDw
   and OutDw modules the gradients of the weights, Outs and the Out modules the output products and their gradients.
   Of the latents' products, Latents holds the array of gradients, the KvUp and QUp modules the products and their gradients. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.GateDw
public import proofs.«01_k».proof.Proof.Gen.GateDw.Skeleton
public import proofs.«01_k».proof.Proof.Gen.GateDw.Launch
public import proofs.«01_k».proof.Proof.Gen.GateDw.Points
public import proofs.«01_k».proof.Proof.Gen.GateDw.Frame
public import proofs.«01_k».proof.Proof.Gen.GateDwIdeal
public import proofs.«01_k».proof.Proof.Gen.GateDwIdeal.Skeleton
public import proofs.«01_k».proof.Proof.Gen.GateDwIdeal.Launch
public import proofs.«01_k».proof.Proof.Gen.GateDwIdeal.Points
public import proofs.«01_k».proof.Proof.Gen.GateDwIdeal.Frame
public import proofs.«01_k».proof.Proof.Gen.GateDwIdeal.Value
public import proofs.«01_k».proof.Proof.Gen.GateDwRefIdeal
public import proofs.«01_k».proof.Proof.Gen.GateDwRefIdeal.Run
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.FfnGate
public import proofs.«01_k».proof.Proof.Gen.FfnGate.Skeleton
public import proofs.«01_k».proof.Proof.Gen.FfnGate.Launch
public import proofs.«01_k».proof.Proof.Gen.FfnGate.Points
public import proofs.«01_k».proof.Proof.Gen.FfnGate.Frame
public import proofs.«01_k».proof.Proof.Gen.FfnGateIdeal
public import proofs.«01_k».proof.Proof.Gen.FfnGateIdeal.Skeleton
public import proofs.«01_k».proof.Proof.Gen.FfnGateIdeal.Launch
public import proofs.«01_k».proof.Proof.Gen.FfnGateIdeal.Points
public import proofs.«01_k».proof.Proof.Gen.FfnGateIdeal.Frame
public import proofs.«01_k».proof.Proof.Gen.FfnGateIdeal.Value
public import proofs.«01_k».proof.Proof.Gen.FfnGateRefIdeal
public import proofs.«01_k».proof.Proof.Gen.FfnGateRefIdeal.Run
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Ref
public import proofs.«01_k».proof.Proof.Fold
public import proofs.«01_k».proof.Proof.Pre
public import proofs.«01_k».proof.Proof.Gate
public import proofs.«01_k».proof.Proof.DownDx
public import proofs.«01_k».proof.Proof.UpDx
public import proofs.«01_k».proof.Proof.GateDw
public import proofs.«01_k».proof.Proof.UpDw
public import proofs.«01_k».proof.Proof.DownDw
public import proofs.«01_k».proof.Proof.FfnGate
public import proofs.«01_k».proof.Proof.FfnUp
public import proofs.«01_k».proof.Proof.FfnDown
public import Idealize.ShloMosaic.Adequacy
public import Idealize.ShloMosaic.Init
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.MixInDx
public import proofs.«01_k».proof.Proof.Gen.MixInDx.Skeleton
public import proofs.«01_k».proof.Proof.Gen.MixInDx.Launch
public import proofs.«01_k».proof.Proof.Gen.MixInDx.Points
public import proofs.«01_k».proof.Proof.Gen.MixInDx.Frame
public import proofs.«01_k».proof.Proof.Gen.MixInDxIdeal
public import proofs.«01_k».proof.Proof.Gen.MixInDxIdeal.Skeleton
public import proofs.«01_k».proof.Proof.Gen.MixInDxIdeal.Launch
public import proofs.«01_k».proof.Proof.Gen.MixInDxIdeal.Points
public import proofs.«01_k».proof.Proof.Gen.MixInDxIdeal.Frame
public import proofs.«01_k».proof.Proof.Gen.MixInDxIdeal.Value
public import proofs.«01_k».proof.Proof.Gen.MixInDxRefIdeal
public import proofs.«01_k».proof.Proof.Gen.MixInDxRefIdeal.Run
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.MixDw1
public import proofs.«01_k».proof.Proof.Gen.MixDw1.Skeleton
public import proofs.«01_k».proof.Proof.Gen.MixDw1.Launch
public import proofs.«01_k».proof.Proof.Gen.MixDw1.Points
public import proofs.«01_k».proof.Proof.Gen.MixDw1.Frame
public import proofs.«01_k».proof.Proof.Gen.MixDw1Ideal
public import proofs.«01_k».proof.Proof.Gen.MixDw1Ideal.Skeleton
public import proofs.«01_k».proof.Proof.Gen.MixDw1Ideal.Launch
public import proofs.«01_k».proof.Proof.Gen.MixDw1Ideal.Points
public import proofs.«01_k».proof.Proof.Gen.MixDw1Ideal.Frame
public import proofs.«01_k».proof.Proof.Gen.MixDw1Ideal.Value
public import proofs.«01_k».proof.Proof.Gen.MixDw1RefIdeal
public import proofs.«01_k».proof.Proof.Gen.MixDw1RefIdeal.Run
public import proofs.«01_k».proof.Proof.Gen.MixDw0
public import proofs.«01_k».proof.Proof.Gen.MixDw0.Skeleton
public import proofs.«01_k».proof.Proof.Gen.MixDw0.Launch
public import proofs.«01_k».proof.Proof.Gen.MixDw0.Points
public import proofs.«01_k».proof.Proof.Gen.MixDw0.Frame
public import proofs.«01_k».proof.Proof.Gen.MixDw0Ideal
public import proofs.«01_k».proof.Proof.Gen.MixDw0Ideal.Skeleton
public import proofs.«01_k».proof.Proof.Gen.MixDw0Ideal.Launch
public import proofs.«01_k».proof.Proof.Gen.MixDw0Ideal.Points
public import proofs.«01_k».proof.Proof.Gen.MixDw0Ideal.Frame
public import proofs.«01_k».proof.Proof.Gen.MixDw0Ideal.Value
public import proofs.«01_k».proof.Proof.Gen.MixDw0RefIdeal
public import proofs.«01_k».proof.Proof.Gen.MixDw0RefIdeal.Run
public import proofs.«01_k».proof.Proof.Gen.MixDw2
public import proofs.«01_k».proof.Proof.Gen.MixDw2.Skeleton
public import proofs.«01_k».proof.Proof.Gen.MixDw2.Launch
public import proofs.«01_k».proof.Proof.Gen.MixDw2.Points
public import proofs.«01_k».proof.Proof.Gen.MixDw2.Frame
public import proofs.«01_k».proof.Proof.Gen.MixDw2Ideal
public import proofs.«01_k».proof.Proof.Gen.MixDw2Ideal.Skeleton
public import proofs.«01_k».proof.Proof.Gen.MixDw2Ideal.Launch
public import proofs.«01_k».proof.Proof.Gen.MixDw2Ideal.Points
public import proofs.«01_k».proof.Proof.Gen.MixDw2Ideal.Frame
public import proofs.«01_k».proof.Proof.Gen.MixDw2Ideal.Value
public import proofs.«01_k».proof.Proof.Gen.MixDw2RefIdeal
public import proofs.«01_k».proof.Proof.Gen.MixDw2RefIdeal.Run
public import proofs.«01_k».proof.Proof.Gen.MixDw3
public import proofs.«01_k».proof.Proof.Gen.MixDw3.Skeleton
public import proofs.«01_k».proof.Proof.Gen.MixDw3.Launch
public import proofs.«01_k».proof.Proof.Gen.MixDw3.Points
public import proofs.«01_k».proof.Proof.Gen.MixDw3.Frame
public import proofs.«01_k».proof.Proof.Gen.MixDw3Ideal
public import proofs.«01_k».proof.Proof.Gen.MixDw3Ideal.Skeleton
public import proofs.«01_k».proof.Proof.Gen.MixDw3Ideal.Launch
public import proofs.«01_k».proof.Proof.Gen.MixDw3Ideal.Points
public import proofs.«01_k».proof.Proof.Gen.MixDw3Ideal.Frame
public import proofs.«01_k».proof.Proof.Gen.MixDw3Ideal.Value
public import proofs.«01_k».proof.Proof.Gen.MixDw3RefIdeal
public import proofs.«01_k».proof.Proof.Gen.MixDw3RefIdeal.Run
public import proofs.«01_k».proof.Proof.Gen.MixDw4
public import proofs.«01_k».proof.Proof.Gen.MixDw4.Skeleton
public import proofs.«01_k».proof.Proof.Gen.MixDw4.Launch
public import proofs.«01_k».proof.Proof.Gen.MixDw4.Points
public import proofs.«01_k».proof.Proof.Gen.MixDw4.Frame
public import proofs.«01_k».proof.Proof.Gen.MixDw4Ideal
public import proofs.«01_k».proof.Proof.Gen.MixDw4Ideal.Skeleton
public import proofs.«01_k».proof.Proof.Gen.MixDw4Ideal.Launch
public import proofs.«01_k».proof.Proof.Gen.MixDw4Ideal.Points
public import proofs.«01_k».proof.Proof.Gen.MixDw4Ideal.Frame
public import proofs.«01_k».proof.Proof.Gen.MixDw4Ideal.Value
public import proofs.«01_k».proof.Proof.Gen.MixDw4RefIdeal
public import proofs.«01_k».proof.Proof.Gen.MixDw4RefIdeal.Run
public import proofs.«01_k».proof.Proof.Gen.MixDw5
public import proofs.«01_k».proof.Proof.Gen.MixDw5.Skeleton
public import proofs.«01_k».proof.Proof.Gen.MixDw5.Launch
public import proofs.«01_k».proof.Proof.Gen.MixDw5.Points
public import proofs.«01_k».proof.Proof.Gen.MixDw5.Frame
public import proofs.«01_k».proof.Proof.Gen.MixDw5Ideal
public import proofs.«01_k».proof.Proof.Gen.MixDw5Ideal.Skeleton
public import proofs.«01_k».proof.Proof.Gen.MixDw5Ideal.Launch
public import proofs.«01_k».proof.Proof.Gen.MixDw5Ideal.Points
public import proofs.«01_k».proof.Proof.Gen.MixDw5Ideal.Frame
public import proofs.«01_k».proof.Proof.Gen.MixDw5Ideal.Value
public import proofs.«01_k».proof.Proof.Gen.MixDw5RefIdeal
public import proofs.«01_k».proof.Proof.Gen.MixDw5RefIdeal.Run
public import proofs.«01_k».proof.Proof.Gen.MixDw6
public import proofs.«01_k».proof.Proof.Gen.MixDw6.Skeleton
public import proofs.«01_k».proof.Proof.Gen.MixDw6.Launch
public import proofs.«01_k».proof.Proof.Gen.MixDw6.Points
public import proofs.«01_k».proof.Proof.Gen.MixDw6.Frame
public import proofs.«01_k».proof.Proof.Gen.MixDw6Ideal
public import proofs.«01_k».proof.Proof.Gen.MixDw6Ideal.Skeleton
public import proofs.«01_k».proof.Proof.Gen.MixDw6Ideal.Launch
public import proofs.«01_k».proof.Proof.Gen.MixDw6Ideal.Points
public import proofs.«01_k».proof.Proof.Gen.MixDw6Ideal.Frame
public import proofs.«01_k».proof.Proof.Gen.MixDw6Ideal.Value
public import proofs.«01_k».proof.Proof.Gen.MixDw6RefIdeal
public import proofs.«01_k».proof.Proof.Gen.MixDw6RefIdeal.Run
public import proofs.«01_k».proof.Proof.Gen.MlaOutDw
public import proofs.«01_k».proof.Proof.Gen.MlaOutDw.Skeleton
public import proofs.«01_k».proof.Proof.Gen.MlaOutDw.Launch
public import proofs.«01_k».proof.Proof.Gen.MlaOutDw.Points
public import proofs.«01_k».proof.Proof.Gen.MlaOutDw.Frame
public import proofs.«01_k».proof.Proof.Gen.MlaOutDwIdeal
public import proofs.«01_k».proof.Proof.Gen.MlaOutDwIdeal.Skeleton
public import proofs.«01_k».proof.Proof.Gen.MlaOutDwIdeal.Launch
public import proofs.«01_k».proof.Proof.Gen.MlaOutDwIdeal.Points
public import proofs.«01_k».proof.Proof.Gen.MlaOutDwIdeal.Frame
public import proofs.«01_k».proof.Proof.Gen.MlaOutDwIdeal.Value
public import proofs.«01_k».proof.Proof.Gen.MlaOutDwRefIdeal
public import proofs.«01_k».proof.Proof.Gen.MlaOutDwRefIdeal.Run
public import proofs.«01_k».proof.Proof.Gen.HgrnOutDw
public import proofs.«01_k».proof.Proof.Gen.HgrnOutDw.Skeleton
public import proofs.«01_k».proof.Proof.Gen.HgrnOutDw.Launch
public import proofs.«01_k».proof.Proof.Gen.HgrnOutDw.Points
public import proofs.«01_k».proof.Proof.Gen.HgrnOutDw.Frame
public import proofs.«01_k».proof.Proof.Gen.HgrnOutDwIdeal
public import proofs.«01_k».proof.Proof.Gen.HgrnOutDwIdeal.Skeleton
public import proofs.«01_k».proof.Proof.Gen.HgrnOutDwIdeal.Launch
public import proofs.«01_k».proof.Proof.Gen.HgrnOutDwIdeal.Points
public import proofs.«01_k».proof.Proof.Gen.HgrnOutDwIdeal.Frame
public import proofs.«01_k».proof.Proof.Gen.HgrnOutDwIdeal.Value
public import proofs.«01_k».proof.Proof.Gen.HgrnOutDwRefIdeal
public import proofs.«01_k».proof.Proof.Gen.HgrnOutDwRefIdeal.Run
public import proofs.«01_k».proof.Proof.Gen.MixOutDw
public import proofs.«01_k».proof.Proof.Gen.MixOutDw.Skeleton
public import proofs.«01_k».proof.Proof.Gen.MixOutDw.Launch
public import proofs.«01_k».proof.Proof.Gen.MixOutDw.Points
public import proofs.«01_k».proof.Proof.Gen.MixOutDw.Frame
public import proofs.«01_k».proof.Proof.Gen.MixOutDwIdeal
public import proofs.«01_k».proof.Proof.Gen.MixOutDwIdeal.Skeleton
public import proofs.«01_k».proof.Proof.Gen.MixOutDwIdeal.Launch
public import proofs.«01_k».proof.Proof.Gen.MixOutDwIdeal.Points
public import proofs.«01_k».proof.Proof.Gen.MixOutDwIdeal.Frame
public import proofs.«01_k».proof.Proof.Gen.MixOutDwIdeal.Value
public import proofs.«01_k».proof.Proof.Gen.MixOutDwRefIdeal
public import proofs.«01_k».proof.Proof.Gen.MixOutDwRefIdeal.Run
public import proofs.«01_k».proof.Proof.Gen.MlaOutDx
public import proofs.«01_k».proof.Proof.Gen.MlaOutDx.Skeleton
public import proofs.«01_k».proof.Proof.Gen.MlaOutDx.Launch
public import proofs.«01_k».proof.Proof.Gen.MlaOutDx.Points
public import proofs.«01_k».proof.Proof.Gen.MlaOutDx.Frame
public import proofs.«01_k».proof.Proof.Gen.MlaOutDxIdeal
public import proofs.«01_k».proof.Proof.Gen.MlaOutDxIdeal.Skeleton
public import proofs.«01_k».proof.Proof.Gen.MlaOutDxIdeal.Launch
public import proofs.«01_k».proof.Proof.Gen.MlaOutDxIdeal.Points
public import proofs.«01_k».proof.Proof.Gen.MlaOutDxIdeal.Frame
public import proofs.«01_k».proof.Proof.Gen.MlaOutDxIdeal.Value
public import proofs.«01_k».proof.Proof.Gen.MlaOutDxRefIdeal
public import proofs.«01_k».proof.Proof.Gen.MlaOutDxRefIdeal.Run
public import proofs.«01_k».proof.Proof.Gen.HgrnOutDx
public import proofs.«01_k».proof.Proof.Gen.HgrnOutDx.Skeleton
public import proofs.«01_k».proof.Proof.Gen.HgrnOutDx.Launch
public import proofs.«01_k».proof.Proof.Gen.HgrnOutDx.Points
public import proofs.«01_k».proof.Proof.Gen.HgrnOutDx.Frame
public import proofs.«01_k».proof.Proof.Gen.HgrnOutDxIdeal
public import proofs.«01_k».proof.Proof.Gen.HgrnOutDxIdeal.Skeleton
public import proofs.«01_k».proof.Proof.Gen.HgrnOutDxIdeal.Launch
public import proofs.«01_k».proof.Proof.Gen.HgrnOutDxIdeal.Points
public import proofs.«01_k».proof.Proof.Gen.HgrnOutDxIdeal.Frame
public import proofs.«01_k».proof.Proof.Gen.HgrnOutDxIdeal.Value
public import proofs.«01_k».proof.Proof.Gen.HgrnOutDxRefIdeal
public import proofs.«01_k».proof.Proof.Gen.HgrnOutDxRefIdeal.Run
public import proofs.«01_k».proof.Proof.Gen.MixOutDx
public import proofs.«01_k».proof.Proof.Gen.MixOutDx.Skeleton
public import proofs.«01_k».proof.Proof.Gen.MixOutDx.Launch
public import proofs.«01_k».proof.Proof.Gen.MixOutDx.Points
public import proofs.«01_k».proof.Proof.Gen.MixOutDx.Frame
public import proofs.«01_k».proof.Proof.Gen.MixOutDxIdeal
public import proofs.«01_k».proof.Proof.Gen.MixOutDxIdeal.Skeleton
public import proofs.«01_k».proof.Proof.Gen.MixOutDxIdeal.Launch
public import proofs.«01_k».proof.Proof.Gen.MixOutDxIdeal.Points
public import proofs.«01_k».proof.Proof.Gen.MixOutDxIdeal.Frame
public import proofs.«01_k».proof.Proof.Gen.MixOutDxIdeal.Value
public import proofs.«01_k».proof.Proof.Gen.MixOutDxRefIdeal
public import proofs.«01_k».proof.Proof.Gen.MixOutDxRefIdeal.Run
public import proofs.«01_k».proof.Proof.Gen.MlaOut
public import proofs.«01_k».proof.Proof.Gen.MlaOut.Skeleton
public import proofs.«01_k».proof.Proof.Gen.MlaOut.Launch
public import proofs.«01_k».proof.Proof.Gen.MlaOut.Points
public import proofs.«01_k».proof.Proof.Gen.MlaOut.Frame
public import proofs.«01_k».proof.Proof.Gen.MlaOutIdeal
public import proofs.«01_k».proof.Proof.Gen.MlaOutIdeal.Skeleton
public import proofs.«01_k».proof.Proof.Gen.MlaOutIdeal.Launch
public import proofs.«01_k».proof.Proof.Gen.MlaOutIdeal.Points
public import proofs.«01_k».proof.Proof.Gen.MlaOutIdeal.Frame
public import proofs.«01_k».proof.Proof.Gen.MlaOutIdeal.Value
public import proofs.«01_k».proof.Proof.Gen.MlaOutRefIdeal
public import proofs.«01_k».proof.Proof.Gen.MlaOutRefIdeal.Run
public import proofs.«01_k».proof.Proof.Gen.HgrnOut
public import proofs.«01_k».proof.Proof.Gen.HgrnOut.Skeleton
public import proofs.«01_k».proof.Proof.Gen.HgrnOut.Launch
public import proofs.«01_k».proof.Proof.Gen.HgrnOut.Points
public import proofs.«01_k».proof.Proof.Gen.HgrnOut.Frame
public import proofs.«01_k».proof.Proof.Gen.HgrnOutIdeal
public import proofs.«01_k».proof.Proof.Gen.HgrnOutIdeal.Skeleton
public import proofs.«01_k».proof.Proof.Gen.HgrnOutIdeal.Launch
public import proofs.«01_k».proof.Proof.Gen.HgrnOutIdeal.Points
public import proofs.«01_k».proof.Proof.Gen.HgrnOutIdeal.Frame
public import proofs.«01_k».proof.Proof.Gen.HgrnOutIdeal.Value
public import proofs.«01_k».proof.Proof.Gen.HgrnOutRefIdeal
public import proofs.«01_k».proof.Proof.Gen.HgrnOutRefIdeal.Run
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.MixInDx
public import proofs.«01_k».proof.Proof.MergeBwd
public import proofs.«01_k».proof.Proof.MixIn
public import proofs.«01_k».proof.Proof.MixDw0
public import proofs.«01_k».proof.Proof.MixDw1
public import proofs.«01_k».proof.Proof.MixDw2
public import proofs.«01_k».proof.Proof.MixDw3
public import proofs.«01_k».proof.Proof.MixDw4
public import proofs.«01_k».proof.Proof.MixDw5
public import proofs.«01_k».proof.Proof.MixDw6
public import proofs.«01_k».proof.Proof.MlaOutDw
public import proofs.«01_k».proof.Proof.HgrnOutDw
public import proofs.«01_k».proof.Proof.MixOutDw
public import proofs.«01_k».proof.Proof.MlaOutDx
public import proofs.«01_k».proof.Proof.HgrnOutDx
public import proofs.«01_k».proof.Proof.MixOutDx
public import proofs.«01_k».proof.Proof.MlaOut
public import proofs.«01_k».proof.Proof.HgrnOut
public import proofs.«01_k».proof.Proof.MixOut
public import proofs.«01_k».proof.Proof.Gen.KvUp
public import proofs.«01_k».proof.Proof.Gen.KvUp.Skeleton
public import proofs.«01_k».proof.Proof.Gen.KvUp.Launch
public import proofs.«01_k».proof.Proof.Gen.KvUp.Points
public import proofs.«01_k».proof.Proof.Gen.KvUp.Frame
public import proofs.«01_k».proof.Proof.Gen.KvUpIdeal
public import proofs.«01_k».proof.Proof.Gen.KvUpIdeal.Skeleton
public import proofs.«01_k».proof.Proof.Gen.KvUpIdeal.Launch
public import proofs.«01_k».proof.Proof.Gen.KvUpIdeal.Points
public import proofs.«01_k».proof.Proof.Gen.KvUpIdeal.Frame
public import proofs.«01_k».proof.Proof.Gen.KvUpIdeal.Value
public import proofs.«01_k».proof.Proof.Gen.KvUpRefIdeal
public import proofs.«01_k».proof.Proof.Gen.KvUpRefIdeal.Run
public import proofs.«01_k».proof.Proof.Gen.KvUpDx
public import proofs.«01_k».proof.Proof.Gen.KvUpDx.Skeleton
public import proofs.«01_k».proof.Proof.Gen.KvUpDx.Launch
public import proofs.«01_k».proof.Proof.Gen.KvUpDx.Points
public import proofs.«01_k».proof.Proof.Gen.KvUpDx.Frame
public import proofs.«01_k».proof.Proof.Gen.KvUpDxIdeal
public import proofs.«01_k».proof.Proof.Gen.KvUpDxIdeal.Skeleton
public import proofs.«01_k».proof.Proof.Gen.KvUpDxIdeal.Launch
public import proofs.«01_k».proof.Proof.Gen.KvUpDxIdeal.Points
public import proofs.«01_k».proof.Proof.Gen.KvUpDxIdeal.Frame
public import proofs.«01_k».proof.Proof.Gen.KvUpDxIdeal.Value
public import proofs.«01_k».proof.Proof.Gen.KvUpDxRefIdeal
public import proofs.«01_k».proof.Proof.Gen.KvUpDxRefIdeal.Run
public import proofs.«01_k».proof.Proof.Gen.KvUpDw
public import proofs.«01_k».proof.Proof.Gen.KvUpDw.Skeleton
public import proofs.«01_k».proof.Proof.Gen.KvUpDw.Launch
public import proofs.«01_k».proof.Proof.Gen.KvUpDw.Points
public import proofs.«01_k».proof.Proof.Gen.KvUpDw.Frame
public import proofs.«01_k».proof.Proof.Gen.KvUpDwIdeal
public import proofs.«01_k».proof.Proof.Gen.KvUpDwIdeal.Skeleton
public import proofs.«01_k».proof.Proof.Gen.KvUpDwIdeal.Launch
public import proofs.«01_k».proof.Proof.Gen.KvUpDwIdeal.Points
public import proofs.«01_k».proof.Proof.Gen.KvUpDwIdeal.Frame
public import proofs.«01_k».proof.Proof.Gen.KvUpDwIdeal.Value
public import proofs.«01_k».proof.Proof.Gen.KvUpDwRefIdeal
public import proofs.«01_k».proof.Proof.Gen.KvUpDwRefIdeal.Run
public import proofs.«01_k».proof.Proof.Gen.QUp
public import proofs.«01_k».proof.Proof.Gen.QUp.Skeleton
public import proofs.«01_k».proof.Proof.Gen.QUp.Launch
public import proofs.«01_k».proof.Proof.Gen.QUp.Points
public import proofs.«01_k».proof.Proof.Gen.QUp.Frame
public import proofs.«01_k».proof.Proof.Gen.QUpIdeal
public import proofs.«01_k».proof.Proof.Gen.QUpIdeal.Skeleton
public import proofs.«01_k».proof.Proof.Gen.QUpIdeal.Launch
public import proofs.«01_k».proof.Proof.Gen.QUpIdeal.Points
public import proofs.«01_k».proof.Proof.Gen.QUpIdeal.Frame
public import proofs.«01_k».proof.Proof.Gen.QUpIdeal.Value
public import proofs.«01_k».proof.Proof.Gen.QUpRefIdeal
public import proofs.«01_k».proof.Proof.Gen.QUpRefIdeal.Run
public import proofs.«01_k».proof.Proof.Gen.QUpDx
public import proofs.«01_k».proof.Proof.Gen.QUpDx.Skeleton
public import proofs.«01_k».proof.Proof.Gen.QUpDx.Launch
public import proofs.«01_k».proof.Proof.Gen.QUpDx.Points
public import proofs.«01_k».proof.Proof.Gen.QUpDx.Frame
public import proofs.«01_k».proof.Proof.Gen.QUpDxIdeal
public import proofs.«01_k».proof.Proof.Gen.QUpDxIdeal.Skeleton
public import proofs.«01_k».proof.Proof.Gen.QUpDxIdeal.Launch
public import proofs.«01_k».proof.Proof.Gen.QUpDxIdeal.Points
public import proofs.«01_k».proof.Proof.Gen.QUpDxIdeal.Frame
public import proofs.«01_k».proof.Proof.Gen.QUpDxIdeal.Value
public import proofs.«01_k».proof.Proof.Gen.QUpDxRefIdeal
public import proofs.«01_k».proof.Proof.Gen.QUpDxRefIdeal.Run
public import proofs.«01_k».proof.Proof.Gen.QUpDw
public import proofs.«01_k».proof.Proof.Gen.QUpDw.Skeleton
public import proofs.«01_k».proof.Proof.Gen.QUpDw.Launch
public import proofs.«01_k».proof.Proof.Gen.QUpDw.Points
public import proofs.«01_k».proof.Proof.Gen.QUpDw.Frame
public import proofs.«01_k».proof.Proof.Gen.QUpDwIdeal
public import proofs.«01_k».proof.Proof.Gen.QUpDwIdeal.Skeleton
public import proofs.«01_k».proof.Proof.Gen.QUpDwIdeal.Launch
public import proofs.«01_k».proof.Proof.Gen.QUpDwIdeal.Points
public import proofs.«01_k».proof.Proof.Gen.QUpDwIdeal.Frame
public import proofs.«01_k».proof.Proof.Gen.QUpDwIdeal.Value
public import proofs.«01_k».proof.Proof.Gen.QUpDwRefIdeal
public import proofs.«01_k».proof.Proof.Gen.QUpDwRefIdeal.Run
public import proofs.«01_k».proof.Proof.KvUp
public import proofs.«01_k».proof.Proof.KvUpDx
public import proofs.«01_k».proof.Proof.KvUpDw
public import proofs.«01_k».proof.Proof.QUp
public import proofs.«01_k».proof.Proof.QUpDx
public import proofs.«01_k».proof.Proof.QUpDw

@[expose] public section

noncomputable section

namespace Cert.Proof

open Idealize.ShloMosaic Idealize.ShloMosaic.TcCoe Idealize.SL.Sem

/-- The three arrays the kernel leaves are the reference's, under the precondition and on equal arguments. -/
theorem attn_value : Cert.algebraic_KernelIdeal_ReferenceIdeal_pre_finite_scores (hKernelIdeal := Cert.KernelIdeal.Gen.facts)
    (hReferenceIdeal := Cert.ReferenceIdeal.Gen.facts) (hPre_finite_scores := Attn.preFacts) := by
  intro m g m' g' hp hag
  have hA (c) : (Attn.kargs m c).Fin := Attn.fin_of_pre m c hp
  have ha (c) : Attn.Ref.args m' c = Attn.kargs m c := by
    obtain ⟨h0, h1, h2, h3, h4, h5⟩ := hag c
    unfold Attn.Ref.args Attn.kargs
    congr 1
  refine ⟨fun c => Cert.KernelIdeal.Value.G4 m c, fun c => Cert.KernelIdeal.Value.G5 m c, fun c => Cert.KernelIdeal.Value.G6 m c,
    Cert.KernelIdeal.Value.run m g, ?_⟩
  refine (θ_run Cert.ReferenceIdeal.defs _ _).mono (fun r h c => ?_) (Cert.ReferenceIdeal.Value.run m' g')
  obtain ⟨h0, h1, h2, hk⟩ := h c
  refine ⟨h0.trans ?_, h1.trans ?_, h2.trans ?_, hk⟩
  · refine (Attn.Ref.res0 m' c).trans ?_
    rw [ha c]
    exact Attn.ext2 fun q J => (Attn.Ref.rQ_apply (hA c) q J).trans (Attn.G4_eq m c (hA c) q J).symm
  · refine (Attn.Ref.res1 m' c).trans ?_
    rw [ha c]
    exact Attn.ext2 fun q J => (Attn.Ref.rKV_apply (hA c) q J).trans (Attn.G5_eq m c (hA c) q J).symm
  · refine (Attn.Ref.res2 m' c).trans ?_
    rw [ha c]
    exact Attn.ext2 fun q J => (Attn.Ref.rKR_apply (hA c) q J).trans (Attn.G6_eq m c (hA c) q J).symm

/-- The two arrays the kernel leaves are the reference's, where the gradient into a gate's product is a number. -/
theorem down_value : Cert.algebraic_DownDxIdeal_DownDxRefIdeal_pre_finite_down (hDownDxIdeal := Cert.DownDxIdeal.Gen.facts)
    (hDownDxRefIdeal := Cert.DownDxRefIdeal.Gen.facts) (hPre_finite_down := DownDx.preFacts) := by
  intro m g m' g' hp hag
  refine ⟨fun c => Cert.DownDxIdeal.Value.G4 m c, fun c => Cert.DownDxIdeal.Value.G5 m c, Cert.DownDxIdeal.Value.run m g, ?_⟩
  refine (θ_run Cert.DownDxRefIdeal.defs _ _).mono (fun r h c => ?_) (Cert.DownDxRefIdeal.Value.run m' g')
  obtain ⟨h0, h1, hk⟩ := h c
  obtain ⟨e0, e1, e2, e3⟩ := hag c
  refine ⟨h0.trans ?_, h1.trans ?_, hk⟩
  · rw [e0, e1, e2, e3]
    refine Attn.ext2 fun i n => (DownDx.rg_apply _ _ _ _ i n).trans (Eq.trans ?_ (DownDx.G4_eq m c i n).symm)
    rw [DownDx.dot_apply]
    exact (DownDx.gate_eq (DownDx.num_of_pre m c hp i n) _).symm
  · rw [e0, e1, e2]
    refine Attn.ext2 fun i n => (DownDx.ru_apply _ _ _ i n).trans (Eq.trans ?_ (DownDx.G5_eq m c i n).symm)
    rw [DownDx.dot_apply]
    exact mul_comm _ _

/-- The array the kernel leaves is the reference's. -/
theorem up_value : Cert.algebraic_UpDxIdeal_UpDxRefIdeal (hUpDxIdeal := Cert.UpDxIdeal.Gen.facts) (hUpDxRefIdeal := Cert.UpDxRefIdeal.Gen.facts) := by
  intro m g m' g' _ hag
  refine ⟨fun c => Cert.UpDxIdeal.Value.G4 m c, Cert.UpDxIdeal.Value.run m g, ?_⟩
  refine (θ_run Cert.UpDxRefIdeal.defs _ _).mono (fun r h c => ?_) (Cert.UpDxRefIdeal.Value.run m' g')
  obtain ⟨h0, hk⟩ := h c
  obtain ⟨e0, e1, e2, e3⟩ := hag c
  refine ⟨h0.trans ?_, hk⟩
  rw [e0, e1, e2, e3]
  exact Attn.ext2 fun i n => (UpDx.ref_apply _ _ _ _ i n).trans (UpDx.G4_eq m c i n).symm

/-- A weight's gradient: the array that each of the three kernels leaves is its reference's. -/
theorem gate_value : Cert.algebraic_GateDwIdeal_GateDwRefIdeal (hGateDwIdeal := Cert.GateDwIdeal.Gen.facts) (hGateDwRefIdeal := Cert.GateDwRefIdeal.Gen.facts) := by
  intro m g m' g' _ hag
  refine ⟨fun c => Dw.G (GateDw.a m c) (GateDw.b m c) (GateDw.g m c) 0, (θ_run Cert.GateDwIdeal.defs _ _).mono (fun r h c => ⟨(h c).1.trans (GateDw.final m c), (h c).2⟩)
    (Cert.GateDwIdeal.Value.run_blocks m g), ?_⟩
  refine (θ_run Cert.GateDwRefIdeal.defs _ _).mono (fun r h c => ?_) (Cert.GateDwRefIdeal.Value.run m' g')
  obtain ⟨h0, hk⟩ := h c
  obtain ⟨e0, e1, e2⟩ := hag c
  refine ⟨h0.trans ?_, hk⟩
  rw [e0, e1, e2]
  exact GateDw.ref_eq _ _ _
theorem up_dw_value : Cert.algebraic_UpDwIdeal_UpDwRefIdeal (hUpDwIdeal := Cert.UpDwIdeal.Gen.facts) (hUpDwRefIdeal := Cert.UpDwRefIdeal.Gen.facts) := by
  intro m g m' g' _ hag
  refine ⟨fun c => Dw.G (UpDw.a m c) (UpDw.b m c) (UpDw.g m c) 4, (θ_run Cert.UpDwIdeal.defs _ _).mono (fun r h c => ⟨(h c).1.trans (UpDw.final m c), (h c).2⟩)
    (Cert.UpDwIdeal.Value.run_blocks m g), ?_⟩
  refine (θ_run Cert.UpDwRefIdeal.defs _ _).mono (fun r h c => ?_) (Cert.UpDwRefIdeal.Value.run m' g')
  obtain ⟨h0, hk⟩ := h c
  obtain ⟨e0, e1, e2⟩ := hag c
  refine ⟨h0.trans ?_, hk⟩
  rw [e0, e1, e2]
  exact UpDw.ref_eq _ _ _
theorem down_dw_value : Cert.algebraic_DownDwIdeal_DownDwRefIdeal (hDownDwIdeal := Cert.DownDwIdeal.Gen.facts) (hDownDwRefIdeal := Cert.DownDwRefIdeal.Gen.facts) := by
  intro m g m' g' _ hag
  refine ⟨fun c => Dw.G (DownDw.a m c) (DownDw.b m c) (DownDw.g m c) 8, (θ_run Cert.DownDwIdeal.defs _ _).mono (fun r h c => ⟨(h c).1.trans (DownDw.final m c), (h c).2⟩)
    (Cert.DownDwIdeal.Value.run_blocks m g), ?_⟩
  refine (θ_run Cert.DownDwRefIdeal.defs _ _).mono (fun r h c => ?_) (Cert.DownDwRefIdeal.Value.run m' g')
  obtain ⟨h0, hk⟩ := h c
  obtain ⟨e0, e1, e2⟩ := hag c
  refine ⟨h0.trans ?_, hk⟩
  rw [e0, e1, e2]
  exact DownDw.ref_eq _ _ _

/-- The feed-forward's products: the arrays that the kernels leave are their references'. -/
theorem ffn_gate_value : Cert.algebraic_FfnGateIdeal_FfnGateRefIdeal (hFfnGateIdeal := Cert.FfnGateIdeal.Gen.facts) (hFfnGateRefIdeal := Cert.FfnGateRefIdeal.Gen.facts) := by
  intro m g m' g' _ hag
  refine ⟨fun c => Cert.FfnGateIdeal.Value.G2 m c, Cert.FfnGateIdeal.Value.run m g, ?_⟩
  refine (θ_run Cert.FfnGateRefIdeal.defs _ _).mono (fun r h c => ?_) (Cert.FfnGateRefIdeal.Value.run m' g')
  obtain ⟨h0, hk⟩ := h c
  obtain ⟨e0, e1⟩ := hag c
  refine ⟨h0.trans ?_, hk⟩
  rw [e0, e1]
  exact Attn.ext2 fun i n => (FfnGate.ref_apply _ _ i n).trans (FfnGate.G2_eq m c i n).symm
theorem ffn_down_value : Cert.algebraic_FfnDownIdeal_FfnDownRefIdeal (hFfnDownIdeal := Cert.FfnDownIdeal.Gen.facts) (hFfnDownRefIdeal := Cert.FfnDownRefIdeal.Gen.facts) := by
  intro m g m' g' _ hag
  refine ⟨fun c => Cert.FfnDownIdeal.Value.G2 m c, Cert.FfnDownIdeal.Value.run m g, ?_⟩
  refine (θ_run Cert.FfnDownRefIdeal.defs _ _).mono (fun r h c => ?_) (Cert.FfnDownRefIdeal.Value.run m' g')
  obtain ⟨h0, hk⟩ := h c
  obtain ⟨e0, e1⟩ := hag c
  refine ⟨h0.trans ?_, hk⟩
  rw [e0, e1]
  exact Attn.ext2 fun i n => (FfnDown.ref_apply _ _ i n).trans (FfnDown.G2_eq m c i n).symm
theorem ffn_up_value : Cert.algebraic_FfnUpIdeal_FfnUpRefIdeal (hFfnUpIdeal := Cert.FfnUpIdeal.Gen.facts) (hFfnUpRefIdeal := Cert.FfnUpRefIdeal.Gen.facts) := by
  intro m g m' g' _ hag
  refine ⟨fun c => Cert.FfnUpIdeal.Value.G3 m c, fun c => Cert.FfnUpIdeal.Value.G4 m c, Cert.FfnUpIdeal.Value.run m g, ?_⟩
  refine (θ_run Cert.FfnUpRefIdeal.defs _ _).mono (fun r h c => ?_) (Cert.FfnUpRefIdeal.Value.run m' g')
  obtain ⟨h0, h1, hk⟩ := h c
  obtain ⟨e0, e1, e2⟩ := hag c
  refine ⟨h0.trans ?_, h1.trans ?_, hk⟩
  · rw [e0, e1]
    exact Attn.ext2 fun i n => (FfnUp.ref_u _ _ i n).trans (FfnUp.G3_eq m c i n).symm
  · rw [e0, e1, e2]
    exact Attn.ext2 fun i n => (FfnUp.ref_a _ _ _ i n).trans (FfnUp.G4_eq m c i n).symm

/-! ## The mixer -/

theorem merge_bwd_value : Cert.algebraic_MergeBwdIdeal_MergeBwdRefIdeal (hMergeBwdIdeal := Cert.MergeBwdIdeal.Gen.facts) (hMergeBwdRefIdeal := Cert.MergeBwdRefIdeal.Gen.facts) := by
  intro m g m' g' _ hag
  refine ⟨fun c => Rows.G .bf16 (MergeBwd.f5 m c), fun c => Rows.G .bf16 (MergeBwd.f6 m c), fun c => Rows.G .bf16 (MergeBwd.f7 m c), fun c => Rows.G .bf16 (MergeBwd.f8 m c),
    (θ_run Cert.MergeBwdIdeal.defs _ _).mono (fun r h c => ⟨(h c).1.trans (MergeBwd.final5 m c), (h c).2.1.trans (MergeBwd.final6 m c), (h c).2.2.1.trans (MergeBwd.final7 m c),
      (h c).2.2.2.1.trans (MergeBwd.final8 m c), (h c).2.2.2.2⟩) (Cert.MergeBwdIdeal.Value.run_blocks m g), ?_⟩
  refine (θ_run Cert.MergeBwdRefIdeal.defs _ _).mono (fun r h c => ?_) (Cert.MergeBwdRefIdeal.Value.run m' g')
  obtain ⟨h0, h1, h2, h3, hk⟩ := h c
  obtain ⟨e0, e1, e2, e3⟩ := hag c
  refine ⟨h0.trans ?_, h1.trans ?_, h2.trans ?_, h3.trans ?_, hk⟩
  all_goals rw [e0, e1]
  · rw [e2]
    exact Attn.ext2 fun i n => (MergeBwd.ref_z _ _ _ i n).trans (by rw [MergeBwd.slice_a]; rfl)
  · rw [e3]
    exact Attn.ext2 fun i n => (MergeBwd.ref_z _ _ _ i n).trans (by rw [MergeBwd.slice_b]; rfl)
  · exact Attn.ext2 fun i n => (MergeBwd.ref_y _ _ i n).trans (by rw [MergeBwd.slice_a]; rfl)
  · exact Attn.ext2 fun i n => (MergeBwd.ref_y _ _ i n).trans (by rw [MergeBwd.slice_b]; rfl)

theorem mix_in_dx_value : Cert.algebraic_MixInDxIdeal_MixInDxRefIdeal (hMixInDxIdeal := Cert.MixInDxIdeal.Gen.facts) (hMixInDxRefIdeal := Cert.MixInDxRefIdeal.Gen.facts) := by
  intro m g m' g' _ hag
  refine ⟨fun c => Cert.MixInDxIdeal.Value.G14 m c, Cert.MixInDxIdeal.Value.run m g, ?_⟩
  refine (θ_run Cert.MixInDxRefIdeal.defs _ _).mono (fun r h c => ?_) (Cert.MixInDxRefIdeal.Value.run m' g')
  obtain ⟨h0, hk⟩ := h c
  obtain ⟨e0, e1, e2, e3, e4, e5, e6, e7, e8⟩ := hag c
  refine ⟨h0.trans ?_, hk⟩
  rw [e0, e1, e2, e3, e4, e5, e6, e7]
  exact Attn.ext2 fun i n => (MixInDx.ref_apply m c i n).trans (MixInDx.G14_eq m c i n).symm

theorem mix_in_value : Cert.algebraic_MixInIdeal_MixInRefIdeal (hMixInIdeal := Cert.MixInIdeal.Gen.facts) (hMixInRefIdeal := Cert.MixInRefIdeal.Gen.facts) := by
  intro m g m' g' _ hag
  refine ⟨fun c => Cert.MixInIdeal.Value.G2 m c, Cert.MixInIdeal.Value.run m g, ?_⟩
  refine (θ_run Cert.MixInRefIdeal.defs _ _).mono (fun r h c => ?_) (Cert.MixInRefIdeal.Value.run m' g')
  obtain ⟨h0, hk⟩ := h c
  obtain ⟨e0, e1, e2⟩ := hag c
  refine ⟨h0.trans ?_, hk⟩
  rw [e0, e1]
  exact Attn.ext2 fun i n => (MixIn.ref_apply _ _ i n).trans (MixIn.G2_eq m c i n).symm

theorem mix_dw0_value : Cert.algebraic_MixDw0Ideal_MixDw0RefIdeal (hMixDw0Ideal := Cert.MixDw0Ideal.Gen.facts) (hMixDw0RefIdeal := Cert.MixDw0RefIdeal.Gen.facts) := by
  intro m g m' g' _ hag
  refine ⟨fun c => WideDw.G (MixDw0.a m c) (MixDw0.b m c) (MixDw0.g m c) 0, (θ_run Cert.MixDw0Ideal.defs _ _).mono (fun r h c => ⟨(h c).1.trans (MixDw0.final m c), (h c).2⟩)
    (Cert.MixDw0Ideal.Value.run_blocks m g), ?_⟩
  refine (θ_run Cert.MixDw0RefIdeal.defs _ _).mono (fun r h c => ?_) (Cert.MixDw0RefIdeal.Value.run m' g')
  obtain ⟨h0, hk⟩ := h c
  obtain ⟨e0, e1, e2⟩ := hag c
  refine ⟨h0.trans ?_, hk⟩
  rw [e0, e1, e2]
  exact MixDw0.ref_eq _ _ _

theorem mix_dw1_value : Cert.algebraic_MixDw1Ideal_MixDw1RefIdeal (hMixDw1Ideal := Cert.MixDw1Ideal.Gen.facts) (hMixDw1RefIdeal := Cert.MixDw1RefIdeal.Gen.facts) := by
  intro m g m' g' _ hag
  refine ⟨fun c => WideDw.G (MixDw1.a m c) (MixDw1.b m c) (MixDw1.g m c) 1, (θ_run Cert.MixDw1Ideal.defs _ _).mono (fun r h c => ⟨(h c).1.trans (MixDw1.final m c), (h c).2⟩)
    (Cert.MixDw1Ideal.Value.run_blocks m g), ?_⟩
  refine (θ_run Cert.MixDw1RefIdeal.defs _ _).mono (fun r h c => ?_) (Cert.MixDw1RefIdeal.Value.run m' g')
  obtain ⟨h0, hk⟩ := h c
  obtain ⟨e0, e1, e2⟩ := hag c
  refine ⟨h0.trans ?_, hk⟩
  rw [e0, e1, e2]
  exact MixDw1.ref_eq _ _ _

theorem mix_dw2_value : Cert.algebraic_MixDw2Ideal_MixDw2RefIdeal (hMixDw2Ideal := Cert.MixDw2Ideal.Gen.facts) (hMixDw2RefIdeal := Cert.MixDw2RefIdeal.Gen.facts) := by
  intro m g m' g' _ hag
  refine ⟨fun c => WideDw.G (MixDw2.a m c) (MixDw2.b m c) (MixDw2.g m c) 2, (θ_run Cert.MixDw2Ideal.defs _ _).mono (fun r h c => ⟨(h c).1.trans (MixDw2.final m c), (h c).2⟩)
    (Cert.MixDw2Ideal.Value.run_blocks m g), ?_⟩
  refine (θ_run Cert.MixDw2RefIdeal.defs _ _).mono (fun r h c => ?_) (Cert.MixDw2RefIdeal.Value.run m' g')
  obtain ⟨h0, hk⟩ := h c
  obtain ⟨e0, e1, e2⟩ := hag c
  refine ⟨h0.trans ?_, hk⟩
  rw [e0, e1, e2]
  exact MixDw2.ref_eq _ _ _

theorem mix_dw3_value : Cert.algebraic_MixDw3Ideal_MixDw3RefIdeal (hMixDw3Ideal := Cert.MixDw3Ideal.Gen.facts) (hMixDw3RefIdeal := Cert.MixDw3RefIdeal.Gen.facts) := by
  intro m g m' g' _ hag
  refine ⟨fun c => WideDw.G (MixDw3.a m c) (MixDw3.b m c) (MixDw3.g m c) 3, (θ_run Cert.MixDw3Ideal.defs _ _).mono (fun r h c => ⟨(h c).1.trans (MixDw3.final m c), (h c).2⟩)
    (Cert.MixDw3Ideal.Value.run_blocks m g), ?_⟩
  refine (θ_run Cert.MixDw3RefIdeal.defs _ _).mono (fun r h c => ?_) (Cert.MixDw3RefIdeal.Value.run m' g')
  obtain ⟨h0, hk⟩ := h c
  obtain ⟨e0, e1, e2⟩ := hag c
  refine ⟨h0.trans ?_, hk⟩
  rw [e0, e1, e2]
  exact MixDw3.ref_eq _ _ _

theorem mix_dw4_value : Cert.algebraic_MixDw4Ideal_MixDw4RefIdeal (hMixDw4Ideal := Cert.MixDw4Ideal.Gen.facts) (hMixDw4RefIdeal := Cert.MixDw4RefIdeal.Gen.facts) := by
  intro m g m' g' _ hag
  refine ⟨fun c => WideDw.G (MixDw4.a m c) (MixDw4.b m c) (MixDw4.g m c) 4, (θ_run Cert.MixDw4Ideal.defs _ _).mono (fun r h c => ⟨(h c).1.trans (MixDw4.final m c), (h c).2⟩)
    (Cert.MixDw4Ideal.Value.run_blocks m g), ?_⟩
  refine (θ_run Cert.MixDw4RefIdeal.defs _ _).mono (fun r h c => ?_) (Cert.MixDw4RefIdeal.Value.run m' g')
  obtain ⟨h0, hk⟩ := h c
  obtain ⟨e0, e1, e2⟩ := hag c
  refine ⟨h0.trans ?_, hk⟩
  rw [e0, e1, e2]
  exact MixDw4.ref_eq _ _ _

theorem mix_dw5_value : Cert.algebraic_MixDw5Ideal_MixDw5RefIdeal (hMixDw5Ideal := Cert.MixDw5Ideal.Gen.facts) (hMixDw5RefIdeal := Cert.MixDw5RefIdeal.Gen.facts) := by
  intro m g m' g' _ hag
  refine ⟨fun c => WideDw.G (MixDw5.a m c) (MixDw5.b m c) (MixDw5.g m c) 5, (θ_run Cert.MixDw5Ideal.defs _ _).mono (fun r h c => ⟨(h c).1.trans (MixDw5.final m c), (h c).2⟩)
    (Cert.MixDw5Ideal.Value.run_blocks m g), ?_⟩
  refine (θ_run Cert.MixDw5RefIdeal.defs _ _).mono (fun r h c => ?_) (Cert.MixDw5RefIdeal.Value.run m' g')
  obtain ⟨h0, hk⟩ := h c
  obtain ⟨e0, e1, e2⟩ := hag c
  refine ⟨h0.trans ?_, hk⟩
  rw [e0, e1, e2]
  exact MixDw5.ref_eq _ _ _

theorem mix_dw6_value : Cert.algebraic_MixDw6Ideal_MixDw6RefIdeal (hMixDw6Ideal := Cert.MixDw6Ideal.Gen.facts) (hMixDw6RefIdeal := Cert.MixDw6RefIdeal.Gen.facts) := by
  intro m g m' g' _ hag
  refine ⟨fun c => WideDw.G (MixDw6.a m c) (MixDw6.b m c) (MixDw6.g m c) 6, (θ_run Cert.MixDw6Ideal.defs _ _).mono (fun r h c => ⟨(h c).1.trans (MixDw6.final m c), (h c).2⟩)
    (Cert.MixDw6Ideal.Value.run_blocks m g), ?_⟩
  refine (θ_run Cert.MixDw6RefIdeal.defs _ _).mono (fun r h c => ?_) (Cert.MixDw6RefIdeal.Value.run m' g')
  obtain ⟨h0, hk⟩ := h c
  obtain ⟨e0, e1, e2⟩ := hag c
  refine ⟨h0.trans ?_, hk⟩
  rw [e0, e1, e2]
  exact MixDw6.ref_eq _ _ _

theorem mla_out_dw_value : Cert.algebraic_MlaOutDwIdeal_MlaOutDwRefIdeal (hMlaOutDwIdeal := Cert.MlaOutDwIdeal.Gen.facts) (hMlaOutDwRefIdeal := Cert.MlaOutDwRefIdeal.Gen.facts) := by
  intro m g m' g' _ hag
  refine ⟨fun c => WideDw.G (MlaOutDw.a m c) (MlaOutDw.b m c) (MlaOutDw.g m c) 7, (θ_run Cert.MlaOutDwIdeal.defs _ _).mono (fun r h c => ⟨(h c).1.trans (MlaOutDw.final m c), (h c).2⟩)
    (Cert.MlaOutDwIdeal.Value.run_blocks m g), ?_⟩
  refine (θ_run Cert.MlaOutDwRefIdeal.defs _ _).mono (fun r h c => ?_) (Cert.MlaOutDwRefIdeal.Value.run m' g')
  obtain ⟨h0, hk⟩ := h c
  obtain ⟨e0, e1, e2⟩ := hag c
  refine ⟨h0.trans ?_, hk⟩
  rw [e0, e1, e2]
  exact MlaOutDw.ref_eq _ _ _

theorem hgrn_out_dw_value : Cert.algebraic_HgrnOutDwIdeal_HgrnOutDwRefIdeal (hHgrnOutDwIdeal := Cert.HgrnOutDwIdeal.Gen.facts) (hHgrnOutDwRefIdeal := Cert.HgrnOutDwRefIdeal.Gen.facts) := by
  intro m g m' g' _ hag
  refine ⟨fun c => WideDw.G (HgrnOutDw.a m c) (HgrnOutDw.b m c) (HgrnOutDw.g m c) 8, (θ_run Cert.HgrnOutDwIdeal.defs _ _).mono (fun r h c => ⟨(h c).1.trans (HgrnOutDw.final m c), (h c).2⟩)
    (Cert.HgrnOutDwIdeal.Value.run_blocks m g), ?_⟩
  refine (θ_run Cert.HgrnOutDwRefIdeal.defs _ _).mono (fun r h c => ?_) (Cert.HgrnOutDwRefIdeal.Value.run m' g')
  obtain ⟨h0, hk⟩ := h c
  obtain ⟨e0, e1, e2⟩ := hag c
  refine ⟨h0.trans ?_, hk⟩
  rw [e0, e1, e2]
  exact HgrnOutDw.ref_eq _ _ _

theorem mix_out_dw_value : Cert.algebraic_MixOutDwIdeal_MixOutDwRefIdeal (hMixOutDwIdeal := Cert.MixOutDwIdeal.Gen.facts) (hMixOutDwRefIdeal := Cert.MixOutDwRefIdeal.Gen.facts) := by
  intro m g m' g' _ hag
  refine ⟨fun c => WideDw.G (MixOutDw.a m c) (MixOutDw.b m c) (MixOutDw.g m c) 9, (θ_run Cert.MixOutDwIdeal.defs _ _).mono (fun r h c => ⟨(h c).1.trans (MixOutDw.final m c), (h c).2⟩)
    (Cert.MixOutDwIdeal.Value.run_blocks m g), ?_⟩
  refine (θ_run Cert.MixOutDwRefIdeal.defs _ _).mono (fun r h c => ?_) (Cert.MixOutDwRefIdeal.Value.run m' g')
  obtain ⟨h0, hk⟩ := h c
  obtain ⟨e0, e1, e2⟩ := hag c
  refine ⟨h0.trans ?_, hk⟩
  rw [e0, e1, e2]
  exact MixOutDw.ref_eq _ _ _

theorem mla_out_dx_value : Cert.algebraic_MlaOutDxIdeal_MlaOutDxRefIdeal (hMlaOutDxIdeal := Cert.MlaOutDxIdeal.Gen.facts) (hMlaOutDxRefIdeal := Cert.MlaOutDxRefIdeal.Gen.facts) := by
  intro m g m' g' _ hag
  refine ⟨fun c => Cert.MlaOutDxIdeal.Value.G2 m c, Cert.MlaOutDxIdeal.Value.run m g, ?_⟩
  refine (θ_run Cert.MlaOutDxRefIdeal.defs _ _).mono (fun r h c => ?_) (Cert.MlaOutDxRefIdeal.Value.run m' g')
  obtain ⟨h0, hk⟩ := h c
  obtain ⟨e0, e1, e2⟩ := hag c
  refine ⟨h0.trans ?_, hk⟩
  rw [e0, e2]
  exact Attn.ext2 fun i n => (MlaOutDx.ref_apply _ _ i n).trans (MlaOutDx.G2_eq m c i n).symm

theorem hgrn_out_dx_value : Cert.algebraic_HgrnOutDxIdeal_HgrnOutDxRefIdeal (hHgrnOutDxIdeal := Cert.HgrnOutDxIdeal.Gen.facts) (hHgrnOutDxRefIdeal := Cert.HgrnOutDxRefIdeal.Gen.facts) := by
  intro m g m' g' _ hag
  refine ⟨fun c => Cert.HgrnOutDxIdeal.Value.G2 m c, Cert.HgrnOutDxIdeal.Value.run m g, ?_⟩
  refine (θ_run Cert.HgrnOutDxRefIdeal.defs _ _).mono (fun r h c => ?_) (Cert.HgrnOutDxRefIdeal.Value.run m' g')
  obtain ⟨h0, hk⟩ := h c
  obtain ⟨e0, e1, e2⟩ := hag c
  refine ⟨h0.trans ?_, hk⟩
  rw [e0, e2]
  exact Attn.ext2 fun i n => (HgrnOutDx.ref_apply _ _ i n).trans (HgrnOutDx.G2_eq m c i n).symm

theorem mix_out_dx_value : Cert.algebraic_MixOutDxIdeal_MixOutDxRefIdeal (hMixOutDxIdeal := Cert.MixOutDxIdeal.Gen.facts) (hMixOutDxRefIdeal := Cert.MixOutDxRefIdeal.Gen.facts) := by
  intro m g m' g' _ hag
  refine ⟨fun c => Cert.MixOutDxIdeal.Value.G2 m c, Cert.MixOutDxIdeal.Value.run m g, ?_⟩
  refine (θ_run Cert.MixOutDxRefIdeal.defs _ _).mono (fun r h c => ?_) (Cert.MixOutDxRefIdeal.Value.run m' g')
  obtain ⟨h0, hk⟩ := h c
  obtain ⟨e0, e1, e2⟩ := hag c
  refine ⟨h0.trans ?_, hk⟩
  rw [e0, e2]
  exact Attn.ext2 fun i n => (MixOutDx.ref_apply _ _ i n).trans (MixOutDx.G2_eq m c i n).symm

theorem mla_out_value : Cert.algebraic_MlaOutIdeal_MlaOutRefIdeal (hMlaOutIdeal := Cert.MlaOutIdeal.Gen.facts) (hMlaOutRefIdeal := Cert.MlaOutRefIdeal.Gen.facts) := by
  intro m g m' g' _ hag
  refine ⟨fun c => Cert.MlaOutIdeal.Value.G2 m c, Cert.MlaOutIdeal.Value.run m g, ?_⟩
  refine (θ_run Cert.MlaOutRefIdeal.defs _ _).mono (fun r h c => ?_) (Cert.MlaOutRefIdeal.Value.run m' g')
  obtain ⟨h0, hk⟩ := h c
  obtain ⟨e0, e1, e2⟩ := hag c
  refine ⟨h0.trans ?_, hk⟩
  rw [e0, e2]
  exact Attn.ext2 fun i n => (MlaOut.ref_apply _ _ i n).trans (MlaOut.G2_eq m c i n).symm

theorem hgrn_out_value : Cert.algebraic_HgrnOutIdeal_HgrnOutRefIdeal (hHgrnOutIdeal := Cert.HgrnOutIdeal.Gen.facts) (hHgrnOutRefIdeal := Cert.HgrnOutRefIdeal.Gen.facts) := by
  intro m g m' g' _ hag
  refine ⟨fun c => Cert.HgrnOutIdeal.Value.G2 m c, Cert.HgrnOutIdeal.Value.run m g, ?_⟩
  refine (θ_run Cert.HgrnOutRefIdeal.defs _ _).mono (fun r h c => ?_) (Cert.HgrnOutRefIdeal.Value.run m' g')
  obtain ⟨h0, hk⟩ := h c
  obtain ⟨e0, e1, e2⟩ := hag c
  refine ⟨h0.trans ?_, hk⟩
  rw [e0, e2]
  exact Attn.ext2 fun i n => (HgrnOut.ref_apply _ _ i n).trans (HgrnOut.G2_eq m c i n).symm

theorem mix_out_value : Cert.algebraic_MixOutIdeal_MixOutRefIdeal (hMixOutIdeal := Cert.MixOutIdeal.Gen.facts) (hMixOutRefIdeal := Cert.MixOutRefIdeal.Gen.facts) := by
  intro m g m' g' _ hag
  refine ⟨fun c => Cert.MixOutIdeal.Value.G2 m c, Cert.MixOutIdeal.Value.run m g, ?_⟩
  refine (θ_run Cert.MixOutRefIdeal.defs _ _).mono (fun r h c => ?_) (Cert.MixOutRefIdeal.Value.run m' g')
  obtain ⟨h0, hk⟩ := h c
  obtain ⟨e0, e1, e2⟩ := hag c
  refine ⟨h0.trans ?_, hk⟩
  rw [e0, e2]
  exact Attn.ext2 fun i n => (MixOut.ref_apply _ _ i n).trans (MixOut.G2_eq m c i n).symm

/-! ## The latents' products -/

theorem kv_up_value : Cert.algebraic_KvUpIdeal_KvUpRefIdeal (hKvUpIdeal := Cert.KvUpIdeal.Gen.facts) (hKvUpRefIdeal := Cert.KvUpRefIdeal.Gen.facts) := by
  intro m g m' g' _ hag
  refine ⟨fun c => Cert.KvUpIdeal.Value.G2 m c, Cert.KvUpIdeal.Value.run m g, ?_⟩
  refine (θ_run Cert.KvUpRefIdeal.defs _ _).mono (fun r h c => ?_) (Cert.KvUpRefIdeal.Value.run m' g')
  obtain ⟨h0, hk⟩ := h c
  obtain ⟨e0, e1, e2⟩ := hag c
  refine ⟨h0.trans ?_, hk⟩
  rw [e0, e2]
  exact Attn.ext2 fun i n => (KvUp.ref_apply _ _ i n).trans (KvUp.G2_eq m c i n).symm

theorem kv_up_dx_value : Cert.algebraic_KvUpDxIdeal_KvUpDxRefIdeal (hKvUpDxIdeal := Cert.KvUpDxIdeal.Gen.facts) (hKvUpDxRefIdeal := Cert.KvUpDxRefIdeal.Gen.facts) := by
  intro m g m' g' _ hag
  refine ⟨fun c => Cert.KvUpDxIdeal.Value.G2 m c, Cert.KvUpDxIdeal.Value.run m g, ?_⟩
  refine (θ_run Cert.KvUpDxRefIdeal.defs _ _).mono (fun r h c => ?_) (Cert.KvUpDxRefIdeal.Value.run m' g')
  obtain ⟨h0, hk⟩ := h c
  obtain ⟨e0, e1, e2⟩ := hag c
  refine ⟨h0.trans ?_, hk⟩
  rw [e0, e2]
  exact Attn.ext2 fun i n => (KvUpDx.ref_apply _ _ i n).trans (KvUpDx.G2_eq m c i n).symm

theorem kv_up_dw_value : Cert.algebraic_KvUpDwIdeal_KvUpDwRefIdeal (hKvUpDwIdeal := Cert.KvUpDwIdeal.Gen.facts) (hKvUpDwRefIdeal := Cert.KvUpDwRefIdeal.Gen.facts) := by
  intro m g m' g' _ hag
  refine ⟨fun c => Latents.G (KvUpDw.a m c) (KvUpDw.b m c) (KvUpDw.g m c) 1, (θ_run Cert.KvUpDwIdeal.defs _ _).mono (fun r h c => ⟨(h c).1.trans (KvUpDw.final m c), (h c).2⟩)
    (Cert.KvUpDwIdeal.Value.run_blocks m g), ?_⟩
  refine (θ_run Cert.KvUpDwRefIdeal.defs _ _).mono (fun r h c => ?_) (Cert.KvUpDwRefIdeal.Value.run m' g')
  obtain ⟨h0, hk⟩ := h c
  obtain ⟨e0, e1, e2⟩ := hag c
  refine ⟨h0.trans ?_, hk⟩
  rw [e0, e1, e2]
  exact KvUpDw.ref_eq _ _ _

theorem q_up_value : Cert.algebraic_QUpIdeal_QUpRefIdeal (hQUpIdeal := Cert.QUpIdeal.Gen.facts) (hQUpRefIdeal := Cert.QUpRefIdeal.Gen.facts) := by
  intro m g m' g' _ hag
  refine ⟨fun c => Cert.QUpIdeal.Value.G2 m c, Cert.QUpIdeal.Value.run m g, ?_⟩
  refine (θ_run Cert.QUpRefIdeal.defs _ _).mono (fun r h c => ?_) (Cert.QUpRefIdeal.Value.run m' g')
  obtain ⟨h0, hk⟩ := h c
  obtain ⟨e0, e1, e2⟩ := hag c
  refine ⟨h0.trans ?_, hk⟩
  rw [e0, e1]
  exact Attn.ext2 fun i n => (QUp.ref_apply _ _ i n).trans (QUp.G2_eq m c i n).symm

theorem q_up_dx_value : Cert.algebraic_QUpDxIdeal_QUpDxRefIdeal (hQUpDxIdeal := Cert.QUpDxIdeal.Gen.facts) (hQUpDxRefIdeal := Cert.QUpDxRefIdeal.Gen.facts) := by
  intro m g m' g' _ hag
  refine ⟨fun c => Cert.QUpDxIdeal.Value.G2 m c, Cert.QUpDxIdeal.Value.run m g, ?_⟩
  refine (θ_run Cert.QUpDxRefIdeal.defs _ _).mono (fun r h c => ?_) (Cert.QUpDxRefIdeal.Value.run m' g')
  obtain ⟨h0, hk⟩ := h c
  obtain ⟨e0, e1, e2⟩ := hag c
  refine ⟨h0.trans ?_, hk⟩
  rw [e0, e1]
  exact Attn.ext2 fun i n => (QUpDx.ref_apply _ _ i n).trans (QUpDx.G2_eq m c i n).symm

theorem q_up_dw_value : Cert.algebraic_QUpDwIdeal_QUpDwRefIdeal (hQUpDwIdeal := Cert.QUpDwIdeal.Gen.facts) (hQUpDwRefIdeal := Cert.QUpDwRefIdeal.Gen.facts) := by
  intro m g m' g' _ hag
  refine ⟨fun c => Latents.G (QUpDw.y (QUpDw.a m c)) (QUpDw.b m c) (QUpDw.g m c) 0, (θ_run Cert.QUpDwIdeal.defs _ _).mono (fun r h c => ⟨(h c).1.trans (QUpDw.final m c), (h c).2⟩)
    (Cert.QUpDwIdeal.Value.run_blocks m g), ?_⟩
  refine (θ_run Cert.QUpDwRefIdeal.defs _ _).mono (fun r h c => ?_) (Cert.QUpDwRefIdeal.Value.run m' g')
  obtain ⟨h0, hk⟩ := h c
  obtain ⟨e0, e1, e2⟩ := hag c
  refine ⟨h0.trans ?_, hk⟩
  rw [e0, e1, e2]
  exact QUpDw.ref_eq _ _ _

/-- The references run, keep their arguments and declare no semaphore. -/
theorem frame_r : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
theorem frame_down : Cert.quiescent_DownDxRefIdeal (hDownDxRefIdeal := Cert.DownDxRefIdeal.Gen.facts) := fun m ρ _ =>
  (θ_run Cert.DownDxRefIdeal.defs _ _).mono (fun r h => ⟨fun c => (h c).2.2, sem_eq_zero_of_no_sems (by decide) r.2⟩)
    (Cert.DownDxRefIdeal.Value.run (F := Ideal) m ρ)
theorem frame_up : Cert.quiescent_UpDxRefIdeal (hUpDxRefIdeal := Cert.UpDxRefIdeal.Gen.facts) := fun m ρ _ =>
  (θ_run Cert.UpDxRefIdeal.defs _ _).mono (fun r h => ⟨fun c => (h c).2, sem_eq_zero_of_no_sems (by decide) r.2⟩)
    (Cert.UpDxRefIdeal.Value.run (F := Ideal) m ρ)
theorem frame_gate : Cert.quiescent_GateDwRefIdeal (hGateDwRefIdeal := Cert.GateDwRefIdeal.Gen.facts) := fun m ρ _ =>
  (θ_run Cert.GateDwRefIdeal.defs _ _).mono (fun r h => ⟨fun c => (h c).2, sem_eq_zero_of_no_sems (by decide) r.2⟩)
    (Cert.GateDwRefIdeal.Value.run (F := Ideal) m ρ)
theorem frame_up_dw : Cert.quiescent_UpDwRefIdeal (hUpDwRefIdeal := Cert.UpDwRefIdeal.Gen.facts) := fun m ρ _ =>
  (θ_run Cert.UpDwRefIdeal.defs _ _).mono (fun r h => ⟨fun c => (h c).2, sem_eq_zero_of_no_sems (by decide) r.2⟩)
    (Cert.UpDwRefIdeal.Value.run (F := Ideal) m ρ)
theorem frame_down_dw : Cert.quiescent_DownDwRefIdeal (hDownDwRefIdeal := Cert.DownDwRefIdeal.Gen.facts) := fun m ρ _ =>
  (θ_run Cert.DownDwRefIdeal.defs _ _).mono (fun r h => ⟨fun c => (h c).2, sem_eq_zero_of_no_sems (by decide) r.2⟩)
    (Cert.DownDwRefIdeal.Value.run (F := Ideal) m ρ)
theorem frame_ffn_gate : Cert.quiescent_FfnGateRefIdeal (hFfnGateRefIdeal := Cert.FfnGateRefIdeal.Gen.facts) := fun m ρ _ =>
  (θ_run Cert.FfnGateRefIdeal.defs _ _).mono (fun r h => ⟨fun c => (h c).2, sem_eq_zero_of_no_sems (by decide) r.2⟩)
    (Cert.FfnGateRefIdeal.Value.run (F := Ideal) m ρ)
theorem frame_ffn_up : Cert.quiescent_FfnUpRefIdeal (hFfnUpRefIdeal := Cert.FfnUpRefIdeal.Gen.facts) := fun m ρ _ =>
  (θ_run Cert.FfnUpRefIdeal.defs _ _).mono (fun r h => ⟨fun c => (h c).2.2, sem_eq_zero_of_no_sems (by decide) r.2⟩)
    (Cert.FfnUpRefIdeal.Value.run (F := Ideal) m ρ)
theorem frame_ffn_down : Cert.quiescent_FfnDownRefIdeal (hFfnDownRefIdeal := Cert.FfnDownRefIdeal.Gen.facts) := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

theorem frame_merge_bwd : Cert.quiescent_MergeBwdRefIdeal (hMergeBwdRefIdeal := Cert.MergeBwdRefIdeal.Gen.facts) := fun m ρ _ =>
  (θ_run Cert.MergeBwdRefIdeal.defs _ _).mono (fun r h => ⟨fun c => (h c).2.2.2.2, sem_eq_zero_of_no_sems (by decide) r.2⟩)
    (Cert.MergeBwdRefIdeal.Value.run (F := Ideal) m ρ)

theorem frame_mix_in_dx : Cert.quiescent_MixInDxRefIdeal (hMixInDxRefIdeal := Cert.MixInDxRefIdeal.Gen.facts) := fun m ρ _ =>
  (θ_run Cert.MixInDxRefIdeal.defs _ _).mono (fun r h => ⟨fun c => (h c).2, sem_eq_zero_of_no_sems (by decide) r.2⟩)
    (Cert.MixInDxRefIdeal.Value.run (F := Ideal) m ρ)

theorem frame_mix_in : Cert.quiescent_MixInRefIdeal (hMixInRefIdeal := Cert.MixInRefIdeal.Gen.facts) := fun m ρ _ =>
  (θ_run Cert.MixInRefIdeal.defs _ _).mono (fun r h => ⟨fun c => (h c).2, sem_eq_zero_of_no_sems (by decide) r.2⟩)
    (Cert.MixInRefIdeal.Value.run (F := Ideal) m ρ)

theorem frame_mix_dw0 : Cert.quiescent_MixDw0RefIdeal (hMixDw0RefIdeal := Cert.MixDw0RefIdeal.Gen.facts) := fun m ρ _ =>
  (θ_run Cert.MixDw0RefIdeal.defs _ _).mono (fun r h => ⟨fun c => (h c).2, sem_eq_zero_of_no_sems (by decide) r.2⟩)
    (Cert.MixDw0RefIdeal.Value.run (F := Ideal) m ρ)

theorem frame_mix_dw1 : Cert.quiescent_MixDw1RefIdeal (hMixDw1RefIdeal := Cert.MixDw1RefIdeal.Gen.facts) := fun m ρ _ =>
  (θ_run Cert.MixDw1RefIdeal.defs _ _).mono (fun r h => ⟨fun c => (h c).2, sem_eq_zero_of_no_sems (by decide) r.2⟩)
    (Cert.MixDw1RefIdeal.Value.run (F := Ideal) m ρ)

theorem frame_mix_dw2 : Cert.quiescent_MixDw2RefIdeal (hMixDw2RefIdeal := Cert.MixDw2RefIdeal.Gen.facts) := fun m ρ _ =>
  (θ_run Cert.MixDw2RefIdeal.defs _ _).mono (fun r h => ⟨fun c => (h c).2, sem_eq_zero_of_no_sems (by decide) r.2⟩)
    (Cert.MixDw2RefIdeal.Value.run (F := Ideal) m ρ)

theorem frame_mix_dw3 : Cert.quiescent_MixDw3RefIdeal (hMixDw3RefIdeal := Cert.MixDw3RefIdeal.Gen.facts) := fun m ρ _ =>
  (θ_run Cert.MixDw3RefIdeal.defs _ _).mono (fun r h => ⟨fun c => (h c).2, sem_eq_zero_of_no_sems (by decide) r.2⟩)
    (Cert.MixDw3RefIdeal.Value.run (F := Ideal) m ρ)

theorem frame_mix_dw4 : Cert.quiescent_MixDw4RefIdeal (hMixDw4RefIdeal := Cert.MixDw4RefIdeal.Gen.facts) := fun m ρ _ =>
  (θ_run Cert.MixDw4RefIdeal.defs _ _).mono (fun r h => ⟨fun c => (h c).2, sem_eq_zero_of_no_sems (by decide) r.2⟩)
    (Cert.MixDw4RefIdeal.Value.run (F := Ideal) m ρ)

theorem frame_mix_dw5 : Cert.quiescent_MixDw5RefIdeal (hMixDw5RefIdeal := Cert.MixDw5RefIdeal.Gen.facts) := fun m ρ _ =>
  (θ_run Cert.MixDw5RefIdeal.defs _ _).mono (fun r h => ⟨fun c => (h c).2, sem_eq_zero_of_no_sems (by decide) r.2⟩)
    (Cert.MixDw5RefIdeal.Value.run (F := Ideal) m ρ)

theorem frame_mix_dw6 : Cert.quiescent_MixDw6RefIdeal (hMixDw6RefIdeal := Cert.MixDw6RefIdeal.Gen.facts) := fun m ρ _ =>
  (θ_run Cert.MixDw6RefIdeal.defs _ _).mono (fun r h => ⟨fun c => (h c).2, sem_eq_zero_of_no_sems (by decide) r.2⟩)
    (Cert.MixDw6RefIdeal.Value.run (F := Ideal) m ρ)

theorem frame_mla_out_dw : Cert.quiescent_MlaOutDwRefIdeal (hMlaOutDwRefIdeal := Cert.MlaOutDwRefIdeal.Gen.facts) := fun m ρ _ =>
  (θ_run Cert.MlaOutDwRefIdeal.defs _ _).mono (fun r h => ⟨fun c => (h c).2, sem_eq_zero_of_no_sems (by decide) r.2⟩)
    (Cert.MlaOutDwRefIdeal.Value.run (F := Ideal) m ρ)

theorem frame_hgrn_out_dw : Cert.quiescent_HgrnOutDwRefIdeal (hHgrnOutDwRefIdeal := Cert.HgrnOutDwRefIdeal.Gen.facts) := fun m ρ _ =>
  (θ_run Cert.HgrnOutDwRefIdeal.defs _ _).mono (fun r h => ⟨fun c => (h c).2, sem_eq_zero_of_no_sems (by decide) r.2⟩)
    (Cert.HgrnOutDwRefIdeal.Value.run (F := Ideal) m ρ)

theorem frame_mix_out_dw : Cert.quiescent_MixOutDwRefIdeal (hMixOutDwRefIdeal := Cert.MixOutDwRefIdeal.Gen.facts) := fun m ρ _ =>
  (θ_run Cert.MixOutDwRefIdeal.defs _ _).mono (fun r h => ⟨fun c => (h c).2, sem_eq_zero_of_no_sems (by decide) r.2⟩)
    (Cert.MixOutDwRefIdeal.Value.run (F := Ideal) m ρ)

theorem frame_mla_out_dx : Cert.quiescent_MlaOutDxRefIdeal (hMlaOutDxRefIdeal := Cert.MlaOutDxRefIdeal.Gen.facts) := fun m ρ _ =>
  (θ_run Cert.MlaOutDxRefIdeal.defs _ _).mono (fun r h => ⟨fun c => (h c).2, sem_eq_zero_of_no_sems (by decide) r.2⟩)
    (Cert.MlaOutDxRefIdeal.Value.run (F := Ideal) m ρ)

theorem frame_hgrn_out_dx : Cert.quiescent_HgrnOutDxRefIdeal (hHgrnOutDxRefIdeal := Cert.HgrnOutDxRefIdeal.Gen.facts) := fun m ρ _ =>
  (θ_run Cert.HgrnOutDxRefIdeal.defs _ _).mono (fun r h => ⟨fun c => (h c).2, sem_eq_zero_of_no_sems (by decide) r.2⟩)
    (Cert.HgrnOutDxRefIdeal.Value.run (F := Ideal) m ρ)

theorem frame_mix_out_dx : Cert.quiescent_MixOutDxRefIdeal (hMixOutDxRefIdeal := Cert.MixOutDxRefIdeal.Gen.facts) := fun m ρ _ =>
  (θ_run Cert.MixOutDxRefIdeal.defs _ _).mono (fun r h => ⟨fun c => (h c).2, sem_eq_zero_of_no_sems (by decide) r.2⟩)
    (Cert.MixOutDxRefIdeal.Value.run (F := Ideal) m ρ)

theorem frame_mla_out : Cert.quiescent_MlaOutRefIdeal (hMlaOutRefIdeal := Cert.MlaOutRefIdeal.Gen.facts) := fun m ρ _ =>
  (θ_run Cert.MlaOutRefIdeal.defs _ _).mono (fun r h => ⟨fun c => (h c).2, sem_eq_zero_of_no_sems (by decide) r.2⟩)
    (Cert.MlaOutRefIdeal.Value.run (F := Ideal) m ρ)

theorem frame_hgrn_out : Cert.quiescent_HgrnOutRefIdeal (hHgrnOutRefIdeal := Cert.HgrnOutRefIdeal.Gen.facts) := fun m ρ _ =>
  (θ_run Cert.HgrnOutRefIdeal.defs _ _).mono (fun r h => ⟨fun c => (h c).2, sem_eq_zero_of_no_sems (by decide) r.2⟩)
    (Cert.HgrnOutRefIdeal.Value.run (F := Ideal) m ρ)

theorem frame_mix_out : Cert.quiescent_MixOutRefIdeal (hMixOutRefIdeal := Cert.MixOutRefIdeal.Gen.facts) := fun m ρ _ =>
  (θ_run Cert.MixOutRefIdeal.defs _ _).mono (fun r h => ⟨fun c => (h c).2, sem_eq_zero_of_no_sems (by decide) r.2⟩)
    (Cert.MixOutRefIdeal.Value.run (F := Ideal) m ρ)

theorem frame_kv_up : Cert.quiescent_KvUpRefIdeal (hKvUpRefIdeal := Cert.KvUpRefIdeal.Gen.facts) := fun m ρ _ =>
  (θ_run Cert.KvUpRefIdeal.defs _ _).mono (fun r h => ⟨fun c => (h c).2, sem_eq_zero_of_no_sems (by decide) r.2⟩)
    (Cert.KvUpRefIdeal.Value.run (F := Ideal) m ρ)

theorem frame_kv_up_dx : Cert.quiescent_KvUpDxRefIdeal (hKvUpDxRefIdeal := Cert.KvUpDxRefIdeal.Gen.facts) := fun m ρ _ =>
  (θ_run Cert.KvUpDxRefIdeal.defs _ _).mono (fun r h => ⟨fun c => (h c).2, sem_eq_zero_of_no_sems (by decide) r.2⟩)
    (Cert.KvUpDxRefIdeal.Value.run (F := Ideal) m ρ)

theorem frame_kv_up_dw : Cert.quiescent_KvUpDwRefIdeal (hKvUpDwRefIdeal := Cert.KvUpDwRefIdeal.Gen.facts) := fun m ρ _ =>
  (θ_run Cert.KvUpDwRefIdeal.defs _ _).mono (fun r h => ⟨fun c => (h c).2, sem_eq_zero_of_no_sems (by decide) r.2⟩)
    (Cert.KvUpDwRefIdeal.Value.run (F := Ideal) m ρ)

theorem frame_q_up : Cert.quiescent_QUpRefIdeal (hQUpRefIdeal := Cert.QUpRefIdeal.Gen.facts) := fun m ρ _ =>
  (θ_run Cert.QUpRefIdeal.defs _ _).mono (fun r h => ⟨fun c => (h c).2, sem_eq_zero_of_no_sems (by decide) r.2⟩)
    (Cert.QUpRefIdeal.Value.run (F := Ideal) m ρ)

theorem frame_q_up_dx : Cert.quiescent_QUpDxRefIdeal (hQUpDxRefIdeal := Cert.QUpDxRefIdeal.Gen.facts) := fun m ρ _ =>
  (θ_run Cert.QUpDxRefIdeal.defs _ _).mono (fun r h => ⟨fun c => (h c).2, sem_eq_zero_of_no_sems (by decide) r.2⟩)
    (Cert.QUpDxRefIdeal.Value.run (F := Ideal) m ρ)

theorem frame_q_up_dw : Cert.quiescent_QUpDwRefIdeal (hQUpDwRefIdeal := Cert.QUpDwRefIdeal.Gen.facts) := fun m ρ _ =>
  (θ_run Cert.QUpDwRefIdeal.defs _ _).mono (fun r h => ⟨fun c => (h c).2, sem_eq_zero_of_no_sems (by decide) r.2⟩)
    (Cert.QUpDwRefIdeal.Value.run (F := Ideal) m ρ)

theorem claim : Cert.Claim :=
  ⟨Cert.Kernel.Gen.facts, Cert.KernelIdeal.Gen.facts, Cert.ReferenceIdeal.Gen.facts, Cert.DownDx.Gen.facts, Cert.DownDxIdeal.Gen.facts, Cert.DownDxRefIdeal.Gen.facts,
    Cert.UpDx.Gen.facts, Cert.UpDxIdeal.Gen.facts, Cert.UpDxRefIdeal.Gen.facts, Cert.GateDw.Gen.facts, Cert.GateDwIdeal.Gen.facts, Cert.GateDwRefIdeal.Gen.facts,
    Cert.UpDw.Gen.facts, Cert.UpDwIdeal.Gen.facts, Cert.UpDwRefIdeal.Gen.facts,
    Cert.DownDw.Gen.facts, Cert.DownDwIdeal.Gen.facts, Cert.DownDwRefIdeal.Gen.facts,
    Cert.FfnGate.Gen.facts, Cert.FfnGateIdeal.Gen.facts, Cert.FfnGateRefIdeal.Gen.facts,
    Cert.FfnUp.Gen.facts, Cert.FfnUpIdeal.Gen.facts, Cert.FfnUpRefIdeal.Gen.facts,
    Cert.FfnDown.Gen.facts, Cert.FfnDownIdeal.Gen.facts, Cert.FfnDownRefIdeal.Gen.facts,
    Cert.MergeBwd.Gen.facts, Cert.MergeBwdIdeal.Gen.facts, Cert.MergeBwdRefIdeal.Gen.facts,
    Cert.MixInDx.Gen.facts, Cert.MixInDxIdeal.Gen.facts, Cert.MixInDxRefIdeal.Gen.facts,
    Cert.MixIn.Gen.facts, Cert.MixInIdeal.Gen.facts, Cert.MixInRefIdeal.Gen.facts,
    Cert.MixDw0.Gen.facts, Cert.MixDw0Ideal.Gen.facts, Cert.MixDw0RefIdeal.Gen.facts,
    Cert.MixDw1.Gen.facts, Cert.MixDw1Ideal.Gen.facts, Cert.MixDw1RefIdeal.Gen.facts,
    Cert.MixDw2.Gen.facts, Cert.MixDw2Ideal.Gen.facts, Cert.MixDw2RefIdeal.Gen.facts,
    Cert.MixDw3.Gen.facts, Cert.MixDw3Ideal.Gen.facts, Cert.MixDw3RefIdeal.Gen.facts,
    Cert.MixDw4.Gen.facts, Cert.MixDw4Ideal.Gen.facts, Cert.MixDw4RefIdeal.Gen.facts,
    Cert.MixDw5.Gen.facts, Cert.MixDw5Ideal.Gen.facts, Cert.MixDw5RefIdeal.Gen.facts,
    Cert.MixDw6.Gen.facts, Cert.MixDw6Ideal.Gen.facts, Cert.MixDw6RefIdeal.Gen.facts,
    Cert.MlaOutDw.Gen.facts, Cert.MlaOutDwIdeal.Gen.facts, Cert.MlaOutDwRefIdeal.Gen.facts,
    Cert.HgrnOutDw.Gen.facts, Cert.HgrnOutDwIdeal.Gen.facts, Cert.HgrnOutDwRefIdeal.Gen.facts,
    Cert.MixOutDw.Gen.facts, Cert.MixOutDwIdeal.Gen.facts, Cert.MixOutDwRefIdeal.Gen.facts,
    Cert.MlaOutDx.Gen.facts, Cert.MlaOutDxIdeal.Gen.facts, Cert.MlaOutDxRefIdeal.Gen.facts,
    Cert.HgrnOutDx.Gen.facts, Cert.HgrnOutDxIdeal.Gen.facts, Cert.HgrnOutDxRefIdeal.Gen.facts,
    Cert.MixOutDx.Gen.facts, Cert.MixOutDxIdeal.Gen.facts, Cert.MixOutDxRefIdeal.Gen.facts,
    Cert.MlaOut.Gen.facts, Cert.MlaOutIdeal.Gen.facts, Cert.MlaOutRefIdeal.Gen.facts,
    Cert.HgrnOut.Gen.facts, Cert.HgrnOutIdeal.Gen.facts, Cert.HgrnOutRefIdeal.Gen.facts,
    Cert.MixOut.Gen.facts, Cert.MixOutIdeal.Gen.facts, Cert.MixOutRefIdeal.Gen.facts,
    Cert.KvUp.Gen.facts, Cert.KvUpIdeal.Gen.facts, Cert.KvUpRefIdeal.Gen.facts,
    Cert.KvUpDx.Gen.facts, Cert.KvUpDxIdeal.Gen.facts, Cert.KvUpDxRefIdeal.Gen.facts,
    Cert.KvUpDw.Gen.facts, Cert.KvUpDwIdeal.Gen.facts, Cert.KvUpDwRefIdeal.Gen.facts,
    Cert.QUp.Gen.facts, Cert.QUpIdeal.Gen.facts, Cert.QUpRefIdeal.Gen.facts,
    Cert.QUpDx.Gen.facts, Cert.QUpDxIdeal.Gen.facts, Cert.QUpDxRefIdeal.Gen.facts,
    Cert.QUpDw.Gen.facts, Cert.QUpDwIdeal.Gen.facts, Cert.QUpDwRefIdeal.Gen.facts,
    Attn.preFacts, DownDx.preFacts,
    fun m ρ _ => Cert.Kernel.Gen.frame m ρ, fun m ρ _ => Cert.KernelIdeal.Gen.frame m ρ, fun m ρ _ => Cert.KernelIdeal.Gen.frame m ρ,
    frame_r, fun m ρ _ => frame_r m ρ trivial,
    fun m ρ _ => Cert.DownDx.Gen.frame m ρ, fun m ρ _ => Cert.DownDxIdeal.Gen.frame m ρ, fun m ρ _ => Cert.DownDxIdeal.Gen.frame m ρ,
    frame_down, fun m ρ _ => frame_down m ρ trivial,
    fun m ρ _ => Cert.UpDx.Gen.frame m ρ, fun m ρ _ => Cert.UpDxIdeal.Gen.frame m ρ, frame_up,
    fun m ρ _ => Cert.GateDw.Gen.frame m ρ, fun m ρ _ => Cert.GateDwIdeal.Gen.frame m ρ, frame_gate,
    fun m ρ _ => Cert.UpDw.Gen.frame m ρ, fun m ρ _ => Cert.UpDwIdeal.Gen.frame m ρ, frame_up_dw,
    fun m ρ _ => Cert.DownDw.Gen.frame m ρ, fun m ρ _ => Cert.DownDwIdeal.Gen.frame m ρ, frame_down_dw,
    fun m ρ _ => Cert.FfnGate.Gen.frame m ρ, fun m ρ _ => Cert.FfnGateIdeal.Gen.frame m ρ, frame_ffn_gate,
    fun m ρ _ => Cert.FfnUp.Gen.frame m ρ, fun m ρ _ => Cert.FfnUpIdeal.Gen.frame m ρ, frame_ffn_up,
    fun m ρ _ => Cert.FfnDown.Gen.frame m ρ, fun m ρ _ => Cert.FfnDownIdeal.Gen.frame m ρ, frame_ffn_down,
    fun m ρ _ => Cert.MergeBwd.Gen.frame m ρ, fun m ρ _ => Cert.MergeBwdIdeal.Gen.frame m ρ, frame_merge_bwd,
    fun m ρ _ => Cert.MixInDx.Gen.frame m ρ, fun m ρ _ => Cert.MixInDxIdeal.Gen.frame m ρ, frame_mix_in_dx,
    fun m ρ _ => Cert.MixIn.Gen.frame m ρ, fun m ρ _ => Cert.MixInIdeal.Gen.frame m ρ, frame_mix_in,
    fun m ρ _ => Cert.MixDw0.Gen.frame m ρ, fun m ρ _ => Cert.MixDw0Ideal.Gen.frame m ρ, frame_mix_dw0,
    fun m ρ _ => Cert.MixDw1.Gen.frame m ρ, fun m ρ _ => Cert.MixDw1Ideal.Gen.frame m ρ, frame_mix_dw1,
    fun m ρ _ => Cert.MixDw2.Gen.frame m ρ, fun m ρ _ => Cert.MixDw2Ideal.Gen.frame m ρ, frame_mix_dw2,
    fun m ρ _ => Cert.MixDw3.Gen.frame m ρ, fun m ρ _ => Cert.MixDw3Ideal.Gen.frame m ρ, frame_mix_dw3,
    fun m ρ _ => Cert.MixDw4.Gen.frame m ρ, fun m ρ _ => Cert.MixDw4Ideal.Gen.frame m ρ, frame_mix_dw4,
    fun m ρ _ => Cert.MixDw5.Gen.frame m ρ, fun m ρ _ => Cert.MixDw5Ideal.Gen.frame m ρ, frame_mix_dw5,
    fun m ρ _ => Cert.MixDw6.Gen.frame m ρ, fun m ρ _ => Cert.MixDw6Ideal.Gen.frame m ρ, frame_mix_dw6,
    fun m ρ _ => Cert.MlaOutDw.Gen.frame m ρ, fun m ρ _ => Cert.MlaOutDwIdeal.Gen.frame m ρ, frame_mla_out_dw,
    fun m ρ _ => Cert.HgrnOutDw.Gen.frame m ρ, fun m ρ _ => Cert.HgrnOutDwIdeal.Gen.frame m ρ, frame_hgrn_out_dw,
    fun m ρ _ => Cert.MixOutDw.Gen.frame m ρ, fun m ρ _ => Cert.MixOutDwIdeal.Gen.frame m ρ, frame_mix_out_dw,
    fun m ρ _ => Cert.MlaOutDx.Gen.frame m ρ, fun m ρ _ => Cert.MlaOutDxIdeal.Gen.frame m ρ, frame_mla_out_dx,
    fun m ρ _ => Cert.HgrnOutDx.Gen.frame m ρ, fun m ρ _ => Cert.HgrnOutDxIdeal.Gen.frame m ρ, frame_hgrn_out_dx,
    fun m ρ _ => Cert.MixOutDx.Gen.frame m ρ, fun m ρ _ => Cert.MixOutDxIdeal.Gen.frame m ρ, frame_mix_out_dx,
    fun m ρ _ => Cert.MlaOut.Gen.frame m ρ, fun m ρ _ => Cert.MlaOutIdeal.Gen.frame m ρ, frame_mla_out,
    fun m ρ _ => Cert.HgrnOut.Gen.frame m ρ, fun m ρ _ => Cert.HgrnOutIdeal.Gen.frame m ρ, frame_hgrn_out,
    fun m ρ _ => Cert.MixOut.Gen.frame m ρ, fun m ρ _ => Cert.MixOutIdeal.Gen.frame m ρ, frame_mix_out,
    fun m ρ _ => Cert.KvUp.Gen.frame m ρ, fun m ρ _ => Cert.KvUpIdeal.Gen.frame m ρ, frame_kv_up,
    fun m ρ _ => Cert.KvUpDx.Gen.frame m ρ, fun m ρ _ => Cert.KvUpDxIdeal.Gen.frame m ρ, frame_kv_up_dx,
    fun m ρ _ => Cert.KvUpDw.Gen.frame m ρ, fun m ρ _ => Cert.KvUpDwIdeal.Gen.frame m ρ, frame_kv_up_dw,
    fun m ρ _ => Cert.QUp.Gen.frame m ρ, fun m ρ _ => Cert.QUpIdeal.Gen.frame m ρ, frame_q_up,
    fun m ρ _ => Cert.QUpDx.Gen.frame m ρ, fun m ρ _ => Cert.QUpDxIdeal.Gen.frame m ρ, frame_q_up_dx,
    fun m ρ _ => Cert.QUpDw.Gen.frame m ρ, fun m ρ _ => Cert.QUpDwIdeal.Gen.frame m ρ, frame_q_up_dw,
    trivial, attn_value, trivial, down_value, trivial, up_value, trivial, gate_value,
    trivial, up_dw_value, trivial, down_dw_value, trivial, ffn_gate_value, trivial, ffn_up_value, trivial, ffn_down_value,
    trivial, merge_bwd_value, trivial, mix_in_dx_value, trivial, mix_in_value, trivial, mix_dw0_value,
    trivial, mix_dw1_value, trivial, mix_dw2_value, trivial, mix_dw3_value, trivial, mix_dw4_value,
    trivial, mix_dw5_value, trivial, mix_dw6_value, trivial, mla_out_dw_value, trivial, hgrn_out_dw_value,
    trivial, mix_out_dw_value, trivial, mla_out_dx_value, trivial, hgrn_out_dx_value, trivial, mix_out_dx_value,
    trivial, mla_out_value, trivial, hgrn_out_value, trivial, mix_out_value,
    trivial, kv_up_value, trivial, kv_up_dx_value, trivial, kv_up_dw_value,
    trivial, q_up_value, trivial, q_up_dx_value, trivial, q_up_dw_value⟩

end Cert.Proof

end
